-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_packed [hPre_packed : Cert.Pre_packed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.1 = (fun _ => 1#1)
    ∧ (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2.1 = (fun _ => 1#1)
    ∧ (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_packed [hPre_packed : Cert.Pre_packed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.1 = (fun _ => 1#1)
    ∧ (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2.1 = (fun _ => 1#1)
    ∧ (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_packed [hKernel2Ideal : Cert.Kernel2Ideal.Facts] [hPre_packed : Cert.Pre_packed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_packed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_packed [hReference2Ideal : Cert.Reference2Ideal.Facts] [hPre_packed : Cert.Pre_packed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_packed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_packed [hKernel2Ideal : Cert.Kernel2Ideal.Facts] [hReference2Ideal : Cert.Reference2Ideal.Facts] [hPre_packed : Cert.Pre_packed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_packed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_4)) (v5 : (c : Dev Cert.Kernel5Ideal.nD) → Buf (Elt Ideal) ((c.tc : Thread Cert.Kernel5Ideal.nD Cert.Kernel5Ideal.τ).loc Cert.Kernel5Ideal.main_v33_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_4) = v4 c
          ∧ r.2.mem ((c.tc : Thread Cert.Kernel5Ideal.nD Cert.Kernel5Ideal.τ).loc Cert.Kernel5Ideal.main_v33_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v120) = v0 c
          ∧ r.2.mem ((c.tc : Thread Cert.Reference5Ideal.nD Cert.Reference5Ideal.τ).loc Cert.Reference5Ideal.main_v121) = v1 c
          ∧ r.2.mem ((c.tc : Thread Cert.Reference5Ideal.nD Cert.Reference5Ideal.τ).loc Cert.Reference5Ideal.main_v122) = v2 c
          ∧ r.2.mem ((c.tc : Thread Cert.Reference5Ideal.nD Cert.Reference5Ideal.τ).loc Cert.Reference5Ideal.main_v123) = v3 c
          ∧ r.2.mem ((c.tc : Thread Cert.Reference5Ideal.nD Cert.Reference5Ideal.τ).loc Cert.Reference5Ideal.main_v47) = v4 c
          ∧ r.2.mem ((c.tc : Thread Cert.Reference5Ideal.nD Cert.Reference5Ideal.τ).loc Cert.Reference5Ideal.main_v53) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)) (v3 : (c : Dev Cert.Kernel6Ideal.nD) → Buf (Elt Ideal) ((c.tc : Thread Cert.Kernel6Ideal.nD Cert.Kernel6Ideal.τ).loc Cert.Kernel6Ideal.main_v33_3)) (v4 : (c : Dev Cert.Kernel6Ideal.nD) → Buf (Elt Ideal) ((c.tc : Thread Cert.Kernel6Ideal.nD Cert.Kernel6Ideal.τ).loc Cert.Kernel6Ideal.main_v33_4)) (v5 : (c : Dev Cert.Kernel6Ideal.nD) → Buf (Elt Ideal) ((c.tc : Thread Cert.Kernel6Ideal.nD Cert.Kernel6Ideal.τ).loc Cert.Kernel6Ideal.main_v33_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_v33_3) = v3 c
          ∧ r.2.mem ((c.tc : Thread Cert.Kernel6Ideal.nD Cert.Kernel6Ideal.τ).loc Cert.Kernel6Ideal.main_v33_4) = v4 c
          ∧ r.2.mem ((c.tc : Thread Cert.Kernel6Ideal.nD Cert.Kernel6Ideal.τ).loc Cert.Kernel6Ideal.main_v33_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v129) = v0 c
          ∧ r.2.mem ((c.tc : Thread Cert.Reference6Ideal.nD Cert.Reference6Ideal.τ).loc Cert.Reference6Ideal.main_v130) = v1 c
          ∧ r.2.mem ((c.tc : Thread Cert.Reference6Ideal.nD Cert.Reference6Ideal.τ).loc Cert.Reference6Ideal.main_v131) = v2 c
          ∧ r.2.mem ((c.tc : Thread Cert.Reference6Ideal.nD Cert.Reference6Ideal.τ).loc Cert.Reference6Ideal.main_v132) = v3 c
          ∧ r.2.mem ((c.tc : Thread Cert.Reference6Ideal.nD Cert.Reference6Ideal.τ).loc Cert.Reference6Ideal.main_v52) = v4 c
          ∧ r.2.mem ((c.tc : Thread Cert.Reference6Ideal.nD Cert.Reference6Ideal.τ).loc Cert.Reference6Ideal.main_v58) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_packed : Cert.Pre_packed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_packed (hKernel2Ideal := hKernel2Ideal) (hPre_packed := hPre_packed)
    ∧ quiescent_Reference2Ideal (hReference2Ideal := hReference2Ideal)
    ∧ quiescent_Reference2Ideal_pre_packed (hReference2Ideal := hReference2Ideal) (hPre_packed := hPre_packed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_packed (hKernel2Ideal := hKernel2Ideal) (hReference2Ideal := hReference2Ideal) (hPre_packed := hPre_packed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8x16384x256 : Shape := ⟨3, ![8, 16384, 256]⟩
abbrev S16384x1024 : Shape := ⟨2, ![16384, 1024]⟩
abbrev S128x8x64 : Shape := ⟨3, ![128, 8, 64]⟩
abbrev S_ : Shape := ⟨0, ![]⟩
abbrev S16384x256 : Shape := ⟨2, ![16384, 256]⟩

class Facts : Prop where
  bitsLt_bf16_f32 : FTy.bits .bf16 < FTy.bits .f32
  bcast_S_S8x16384x256 : S_.BroadcastsInDim S8x16384x256 (![] : Fin 0 → Fin S8x16384x256.rank)
  slices_S16384x1024_S16384x256_0_512 : S16384x1024.Slices ![0, 512] S16384x256
  bcast_S_S16384x256 : S_.BroadcastsInDim S16384x256 (![] : Fin 0 → Fin S16384x256.rank)

variable [Facts]

def fn {F : FTy → Type} [FloatOps F] (main_arg0 : FVec F S8x16384x256 .bf16) (main_arg1 : FVec F S16384x1024 .bf16) (main_arg2 : FVec F S128x8x64 .f32) : IVec S8x16384x256 1 × IVec S16384x256 1 :=
  let main_v0 : FVec F S8x16384x256 .f32 := (extf .f32 · bitsLt_bf16_f32) main_arg0
  let main_v1 : FVec F S8x16384x256 .f32 := Host.absf main_v0
  let main_cst : FVec F S_ .f32 := constant S_ .f32 0x7F800000#32
  let main_v2 : FVec F S8x16384x256 .f32 := broadcastInDim S8x16384x256 ![] bcast_S_S8x16384x256 main_cst
  let main_v3 : IVec S8x16384x256 1 := cmpf .olt main_v1 main_v2
  let main_v4 : FVec F S16384x256 .bf16 := (extractStridedSlice S16384x256 ![0, 512] · slices_S16384x1024_S16384x256_0_512) main_arg1
  let main_v5 : FVec F S16384x256 .f32 := (extf .f32 · bitsLt_bf16_f32) main_v4
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  (main_v3, main_v8)
-- ==== Pre_packed.lean ====
abbrev S8x16384x128 : Shape := ⟨3, ![8, 16384, 128]⟩
abbrev S16384x1024 : Shape := ⟨2, ![16384, 1024]⟩
abbrev S32x8x512 : Shape := ⟨3, ![32, 8, 512]⟩
abbrev S_ : Shape := ⟨0, ![]⟩
abbrev S4x16384x64 : Shape := ⟨3, ![4, 16384, 64]⟩
abbrev S16384x128 : Shape := ⟨2, ![16384, 128]⟩

class Facts : Prop where
  bitsLt_bf16_f32 : FTy.bits .bf16 < FTy.bits .f32
  bcast_S_S8x16384x128 : S_.BroadcastsInDim S8x16384x128 (![] : Fin 0 → Fin S8x16384x128.rank)
  slices_S8x16384x128_S4x16384x64_0_0_64 : S8x16384x128.Slices ![0, 0, 64] S4x16384x64
  bcast_S_S4x16384x64 : S_.BroadcastsInDim S4x16384x64 (![] : Fin 0 → Fin S4x16384x64.rank)
  slices_S8x16384x128_S4x16384x64_4_0_0 : S8x16384x128.Slices ![4, 0, 0] S4x16384x64
  slices_S16384x1024_S16384x128_0_256 : S16384x1024.Slices ![0, 256] S16384x128
  bcast_S_S16384x128 : S_.BroadcastsInDim S16384x128 (![] : Fin 0 → Fin S16384x128.rank)
  bcast_S_S32x8x512 : S_.BroadcastsInDim S32x8x512 (![] : Fin 0 → Fin S32x8x512.rank)

variable [Facts]

def fn {F : FTy → Type} [FloatOps F] (main_arg0 : FVec F S8x16384x128 .bf16) (main_arg1 : FVec F S16384x1024 .bf16) (main_arg2 : FVec F S32x8x512 .f32) : IVec S8x16384x128 1 × IVec S4x16384x64 1 × IVec S4x16384x64 1 × IVec S16384x128 1 × IVec S32x8x512 1 :=
  let main_v0 : FVec F S8x16384x128 .f32 := (extf .f32 · bitsLt_bf16_f32) main_arg0
  let main_v1 : FVec F S8x16384x128 .f32 := Host.absf main_v0
  let main_cst : FVec F S_ .f32 := constant S_ .f32 0x7F800000#32
  let main_v2 : FVec F S8x16384x128 .f32 := broadcastInDim S8x16384x128 ![] bcast_S_S8x16384x128 main_cst
  let main_v3 : IVec S8x16384x128 1 := cmpf .olt main_v1 main_v2
  let main_v4 : FVec F S4x16384x64 .f32 := (extractStridedSlice S4x16384x64 ![0, 0, 64] · slices_S8x16384x128_S4x16384x64_0_0_64) main_v0
  let main_cst_0 : FVec F S_ .f32 := constant S_ .f32 0x00000000#32
  let main_v5 : FVec F S4x16384x64 .f32 := broadcastInDim S4x16384x64 ![] bcast_S_S4x16384x64 main_cst_0
  let main_v6 : IVec S4x16384x64 1 := cmpf .oeq main_v4 main_v5
  let main_v7 : FVec F S4x16384x64 .f32 := (extractStridedSlice S4x16384x64 ![4, 0, 0] · slices_S8x16384x128_S4x16384x64_4_0_0) main_v0
  let main_cst_1 : FVec F S_ .f32 := constant S_ .f32 0x00000000#32
  let main_v8 : FVec F S4x16384x64 .f32 := broadcastInDim S4x16384x64 ![] bcast_S_S4x16384x64 main_cst_1
  let main_v9 : IVec S4x16384x64 1 := cmpf .oeq main_v7 main_v8
  let main_v10 : FVec F S16384x128 .bf16 := (extractStridedSlice S16384x128 ![0, 256] · slices_S16384x1024_S16384x128_0_256) main_arg1
  let main_v11 : FVec F S16384x128 .f32 := (extf .f32 · bitsLt_bf16_f32) main_v10
  let main_v12 : FVec F S16384x128 .f32 := Host.absf main_v11
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  let main_v15 : FVec F S32x8x512 .f32 := Host.absf main_arg2
  let main_cst_3 : FVec F S_ .f32 := constant S_ .f32 0x7F800000#32
  let main_v16 : FVec F S32x8x512 .f32 := broadcastInDim S32x8x512 ![] bcast_S_S32x8x512 main_cst_3
  let main_v17 : IVec S32x8x512 1 := cmpf .olt main_v15 main_v16
  (main_v3, main_v6, main_v9, main_v14, main_v17)
-- ==== Kernel.lean ====
abbrev S8x16384x256 : Shape := ⟨3, ![8, 16384, 256]⟩
abbrev S16384x1024 : Shape := ⟨2, ![16384, 1024]⟩
abbrev S128x8x64 : Shape := ⟨3, ![128, 8, 64]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S16384x512 : Shape := ⟨2, ![16384, 512]⟩
abbrev S8x128x256 : Shape := ⟨3, ![8, 128, 256]⟩
abbrev S16384x256 : Shape := ⟨2, ![16384, 256]⟩
abbrev S128x512 : Shape := ⟨2, ![128, 512]⟩
abbrev S1024x128 : Shape := ⟨2, ![1024, 128]⟩
abbrev S1024x256 : Shape := ⟨2, ![1024, 256]⟩
abbrev S512x256 : Shape := ⟨2, ![512, 256]⟩
abbrev S512x128 : Shape := ⟨2, ![512, 128]⟩
abbrev S1024x512 : Shape := ⟨2, ![1024, 512]⟩
abbrev S128x128 : Shape := ⟨2, ![128, 128]⟩
abbrev S128 : Shape := ⟨1, ![128]⟩
abbrev S128x1 : Shape := ⟨2, ![128, 1]⟩
abbrev S1x128x512 : Shape := ⟨3, ![1, 128, 512]⟩

abbrev nBuf : Space → Nat
  | .hbm => 19
  | .vmem => 9
  | .smem => 0
  | _ => 0

abbrev bufTy : (tb : Table) → Fin (tcTables nBuf tb) → BufTy
  | .hbm, ⟨0, _⟩ => ⟨S8x16384x256, .bf16⟩
  | .hbm, ⟨1, _⟩ => ⟨S16384x1024, .bf16⟩
  | .hbm, ⟨2, _⟩ => ⟨S128x8x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x128x64, .f32⟩
  | .hbm, ⟨11, _⟩ => ⟨S8x128x1x64, .f32⟩
  | .hbm, ⟨12, _⟩ => ⟨S8x1x8x1, .f32⟩
  | .hbm, ⟨13, _⟩ => ⟨S8x128x8x64, .f32⟩
  | .hbm, ⟨14, _⟩ => ⟨S8x128x8x64, .f32⟩
  | .hbm, ⟨15, _⟩ => ⟨S8x128x8x64, .f32⟩
  | .hbm, ⟨16, _⟩ => ⟨S8x128x512, .f32⟩
  | .hbm, ⟨17, _⟩ => ⟨S8x128x512, .bf16⟩
  | .hbm, ⟨18, _⟩ => ⟨S16384x512, .f32⟩
  | .local _ .vmem, ⟨0, _⟩ => ⟨S8x128x256, .bf16⟩
  | .local _ .vmem, ⟨1, _⟩ => ⟨S8x128x256, .bf16⟩
  | .local _ .vmem, ⟨2, _⟩ => ⟨S16384x256, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

@[reducible] def k0_t1_loop (i : grid0.Coords) : Scf.Loop 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg8 : BitVec 32 := Scf.iv c0_i32_15 c1_i32_17 k0_t1
  let c512_i32_167 : BitVec 32 := 512#32
  let v331 : BitVec 32 := Scalar.muli arg8 c512_i32_167
  v331
def k0_off1 (i : grid0.Coords) (k0_t1 : Fin (k0_t1_loop i).trips) : Fin 2 → Nat :=
  let c0_i32_15 : BitVec 32 := 0#32
  let c1_i32_17 : BitVec 32 := 1#32
  let arg8 : BitVec 32 := Scf.iv c0_i32_15 c1_i32_17 k0_t1
  let c512_i32_167 : BitVec 32 := 512#32
  let v331 : BitVec 32 := Scalar.muli arg8 c512_i32_167
  let v332 : BitVec 32 := v331
  let v333 : Index := Scalar.indexCast v332
  let c0_168 : Index := 0#32
  ![v333.toNat, 0]
@[reducible] def k0_t2_loop (i : grid0.Coords) : Scf.Loop 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c512_i32_167 : BitVec 32 := 512#32
  let v331 : BitVec 32 := Scalar.muli arg8 c512_i32_167
  v331
def k0_off2 (i : grid0.Coords) (k0_t2 : Fin (k0_t2_loop i).trips) : Fin 2 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c512_i32_167 : BitVec 32 := 512#32
  let v331 : BitVec 32 := Scalar.muli arg8 c512_i32_167
  let v332 : BitVec 32 := v331
  let v333 : Index := Scalar.indexCast v332
  let c0_168 : Index := 0#32
  ![v333.toNat, 0]
def k0_mult3 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_19 : BitVec 32 := 512#32
  let v37 : BitVec 32 := Scalar.muli v19 c512_i32_19
  v37
def k0_off3 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_19 : BitVec 32 := 512#32
  let v37 : BitVec 32 := Scalar.muli v19 c512_i32_19
  let v38 : BitVec 32 := v37
  let v39 : Index := Scalar.indexCast v38
  let c0_20 : Index := 0#32
  ![v39.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x16384x256 : Shape := ⟨3, ![8, 16384, 256]⟩
abbrev S16384x1024 : Shape := ⟨2, ![16384, 1024]⟩
abbrev S128x8x64 : Shape := ⟨3, ![128, 8, 64]⟩
abbrev S8x16384x128 : Shape := ⟨3, ![8, 16384, 128]⟩
abbrev S16384x128 : Shape := ⟨2, ![16384, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S128x8x16384 : Shape := ⟨3, ![128, 8, 16384]⟩
abbrev S16384x8x128 : Shape := ⟨3, ![16384, 8, 128]⟩
abbrev S8x64x16384 : Shape := ⟨3, ![8, 64, 16384]⟩
abbrev S16384x8x64 : Shape := ⟨3, ![16384, 8, 64]⟩
abbrev S16384x512 : Shape := ⟨2, ![16384, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x16384x256, .bf16⟩
  | .hbm, ⟨1, _⟩ => ⟨S16384x1024, .bf16⟩
  | .hbm, ⟨2, _⟩ => ⟨S128x8x64, .f32⟩
  | .hbm, ⟨3, _⟩ => ⟨S8x16384x256, .f32⟩
  | .hbm, ⟨4, _⟩ => ⟨S16384x1024, .f32⟩
  | .hbm, ⟨5, _⟩ => ⟨S8x16384x128, .f32⟩
  | .hbm, ⟨6, _⟩ => ⟨S8x16384x128, .f32⟩
  | .hbm, ⟨7, _⟩ => ⟨S16384x128, .f32⟩
  | .hbm, ⟨8, _⟩ => ⟨S16384x128, .f32⟩
  | .hbm, ⟨9, _⟩ => ⟨S8x16384x16384, .f32⟩
  | .hbm, ⟨10, _⟩ => ⟨S8x16384x16384, .f32⟩
  | .hbm, ⟨11, _⟩ => ⟨S8x16384x16384, .f32⟩
  | .hbm, ⟨12, _⟩ => ⟨S_, .f32⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S16384, .i32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S128x8x16384, .f32⟩
  | .hbm, ⟨42, _⟩ => ⟨S16384x8x128, .f32⟩
  | .hbm, ⟨43, _⟩ => ⟨S8x64x16384, .f32⟩
  | .hbm, ⟨44, _⟩ => ⟨S16384x8x64, .f32⟩
  | .hbm, ⟨45, _⟩ => ⟨S16384x512, .f32⟩
  | _, _ => ⟨S8x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S8x16384x128 : Shape := ⟨3, ![8, 16384, 128]⟩
abbrev S16384x1024 : Shape := ⟨2, ![16384, 1024]⟩
abbrev S32x8x512 : Shape := ⟨3, ![32, 8, 512]⟩
abbrev S16384x512 : Shape := ⟨2, ![16384, 512]⟩
abbrev S8x128x128 : Shape := ⟨3, ![8, 128, 128]⟩
abbrev S16384x256 : Shape := ⟨2, ![16384, 256]⟩
abbrev S128x512 : Shape := ⟨2, ![128, 512]⟩
abbrev S1024x128 : Shape := ⟨2, ![1024, 128]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x16384x128, .bf16⟩
  | .hbm, ⟨1, _⟩ => ⟨S16384x1024, .bf16⟩
  | .hbm, ⟨2, _⟩ => ⟨S32x8x512, .f32⟩
  | .hbm, ⟨3, _⟩ => ⟨S16384x512, .f32⟩
  | .local _ .vmem, ⟨0, _⟩ => ⟨S8x128x128, .bf16⟩
  | .local _ .vmem, ⟨1, _⟩ => ⟨S8x128x128, .bf16⟩
  | .local _ .vmem, ⟨2, _⟩ => ⟨S16384x256, .bf16⟩
  | .local _ .vmem, ⟨3, _⟩ => ⟨S32x8x512, .f32⟩
  | .local _ .vmem, ⟨4, _⟩ => ⟨S128x512, .f32⟩
  | .local _ .vmem, ⟨5, _⟩ => ⟨S128x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

@[reducible] def k0_t1_loop (i : grid0.Coords) : Scf.Loop 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg8 : BitVec 32 := Scf.iv c0_i32_15 c1_i32_17 k0_t1
  let c512_i32_161 : BitVec 32 := 512#32
  let v349 : BitVec 32 := Scalar.muli arg8 c512_i32_161
  v349
def k0_off1 (i : grid0.Coords) (k0_t1 : Fin (k0_t1_loop i).trips) : Fin 2 → Nat :=
  let c0_i32_15 : BitVec 32 := 0#32
  let c1_i32_17 : BitVec 32 := 1#32
  let arg8 : BitVec 32 := Scf.iv c0_i32_15 c1_i32_17 k0_t1
  let c512_i32_161 : BitVec 32 := 512#32
  let v349 : BitVec 32 := Scalar.muli arg8 c512_i32_161
  let v350 : BitVec 32 := v349
  let v351 : Index := Scalar.indexCast v350
  let c0_162 : Index := 0#32
  ![v351.toNat, 0]
def k0_off2 (i : grid0.Coords) (k0_t1 : Fin (k0_t1_loop i).trips) : Fin 2 → Nat :=
  let c0_i32_15 : BitVec 32 := 0#32
  let c1_i32_17 : BitVec 32 := 1#32
  let arg8 : BitVec 32 := Scf.iv c0_i32_15 c1_i32_17 k0_t1
  let c512_i32_161 : BitVec 32 := 512#32
  let v349 : BitVec 32 := Scalar.muli arg8 c512_i32_161
  let v350 : BitVec 32 := v349
  let v353 : Index := Scalar.indexCast v350
  let c128_163 : Index := 128#32
  ![v353.toNat, 128]
def k0_off3 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v357 : Index := Scalar.indexCast arg8
  let c0_165 : Index := 0#32
  let c0_166 : Index := 0#32
  ![v357.toNat, 0, 0]
def k0_off4 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v363 : Index := Scalar.indexCast arg8
  let c1_167 : Index := 1#32
  let c0_168 : Index := 0#32
  ![v363.toNat, 1, 0]
def k0_off5 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v369 : Index := Scalar.indexCast arg8
  let c2_169 : Index := 2#32
  let c0_170 : Index := 0#32
  ![v369.toNat, 2, 0]
def k0_off6 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v375 : Index := Scalar.indexCast arg8
  let c3_171 : Index := 3#32
  let c0_172 : Index := 0#32
  ![v375.toNat, 3, 0]
def k0_off7 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v381 : Index := Scalar.indexCast arg8
  let c4_173 : Index := 4#32
  let c0_174 : Index := 0#32
  ![v381.toNat, 4, 0]
def k0_off8 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v387 : Index := Scalar.indexCast arg8
  let c5_175 : Index := 5#32
  let c0_176 : Index := 0#32
  ![v387.toNat, 5, 0]
def k0_off9 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v393 : Index := Scalar.indexCast arg8
  let c6_177 : Index := 6#32
  let c0_178 : Index := 0#32
  ![v393.toNat, 6, 0]
def k0_off10 (i : grid0.Coords) (k0_t1 : Fin (k0_t1_loop i).trips) : Fin 3 → Nat :=
  let c0_i32_15 : BitVec 32 := 0#32
  let c1_i32_17 : BitVec 32 := 1#32
  let arg8 : BitVec 32 := Scf.iv c0_i32_15 c1_i32_17 k0_t1
  let v399 : Index := Scalar.indexCast arg8
  let c7_179 : Index := 7#32
  let c0_180 : Index := 0#32
  ![v399.toNat, 7, 0]
@[reducible] def k0_t2_loop (i : grid0.Coords) : Scf.Loop 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c512_i32_161 : BitVec 32 := 512#32
  let v349 : BitVec 32 := Scalar.muli arg8 c512_i32_161
  v349
def k0_off11 (i : grid0.Coords) (k0_t2 : Fin (k0_t2_loop i).trips) : Fin 2 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c512_i32_161 : BitVec 32 := 512#32
  let v349 : BitVec 32 := Scalar.muli arg8 c512_i32_161
  let v350 : BitVec 32 := v349
  let v351 : Index := Scalar.indexCast v350
  let c0_162 : Index := 0#32
  ![v351.toNat, 0]
def k0_off12 (i : grid0.Coords) (k0_t2 : Fin (k0_t2_loop i).trips) : Fin 2 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c512_i32_161 : BitVec 32 := 512#32
  let v349 : BitVec 32 := Scalar.muli arg8 c512_i32_161
  let v350 : BitVec 32 := v349
  let v353 : Index := Scalar.indexCast v350
  let c128_163 : Index := 128#32
  ![v353.toNat, 128]
def k0_off13 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v357 : Index := Scalar.indexCast arg8
  let c0_165 : Index := 0#32
  let c0_166 : Index := 0#32
  ![v357.toNat, 0, 0]
def k0_off14 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v363 : Index := Scalar.indexCast arg8
  let c1_167 : Index := 1#32
  let c0_168 : Index := 0#32
  ![v363.toNat, 1, 0]
def k0_off15 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v369 : Index := Scalar.indexCast arg8
  let c2_169 : Index := 2#32
  let c0_170 : Index := 0#32
  ![v369.toNat, 2, 0]
def k0_off16 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v375 : Index := Scalar.indexCast arg8
  let c3_171 : Index := 3#32
  let c0_172 : Index := 0#32
  ![v375.toNat, 3, 0]
def k0_off17 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v381 : Index := Scalar.indexCast arg8
  let c4_173 : Index := 4#32
  let c0_174 : Index := 0#32
  ![v381.toNat, 4, 0]
def k0_off18 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v387 : Index := Scalar.indexCast arg8
  let c5_175 : Index := 5#32
  let c0_176 : Index := 0#32
  ![v387.toNat, 5, 0]
def k0_off19 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v393 : Index := Scalar.indexCast arg8
  let c6_177 : Index := 6#32
  let c0_178 : Index := 0#32
  ![v393.toNat, 6, 0]
def k0_off20 (i : grid0.Coords) (k0_t2 : Fin (k0_t2_loop i).trips) : Fin 3 → Nat :=
  let c0_i32_15 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v32 : BitVec 32 := Scalar.subi v19 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let v399 : Index := Scalar.indexCast arg8
  let c7_179 : Index := 7#32
  let c0_180 : Index := 0#32
  ![v399.toNat, 7, 0]
def k0_mult3 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_19 : BitVec 32 := 512#32
  let v37 : BitVec 32 := Scalar.muli v19 c512_i32_19
  v37
def k0_off21 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_19 : BitVec 32 := 512#32
  let v37 : BitVec 32 := Scalar.muli v19 c512_i32_19
  let v38 : BitVec 32 := v37
  let v39 : Index := Scalar.indexCast v38
  let c0_20 : Index := 0#32
  ![v39.toNat, 0]
def k0_off22 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_19 : BitVec 32 := 512#32
  let v37 : BitVec 32 := Scalar.muli v19 c512_i32_19
  let v38 : BitVec 32 := v37
  let v41 : Index := Scalar.indexCast v38
  let c128 : Index := 128#32
  ![v41.toNat, 128]
def k0_off23 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v52 : Index := Scalar.indexCast v19
  let c0_22 : Index := 0#32
  let c0_23 : Index := 0#32
  ![v52.toNat, 0, 0]
def k0_off24 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v58 : Index := Scalar.indexCast v19
  let c1 : Index := 1#32
  let c0_24 : Index := 0#32
  ![v58.toNat, 1, 0]
def k0_off25 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v64 : Index := Scalar.indexCast v19
  let c2 : Index := 2#32
  let c0_25 : Index := 0#32
  ![v64.toNat, 2, 0]
def k0_off26 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v70 : Index := Scalar.indexCast v19
  let c3 : Index := 3#32
  let c0_26 : Index := 0#32
  ![v70.toNat, 3, 0]
def k0_off27 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v76 : Index := Scalar.indexCast v19
  let c4 : Index := 4#32
  let c0_27 : Index := 0#32
  ![v76.toNat, 4, 0]
def k0_off28 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v82 : Index := Scalar.indexCast v19
  let c5 : Index := 5#32
  let c0_28 : Index := 0#32
  ![v82.toNat, 5, 0]
def k0_off29 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v88 : Index := Scalar.indexCast v19
  let c6 : Index := 6#32
  let c0_29 : Index := 0#32
  ![v88.toNat, 6, 0]
def k0_off30 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let v94 : Index := Scalar.indexCast v19
  let c7 : Index := 7#32
  let c0_30 : Index := 0#32
  ![v94.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S8x16384x128 : Shape := ⟨3, ![8, 16384, 128]⟩
abbrev S16384x1024 : Shape := ⟨2, ![16384, 1024]⟩
abbrev S32x8x512 : Shape := ⟨3, ![32, 8, 512]⟩
abbrev S4x16384x64 : Shape := ⟨3, ![4, 16384, 64]⟩
abbrev S1x4x16384x64 : Shape := ⟨4, ![1, 4, 16384, 64]⟩
abbrev S2x4x16384x64 : Shape := ⟨4, ![2, 4, 16384, 64]⟩
abbrev S16384x128 : Shape := ⟨2, ![16384, 128]⟩
abbrev S16384x2x64 : Shape := ⟨3, ![16384, 2, 64]⟩
abbrev S8x32x512 : Shape := ⟨3, ![8, 32, 512]⟩
abbrev S2x4x16384 : Shape := ⟨3, ![2, 4, 16384]⟩
abbrev S2x4x16384x16384 : Shape := ⟨4, ![2, 4, 16384, 16384]⟩
abbrev S2x4x16384x1 : Shape := ⟨4, ![2, 4, 16384, 1]⟩
abbrev S2x4x1x16384 : Shape := ⟨4, ![2, 4, 1, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x64x4x16384 : Shape := ⟨4, ![2, 64, 4, 16384]⟩
abbrev S16384x4x2x64 : Shape := ⟨4, ![16384, 4, 2, 64]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S16384x1024, .bf16⟩
  | .hbm, ⟨2, _⟩ => ⟨S32x8x512, .f32⟩
  | .hbm, ⟨3, _⟩ => ⟨S8x16384x128, .f32⟩
  | .hbm, ⟨4, _⟩ => ⟨S16384x1024, .f32⟩
  | .hbm, ⟨5, _⟩ => ⟨S4x16384x64, .f32⟩
  | .hbm, ⟨6, _⟩ => ⟨S4x16384x64, .f32⟩
  | .hbm, ⟨7, _⟩ => ⟨S1x4x16384x64, .f32⟩
  | .hbm, ⟨8, _⟩ => ⟨S1x4x16384x64, .f32⟩
  | .hbm, ⟨9, _⟩ => ⟨S2x4x16384x64, .f32⟩
  | .hbm, ⟨10, _⟩ => ⟨S16384x128, .f32⟩
  | .hbm, ⟨11, _⟩ => ⟨S16384x2x64, .f32⟩
  | .hbm, ⟨12, _⟩ => ⟨S16384x128, .f32⟩
  | .hbm, ⟨13, _⟩ => ⟨S16384x2x64, .f32⟩
  | .hbm, ⟨14, _⟩ => ⟨S8x32x512, .f32⟩
  | .hbm, ⟨15, _⟩ => ⟨S2x4x16384, .f32⟩
  | .hbm, ⟨16, _⟩ => ⟨S2x4x16384, .f32⟩
  | .hbm, ⟨17, _⟩ => ⟨S2x4x16384x16384, .f32⟩
  | .hbm, ⟨18, _⟩ => ⟨S2x4x16384x1, .f32⟩
  | .hbm, ⟨19, _⟩ => ⟨S2x4x1x16384, .f32⟩
  | .hbm, ⟨20, _⟩ => ⟨S2x4x16384x16384, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S_, .f32⟩
  | .hbm, ⟨26, _⟩ => ⟨S2x4x16384x16384, .f32⟩
  | .hbm, ⟨27, _⟩ => ⟨S2x4x16384x16384, .f32⟩
  | .hbm, ⟨28, _⟩ => ⟨S16384, .i32⟩
  | .hbm, ⟨29, _⟩ => ⟨S1x16384, .i32⟩
  | .hbm, ⟨30, _⟩ => ⟨S16384x1, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S_, .f32⟩
  | .hbm, ⟨35, _⟩ => ⟨S_, .f32⟩
  | .hbm, ⟨36, _⟩ => ⟨S2x4x16384x16384, .i1⟩
  | .hbm, ⟨37, _⟩ => ⟨S2x4x16384x16384, .f32⟩
  | .hbm, ⟨38, _⟩ => ⟨S2x4x16384x16384, .f32⟩
  | .hbm, ⟨39, _⟩ => ⟨S_, .f32⟩
  | .hbm, ⟨40, _⟩ => ⟨S2x4x16384, .f32⟩
  | .hbm, ⟨41, _⟩ => ⟨S_, .f32⟩
  | .hbm, ⟨42, _⟩ => ⟨S2x4x16384, .f32⟩
  | .hbm, ⟨43, _⟩ => ⟨S2x4x16384, .f32⟩
  | .hbm, ⟨44, _⟩ => ⟨S2x4x16384x1, .f32⟩
  | .hbm, ⟨45, _⟩ => ⟨S2x4x16384x16384, .f32⟩
  | .hbm, ⟨46, _⟩ => ⟨S2x4x16384x16384, .f32⟩
  | .hbm, ⟨47, _⟩ => ⟨S2x4x16384x16384, .f32⟩
  | .hbm, ⟨48, _⟩ => ⟨S_, .f32⟩
  | .hbm, ⟨49, _⟩ => ⟨S2x4x16384, .f32⟩
  | .hbm, ⟨50, _⟩ => ⟨S2x4x16384x1, .f32⟩
  | .hbm, ⟨51, _⟩ => ⟨S2x4x16384x16384, .f32⟩
  | .hbm, ⟨52, _⟩ => ⟨S2x4x16384x16384, .f32⟩
  | .hbm, ⟨53, _⟩ => ⟨S2x64x4x16384, .f32⟩
  | .hbm, ⟨54, _⟩ => ⟨S16384x4x2x64, .f32⟩
  | .hbm, ⟨55, _⟩ => ⟨S16384x512, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S1024x7168 : Shape := ⟨2, ![1024, 7168]⟩
abbrev S16384x7168 : Shape := ⟨2, ![16384, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x7168, .bf16⟩
  | .hbm, ⟨2, _⟩ => ⟨S16384x7168, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x7168 : Shape := ⟨2, ![1024, 7168]⟩
abbrev S16384x7168 : Shape := ⟨2, ![16384, 7168]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7168, .bf16⟩
  | .hbm, ⟨2, _⟩ => ⟨S1024x7168, .f32⟩
  | .hbm, ⟨3, _⟩ => ⟨S16384x7168, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S16384x512 : Shape := ⟨2, ![16384, 512]⟩
abbrev S16384x7168 : Shape := ⟨2, ![16384, 7168]⟩
abbrev S16384x1024 : Shape := ⟨2, ![16384, 1024]⟩
abbrev S3x512x1024 : Shape := ⟨3, ![3, 512, 1024]⟩
abbrev S1024x1024 : Shape := ⟨2, ![1024, 1024]⟩
abbrev S1x1024 : Shape := ⟨2, ![1, 1024]⟩
abbrev S256x512 : Shape := ⟨2, ![256, 512]⟩
abbrev S256x1536 : Shape := ⟨2, ![256, 1536]⟩
abbrev S256x3072 : Shape := ⟨2, ![256, 3072]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x7168, .f32⟩
  | .hbm, ⟨4, _⟩ => ⟨S16384x1024, .f32⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1536, .f32⟩
  | .local _ .vmem, ⟨7, _⟩ => ⟨S256x1536, .f32⟩
  | .local _ .vmem, ⟨8, _⟩ => ⟨S256x3072, .f32⟩
  | .local _ .vmem, ⟨9, _⟩ => ⟨S256x3072, .f32⟩
  | .local _ .vmem, ⟨10, _⟩ => ⟨S256x1024, .f32⟩
  | .local _ .vmem, ⟨11, _⟩ => ⟨S256x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x512 : Shape := ⟨2, ![16384, 512]⟩
abbrev S16384x7168 : Shape := ⟨2, ![16384, 7168]⟩
abbrev S16384x1024 : Shape := ⟨2, ![16384, 1024]⟩
abbrev S3x512x1024 : Shape := ⟨3, ![3, 512, 1024]⟩
abbrev S1024x1024 : Shape := ⟨2, ![1024, 1024]⟩
abbrev S1x1024 : Shape := ⟨2, ![1, 1024]⟩
abbrev S16384x1536 : Shape := ⟨2, ![16384, 1536]⟩
abbrev S16384x3x512 : Shape := ⟨3, ![16384, 3, 512]⟩
abbrev S16384x1x512 : Shape := ⟨3, ![16384, 1, 512]⟩
abbrev S_ : Shape := ⟨0, ![]⟩
abbrev S3x1024x16384 : Shape := ⟨3, ![3, 1024, 16384]⟩
abbrev S16384x3x1024 : Shape := ⟨3, ![16384, 3, 1024]⟩
abbrev S16384x3072 : Shape := ⟨2, ![16384, 3072]⟩
abbrev S16384 : Shape := ⟨1, ![16384]⟩
abbrev S16384x1 : Shape := ⟨2, ![16384, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x7168, .f32⟩
  | .hbm, ⟨4, _⟩ => ⟨S16384x1024, .f32⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1536, .f32⟩
  | .hbm, ⟨10, _⟩ => ⟨S16384x3x512, .f32⟩
  | .hbm, ⟨11, _⟩ => ⟨S16384x1x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x1x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x1x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x1x512, .f32⟩
  | .hbm, ⟨48, _⟩ => ⟨S16384x1x512, .f32⟩
  | .hbm, ⟨49, _⟩ => ⟨S16384x1x512, .f32⟩
  | .hbm, ⟨50, _⟩ => ⟨S16384x3x512, .f32⟩
  | .hbm, ⟨51, _⟩ => ⟨S3x512x1024, .f32⟩
  | .hbm, ⟨52, _⟩ => ⟨S3x1024x16384, .f32⟩
  | .hbm, ⟨53, _⟩ => ⟨S16384x3x1024, .f32⟩
  | .hbm, ⟨54, _⟩ => ⟨S16384x3072, .f32⟩
  | .hbm, ⟨55, _⟩ => ⟨S16384x3x1024, .f32⟩
  | .hbm, ⟨56, _⟩ => ⟨S16384x3x1024, .f32⟩
  | .hbm, ⟨57, _⟩ => ⟨S16384x3x1024, .f32⟩
  | .hbm, ⟨58, _⟩ => ⟨S_, .f32⟩
  | .hbm, ⟨59, _⟩ => ⟨S16384x3x1024, .f32⟩
  | .hbm, ⟨60, _⟩ => ⟨S16384x3x1024, .f32⟩
  | .hbm, ⟨61, _⟩ => ⟨S_, .f32⟩
  | .hbm, ⟨62, _⟩ => ⟨S16384x3x1024, .f32⟩
  | .hbm, ⟨63, _⟩ => ⟨S16384x3x1024, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst : Ref sig .tc := ⟨.hbm, 58, rfl⟩
abbrev main_v25 : Ref sig .tc := ⟨.hbm, 59, rfl⟩
abbrev main_v26 : Ref sig .tc := ⟨.hbm, 60, rfl⟩
abbrev main_cst_0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_2 : Ref sig .tc := ⟨.hbm, 71, rfl⟩
abbrev main_v35 : Ref sig .tc := ⟨.hbm, 72, rfl⟩
abbrev main_v36 : Ref sig .tc := ⟨.hbm, 73, rfl⟩
abbrev main_cst_3 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_6 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩

abbrev nD : Nat := 1
abbrev τ : Topo := Topo.v7x

variable {F : FTy → Type} [FloatOps F]
-- ==== Kernel5.lean ====
abbrev S16384x7168 : Shape := ⟨2, ![16384, 7168]⟩
abbrev S8 : Shape := ⟨1, ![8]⟩
abbrev S1x256 : Shape := ⟨2, ![1, 256]⟩
abbrev S1x128 : Shape := ⟨2, ![1, 128]⟩
abbrev S512x1024 : Shape := ⟨2, ![512, 1024]⟩
abbrev S256x768 : Shape := ⟨2, ![256, 768]⟩
abbrev S256x1024 : Shape := ⟨2, ![256, 1024]⟩
abbrev S8x128 : Shape := ⟨2, ![8, 128]⟩
abbrev S_ : Shape := ⟨0, ![]⟩
abbrev S1 : Shape := ⟨1, ![1]⟩
abbrev S2 : Shape := ⟨1, ![2]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩
abbrev S16384x128 : Shape := ⟨2, ![16384, 128]⟩
abbrev S16384x64 : Shape := ⟨2, ![16384, 64]⟩
abbrev S16384x32 : Shape := ⟨2, ![16384, 32]⟩
abbrev S8x16384x128 : Shape := ⟨3, ![8, 16384, 128]⟩
abbrev S8x16384x256 : Shape := ⟨3, ![8, 16384, 256]⟩
abbrev S16384x640 : Shape := ⟨2, ![16384, 640]⟩
abbrev S16384x1024 : Shape := ⟨2, ![16384, 1024]⟩
abbrev S256x1536 : Shape := ⟨2, ![256, 1536]⟩
abbrev S256x128 : Shape := ⟨2, ![256, 128]⟩
abbrev S8x256x128 : Shape := ⟨3, ![8, 256, 128]⟩
abbrev S8x256x256 : Shape := ⟨3, ![8, 256, 256]⟩
abbrev S256x640 : Shape := ⟨2, ![256, 640]⟩
abbrev S256x512 : Shape := ⟨2, ![256, 512]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩

abbrev nBuf : Space → Nat
  | .hbm => 58
  | .vmem => 33
  | .smem => 0
  | _ => 0

abbrev bufTy : (tb : Table) → Fin (tcTables nBuf tb) → BufTy
  | .hbm, ⟨0, _⟩ => ⟨S16384x7168, .f32⟩
  | .hbm, ⟨1, _⟩ => ⟨S8, .f32⟩
  | .hbm, ⟨2, _⟩ => ⟨S1x256, .f32⟩
  | .hbm, ⟨3, _⟩ => ⟨S1x128, .f32⟩
  | .hbm, ⟨4, _⟩ => ⟨S512x1024, .bf16⟩
  | .hbm, ⟨5, _⟩ => ⟨S512x1024, .bf16⟩
  | .hbm, ⟨6, _⟩ => ⟨S256x768, .bf16⟩
  | .hbm, ⟨7, _⟩ => ⟨S512x1024, .bf16⟩
  | .hbm, ⟨8, _⟩ => ⟨S256x1024, .bf16⟩
  | .hbm, ⟨9, _⟩ => ⟨S8x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S16384, .i32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16384, .f32⟩
  | .hbm, ⟨28, _⟩ => ⟨S16384x1, .f32⟩
  | .hbm, ⟨29, _⟩ => ⟨S1x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S1x16384x1x16, .f32⟩
  | .hbm, ⟨36, _⟩ => ⟨S1x16384x8x16, .f32⟩
  | .hbm, ⟨37, _⟩ => ⟨S16384x128, .f32⟩
  | .hbm, ⟨38, _⟩ => ⟨S1x16384x1x16, .f32⟩
  | .hbm, ⟨39, _⟩ => ⟨S1x16384x8x16, .f32⟩
  | .hbm, ⟨40, _⟩ => ⟨S16384x128, .f32⟩
  | .hbm, ⟨41, _⟩ => ⟨S_, .f32⟩
  | .hbm, ⟨42, _⟩ => ⟨S16384x64, .f32⟩
  | .hbm, ⟨43, _⟩ => ⟨S_, .f32⟩
  | .hbm, ⟨44, _⟩ => ⟨S16384x32, .f32⟩
  | .hbm, ⟨45, _⟩ => ⟨S16384x128, .f32⟩
  | .hbm, ⟨46, _⟩ => ⟨S_, .f32⟩
  | .hbm, ⟨47, _⟩ => ⟨S16384x64, .f32⟩
  | .hbm, ⟨48, _⟩ => ⟨S16384x16, .f32⟩
  | .hbm, ⟨49, _⟩ => ⟨S_, .f32⟩
  | .hbm, ⟨50, _⟩ => ⟨S16384x32, .f32⟩
  | .hbm, ⟨51, _⟩ => ⟨S16384x128, .f32⟩
  | .hbm, ⟨52, _⟩ => ⟨S8x16384x128, .bf16⟩
  | .hbm, ⟨53, _⟩ => ⟨S8x16384x128, .bf16⟩
  | .hbm, ⟨54, _⟩ => ⟨S8x16384x128, .bf16⟩
  | .hbm, ⟨55, _⟩ => ⟨S8x16384x256, .bf16⟩
  | .hbm, ⟨56, _⟩ => ⟨S16384x640, .f32⟩
  | .hbm, ⟨57, _⟩ => ⟨S16384x1024, .bf16⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x256, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S256x768, .bf16⟩
  | .local _ .vmem, ⟨18, _⟩ => ⟨S512x1024, .bf16⟩
  | .local _ .vmem, ⟨19, _⟩ => ⟨S256x1024, .bf16⟩
  | .local _ .vmem, ⟨20, _⟩ => ⟨S8x128, .f32⟩
  | .local _ .vmem, ⟨21, _⟩ => ⟨S8x256x128, .bf16⟩
  | .local _ .vmem, ⟨22, _⟩ => ⟨S8x256x128, .bf16⟩
  | .local _ .vmem, ⟨23, _⟩ => ⟨S8x256x128, .bf16⟩
  | .local _ .vmem, ⟨24, _⟩ => ⟨S8x256x128, .bf16⟩
  | .local _ .vmem, ⟨25, _⟩ => ⟨S8x256x128, .bf16⟩
  | .local _ .vmem, ⟨26, _⟩ => ⟨S8x256x128, .bf16⟩
  | .local _ .vmem, ⟨27, _⟩ => ⟨S8x256x256, .bf16⟩
  | .local _ .vmem, ⟨28, _⟩ => ⟨S8x256x256, .bf16⟩
  | .local _ .vmem, ⟨29, _⟩ => ⟨S256x640, .f32⟩
  | .local _ .vmem, ⟨30, _⟩ => ⟨S256x640, .f32⟩
  | .local _ .vmem, ⟨31, _⟩ => ⟨S256x1024, .bf16⟩
  | .local _ .vmem, ⟨32, _⟩ => ⟨S256x1024, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v33_3 : Ref sig .tc := ⟨.hbm, 55, rfl⟩
abbrev main_v33_4 : Ref sig .tc := ⟨.hbm, 56, rfl⟩
abbrev main_v33_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x640 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S16384x7168 : Shape := ⟨2, ![16384, 7168]⟩
abbrev S8 : Shape := ⟨1, ![8]⟩
abbrev S1x256 : Shape := ⟨2, ![1, 256]⟩
abbrev S1x128 : Shape := ⟨2, ![1, 128]⟩
abbrev S512x1024 : Shape := ⟨2, ![512, 1024]⟩
abbrev S256x768 : Shape := ⟨2, ![256, 768]⟩
abbrev S256x1024 : Shape := ⟨2, ![256, 1024]⟩
abbrev S8x128 : Shape := ⟨2, ![8, 128]⟩
abbrev S16384x128 : Shape := ⟨2, ![16384, 128]⟩
abbrev S16384x64 : Shape := ⟨2, ![16384, 64]⟩
abbrev S16384x32 : Shape := ⟨2, ![16384, 32]⟩
abbrev S16384x8 : Shape := ⟨2, ![16384, 8]⟩
abbrev S16384x24 : Shape := ⟨2, ![16384, 24]⟩
abbrev S16384 : Shape := ⟨1, ![16384]⟩
abbrev S16384x1 : Shape := ⟨2, ![16384, 1]⟩
abbrev S16 : Shape := ⟨1, ![16]⟩
abbrev S_ : Shape := ⟨0, ![]⟩
abbrev S1x16 : Shape := ⟨2, ![1, 16]⟩
abbrev S16384x16 : Shape := ⟨2, ![16384, 16]⟩
abbrev S1x8 : Shape := ⟨2, ![1, 8]⟩
abbrev S16384x256 : Shape := ⟨2, ![16384, 256]⟩
abbrev S16384x640 : Shape := ⟨2, ![16384, 640]⟩
abbrev S16384x3 : Shape := ⟨2, ![16384, 3]⟩
abbrev S16384x61 : Shape := ⟨2, ![16384, 61]⟩
abbrev S16384x1024 : Shape := ⟨2, ![16384, 1024]⟩
abbrev S16384x512 : Shape := ⟨2, ![16384, 512]⟩
abbrev S16384x8x128 : Shape := ⟨3, ![16384, 8, 128]⟩
abbrev S8x16384x128 : Shape := ⟨3, ![8, 16384, 128]⟩
abbrev S8x1x128 : Shape := ⟨3, ![8, 1, 128]⟩
abbrev S16384x768 : Shape := ⟨2, ![16384, 768]⟩
abbrev S1x16384x1x16 : Shape := ⟨4, ![1, 16384, 1, 16]⟩
abbrev S1x16384x8x16 : Shape := ⟨4, ![1, 16384, 8, 16]⟩
abbrev S8x16384x256 : Shape := ⟨3, ![8, 16384, 256]⟩

abbrev nBuf : Space → Nat
  | .hbm => 163
  | .vmem => 0
  | .smem => 0
  | _ => 0

abbrev hbmTy0_0 (i : Nat) : BufTy := match i % 128 with
  | 0 => ⟨S16384x7168, .f32⟩
  | 1 => ⟨S8, .f32⟩
  | 2 => ⟨S1x256, .f32⟩
  | 3 => ⟨S1x128, .f32⟩
  | 4 => ⟨S512x1024, .bf16⟩
  | 5 => ⟨S512x1024, .bf16⟩
  | 6 => ⟨S256x768, .bf16⟩
  | 7 => ⟨S512x1024, .bf16⟩
  | 8 => ⟨S256x1024, .bf16⟩
  | 9 => ⟨S8x128, .f32⟩
  | 10 => ⟨S16384x128, .f32⟩
  | 11 => ⟨S16384x64, .f32⟩
  | 12 => ⟨S16384x32, .f32⟩
  | 13 => ⟨S16384x8, .f32⟩
  | 14 => ⟨S16384x24, .f32⟩
  | 15 => ⟨S16384, .i32⟩
  | 16 => ⟨S16384, .f32⟩
  | 17 => ⟨S16384x1, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S1x16, .f32⟩
  | 27 => ⟨S16384x16, .f32⟩
  | 28 => ⟨S16384x16, .f32⟩
  | 29 => ⟨S16384x16, .f32⟩
  | 30 => ⟨S16384x16, .f32⟩
  | 31 => ⟨S16384x16, .f32⟩
  | 32 => ⟨S16384x16, .f32⟩
  | 33 => ⟨S16384x16, .f32⟩
  | 34 => ⟨S16384x16, .f32⟩
  | 35 => ⟨S16384x16, .f32⟩
  | 36 => ⟨S16384x16, .f32⟩
  | 37 => ⟨S16384x16, .f32⟩
  | 38 => ⟨S16384x16, .f32⟩
  | 39 => ⟨S16384x16, .f32⟩
  | 40 => ⟨S16384x32, .f32⟩
  | 41 => ⟨S1x8, .f32⟩
  | 42 => ⟨S16384x8, .f32⟩
  | 43 => ⟨S16384x8, .f32⟩
  | 44 => ⟨S16384x8, .f32⟩
  | 45 => ⟨S_, .f32⟩
  | 46 => ⟨S16384x8, .f32⟩
  | 47 => ⟨S16384x8, .f32⟩
  | 48 => ⟨S16384x8, .f32⟩
  | 49 => ⟨S16384x8, .f32⟩
  | 50 => ⟨S16384x8, .i1⟩
  | 51 => ⟨S16384x8, .f32⟩
  | 52 => ⟨S16384x8, .f32⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S16384x128, .f32⟩
  | 61 => ⟨S16384x128, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S16384x1, .f32⟩
  | 72 => ⟨S16384x128, .f32⟩
  | 73 => ⟨S16384x128, .f32⟩
  | 74 => ⟨S16384x128, .f32⟩
  | 75 => ⟨S16384x128, .f32⟩
  | 76 => ⟨S16384x256, .f32⟩
  | 77 => ⟨S16384x640, .f32⟩
  | 78 => ⟨S16384x64, .f32⟩
  | 79 => ⟨S16384x64, .f32⟩
  | 80 => ⟨S_, .f32⟩
  | 81 => ⟨S16384x3, .f32⟩
  | 82 => ⟨S_, .f32⟩
  | 83 => ⟨S16384x61, .f32⟩
  | 84 => ⟨S16384x1024, .f32⟩
  | 85 => ⟨S16384x1024, .bf16⟩
  | 86 => ⟨S16384x512, .f32⟩
  | 87 => ⟨S_, .f32⟩
  | 88 => ⟨S16384x512, .f32⟩
  | 89 => ⟨S16384x512, .f32⟩
  | 90 => ⟨S512x1024, .f32⟩
  | 91 => ⟨S16384x1024, .f32⟩
  | 92 => ⟨S16384x8x128, .f32⟩
  | 93 => ⟨S8x16384x128, .f32⟩
  | 94 => ⟨S8x1x128, .f32⟩
  | 95 => ⟨S8x16384x128, .f32⟩
  | 96 => ⟨S8x16384x128, .f32⟩
  | 97 => ⟨S16384x512, .f32⟩
  | 98 => ⟨S512x1024, .f32⟩
  | 99 => ⟨S16384x1024, .f32⟩
  | 100 => ⟨S16384x8x128, .f32⟩
  | 101 => ⟨S8x16384x128, .f32⟩
  | 102 => ⟨S16384x512, .f32⟩
  | 103 => ⟨S_, .f32⟩
  | 104 => ⟨S16384x512, .f32⟩
  | 105 => ⟨S16384x512, .f32⟩
  | 106 => ⟨S512x1024, .f32⟩
  | 107 => ⟨S16384x1024, .f32⟩
  | 108 => ⟨S16384x8x128, .f32⟩
  | 109 => ⟨S8x16384x128, .f32⟩
  | 110 => ⟨S16384x256, .f32⟩
  | 111 => ⟨S16384x256, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S16384x1, .f32⟩
  | 122 => ⟨S16384x256, .f32⟩
  | 123 => ⟨S16384x256, .f32⟩
  | 124 => ⟨S16384x256, .f32⟩
  | 125 => ⟨S16384x256, .f32⟩
  | 126 => ⟨S256x768, .f32⟩
  | 127 => ⟨S16384x768, .f32⟩
  | _ => ⟨S16384x7168, .f32⟩

abbrev hbmTy0_1 (i : Nat) : BufTy := match i % 128 with
  | 0 => ⟨S16384x128, .f32⟩
  | 1 => ⟨S16384x128, .f32⟩
  | 2 => ⟨S1x16384x1x16, .f32⟩
  | 3 => ⟨S1x16384x8x16, .f32⟩
  | 4 => ⟨S16384x128, .f32⟩
  | 5 => ⟨S1x16384x1x16, .f32⟩
  | 6 => ⟨S1x16384x8x16, .f32⟩
  | 7 => ⟨S16384x128, .f32⟩
  | 8 => ⟨S16384x128, .f32⟩
  | 9 => ⟨S16384x128, .f32⟩
  | 10 => ⟨S16384x128, .f32⟩
  | 11 => ⟨S16384x128, .f32⟩
  | 12 => ⟨S16384x128, .f32⟩
  | 13 => ⟨S16384x128, .f32⟩
  | 14 => ⟨S16384x256, .f32⟩
  | 15 => ⟨S_, .f32⟩
  | 16 => ⟨S16384x256, .f32⟩
  | 17 => ⟨S16384x256, .f32⟩
  | 18 => ⟨S16384x512, .f32⟩
  | 19 => ⟨S512x1024, .f32⟩
  | 20 => ⟨S16384x1024, .f32⟩
  | 21 => ⟨S_, .f32⟩
  | 22 => ⟨S16384x1024, .f32⟩
  | 23 => ⟨S16384x1024, .f32⟩
  | 24 => ⟨S16384x8x128, .f32⟩
  | 25 => ⟨S8x16384x128, .f32⟩
  | 26 => ⟨S256x1024, .f32⟩
  | 27 => ⟨S16384x1024, .f32⟩
  | 28 => ⟨S16384x8x128, .f32⟩
  | 29 => ⟨S8x16384x128, .f32⟩
  | 30 => ⟨S8x16384x256, .f32⟩
  | 31 => ⟨S8x16384x128, .bf16⟩
  | 32 => ⟨S8x16384x128, .bf16⟩
  | 33 => ⟨S8x16384x128, .bf16⟩
  | 34 => ⟨S8x16384x256, .bf16⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_cst_2 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_4 : Ref sig .tc := ⟨.hbm, 80, rfl⟩
abbrev main_v50 : Ref sig .tc := ⟨.hbm, 81, rfl⟩
abbrev main_cst_5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_7 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_8 : Ref sig .tc := ⟨.hbm, 112, rfl⟩
abbrev main_v78 : Ref sig .tc := ⟨.hbm, 113, rfl⟩
abbrev main_v79 : Ref sig .tc := ⟨.hbm, 114, rfl⟩
abbrev main_cst_9 : Ref sig .tc := ⟨.hbm, 115, rfl⟩
abbrev main_v80 : Ref sig .tc := ⟨.hbm, 116, rfl⟩
abbrev main_v81 : Ref sig .tc := ⟨.hbm, 117, rfl⟩
abbrev main_cst_10 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_11 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_12 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩

abbrev nD : Nat := 1
abbrev τ : Topo := Topo.v7x

variable {F : FTy → Type} [FloatOps F]
-- ==== Kernel6.lean ====
abbrev S128x7168 : Shape := ⟨2, ![128, 7168]⟩
abbrev S8 : Shape := ⟨1, ![8]⟩
abbrev S1x256 : Shape := ⟨2, ![1, 256]⟩
abbrev S1x128 : Shape := ⟨2, ![1, 128]⟩
abbrev S512x1024 : Shape := ⟨2, ![512, 1024]⟩
abbrev S256x768 : Shape := ⟨2, ![256, 768]⟩
abbrev S256x1024 : Shape := ⟨2, ![256, 1024]⟩
abbrev S8x128 : Shape := ⟨2, ![8, 128]⟩
abbrev S_ : Shape := ⟨0, ![]⟩
abbrev S1 : Shape := ⟨1, ![1]⟩
abbrev S2 : Shape := ⟨1, ![2]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S1x128x1x16 : Shape := ⟨4, ![1, 128, 1, 16]⟩
abbrev S1x128x8x16 : Shape := ⟨4, ![1, 128, 8, 16]⟩
abbrev S128x128 : Shape := ⟨2, ![128, 128]⟩
abbrev S128x64 : Shape := ⟨2, ![128, 64]⟩
abbrev S128x32 : Shape := ⟨2, ![128, 32]⟩
abbrev S8x128x128 : Shape := ⟨3, ![8, 128, 128]⟩
abbrev S8x128x256 : Shape := ⟨3, ![8, 128, 256]⟩
abbrev S128x640 : Shape := ⟨2, ![128, 640]⟩
abbrev S128x1024 : Shape := ⟨2, ![128, 1024]⟩
abbrev S128x1536 : Shape := ⟨2, ![128, 1536]⟩
abbrev S128x512 : Shape := ⟨2, ![128, 512]⟩
abbrev S1x128x128 : Shape := ⟨3, ![1, 128, 128]⟩
abbrev S128x256 : Shape := ⟨2, ![128, 256]⟩
abbrev S128x768 : Shape := ⟨2, ![128, 768]⟩

abbrev nBuf : Space → Nat
  | .hbm => 59
  | .vmem => 21
  | .smem => 0
  | _ => 0

abbrev bufTy : (tb : Table) → Fin (tcTables nBuf tb) → BufTy
  | .hbm, ⟨0, _⟩ => ⟨S128x7168, .f32⟩
  | .hbm, ⟨1, _⟩ => ⟨S8, .f32⟩
  | .hbm, ⟨2, _⟩ => ⟨S1x256, .f32⟩
  | .hbm, ⟨3, _⟩ => ⟨S1x128, .f32⟩
  | .hbm, ⟨4, _⟩ => ⟨S512x1024, .bf16⟩
  | .hbm, ⟨5, _⟩ => ⟨S512x1024, .bf16⟩
  | .hbm, ⟨6, _⟩ => ⟨S256x768, .bf16⟩
  | .hbm, ⟨7, _⟩ => ⟨S512x1024, .bf16⟩
  | .hbm, ⟨8, _⟩ => ⟨S256x1024, .bf16⟩
  | .hbm, ⟨9, _⟩ => ⟨S8x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S_, .i32⟩
  | .hbm, ⟨19, _⟩ => ⟨S128, .i32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S128, .f32⟩
  | .hbm, ⟨29, _⟩ => ⟨S128x1, .f32⟩
  | .hbm, ⟨30, _⟩ => ⟨S1x16, .f32⟩
  | .hbm, ⟨31, _⟩ => ⟨S128x16, .f32⟩
  | .hbm, ⟨32, _⟩ => ⟨S128x16, .f32⟩
  | .hbm, ⟨33, _⟩ => ⟨S128x16, .f32⟩
  | .hbm, ⟨34, _⟩ => ⟨S128x16, .f32⟩
  | .hbm, ⟨35, _⟩ => ⟨S128x16, .f32⟩
  | .hbm, ⟨36, _⟩ => ⟨S1x128x1x16, .f32⟩
  | .hbm, ⟨37, _⟩ => ⟨S1x128x8x16, .f32⟩
  | .hbm, ⟨38, _⟩ => ⟨S128x128, .f32⟩
  | .hbm, ⟨39, _⟩ => ⟨S1x128x1x16, .f32⟩
  | .hbm, ⟨40, _⟩ => ⟨S1x128x8x16, .f32⟩
  | .hbm, ⟨41, _⟩ => ⟨S128x128, .f32⟩
  | .hbm, ⟨42, _⟩ => ⟨S_, .f32⟩
  | .hbm, ⟨43, _⟩ => ⟨S128x64, .f32⟩
  | .hbm, ⟨44, _⟩ => ⟨S_, .f32⟩
  | .hbm, ⟨45, _⟩ => ⟨S128x32, .f32⟩
  | .hbm, ⟨46, _⟩ => ⟨S128x128, .f32⟩
  | .hbm, ⟨47, _⟩ => ⟨S_, .f32⟩
  | .hbm, ⟨48, _⟩ => ⟨S128x64, .f32⟩
  | .hbm, ⟨49, _⟩ => ⟨S128x16, .f32⟩
  | .hbm, ⟨50, _⟩ => ⟨S_, .f32⟩
  | .hbm, ⟨51, _⟩ => ⟨S128x32, .f32⟩
  | .hbm, ⟨52, _⟩ => ⟨S128x128, .f32⟩
  | .hbm, ⟨53, _⟩ => ⟨S8x128x128, .bf16⟩
  | .hbm, ⟨54, _⟩ => ⟨S8x128x128, .bf16⟩
  | .hbm, ⟨55, _⟩ => ⟨S8x128x128, .bf16⟩
  | .hbm, ⟨56, _⟩ => ⟨S8x128x256, .bf16⟩
  | .hbm, ⟨57, _⟩ => ⟨S128x640, .f32⟩
  | .hbm, ⟨58, _⟩ => ⟨S128x1024, .bf16⟩
  | .local _ .vmem, ⟨0, _⟩ => ⟨S128x1536, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x256, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | .local _ .vmem, ⟨11, _⟩ => ⟨S256x768, .bf16⟩
  | .local _ .vmem, ⟨12, _⟩ => ⟨S512x1024, .bf16⟩
  | .local _ .vmem, ⟨13, _⟩ => ⟨S256x1024, .bf16⟩
  | .local _ .vmem, ⟨14, _⟩ => ⟨S8x128, .f32⟩
  | .local _ .vmem, ⟨15, _⟩ => ⟨S8x128x128, .bf16⟩
  | .local _ .vmem, ⟨16, _⟩ => ⟨S8x128x128, .bf16⟩
  | .local _ .vmem, ⟨17, _⟩ => ⟨S8x128x128, .bf16⟩
  | .local _ .vmem, ⟨18, _⟩ => ⟨S8x128x256, .bf16⟩
  | .local _ .vmem, ⟨19, _⟩ => ⟨S128x640, .f32⟩
  | .local _ .vmem, ⟨20, _⟩ => ⟨S128x1024, .bf16⟩
  | _, _ => ⟨S128x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v33_2 : Ref sig .tc := ⟨.hbm, 55, rfl⟩
abbrev main_v33_3 : Ref sig .tc := ⟨.hbm, 56, rfl⟩
abbrev main_v33_4 : Ref sig .tc := ⟨.hbm, 57, rfl⟩
abbrev main_v33_5 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S8x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S8x128x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x640 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Reference6Ideal.lean ====
abbrev S128x7168 : Shape := ⟨2, ![128, 7168]⟩
abbrev S8 : Shape := ⟨1, ![8]⟩
abbrev S1x256 : Shape := ⟨2, ![1, 256]⟩
abbrev S1x128 : Shape := ⟨2, ![1, 128]⟩
abbrev S512x1024 : Shape := ⟨2, ![512, 1024]⟩
abbrev S256x768 : Shape := ⟨2, ![256, 768]⟩
abbrev S256x1024 : Shape := ⟨2, ![256, 1024]⟩
abbrev S8x128 : Shape := ⟨2, ![8, 128]⟩
abbrev S128x128 : Shape := ⟨2, ![128, 128]⟩
abbrev S128x64 : Shape := ⟨2, ![128, 64]⟩
abbrev S128x32 : Shape := ⟨2, ![128, 32]⟩
abbrev S128x8 : Shape := ⟨2, ![128, 8]⟩
abbrev S128x24 : Shape := ⟨2, ![128, 24]⟩
abbrev S1 : Shape := ⟨1, ![1]⟩
abbrev S_ : Shape := ⟨0, ![]⟩
abbrev S1x1 : Shape := ⟨2, ![1, 1]⟩
abbrev S16 : Shape := ⟨1, ![16]⟩
abbrev S1x16 : Shape := ⟨2, ![1, 16]⟩
abbrev S128x16 : Shape := ⟨2, ![128, 16]⟩
abbrev S1x8 : Shape := ⟨2, ![1, 8]⟩
abbrev S128 : Shape := ⟨1, ![128]⟩
abbrev S128x1 : Shape := ⟨2, ![128, 1]⟩
abbrev S128x256 : Shape := ⟨2, ![128, 256]⟩
abbrev S128x640 : Shape := ⟨2, ![128, 640]⟩
abbrev S128x3 : Shape := ⟨2, ![128, 3]⟩
abbrev S128x61 : Shape := ⟨2, ![128, 61]⟩
abbrev S128x1024 : Shape := ⟨2, ![128, 1024]⟩
abbrev S128x512 : Shape := ⟨2, ![128, 512]⟩
abbrev S128x8x128 : Shape := ⟨3, ![128, 8, 128]⟩
abbrev S8x128x128 : Shape := ⟨3, ![8, 128, 128]⟩
abbrev S8x1x128 : Shape := ⟨3, ![8, 1, 128]⟩
abbrev S128x768 : Shape := ⟨2, ![128, 768]⟩
abbrev S1x1x1x16 : Shape := ⟨4, ![1, 1, 1, 16]⟩
abbrev S1x1x8x16 : Shape := ⟨4, ![1, 1, 8, 16]⟩
abbrev S8x128x256 : Shape := ⟨3, ![8, 128, 256]⟩

abbrev nBuf : Space → Nat
  | .hbm => 173
  | .vmem => 0
  | .smem => 0
  | _ => 0

abbrev hbmTy0_0 (i : Nat) : BufTy := match i % 128 with
  | 0 => ⟨S128x7168, .f32⟩
  | 1 => ⟨S8, .f32⟩
  | 2 => ⟨S1x256, .f32⟩
  | 3 => ⟨S1x128, .f32⟩
  | 4 => ⟨S512x1024, .bf16⟩
  | 5 => ⟨S512x1024, .bf16⟩
  | 6 => ⟨S256x768, .bf16⟩
  | 7 => ⟨S512x1024, .bf16⟩
  | 8 => ⟨S256x1024, .bf16⟩
  | 9 => ⟨S8x128, .f32⟩
  | 10 => ⟨S128x128, .f32⟩
  | 11 => ⟨S128x64, .f32⟩
  | 12 => ⟨S128x32, .f32⟩
  | 13 => ⟨S128x8, .f32⟩
  | 14 => ⟨S128x24, .f32⟩
  | 15 => ⟨S1, .i32⟩
  | 16 => ⟨S_, .i32⟩
  | 17 => ⟨S1, .i32⟩
  | 18 => ⟨S1, .i32⟩
  | 19 => ⟨S1, .f32⟩
  | 20 => ⟨S1x1, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S1x16, .f32⟩
  | 30 => ⟨S1x16, .f32⟩
  | 31 => ⟨S1x16, .f32⟩
  | 32 => ⟨S1x16, .f32⟩
  | 33 => ⟨S1x16, .f32⟩
  | 34 => ⟨S128x16, .f32⟩
  | 35 => ⟨S128x16, .f32⟩
  | 36 => ⟨S128x16, .f32⟩
  | 37 => ⟨S128x16, .f32⟩
  | 38 => ⟨S128x16, .f32⟩
  | 39 => ⟨S128x16, .f32⟩
  | 40 => ⟨S128x16, .f32⟩
  | 41 => ⟨S128x16, .f32⟩
  | 42 => ⟨S128x16, .f32⟩
  | 43 => ⟨S128x16, .f32⟩
  | 44 => ⟨S128x16, .f32⟩
  | 45 => ⟨S128x16, .f32⟩
  | 46 => ⟨S128x32, .f32⟩
  | 47 => ⟨S1x8, .f32⟩
  | 48 => ⟨S128x8, .f32⟩
  | 49 => ⟨S128x8, .f32⟩
  | 50 => ⟨S128x8, .f32⟩
  | 51 => ⟨S_, .f32⟩
  | 52 => ⟨S128x8, .f32⟩
  | 53 => ⟨S128x8, .f32⟩
  | 54 => ⟨S128x8, .f32⟩
  | 55 => ⟨S128x8, .f32⟩
  | 56 => ⟨S128x8, .i1⟩
  | 57 => ⟨S128x8, .f32⟩
  | 58 => ⟨S128x8, .f32⟩
  | 59 => ⟨S128x8, .f32⟩
  | 60 => ⟨S128x8, .f32⟩
  | 61 => ⟨S128x8, .f32⟩
  | 62 => ⟨S128x8, .f32⟩
  | 63 => ⟨S128x8, .f32⟩
  | 64 => ⟨S128x8, .f32⟩
  | 65 => ⟨S128x8, .f32⟩
  | 66 => ⟨S128x128, .f32⟩
  | 67 => ⟨S128x128, .f32⟩
  | 68 => ⟨S_, .f32⟩
  | 69 => ⟨S128, .f32⟩
  | 70 => ⟨S128x1, .f32⟩
  | 71 => ⟨S_, .f32⟩
  | 72 => ⟨S128x1, .f32⟩
  | 73 => ⟨S128x1, .f32⟩
  | 74 => ⟨S_, .f32⟩
  | 75 => ⟨S128x1, .f32⟩
  | 76 => ⟨S128x1, .f32⟩
  | 77 => ⟨S128x1, .f32⟩
  | 78 => ⟨S128x128, .f32⟩
  | 79 => ⟨S128x128, .f32⟩
  | 80 => ⟨S128x128, .f32⟩
  | 81 => ⟨S128x128, .f32⟩
  | 82 => ⟨S128x256, .f32⟩
  | 83 => ⟨S128x640, .f32⟩
  | 84 => ⟨S128x64, .f32⟩
  | 85 => ⟨S128x64, .f32⟩
  | 86 => ⟨S_, .f32⟩
  | 87 => ⟨S128x3, .f32⟩
  | 88 => ⟨S_, .f32⟩
  | 89 => ⟨S128x61, .f32⟩
  | 90 => ⟨S128x1024, .f32⟩
  | 91 => ⟨S128x1024, .bf16⟩
  | 92 => ⟨S128x512, .f32⟩
  | 93 => ⟨S_, .f32⟩
  | 94 => ⟨S128x512, .f32⟩
  | 95 => ⟨S128x512, .f32⟩
  | 96 => ⟨S512x1024, .f32⟩
  | 97 => ⟨S128x1024, .f32⟩
  | 98 => ⟨S128x8x128, .f32⟩
  | 99 => ⟨S8x128x128, .f32⟩
  | 100 => ⟨S8x1x128, .f32⟩
  | 101 => ⟨S8x128x128, .f32⟩
  | 102 => ⟨S8x128x128, .f32⟩
  | 103 => ⟨S128x512, .f32⟩
  | 104 => ⟨S512x1024, .f32⟩
  | 105 => ⟨S128x1024, .f32⟩
  | 106 => ⟨S128x8x128, .f32⟩
  | 107 => ⟨S8x128x128, .f32⟩
  | 108 => ⟨S128x512, .f32⟩
  | 109 => ⟨S_, .f32⟩
  | 110 => ⟨S128x512, .f32⟩
  | 111 => ⟨S128x512, .f32⟩
  | 112 => ⟨S512x1024, .f32⟩
  | 113 => ⟨S128x1024, .f32⟩
  | 114 => ⟨S128x8x128, .f32⟩
  | 115 => ⟨S8x128x128, .f32⟩
  | 116 => ⟨S128x256, .f32⟩
  | 117 => ⟨S128x256, .f32⟩
  | 118 => ⟨S_, .f32⟩
  | 119 => ⟨S128, .f32⟩
  | 120 => ⟨S128x1, .f32⟩
  | 121 => ⟨S_, .f32⟩
  | 122 => ⟨S128x1, .f32⟩
  | 123 => ⟨S128x1, .f32⟩
  | 124 => ⟨S_, .f32⟩
  | 125 => ⟨S128x1, .f32⟩
  | 126 => ⟨S128x1, .f32⟩
  | 127 => ⟨S128x1, .f32⟩
  | _ => ⟨S128x7168, .f32⟩

abbrev hbmTy0_1 (i : Nat) : BufTy := match i % 128 with
  | 0 => ⟨S128x256, .f32⟩
  | 1 => ⟨S128x256, .f32⟩
  | 2 => ⟨S128x256, .f32⟩
  | 3 => ⟨S128x256, .f32⟩
  | 4 => ⟨S256x768, .f32⟩
  | 5 => ⟨S128x768, .f32⟩
  | 6 => ⟨S128x128, .f32⟩
  | 7 => ⟨S128x128, .f32⟩
  | 8 => ⟨S1x1x1x16, .f32⟩
  | 9 => ⟨S1x1x8x16, .f32⟩
  | 10 => ⟨S1x128, .f32⟩
  | 11 => ⟨S1x1x1x16, .f32⟩
  | 12 => ⟨S1x1x8x16, .f32⟩
  | 13 => ⟨S1x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S128x256, .f32⟩
  | 25 => ⟨S_, .f32⟩
  | 26 => ⟨S128x256, .f32⟩
  | 27 => ⟨S128x256, .f32⟩
  | 28 => ⟨S128x512, .f32⟩
  | 29 => ⟨S512x1024, .f32⟩
  | 30 => ⟨S128x1024, .f32⟩
  | 31 => ⟨S_, .f32⟩
  | 32 => ⟨S128x1024, .f32⟩
  | 33 => ⟨S128x1024, .f32⟩
  | 34 => ⟨S128x8x128, .f32⟩
  | 35 => ⟨S8x128x128, .f32⟩
  | 36 => ⟨S256x1024, .f32⟩
  | 37 => ⟨S128x1024, .f32⟩
  | 38 => ⟨S128x8x128, .f32⟩
  | 39 => ⟨S8x128x128, .f32⟩
  | 40 => ⟨S8x128x256, .f32⟩
  | 41 => ⟨S8x128x128, .bf16⟩
  | 42 => ⟨S8x128x128, .bf16⟩
  | 43 => ⟨S8x128x128, .bf16⟩
  | 44 => ⟨S8x128x256, .bf16⟩
  | _ => ⟨S128x7168, .f32⟩

abbrev hbmTy (i : Nat) : BufTy := match i / 128 with
  | 0 => hbmTy0_0 i
  | 1 => hbmTy0_1 i
  | _ => ⟨S128x7168, .f32⟩

abbrev bufTy : (tb : Table) → Fin (tcTables nBuf tb) → BufTy
  | .hbm, ⟨i, _⟩ => hbmTy i
  | _, _ => ⟨S128x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_4 : Ref sig .tc := ⟨.hbm, 86, rfl⟩
abbrev main_v55 : Ref sig .tc := ⟨.hbm, 87, rfl⟩
abbrev main_cst_5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_6 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_7 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_8 : Ref sig .tc := ⟨.hbm, 118, rfl⟩
abbrev main_v83 : Ref sig .tc := ⟨.hbm, 119, rfl⟩
abbrev main_v84 : Ref sig .tc := ⟨.hbm, 120, rfl⟩
abbrev main_cst_9 : Ref sig .tc := ⟨.hbm, 121, rfl⟩
abbrev main_v85 : Ref sig .tc := ⟨.hbm, 122, rfl⟩
abbrev main_v86 : Ref sig .tc := ⟨.hbm, 123, rfl⟩
abbrev main_cst_10 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_11 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_12 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩

abbrev nD : Nat := 1
abbrev τ : Topo := Topo.v7x

variable {F : FTy → Type} [FloatOps F]
-- ==== Kernel7.lean ====
abbrev S128x1024 : Shape := ⟨2, ![128, 1024]⟩
abbrev S1024x7168 : Shape := ⟨2, ![1024, 7168]⟩
abbrev S128x7168 : Shape := ⟨2, ![128, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024x7168, .bf16⟩
  | .hbm, ⟨2, _⟩ => ⟨S128x7168, .f32⟩
  | .local _ .vmem, ⟨0, _⟩ => ⟨S128x1024, .f32⟩
  | .local _ .vmem, ⟨1, _⟩ => ⟨S1024x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S128x1024 : Shape := ⟨2, ![128, 1024]⟩
abbrev S1024x7168 : Shape := ⟨2, ![1024, 7168]⟩
abbrev S128x7168 : Shape := ⟨2, ![128, 7168]⟩

abbrev nBuf : Space → Nat
  | .hbm => 4
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x7168, .bf16⟩
  | .hbm, ⟨2, _⟩ => ⟨S1024x7168, .f32⟩
  | .hbm, ⟨3, _⟩ => ⟨S128x7168, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S128x512 : Shape := ⟨2, ![128, 512]⟩
abbrev S128x7168 : Shape := ⟨2, ![128, 7168]⟩
abbrev S128x1024 : Shape := ⟨2, ![128, 1024]⟩
abbrev S3x512x1024 : Shape := ⟨3, ![3, 512, 1024]⟩
abbrev S1024x1024 : Shape := ⟨2, ![1024, 1024]⟩
abbrev S1x1024 : Shape := ⟨2, ![1, 1024]⟩
abbrev S128x1536 : Shape := ⟨2, ![128, 1536]⟩
abbrev S128x3072 : Shape := ⟨2, ![128, 3072]⟩
abbrev S1x512x1024 : Shape := ⟨3, ![1, 512, 1024]⟩
abbrev S512x1024 : Shape := ⟨2, ![512, 1024]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x7168, .f32⟩
  | .hbm, ⟨4, _⟩ => ⟨S128x1024, .f32⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x1536, .f32⟩
  | .local _ .vmem, ⟨4, _⟩ => ⟨S128x3072, .f32⟩
  | .local _ .vmem, ⟨5, _⟩ => ⟨S128x1024, .f32⟩
  | .local _ .vmem, ⟨6, _⟩ => ⟨S3x512x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference8Ideal.lean ====
abbrev S128x512 : Shape := ⟨2, ![128, 512]⟩
abbrev S128x7168 : Shape := ⟨2, ![128, 7168]⟩
abbrev S128x1024 : Shape := ⟨2, ![128, 1024]⟩
abbrev S3x512x1024 : Shape := ⟨3, ![3, 512, 1024]⟩
abbrev S1024x1024 : Shape := ⟨2, ![1024, 1024]⟩
abbrev S1x1024 : Shape := ⟨2, ![1, 1024]⟩
abbrev S128x1536 : Shape := ⟨2, ![128, 1536]⟩
abbrev S128x3x512 : Shape := ⟨3, ![128, 3, 512]⟩
abbrev S128x1x512 : Shape := ⟨3, ![128, 1, 512]⟩
abbrev S_ : Shape := ⟨0, ![]⟩
abbrev S3x1024x128 : Shape := ⟨3, ![3, 1024, 128]⟩
abbrev S128x3x1024 : Shape := ⟨3, ![128, 3, 1024]⟩
abbrev S128x3072 : Shape := ⟨2, ![128, 3072]⟩
abbrev S128 : Shape := ⟨1, ![128]⟩
abbrev S128x1 : Shape := ⟨2, ![128, 1]⟩

abbrev nBuf : Space → Nat
  | .hbm => 98
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x7168, .f32⟩
  | .hbm, ⟨4, _⟩ => ⟨S128x1024, .f32⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S128x1536, .f32⟩
  | .hbm, ⟨10, _⟩ => ⟨S128x3x512, .f32⟩
  | .hbm, ⟨11, _⟩ => ⟨S128x1x512, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S128x1x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x1x512, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S_, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S128x512, .f32⟩
  | .hbm, ⟨47, _⟩ => ⟨S128x1x512, .f32⟩
  | .hbm, ⟨48, _⟩ => ⟨S128x1x512, .f32⟩
  | .hbm, ⟨49, _⟩ => ⟨S128x1x512, .f32⟩
  | .hbm, ⟨50, _⟩ => ⟨S128x3x512, .f32⟩
  | .hbm, ⟨51, _⟩ => ⟨S3x512x1024, .f32⟩
  | .hbm, ⟨52, _⟩ => ⟨S3x1024x128, .f32⟩
  | .hbm, ⟨53, _⟩ => ⟨S128x3x1024, .f32⟩
  | .hbm, ⟨54, _⟩ => ⟨S128x3072, .f32⟩
  | .hbm, ⟨55, _⟩ => ⟨S128x3x1024, .f32⟩
  | .hbm, ⟨56, _⟩ => ⟨S128x3x1024, .f32⟩
  | .hbm, ⟨57, _⟩ => ⟨S128x3x1024, .f32⟩
  | .hbm, ⟨58, _⟩ => ⟨S_, .f32⟩
  | .hbm, ⟨59, _⟩ => ⟨S128x3x1024, .f32⟩
  | .hbm, ⟨60, _⟩ => ⟨S128x3x1024, .f32⟩
  | .hbm, ⟨61, _⟩ => ⟨S_, .f32⟩
  | .hbm, ⟨62, _⟩ => ⟨S128x3x1024, .f32⟩
  | .hbm, ⟨63, _⟩ => ⟨S128x3x1024, .f32⟩
  | .hbm, ⟨64, _⟩ => ⟨S128x1024, .f32⟩
  | .hbm, ⟨65, _⟩ => ⟨S1024x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128, .f32⟩
  | .hbm, ⟨73, _⟩ => ⟨S128x1, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128, .f32⟩
  | .hbm, ⟨82, _⟩ => ⟨S128x1, .f32⟩
  | .hbm, ⟨83, _⟩ => ⟨S_, .f32⟩
  | .hbm, ⟨84, _⟩ => ⟨S128x1, .f32⟩
  | .hbm, ⟨85, _⟩ => ⟨S128x1, .f32⟩
  | .hbm, ⟨86, _⟩ => ⟨S128x1024, .f32⟩
  | .hbm, ⟨87, _⟩ => ⟨S128x1024, .f32⟩
  | .hbm, ⟨88, _⟩ => ⟨S_, .f32⟩
  | .hbm, ⟨89, _⟩ => ⟨S128x1, .f32⟩
  | .hbm, ⟨90, _⟩ => ⟨S128x1, .f32⟩
  | .hbm, ⟨91, _⟩ => ⟨S128x1, .f32⟩
  | .hbm, ⟨92, _⟩ => ⟨S128x1024, .f32⟩
  | .hbm, ⟨93, _⟩ => ⟨S128x1024, .f32⟩
  | .hbm, ⟨94, _⟩ => ⟨S128x1024, .f32⟩
  | .hbm, ⟨95, _⟩ => ⟨S128x1024, .f32⟩
  | .hbm, ⟨96, _⟩ => ⟨S128x1024, .f32⟩
  | .hbm, ⟨97, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst : Ref sig .tc := ⟨.hbm, 58, rfl⟩
abbrev main_v25 : Ref sig .tc := ⟨.hbm, 59, rfl⟩
abbrev main_v26 : Ref sig .tc := ⟨.hbm, 60, rfl⟩
abbrev main_cst_0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_2 : Ref sig .tc := ⟨.hbm, 71, rfl⟩
abbrev main_v35 : Ref sig .tc := ⟨.hbm, 72, rfl⟩
abbrev main_v36 : Ref sig .tc := ⟨.hbm, 73, rfl⟩
abbrev main_cst_3 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_6 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩

abbrev nD : Nat := 1
abbrev τ : Topo := Topo.v7x

variable {F : FTy → Type} [FloatOps F]
-- ==== Kernel9.lean ====
abbrev S128x8x128 : Shape := ⟨3, ![128, 8, 128]⟩
abbrev S128x8x64 : Shape := ⟨3, ![128, 8, 64]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S8x128x128 : Shape := ⟨3, ![8, 128, 128]⟩
abbrev S128x512 : Shape := ⟨2, ![128, 512]⟩
abbrev S1x128x128 : Shape := ⟨3, ![1, 128, 128]⟩
abbrev S128x128 : Shape := ⟨2, ![128, 128]⟩
abbrev S1x128x512 : Shape := ⟨3, ![1, 128, 512]⟩

abbrev nBuf : Space → Nat
  | .hbm => 19
  | .vmem => 3
  | .smem => 0
  | _ => 0

abbrev bufTy : (tb : Table) → Fin (tcTables nBuf tb) → BufTy
  | .hbm, ⟨0, _⟩ => ⟨S128x8x128, .f32⟩
  | .hbm, ⟨1, _⟩ => ⟨S128x8x64, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .f32⟩
  | .hbm, ⟨9, _⟩ => ⟨S8x128x64, .f32⟩
  | .hbm, ⟨10, _⟩ => ⟨S8x128x1x64, .f32⟩
  | .hbm, ⟨11, _⟩ => ⟨S8x1x8x1, .f32⟩
  | .hbm, ⟨12, _⟩ => ⟨S8x128x8x64, .f32⟩
  | .hbm, ⟨13, _⟩ => ⟨S8x128x8x64, .f32⟩
  | .hbm, ⟨14, _⟩ => ⟨S8x128x8x64, .f32⟩
  | .hbm, ⟨15, _⟩ => ⟨S8x128x512, .f32⟩
  | .hbm, ⟨16, _⟩ => ⟨S8x128x512, .bf16⟩
  | .hbm, ⟨17, _⟩ => ⟨S8x128x128, .f32⟩
  | .hbm, ⟨18, _⟩ => ⟨S128x512, .f32⟩
  | .local _ .vmem, ⟨0, _⟩ => ⟨S8x128x128, .f32⟩
  | .local _ .vmem, ⟨1, _⟩ => ⟨S8x128x512, .bf16⟩
  | .local _ .vmem, ⟨2, _⟩ => ⟨S128x512, .f32⟩
  | _, _ => ⟨S128x8x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S128x8x128 : Shape := ⟨3, ![128, 8, 128]⟩
abbrev S128x8x64 : Shape := ⟨3, ![128, 8, 64]⟩
abbrev S8x64x128 : Shape := ⟨3, ![8, 64, 128]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S128x8x128, .f32⟩
  | .hbm, ⟨1, _⟩ => ⟨S128x8x64, .f32⟩
  | .hbm, ⟨2, _⟩ => ⟨S8x64x128, .f32⟩
  | .hbm, ⟨3, _⟩ => ⟨S128x8x64, .f32⟩
  | .hbm, ⟨4, _⟩ => ⟨S128x512, .f32⟩
  | _, _ => ⟨S128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Softmax.lean ====
/- The running softmax of one attention row, over the extended reals. -/
module

public import Idealize.ShloMosaic.PureOps.Ideal
public import Idealize.ShloMosaic.PureOps.Ideal.Laws

@[expose] public section

noncomputable section

namespace Cert.Softmax

open Idealize.ShloMosaic
open scoped BigOperators

/-- `u` is the weight `2^S` of the base-2 logit `S`; a masked logit, which is `⊥`, weighs nothing. -/
def Wt (S : EReal) (u : ℝ) : Prop := (S = ⊥ ∧ u = 0) ∨ ∃ x : ℝ, S = x ∧ u = (2 : ℝ) ^ x

theorem Wt.nonneg {S : EReal} {u : ℝ} (h : Wt S u) : 0 ≤ u := by
  rcases h with ⟨_, rfl⟩ | ⟨x, _, rfl⟩
  · exact le_rfl
  · positivity

theorem Wt.pos {S : EReal} {u : ℝ} (h : Wt S u) (hS : S ≠ ⊥) : 0 < u := by
  rcases h with ⟨h, rfl⟩ | ⟨x, _, rfl⟩
  · exact absurd h hS
  · positivity

theorem Wt.ne_top {S : EReal} {u : ℝ} (h : Wt S u) : S ≠ ⊤ := by
  rcases h with ⟨rfl, _⟩ | ⟨x, rfl, _⟩
  · exact bot_ne_top
  · exact EReal.coe_ne_top x

theorem exp2_real (x : ℝ) : Ideal.exp2 (x : EReal) = (((2 : ℝ) ^ x : ℝ) : EReal) := rfl

/-- A logit's weight relative to a finite maximum. -/
theorem Wt.exp2_sub {S : EReal} {u : ℝ} (h : Wt S u) (μ : ℝ) :
    Ideal.exp2 (S - (μ : EReal)) = (((2 : ℝ) ^ (-μ) * u : ℝ) : EReal) := by
  rcases h with ⟨rfl, rfl⟩ | ⟨x, rfl, rfl⟩
  · rw [EReal.bot_sub, Ideal.exp2_bot, mul_zero, EReal.coe_zero]
  · rw [← EReal.coe_sub, exp2_real, ← Real.rpow_add (by norm_num), neg_add_eq_sub]

/-- The running maximum `M`, sum `L` and weighted sum `A` of the keys seen so far, against their total weight `U`
    and weighted values `W`: none seen, or both sums are scaled by `2^(-M)` with `M` finite. -/
def St {D : Type} (U : ℝ) (W : D → EReal) (M L : EReal) (A : D → EReal) : Prop :=
  (M = ⊥ ∧ L = 0 ∧ (∀ d, A d = 0) ∧ U = 0 ∧ ∀ d, W d = 0) ∨
    ∃ μ : ℝ, M = μ ∧ L = (((2 : ℝ) ^ (-μ) * U : ℝ) : EReal) ∧ ∀ d, A d = (((2 : ℝ) ^ (-μ) : ℝ) : EReal) * W d

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many logits, at least one of them finite, is finite. -/
theorem sup_real {ι : Type} [Fintype ι] (S : ι → EReal) (hS : ∀ j, S j ≠ ⊤) (j₀ : ι) (h₀ : S j₀ ≠ ⊥) :
    ∃ σ : ℝ, Finset.univ.sup S = σ := by
  have hb : Finset.univ.sup S ≠ ⊥ := fun h =>
    h₀ (le_bot_iff.mp (h ▸ Finset.le_sup (Finset.mem_univ j₀)))
  have ht : Finset.univ.sup S ≠ ⊤ := by
    obtain ⟨i, _, hi⟩ := Finset.exists_mem_eq_sup Finset.univ ⟨j₀, Finset.mem_univ j₀⟩ S
    rw [hi]; exact hS i
  exact ⟨(Finset.univ.sup S).toReal, (EReal.coe_toReal ht hb).symm⟩

theorem max_real {M : EReal} {σ : ℝ} (hM : M = ⊥ ∨ ∃ μ : ℝ, M = μ) : ∃ ν : ℝ, max M (σ : EReal) = ν := by
  rcases hM with rfl | ⟨μ, rfl⟩
  · exact ⟨σ, max_eq_right bot_le⟩
  · exact ⟨max μ σ, by rcases le_total μ σ with h | h
                       · rw [max_eq_right h, max_eq_right (EReal.coe_le_coe_iff.mpr h)]
                       · rw [max_eq_left h, max_eq_left (EReal.coe_le_coe_iff.mpr h)]⟩

/-- A nonnegative real factor distributes over a finite sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- One block of keys folded in: the new maximum covers the block, the old sums are rescaled, the block's added. -/
theorem St.step {D ι : Type} [Fintype ι] {U : ℝ} {W : D → EReal} {M L : EReal} {A : D → EReal} (h : St U W M L A)
    (S : ι → EReal) (u : ι → ℝ) (V : ι → D → EReal) (hS : ∀ j, Wt (S j) (u j)) (j₀ : ι) (h₀ : S j₀ ≠ ⊥) :
    St (U + ∑ j, u j) (fun d => W d + ∑ j, (u j : EReal) * V j d) (max M (Finset.univ.sup S))
      (Ideal.exp2 (M - max M (Finset.univ.sup S)) * L + ∑ j, Ideal.exp2 (S j - max M (Finset.univ.sup S)))
      (fun d => Ideal.exp2 (M - max M (Finset.univ.sup S)) * A d
        + ∑ j, Ideal.exp2 (S j - max M (Finset.univ.sup S)) * V j d) := by
  obtain ⟨σ, hσ⟩ := sup_real S (fun j => (hS j).ne_top) j₀ h₀
  obtain ⟨ν, hν⟩ := max_real (M := M) (σ := σ)
    (h.elim (fun h => .inl h.1) (fun ⟨μ, h, _⟩ => .inr ⟨μ, h⟩))
  rw [hσ, hν]
  have hp : (0 : ℝ) ≤ (2 : ℝ) ^ (-ν) := by positivity
  refine .inr ⟨ν, rfl, ?_, fun d => ?_⟩
  · simp only [(hS _).exp2_sub ν, ← coe_sum]
    rcases h with ⟨rfl, rfl, hA, rfl, hW⟩ | ⟨μ, rfl, rfl, hA⟩
    · rw [mul_zero, zero_add, zero_add, Finset.mul_sum]
    · rw [← EReal.coe_sub, exp2_real]
      have e : (2 : ℝ) ^ (μ - ν) * (2 : ℝ) ^ (-μ) = (2 : ℝ) ^ (-ν) := by
        rw [← Real.rpow_add (by norm_num)]; congr 1; ring
      rw [← EReal.coe_mul, ← EReal.coe_add, ← mul_assoc, e, mul_add, Finset.mul_sum]
  · simp only [(hS _).exp2_sub ν, EReal.coe_mul, mul_assoc]
    rw [← coe_mul_sum _ hp]
    rcases h with ⟨rfl, rfl, hA, rfl, hW⟩ | ⟨μ, rfl, rfl, hA⟩
    · rw [hA d, hW d, mul_zero, zero_add, zero_add]
    · rw [← EReal.coe_sub, exp2_real]
      have e : (2 : ℝ) ^ (μ - ν) * (2 : ℝ) ^ (-μ) = (2 : ℝ) ^ (-ν) := by
        rw [← Real.rpow_add (by norm_num)]; congr 1; ring
      rw [hA d, ← mul_assoc, ← EReal.coe_mul, e,
        EReal.left_distrib_of_nonneg_of_ne_top (EReal.coe_nonneg.mpr hp) (EReal.coe_ne_top _)]

/-- Before any key. -/
theorem St.init {D : Type} : St (D := D) 0 (fun _ => 0) ⊥ 0 (fun _ => 0) :=
  .inl ⟨rfl, rfl, fun _ => rfl, rfl, fun _ => rfl⟩

/-- The quotient of the two sums after all keys: the weighted mean of the values. -/
theorem St.out {D : Type} {U : ℝ} {W : D → EReal} {M L : EReal} {A : D → EReal} (h : St U W M L A) (hU : 0 < U) (d : D) :
    Ideal.div (A d) L = W d * ((U⁻¹ : ℝ) : EReal) := by
  rcases h with ⟨_, _, _, rfl, _⟩ | ⟨μ, _, rfl, hA⟩
  · exact absurd hU (lt_irrefl _)
  · have hp : (0 : ℝ) < (2 : ℝ) ^ (-μ) := by positivity
    rw [hA d, Ideal.div_coe (mul_pos hp hU).ne', mul_comm _ (W d), mul_assoc, ← EReal.coe_mul]
    refine congrArg (fun x : ℝ => W d * (x : EReal)) ?_
    field_simp

/-- `T` is the natural-base logit of weight `u`: `⊥` with weight `0`, or `x · log 2` with weight `2^x`. -/
def WtN (T : EReal) (u : ℝ) : Prop := (T = ⊥ ∧ u = 0) ∨ ∃ y : ℝ, T = y ∧ u = Real.exp y

theorem WtN.exp_sub {T : EReal} {u : ℝ} (h : WtN T u) (μ : ℝ) :
    Ideal.exp (T - (μ : EReal)) = ((Real.exp (-μ) * u : ℝ) : EReal) := by
  rcases h with ⟨rfl, rfl⟩ | ⟨x, rfl, rfl⟩
  · rw [EReal.bot_sub, Ideal.exp_bot, mul_zero, EReal.coe_zero]
  · rw [← EReal.coe_sub, Ideal.exp_coe, ← Real.exp_add, neg_add_eq_sub]

theorem WtN.ne_top {T : EReal} {u : ℝ} (h : WtN T u) : T ≠ ⊤ := by
  rcases h with ⟨rfl, _⟩ | ⟨x, rfl, _⟩
  · exact bot_ne_top
  · exact EReal.coe_ne_top x

/-- `2^x` is the exponential of `x · log 2`. -/
theorem two_rpow (x : ℝ) : (2 : ℝ) ^ x = Real.exp (x * Real.log 2) := by
  rw [Real.rpow_def_of_pos (by norm_num), mul_comm]

/-- The textbook softmax of a row, its maximum subtracted first: the weights over their sum. -/
theorem softmax_row {ι : Type} [Fintype ι] (T : ι → EReal) (u : ι → ℝ) (hT : ∀ j, WtN (T j) (u j)) (j₀ : ι)
    (h₀ : T j₀ ≠ ⊥) (j : ι) :
    Ideal.div (Ideal.exp (T j - Finset.univ.sup T)) (∑ k, Ideal.exp (T k - Finset.univ.sup T))
      = ((u j / ∑ k, u k : ℝ) : EReal) := by
  obtain ⟨σ, hσ⟩ := sup_real T (fun j => (hT j).ne_top) j₀ h₀
  have hnn : ∀ k, 0 ≤ u k := fun k => by
    rcases hT k with ⟨_, h⟩ | ⟨x, _, h⟩ <;> rw [h]
    positivity
  have hpos : 0 < ∑ k, u k := by
    refine Finset.sum_pos' (fun k _ => hnn k) ⟨j₀, Finset.mem_univ _, ?_⟩
    rcases hT j₀ with ⟨h, _⟩ | ⟨x, _, h⟩
    · exact absurd h h₀
    · rw [h]; positivity
  simp only [hσ, (hT _).exp_sub σ, ← coe_sum, ← Finset.mul_sum]
  have hp : 0 < Real.exp (-σ) := Real.exp_pos _
  rw [Ideal.div_coe (mul_pos hp hpos).ne', ← EReal.coe_mul]
  congr 1
  field_simp

end Cert.Softmax

end
-- ==== Proof.Tile.lean ====
/- One head's and one tile's update of the running softmax, as the kernel's vector operations write it, and those
   operations read at an index. -/
module

public import Idealize.ShloMosaic.Lib.Pointwise
public import Idealize.ShloMosaic.Lib.MatmulPlain
public import Idealize.ShloMosaic.Lib.Pipeline.Value
public import proofs.«01_k».proof.Proof.Softmax

@[expose] public section

noncomputable section

namespace Cert.Tile

open Idealize.ShloMosaic
open scoped BigOperators

/-- One head's rows by lanes: 128 queries, 128 lanes. -/
abbrev HQ : Shape := ⟨2, ![128, 128]⟩
/-- One head's rows by the keys of a block: 128 queries, 512 keys. -/
abbrev HK : Shape := ⟨2, ![128, 512]⟩
/-- One number per query of a head. -/
abbrev H1 : Shape := ⟨1, ![128]⟩
/-- The same as a column. -/
abbrev HC : Shape := ⟨2, ![128, 1]⟩
/-- All eight heads' rows by lanes. -/
abbrev AQ : Shape := ⟨2, ![1024, 128]⟩
/-- All eight heads' rows by the keys of a block. -/
abbrev AK : Shape := ⟨2, ![1024, 512]⟩
/-- A block's values: 512 keys, 128 lanes. -/
abbrev VK : Shape := ⟨2, ![512, 128]⟩

theorem red : HK.Reduces [1] H1 := by decide
theorem cast1 : H1.ShapeCasts HC := by decide
theorem bcast1 : HC.Broadcasts HQ := by decide
theorem cat4 : Shape.Concatenates [HQ, HQ, HQ, HQ] HK 1 := by decide
theorem catQ : Shape.Concatenates [HQ, HQ, HQ, HQ, HQ, HQ, HQ, HQ] AQ 0 := by decide
theorem catK : Shape.Concatenates [HK, HK, HK, HK, HK, HK, HK, HK] AK 0 := by decide

/-- The new running maximum of a head: the old one and the block's. -/
def mNew (s : FVec Ideal HK .f32) (mp : FVec Ideal HQ .f32) : FVec Ideal HQ .f32 :=
  maximumf mp (broadcastTo HQ (shapeCast HC (multiReduction .maximumf [1] H1 s 0xFF800000#32 red (.inl rfl) rfl) cast1) bcast1)

/-- The factor that rescales the old sums. -/
def alpha (s : FVec Ideal HK .f32) (mp : FVec Ideal HQ .f32) : FVec Ideal HQ .f32 := exp2 (subf mp (mNew s mp))

/-- The block's weights relative to the new maximum. -/
def prob (s : FVec Ideal HK .f32) (mp : FVec Ideal HQ .f32) : FVec Ideal HK .f32 :=
  exp2 (subf s (concatenate HK 1 [⟨HQ, mNew s mp⟩, ⟨HQ, mNew s mp⟩, ⟨HQ, mNew s mp⟩, ⟨HQ, mNew s mp⟩] cat4))

/-- The new running sum of weights. -/
def lNew (s : FVec Ideal HK .f32) (mp lp : FVec Ideal HQ .f32) : FVec Ideal HQ .f32 :=
  addf (mulf (alpha s mp) lp)
    (broadcastTo HQ (shapeCast HC (multiReduction .add [1] H1 (prob s mp) 0x00000000#32 red (.inl rfl) rfl) cast1) bcast1)

/-- Eight heads' rows laid one after another. -/
def stackQ (f : Fin 8 → FVec Ideal HQ .f32) : FVec Ideal AQ .f32 :=
  concatenate AQ 0 [⟨HQ, f 0⟩, ⟨HQ, f 1⟩, ⟨HQ, f 2⟩, ⟨HQ, f 3⟩, ⟨HQ, f 4⟩, ⟨HQ, f 5⟩, ⟨HQ, f 6⟩, ⟨HQ, f 7⟩] catQ

/-- Eight heads' weights laid one after another. -/
def stackK {φ : FTy} (f : Fin 8 → FVec Ideal HK φ) : FVec Ideal AK φ :=
  concatenate AK 0 [⟨HK, f 0⟩, ⟨HK, f 1⟩, ⟨HK, f 2⟩, ⟨HK, f 3⟩, ⟨HK, f 4⟩, ⟨HK, f 5⟩, ⟨HK, f 6⟩, ⟨HK, f 7⟩] catK

/-- The new running sum of weighted values, all heads in one product. -/
def aNew (D : DotDims AK VK AQ) (hb : FTy.bf16.bits < FTy.f32.bits) (s : Fin 8 → FVec Ideal HK .f32)
    (mp : Fin 8 → FVec Ideal HQ .f32) (v : FVec Ideal VK .bf16) (ap : FVec Ideal AQ .f32) : FVec Ideal AQ .f32 :=
  addf (mulf (stackQ fun h => alpha (s h) (mp h)) ap)
    (matmul D none (stackK fun h => truncf .bf16 (prob (s h) (mp h)) hb) v (constant AQ .f32 0x00000000#32))

theorem ofBits_neg_inf : Ideal.ofBits .f32 0xFF800000#32 = ⊥ := by
  simp [Ideal.ofBits, Ideal.ieee]

theorem mNew_apply (s : FVec Ideal HK .f32) (mp : FVec Ideal HQ .f32) (r : Fin 128) (l : Fin 128) :
    mNew s mp (ix2 r l) = max (mp (ix2 r l)) (Finset.univ.sup fun j : Fin 512 => s (ix2 r j)) := by
  pointwise [mNew]
  rw [ofBits_neg_inf]
  rfl

theorem alpha_apply (s : FVec Ideal HK .f32) (mp : FVec Ideal HQ .f32) (r : Fin 128) (l : Fin 128) :
    alpha s mp (ix2 r l) = Ideal.exp2 (mp (ix2 r l) - mNew s mp (ix2 r l)) := by
  rfl

theorem prob_apply (s : FVec Ideal HK .f32) (mp : FVec Ideal HQ .f32) (r : Fin 128) (j : Fin 512) :
    prob s mp (ix2 r j)
      = Ideal.exp2 (s (ix2 r j) - mNew s mp (ix2 r ⟨j.val % 128, Nat.mod_lt _ (by decide)⟩)) := by
  have h := concatenate_replicate_apply (t := HK) (s₁ := HQ) 1 4 (mNew s mp) cat4 rfl (ix2 r j)
    (ix2 r ⟨j.val % 128, Nat.mod_lt _ (by decide)⟩) rfl (fun b hb => by
      match b with
      | ⟨0, _⟩ => rfl
      | ⟨1, _⟩ => exact absurd rfl hb)
  exact congrArg (fun x => Ideal.exp2 (s (ix2 r j) - x)) h

theorem lNew_apply (s : FVec Ideal HK .f32) (mp lp : FVec Ideal HQ .f32) (r : Fin 128) (l : Fin 128) :
    lNew s mp lp (ix2 r l) = alpha s mp (ix2 r l) * lp (ix2 r l) + ∑ j : Fin 512, prob s mp (ix2 r j) := by
  pointwise [lNew]

theorem stackQ_apply (f : Fin 8 → FVec Ideal HQ .f32) (h : Fin 8) (r l : Fin 128) (R : Fin 1024)
    (hR : R.val = h.val * 128 + r.val) : stackQ f (ix2 R l) = f h (ix2 r l) :=
  concatenate_ofFn_apply (t := AQ) (s₁ := HQ) 0 f catQ rfl 128 rfl (ix2 R l) h
    (by show R.val / 128 = h.val; omega) (ix2 r l) (by show r.val = R.val % 128; omega) (fun b hb => by
      match b with
      | ⟨0, _⟩ => exact absurd rfl hb
      | ⟨1, _⟩ => rfl)

theorem stackK_apply {φ : FTy} (f : Fin 8 → FVec Ideal HK φ) (h : Fin 8) (r : Fin 128) (l : Fin 512) (R : Fin 1024)
    (hR : R.val = h.val * 128 + r.val) : stackK f (ix2 R l) = f h (ix2 r l) :=
  concatenate_ofFn_apply (t := AK) (s₁ := HK) 0 f catK rfl 128 rfl (ix2 R l) h
    (by show R.val / 128 = h.val; omega) (ix2 r l) (by show r.val = R.val % 128; omega) (fun b hb => by
      match b with
      | ⟨0, _⟩ => exact absurd rfl hb
      | ⟨1, _⟩ => rfl)

/-- The product's dimension numbers: rows by keys against keys by lanes. -/
def dot : DotDims AK VK AQ := DotDims.plain 1024 512 128

theorem matmul_plain (x : FVec Ideal AK .bf16) (v : FVec Ideal VK .bf16) (R : Fin 1024) (d : Fin 128) :
    matmul dot none x v (constant AQ .f32 0x00000000#32) (ix2 R d) = ∑ j : Fin 512, x (ix2 R j) * v (ix2 j d) := by
  simp only [ix2_eq_valueIdx]
  refine (Ideal.matmul_plain_apply none x v _ R d).trans ?_
  rw [show (constant (F := Ideal) AQ .f32 0x00000000#32) (ValueIdx.ix2 R d) = 0 from Ideal.ofBits_zero_f32, zero_add]

theorem aNew_apply (hb : FTy.bf16.bits < FTy.f32.bits) (s : Fin 8 → FVec Ideal HK .f32)
    (mp : Fin 8 → FVec Ideal HQ .f32) (v : FVec Ideal VK .bf16) (ap : FVec Ideal AQ .f32) (h : Fin 8) (r d : Fin 128)
    (R : Fin 1024) (hR : R.val = h.val * 128 + r.val) :
    aNew dot hb s mp v ap (ix2 R d) = alpha (s h) (mp h) (ix2 r d) * ap (ix2 R d)
      + ∑ j : Fin 512, prob (s h) (mp h) (ix2 r j) * v (ix2 j d) := by
  show stackQ _ (ix2 R d) * ap (ix2 R d) + matmul dot none _ v _ (ix2 R d) = _
  rw [stackQ_apply _ h r d R hR, matmul_plain]
  refine congrArg (_ + ·) (Finset.sum_congr rfl fun j _ => ?_)
  rw [stackK_apply _ h r j R hR]
  rfl

end Cert.Tile

end
-- ==== Proof.Rows.lean ====
/- The running softmax state of a tile's 1024 rows held in three arrays, one step of it, and the eight row stores that
   write it. -/
module

public import proofs.«01_k».proof.Proof.Tile
public import Idealize.ShloMosaic.Lib.WritesUnit

@[expose] public section

noncomputable section

namespace Cert.Tile

open Idealize.ShloMosaic Cert.Softmax
open scoped BigOperators

/-- Row `r` of head `h` among the 1024 rows. -/
def row (h : Fin 8) (r : Fin 128) : Fin 1024 := ⟨h.val * 128 + r.val, by omega⟩

theorem row_val (h : Fin 8) (r : Fin 128) : (row h r).val = h.val * 128 + r.val := rfl

theorem exists_row (R : Fin 1024) : ∃ h r, R = row h r :=
  ⟨⟨R.val / 128, by omega⟩, ⟨R.val % 128, by omega⟩, Fin.ext (by show R.val = R.val / 128 * 128 + R.val % 128; omega)⟩

/-- Head `h`'s rows of an array of all heads' rows. -/
def rowsOf (X : AQ.Idx → EReal) (h : Fin 8) : FVec Ideal HQ .f32 := fun x => X (ix2 (row h (x 0)) (x 1))

theorem rowsOf_apply (X : AQ.Idx → EReal) (h : Fin 8) (r l : Fin 128) : rowsOf X h (ix2 r l) = X (ix2 (row h r) l) := rfl

/-- The three arrays hold, at every row, the running softmax state of weight `U` and weighted values `W`; the maximum
    and the sum are the same on all lanes. -/
def Inv (U : Fin 1024 → ℝ) (W : Fin 1024 → Fin 128 → EReal) (X5 X6 X7 : AQ.Idx → EReal) : Prop :=
  ∀ R, ∃ M L, (∀ l, X5 (ix2 R l) = M) ∧ (∀ l, X6 (ix2 R l) = L) ∧ St (U R) (W R) M L (fun d => X7 (ix2 R d))

/-- The arrays after one block of keys, from those before it. -/
structure Stepped (hb : FTy.bf16.bits < FTy.f32.bits) (s : Fin 8 → FVec Ideal HK .f32) (v : FVec Ideal VK .bf16)
    (X5 X6 X7 Y5 Y6 Y7 : AQ.Idx → EReal) : Prop where
  y5 : ∀ h r l, Y5 (ix2 (row h r) l) = mNew (s h) (rowsOf X5 h) (ix2 r l)
  y6 : ∀ h r l, Y6 (ix2 (row h r) l) = lNew (s h) (rowsOf X5 h) (rowsOf X6 h) (ix2 r l)
  y7 : Y7 = aNew dot hb s (rowsOf X5) v X7

/-- One block keeps the invariant: the block's weights and weighted values are added to each row's. -/
theorem Stepped.inv {hb : FTy.bf16.bits < FTy.f32.bits} {s : Fin 8 → FVec Ideal HK .f32} {v : FVec Ideal VK .bf16}
    {X5 X6 X7 Y5 Y6 Y7 : AQ.Idx → EReal} (hS : Stepped hb s v X5 X6 X7 Y5 Y6 Y7)
    {U : Fin 1024 → ℝ} {W : Fin 1024 → Fin 128 → EReal} (hI : Inv U W X5 X6 X7)
    (u : Fin 1024 → Fin 512 → ℝ) (hu : ∀ h r j, Wt (s h (ix2 r j)) (u (row h r) j)) (hne : ∀ h r, s h (ix2 r 0) ≠ ⊥) :
    Inv (fun R => U R + ∑ j, u R j) (fun R d => W R d + ∑ j, (u R j : EReal) * v (ix2 j d)) Y5 Y6 Y7 := by
  intro R
  obtain ⟨h, r, rfl⟩ := exists_row R
  obtain ⟨M, L, hM, hL, hSt⟩ := hI (row h r)
  have e5 : ∀ l, mNew (s h) (rowsOf X5 h) (ix2 r l) = max M (Finset.univ.sup fun j : Fin 512 => s h (ix2 r j)) :=
    fun l => by rw [mNew_apply, rowsOf_apply, hM]
  have eα : ∀ l, alpha (s h) (rowsOf X5 h) (ix2 r l)
      = Ideal.exp2 (M - max M (Finset.univ.sup fun j : Fin 512 => s h (ix2 r j))) :=
    fun l => by rw [alpha_apply, e5, rowsOf_apply, hM]
  have ep : ∀ j, prob (s h) (rowsOf X5 h) (ix2 r j)
      = Ideal.exp2 (s h (ix2 r j) - max M (Finset.univ.sup fun j : Fin 512 => s h (ix2 r j))) :=
    fun j => by rw [prob_apply, e5]
  have key := hSt.step (fun j => s h (ix2 r j)) (u (row h r)) (fun j d => v (ix2 j d)) (hu h r) 0 (hne h r)
  refine ⟨max M (Finset.univ.sup fun j : Fin 512 => s h (ix2 r j)), Ideal.exp2 (M - max M (Finset.univ.sup fun j : Fin 512 => s h (ix2 r j))) * L
      + ∑ j, Ideal.exp2 (s h (ix2 r j) - max M (Finset.univ.sup fun j : Fin 512 => s h (ix2 r j))),
    fun l => (hS.y5 h r l).trans (e5 l), fun l => ?_, ?_⟩
  · rw [hS.y6, lNew_apply, eα, rowsOf_apply, hL]
    simp only [ep]
  · have e7 : (fun d => Y7 (ix2 (row h r) d)) = fun d =>
        Ideal.exp2 (M - max M (Finset.univ.sup fun j : Fin 512 => s h (ix2 r j))) * X7 (ix2 (row h r) d)
          + ∑ j, Ideal.exp2 (s h (ix2 r j) - max M (Finset.univ.sup fun j : Fin 512 => s h (ix2 r j))) * v (ix2 j d) := by
      funext d
      rw [hS.y7, aNew_apply hb s (rowsOf X5) v X7 h r d _ (row_val h r), eα]
      simp only [ep]
    rw [e7]
    exact key

variable {sig : RefSig} {κ : Kind} {sp : Space}

theorem inbH (h : Fin 8) : ∀ a, (![h.val * 128, 0] : Fin 2 → ℕ) a + HQ.size a ≤ AQ.size a :=
  Fin.forall_fin_two.mpr ⟨by show h.val * 128 + 128 ≤ 1024; omega, by show 0 + 128 ≤ 128; omega⟩

/-- The store of one head's rows. -/
abbrev rowPiece (h : Fin 8) (P : Fin 8 → FVec Ideal HQ .f32) : View.Piece (Elt Ideal) AQ .f32 :=
  ⟨Rect.unit (s := AQ) ![h.val * 128, 0] HQ.size (inbH h), P h⟩

/-- The stores of the eight heads' rows, the last head's newest, over the stores `L`. -/
abbrev rows8 (P : Fin 8 → FVec Ideal HQ .f32) (L : List (View.Piece (Elt Ideal) AQ .f32)) :
    List (View.Piece (Elt Ideal) AQ .f32) :=
  rowPiece 7 P :: rowPiece 6 P :: rowPiece 5 P :: rowPiece 4 P :: rowPiece 3 P :: rowPiece 2 P :: rowPiece 1 P
    :: rowPiece 0 P :: L

theorem read_rowPiece_ne (v : View sig κ sp AQ .f32) (f : v.ty.Contents (Elt Ideal)) (k : Fin 8)
    (P : Fin 8 → FVec Ideal HQ .f32) (L : List (View.Piece (Elt Ideal) AQ .f32)) (h : Fin 8) (hk : h ≠ k) (r l : Fin 128) :
    v.read (Elt Ideal) (v.writes (Elt Ideal) f (rowPiece k P :: L)) (ix2 (row h r) l)
      = v.read (Elt Ideal) (v.writes (Elt Ideal) f L) (ix2 (row h r) l) :=
  View.read_writes_cons_rows_of_not_mem v f (d := ![1024, 128]) (o := k.val * 128) (W := 128) (inbH k) (P k) L _ rfl rfl (by
    have : h.val ≠ k.val := fun e => hk (Fin.ext e)
    show h.val * 128 + r.val < k.val * 128 ∨ k.val * 128 + 128 ≤ h.val * 128 + r.val
    omega)

theorem read_rowPiece_eq (v : View sig κ sp AQ .f32) (f : v.ty.Contents (Elt Ideal)) (P : Fin 8 → FVec Ideal HQ .f32)
    (L : List (View.Piece (Elt Ideal) AQ .f32)) (h : Fin 8) (r l : Fin 128) :
    v.read (Elt Ideal) (v.writes (Elt Ideal) f (rowPiece h P :: L)) (ix2 (row h r) l) = P h (ix2 r l) :=
  View.read_writes_cons_rows_of_mem v f (d := ![1024, 128]) (o := h.val * 128) (inbH h) (P h) L _ (ix2 r l) rfl rfl rfl

/-- Each row reads its own head's store. -/
theorem read_rows8 (v : View sig κ sp AQ .f32) (f : v.ty.Contents (Elt Ideal)) (P : Fin 8 → FVec Ideal HQ .f32)
    (L : List (View.Piece (Elt Ideal) AQ .f32)) (h : Fin 8) (r l : Fin 128) :
    v.read (Elt Ideal) (v.writes (Elt Ideal) f (rows8 P L)) (ix2 (row h r) l) = P h (ix2 r l) := by
  fin_cases h <;>
  · repeat rw [read_rowPiece_ne v f _ P _ _ (by decide)]
    exact read_rowPiece_eq v f P _ _ r l

/-- A load of one head's rows. -/
theorem readAt_rows (v : View sig κ sp AQ .f32) (f : v.ty.Contents (Elt Ideal)) (h : Fin 8) :
    v.readAt (Elt Ideal) (Rect.unit (s := AQ) ![h.val * 128, 0] HQ.size (inbH h)).toLoadRect f
      = rowsOf (v.read (Elt Ideal) f) h := by
  funext x
  refine congrArg (v.read (Elt Ideal) f) ?_
  funext a
  apply Fin.ext
  match a with
  | ⟨0, _⟩ => show h.val * 128 + 1 * (x 0).val = h.val * 128 + (x 0).val; rw [one_mul]
  | ⟨1, _⟩ => show 0 + 1 * (x 1).val = (x 1).val; omega

theorem inbA : ∀ a, (![0, 0] : Fin 2 → ℕ) a + AQ.size a ≤ AQ.size a :=
  Fin.forall_fin_two.mpr ⟨by decide, by decide⟩

/-- The store of a whole array. -/
abbrev wholePiece (w : FVec Ideal AQ .f32) : View.Piece (Elt Ideal) AQ .f32 :=
  ⟨Rect.unit (s := AQ) ![0, 0] AQ.size inbA, w⟩

theorem read_wholePiece (v : View sig κ sp AQ .f32) (f : v.ty.Contents (Elt Ideal)) (w : FVec Ideal AQ .f32)
    (L : List (View.Piece (Elt Ideal) AQ .f32)) :
    v.read (Elt Ideal) (v.writes (Elt Ideal) f (wholePiece w :: L)) = w := by
  funext y
  exact View.read_writes_cons_rows_of_mem v f (d := ![1024, 128]) (o := 0) inbA w L y y rfl (Nat.zero_add _).symm rfl

theorem readAt_whole (v : View sig κ sp AQ .f32) (f : v.ty.Contents (Elt Ideal)) :
    v.readAt (Elt Ideal) (Rect.unit (s := AQ) ![0, 0] AQ.size inbA).toLoadRect f = v.read (Elt Ideal) f := by
  funext x
  refine congrArg (v.read (Elt Ideal) f) ?_
  funext a
  apply Fin.ext
  match a with
  | ⟨0, _⟩ => show 0 + 1 * (x 0).val = (x 0).val; omega
  | ⟨1, _⟩ => show 0 + 1 * (x 1).val = (x 1).val; omega

/-- A load of one head's rows passes over a store of another head's. -/
theorem cov_skip (v : View sig κ sp AQ .f32) (k h : Fin 8) (hk : h ≠ k) (w : FVec Ideal HQ .f32)
    {L L₀ : List (View.Piece (Elt Ideal) AQ .f32)}
    (hL : v.readCov L (Rect.unit (s := AQ) ![h.val * 128, 0] HQ.size (inbH h)).toLoadRect
      = rowsOf (v.read (Elt Ideal) (v.writes (Elt Ideal) v.junk L₀)) h) :
    v.readCov (⟨Rect.unit (s := AQ) ![k.val * 128, 0] HQ.size (inbH k), w⟩ :: L)
        (Rect.unit (s := AQ) ![h.val * 128, 0] HQ.size (inbH h)).toLoadRect
      = rowsOf (v.read (Elt Ideal) (v.writes (Elt Ideal) v.junk L₀)) h := by
  rw [← hL]
  refine (readAt_rows v _ h).trans (Eq.trans ?_ (readAt_rows v _ h).symm)
  funext x
  exact read_rowPiece_ne v v.junk k (fun _ => w) L h hk (x 0) (x 1)

end Cert.Tile

end
-- ==== Proof.Trip.lean ====
/- One trip of the kernel's loop over whole blocks of keys: what it stores, as one step of the running softmax. -/
module

public import proofs.«01_k».proof.Proof.Rows
public import proofs.«01_k».proof.Proof.Gen.KernelIdeal.Loops
import all proofs.«01_k».proof.Proof.Gen.KernelIdeal.Loops

@[expose] public section

noncomputable section

namespace Cert.Mla

open Idealize.ShloMosaic Cert.Tile Cert.KernelIdeal Cert.KernelIdeal.Gen
open scoped BigOperators

attribute [local instance] Cert.KernelIdeal.Gen.facts

/-- Eight heads' queries. -/
abbrev QQ : Shape := ⟨2, ![1024, 256]⟩
/-- A block's keys. -/
abbrev KK : Shape := ⟨2, ![512, 256]⟩

theorem sliceH (h : Fin 8) : AK.Slices ![h.val * 128, 0] HK := by revert h; decide
theorem sliceV : KK.Slices ![0, 0] VK := by decide

/-- The dimension numbers of queries against keys. -/
def dotQK : DotDims QQ KK AK := DotDims.transposedRhs 1024 256 512

/-- All heads' logits of a block. -/
def logits (q : FVec Ideal QQ .bf16) (kv : FVec Ideal KK .bf16) : FVec Ideal AK .f32 :=
  matmul dotQK none q kv (constant AK .f32 0x00000000#32)

/-- One head's logits of a block. -/
def headLogits (q : FVec Ideal QQ .bf16) (kv : FVec Ideal KK .bf16) (h : Fin 8) : FVec Ideal HK .f32 :=
  extractStridedSlice HK ![h.val * 128, 0] (logits q kv) (sliceH h)

/-- A block's values: the first 128 lanes of its keys. -/
def vals (kv : FVec Ideal KK .bf16) : FVec Ideal VK .bf16 := extractStridedSlice VK ![0, 0] kv sliceV

section
variable (𝒱 : Variants) (c : Dev nD) (bd : Option 𝒱.V) (i : grid0.Coords) (arg1 : Memref sig .tc .vmem S8x128x256 .bf16)
  (harg1 : arg1.IsWhole) (arg2 : Memref sig .tc .vmem S16384x256 .bf16) (harg2 : arg2.IsWhole)
  (arg3 : Memref sig .tc .vmem S8x128x512 .bf16) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (v0 : BitVec 32) (v2 : FVec Ideal S1024x256 .bf16) (v19 : BitVec 32) (c0_i32_15 : BitVec 32)
  (v32 : BitVec 32) (X_arg2 : BufTy.Contents (Elt Ideal) arg2.view.ty) (k : Fin (k0_t1_loop i).trips)
  (f5 : BufTy.Contents (Elt Ideal) arg5.view.ty) (f6 : BufTy.Contents (Elt Ideal) arg6.view.ty)
  (f7 : BufTy.Contents (Elt Ideal) arg7.view.ty)

/-- The block of keys trip `k` loads. -/
def kvAt : FVec Ideal KK .bf16 :=
  View.readAt (Elt Ideal) arg2.view (Rect.unit (s := S16384x256) (k0_off1 i k) S512x256.size (Facts₀.k0_off1_inb i k)).toLoadRect X_arg2

theorem trip5 : (trip_k0_t1 (F := Ideal) 𝒱 c bd i arg1 harg1 arg2 harg2 arg3 harg3 arg4 harg4 arg5 harg5 arg6 harg6 arg7 harg7
      v0 v2 v19 c0_i32_15 v32 X_arg2 k).1 f5 f6 f7
    = rows8 (fun h => mNew (headLogits v2 (kvAt i arg2 X_arg2 k) h)
        (View.readAt (Elt Ideal) arg5.view (Rect.unit (s := AQ) ![h.val * 128, 0] HQ.size (inbH h)).toLoadRect f5)) [] := by
  unfold trip_k0_t1
  dsimp only
  simp only [trip_k0_t1.sl.v366, trip_k0_t1.sl.v389, trip_k0_t1.sl.v412, trip_k0_t1.sl.v435, trip_k0_t1.sl.v458,
    trip_k0_t1.sl.v481, trip_k0_t1.sl.v504, trip_k0_t1.sl.v527, shapeCast_self]
  rfl

theorem trip6 : (trip_k0_t1 (F := Ideal) 𝒱 c bd i arg1 harg1 arg2 harg2 arg3 harg3 arg4 harg4 arg5 harg5 arg6 harg6 arg7 harg7
      v0 v2 v19 c0_i32_15 v32 X_arg2 k).2.1 f5 f6 f7
    = rows8 (fun h => lNew (headLogits v2 (kvAt i arg2 X_arg2 k) h)
        (View.readAt (Elt Ideal) arg5.view (Rect.unit (s := AQ) ![h.val * 128, 0] HQ.size (inbH h)).toLoadRect f5)
        (View.readAt (Elt Ideal) arg6.view (Rect.unit (s := AQ) ![h.val * 128, 0] HQ.size (inbH h)).toLoadRect f6)) [] := by
  unfold trip_k0_t1
  dsimp only
  simp only [trip_k0_t1.sl.v363, trip_k0_t1.sl.v386, trip_k0_t1.sl.v409, trip_k0_t1.sl.v432, trip_k0_t1.sl.v455,
    trip_k0_t1.sl.v478, trip_k0_t1.sl.v501, trip_k0_t1.sl.v524, shapeCast_self]
  rfl

theorem trip7 : (trip_k0_t1 (F := Ideal) 𝒱 c bd i arg1 harg1 arg2 harg2 arg3 harg3 arg4 harg4 arg5 harg5 arg6 harg6 arg7 harg7
      v0 v2 v19 c0_i32_15 v32 X_arg2 k).2.2.1 f5 f6 f7
    = [wholePiece (aNew dot Facts₀.bitsLt_bf16_f32 (headLogits v2 (kvAt i arg2 X_arg2 k))
        (fun h => View.readAt (Elt Ideal) arg5.view (Rect.unit (s := AQ) ![h.val * 128, 0] HQ.size (inbH h)).toLoadRect f5)
        (vals (kvAt i arg2 X_arg2 k))
        (View.readAt (Elt Ideal) arg7.view (Rect.unit (s := AQ) ![0, 0] AQ.size inbA).toLoadRect f7))] := by
  unfold trip_k0_t1
  dsimp only
  simp only [k0_pay125, shapeCast_self]
  rfl

/-- Trip `k` is one step of the running softmax over the block it loads. -/
theorem trip_stepped :
    Stepped Facts₀.bitsLt_bf16_f32 (headLogits v2 (kvAt i arg2 X_arg2 k)) (vals (kvAt i arg2 X_arg2 k))
      (arg5.view.read (Elt Ideal) f5) (arg6.view.read (Elt Ideal) f6) (arg7.view.read (Elt Ideal) f7)
      (arg5.view.read (Elt Ideal) (arg5.view.writes (Elt Ideal) f5
        ((trip_k0_t1 (F := Ideal) 𝒱 c bd i arg1 harg1 arg2 harg2 arg3 harg3 arg4 harg4 arg5 harg5 arg6 harg6 arg7 harg7
          v0 v2 v19 c0_i32_15 v32 X_arg2 k).1 f5 f6 f7)))
      (arg6.view.read (Elt Ideal) (arg6.view.writes (Elt Ideal) f6
        ((trip_k0_t1 (F := Ideal) 𝒱 c bd i arg1 harg1 arg2 harg2 arg3 harg3 arg4 harg4 arg5 harg5 arg6 harg6 arg7 harg7
          v0 v2 v19 c0_i32_15 v32 X_arg2 k).2.1 f5 f6 f7)))
      (arg7.view.read (Elt Ideal) (arg7.view.writes (Elt Ideal) f7
        ((trip_k0_t1 (F := Ideal) 𝒱 c bd i arg1 harg1 arg2 harg2 arg3 harg3 arg4 harg4 arg5 harg5 arg6 harg6 arg7 harg7
          v0 v2 v19 c0_i32_15 v32 X_arg2 k).2.2.1 f5 f6 f7))) where
  y5 h r l := by
    rw [trip5, read_rows8]
    exact congrFun (congrArg (mNew _) (readAt_rows arg5.view f5 h)) _
  y6 h r l := by
    rw [trip6, read_rows8]
    exact congrFun (congrArg₂ (lNew _) (readAt_rows arg5.view f5 h) (readAt_rows arg6.view f6 h)) _
  y7 := by
    rw [trip7, read_wholePiece]
    exact congrArg₂ (fun a b => aNew dot Facts₀.bitsLt_bf16_f32 (headLogits v2 (kvAt i arg2 X_arg2 k)) a
      (vals (kvAt i arg2 X_arg2 k)) b) (funext fun h => readAt_rows arg5.view f5 h) (readAt_whole arg7.view f7)

end

end Cert.Mla

end
-- ==== Proof.Diag.lean ====
/- The kernel's last block of keys, where the causal mask cuts: one more step of the running softmax. -/
module

public import proofs.«01_k».proof.Proof.Trip
public import proofs.«01_k».proof.Proof.Gen.KernelIdeal.Frame.RunA
import all proofs.«01_k».proof.Proof.Gen.KernelIdeal.Frame.RunA

@[expose] public section

noncomputable section

namespace Cert.Mla

open Idealize.ShloMosaic Cert.Tile Cert.KernelIdeal Cert.KernelIdeal.Gen
open scoped BigOperators

attribute [local instance] Cert.KernelIdeal.Gen.facts

/-- The mask of the block the diagonal crosses: key at most query. -/
abbrev maskAt (i : grid0.Coords) : IVec HK 1 := k0_pay128 (kernelRun0_A.sl.v0 i) (kernelRun0_A.sl.v19 i)

/-- The masked logits of that block. -/
def maskedLogits (i : grid0.Coords) (q : FVec Ideal QQ .bf16) (kv : FVec Ideal KK .bf16) (h : Fin 8) : FVec Ideal HK .f32 :=
  select (maskAt i) (headLogits q kv h) (broadcast HK (Named.named Cert.KernelIdeal.κ "mask" 0xF149F2CA#32))

/-- One head's quotient through its weight block. -/
def proj1 (a l : FVec Ideal HQ .f32) (w : FVec Ideal S1x128x512 .bf16) : FVec Ideal S128x512 .f32 :=
  matmul (DotDims.plain 128 128 512) none (truncf .bf16 (divf a l) Facts₀.bitsLt_bf16_f32)
    (shapeCast S128x512 w Facts₀.shapeCasts_S1x128x512_S128x512) (constant S128x512 .f32 0x00000000#32)

/-- The sum over heads. -/
def proj (a l : Fin 8 → FVec Ideal HQ .f32) (w : Fin 8 → FVec Ideal S1x128x512 .bf16) : FVec Ideal S128x512 .f32 :=
  addf (addf (addf (addf (addf (addf (addf (proj1 (a 0) (l 0) (w 0)) (proj1 (a 1) (l 1) (w 1))) (proj1 (a 2) (l 2) (w 2)))
    (proj1 (a 3) (l 3) (w 3))) (proj1 (a 4) (l 4) (w 4))) (proj1 (a 5) (l 5) (w 5))) (proj1 (a 6) (l 6) (w 6)))
    (proj1 (a 7) (l 7) (w 7))

theorem proj1_apply (a l : FVec Ideal HQ .f32) (w : FVec Ideal S1x128x512 .bf16) (r : Fin 128) (e : Fin 512) :
    proj1 a l w (ix2 r e) = ∑ d : Fin 128, Ideal.div (a (ix2 r d)) (l (ix2 r d)) * w (ix3 0 d e) := by
  unfold proj1
  simp only [ix2_eq_valueIdx]
  refine (Ideal.matmul_plain_apply none _ _ _ r e).trans ?_
  rw [show (constant (F := Ideal) S128x512 .f32 0x00000000#32) (ValueIdx.ix2 r e) = 0 from Ideal.ofBits_zero_f32, zero_add]
  refine Finset.sum_congr rfl fun d _ => ?_
  refine congrArg₂ (· * ·) rfl ?_
  rw [← ix2_eq_valueIdx]
  pointwise []

theorem proj_apply (a l : Fin 8 → FVec Ideal HQ .f32) (w : Fin 8 → FVec Ideal S1x128x512 .bf16) (r : Fin 128) (e : Fin 512) :
    proj a l w (ix2 r e) = ∑ h : Fin 8, ∑ d : Fin 128, Ideal.div (a h (ix2 r d)) (l h (ix2 r d)) * w h (ix3 0 d e) := by
  simp only [Fin.sum_univ_eight, ← proj1_apply]
  rfl

theorem inbW (h : Fin 8) : ∀ a, (![h.val, 0, 0] : Fin 3 → ℕ) a + S1x128x512.size a ≤ S8x128x512.size a := by
  revert h; decide

section
variable (c : Dev nD) (i : grid0.Coords) (arg1 : Memref sig .tc .vmem S8x128x256 .bf16)
  (harg1 : arg1.IsWhole) (arg2 : Memref sig .tc .vmem S16384x256 .bf16) (harg2 : arg2.IsWhole)
  (arg3 : Memref sig .tc .vmem S8x128x512 .bf16) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (x0 : Vec Ideal S8x128x256 .bf16) (x1 : Vec Ideal S16384x256 .bf16)

/-- The stores to the maxima before the last block. -/
def L5 : List (View.Piece (Elt Ideal) AQ .f32) := (kernelRun0_A.sl.HS0_1_1 (F := Ideal) c i arg1 harg1 arg2 harg2 arg3 harg3 arg4 harg4 arg5 harg5 arg6 harg6 arg7 harg7 x0 x1).tail
/-- The stores to the sums before the last block. -/
def L6 : List (View.Piece (Elt Ideal) AQ .f32) := (kernelRun0_A.sl.HS1_1_1 (F := Ideal) c i arg1 harg1 arg2 harg2 arg3 harg3 arg4 harg4 arg5 harg5 arg6 harg6 arg7 harg7 x0 x1).tail
/-- The stores to the accumulator before the last block. -/
def L7 : List (View.Piece (Elt Ideal) AQ .f32) := (kernelRun0_A.sl.HS2_1_1 (F := Ideal) c i arg1 harg1 arg2 harg2 arg3 harg3 arg4 harg4 arg5 harg5 arg6 harg6 arg7 harg7 x0 x1).tail

/-- The maxima before the last block. -/
def X5 : AQ.Idx → EReal := arg5.view.read (Elt Ideal) (arg5.view.writes (Elt Ideal) arg5.view.junk (L5 c i arg1 harg1 arg2 harg2 arg3 harg3 arg4 harg4 arg5 harg5 arg6 harg6 arg7 harg7 x0 x1))
/-- The sums before the last block. -/
def X6 : AQ.Idx → EReal := arg6.view.read (Elt Ideal) (arg6.view.writes (Elt Ideal) arg6.view.junk (L6 c i arg1 harg1 arg2 harg2 arg3 harg3 arg4 harg4 arg5 harg5 arg6 harg6 arg7 harg7 x0 x1))
/-- The accumulator before the last block. -/
def X7 : AQ.Idx → EReal := arg7.view.read (Elt Ideal) (arg7.view.writes (Elt Ideal) arg7.view.junk (L7 c i arg1 harg1 arg2 harg2 arg3 harg3 arg4 harg4 arg5 harg5 arg6 harg6 arg7 harg7 x0 x1))

/-- The queries as rows. -/
def qRows : FVec Ideal QQ .bf16 := kernelRun0_A.sl.r (F := Ideal) c arg1 harg1 x0

/-- The last block of keys. -/
def kvLast : FVec Ideal KK .bf16 :=
  View.readAt (Elt Ideal) arg2.view (Rect.unit (s := S16384x256) (k0_off3 i) S512x256.size (Facts₀.k0_off3_inb i)).toLoadRect (harg2.unread x1)

/-- The masked logits of the last block. -/
abbrev sLast (h : Fin 8) : FVec Ideal HK .f32 := maskedLogits i (qRows c arg1 harg1 x0) (kvLast i arg2 harg2 x1) h

theorem v74_eq : kernelRun0_A.sl.v74 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 0 :=
  readAt_rows arg5.view _ 0

theorem v84_eq : kernelRun0_A.sl.v84 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 0 :=
  readAt_rows arg6.view _ 0

theorem v97_eq : kernelRun0_A.sl.v97 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 1 :=
  cov_skip arg5.view 0 1 (by decide) _ (readAt_rows arg5.view _ 1)

theorem v107_eq : kernelRun0_A.sl.v107 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 1 :=
  cov_skip arg6.view 0 1 (by decide) _ (readAt_rows arg6.view _ 1)

theorem v120_eq : kernelRun0_A.sl.v120 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 2 :=
  cov_skip arg5.view 1 2 (by decide) _ (cov_skip arg5.view 0 2 (by decide) _ (readAt_rows arg5.view _ 2))

theorem v130_eq : kernelRun0_A.sl.v130 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 2 :=
  cov_skip arg6.view 1 2 (by decide) _ (cov_skip arg6.view 0 2 (by decide) _ (readAt_rows arg6.view _ 2))

theorem v143_eq : kernelRun0_A.sl.v143 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 3 :=
  cov_skip arg5.view 2 3 (by decide) _ (cov_skip arg5.view 1 3 (by decide) _ (cov_skip arg5.view 0 3 (by decide) _ (readAt_rows arg5.view _ 3)))

theorem v153_eq : kernelRun0_A.sl.v153 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 3 :=
  cov_skip arg6.view 2 3 (by decide) _ (cov_skip arg6.view 1 3 (by decide) _ (cov_skip arg6.view 0 3 (by decide) _ (readAt_rows arg6.view _ 3)))

theorem v166_eq : kernelRun0_A.sl.v166 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 4 :=
  cov_skip arg5.view 3 4 (by decide) _ (cov_skip arg5.view 2 4 (by decide) _ (cov_skip arg5.view 1 4 (by decide) _ (cov_skip arg5.view 0 4 (by decide) _ (readAt_rows arg5.view _ 4))))

theorem v176_eq : kernelRun0_A.sl.v176 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 4 :=
  cov_skip arg6.view 3 4 (by decide) _ (cov_skip arg6.view 2 4 (by decide) _ (cov_skip arg6.view 1 4 (by decide) _ (cov_skip arg6.view 0 4 (by decide) _ (readAt_rows arg6.view _ 4))))

theorem v189_eq : kernelRun0_A.sl.v189 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 5 :=
  cov_skip arg5.view 4 5 (by decide) _ (cov_skip arg5.view 3 5 (by decide) _ (cov_skip arg5.view 2 5 (by decide) _ (cov_skip arg5.view 1 5 (by decide) _ (cov_skip arg5.view 0 5 (by decide) _ (readAt_rows arg5.view _ 5)))))

theorem v199_eq : kernelRun0_A.sl.v199 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 5 :=
  cov_skip arg6.view 4 5 (by decide) _ (cov_skip arg6.view 3 5 (by decide) _ (cov_skip arg6.view 2 5 (by decide) _ (cov_skip arg6.view 1 5 (by decide) _ (cov_skip arg6.view 0 5 (by decide) _ (readAt_rows arg6.view _ 5)))))

theorem v212_eq : kernelRun0_A.sl.v212 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 6 :=
  cov_skip arg5.view 5 6 (by decide) _ (cov_skip arg5.view 4 6 (by decide) _ (cov_skip arg5.view 3 6 (by decide) _ (cov_skip arg5.view 2 6 (by decide) _ (cov_skip arg5.view 1 6 (by decide) _ (cov_skip arg5.view 0 6 (by decide) _ (readAt_rows arg5.view _ 6))))))

theorem v222_eq : kernelRun0_A.sl.v222 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 6 :=
  cov_skip arg6.view 5 6 (by decide) _ (cov_skip arg6.view 4 6 (by decide) _ (cov_skip arg6.view 3 6 (by decide) _ (cov_skip arg6.view 2 6 (by decide) _ (cov_skip arg6.view 1 6 (by decide) _ (cov_skip arg6.view 0 6 (by decide) _ (readAt_rows arg6.view _ 6))))))

theorem v235_eq : kernelRun0_A.sl.v235 (F := Ideal) c i arg1 harg1 arg2 harg2 arg3 harg3 arg4 harg4 arg5 harg5 arg6 harg6 arg7 harg7 x0 x1
    = rowsOf (X5 c i arg1 harg1 arg2 harg2 arg3 harg3 arg4 harg4 arg5 harg5 arg6 harg6 arg7 harg7 x0 x1) 7 :=
  cov_skip arg5.view 6 7 (by decide) _ (cov_skip arg5.view 5 7 (by decide) _ (cov_skip arg5.view 4 7 (by decide) _ (cov_skip arg5.view 3 7 (by decide) _ (cov_skip arg5.view 2 7 (by decide) _ (cov_skip arg5.view 1 7 (by decide) _ (cov_skip arg5.view 0 7 (by decide) _ (readAt_rows arg5.view _ 7)))))))

theorem v245_eq : kernelRun0_A.sl.v245 (F := Ideal) c i arg1 harg1 arg2 harg2 arg3 harg3 arg4 harg4 arg5 harg5 arg6 harg6 arg7 harg7 x0 x1
    = rowsOf (X6 c i arg1 harg1 arg2 harg2 arg3 harg3 arg4 harg4 arg5 harg5 arg6 harg6 arg7 harg7 x0 x1) 7 :=
  cov_skip arg6.view 6 7 (by decide) _ (cov_skip arg6.view 5 7 (by decide) _ (cov_skip arg6.view 4 7 (by decide) _ (cov_skip arg6.view 3 7 (by decide) _ (cov_skip arg6.view 2 7 (by decide) _ (cov_skip arg6.view 1 7 (by decide) _ (cov_skip arg6.view 0 7 (by decide) _ (readAt_rows arg6.view _ 7)))))))

theorem v261_eq : kernelRun0_A.sl.v261 (F := Ideal) c i arg1 harg1 arg2 harg2 arg3 harg3 arg4 harg4 arg5 harg5 arg6 harg6 arg7 harg7 x0 x1
    = X7 c i arg1 harg1 arg2 harg2 arg3 harg3 arg4 harg4 arg5 harg5 arg6 harg6 arg7 harg7 x0 x1 :=
  readAt_whole arg7.view _

theorem r_2_eq : kernelRun0_A.sl.r_2 (F := Ideal) c i arg1 harg1 arg2 harg2 x0 x1 = sLast c i arg1 harg1 arg2 harg2 x0 x1 0 := rfl

theorem r_3_eq : kernelRun0_A.sl.r_3 (F := Ideal) c i arg1 harg1 arg2 harg2 x0 x1 = sLast c i arg1 harg1 arg2 harg2 x0 x1 1 := rfl

theorem r_4_eq : kernelRun0_A.sl.r_4 (F := Ideal) c i arg1 harg1 arg2 harg2 x0 x1 = sLast c i arg1 harg1 arg2 harg2 x0 x1 2 := rfl

theorem r_5_eq : kernelRun0_A.sl.r_5 (F := Ideal) c i arg1 harg1 arg2 harg2 x0 x1 = sLast c i arg1 harg1 arg2 harg2 x0 x1 3 := rfl

theorem r_6_eq : kernelRun0_A.sl.r_6 (F := Ideal) c i arg1 harg1 arg2 harg2 x0 x1 = sLast c i arg1 harg1 arg2 harg2 x0 x1 4 := rfl

theorem r_7_eq : kernelRun0_A.sl.r_7 (F := Ideal) c i arg1 harg1 arg2 harg2 x0 x1 = sLast c i arg1 harg1 arg2 harg2 x0 x1 5 := rfl

theorem r_8_eq : kernelRun0_A.sl.r_8 (F := Ideal) c i arg1 harg1 arg2 harg2 x0 x1 = sLast c i arg1 harg1 arg2 harg2 x0 x1 6 := rfl

theorem r_9_eq : kernelRun0_A.sl.r_9 (F := Ideal) c i arg1 harg1 arg2 harg2 x0 x1 = sLast c i arg1 harg1 arg2 harg2 x0 x1 7 := rfl

theorem HS1_1_1_eq : kernelRun0_A.sl.HS1_1_1 (F := Ideal) c i arg1 harg1 arg2 harg2 arg3 harg3 arg4 harg4 arg5 harg5 arg6 harg6 arg7 harg7 x0 x1
    = rowPiece 0 (fun _ => k0_pay141 (kernelRun0_A.sl.r_2 (F := Ideal) c i arg1 harg1 arg2 harg2 x0 x1) (kernelRun0_A.sl.v74 (F := Ideal) c i arg1 harg1 arg2 harg2 arg3 harg3 arg4 harg4 arg5 harg5 arg6 harg6 arg7 harg7 x0 x1) (kernelRun0_A.sl.v84 (F := Ideal) c i arg1 harg1 arg2 harg2 arg3 harg3 arg4 harg4 arg5 harg5 arg6 harg6 arg7 harg7 x0 x1)) :: L6 c i arg1 harg1 arg2 harg2 arg3 harg3 arg4 harg4 arg5 harg5 arg6 harg6 arg7 harg7 x0 x1 := rfl

theorem r_1_eq : kernelRun0_A.sl.r_1 (F := Ideal) i arg2 harg2 x1 = vals (kvLast i arg2 harg2 x1) := rfl

/-- The sums after the last block: every head's stores. -/
theorem sums_eq : kernelRun0_A.sl.HS1_8 (F := Ideal) c i arg1 harg1 arg2 harg2 arg3 harg3 arg4 harg4 arg5 harg5 arg6 harg6 arg7 harg7 x0 x1
    = rows8 (fun h => lNew (sLast c i arg1 harg1 arg2 harg2 x0 x1 h) (rowsOf (X5 c i arg1 harg1 arg2 harg2 arg3 harg3 arg4 harg4 arg5 harg5 arg6 harg6 arg7 harg7 x0 x1) h)
        (rowsOf (X6 c i arg1 harg1 arg2 harg2 arg3 harg3 arg4 harg4 arg5 harg5 arg6 harg6 arg7 harg7 x0 x1) h)) (L6 c i arg1 harg1 arg2 harg2 arg3 harg3 arg4 harg4 arg5 harg5 arg6 harg6 arg7 harg7 x0 x1) := by
  unfold kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2
  simp only [HS1_1_1_eq, kernelRun0_A.sl.r_12, kernelRun0_A.sl.r_13, kernelRun0_A.sl.r_14, kernelRun0_A.sl.r_18, kernelRun0_A.sl.r_19, kernelRun0_A.sl.r_20, kernelRun0_A.sl.r_21, kernelRun0_A.sl.r_22, kernelRun0_A.sl.r_26, kernelRun0_A.sl.r_27,
    v74_eq, v97_eq, v120_eq, v143_eq, v166_eq, v189_eq, v212_eq, v235_eq, v84_eq, v107_eq, v130_eq, v153_eq, v176_eq, v199_eq, v222_eq, v245_eq,
    r_2_eq, r_3_eq, r_4_eq, r_5_eq, r_6_eq, r_7_eq, r_8_eq, r_9_eq,
    k0_pay141, k0_pay147, k0_pay153, k0_pay161, k0_pay167, k0_pay174, k0_pay180, k0_pay185, shapeCast_self]
  generalize X6 c i arg1 harg1 arg2 harg2 arg3 harg3 arg4 harg4 arg5 harg5 arg6 harg6 arg7 harg7 x0 x1 = a6
  generalize X5 c i arg1 harg1 arg2 harg2 arg3 harg3 arg4 harg4 arg5 harg5 arg6 harg6 arg7 harg7 x0 x1 = a5
  generalize sLast c i arg1 harg1 arg2 harg2 x0 x1 = s
  rfl

theorem pay138_eq (s : FVec Ideal HK .f32) (m : FVec Ideal HQ .f32) : k0_pay138 s m = mNew s m := rfl
theorem pay144_eq (s : FVec Ideal HK .f32) (m : FVec Ideal HQ .f32) : k0_pay144 s m = mNew s m := rfl
theorem pay150_eq (s : FVec Ideal HK .f32) (m : FVec Ideal HQ .f32) : k0_pay150 s m = mNew s m := rfl
theorem pay156_eq (s : FVec Ideal HK .f32) (m : FVec Ideal HQ .f32) : k0_pay156 s m = mNew s m := rfl
theorem pay164_eq (s : FVec Ideal HK .f32) (m : FVec Ideal HQ .f32) : k0_pay164 s m = mNew s m := rfl
theorem pay170_eq (s : FVec Ideal HK .f32) (m : FVec Ideal HQ .f32) : k0_pay170 s m = mNew s m := rfl
theorem pay177_eq (s : FVec Ideal HK .f32) (m : FVec Ideal HQ .f32) : k0_pay177 s m = mNew s m := rfl
theorem pay182_eq (s : FVec Ideal HK .f32) (m : FVec Ideal HQ .f32) : k0_pay182 s m = mNew s m := rfl
theorem pay139_eq (s : FVec Ideal HK .f32) (m : FVec Ideal HQ .f32) : k0_pay139 s m = alpha s m := rfl
theorem pay145_eq (s : FVec Ideal HK .f32) (m : FVec Ideal HQ .f32) : k0_pay145 s m = alpha s m := rfl
theorem pay151_eq (s : FVec Ideal HK .f32) (m : FVec Ideal HQ .f32) : k0_pay151 s m = alpha s m := rfl
theorem pay157_eq (s : FVec Ideal HK .f32) (m : FVec Ideal HQ .f32) : k0_pay157 s m = alpha s m := rfl
theorem pay165_eq (s : FVec Ideal HK .f32) (m : FVec Ideal HQ .f32) : k0_pay165 s m = alpha s m := rfl
theorem pay178_eq (s : FVec Ideal HK .f32) (m : FVec Ideal HQ .f32) : k0_pay178 s m = alpha s m := rfl
theorem pay183_eq (s : FVec Ideal HK .f32) (m : FVec Ideal HQ .f32) : k0_pay183 s m = alpha s m := rfl
theorem pay172_eq (s : FVec Ideal HK .f32) (m : FVec Ideal HQ .f32) : k0_pay172 (k0_pay171 s m) = alpha s m := rfl
theorem pay140_eq (s : FVec Ideal HK .f32) (m : FVec Ideal HQ .f32) : k0_pay140 s m = prob s m := rfl
theorem pay146_eq (s : FVec Ideal HK .f32) (m : FVec Ideal HQ .f32) : k0_pay146 s m = prob s m := rfl
theorem pay152_eq (s : FVec Ideal HK .f32) (m : FVec Ideal HQ .f32) : k0_pay152 s m = prob s m := rfl
theorem pay158_eq (s : FVec Ideal HK .f32) (m : FVec Ideal HQ .f32) : k0_pay158 s m = prob s m := rfl
theorem pay166_eq (s : FVec Ideal HK .f32) (m : FVec Ideal HQ .f32) : k0_pay166 s m = prob s m := rfl
theorem pay179_eq (s : FVec Ideal HK .f32) (m : FVec Ideal HQ .f32) : k0_pay179 s m = prob s m := rfl
theorem pay184_eq (s : FVec Ideal HK .f32) (m : FVec Ideal HQ .f32) : k0_pay184 s m = prob s m := rfl
theorem pay173_eq (s : FVec Ideal HK .f32) (m : FVec Ideal HQ .f32) : k0_pay173 s (mNew s m) = prob s m := rfl

theorem HS2_1_1_eq : kernelRun0_A.sl.HS2_1_1 (F := Ideal) c i arg1 harg1 arg2 harg2 arg3 harg3 arg4 harg4 arg5 harg5 arg6 harg6 arg7 harg7 x0 x1
    = wholePiece (k0_pay187 (kernelRun0_A.sl.r_1 (F := Ideal) i arg2 harg2 x1) (kernelRun0_A.sl.r_9 (F := Ideal) c i arg1 harg1 arg2 harg2 x0 x1) (kernelRun0_A.sl.r_10 (F := Ideal) c i arg1 harg1 arg2 harg2 arg3 harg3 arg4 harg4 arg5 harg5 arg6 harg6 arg7 harg7 x0 x1) (kernelRun0_A.sl.r_11 (F := Ideal) c i arg1 harg1 arg2 harg2 arg3 harg3 arg4 harg4 arg5 harg5 arg6 harg6 arg7 harg7 x0 x1) (kernelRun0_A.sl.r_13 (F := Ideal) c i arg1 harg1 arg2 harg2 arg3 harg3 arg4 harg4 arg5 harg5 arg6 harg6 arg7 harg7 x0 x1) (kernelRun0_A.sl.r_15 (F := Ideal) c i arg1 harg1 arg2 harg2 arg3 harg3 arg4 harg4 arg5 harg5 arg6 harg6 arg7 harg7 x0 x1) (kernelRun0_A.sl.r_16 (F := Ideal) c i arg1 harg1 arg2 harg2 arg3 harg3 arg4 harg4 arg5 harg5 arg6 harg6 arg7 harg7 x0 x1) (kernelRun0_A.sl.r_17 (F := Ideal) c i arg1 harg1 arg2 harg2 arg3 harg3 arg4 harg4 arg5 harg5 arg6 harg6 arg7 harg7 x0 x1) (kernelRun0_A.sl.r_19 (F := Ideal) c i arg1 harg1 arg2 harg2 arg3 harg3 arg4 harg4 arg5 harg5 arg6 harg6 arg7 harg7 x0 x1) (kernelRun0_A.sl.r_23 (F := Ideal) c i arg1 harg1 arg2 harg2 arg3 harg3 arg4 harg4 arg5 harg5 arg6 harg6 arg7 harg7 x0 x1) (kernelRun0_A.sl.r_24 (F := Ideal) c i arg1 harg1 arg2 harg2 arg3 harg3 arg4 harg4 arg5 harg5 arg6 harg6 arg7 harg7 x0 x1) (kernelRun0_A.sl.r_25 (F := Ideal) c i arg1 harg1 arg2 harg2 arg3 harg3 arg4 harg4 arg5 harg5 arg6 harg6 arg7 harg7 x0 x1) (kernelRun0_A.sl.r_28 (F := Ideal) c i arg1 harg1 arg2 harg2 arg3 harg3 arg4 harg4 arg5 harg5 arg6 harg6 arg7 harg7 x0 x1) (kernelRun0_A.sl.r_29 (F := Ideal) c i arg1 harg1 arg2 harg2 arg3 harg3 arg4 harg4 arg5 harg5 arg6 harg6 arg7 harg7 x0 x1) (kernelRun0_A.sl.r_30 (F := Ideal) c i arg1 harg1 arg2 harg2 arg3 harg3 arg4 harg4 arg5 harg5 arg6 harg6 arg7 harg7 x0 x1) (kernelRun0_A.sl.r_31 (F := Ideal) c i arg1 harg1 arg2 harg2 arg3 harg3 arg4 harg4 arg5 harg5 arg6 harg6 arg7 harg7 x0 x1) (kernelRun0_A.sl.v235 (F := Ideal) c i arg1 harg1 arg2 harg2 arg3 harg3 arg4 harg4 arg5 harg5 arg6 harg6 arg7 harg7 x0 x1) (kernelRun0_A.sl.v261 (F := Ideal) c i arg1 harg1 arg2 harg2 arg3 harg3 arg4 harg4 arg5 harg5 arg6 harg6 arg7 harg7 x0 x1)) :: L7 c i arg1 harg1 arg2 harg2 arg3 harg3 arg4 harg4 arg5 harg5 arg6 harg6 arg7 harg7 x0 x1 := rfl

theorem r_10_eq : kernelRun0_A.sl.r_10 (F := Ideal) c i arg1 harg1 arg2 harg2 arg3 harg3 arg4 harg4 arg5 harg5 arg6 harg6 arg7 harg7 x0 x1
    = alpha (sLast c i arg1 harg1 arg2 harg2 x0 x1 0) (rowsOf (X5 c i arg1 harg1 arg2 harg2 arg3 harg3 arg4 harg4 arg5 harg5 arg6 harg6 arg7 harg7 x0 x1) 0) := by
  unfold kernelRun0_A.sl.r_10
  rw [r_2_eq, v74_eq, pay139_eq]

theorem r_13_eq : kernelRun0_A.sl.r_13 (F := Ideal) c i arg1 harg1 arg2 harg2 arg3 harg3 arg4 harg4 arg5 harg5 arg6 harg6 arg7 harg7 x0 x1
    = alpha (sLast c i arg1 harg1 arg2 harg2 x0 x1 1) (rowsOf (X5 c i arg1 harg1 arg2 harg2 arg3 harg3 arg4 harg4 arg5 harg5 arg6 harg6 arg7 harg7 x0 x1) 1) := by
  unfold kernelRun0_A.sl.r_13
  rw [r_3_eq, v97_eq, pay145_eq]

theorem r_16_eq : kernelRun0_A.sl.r_16 (F := Ideal) c i arg1 harg1 arg2 harg2 arg3 harg3 arg4 harg4 arg5 harg5 arg6 harg6 arg7 harg7 x0 x1
    = alpha (sLast c i arg1 harg1 arg2 harg2 x0 x1 2) (rowsOf (X5 c i arg1 harg1 arg2 harg2 arg3 harg3 arg4 harg4 arg5 harg5 arg6 harg6 arg7 harg7 x0 x1) 2) := by
  unfold kernelRun0_A.sl.r_16
  rw [r_4_eq, v120_eq, pay151_eq]

theorem r_19_eq : kernelRun0_A.sl.r_19 (F := Ideal) c i arg1 harg1 arg2 harg2 arg3 harg3 arg4 harg4 arg5 harg5 arg6 harg6 arg7 harg7 x0 x1
    = alpha (sLast c i arg1 harg1 arg2 harg2 x0 x1 3) (rowsOf (X5 c i arg1 harg1 arg2 harg2 arg3 harg3 arg4 harg4 arg5 harg5 arg6 harg6 arg7 harg7 x0 x1) 3) := by
  unfold kernelRun0_A.sl.r_19
  rw [r_5_eq, v143_eq, pay157_eq]

theorem r_24_eq : kernelRun0_A.sl.r_24 (F := Ideal) c i arg1 harg1 arg2 harg2 arg3 harg3 arg4 harg4 arg5 harg5 arg6 harg6 arg7 harg7 x0 x1
    = alpha (sLast c i arg1 harg1 arg2 harg2 x0 x1 4) (rowsOf (X5 c i arg1 harg1 arg2 harg2 arg3 harg3 arg4 harg4 arg5 harg5 arg6 harg6 arg7 harg7 x0 x1) 4) := by
  unfold kernelRun0_A.sl.r_24
  rw [r_6_eq, v166_eq, pay165_eq]

theorem r_28_eq : kernelRun0_A.sl.r_28 (F := Ideal) c i arg1 harg1 arg2 harg2 arg3 harg3 arg4 harg4 arg5 harg5 arg6 harg6 arg7 harg7 x0 x1
    = alpha (sLast c i arg1 harg1 arg2 harg2 x0 x1 5) (rowsOf (X5 c i arg1 harg1 arg2 harg2 arg3 harg3 arg4 harg4 arg5 harg5 arg6 harg6 arg7 harg7 x0 x1) 5) := by
  unfold kernelRun0_A.sl.r_28 kernelRun0_A.sl.r_27
  rw [r_7_eq, v189_eq, pay172_eq]

theorem r_30_eq : kernelRun0_A.sl.r_30 (F := Ideal) c i arg1 harg1 arg2 harg2 arg3 harg3 arg4 harg4 arg5 harg5 arg6 harg6 arg7 harg7 x0 x1
    = alpha (sLast c i arg1 harg1 arg2 harg2 x0 x1 6) (rowsOf (X5 c i arg1 harg1 arg2 harg2 arg3 harg3 arg4 harg4 arg5 harg5 arg6 harg6 arg7 harg7 x0 x1) 6) := by
  unfold kernelRun0_A.sl.r_30
  rw [r_8_eq, v212_eq, pay178_eq]

theorem r_11_eq : kernelRun0_A.sl.r_11 (F := Ideal) c i arg1 harg1 arg2 harg2 arg3 harg3 arg4 harg4 arg5 harg5 arg6 harg6 arg7 harg7 x0 x1
    = truncf .bf16 (prob (sLast c i arg1 harg1 arg2 harg2 x0 x1 0) (rowsOf (X5 c i arg1 harg1 arg2 harg2 arg3 harg3 arg4 harg4 arg5 harg5 arg6 harg6 arg7 harg7 x0 x1) 0)) Facts₀.bitsLt_bf16_f32 := by
  unfold kernelRun0_A.sl.r_11
  rw [r_2_eq, v74_eq, k0_pay143, pay140_eq]

theorem r_15_eq : kernelRun0_A.sl.r_15 (F := Ideal) c i arg1 harg1 arg2 harg2 arg3 harg3 arg4 harg4 arg5 harg5 arg6 harg6 arg7 harg7 x0 x1
    = truncf .bf16 (prob (sLast c i arg1 harg1 arg2 harg2 x0 x1 1) (rowsOf (X5 c i arg1 harg1 arg2 harg2 arg3 harg3 arg4 harg4 arg5 harg5 arg6 harg6 arg7 harg7 x0 x1) 1)) Facts₀.bitsLt_bf16_f32 := by
  unfold kernelRun0_A.sl.r_15 kernelRun0_A.sl.r_14
  rw [r_3_eq, v97_eq, k0_pay149, pay146_eq]

theorem r_17_eq : kernelRun0_A.sl.r_17 (F := Ideal) c i arg1 harg1 arg2 harg2 arg3 harg3 arg4 harg4 arg5 harg5 arg6 harg6 arg7 harg7 x0 x1
    = truncf .bf16 (prob (sLast c i arg1 harg1 arg2 harg2 x0 x1 2) (rowsOf (X5 c i arg1 harg1 arg2 harg2 arg3 harg3 arg4 harg4 arg5 harg5 arg6 harg6 arg7 harg7 x0 x1) 2)) Facts₀.bitsLt_bf16_f32 := by
  unfold kernelRun0_A.sl.r_17
  rw [r_4_eq, v120_eq, k0_pay155, pay152_eq]

theorem r_23_eq : kernelRun0_A.sl.r_23 (F := Ideal) c i arg1 harg1 arg2 harg2 arg3 harg3 arg4 harg4 arg5 harg5 arg6 harg6 arg7 harg7 x0 x1
    = truncf .bf16 (prob (sLast c i arg1 harg1 arg2 harg2 x0 x1 3) (rowsOf (X5 c i arg1 harg1 arg2 harg2 arg3 harg3 arg4 harg4 arg5 harg5 arg6 harg6 arg7 harg7 x0 x1) 3)) Facts₀.bitsLt_bf16_f32 := by
  unfold kernelRun0_A.sl.r_23 kernelRun0_A.sl.r_20
  rw [r_5_eq, v143_eq, k0_pay163, pay158_eq]

theorem r_25_eq : kernelRun0_A.sl.r_25 (F := Ideal) c i arg1 harg1 arg2 harg2 arg3 harg3 arg4 harg4 arg5 harg5 arg6 harg6 arg7 harg7 x0 x1
    = truncf .bf16 (prob (sLast c i arg1 harg1 arg2 harg2 x0 x1 4) (rowsOf (X5 c i arg1 harg1 arg2 harg2 arg3 harg3 arg4 harg4 arg5 harg5 arg6 harg6 arg7 harg7 x0 x1) 4)) Facts₀.bitsLt_bf16_f32 := by
  unfold kernelRun0_A.sl.r_25
  rw [r_6_eq, v166_eq, k0_pay169, pay166_eq]

theorem r_29_eq : kernelRun0_A.sl.r_29 (F := Ideal) c i arg1 harg1 arg2 harg2 arg3 harg3 arg4 harg4 arg5 harg5 arg6 harg6 arg7 harg7 x0 x1
    = truncf .bf16 (prob (sLast c i arg1 harg1 arg2 harg2 x0 x1 5) (rowsOf (X5 c i arg1 harg1 arg2 harg2 arg3 harg3 arg4 harg4 arg5 harg5 arg6 harg6 arg7 harg7 x0 x1) 5)) Facts₀.bitsLt_bf16_f32 := by
  unfold kernelRun0_A.sl.r_29 kernelRun0_A.sl.r_26
  rw [r_7_eq, v189_eq, k0_pay176, pay170_eq, pay173_eq]

theorem r_31_eq : kernelRun0_A.sl.r_31 (F := Ideal) c i arg1 harg1 arg2 harg2 arg3 harg3 arg4 harg4 arg5 harg5 arg6 harg6 arg7 harg7 x0 x1
    = prob (sLast c i arg1 harg1 arg2 harg2 x0 x1 6) (rowsOf (X5 c i arg1 harg1 arg2 harg2 arg3 harg3 arg4 harg4 arg5 harg5 arg6 harg6 arg7 harg7 x0 x1) 6) := by
  unfold kernelRun0_A.sl.r_31
  rw [r_8_eq, v212_eq, pay179_eq]

/-- The last block's accumulator, over any logits. -/
theorem pay187_eq (s : Fin 8 → FVec Ideal HK .f32) (m : Fin 8 → FVec Ideal HQ .f32) (v : FVec Ideal VK .bf16) (a : FVec Ideal AQ .f32) :
    k0_pay187 v (s 7) (alpha (s 0) (m 0)) (truncf .bf16 (prob (s 0) (m 0)) Facts₀.bitsLt_bf16_f32)
        (alpha (s 1) (m 1)) (truncf .bf16 (prob (s 1) (m 1)) Facts₀.bitsLt_bf16_f32)
        (alpha (s 2) (m 2)) (truncf .bf16 (prob (s 2) (m 2)) Facts₀.bitsLt_bf16_f32)
        (alpha (s 3) (m 3)) (truncf .bf16 (prob (s 3) (m 3)) Facts₀.bitsLt_bf16_f32)
        (alpha (s 4) (m 4)) (truncf .bf16 (prob (s 4) (m 4)) Facts₀.bitsLt_bf16_f32)
        (alpha (s 5) (m 5)) (truncf .bf16 (prob (s 5) (m 5)) Facts₀.bitsLt_bf16_f32)
        (alpha (s 6) (m 6)) (prob (s 6) (m 6)) (m 7) a
      = aNew dot Facts₀.bitsLt_bf16_f32 s m v a := by
  unfold k0_pay187
  rw [pay183_eq, pay184_eq]
  dsimp only
  rw [shapeCast_self]
  rfl

/-- The accumulator after the last block. -/
theorem acc_eq : kernelRun0_A.sl.HS2_1_1 (F := Ideal) c i arg1 harg1 arg2 harg2 arg3 harg3 arg4 harg4 arg5 harg5 arg6 harg6 arg7 harg7 x0 x1
    = wholePiece (aNew dot Facts₀.bitsLt_bf16_f32 (sLast c i arg1 harg1 arg2 harg2 x0 x1) (rowsOf (X5 c i arg1 harg1 arg2 harg2 arg3 harg3 arg4 harg4 arg5 harg5 arg6 harg6 arg7 harg7 x0 x1))
        (vals (kvLast i arg2 harg2 x1)) (X7 c i arg1 harg1 arg2 harg2 arg3 harg3 arg4 harg4 arg5 harg5 arg6 harg6 arg7 harg7 x0 x1)) :: L7 c i arg1 harg1 arg2 harg2 arg3 harg3 arg4 harg4 arg5 harg5 arg6 harg6 arg7 harg7 x0 x1 := by
  rw [HS2_1_1_eq, r_1_eq, r_9_eq, v235_eq, v261_eq, r_10_eq, r_11_eq, r_13_eq, r_15_eq, r_16_eq, r_17_eq, r_19_eq, r_23_eq,
    r_24_eq, r_25_eq, r_28_eq, r_29_eq, r_30_eq, r_31_eq]
  exact congrArg (fun w => wholePiece w :: L7 c i arg1 harg1 arg2 harg2 arg3 harg3 arg4 harg4 arg5 harg5 arg6 harg6 arg7 harg7 x0 x1) (pay187_eq _ _ _ _)

/-- The sums after the last block. -/
def Y6 : AQ.Idx → EReal := arg6.view.read (Elt Ideal) (arg6.view.writes (Elt Ideal) arg6.view.junk (kernelRun0_A.sl.HS1_8 (F := Ideal) c i arg1 harg1 arg2 harg2 arg3 harg3 arg4 harg4 arg5 harg5 arg6 harg6 arg7 harg7 x0 x1))
/-- The accumulator after the last block. -/
def Y7 : AQ.Idx → EReal := arg7.view.read (Elt Ideal) (arg7.view.writes (Elt Ideal) arg7.view.junk (kernelRun0_A.sl.HS2_1_1 (F := Ideal) c i arg1 harg1 arg2 harg2 arg3 harg3 arg4 harg4 arg5 harg5 arg6 harg6 arg7 harg7 x0 x1))

/-- The last block is one step of the running softmax over its masked logits. -/
theorem last_stepped : ∃ Y5, Stepped Facts₀.bitsLt_bf16_f32 (sLast c i arg1 harg1 arg2 harg2 x0 x1) (vals (kvLast i arg2 harg2 x1))
    (X5 c i arg1 harg1 arg2 harg2 arg3 harg3 arg4 harg4 arg5 harg5 arg6 harg6 arg7 harg7 x0 x1) (X6 c i arg1 harg1 arg2 harg2 arg3 harg3 arg4 harg4 arg5 harg5 arg6 harg6 arg7 harg7 x0 x1) (X7 c i arg1 harg1 arg2 harg2 arg3 harg3 arg4 harg4 arg5 harg5 arg6 harg6 arg7 harg7 x0 x1) Y5 (Y6 c i arg1 harg1 arg2 harg2 arg3 harg3 arg4 harg4 arg5 harg5 arg6 harg6 arg7 harg7 x0 x1) (Y7 c i arg1 harg1 arg2 harg2 arg3 harg3 arg4 harg4 arg5 harg5 arg6 harg6 arg7 harg7 x0 x1) := by
  refine ⟨arg5.view.read (Elt Ideal) (arg5.view.writes (Elt Ideal) arg5.view.junk
    (rows8 (fun h => mNew (sLast c i arg1 harg1 arg2 harg2 x0 x1 h) (rowsOf (X5 c i arg1 harg1 arg2 harg2 arg3 harg3 arg4 harg4 arg5 harg5 arg6 harg6 arg7 harg7 x0 x1) h)) [])), ?_, ?_, ?_⟩
  · intro h r l
    exact read_rows8 ..
  · intro h r l
    unfold Y6
    rw [sums_eq]
    exact read_rows8 ..
  · unfold Y7
    rw [acc_eq]
    exact read_wholePiece ..

theorem v267_eq : kernelRun0_A.sl.v267 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 0 :=
  readAt_rows arg7.view _ 0

theorem v268_eq : kernelRun0_A.sl.v268 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 0 :=
  readAt_rows arg6.view _ 0

theorem v274_eq : kernelRun0_A.sl.v274 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 1 :=
  readAt_rows arg7.view _ 1

theorem v275_eq : kernelRun0_A.sl.v275 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 1 :=
  readAt_rows arg6.view _ 1

theorem v282_eq : kernelRun0_A.sl.v282 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 2 :=
  readAt_rows arg7.view _ 2

theorem v283_eq : kernelRun0_A.sl.v283 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 2 :=
  readAt_rows arg6.view _ 2

theorem v290_eq : kernelRun0_A.sl.v290 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 3 :=
  readAt_rows arg7.view _ 3

theorem v291_eq : kernelRun0_A.sl.v291 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 3 :=
  readAt_rows arg6.view _ 3

theorem v298_eq : kernelRun0_A.sl.v298 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 4 :=
  readAt_rows arg7.view _ 4

theorem v299_eq : kernelRun0_A.sl.v299 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 4 :=
  readAt_rows arg6.view _ 4

theorem v306_eq : kernelRun0_A.sl.v306 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 5 :=
  readAt_rows arg7.view _ 5

theorem v307_eq : kernelRun0_A.sl.v307 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 5 :=
  readAt_rows arg6.view _ 5

theorem v314_eq : kernelRun0_A.sl.v314 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 6 :=
  readAt_rows arg7.view _ 6

theorem v315_eq : kernelRun0_A.sl.v315 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 6 :=
  readAt_rows arg6.view _ 6

theorem v322_eq : kernelRun0_A.sl.v322 (F := Ideal) c i arg1 harg1 arg2 harg2 arg3 harg3 arg4 harg4 arg5 harg5 arg6 harg6 arg7 harg7 x0 x1
    = rowsOf (Y7 c i arg1 harg1 arg2 harg2 arg3 harg3 arg4 harg4 arg5 harg5 arg6 harg6 arg7 harg7 x0 x1) 7 :=
  readAt_rows arg7.view _ 7

theorem v323_eq : kernelRun0_A.sl.v323 (F := Ideal) c i arg1 harg1 arg2 harg2 arg3 harg3 arg4 harg4 arg5 harg5 arg6 harg6 arg7 harg7 x0 x1
    = rowsOf (Y6 c i arg1 harg1 arg2 harg2 arg3 harg3 arg4 harg4 arg5 harg5 arg6 harg6 arg7 harg7 x0 x1) 7 :=
  readAt_rows arg6.view _ 7

/-- One head's weight block. -/
def auxAt (x2 : Vec Ideal S8x128x512 .bf16) (h : Fin 8) : FVec Ideal S1x128x512 .bf16 :=
  View.readAt (Elt Ideal) arg3.view (Rect.unit (s := S8x128x512) ![h.val, 0, 0] S1x128x512.size (inbW h)).toLoadRect (harg3.unread x2)

/-- The tile's output: the heads' quotients through their weight blocks. -/
theorem out_eq (x2 : Vec Ideal S8x128x512 .bf16) : kernelRun0_A.sl.r_34 (F := Ideal) c i arg1 harg1 arg2 harg2 arg3 harg3 arg4 harg4 arg5 harg5 arg6 harg6 arg7 harg7 x0 x1 x2
    = proj (rowsOf (Y7 c i arg1 harg1 arg2 harg2 arg3 harg3 arg4 harg4 arg5 harg5 arg6 harg6 arg7 harg7 x0 x1)) (rowsOf (Y6 c i arg1 harg1 arg2 harg2 arg3 harg3 arg4 harg4 arg5 harg5 arg6 harg6 arg7 harg7 x0 x1)) (auxAt arg3 harg3 x2) := by
  unfold kernelRun0_A.sl.r_34 kernelRun0_A.sl.r_33 kernelRun0_A.sl.r_32
  rw [v267_eq, v274_eq, v282_eq, v290_eq, v298_eq, v306_eq, v314_eq, v322_eq, v268_eq, v275_eq, v283_eq, v291_eq, v299_eq, v307_eq, v315_eq, v323_eq]
  rfl

end

end Cert.Mla

end
-- ==== Proof.Words.lean ====
/- The kernel's index words at each of its 128 grid points: the number of whole blocks, the blocks' offsets, the mask. -/
module

public import proofs.«01_k».proof.Proof.Diag
import all proofs.«01_k».proof.Proof.Gen.KernelIdeal.Frame.RunA
public import Idealize.ShloMosaic.Lib.LoopRemainder

@[expose] public section

noncomputable section

namespace Cert.Mla

open Idealize.ShloMosaic Cert.Tile Cert.KernelIdeal Cert.KernelIdeal.Gen
open scoped BigOperators

attribute [local instance] Cert.KernelIdeal.Gen.facts

/-- The number of whole blocks of keys before a tile's diagonal block. -/
def nFull (i : grid0.Coords) : ℕ := (i 0).val / 4

theorem i_lt (i : grid0.Coords) : (i 0).val < 128 := (i 0).isLt

theorem nFull_lt (i : grid0.Coords) : nFull i < 32 := by
  have := i_lt i
  unfold nFull
  omega

/-- The block the diagonal crosses starts at or before the tile's first row, which lies inside it. -/
theorem nFull_bounds (i : grid0.Coords) : 512 * nFull i ≤ 128 * (i 0).val ∧ 128 * (i 0).val + 127 < 512 * nFull i + 512 := by
  have := i_lt i
  unfold nFull
  omega

/-- The tile's floor division, as the kernel writes it. -/
def floorWord (v0 : BitVec 32) : BitVec 32 :=
  Scalar.select (Scalar.andi (Scalar.cmpi .ne (Scalar.subi (Scalar.extui (Scalar.cmpi .sgt v0 0#32)) (Scalar.extui (Scalar.cmpi .slt v0 0#32))) 1#32)
    (Scalar.cmpi .ne (Scalar.remsi v0 512#32) 0#32)) (Scalar.subi (Scalar.divsi v0 512#32) 1#32) (Scalar.divsi v0 512#32)

theorem floorWord_eq : ∀ n : Fin 128, floorWord (Scalar.muli (BitVec.ofNat 32 n.val) 128#32) = BitVec.ofNat 32 (n.val / 4) := by
  decide

theorem v19_eq (i : grid0.Coords) : kernelRun0_A.sl.v19 i = BitVec.ofNat 32 (nFull i) := floorWord_eq (i 0)

theorem v0_eq (i : grid0.Coords) : kernelRun0_A.sl.v0 i = BitVec.ofNat 32 (128 * (i 0).val) := by
  have h : ∀ n : Fin 128, Scalar.muli (BitVec.ofNat 32 n.val) 128#32 = BitVec.ofNat 32 (128 * n.val) := by decide
  exact h (i 0)

theorem trips_eq (i : grid0.Coords) : (k0_t1_loop i).trips = nFull i := by
  have h : ∀ n : Fin 128, Scf.trips (0#32) (Scalar.addi 0#32 (Scalar.muli (Scalar.divsi (Scalar.subi
      (floorWord (Scalar.muli (BitVec.ofNat 32 n.val) 128#32)) 0#32) 1#32) 1#32)) 1#32 = n.val / 4 := by decide
  exact h (i 0)

theorem trips2_eq (i : grid0.Coords) : Scf.trips (k0_t2_loop i).lb (k0_t2_loop i).ub (k0_t2_loop i).st = 0 :=
  Scf.rem_trips _ _

theorem off1_eq (i : grid0.Coords) (k : Fin (k0_t1_loop i).trips) : k0_off1 i k = ![512 * k.val, 0] := by
  have hk : k.val < 32 := lt_of_lt_of_le k.isLt (by rw [trips_eq]; exact (nFull_lt i).le)
  have h : ∀ n : Fin 32, (Scalar.indexCast (Scalar.muli (Scf.iv 0#32 1#32 n) 512#32)).toNat = 512 * n.val := by decide
  exact congrArg (fun x => (![x, 0] : Fin 2 → ℕ)) (h ⟨k.val, hk⟩)

theorem off3_eq (i : grid0.Coords) : k0_off3 i = ![512 * nFull i, 0] := by
  have h : ∀ n : Fin 128, (Scalar.indexCast (Scalar.muli (floorWord (Scalar.muli (BitVec.ofNat 32 n.val) 128#32)) 512#32)).toNat
      = 512 * (n.val / 4) := by decide
  exact congrArg (fun x => (![x, 0] : Fin 2 → ℕ)) (h (i 0))

/-- The word comparison of a key's number with a query's is the numbers' own. -/
theorem block_le {n t : ℕ} (hn : n < 32) (hi : t < 128) (r : Fin 128) (j : Fin 512) :
    BitVec.ofBool ((Scalar.addi (Scalar.muli (BitVec.ofNat 32 n) 512#32) (BitVec.ofNat 32 j.val)).sle
        (Scalar.addi (BitVec.ofNat 32 (128 * t)) (BitVec.ofNat 32 r.val)))
      = if 512 * n + j.val ≤ 128 * t + r.val then 1#1 else 0#1 := by
  have hj := j.isLt
  have hr := r.isLt
  have ek : Scalar.addi (Scalar.muli (BitVec.ofNat 32 n) 512#32) (BitVec.ofNat 32 j.val) = BitVec.ofNat 32 (512 * n + j.val) := by
    apply BitVec.eq_of_toNat_eq
    simp only [Scalar.addi, Scalar.muli, IntOp.addi, IntOp.muli, BitVec.toNat_add, BitVec.toNat_mul, BitVec.toNat_ofNat]
    omega
  have eq : Scalar.addi (BitVec.ofNat 32 (128 * t)) (BitVec.ofNat 32 r.val) = BitVec.ofNat 32 (128 * t + r.val) := by
    apply BitVec.eq_of_toNat_eq
    simp only [Scalar.addi, IntOp.addi, BitVec.toNat_add, BitVec.toNat_ofNat]
    omega
  rw [ek, eq, BitVec.sle_eq_decide]
  have t1 : (BitVec.ofNat 32 (512 * n + j.val)).toInt = 512 * n + j.val := by
    rw [BitVec.toInt_eq_toNat_cond, BitVec.toNat_ofNat]; omega
  have t2 : (BitVec.ofNat 32 (128 * t + r.val)).toInt = 128 * t + r.val := by
    rw [BitVec.toInt_eq_toNat_cond, BitVec.toNat_ofNat]; omega
  rw [t1, t2]
  by_cases h : 512 * n + j.val ≤ 128 * t + r.val
  · rw [if_pos h, decide_eq_true (by exact_mod_cast h)]; rfl
  · rw [if_neg h, decide_eq_false (by exact_mod_cast h)]; rfl

/-- The mask of the diagonal block compares the key's number with the query's. -/
theorem mask_apply (i : grid0.Coords) (r : Fin 128) (j : Fin 512) :
    maskAt i (ix2 r j) = if 512 * nFull i + j.val ≤ 128 * (i 0).val + r.val then 1#1 else 0#1 := by
  unfold maskAt
  rw [v0_eq, v19_eq]
  have hn := nFull_lt i
  have hi := i_lt i
  generalize nFull i = n at hn ⊢
  generalize (i 0).val = t at hi ⊢
  have e : k0_pay128 (BitVec.ofNat 32 (128 * t)) (BitVec.ofNat 32 n) (ix2 r j)
      = BitVec.ofBool ((Scalar.addi (Scalar.muli (BitVec.ofNat 32 n) 512#32) (BitVec.ofNat 32 j.val)).sle
          (Scalar.addi (BitVec.ofNat 32 (128 * t)) (BitVec.ofNat 32 r.val))) := by
    unfold k0_pay128
    pointwise []
    rfl
  rw [e]
  exact block_le hn hi r j

end Cert.Mla

end
-- ==== Proof.Mean.lean ====
/- A causal row's weights, a power of two of its logit each, and the mean of the values under them. -/
module

public import proofs.«01_k».proof.Proof.Softmax
public import Idealize.ShloMosaic.Lib.Pointwise

@[expose] public section

noncomputable section

namespace Cert.Mean

open Idealize.ShloMosaic Cert.Softmax
open scoped BigOperators

variable (x : Fin 8 → Fin 16384 → ℕ → ℝ) (v : ℕ → Fin 128 → EReal)

/-- The weight of key `s` in head `h`'s row `t`: a power of two up to the row, nothing past it. -/
def weight (h : Fin 8) (t : Fin 16384) (s : ℕ) : ℝ := if s ≤ t.val then (2 : ℝ) ^ x h t s else 0

/-- The sum of a row's weights. -/
def total (h : Fin 8) (t : Fin 16384) : ℝ := ∑ s ∈ Finset.range 16384, weight x h t s

/-- The weighted mean of the values' lane `d`. -/
def mean (h : Fin 8) (t : Fin 16384) (d : Fin 128) : EReal :=
  (∑ s ∈ Finset.range 16384, (weight x h t s : EReal) * v s d) * (((total x h t)⁻¹ : ℝ) : EReal)

theorem weight_nonneg (h : Fin 8) (t : Fin 16384) (s : ℕ) : 0 ≤ weight x h t s := by
  unfold weight
  split
  · positivity
  · exact le_rfl

theorem total_nonneg (h : Fin 8) (t : Fin 16384) : 0 ≤ total x h t := Finset.sum_nonneg fun s _ => weight_nonneg x h t s

/-- The mean, the weights divided by their sum first. -/
theorem mean_eq_sum (h : Fin 8) (t : Fin 16384) (d : Fin 128) :
    ∑ s : Fin 16384, ((weight x h t s.val / total x h t : ℝ) : EReal) * v s.val d = mean x v h t d := by
  rw [mean, mul_comm, coe_mul_sum _ (inv_nonneg.mpr (total_nonneg x h t)), Finset.sum_range]
  refine Finset.sum_congr rfl fun s _ => ?_
  rw [← mul_assoc, ← EReal.coe_mul, div_eq_inv_mul]

/-- The softmax of a row of masked logits: its weights over their sum. -/
theorem softmax_weight (h : Fin 8) (t : Fin 16384) (T : Fin 16384 → EReal)
    (hT : ∀ k : Fin 16384, T k = if k.val ≤ t.val then ((x h t k.val * Real.log 2 : ℝ) : EReal) else ⊥) (s : Fin 16384) :
    Ideal.div (Ideal.exp (T s - Finset.univ.sup T)) (∑ k, Ideal.exp (T k - Finset.univ.sup T))
      = ((weight x h t s.val / total x h t : ℝ) : EReal) := by
  have hW : ∀ k : Fin 16384, WtN (T k) (weight x h t k.val) := by
    intro k
    rw [hT, weight]
    split
    · exact .inr ⟨_, rfl, two_rpow _⟩
    · exact .inl ⟨rfl, rfl⟩
  have h0 : T 0 ≠ ⊥ := by
    rw [hT, if_pos (show (0 : Fin 16384).val ≤ t.val from Nat.zero_le _)]
    exact EReal.coe_ne_bot _
  refine (softmax_row T (fun k => weight x h t k.val) hW 0 h0 s).trans ?_
  rw [total, Finset.sum_range]

end Cert.Mean

end
-- ==== Proof.Causal.lean ====
/- A tile of 1024 rows against the keys in blocks of 512, causally: the state after each block and the quotient at the end. -/
module

public import proofs.«01_k».proof.Proof.Rows
public import proofs.«01_k».proof.Proof.Mean

@[expose] public section

noncomputable section

namespace Cert.Causal

open Idealize.ShloMosaic Cert.Tile Cert.Softmax Cert.Mean
open scoped BigOperators

variable (t : ℕ) (x : Fin 1024 → ℕ → ℝ) (v : ℕ → Fin 128 → EReal)

/-- The weight of key `s` in row `R` of tile `t`: a power of two up to the diagonal, nothing past it. -/
def wt (R : Fin 1024) (s : ℕ) : ℝ := if s ≤ 128 * t + R.val % 128 then (2 : ℝ) ^ x R s else 0

/-- The sum of the first `n` keys' weights. -/
def wsum (n : ℕ) (R : Fin 1024) : ℝ := ∑ s ∈ Finset.range n, wt t x R s

/-- The sum of the first `n` keys' weighted values. -/
def vsum (n : ℕ) (R : Fin 1024) (d : Fin 128) : EReal := ∑ s ∈ Finset.range n, (wt t x R s : EReal) * v s d

theorem sum_range_block {M : Type} [AddCommMonoid M] (f : ℕ → M) (n m : ℕ) :
    ∑ s ∈ Finset.range (n + m), f s = ∑ s ∈ Finset.range n, f s + ∑ j : Fin m, f (n + j.val) := by
  rw [Finset.sum_range_add, Finset.sum_range (fun x => f (n + x))]

theorem row_mod (h : Fin 8) (r : Fin 128) : (row h r).val % 128 = r.val := by
  rw [row_val]
  omega

variable {t x v}

/-- One block of keys at or before the diagonal carries the state on. -/
theorem step {hb : FTy.bf16.bits < FTy.f32.bits} {s : Fin 8 → FVec Ideal HK .f32} {b : FVec Ideal VK .bf16}
    {X5 X6 X7 Y5 Y6 Y7 : AQ.Idx → EReal} (hS : Stepped hb s b X5 X6 X7 Y5 Y6 Y7) {n : ℕ} (hn : 512 * n ≤ 128 * t)
    (hI : Inv (wsum t x (512 * n)) (vsum t x v (512 * n)) X5 X6 X7)
    (hs : ∀ h r j, s h (ix2 r j) = if 512 * n + j.val ≤ 128 * t + r.val then ((x (row h r) (512 * n + j.val) : ℝ) : EReal) else ⊥)
    (hv : ∀ j d, b (ix2 j d) = v (512 * n + j.val) d) :
    Inv (wsum t x (512 * (n + 1))) (vsum t x v (512 * (n + 1))) Y5 Y6 Y7 := by
  have key := hS.inv hI (fun R j => wt t x R (512 * n + j.val)) ?_ ?_
  · have e1 : (fun R => wsum t x (512 * n) R + ∑ j : Fin 512, wt t x R (512 * n + j.val)) = wsum t x (512 * (n + 1)) := by
      funext R
      rw [Nat.mul_succ]
      exact (sum_range_block _ _ _).symm
    have e2 : (fun R d => vsum t x v (512 * n) R d + ∑ j : Fin 512, (wt t x R (512 * n + j.val) : EReal) * b (ix2 j d))
        = vsum t x v (512 * (n + 1)) := by
      funext R d
      simp only [hv]
      rw [Nat.mul_succ]
      exact (sum_range_block (fun s => (wt t x R s : EReal) * v s d) _ _).symm
    rw [← e1, ← e2]
    exact key
  · intro h r j
    rw [hs, wt, row_mod]
    split
    · exact .inr ⟨_, rfl, rfl⟩
    · exact .inl ⟨rfl, rfl⟩
  · intro h r
    rw [hs, if_pos (show 512 * n + (0 : Fin 512).val ≤ 128 * t + r.val by simp; omega)]
    exact EReal.coe_ne_bot _

variable (t x v)

/-- A row's first weight is positive, so the sum of its weights is. -/
theorem wsum_pos (n : ℕ) (hn : 0 < n) (R : Fin 1024) : 0 < wsum t x n R := by
  have hnn : ∀ s, 0 ≤ wt t x R s := fun s => by
    unfold wt
    split
    · positivity
    · exact le_rfl
  have h0 : 0 < wt t x R 0 := by
    rw [wt, if_pos (Nat.zero_le _)]
    positivity
  exact lt_of_lt_of_le h0 (Finset.single_le_sum (f := fun s => wt t x R s) (fun s _ => hnn s) (Finset.mem_range.mpr hn))

/-- Keys past the diagonal weigh nothing. -/
theorem wt_past {n s : ℕ} (hn : 128 * t + 127 < n) (hs : s ∉ Finset.range n) (R : Fin 1024) : wt t x R s = 0 := by
  have h1 : ¬ s < n := fun h => hs (Finset.mem_range.mpr h)
  rw [wt, if_neg (by omega)]

theorem wsum_all {n : ℕ} (hn : 128 * t + 127 < n) (hm : n ≤ 16384) (R : Fin 1024) : wsum t x n R = wsum t x 16384 R :=
  Finset.sum_subset (fun s hs => Finset.mem_range.mpr (by have := Finset.mem_range.mp hs; omega)) fun s _ hs => wt_past t x hn hs R

theorem vsum_all {n : ℕ} (hn : 128 * t + 127 < n) (hm : n ≤ 16384) (R : Fin 1024) (d : Fin 128) :
    vsum t x v n R d = vsum t x v 16384 R d :=
  Finset.sum_subset (fun s hs => Finset.mem_range.mpr (by have := Finset.mem_range.mp hs; omega)) fun s _ hs => by
    rw [wt_past t x hn hs R, EReal.coe_zero, zero_mul]

/-- The quotient of the sums past the diagonal's block: the mean of the values over all keys, for any naming `X` of the
    rows' logits by head and row of the whole array. -/
theorem quotient {Z5 Y6 Y7 : AQ.Idx → EReal} {n : ℕ} (hn : 128 * t + 127 < n) (hm : n ≤ 16384)
    (hI : Inv (wsum t x n) (vsum t x v n) Z5 Y6 Y7) (X : Fin 8 → Fin 16384 → ℕ → ℝ) (h : Fin 8) (r d : Fin 128) (T : Fin 16384)
    (hT : T.val = 128 * t + r.val) (hX : ∀ s, x (row h r) s = X h T s) :
    Ideal.div (rowsOf Y7 h (ix2 r d)) (rowsOf Y6 h (ix2 r d)) = mean X v h T d := by
  obtain ⟨M, L, -, hL, hSt⟩ := hI (row h r)
  rw [rowsOf_apply, rowsOf_apply, hL]
  refine (hSt.out (wsum_pos t x _ (by omega) _) d).trans ?_
  have ew : ∀ s, wt t x (row h r) s = weight X h T s := fun s => by rw [wt, weight, row_mod, hX, hT]
  rw [wsum_all t x hn hm, vsum_all t x v hn hm, mean, total, wsum, vsum]
  simp only [ew]

end Cert.Causal

end
-- ==== Proof.Loop.lean ====
/- A tile's running softmax over all its keys: the whole blocks one by one, then the block the diagonal crosses. -/
module

public import proofs.«01_k».proof.Proof.Words
public import proofs.«01_k».proof.Proof.Causal
import all proofs.«01_k».proof.Proof.Gen.KernelIdeal.Loops
import all proofs.«01_k».proof.Proof.Gen.KernelIdeal.Frame.RunA
public import Idealize.ShloMosaic.Lib.WholeRead

@[expose] public section

noncomputable section

namespace Cert.Mla

open Idealize.ShloMosaic Cert.Tile Cert.Softmax Cert.Mean Cert.Causal Cert.KernelIdeal Cert.KernelIdeal.Gen
open scoped BigOperators

attribute [local instance] Cert.KernelIdeal.Gen.facts

/-- The logit of row `R` against key `s`. -/
def zz (qR : Fin 1024 → Fin 256 → ℝ) (kR : ℕ → Fin 256 → ℝ) (R : Fin 1024) (s : ℕ) : ℝ := ∑ e, qR R e * kR s e

/-- The lane of a key that holds a value's lane. -/
def lane (d : Fin 128) : Fin 256 := ⟨d.val, by omega⟩

/-- The keys' first lanes, as the values they are. -/
def lanes (kR : ℕ → Fin 256 → ℝ) (s : ℕ) (d : Fin 128) : EReal := (kR s (lane d) : EReal)

theorem logits_apply (q : FVec Ideal QQ .bf16) (kv : FVec Ideal KK .bf16) (R : Fin 1024) (j : Fin 512) :
    logits q kv (ix2 R j) = ∑ e : Fin 256, q (ix2 R e) * kv (ix2 j e) := by
  unfold logits dotQK
  simp only [ix2_eq_valueIdx]
  refine (Ideal.matmul_transposedRhs_apply none _ _ _ R j).trans ?_
  rw [show (constant (F := Ideal) AK .f32 0x00000000#32) (ValueIdx.ix2 R j) = 0 from Ideal.ofBits_zero_f32, zero_add]

theorem headLogits_apply (q : FVec Ideal QQ .bf16) (kv : FVec Ideal KK .bf16) (h : Fin 8) (r : Fin 128) (j : Fin 512) :
    headLogits q kv h (ix2 r j) = ∑ e : Fin 256, q (ix2 (row h r) e) * kv (ix2 j e) := by
  rw [← logits_apply]
  unfold headLogits
  rw [extractStridedSlice_apply]
  intro a
  match a with
  | ⟨0, _⟩ => rfl
  | ⟨1, _⟩ => exact (Nat.zero_add _).symm

theorem vals_apply (kv : FVec Ideal KK .bf16) (j : Fin 512) (d : Fin 128) : vals kv (ix2 j d) = kv (ix2 j (lane d)) := by
  unfold vals
  rw [extractStridedSlice_apply]
  intro a
  match a with
  | ⟨0, _⟩ => exact (Nat.zero_add _).symm
  | ⟨1, _⟩ => exact (Nat.zero_add _).symm

/-- Finite queries and keys give finite logits. -/
theorem headLogits_real {q : FVec Ideal QQ .bf16} {kv : FVec Ideal KK .bf16} {qR : Fin 1024 → Fin 256 → ℝ} {kR : ℕ → Fin 256 → ℝ}
    {n : ℕ} (hq : ∀ R e, q (ix2 R e) = (qR R e : EReal)) (hk : ∀ (j : Fin 512) e, kv (ix2 j e) = (kR (n + j.val) e : EReal))
    (h : Fin 8) (r : Fin 128) (j : Fin 512) :
    headLogits q kv h (ix2 r j) = ((zz qR kR (row h r) (n + j.val) : ℝ) : EReal) := by
  rw [headLogits_apply, zz, coe_sum]
  refine Finset.sum_congr rfl fun e _ => ?_
  rw [hq, hk, EReal.coe_mul]

section
variable (c : Dev nD) (i : grid0.Coords) (arg1 : Memref sig .tc .vmem S8x128x256 .bf16)
  (harg1 : arg1.IsWhole) (arg2 : Memref sig .tc .vmem S16384x256 .bf16) (harg2 : arg2.IsWhole)
  (arg3 : Memref sig .tc .vmem S8x128x512 .bf16) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (v0 : BitVec 32) (v2 : FVec Ideal S1024x256 .bf16) (v19 : BitVec 32) (c0_i32_15 : BitVec 32)
  (v32 : BitVec 32) (x1 : Vec Ideal S16384x256 .bf16)
  (G5 : BufTy.Contents (Elt Ideal) arg5.view.ty) (G6 : BufTy.Contents (Elt Ideal) arg6.view.ty)
  (G7 : BufTy.Contents (Elt Ideal) arg7.view.ty)
  (qR : Fin 1024 → Fin 256 → ℝ) (kR : ℕ → Fin 256 → ℝ)

/-- A load of 512 keys from key `o` on. -/
theorem keys_at (off : Fin 2 → ℕ) (o : ℕ) (ho : off = ![o, 0]) (hin : ∀ a, off a + S512x256.size a ≤ S16384x256.size a)
    (hk : ∀ (s : Fin 16384) e, x1 (ix2 s e) = (kR s.val e : EReal)) (j : Fin 512) (e : Fin 256) :
    View.readAt (Elt Ideal) arg2.view (Rect.unit (s := S16384x256) off S512x256.size hin).toLoadRect (harg2.unread x1) (ix2 j e)
      = (kR (o + j.val) e : EReal) := by
  subst ho
  rw [harg2.readAt_unread]
  have h0 : o + 512 ≤ 16384 := hin 0
  have hj : o + j.val < 16384 := by omega
  refine Eq.trans (congrArg x1 ?_) (hk ⟨o + j.val, hj⟩ e)
  funext a
  apply Fin.ext
  match a with
  | ⟨0, _⟩ => show o + 1 * j.val = o + j.val; rw [one_mul]
  | ⟨1, _⟩ => show 0 + 1 * e.val = e.val; omega

/-- After `n` whole blocks the three arrays hold the state of the first `512 n` keys. -/
theorem loop_inv (hq : ∀ R e, v2 (ix2 R e) = (qR R e : EReal)) (hk : ∀ (s : Fin 16384) e, x1 (ix2 s e) = (kR s.val e : EReal))
    (h0 : Inv (fun _ => 0) (fun _ _ => 0) (arg5.view.read (Elt Ideal) G5) (arg6.view.read (Elt Ideal) G6) (arg7.view.read (Elt Ideal) G7))
    (n : ℕ) (hn : n ≤ nFull i) :
    Inv (wsum (i 0).val (zz qR kR) (512 * n)) (vsum (i 0).val (zz qR kR) (lanes kR) (512 * n))
      (arg5.view.read (Elt Ideal) (arg5.view.writes (Elt Ideal) G5 (pb_k0_t1 (F := Ideal) Variants.none c none i arg1 harg1 arg2 harg2 arg3 harg3 arg4 harg4 arg5 harg5 arg6 harg6 arg7 harg7 v0 v2 v19 c0_i32_15 v32 (harg2.unread x1) G5 G6 G7 n).1))
      (arg6.view.read (Elt Ideal) (arg6.view.writes (Elt Ideal) G6 (pb_k0_t1 (F := Ideal) Variants.none c none i arg1 harg1 arg2 harg2 arg3 harg3 arg4 harg4 arg5 harg5 arg6 harg6 arg7 harg7 v0 v2 v19 c0_i32_15 v32 (harg2.unread x1) G5 G6 G7 n).2.1))
      (arg7.view.read (Elt Ideal) (arg7.view.writes (Elt Ideal) G7 (pb_k0_t1 (F := Ideal) Variants.none c none i arg1 harg1 arg2 harg2 arg3 harg3 arg4 harg4 arg5 harg5 arg6 harg6 arg7 harg7 v0 v2 v19 c0_i32_15 v32 (harg2.unread x1) G5 G6 G7 n).2.2)) := by
  induction n with
  | zero => exact h0
  | succ n ih =>
    have hlt : n < (k0_t1_loop i).trips := by rw [trips_eq]; exact hn
    have hkv : ∀ (j : Fin 512) (e : Fin 256), kvAt i arg2 (harg2.unread x1) ⟨n, hlt⟩ (ix2 j e) = (kR (512 * n + j.val) e : EReal) :=
      keys_at arg2 harg2 x1 kR _ _ (off1_eq i ⟨n, hlt⟩) _ hk
    have hb := nFull_bounds i
    have key := Causal.step (trip_stepped Variants.none c none i arg1 harg1 arg2 harg2 arg3 harg3 arg4 harg4 arg5 harg5 arg6 harg6 arg7 harg7
      v0 v2 v19 c0_i32_15 v32 (harg2.unread x1) ⟨n, hlt⟩ _ _ _) (by omega) (ih (by omega))
      (fun h r j => (headLogits_real hq hkv h r j).trans (if_pos (by have := j.isLt; omega)).symm)
      (fun j d => (vals_apply _ j d).trans (hkv j (lane d)))
    rw [pb_k0_t1_succ Variants.none c none i arg1 harg1 arg2 harg2 arg3 harg3 arg4 harg4 arg5 harg5 arg6 harg6 arg7 harg7
      v0 v2 v19 c0_i32_15 v32 (harg2.unread x1) G5 G6 G7 ⟨n, hlt⟩]
    simp only [View.writes_append]
    exact key

end

section
variable (c : Dev nD) (i : grid0.Coords) (arg1 : Memref sig .tc .vmem S8x128x256 .bf16)
  (harg1 : arg1.IsWhole) (arg2 : Memref sig .tc .vmem S16384x256 .bf16) (harg2 : arg2.IsWhole)
  (arg3 : Memref sig .tc .vmem S8x128x512 .bf16) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (x0 : Vec Ideal S8x128x256 .bf16) (x1 : Vec Ideal S16384x256 .bf16)
  (qR : Fin 1024 → Fin 256 → ℝ) (kR : ℕ → Fin 256 → ℝ)

/-- The state before the last block is the loop's. -/
theorem X5_eq : X5 c i arg1 harg1 arg2 harg2 arg3 harg3 arg4 harg4 arg5 harg5 arg6 harg6 arg7 harg7 x0 x1
    = arg5.view.read (Elt Ideal) (arg5.view.writes (Elt Ideal) (arg5.view.writes (Elt Ideal) arg5.view.junk (kernelRun0_A.sl.HS0_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).1) := by
  rw [← trips_eq]
  unfold X5 L5 kernelRun0_A.sl.HS0_1_1
  rw [List.tail_cons, trips2_eq, View.writes_append, View.writes_append, View.writes_append]
  rfl

/-- The state before the last block is the loop's. -/
theorem X6_eq : X6 c i arg1 harg1 arg2 harg2 arg3 harg3 arg4 harg4 arg5 harg5 arg6 harg6 arg7 harg7 x0 x1
    = arg6.view.read (Elt Ideal) (arg6.view.writes (Elt Ideal) (arg6.view.writes (Elt Ideal) arg6.view.junk (kernelRun0_A.sl.HS1_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).2.1) := by
  rw [← trips_eq]
  unfold X6 L6 kernelRun0_A.sl.HS1_1_1
  rw [List.tail_cons, trips2_eq, View.writes_append, View.writes_append, View.writes_append]
  rfl

/-- The state before the last block is the loop's. -/
theorem X7_eq : X7 c i arg1 harg1 arg2 harg2 arg3 harg3 arg4 harg4 arg5 harg5 arg6 harg6 arg7 harg7 x0 x1
    = arg7.view.read (Elt Ideal) (arg7.view.writes (Elt Ideal) (arg7.view.writes (Elt Ideal) arg7.view.junk (kernelRun0_A.sl.HS2_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).2.2) := by
  rw [← trips_eq]
  unfold X7 L7 kernelRun0_A.sl.HS2_1_1
  rw [List.tail_cons, trips2_eq, View.writes_append, View.writes_append, View.writes_append]
  rfl

theorem mask_bot : (Named.named Cert.KernelIdeal.κ "mask" 0xF149F2CA#32 : Ideal .f32) = (⊥ : EReal) := rfl

/-- A masked logit: the logit up to the diagonal, nothing past it. -/
theorem maskedLogits_apply (q : FVec Ideal QQ .bf16) (kv : FVec Ideal KK .bf16) (h : Fin 8) (r : Fin 128) (j : Fin 512) :
    maskedLogits i q kv h (ix2 r j) = if 512 * nFull i + j.val ≤ 128 * (i 0).val + r.val then headLogits q kv h (ix2 r j) else ⊥ := by
  show Scalar.select (maskAt i (ix2 r j)) (headLogits q kv h (ix2 r j)) (Named.named Cert.KernelIdeal.κ "mask" 0xF149F2CA#32 : Ideal .f32) = _
  rw [mask_apply]
  split <;> rfl

/-- Before the first block the arrays hold the empty state. -/
theorem init_inv : Inv (fun _ => 0) (fun _ _ => 0)
    (arg5.view.read (Elt Ideal) (arg5.view.writes (Elt Ideal) arg5.view.junk (kernelRun0_A.sl.HS0_1 (F := Ideal))))
    (arg6.view.read (Elt Ideal) (arg6.view.writes (Elt Ideal) arg6.view.junk (kernelRun0_A.sl.HS1_1 (F := Ideal))))
    (arg7.view.read (Elt Ideal) (arg7.view.writes (Elt Ideal) arg7.view.junk (kernelRun0_A.sl.HS2_1 (F := Ideal)))) := by
  have e5 : arg5.view.read (Elt Ideal) (arg5.view.writes (Elt Ideal) arg5.view.junk (kernelRun0_A.sl.HS0_1 (F := Ideal))) = k0_pay122 (F := Ideal) :=
    read_wholePiece arg5.view _ (k0_pay122 (F := Ideal)) []
  have e6 : arg6.view.read (Elt Ideal) (arg6.view.writes (Elt Ideal) arg6.view.junk (kernelRun0_A.sl.HS1_1 (F := Ideal))) = k0_pay123 (F := Ideal) :=
    read_wholePiece arg6.view _ (k0_pay123 (F := Ideal)) []
  have e7 : arg7.view.read (Elt Ideal) (arg7.view.writes (Elt Ideal) arg7.view.junk (kernelRun0_A.sl.HS2_1 (F := Ideal))) = k0_pay124 (F := Ideal) :=
    read_wholePiece arg7.view _ (k0_pay124 (F := Ideal)) []
  rw [e5, e6, e7]
  intro R
  refine ⟨⊥, 0, fun l => ?_, fun l => ?_, ?_⟩
  · unfold k0_pay122
    simp only [shapeCast_self]
    exact mask_bot
  · unfold k0_pay123
    simp only [shapeCast_self]
    exact Ideal.ofBits_zero_f32
  · have e : (fun d : Fin 128 => (k0_pay124 (F := Ideal)) (ix2 R d)) = fun _ => (0 : EReal) := by
      funext d
      unfold k0_pay124
      simp only [shapeCast_self]
      exact Ideal.ofBits_zero_f32
    rw [e]
    exact St.init

/-- After the last block the two sums hold the state of every key up to the diagonal's block. -/
theorem tile_inv (hq : ∀ R e, qRows c arg1 harg1 x0 (ix2 R e) = (qR R e : EReal))
    (hk : ∀ (s : Fin 16384) e, x1 (ix2 s e) = (kR s.val e : EReal)) :
    ∃ Z5, Inv (wsum (i 0).val (zz qR kR) (512 * (nFull i + 1))) (vsum (i 0).val (zz qR kR) (lanes kR) (512 * (nFull i + 1))) Z5
      (Y6 c i arg1 harg1 arg2 harg2 arg3 harg3 arg4 harg4 arg5 harg5 arg6 harg6 arg7 harg7 x0 x1) (Y7 c i arg1 harg1 arg2 harg2 arg3 harg3 arg4 harg4 arg5 harg5 arg6 harg6 arg7 harg7 x0 x1) := by
  have h1 := loop_inv c i arg1 harg1 arg2 harg2 arg3 harg3 arg4 harg4 arg5 harg5 arg6 harg6 arg7 harg7 (kernelRun0_A.sl.v0 i)
    (kernelRun0_A.sl.r (F := Ideal) c arg1 harg1 x0) (kernelRun0_A.sl.v19 i) (0#32) (kernelRun0_A.sl.v32 i) x1 _ _ _ qR kR hq hk
    (init_inv arg5 arg6 arg7) (nFull i) le_rfl
  rw [← X5_eq, ← X6_eq, ← X7_eq] at h1
  obtain ⟨Z5, hS⟩ := last_stepped c i arg1 harg1 arg2 harg2 arg3 harg3 arg4 harg4 arg5 harg5 arg6 harg6 arg7 harg7 x0 x1
  refine ⟨Z5, ?_⟩
  have hkv : ∀ (j : Fin 512) (e : Fin 256), kvLast i arg2 harg2 x1 (ix2 j e) = (kR (512 * nFull i + j.val) e : EReal) :=
    keys_at arg2 harg2 x1 kR _ _ (off3_eq i) _ hk
  have hb := nFull_bounds i
  exact Causal.step hS (by omega) h1
    (fun h r j => (maskedLogits_apply i _ _ h r j).trans (by rw [headLogits_real hq hkv]))
    (fun j d => (vals_apply _ j d).trans (hkv j (lane d)))

/-- A tile's quotient of sums: the weighted mean of the values over all keys. -/
theorem tile_mean (hq : ∀ R e, qRows c arg1 harg1 x0 (ix2 R e) = (qR R e : EReal))
    (hk : ∀ (s : Fin 16384) e, x1 (ix2 s e) = (kR s.val e : EReal)) (X : Fin 8 → Fin 16384 → ℕ → ℝ) (h : Fin 8) (r d : Fin 128)
    (T : Fin 16384) (hT : T.val = 128 * (i 0).val + r.val) (hX : ∀ s, zz qR kR (row h r) s = X h T s) :
    Ideal.div (rowsOf (Y7 c i arg1 harg1 arg2 harg2 arg3 harg3 arg4 harg4 arg5 harg5 arg6 harg6 arg7 harg7 x0 x1) h (ix2 r d)) (rowsOf (Y6 c i arg1 harg1 arg2 harg2 arg3 harg3 arg4 harg4 arg5 harg5 arg6 harg6 arg7 harg7 x0 x1) h (ix2 r d))
      = mean X (lanes kR) h T d := by
  obtain ⟨Z5, hI⟩ := tile_inv c i arg1 harg1 arg2 harg2 arg3 harg3 arg4 harg4 arg5 harg5 arg6 harg6 arg7 harg7 x0 x1 qR kR hq hk
  have hl := nFull_lt i
  have hb := nFull_bounds i
  exact quotient (i 0).val (zz qR kR) (lanes kR) (by omega) (by omega) hI X h r d T hT hX

end

end Cert.Mla

end
-- ==== Proof.Host.lean ====
/- The host's block weights: every head's projection on the diagonal of an identity over the heads. -/
module

public import proofs.«01_k».proof.Proof.Gen.KernelIdeal.Value
public import Idealize.ShloMosaic.Lib.StableHlo.RunRead
public import Idealize.ShloMosaic.Lib.Pointwise

@[expose] public section

noncomputable section

namespace Cert.Mla

open Idealize.ShloMosaic Idealize.ShloMosaic.TcCoe Idealize.SL.Sem Cert.KernelIdeal Cert.KernelIdeal.Gen
open scoped BigOperators

attribute [local instance] Cert.KernelIdeal.Gen.facts

/-- One where the two heads agree, zero elsewhere. -/
def eyeAt (h g : Fin 8) : EReal := if h = g then 1 else 0

/-- The block weights over four axes: head, lane, head, column. -/
def blocks4 (w : FVec Ideal S128x8x64 .f32) : FVec Ideal S8x128x8x64 .f32 :=
  mulf
    (broadcastInDim S8x128x8x64 ![0, 1, 2, 3] bcast_S8x128x1x64_S8x128x8x64_0_1_2_3
      (broadcastInDim S8x128x1x64 ![0, 1, 3] bcast_S8x128x64_S8x128x1x64_0_1_3
        (transpose S8x128x64 [1, 0, 2] w transposes_S128x8x64_S8x128x64_1_0_2)))
    (broadcastInDim S8x128x8x64 ![0, 1, 2, 3] bcast_S8x1x8x1_S8x128x8x64_0_1_2_3
      (broadcastInDim S8x1x8x1 ![0, 2] bcast_S8x8_S8x1x8x1_0_2
        (uitofp (F := Ideal) FTy.f32
          (cmpi CmpIPredicate.eq
            (addi (iotaInDim S8x8 32 0) (broadcastInDim S8x8 ![] bcast_S_S8x8 (constantI S_ 32 0#32)))
            (iotaInDim S8x8 32 1)))))

theorem eye_word (h g : Fin 8) : (Scalar.uitofp (F := Ideal) .f32 (Scalar.cmpi .eq (BitVec.ofNat 32 h.val) (BitVec.ofNat 32 g.val)) : EReal) = eyeAt h g := by
  have e : Scalar.cmpi .eq (BitVec.ofNat 32 h.val) (BitVec.ofNat 32 g.val) = if h = g then 1#1 else 0#1 := by
    revert h g
    decide
  rw [e]
  unfold eyeAt
  split
  · show (((1#1 : BitVec 1).toNat : ℝ) : EReal) = 1
    norm_num
  · show (((0#1 : BitVec 1).toNat : ℝ) : EReal) = 0
    norm_num

theorem blocks4_apply (w : FVec Ideal S128x8x64 .f32) (h : Fin 8) (d : Fin 128) (g : Fin 8) (v : Fin 64) :
    blocks4 w (ix4 h d g v) = w (ix3 d h v) * eyeAt h g := by
  rw [← eye_word]
  pointwise [blocks4]
  have e : IntOp.addi (BitVec.ofNat 32 h.val) 0#32 = BitVec.ofNat 32 h.val := BitVec.add_zero _
  rw [e]
  rfl

/-- The head and the column of an output lane. -/
def headOf (e : Fin 512) : Fin 8 := ⟨e.val / 64, by omega⟩
def colOf (e : Fin 512) : Fin 64 := ⟨e.val % 64, by omega⟩

/-- The block weights as the kernel takes them. -/
def blocks (w : FVec Ideal S128x8x64 .f32) : FVec Ideal S8x128x512 .bf16 :=
  truncf .bf16 (shapeCast S8x128x512 (blocks4 w) shapeCasts_S8x128x8x64_S8x128x512) bitsLt_bf16_f32

theorem blocks_apply (w : FVec Ideal S128x8x64 .f32) (h : Fin 8) (d : Fin 128) (e : Fin 512) :
    blocks w (ix3 h d e) = w (ix3 d h (colOf e)) * eyeAt h (headOf e) := by
  rw [← blocks4_apply]
  pointwise [blocks]
  rfl

theorem v13_eq (m : (ℓ : Loc nD τ sig) → Buf (Elt Ideal) ℓ) (c : Dev nD) :
    V m c main_v13 = blocks (m ((c : Thread nD τ).loc main_arg2)) := by
  unfold V hostOps0
  after_reads_simp
  rfl

end Cert.Mla

end
-- ==== Proof.Project.lean ====
/- The result both programs reach: each row's mean of the values under its weights, through the heads' projection. -/
module

public import proofs.«01_k».proof.Proof.Mean

@[expose] public section

noncomputable section

namespace Cert.Mean

open Idealize.ShloMosaic
open scoped BigOperators

variable (qq : Fin 8 → Fin 16384 → Fin 256 → ℝ) (kk : ℕ → Fin 256 → ℝ)

/-- The logit of head `h`'s row `t` against key `s`. -/
def logit (h : Fin 8) (t : Fin 16384) (s : ℕ) : ℝ := ∑ e, qq h t e * kk s e

/-- The values: the keys' first 128 lanes. -/
def firsts (s : ℕ) (d : Fin 128) : EReal := (kk s ⟨d.val, by omega⟩ : EReal)

/-- The result at row `t` and lane `e`: head `e / 64`'s means through column `e % 64` of its projection. -/
def result (w : FVec Ideal ⟨3, ![128, 8, 64]⟩ .f32) (t : Fin 16384) (e : Fin 512) : EReal :=
  ∑ d : Fin 128, mean (logit qq kk) (firsts kk) ⟨e.val / 64, by omega⟩ t d * w (ix3 d (⟨e.val / 64, by omega⟩ : Fin 8) (⟨e.val % 64, by omega⟩ : Fin 64))

end Cert.Mean

end
-- ==== Proof.Out.lean ====
/- The kernel's result: every element is its row's mean of the values, through its head's projection. -/
module

public import proofs.«01_k».proof.Proof.Loop
public import proofs.«01_k».proof.Proof.Host
public import proofs.«01_k».proof.Proof.Project
import all proofs.«01_k».proof.Proof.Gen.KernelIdeal.Frame
import all proofs.«01_k».proof.Proof.Gen.KernelIdeal.Frame.RunA
public import Idealize.ShloMosaic.Lib.Pipeline.ValueKit

@[expose] public section

noncomputable section

namespace Cert.Mla

open Idealize.ShloMosaic Idealize.ShloMosaic.TcCoe Idealize.SL.Sem Cert.Tile Cert.Mean Cert.Causal Cert.KernelIdeal Cert.KernelIdeal.Gen
open scoped BigOperators

attribute [local instance] Cert.KernelIdeal.Gen.facts

/-- The queries as rows: row `h * 128 + r` is head `h`'s row `r`. -/
theorem qRows_apply (c : Dev nD) (arg1 : Memref sig .tc .vmem S8x128x256 .bf16) (harg1 : arg1.IsWhole) (x0 : Vec Ideal S8x128x256 .bf16)
    (h : Fin 8) (r : Fin 128) (e : Fin 256) : qRows c arg1 harg1 x0 (ix2 (row h r) e) = x0 (ix3 h r e) := by
  have hc : ∀ v : Vec Ideal S8x128x256 .bf16, k0_pay121 (F := Ideal) v (ix2 (row h r) e) = v (ix3 h r e) := by
    intro v
    pointwise [k0_pay121]
    refine congrArg v (funext fun a => Fin.ext ?_)
    match a with
    | ⟨0, _⟩ => show (h.val * 128 + r.val) / 128 = h.val; omega
    | ⟨1, _⟩ => show (h.val * 128 + r.val) % 128 = r.val; omega
    | ⟨2, _⟩ => rfl
  unfold qRows kernelRun0_A.sl.r
  rw [hc]
  refine (harg1.readAt_unread _ _ _).trans (congrArg x0 (funext fun a => Fin.ext ?_))
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem auxAt_apply (arg3 : Memref sig .tc .vmem S8x128x512 .bf16) (harg3 : arg3.IsWhole) (x2 : Vec Ideal S8x128x512 .bf16)
    (h : Fin 8) (d : Fin 128) (e : Fin 512) : auxAt arg3 harg3 x2 h (ix3 0 d e) = x2 (ix3 h d e) := by
  refine (harg3.readAt_unread _ _ _).trans (congrArg x2 (funext fun a => Fin.ext ?_))
  match a with
  | ⟨0, _⟩ => rfl
  | ⟨1, _⟩ => exact (Nat.zero_add _).trans (Nat.one_mul _)
  | ⟨2, _⟩ => exact (Nat.zero_add _).trans (Nat.one_mul _)

variable (m : (ℓ : Loc nD τ sig) → Buf (Elt Ideal) ℓ) (c : Dev nD)

/-- The arguments. -/
abbrev argQ : FVec Ideal S8x16384x256 .bf16 := m ((c : Thread nD τ).loc main_arg0)
abbrev argK : FVec Ideal S16384x1024 .bf16 := m ((c : Thread nD τ).loc main_arg1)
abbrev argW : FVec Ideal S128x8x64 .f32 := m ((c : Thread nD τ).loc main_arg2)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, 2] :=
  (by decide +kernel : ∀ t : Fin grid0.N, win0_1.index t = ![0, 2])
theorem index2 : ∀ t : Fin cfg0.N, win0_2.index t = ![0, 0, 0] :=
  (by decide +kernel : ∀ t : Fin grid0.N, win0_2.index t = ![0, 0, 0])
theorem index3 : ∀ t : Fin cfg0.N, win0_3.index t = ![t.val, 0] :=
  (by decide +kernel : ∀ t : Fin grid0.N, win0_3.index t = ![t.val, 0])
theorem coord0 : ∀ t : Fin cfg0.N, (grid0.coords t 0).val = t.val :=
  (by decide +kernel : ∀ t : Fin grid0.N, (grid0.coords t 0).val = t.val)

/-- The array's row that tile `t` holds at row `r`. -/
def at128 (t : Fin cfg0.N) (r : Fin 128) : Fin 16384 := ⟨t.val * 128 + r.val, by have h : t.val < 128 := t.isLt; omega⟩

theorem iblk0_apply (t : Fin cfg0.N) (h : Fin 8) (r : Fin 128) (e : Fin 256) :
    (iblk m c 0 t : Vec Ideal S8x128x256 .bf16) (ix3 h r e) = argQ m c (ix3 h (at128 t r) e) := by
  show ((cfg0.win 0).blk t).view.read (Elt Ideal) (V m c main_arg0) (ix3 h r e) = _
  rw [V_main_arg0]
  blk_simp
  refine congrArg (argQ m c) ?_
  blk_ext [index0, at128]

theorem iblk1_apply (t : Fin cfg0.N) (s : Fin 16384) (e : Fin 256) :
    (iblk m c 1 t : Vec Ideal S16384x256 .bf16) (ix2 s e) = argK m c (ix2 s ⟨512 + e.val, by omega⟩) := by
  show ((cfg0.win 1).blk t).view.read (Elt Ideal) (V m c main_arg1) (ix2 s e) = _
  rw [V_main_arg1]
  blk_simp
  refine congrArg (argK m c) ?_
  blk_ext [index1]

theorem iblk2_apply (t : Fin cfg0.N) (h : Fin 8) (d : Fin 128) (e : Fin 512) :
    (iblk m c 2 t : Vec Ideal S8x128x512 .bf16) (ix3 h d e) = argW m c (ix3 d h (colOf e)) * eyeAt h (headOf e) := by
  rw [← blocks_apply]
  show ((cfg0.win 2).blk t).view.read (Elt Ideal) (V m c main_v13) (ix3 h d e) = _
  rw [v13_eq]
  blk_simp
  refine congrArg (blocks (argW m c)) ?_
  blk_ext [index2]

/-- What a tile leaves in its output buffer. -/
theorem out0_eq (i : grid0.Coords) (arg1 : Memref sig .tc .vmem S8x128x256 .bf16) (harg1 : arg1.IsWhole) (arg2 : Memref sig .tc .vmem S16384x256 .bf16) (harg2 : arg2.IsWhole) (arg3 : Memref sig .tc .vmem S8x128x512 .bf16) (harg3 : arg3.IsWhole) (arg4 : Memref sig .tc .vmem S128x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole)
    (x0 : Vec Ideal S8x128x256 .bf16) (x1 : Vec Ideal S16384x256 .bf16) (x2 : Vec Ideal S8x128x512 .bf16) :
    out0_A_3 c i arg1 harg1 arg2 harg2 arg3 harg3 arg4 harg4 arg5 harg5 arg6 harg6 arg7 harg7 x0 x1 x2
      = kernelRun0_A.sl.r_34 (F := Ideal) c i arg1 harg1 arg2 harg2 arg3 harg3 arg4 harg4 arg5 harg5 arg6 harg6 arg7 harg7 x0 x1 x2 := by
  unfold out0_A_3 kernelRun0_A
  dsimp only
  funext y
  exact View.read_writes_cons_rows_of_mem VO0_3 _ (d := ![128, 512]) (o := 0) inb_S128x512_S128x512_0_0 _ [] y y rfl (Nat.zero_add _).symm rfl

section

variable (qq : Fin 8 → Fin 16384 → Fin 256 → ℝ) (kk : ℕ → Fin 256 → ℝ)

/-- Tile `t`'s rows of queries. -/
def rowsQ (t : Fin cfg0.N) (R : Fin 1024) (e : Fin 256) : ℝ := qq ⟨R.val / 128, by omega⟩ (at128 t ⟨R.val % 128, by omega⟩) e

theorem rowsQ_row (t : Fin cfg0.N) (h : Fin 8) (r : Fin 128) : rowsQ qq t (row h r) = qq h (at128 t r) := by
  have e1 : (⟨(row h r).val / 128, by omega⟩ : Fin 8) = h := Fin.ext (by show (h.val * 128 + r.val) / 128 = h.val; omega)
  have e2 : (⟨(row h r).val % 128, by omega⟩ : Fin 128) = r := Fin.ext (row_mod h r)
  funext e
  unfold rowsQ
  rw [e1, e2]

theorem at128_val (t : Fin cfg0.N) (r : Fin 128) : (at128 t r).val = 128 * (grid0.coords t 0).val + r.val := by
  rw [coord0]
  show t.val * 128 + r.val = _
  omega

/-- A tile's logits are the result's. -/
theorem zz_eq (t : Fin cfg0.N) (h : Fin 8) (r : Fin 128) (s : ℕ) : zz (rowsQ qq t) kk (row h r) s = logit qq kk h (at128 t r) s := by
  unfold zz logit
  rw [rowsQ_row]

/-- Only one head's weight block meets an output lane. -/
theorem heads_collapse (f : Fin 8 → Fin 128 → EReal) (w : Fin 8 → Fin 128 → EReal) (g : Fin 8) :
    ∑ h : Fin 8, ∑ d : Fin 128, f h d * (w h d * eyeAt h g) = ∑ d : Fin 128, f g d * w g d := by
  rw [Finset.sum_eq_single g]
  · refine Finset.sum_congr rfl fun d _ => ?_
    rw [eyeAt, if_pos rfl, mul_one]
  · intro h _ hne
    refine Finset.sum_eq_zero fun d _ => ?_
    rw [eyeAt, if_neg hne, mul_zero, mul_zero]
  · exact fun h => absurd (Finset.mem_univ g) h

/-- A tile's output. -/
theorem tile_out (hq : ∀ h t e, argQ m c (ix3 h t e) = (qq h t e : EReal)) (hk : ∀ (s : Fin 16384) (e : Fin 256), argK m c (ix2 s ⟨512 + e.val, by omega⟩) = (kk s.val e : EReal))
    (t : Fin cfg0.N) (r : Fin 128) (e : Fin 512) :
    outsAt0 m c t (ix2 r e) = result qq kk (argW m c) (at128 t r) e := by
  unfold outsAt0
  rw [out0_eq, out_eq, proj_apply]
  have hq' : ∀ R e, qRows c (ms0_0 t) (hs0_0 t) (iblk m c 0 t) (ix2 R e) = ((rowsQ qq t R e : ℝ) : EReal) := by
    intro R e
    obtain ⟨h, r, rfl⟩ := exists_row R
    rw [qRows_apply, rowsQ_row]
    exact (iblk0_apply m c t h r e).trans (hq _ _ _)
  have hk' : ∀ (s : Fin 16384) e, (iblk m c 1 t : Vec Ideal S16384x256 .bf16) (ix2 s e) = (kk s.val e : EReal) :=
    fun s e => (iblk1_apply m c t s e).trans (hk s e)
  have e1 : ∀ (h : Fin 8) (d : Fin 128), auxAt (ms0_2 t) (hs0_2 t) (iblk m c 2 t) h (ix3 0 d e) = argW m c (ix3 d h (colOf e)) * eyeAt h (headOf e) :=
    fun h d => (auxAt_apply _ _ _ h d e).trans (iblk2_apply m c t h d e)
  refine (Finset.sum_congr rfl fun h _ => Finset.sum_congr rfl fun d _ => congrArg₂ (· * ·)
    (tile_mean c (grid0.coords t) _ _ _ _ _ _ _ _ _ _ _ _ _ _ _ _ (rowsQ qq t) kk hq' hk' (logit qq kk) h r d (at128 t r)
      (at128_val t r) (zz_eq qq kk t h r)) (e1 h d)).trans ?_
  exact heads_collapse (fun h d => mean (logit qq kk) (firsts kk) h (at128 t r) d) (fun h d => argW m c (ix3 d h (colOf e))) (headOf e)

/-- The result array after the run. -/
theorem array_eq (hq : ∀ h t e, argQ m c (ix3 h t e) = (qq h t e : EReal)) (hk : ∀ (s : Fin 16384) (e : Fin 256), argK m c (ix2 s ⟨512 + e.val, by omega⟩) = (kk s.val e : EReal)) :
    (dats m 0 c).arrAt 3 cfg0.N = fun i : S16384x512.Idx => result qq kk (argW m c) (i 0) (i 1) := by
  refine (dats m 0 c).arrAt_eq_of_covers 3 _ (by decide +kernel) fun t hf y => ?_
  blk_simp
  rw [after0_3]
  have ey : y = ix2 (y 0) (y 1) := funext fun a => by match a with | ⟨0, _⟩ => rfl | ⟨1, _⟩ => rfl
  refine (congrArg (outsAt0 m c t) ey).trans ((tile_out m c qq kk hq hk t (y 0) (y 1)).trans ?_)
  refine congrArg₂ (result qq kk (argW m c)) (Fin.ext ?_) (Fin.ext ?_)
  · blk_simp [index3, at128]
  · blk_simp [index3]

end

end Cert.Mla

end
-- ==== Proof.Ref.lean ====
/- The reference's softmax attention, stage by stage. -/
module

public import proofs.«01_k».proof.Proof.Project
public import proofs.«01_k».proof.Proof.Gen.ReferenceIdeal.Run
public import proofs.«01_k».proof.Proof.Gen.ReferenceIdeal
public import Idealize.ShloMosaic.Lib.Pointwise
public import Idealize.ShloMosaic.Lib.WordCmp

@[expose] public section

noncomputable section

namespace Cert.MlaRef

open Cert.Softmax Cert.Mean Idealize.ShloMosaic Idealize.ShloMosaic.TcCoe Idealize.SL.Sem Cert.ReferenceIdeal Cert.ReferenceIdeal.Gen
open scoped BigOperators

attribute [local instance] Cert.ReferenceIdeal.Gen.facts

/-- The values: the keys' first 128 lanes. -/
def latent (kv : FVec Ideal S16384x1024 .bf16) : FVec Ideal S16384x128 .f32 :=
  extractStridedSlice S16384x128 ![0, 512] (extf .f32 kv bitsLt_bf16_f32) slices_S16384x1024_S16384x128_0_512

/-- The logits, in units of the natural exponential. -/
def scores (q : FVec Ideal S8x16384x256 .bf16) (kv : FVec Ideal S16384x1024 .bf16) : FVec Ideal S8x16384x16384 .f32 :=
  mulf (addf
      (Host.dotGeneral dot_S8x16384x128_S16384x128_S8x16384x16384_2_1_01_0_n_n none
        (extractStridedSlice S8x16384x128 ![0, 0, 0] (extf .f32 q bitsLt_bf16_f32) slices_S8x16384x256_S8x16384x128_0_0_0) (latent kv))
      (Host.dotGeneral dot_S8x16384x128_S16384x128_S8x16384x16384_2_1_01_0_n_n none
        (extractStridedSlice S8x16384x128 ![0, 0, 128] (extf .f32 q bitsLt_bf16_f32) slices_S8x16384x256_S8x16384x128_0_0_128)
        (extractStridedSlice S16384x128 ![0, 640] (extf .f32 kv bitsLt_bf16_f32) slices_S16384x1024_S16384x128_0_640)))
    (broadcastInDim S8x16384x16384 ![] bcast_S_S8x16384x16384 (Host.log (constant S_ .f32 0x40000000#32)))

/-- Where a key is not past its row. -/
def seen : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The logits with the keys past the row cut. -/
def masked (x : FVec Ideal S8x16384x16384 .f32) : FVec Ideal S8x16384x16384 .f32 :=
  select (broadcastInDim S8x16384x16384 ![1, 2] bcast_S16384x16384_S8x16384x16384_1_2 seen) x
    (broadcastInDim S8x16384x16384 ![] bcast_S_S8x16384x16384 (id (constant S_ .f32 0xFF800000#32)))

/-- The exponentials of the logits less their row's largest. -/
def expd (x : FVec Ideal S8x16384x16384 .f32) : FVec Ideal S8x16384x16384 .f32 :=
  Host.exp (subf x (broadcastInDim S8x16384x16384 ![0, 1, 2] bcast_S8x16384x1_S8x16384x16384_0_1_2 (broadcastInDim S8x16384x1 ![0, 1] bcast_S8x16384_S8x16384x1_0_1
    (maximumf (broadcastInDim S8x16384 ![] bcast_S_S8x16384 (constant S_ .f32 0xFF800000#32))
      (Host.reduce FloatOps.maximumf x (constant S_ .f32 0xFF800000#32) reducesTo_S8x16384x16384_S8x16384_d2 h_S_)))))

/-- The exponentials over their row's sum. -/
def probs (x : FVec Ideal S8x16384x16384 .f32) : FVec Ideal S8x16384x16384 .f32 :=
  Host.divf (expd x) (broadcastInDim S8x16384x16384 ![0, 1, 2] bcast_S8x16384x1_S8x16384x16384_0_1_2 (broadcastInDim S8x16384x1 ![0, 1] bcast_S8x16384_S8x16384x1_0_1
    (Host.reduceAdd (expd x) (constant S_ .f32 0x00000000#32) reducesTo_S8x16384x16384_S8x16384_d2 h_S_)))

/-- The values' means through the heads' projection, the heads side by side. -/
def outputs (w : FVec Ideal S128x8x64 .f32) (v : FVec Ideal S16384x128 .f32) (p : FVec Ideal S8x16384x16384 .f32) : FVec Ideal S16384x512 .f32 :=
  shapeCast _ (transpose S16384x8x64 [2, 0, 1] (Host.dotGeneral dot_S128x8x64_S16384x8x128_S8x64x16384_0_2_2_0_1_1 none w
    (transpose S16384x8x128 [2, 1, 0] (Host.dotGeneral dot_S16384x128_S8x16384x16384_S128x8x16384_0_2_1_01_n_n none v p) transposes_S128x8x16384_S16384x8x128_2_1_0)) transposes_S8x64x16384_S16384x8x64_2_0_1) shapeCasts_S16384x8x64_S16384x512

theorem res_eq (m : (ℓ : Loc nD τ sig) → Buf (Elt Ideal) ℓ) (c : Dev nD) :
    Cert.ReferenceIdeal.Value.res_main_v34 m c = outputs (m ((c.tc : Thread nD τ).loc main_arg2)) (latent (m ((c.tc : Thread nD τ).loc main_arg1)))
      (probs (masked (scores (m ((c.tc : Thread nD τ).loc main_arg0)) (m ((c.tc : Thread nD τ).loc main_arg1))))) := by
  unfold Cert.ReferenceIdeal.Value.res_main_v34
  rfl

theorem latent_apply (kv : FVec Ideal S16384x1024 .bf16) (s : Fin 16384) (d : Fin 128) :
    latent kv (ix2 s d) = kv (ix2 s ⟨512 + d.val, by omega⟩) := by
  pointwise [latent]

/-- The word of negative infinity. -/
theorem neg_inf : Ideal.ofBits .f32 0xFF800000#32 = (⊥ : EReal) := by
  simp [Ideal.ofBits, Ideal.ieee]

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

theorem scores_apply (q : FVec Ideal S8x16384x256 .bf16) (kv : FVec Ideal S16384x1024 .bf16) (h : Fin 8) (t s : Fin 16384) :
    scores q kv (ix3 h t s) = (∑ e : Fin 256, q (ix3 h t e) * kv (ix2 s ⟨512 + e.val, by omega⟩)) * ((Real.log 2 : ℝ) : EReal) := by
  pointwise [scores, latent]
  rw [log_two]
  refine congrArg (· * ((Real.log 2 : ℝ) : EReal)) ?_
  refine Eq.symm ((Fin.sum_univ_add (a := 128) (b := 128) fun e : Fin 256 => q (ix3 h t e) * kv (ix2 s ⟨512 + e.val, by omega⟩)).trans ?_)
  refine congrArg₂ (· + ·) rfl (Finset.sum_congr rfl fun x _ => ?_)
  refine congrArg (fun j : Fin 1024 => q (ix3 h t ⟨128 + x.val, by omega⟩) * kv (ix2 s j)) (Fin.ext ?_)
  show 512 + (128 + x.val) = 640 + x.val
  omega

theorem masked_apply (x : FVec Ideal S8x16384x16384 .f32) (h : Fin 8) (t s : Fin 16384) :
    masked x (ix3 h t s) = if s.val ≤ t.val then x (ix3 h t s) else ⊥ := by
  have hs := s.isLt
  have ht := t.isLt
  have e : IntOp.cmpi .sle (BitVec.ofNat 32 s.val) (BitVec.ofNat 32 t.val) = BitVec.ofBool (decide (s.val ≤ t.val)) :=
    WordCmp.cmpi_sle_ofNat (by omega) (by omega)
  have eb : (id (constant (F := Ideal) S_ .f32 0xFF800000#32) ix0 : EReal) = ⊥ := neg_inf
  pointwise [masked, seen]
  rw [e, eb]
  by_cases h : s.val ≤ t.val
  · rw [if_pos h, decide_eq_true h]
    rfl
  · rw [if_neg h, decide_eq_false h]
    rfl

/-- A row's largest logit, from the reduction over the keys. -/
theorem row_top {a b n : ℕ} (x : FVec Ideal ⟨3, ![a, b, n]⟩ .f32) (h' : (⟨3, ![a, b, n]⟩ : Shape).ReducesTo [2] ⟨2, ![a, b]⟩)
    (h : (⟨3, ![a, b, n]⟩ : Shape).Reduces [2] ⟨2, ![a, b]⟩) (hu : 0 < (⟨0, ![]⟩ : Shape).numel) (i : Fin a) (j : Fin b) :
    Host.reduce FloatOps.maximumf x (constant (⟨0, ![]⟩ : Shape) .f32 0xFF800000#32) h' hu (ix2 i j)
      = Finset.univ.sup fun k : Fin n => x (ix3 i j k) := by
  rw [Host.reduce_eq_fold_single FloatOps.maximumf x _ h' h hu]
  have hf : (x ∘ h.lift (ix2 i j)) = fun k : Fin n => x (ix3 i j k) :=
    funext fun k => congrArg x (funext fun c => Fin.ext (by
      match c with
      | ⟨0, _⟩ => rfl
      | ⟨1, _⟩ => rfl
      | ⟨2, _⟩ => rfl))
  refine (congrArg (fun f : Fin n → EReal => Finset.fold max (Ideal.ofBits .f32 0xFF800000#32) f Finset.univ) hf).trans ?_
  rw [neg_inf]
  rfl

theorem red_last {a b n : ℕ} : (⟨3, ![a, b, n]⟩ : Shape).Reduces [2] ⟨2, ![a, b]⟩ :=
  ⟨rfl, Nat.two_pos, fun c => by
    match c with
    | ⟨0, _⟩ => rfl
    | ⟨1, _⟩ => rfl⟩

/-- The largest of negative infinity and a row's logits. -/
theorem row_max {a b n : ℕ} (z : FVec Ideal ⟨2, ![a, b]⟩ .f32) (hz : ∀ i j, z (ix2 i j) = (⊥ : EReal)) (x : FVec Ideal ⟨3, ![a, b, n]⟩ .f32)
    (h' : (⟨3, ![a, b, n]⟩ : Shape).ReducesTo [2] ⟨2, ![a, b]⟩) (hu : 0 < (⟨0, ![]⟩ : Shape).numel) (i : Fin a) (j : Fin b) :
    maximumf z (Host.reduce FloatOps.maximumf x (constant (⟨0, ![]⟩ : Shape) .f32 0xFF800000#32) h' hu) (ix2 i j)
      = Finset.univ.sup fun k : Fin n => x (ix3 i j k) := by
  have e := row_top x h' red_last hu i j
  refine (congrArg₂ (max : EReal → EReal → EReal) (hz i j) e).trans ?_
  exact max_eq_right bot_le

/-- A row's largest logit, for every key at once. -/
def tops (x : FVec Ideal S8x16384x16384 .f32) : FVec Ideal S8x16384 .f32 :=
  maximumf (broadcastInDim S8x16384 ![] bcast_S_S8x16384 (constant S_ .f32 0xFF800000#32))
      (Host.reduce FloatOps.maximumf x (constant S_ .f32 0xFF800000#32) reducesTo_S8x16384x16384_S8x16384_d2 h_S_)

theorem tops_apply (x : FVec Ideal S8x16384x16384 .f32) (h : Fin 8) (t : Fin 16384) :
    tops x (ix2 h t) = Finset.univ.sup fun k : Fin 16384 => x (ix3 h t k) := by
  exact row_max _ (fun _ _ => neg_inf) x reducesTo_S8x16384x16384_S8x16384_d2 h_S_ h t

theorem expd_eq (x : FVec Ideal S8x16384x16384 .f32) : expd x =
    Host.exp (subf x (broadcastInDim S8x16384x16384 ![0, 1, 2] bcast_S8x16384x1_S8x16384x16384_0_1_2 (broadcastInDim S8x16384x1 ![0, 1] bcast_S8x16384_S8x16384x1_0_1 (tops x)))) := rfl

theorem expd_apply (x : FVec Ideal S8x16384x16384 .f32) (h : Fin 8) (t s : Fin 16384) :
    expd x (ix3 h t s) = Ideal.exp (x (ix3 h t s) - Finset.univ.sup fun k : Fin 16384 => x (ix3 h t k)) := by
  rw [← tops_apply, expd_eq]
  pointwise []

theorem probs_apply (x : FVec Ideal S8x16384x16384 .f32) (h : Fin 8) (t s : Fin 16384) :
    probs x (ix3 h t s) = Ideal.div (expd x (ix3 h t s)) (∑ k : Fin 16384, expd x (ix3 h t k)) := by
  pointwise [probs]

theorem outputs_apply (w : FVec Ideal S128x8x64 .f32) (v : FVec Ideal S16384x128 .f32) (p : FVec Ideal S8x16384x16384 .f32) (t : Fin 16384) (e : Fin 512) :
    outputs w v p (ix2 t e) = ∑ d : Fin 128, w (ix3 d (⟨e.val / 64, by omega⟩ : Fin 8) (⟨e.val % 64, by omega⟩ : Fin 64)) * ∑ s : Fin 16384, v (ix2 s d) * p (ix3 (⟨e.val / 64, by omega⟩ : Fin 8) t s) := by
  pointwise [outputs]

section

variable (qq : Fin 8 → Fin 16384 → Fin 256 → ℝ) (kk : ℕ → Fin 256 → ℝ) (q : FVec Ideal S8x16384x256 .bf16) (kv : FVec Ideal S16384x1024 .bf16)

theorem scores_real (hq : ∀ h t e, q (ix3 h t e) = (qq h t e : EReal)) (hk : ∀ (s : Fin 16384) (e : Fin 256), kv (ix2 s ⟨512 + e.val, by omega⟩) = (kk s.val e : EReal))
    (h : Fin 8) (t s : Fin 16384) : scores q kv (ix3 h t s) = ((logit qq kk h t s.val * Real.log 2 : ℝ) : EReal) := by
  rw [scores_apply]
  simp only [hq, hk, ← EReal.coe_mul, ← coe_sum]
  rfl

theorem probs_real (hq : ∀ h t e, q (ix3 h t e) = (qq h t e : EReal)) (hk : ∀ (s : Fin 16384) (e : Fin 256), kv (ix2 s ⟨512 + e.val, by omega⟩) = (kk s.val e : EReal))
    (h : Fin 8) (t s : Fin 16384) : probs (masked (scores q kv)) (ix3 h t s)
      = ((weight (logit qq kk) h t s.val / total (logit qq kk) h t : ℝ) : EReal) := by
  rw [probs_apply]
  simp only [expd_apply]
  refine softmax_weight (logit qq kk) h t (fun k : Fin 16384 => masked (scores q kv) (ix3 h t k)) (fun k => ?_) s
  rw [masked_apply, scores_real qq kk q kv hq hk]

/-- A row's mean of a value's lane under its probabilities. -/
theorem mean_real (hq : ∀ h t e, q (ix3 h t e) = (qq h t e : EReal)) (hk : ∀ (s : Fin 16384) (e : Fin 256), kv (ix2 s ⟨512 + e.val, by omega⟩) = (kk s.val e : EReal))
    (h : Fin 8) (t : Fin 16384) (d : Fin 128) :
    ∑ s : Fin 16384, latent kv (ix2 s d) * probs (masked (scores q kv)) (ix3 h t s) = mean (logit qq kk) (firsts kk) h t d := by
  have hv : ∀ s : Fin 16384, latent kv (ix2 s d) = firsts kk s.val d :=
    fun s => (latent_apply kv s d).trans (hk s ⟨d.val, by omega⟩)
  rw [← mean_eq_sum]
  refine Finset.sum_congr rfl fun s _ => ?_
  rw [hv, probs_real qq kk q kv hq hk, mul_comm]

/-- The reference's result: each row's mean of the values under its weights, through the heads' projection. -/
theorem outputs_eq (hq : ∀ h t e, q (ix3 h t e) = (qq h t e : EReal)) (hk : ∀ (s : Fin 16384) (e : Fin 256), kv (ix2 s ⟨512 + e.val, by omega⟩) = (kk s.val e : EReal))
    (w : FVec Ideal S128x8x64 .f32) (t : Fin 16384) (e : Fin 512) :
    outputs w (latent kv) (probs (masked (scores q kv))) (ix2 t e) = result qq kk w t e := by
  rw [outputs_apply, result]
  refine Finset.sum_congr rfl fun d _ => ?_
  rw [mean_real qq kk q kv hq hk]
  exact mul_comm _ _

end

end Cert.MlaRef

end
-- ==== Proof.Finite.lean ====
/- The precondition: the arguments it names are finite, so they are real numbers. -/
module

public import proofs.«01_k».proof.Pre_finite
public import Idealize.ShloMosaic.Lib.Pointwise

@[expose] public section

noncomputable section

namespace Cert.Finite

open Idealize.ShloMosaic Cert.Pre_finite

/-- The precondition's side conditions. -/
theorem facts : Cert.Pre_finite.Facts :=
  ⟨by decide, by decide, by decide, by decide⟩

attribute [local instance] facts

theorem real_of_abs (x : Ideal .f32) (h : FloatOps.cmpf (F := Ideal) .olt (FloatOps.hostAbsf x) (Ideal.ofBits .f32 0x7F800000#32) = 1#1) :
    ((EReal.toReal x : ℝ) : EReal) = x := by
  have ei : Ideal.ofBits .f32 0x7F800000#32 = (⊤ : EReal) := by simp [Ideal.ofBits, Ideal.ieee]
  have hx : max (x : EReal) (-x) < ⊤ := by
    by_contra hn
    have e : FloatOps.cmpf (F := Ideal) .olt (FloatOps.hostAbsf x) (Ideal.ofBits .f32 0x7F800000#32) = BitVec.ofBool (decide (max (x : EReal) (-x) < ⊤)) := by
      rw [ei]
      rfl
    rw [e, decide_eq_false hn] at h
    exact absurd h (by decide)
  refine EReal.coe_toReal (fun ht => ?_) (fun hb => ?_)
  · rw [ht] at hx
    exact absurd hx (by simp)
  · rw [hb] at hx
    exact absurd hx (by simp)

variable (q : FVec Ideal S8x16384x256 .bf16) (kv : FVec Ideal S16384x1024 .bf16) (w : FVec Ideal S128x8x64 .f32)

theorem queries (h : (fn q kv w).1 = fun _ => 1#1) (x : S8x16384x256.Idx) : ((EReal.toReal (q x) : ℝ) : EReal) = q x := by
  have e := congrFun h x
  refine real_of_abs (q x) ?_
  exact e

theorem keys (h : (fn q kv w).2 = fun _ => 1#1) (s : Fin 16384) (e : Fin 256) :
    ((EReal.toReal (kv (ix2 s ⟨512 + e.val, by omega⟩)) : ℝ) : EReal) = kv (ix2 s ⟨512 + e.val, by omega⟩) := by
  have e := congrFun h (ix2 s e)
  refine real_of_abs _ ?_
  revert e
  unfold fn
  dsimp only
  pointwise []
  exact id

end Cert.Finite

end
-- ==== Proof.Equal.lean ====
/- The kernel and the reference reach the same result. -/
module

public import proofs.«01_k».proof.Defs
public import proofs.«01_k».proof.Proof.Out
public import proofs.«01_k».proof.Proof.Ref
public import proofs.«01_k».proof.Proof.Finite

@[expose] public section

noncomputable section

namespace Cert.Equal

open Idealize.ShloMosaic Idealize.ShloMosaic.TcCoe Idealize.SL.Sem Cert.Mean

attribute [local instance] Cert.KernelIdeal.Gen.facts Cert.ReferenceIdeal.Gen.facts Cert.Finite.facts

section

variable (m : (ℓ : Loc Cert.KernelIdeal.nD Cert.KernelIdeal.τ Cert.KernelIdeal.sig) → Buf (Elt Ideal) ℓ) (c : Dev Cert.KernelIdeal.nD)

/-- The queries as real numbers. -/
def realQ (h : Fin 8) (t : Fin 16384) (e : Fin 256) : ℝ := EReal.toReal (Cert.Mla.argQ m c (ix3 h t e))

/-- The keys as real numbers. -/
def realK (s : ℕ) (e : Fin 256) : ℝ := if hs : s < 16384 then EReal.toReal (Cert.Mla.argK m c (ix2 (⟨s, hs⟩ : Fin 16384) (⟨512 + e.val, by omega⟩ : Fin 1024))) else 0

/-- The result of the arguments. -/
def value (i : Cert.KernelIdeal.S16384x512.Idx) : EReal := result (realQ m c) (realK m c) (Cert.Mla.argW m c) (i 0) (i 1)

variable (hpre : Cert.Pre_KernelIdeal_finite m)

include hpre

theorem realQ_eq (h : Fin 8) (t : Fin 16384) (e : Fin 256) : Cert.Mla.argQ m c (ix3 h t e) = (realQ m c h t e : EReal) :=
  (Cert.Finite.queries _ _ _ (hpre c).1 _).symm

theorem realK_eq (s : Fin 16384) (e : Fin 256) : Cert.Mla.argK m c (ix2 s ⟨512 + e.val, by omega⟩) = (realK m c s.val e : EReal) := by
  unfold realK
  rw [dif_pos s.isLt]
  exact (Cert.Finite.keys _ _ _ (hpre c).2 s e).symm

end

/-- The two programs' results are equal. -/
theorem algebraic : Cert.algebraic_KernelIdeal_ReferenceIdeal_pre_finite := by
  intro m g m' g' hpre hargs
  refine ⟨fun c => value m c, ?_, ?_⟩
  · refine (θ_run _ _ _).mono (fun r h c => ⟨(h c).1.trans ?_, (h c).2⟩) (Cert.KernelIdeal.Value.run_blocks m g)
    exact Cert.Mla.array_eq m c (realQ m c) (realK m c) (realQ_eq m c hpre) (realK_eq m c hpre)
  · refine (θ_run _ _ _).mono (fun r h c => ⟨(h c).1.trans ?_, (h c).2⟩) (Cert.ReferenceIdeal.Value.run (F := Ideal) m' g')
    rw [Cert.MlaRef.res_eq, (hargs c).1, (hargs c).2.1, (hargs c).2.2]
    funext i
    have ei : i = ix2 (i 0) (i 1) := funext fun a => by match a with | ⟨0, _⟩ => rfl | ⟨1, _⟩ => rfl
    refine (congrArg _ ei).trans ?_
    exact Cert.MlaRef.outputs_eq (realQ m c) (realK m c) _ _ (realQ_eq m c hpre) (realK_eq m c hpre) (Cert.Mla.argW m c) (i 0) (i 1)

end Cert.Equal

end
-- ==== Proof.FoxTrip.lean ====
/- One trip of the forgetting attention's loop over whole blocks of keys: what it stores, as one step of the running
   softmax. -/
module

public import proofs.«01_k».proof.Proof.Rows
public import proofs.«01_k».proof.Proof.Gen.Kernel2Ideal.Loops
import all proofs.«01_k».proof.Proof.Gen.Kernel2Ideal.Loops

@[expose] public section

noncomputable section

namespace Cert.Fox

open Idealize.ShloMosaic Cert.Tile Cert.Kernel2Ideal Cert.Kernel2Ideal.Gen
open scoped BigOperators

attribute [local instance] Cert.Kernel2Ideal.Gen.facts

/-- One head's gate sums over a block of keys, as loaded. -/
abbrev BH : Shape := ⟨3, ![1, 1, 512]⟩
/-- The same as a row. -/
abbrev BR : Shape := ⟨2, ![1, 512]⟩

theorem sliceH (h : Fin 8) : AK.Slices ![h.val * 128, 0] HK := by revert h; decide
theorem castB : BH.ShapeCasts BR := by decide
theorem bcastB : BR.Broadcasts HK := by decide

/-- The dimension numbers of queries against keys. -/
def dotQK : DotDims AQ VK AK := DotDims.transposedRhs 1024 128 512

/-- All heads' products of queries and a block's keys. -/
def products (q : FVec Ideal AQ .bf16) (k : FVec Ideal VK .bf16) : FVec Ideal AK .f32 :=
  matmul dotQK none q k (constant AK .f32 0x00000000#32)

/-- One head's logits of a block: the products and the keys' gate sums. -/
def headLogits (q : FVec Ideal AQ .bf16) (k : FVec Ideal VK .bf16) (b : Fin 8 → FVec Ideal BH .f32) (h : Fin 8) : FVec Ideal HK .f32 :=
  addf (extractStridedSlice HK ![h.val * 128, 0] (products q k) (sliceH h)) (broadcastTo HK (shapeCast BR (b h) castB) bcastB)

section
variable (𝒱 : Variants) (c : Dev nD) (bd : Option 𝒱.V) (i : grid0.Coords) (arg1 : Memref sig .tc .vmem S8x128x128 .bf16)
  (harg1 : arg1.IsWhole) (arg2 : Memref sig .tc .vmem S16384x256 .bf16) (harg2 : arg2.IsWhole)
  (arg3 : Memref sig .tc .vmem S32x8x512 .f32) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (v0 : BitVec 32) (v2 : FVec Ideal S1024x128 .bf16) (v19 : BitVec 32) (c0_i32_15 : BitVec 32)
  (v32 : BitVec 32) (X_arg2 : BufTy.Contents (Elt Ideal) arg2.view.ty) (X_arg3 : BufTy.Contents (Elt Ideal) arg3.view.ty)
  (k : Fin (k0_t1_loop i).trips)
  (f5 : BufTy.Contents (Elt Ideal) arg5.view.ty) (f6 : BufTy.Contents (Elt Ideal) arg6.view.ty)
  (f7 : BufTy.Contents (Elt Ideal) arg7.view.ty)

/-- The block of keys trip `k` loads. -/
def kAt : FVec Ideal VK .bf16 :=
  View.readAt (Elt Ideal) arg2.view (Rect.unit (s := S16384x256) (k0_off1 i k) S512x128.size (Facts₀.k0_off1_inb i k)).toLoadRect X_arg2

/-- The block of values trip `k` loads. -/
def vAt : FVec Ideal VK .bf16 :=
  View.readAt (Elt Ideal) arg2.view (Rect.unit (s := S16384x256) (k0_off2 i k) S512x128.size (Facts₀.k0_off2_inb i k)).toLoadRect X_arg2

/-- The heads' gate sums trip `k` loads. -/
def bAt : Fin 8 → FVec Ideal BH .f32 := ![
  View.readAt (Elt Ideal) arg3.view (Rect.unit (s := S32x8x512) (k0_off3 i k) S1x1x512.size (Facts₀.k0_off3_inb i k)).toLoadRect X_arg3,
  View.readAt (Elt Ideal) arg3.view (Rect.unit (s := S32x8x512) (k0_off4 i k) S1x1x512.size (Facts₀.k0_off4_inb i k)).toLoadRect X_arg3,
  View.readAt (Elt Ideal) arg3.view (Rect.unit (s := S32x8x512) (k0_off5 i k) S1x1x512.size (Facts₀.k0_off5_inb i k)).toLoadRect X_arg3,
  View.readAt (Elt Ideal) arg3.view (Rect.unit (s := S32x8x512) (k0_off6 i k) S1x1x512.size (Facts₀.k0_off6_inb i k)).toLoadRect X_arg3,
  View.readAt (Elt Ideal) arg3.view (Rect.unit (s := S32x8x512) (k0_off7 i k) S1x1x512.size (Facts₀.k0_off7_inb i k)).toLoadRect X_arg3,
  View.readAt (Elt Ideal) arg3.view (Rect.unit (s := S32x8x512) (k0_off8 i k) S1x1x512.size (Facts₀.k0_off8_inb i k)).toLoadRect X_arg3,
  View.readAt (Elt Ideal) arg3.view (Rect.unit (s := S32x8x512) (k0_off9 i k) S1x1x512.size (Facts₀.k0_off9_inb i k)).toLoadRect X_arg3,
  View.readAt (Elt Ideal) arg3.view (Rect.unit (s := S32x8x512) (k0_off10 i k) S1x1x512.size (Facts₀.k0_off10_inb i k)).toLoadRect X_arg3]

theorem trip5 : (trip_k0_t1 (F := Ideal) 𝒱 c bd i arg1 harg1 arg2 harg2 arg3 harg3 arg4 harg4 arg5 harg5 arg6 harg6 arg7 harg7
      v0 v2 v19 c0_i32_15 v32 X_arg2 X_arg3 k).1 f5 f6 f7
    = rows8 (fun h => mNew (headLogits v2 (kAt i arg2 X_arg2 k) (bAt i arg3 X_arg3 k) h)
        (View.readAt (Elt Ideal) arg5.view (Rect.unit (s := AQ) ![h.val * 128, 0] HQ.size (inbH h)).toLoadRect f5)) [] := by
  unfold trip_k0_t1
  dsimp only
  simp only [trip_k0_t1.sl.v425, trip_k0_t1.sl.v448, trip_k0_t1.sl.v471, trip_k0_t1.sl.v494, trip_k0_t1.sl.v517, trip_k0_t1.sl.v540, trip_k0_t1.sl.v563, trip_k0_t1.sl.v586, shapeCast_self]
  rfl

theorem trip6 : (trip_k0_t1 (F := Ideal) 𝒱 c bd i arg1 harg1 arg2 harg2 arg3 harg3 arg4 harg4 arg5 harg5 arg6 harg6 arg7 harg7
      v0 v2 v19 c0_i32_15 v32 X_arg2 X_arg3 k).2.1 f5 f6 f7
    = rows8 (fun h => lNew (headLogits v2 (kAt i arg2 X_arg2 k) (bAt i arg3 X_arg3 k) h)
        (View.readAt (Elt Ideal) arg5.view (Rect.unit (s := AQ) ![h.val * 128, 0] HQ.size (inbH h)).toLoadRect f5)
        (View.readAt (Elt Ideal) arg6.view (Rect.unit (s := AQ) ![h.val * 128, 0] HQ.size (inbH h)).toLoadRect f6)) [] := by
  unfold trip_k0_t1
  dsimp only
  simp only [trip_k0_t1.sl.v422, trip_k0_t1.sl.v445, trip_k0_t1.sl.v468, trip_k0_t1.sl.v491, trip_k0_t1.sl.v514, trip_k0_t1.sl.v537, trip_k0_t1.sl.v560, trip_k0_t1.sl.v583, shapeCast_self]
  rfl

theorem trip7 : (trip_k0_t1 (F := Ideal) 𝒱 c bd i arg1 harg1 arg2 harg2 arg3 harg3 arg4 harg4 arg5 harg5 arg6 harg6 arg7 harg7
      v0 v2 v19 c0_i32_15 v32 X_arg2 X_arg3 k).2.2.1 f5 f6 f7
    = [wholePiece (aNew dot Facts₀.bitsLt_bf16_f32 (headLogits v2 (kAt i arg2 X_arg2 k) (bAt i arg3 X_arg3 k))
        (fun h => View.readAt (Elt Ideal) arg5.view (Rect.unit (s := AQ) ![h.val * 128, 0] HQ.size (inbH h)).toLoadRect f5)
        (vAt i arg2 X_arg2 k)
        (View.readAt (Elt Ideal) arg7.view (Rect.unit (s := AQ) ![0, 0] AQ.size inbA).toLoadRect f7))] := by
  unfold trip_k0_t1
  dsimp only
  simp only [k0_pay124, shapeCast_self]
  rfl

/-- Trip `k` is one step of the running softmax over the block it loads. -/
theorem trip_stepped :
    Stepped Facts₀.bitsLt_bf16_f32 (headLogits v2 (kAt i arg2 X_arg2 k) (bAt i arg3 X_arg3 k)) (vAt i arg2 X_arg2 k)
      (arg5.view.read (Elt Ideal) f5) (arg6.view.read (Elt Ideal) f6) (arg7.view.read (Elt Ideal) f7)
      (arg5.view.read (Elt Ideal) (arg5.view.writes (Elt Ideal) f5
        ((trip_k0_t1 (F := Ideal) 𝒱 c bd i arg1 harg1 arg2 harg2 arg3 harg3 arg4 harg4 arg5 harg5 arg6 harg6 arg7 harg7
          v0 v2 v19 c0_i32_15 v32 X_arg2 X_arg3 k).1 f5 f6 f7)))
      (arg6.view.read (Elt Ideal) (arg6.view.writes (Elt Ideal) f6
        ((trip_k0_t1 (F := Ideal) 𝒱 c bd i arg1 harg1 arg2 harg2 arg3 harg3 arg4 harg4 arg5 harg5 arg6 harg6 arg7 harg7
          v0 v2 v19 c0_i32_15 v32 X_arg2 X_arg3 k).2.1 f5 f6 f7)))
      (arg7.view.read (Elt Ideal) (arg7.view.writes (Elt Ideal) f7
        ((trip_k0_t1 (F := Ideal) 𝒱 c bd i arg1 harg1 arg2 harg2 arg3 harg3 arg4 harg4 arg5 harg5 arg6 harg6 arg7 harg7
          v0 v2 v19 c0_i32_15 v32 X_arg2 X_arg3 k).2.2.1 f5 f6 f7))) where
  y5 h r l := by
    rw [trip5, read_rows8]
    exact congrFun (congrArg (mNew _) (readAt_rows arg5.view f5 h)) _
  y6 h r l := by
    rw [trip6, read_rows8]
    exact congrFun (congrArg₂ (lNew _) (readAt_rows arg5.view f5 h) (readAt_rows arg6.view f6 h)) _
  y7 := by
    rw [trip7, read_wholePiece]
    exact congrArg₂ (fun a b => aNew dot Facts₀.bitsLt_bf16_f32 (headLogits v2 (kAt i arg2 X_arg2 k) (bAt i arg3 X_arg3 k)) a
      (vAt i arg2 X_arg2 k) b) (funext fun h => readAt_rows arg5.view f5 h) (readAt_whole arg7.view f7)

end

end Cert.Fox

end
-- ==== Proof.FoxDiag.lean ====
/- The forgetting attention's last block of keys, where the causal mask cuts: one more step of the running softmax;
   and the tile's output from the sums it leaves. -/
module

public import proofs.«01_k».proof.Proof.FoxTrip
public import proofs.«01_k».proof.Proof.Gen.Kernel2Ideal.Frame
import all proofs.«01_k».proof.Proof.Gen.Kernel2Ideal.Frame
import all proofs.«01_k».proof.Proof.Gen.Kernel2Ideal.Frame.RunA

@[expose] public section

noncomputable section

namespace Cert.Fox

open Idealize.ShloMosaic Cert.Tile Cert.Kernel2Ideal Cert.Kernel2Ideal.Gen
open scoped BigOperators

attribute [local instance] Cert.Kernel2Ideal.Gen.facts

/-- The mask of the block the diagonal crosses: key at most query. -/
abbrev maskAt (i : grid0.Coords) : IVec HK 1 := k0_pay126 (kernelRun0_A.sl.v0 i) (kernelRun0_A.sl.v19 i)

/-- The masked logits of that block. -/
def maskedLogits (i : grid0.Coords) (q : FVec Ideal AQ .bf16) (k : FVec Ideal VK .bf16) (b : Fin 8 → FVec Ideal BH .f32) (h : Fin 8) :
    FVec Ideal HK .f32 :=
  select (maskAt i) (headLogits q k b h) (broadcast HK (Named.named Cert.Kernel2Ideal.κ "mask" 0xF149F2CA#32))

/-- The lanes of a pair of heads' output that the first of them fills. -/
def firstHalf : IVec HQ 1 := cmpi .slt (iota .tc HQ 32 [1] Facts₀.iota_S128x128_d1_w32) (broadcast HQ 64#32)

theorem firstHalf_apply (r l : Fin 128) : firstHalf (ix2 r l) = if l.val < 64 then 1#1 else 0#1 := by
  have h : ∀ l : Fin 128, Scalar.cmpi .slt (BitVec.ofNat 32 l.val) 64#32 = if l.val < 64 then 1#1 else 0#1 := by decide
  rw [← h l]
  unfold firstHalf
  pointwise []
  rfl

/-- A pair of heads' output: the quotient of one on the first lanes, of the other on the rest. -/
def pairOut (a l a' l' : FVec Ideal HQ .f32) : FVec Ideal HQ .f32 := select firstHalf (divf a l) (divf a' l')

theorem pairOut_apply (a l a' l' : FVec Ideal HQ .f32) (r d : Fin 128) :
    pairOut a l a' l' (ix2 r d) = if d.val < 64 then Ideal.div (a (ix2 r d)) (l (ix2 r d)) else Ideal.div (a' (ix2 r d)) (l' (ix2 r d)) := by
  show Scalar.select (firstHalf (ix2 r d)) (Ideal.div (a (ix2 r d)) (l (ix2 r d))) (Ideal.div (a' (ix2 r d)) (l' (ix2 r d))) = _
  rw [firstHalf_apply]
  split <;> rfl

section
variable (c : Dev nD) (i : grid0.Coords) (arg1 : Memref sig .tc .vmem S8x128x128 .bf16)
  (harg1 : arg1.IsWhole) (arg2 : Memref sig .tc .vmem S16384x256 .bf16) (harg2 : arg2.IsWhole)
  (arg3 : Memref sig .tc .vmem S32x8x512 .f32) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (x0 : Vec Ideal S8x128x128 .bf16) (x1 : Vec Ideal S16384x256 .bf16) (x2 : Vec Ideal S32x8x512 .f32)

/-- The stores to the maxima before the last block. -/
def L5 : List (View.Piece (Elt Ideal) AQ .f32) := (kernelRun0_A.sl.HS0_1_1 (F := Ideal) c i arg1 harg1 arg2 harg2 arg3 harg3 arg4 harg4 arg5 harg5 arg6 harg6 arg7 harg7 x0 x1 x2).tail
/-- The stores to the sums before the last block. -/
def L6 : List (View.Piece (Elt Ideal) AQ .f32) := (kernelRun0_A.sl.HS1_1_1 (F := Ideal) c i arg1 harg1 arg2 harg2 arg3 harg3 arg4 harg4 arg5 harg5 arg6 harg6 arg7 harg7 x0 x1 x2).tail
/-- The stores to the accumulator before the last block. -/
def L7 : List (View.Piece (Elt Ideal) AQ .f32) := (kernelRun0_A.sl.HS2_1_1 (F := Ideal) c i arg1 harg1 arg2 harg2 arg3 harg3 arg4 harg4 arg5 harg5 arg6 harg6 arg7 harg7 x0 x1 x2).tail

/-- The maxima before the last block. -/
def X5 : AQ.Idx → EReal := arg5.view.read (Elt Ideal) (arg5.view.writes (Elt Ideal) arg5.view.junk (L5 c i arg1 harg1 arg2 harg2 arg3 harg3 arg4 harg4 arg5 harg5 arg6 harg6 arg7 harg7 x0 x1 x2))
/-- The sums before the last block. -/
def X6 : AQ.Idx → EReal := arg6.view.read (Elt Ideal) (arg6.view.writes (Elt Ideal) arg6.view.junk (L6 c i arg1 harg1 arg2 harg2 arg3 harg3 arg4 harg4 arg5 harg5 arg6 harg6 arg7 harg7 x0 x1 x2))
/-- The accumulator before the last block. -/
def X7 : AQ.Idx → EReal := arg7.view.read (Elt Ideal) (arg7.view.writes (Elt Ideal) arg7.view.junk (L7 c i arg1 harg1 arg2 harg2 arg3 harg3 arg4 harg4 arg5 harg5 arg6 harg6 arg7 harg7 x0 x1 x2))

/-- The queries as rows. -/
def qRows : FVec Ideal AQ .bf16 := kernelRun0_A.sl.r (F := Ideal) c arg1 harg1 x0

/-- The last block of keys. -/
def kLast : FVec Ideal VK .bf16 :=
  View.readAt (Elt Ideal) arg2.view (Rect.unit (s := S16384x256) (k0_off21 i) S512x128.size (Facts₀.k0_off21_inb i)).toLoadRect (harg2.unread x1)

/-- The last block of values. -/
def vLast : FVec Ideal VK .bf16 :=
  View.readAt (Elt Ideal) arg2.view (Rect.unit (s := S16384x256) (k0_off22 i) S512x128.size (Facts₀.k0_off22_inb i)).toLoadRect (harg2.unread x1)

/-- The heads' gate sums over the last block. -/
def bLast : Fin 8 → FVec Ideal BH .f32 := ![
  View.readAt (Elt Ideal) arg3.view (Rect.unit (s := S32x8x512) (k0_off23 i) S1x1x512.size (Facts₀.k0_off23_inb i)).toLoadRect (harg3.unread x2),
  View.readAt (Elt Ideal) arg3.view (Rect.unit (s := S32x8x512) (k0_off24 i) S1x1x512.size (Facts₀.k0_off24_inb i)).toLoadRect (harg3.unread x2),
  View.readAt (Elt Ideal) arg3.view (Rect.unit (s := S32x8x512) (k0_off25 i) S1x1x512.size (Facts₀.k0_off25_inb i)).toLoadRect (harg3.unread x2),
  View.readAt (Elt Ideal) arg3.view (Rect.unit (s := S32x8x512) (k0_off26 i) S1x1x512.size (Facts₀.k0_off26_inb i)).toLoadRect (harg3.unread x2),
  View.readAt (Elt Ideal) arg3.view (Rect.unit (s := S32x8x512) (k0_off27 i) S1x1x512.size (Facts₀.k0_off27_inb i)).toLoadRect (harg3.unread x2),
  View.readAt (Elt Ideal) arg3.view (Rect.unit (s := S32x8x512) (k0_off28 i) S1x1x512.size (Facts₀.k0_off28_inb i)).toLoadRect (harg3.unread x2),
  View.readAt (Elt Ideal) arg3.view (Rect.unit (s := S32x8x512) (k0_off29 i) S1x1x512.size (Facts₀.k0_off29_inb i)).toLoadRect (harg3.unread x2),
  View.readAt (Elt Ideal) arg3.view (Rect.unit (s := S32x8x512) (k0_off30 i) S1x1x512.size (Facts₀.k0_off30_inb i)).toLoadRect (harg3.unread x2)]

/-- The masked logits of the last block. -/
abbrev sLast (h : Fin 8) : FVec Ideal HK .f32 :=
  maskedLogits i (qRows c arg1 harg1 x0) (kLast i arg2 harg2 x1) (bLast i arg3 harg3 x2) h

theorem v115_eq : kernelRun0_A.sl.v115 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 0 :=
  readAt_rows arg5.view _ 0

theorem v125_eq : kernelRun0_A.sl.v125 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 0 :=
  readAt_rows arg6.view _ 0

theorem v138_eq : kernelRun0_A.sl.v138 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 1 :=
  cov_skip arg5.view 0 1 (by decide) _ (readAt_rows arg5.view _ 1)

theorem v148_eq : kernelRun0_A.sl.v148 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 1 :=
  cov_skip arg6.view 0 1 (by decide) _ (readAt_rows arg6.view _ 1)

theorem v161_eq : kernelRun0_A.sl.v161 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 2 :=
  cov_skip arg5.view 1 2 (by decide) _ (cov_skip arg5.view 0 2 (by decide) _ (readAt_rows arg5.view _ 2))

theorem v171_eq : kernelRun0_A.sl.v171 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 2 :=
  cov_skip arg6.view 1 2 (by decide) _ (cov_skip arg6.view 0 2 (by decide) _ (readAt_rows arg6.view _ 2))

theorem v184_eq : kernelRun0_A.sl.v184 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 3 :=
  cov_skip arg5.view 2 3 (by decide) _ (cov_skip arg5.view 1 3 (by decide) _ (cov_skip arg5.view 0 3 (by decide) _ (readAt_rows arg5.view _ 3)))

theorem v194_eq : kernelRun0_A.sl.v194 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 3 :=
  cov_skip arg6.view 2 3 (by decide) _ (cov_skip arg6.view 1 3 (by decide) _ (cov_skip arg6.view 0 3 (by decide) _ (readAt_rows arg6.view _ 3)))

theorem v207_eq : kernelRun0_A.sl.v207 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 4 :=
  cov_skip arg5.view 3 4 (by decide) _ (cov_skip arg5.view 2 4 (by decide) _ (cov_skip arg5.view 1 4 (by decide) _ (cov_skip arg5.view 0 4 (by decide) _ (readAt_rows arg5.view _ 4))))

theorem v217_eq : kernelRun0_A.sl.v217 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 4 :=
  cov_skip arg6.view 3 4 (by decide) _ (cov_skip arg6.view 2 4 (by decide) _ (cov_skip arg6.view 1 4 (by decide) _ (cov_skip arg6.view 0 4 (by decide) _ (readAt_rows arg6.view _ 4))))

theorem v230_eq : kernelRun0_A.sl.v230 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 5 :=
  cov_skip arg5.view 4 5 (by decide) _ (cov_skip arg5.view 3 5 (by decide) _ (cov_skip arg5.view 2 5 (by decide) _ (cov_skip arg5.view 1 5 (by decide) _ (cov_skip arg5.view 0 5 (by decide) _ (readAt_rows arg5.view _ 5)))))

theorem v240_eq : kernelRun0_A.sl.v240 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 5 :=
  cov_skip arg6.view 4 5 (by decide) _ (cov_skip arg6.view 3 5 (by decide) _ (cov_skip arg6.view 2 5 (by decide) _ (cov_skip arg6.view 1 5 (by decide) _ (cov_skip arg6.view 0 5 (by decide) _ (readAt_rows arg6.view _ 5)))))

theorem v253_eq : kernelRun0_A.sl.v253 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 6 :=
  cov_skip arg5.view 5 6 (by decide) _ (cov_skip arg5.view 4 6 (by decide) _ (cov_skip arg5.view 3 6 (by decide) _ (cov_skip arg5.view 2 6 (by decide) _ (cov_skip arg5.view 1 6 (by decide) _ (cov_skip arg5.view 0 6 (by decide) _ (readAt_rows arg5.view _ 6))))))

theorem v263_eq : kernelRun0_A.sl.v263 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 6 :=
  cov_skip arg6.view 5 6 (by decide) _ (cov_skip arg6.view 4 6 (by decide) _ (cov_skip arg6.view 3 6 (by decide) _ (cov_skip arg6.view 2 6 (by decide) _ (cov_skip arg6.view 1 6 (by decide) _ (cov_skip arg6.view 0 6 (by decide) _ (readAt_rows arg6.view _ 6))))))

theorem v276_eq : kernelRun0_A.sl.v276 (F := Ideal) c i arg1 harg1 arg2 harg2 arg3 harg3 arg4 harg4 arg5 harg5 arg6 harg6 arg7 harg7 x0 x1 x2
    = rowsOf (X5 c i arg1 harg1 arg2 harg2 arg3 harg3 arg4 harg4 arg5 harg5 arg6 harg6 arg7 harg7 x0 x1 x2) 7 :=
  cov_skip arg5.view 6 7 (by decide) _ (cov_skip arg5.view 5 7 (by decide) _ (cov_skip arg5.view 4 7 (by decide) _ (cov_skip arg5.view 3 7 (by decide) _ (cov_skip arg5.view 2 7 (by decide) _ (cov_skip arg5.view 1 7 (by decide) _ (cov_skip arg5.view 0 7 (by decide) _ (readAt_rows arg5.view _ 7)))))))

theorem v286_eq : kernelRun0_A.sl.v286 (F := Ideal) c i arg1 harg1 arg2 harg2 arg3 harg3 arg4 harg4 arg5 harg5 arg6 harg6 arg7 harg7 x0 x1 x2
    = rowsOf (X6 c i arg1 harg1 arg2 harg2 arg3 harg3 arg4 harg4 arg5 harg5 arg6 harg6 arg7 harg7 x0 x1 x2) 7 :=
  cov_skip arg6.view 6 7 (by decide) _ (cov_skip arg6.view 5 7 (by decide) _ (cov_skip arg6.view 4 7 (by decide) _ (cov_skip arg6.view 3 7 (by decide) _ (cov_skip arg6.view 2 7 (by decide) _ (cov_skip arg6.view 1 7 (by decide) _ (cov_skip arg6.view 0 7 (by decide) _ (readAt_rows arg6.view _ 7)))))))

theorem v302_eq : kernelRun0_A.sl.v302 (F := Ideal) c i arg1 harg1 arg2 harg2 arg3 harg3 arg4 harg4 arg5 harg5 arg6 harg6 arg7 harg7 x0 x1 x2
    = X7 c i arg1 harg1 arg2 harg2 arg3 harg3 arg4 harg4 arg5 harg5 arg6 harg6 arg7 harg7 x0 x1 x2 :=
  readAt_whole arg7.view _

theorem r_9_eq : kernelRun0_A.sl.r_9 (F := Ideal) c i arg1 harg1 arg2 harg2 arg3 harg3 x0 x1 x2 = sLast c i arg1 harg1 arg2 harg2 arg3 harg3 x0 x1 x2 0 := rfl

theorem r_10_eq : kernelRun0_A.sl.r_10 (F := Ideal) c i arg1 harg1 arg2 harg2 arg3 harg3 x0 x1 x2 = sLast c i arg1 harg1 arg2 harg2 arg3 harg3 x0 x1 x2 1 := rfl

theorem r_11_eq : kernelRun0_A.sl.r_11 (F := Ideal) c i arg1 harg1 arg2 harg2 arg3 harg3 x0 x1 x2 = sLast c i arg1 harg1 arg2 harg2 arg3 harg3 x0 x1 x2 2 := rfl

theorem r_12_eq : kernelRun0_A.sl.r_12 (F := Ideal) c i arg1 harg1 arg2 harg2 arg3 harg3 x0 x1 x2 = sLast c i arg1 harg1 arg2 harg2 arg3 harg3 x0 x1 x2 3 := rfl

theorem r_13_eq : kernelRun0_A.sl.r_13 (F := Ideal) c i arg1 harg1 arg2 harg2 arg3 harg3 x0 x1 x2 = sLast c i arg1 harg1 arg2 harg2 arg3 harg3 x0 x1 x2 4 := rfl

theorem r_14_eq : kernelRun0_A.sl.r_14 (F := Ideal) c i arg1 harg1 arg2 harg2 arg3 harg3 x0 x1 x2 = sLast c i arg1 harg1 arg2 harg2 arg3 harg3 x0 x1 x2 5 := rfl

theorem r_15_eq : kernelRun0_A.sl.r_15 (F := Ideal) c i arg1 harg1 arg2 harg2 arg3 harg3 x0 x1 x2 = sLast c i arg1 harg1 arg2 harg2 arg3 harg3 x0 x1 x2 6 := rfl

theorem r_16_eq : kernelRun0_A.sl.r_16 (F := Ideal) c i arg1 harg1 arg2 harg2 arg3 harg3 x0 x1 x2 = sLast c i arg1 harg1 arg2 harg2 arg3 harg3 x0 x1 x2 7 := rfl

/-- A row's largest logit, as a column. -/
def rowTop (s : FVec Ideal HK .f32) : FVec Ideal HC .f32 :=
  shapeCast HC (multiReduction .maximumf [1] H1 s 0xFF800000#32 red (.inl rfl) rfl) cast1

theorem r_17_eq : kernelRun0_A.sl.r_17 (F := Ideal) c i arg1 harg1 arg2 harg2 arg3 harg3 x0 x1 x2 = rowTop (sLast c i arg1 harg1 arg2 harg2 arg3 harg3 x0 x1 x2 0) := rfl

theorem HS1_1_1_eq : kernelRun0_A.sl.HS1_1_1 (F := Ideal) c i arg1 harg1 arg2 harg2 arg3 harg3 arg4 harg4 arg5 harg5 arg6 harg6 arg7 harg7 x0 x1 x2
    = rowPiece 0 (fun _ => k0_pay145 (kernelRun0_A.sl.r_9 (F := Ideal) c i arg1 harg1 arg2 harg2 arg3 harg3 x0 x1 x2) (kernelRun0_A.sl.v115 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 x0 x1 x2) (kernelRun0_A.sl.v125 (F := Ideal) c i arg1 harg1 arg2 harg2 arg3 harg3 arg4 harg4 arg5 harg5 arg6 harg6 arg7 harg7 x0 x1 x2)) :: L6 c i arg1 harg1 arg2 harg2 arg3 harg3 arg4 harg4 arg5 harg5 arg6 harg6 arg7 harg7 x0 x1 x2 := rfl

theorem r_1_eq : kernelRun0_A.sl.r_1 (F := Ideal) i arg2 harg2 x1 = vLast i arg2 harg2 x1 := rfl

theorem pay143_eq (s : FVec Ideal HK .f32) (m : FVec Ideal HQ .f32) : k0_pay143 m (rowTop s) = alpha s m := rfl
theorem pay149_eq (s : FVec Ideal HK .f32) (m : FVec Ideal HQ .f32) : k0_pay149 s m = alpha s m := rfl
theorem pay155_eq (s : FVec Ideal HK .f32) (m : FVec Ideal HQ .f32) : k0_pay155 s m = alpha s m := rfl
theorem pay161_eq (s : FVec Ideal HK .f32) (m : FVec Ideal HQ .f32) : k0_pay161 s m = alpha s m := rfl
theorem pay169_eq (s : FVec Ideal HK .f32) (m : FVec Ideal HQ .f32) : k0_pay169 s m = alpha s m := rfl
theorem pay175_eq (s : FVec Ideal HK .f32) (m : FVec Ideal HQ .f32) : k0_pay175 s m = alpha s m := rfl
theorem pay182_eq (s : FVec Ideal HK .f32) (m : FVec Ideal HQ .f32) : k0_pay182 s m = alpha s m := rfl
theorem pay188_eq (s : FVec Ideal HK .f32) (m : FVec Ideal HQ .f32) : k0_pay188 s m = alpha s m := rfl
theorem pay147_eq (s : FVec Ideal HK .f32) (m : FVec Ideal HQ .f32) : k0_pay147 s m (rowTop s) = truncf .bf16 (prob s m) Facts₀.bitsLt_bf16_f32 := rfl
theorem pay153_eq (s : FVec Ideal HK .f32) (m : FVec Ideal HQ .f32) : k0_pay153 (k0_pay150 s m) = truncf .bf16 (prob s m) Facts₀.bitsLt_bf16_f32 := rfl
theorem pay167_eq (s : FVec Ideal HK .f32) (m : FVec Ideal HQ .f32) : k0_pay167 (k0_pay162 s m) = truncf .bf16 (prob s m) Facts₀.bitsLt_bf16_f32 := rfl
theorem pay180_eq (s : FVec Ideal HK .f32) (m : FVec Ideal HQ .f32) : k0_pay180 s (k0_pay176 s m) = truncf .bf16 (prob s m) Facts₀.bitsLt_bf16_f32 := rfl
theorem pay159_eq (s : FVec Ideal HK .f32) (m : FVec Ideal HQ .f32) : k0_pay159 s m = truncf .bf16 (prob s m) Facts₀.bitsLt_bf16_f32 := rfl
theorem pay173_eq (s : FVec Ideal HK .f32) (m : FVec Ideal HQ .f32) : k0_pay173 s m = truncf .bf16 (prob s m) Facts₀.bitsLt_bf16_f32 := rfl
theorem pay186_eq (s : FVec Ideal HK .f32) (m : FVec Ideal HQ .f32) : k0_pay186 s m = truncf .bf16 (prob s m) Facts₀.bitsLt_bf16_f32 := rfl
theorem pay189_eq (s : FVec Ideal HK .f32) (m : FVec Ideal HQ .f32) : k0_pay189 s m = prob s m := rfl
theorem pay145_eq (s : FVec Ideal HK .f32) (m : FVec Ideal HQ .f32) (l : FVec Ideal HQ .f32) : k0_pay145 s m (rowTop s) l = lNew s m l := by
  unfold k0_pay145
  simp only [shapeCast_self]
  rfl
theorem pay151_eq (s : FVec Ideal HK .f32) (m : FVec Ideal HQ .f32) (l : FVec Ideal HQ .f32) : k0_pay151 s m l = lNew s m l := by
  unfold k0_pay151
  simp only [shapeCast_self]
  rfl
theorem pay157_eq (s : FVec Ideal HK .f32) (m : FVec Ideal HQ .f32) (l : FVec Ideal HQ .f32) : k0_pay157 s m l = lNew s m l := by
  unfold k0_pay157
  simp only [shapeCast_self]
  rfl
theorem pay171_eq (s : FVec Ideal HK .f32) (m : FVec Ideal HQ .f32) (l : FVec Ideal HQ .f32) : k0_pay171 s m l = lNew s m l := by
  unfold k0_pay171
  simp only [shapeCast_self]
  rfl
theorem pay184_eq (s : FVec Ideal HK .f32) (m : FVec Ideal HQ .f32) (l : FVec Ideal HQ .f32) : k0_pay184 s m l = lNew s m l := by
  unfold k0_pay184
  simp only [shapeCast_self]
  rfl
theorem pay190_eq (s : FVec Ideal HK .f32) (m : FVec Ideal HQ .f32) (l : FVec Ideal HQ .f32) : k0_pay190 s m l = lNew s m l := by
  unfold k0_pay190
  simp only [shapeCast_self]
  rfl
theorem pay165_eq (s : FVec Ideal HK .f32) (m : FVec Ideal HQ .f32) (l : FVec Ideal HQ .f32) : k0_pay165 (k0_pay163 s m l) (k0_pay164 s m) = lNew s m l := by
  unfold k0_pay165
  simp only [shapeCast_self]
  rfl
theorem pay178_eq (s : FVec Ideal HK .f32) (m : FVec Ideal HQ .f32) (l : FVec Ideal HQ .f32) : k0_pay178 s (k0_pay175 s m) (k0_pay176 s m) l = lNew s m l := by
  unfold k0_pay178
  simp only [shapeCast_self]
  rfl

/-- The sums after the last block: every head's stores. -/
theorem sums_eq : kernelRun0_A.sl.HS1_8 (F := Ideal) c i arg1 harg1 arg2 harg2 arg3 harg3 arg4 harg4 arg5 harg5 arg6 harg6 arg7 harg7 x0 x1 x2
    = rows8 (fun h => lNew (sLast c i arg1 harg1 arg2 harg2 arg3 harg3 x0 x1 x2 h) (rowsOf (X5 c i arg1 harg1 arg2 harg2 arg3 harg3 arg4 harg4 arg5 harg5 arg6 harg6 arg7 harg7 x0 x1 x2) h)
        (rowsOf (X6 c i arg1 harg1 arg2 harg2 arg3 harg3 arg4 harg4 arg5 harg5 arg6 harg6 arg7 harg7 x0 x1 x2) h)) (L6 c i arg1 harg1 arg2 harg2 arg3 harg3 arg4 harg4 arg5 harg5 arg6 harg6 arg7 harg7 x0 x1 x2) := by
  unfold kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.r_29 kernelRun0_A.sl.r_30 kernelRun0_A.sl.r_35 kernelRun0_A.sl.r_36
  rw [HS1_1_1_eq, r_9_eq, r_10_eq, r_11_eq, r_12_eq, r_13_eq, r_14_eq, r_15_eq, r_16_eq, r_17_eq,
    v115_eq, v138_eq, v161_eq, v184_eq, v207_eq, v230_eq, v253_eq, v276_eq, v125_eq, v148_eq, v171_eq, v194_eq, v217_eq, v240_eq, v263_eq, v286_eq,
    pay145_eq, pay151_eq, pay157_eq, pay165_eq, pay171_eq, pay178_eq, pay184_eq, pay190_eq]
  generalize X6 c i arg1 harg1 arg2 harg2 arg3 harg3 arg4 harg4 arg5 harg5 arg6 harg6 arg7 harg7 x0 x1 x2 = a6
  generalize X5 c i arg1 harg1 arg2 harg2 arg3 harg3 arg4 harg4 arg5 harg5 arg6 harg6 arg7 harg7 x0 x1 x2 = a5
  generalize sLast c i arg1 harg1 arg2 harg2 arg3 harg3 x0 x1 x2 = s
  rfl

theorem HS2_1_1_eq : kernelRun0_A.sl.HS2_1_1 (F := Ideal) c i arg1 harg1 arg2 harg2 arg3 harg3 arg4 harg4 arg5 harg5 arg6 harg6 arg7 harg7 x0 x1 x2
    = wholePiece (k0_pay192 (kernelRun0_A.sl.r_1 (F := Ideal) i arg2 harg2 x1) (kernelRun0_A.sl.r_16 (F := Ideal) c i arg1 harg1 arg2 harg2 arg3 harg3 x0 x1 x2) (kernelRun0_A.sl.r_18 (F := Ideal) c i arg1 harg1 arg2 harg2 arg3 harg3 arg4 harg4 arg5 harg5 arg6 harg6 arg7 harg7 x0 x1 x2) (kernelRun0_A.sl.r_19 (F := Ideal) c i arg1 harg1 arg2 harg2 arg3 harg3 arg4 harg4 arg5 harg5 arg6 harg6 arg7 harg7 x0 x1 x2) (kernelRun0_A.sl.r_21 (F := Ideal) c i arg1 harg1 arg2 harg2 arg3 harg3 arg4 harg4 arg5 harg5 arg6 harg6 arg7 harg7 x0 x1 x2) (kernelRun0_A.sl.r_23 (F := Ideal) c i arg1 harg1 arg2 harg2 arg3 harg3 arg4 harg4 arg5 harg5 arg6 harg6 arg7 harg7 x0 x1 x2) (kernelRun0_A.sl.r_24 (F := Ideal) c i arg1 harg1 arg2 harg2 arg3 harg3 arg4 harg4 arg5 harg5 arg6 harg6 arg7 harg7 x0 x1 x2) (kernelRun0_A.sl.r_25 (F := Ideal) c i arg1 harg1 arg2 harg2 arg3 harg3 arg4 harg4 arg5 harg5 arg6 harg6 arg7 harg7 x0 x1 x2) (kernelRun0_A.sl.r_27 (F := Ideal) c i arg1 harg1 arg2 harg2 arg3 harg3 arg4 harg4 arg5 harg5 arg6 harg6 arg7 harg7 x0 x1 x2) (kernelRun0_A.sl.r_31 (F := Ideal) c i arg1 harg1 arg2 harg2 arg3 harg3 arg4 harg4 arg5 harg5 arg6 harg6 arg7 harg7 x0 x1 x2) (kernelRun0_A.sl.r_32 (F := Ideal) c i arg1 harg1 arg2 harg2 arg3 harg3 arg4 harg4 arg5 harg5 arg6 harg6 arg7 harg7 x0 x1 x2) (kernelRun0_A.sl.r_33 (F := Ideal) c i arg1 harg1 arg2 harg2 arg3 harg3 arg4 harg4 arg5 harg5 arg6 harg6 arg7 harg7 x0 x1 x2) (kernelRun0_A.sl.r_35 (F := Ideal) c i arg1 harg1 arg2 harg2 arg3 harg3 arg4 harg4 arg5 harg5 arg6 harg6 arg7 harg7 x0 x1 x2) (kernelRun0_A.sl.r_37 (F := Ideal) c i arg1 harg1 arg2 harg2 arg3 harg3 arg4 harg4 arg5 harg5 arg6 harg6 arg7 harg7 x0 x1 x2) (kernelRun0_A.sl.r_38 (F := Ideal) c i arg1 harg1 arg2 harg2 arg3 harg3 arg4 harg4 arg5 harg5 arg6 harg6 arg7 harg7 x0 x1 x2) (kernelRun0_A.sl.r_39 (F := Ideal) c i arg1 harg1 arg2 harg2 arg3 harg3 arg4 harg4 arg5 harg5 arg6 harg6 arg7 harg7 x0 x1 x2) (kernelRun0_A.sl.v276 (F := Ideal) c i arg1 harg1 arg2 harg2 arg3 harg3 arg4 harg4 arg5 harg5 arg6 harg6 arg7 harg7 x0 x1 x2) (kernelRun0_A.sl.v302 (F := Ideal) c i arg1 harg1 arg2 harg2 arg3 harg3 arg4 harg4 arg5 harg5 arg6 harg6 arg7 harg7 x0 x1 x2)) :: L7 c i arg1 harg1 arg2 harg2 arg3 harg3 arg4 harg4 arg5 harg5 arg6 harg6 arg7 harg7 x0 x1 x2 := rfl

theorem r_18_eq : kernelRun0_A.sl.r_18 (F := Ideal) c i arg1 harg1 arg2 harg2 arg3 harg3 arg4 harg4 arg5 harg5 arg6 harg6 arg7 harg7 x0 x1 x2
    = alpha (sLast c i arg1 harg1 arg2 harg2 arg3 harg3 x0 x1 x2 0) (rowsOf (X5 c i arg1 harg1 arg2 harg2 arg3 harg3 arg4 harg4 arg5 harg5 arg6 harg6 arg7 harg7 x0 x1 x2) 0) := by
  unfold kernelRun0_A.sl.r_18
  rw [r_17_eq, v115_eq, pay143_eq]

theorem r_21_eq : kernelRun0_A.sl.r_21 (F := Ideal) c i arg1 harg1 arg2 harg2 arg3 harg3 arg4 harg4 arg5 harg5 arg6 harg6 arg7 harg7 x0 x1 x2
    = alpha (sLast c i arg1 harg1 arg2 harg2 arg3 harg3 x0 x1 x2 1) (rowsOf (X5 c i arg1 harg1 arg2 harg2 arg3 harg3 arg4 harg4 arg5 harg5 arg6 harg6 arg7 harg7 x0 x1 x2) 1) := by
  unfold kernelRun0_A.sl.r_21
  rw [r_10_eq, v138_eq, pay149_eq]

theorem r_24_eq : kernelRun0_A.sl.r_24 (F := Ideal) c i arg1 harg1 arg2 harg2 arg3 harg3 arg4 harg4 arg5 harg5 arg6 harg6 arg7 harg7 x0 x1 x2
    = alpha (sLast c i arg1 harg1 arg2 harg2 arg3 harg3 x0 x1 x2 2) (rowsOf (X5 c i arg1 harg1 arg2 harg2 arg3 harg3 arg4 harg4 arg5 harg5 arg6 harg6 arg7 harg7 x0 x1 x2) 2) := by
  unfold kernelRun0_A.sl.r_24
  rw [r_11_eq, v161_eq, pay155_eq]

theorem r_27_eq : kernelRun0_A.sl.r_27 (F := Ideal) c i arg1 harg1 arg2 harg2 arg3 harg3 arg4 harg4 arg5 harg5 arg6 harg6 arg7 harg7 x0 x1 x2
    = alpha (sLast c i arg1 harg1 arg2 harg2 arg3 harg3 x0 x1 x2 3) (rowsOf (X5 c i arg1 harg1 arg2 harg2 arg3 harg3 arg4 harg4 arg5 harg5 arg6 harg6 arg7 harg7 x0 x1 x2) 3) := by
  unfold kernelRun0_A.sl.r_27
  rw [r_12_eq, v184_eq, pay161_eq]

theorem r_32_eq : kernelRun0_A.sl.r_32 (F := Ideal) c i arg1 harg1 arg2 harg2 arg3 harg3 arg4 harg4 arg5 harg5 arg6 harg6 arg7 harg7 x0 x1 x2
    = alpha (sLast c i arg1 harg1 arg2 harg2 arg3 harg3 x0 x1 x2 4) (rowsOf (X5 c i arg1 harg1 arg2 harg2 arg3 harg3 arg4 harg4 arg5 harg5 arg6 harg6 arg7 harg7 x0 x1 x2) 4) := by
  unfold kernelRun0_A.sl.r_32
  rw [r_13_eq, v207_eq, pay169_eq]

theorem r_35_eq : kernelRun0_A.sl.r_35 (F := Ideal) c i arg1 harg1 arg2 harg2 arg3 harg3 arg4 harg4 arg5 harg5 arg6 harg6 arg7 harg7 x0 x1 x2
    = alpha (sLast c i arg1 harg1 arg2 harg2 arg3 harg3 x0 x1 x2 5) (rowsOf (X5 c i arg1 harg1 arg2 harg2 arg3 harg3 arg4 harg4 arg5 harg5 arg6 harg6 arg7 harg7 x0 x1 x2) 5) := by
  unfold kernelRun0_A.sl.r_35
  rw [r_14_eq, v230_eq, pay175_eq]

theorem r_38_eq : kernelRun0_A.sl.r_38 (F := Ideal) c i arg1 harg1 arg2 harg2 arg3 harg3 arg4 harg4 arg5 harg5 arg6 harg6 arg7 harg7 x0 x1 x2
    = alpha (sLast c i arg1 harg1 arg2 harg2 arg3 harg3 x0 x1 x2 6) (rowsOf (X5 c i arg1 harg1 arg2 harg2 arg3 harg3 arg4 harg4 arg5 harg5 arg6 harg6 arg7 harg7 x0 x1 x2) 6) := by
  unfold kernelRun0_A.sl.r_38
  rw [r_15_eq, v253_eq, pay182_eq]

theorem r_19_eq : kernelRun0_A.sl.r_19 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 0) (rowsOf (X5 c i arg1 harg1 arg2 harg2 arg3 harg3 arg4 harg4 arg5 harg5 arg6 harg6 arg7 harg7 x0 x1 x2) 0)) Facts₀.bitsLt_bf16_f32 := by
  unfold kernelRun0_A.sl.r_19
  rw [r_9_eq, r_17_eq, v115_eq, pay147_eq]

theorem r_23_eq : kernelRun0_A.sl.r_23 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 1) (rowsOf (X5 c i arg1 harg1 arg2 harg2 arg3 harg3 arg4 harg4 arg5 harg5 arg6 harg6 arg7 harg7 x0 x1 x2) 1)) Facts₀.bitsLt_bf16_f32 := by
  unfold kernelRun0_A.sl.r_23 kernelRun0_A.sl.r_22
  rw [r_10_eq, v138_eq, pay153_eq]

theorem r_25_eq : kernelRun0_A.sl.r_25 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 2) (rowsOf (X5 c i arg1 harg1 arg2 harg2 arg3 harg3 arg4 harg4 arg5 harg5 arg6 harg6 arg7 harg7 x0 x1 x2) 2)) Facts₀.bitsLt_bf16_f32 := by
  unfold kernelRun0_A.sl.r_25
  rw [r_11_eq, v161_eq, pay159_eq]

theorem r_31_eq : kernelRun0_A.sl.r_31 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 3) (rowsOf (X5 c i arg1 harg1 arg2 harg2 arg3 harg3 arg4 harg4 arg5 harg5 arg6 harg6 arg7 harg7 x0 x1 x2) 3)) Facts₀.bitsLt_bf16_f32 := by
  unfold kernelRun0_A.sl.r_31 kernelRun0_A.sl.r_28
  rw [r_12_eq, v184_eq, pay167_eq]

theorem r_33_eq : kernelRun0_A.sl.r_33 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 4) (rowsOf (X5 c i arg1 harg1 arg2 harg2 arg3 harg3 arg4 harg4 arg5 harg5 arg6 harg6 arg7 harg7 x0 x1 x2) 4)) Facts₀.bitsLt_bf16_f32 := by
  unfold kernelRun0_A.sl.r_33
  rw [r_13_eq, v207_eq, pay173_eq]

theorem r_37_eq : kernelRun0_A.sl.r_37 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 5) (rowsOf (X5 c i arg1 harg1 arg2 harg2 arg3 harg3 arg4 harg4 arg5 harg5 arg6 harg6 arg7 harg7 x0 x1 x2) 5)) Facts₀.bitsLt_bf16_f32 := by
  unfold kernelRun0_A.sl.r_37 kernelRun0_A.sl.r_36
  rw [r_14_eq, v230_eq, pay180_eq]

theorem r_39_eq : kernelRun0_A.sl.r_39 (F := Ideal) c i arg1 harg1 arg2 harg2 arg3 harg3 arg4 harg4 arg5 harg5 arg6 harg6 arg7 harg7 x0 x1 x2
    = truncf .bf16 (prob (sLast c i arg1 harg1 arg2 harg2 arg3 harg3 x0 x1 x2 6) (rowsOf (X5 c i arg1 harg1 arg2 harg2 arg3 harg3 arg4 harg4 arg5 harg5 arg6 harg6 arg7 harg7 x0 x1 x2) 6)) Facts₀.bitsLt_bf16_f32 := by
  unfold kernelRun0_A.sl.r_39
  rw [r_15_eq, v253_eq, pay186_eq]

/-- The last block's accumulator, over any logits. -/
theorem pay192_eq (s : Fin 8 → FVec Ideal HK .f32) (m : Fin 8 → FVec Ideal HQ .f32) (v : FVec Ideal VK .bf16) (a : FVec Ideal AQ .f32) :
    k0_pay192 v (s 7)
        (alpha (s 0) (m 0)) (truncf .bf16 (prob (s 0) (m 0)) Facts₀.bitsLt_bf16_f32)
        (alpha (s 1) (m 1)) (truncf .bf16 (prob (s 1) (m 1)) Facts₀.bitsLt_bf16_f32)
        (alpha (s 2) (m 2)) (truncf .bf16 (prob (s 2) (m 2)) Facts₀.bitsLt_bf16_f32)
        (alpha (s 3) (m 3)) (truncf .bf16 (prob (s 3) (m 3)) Facts₀.bitsLt_bf16_f32)
        (alpha (s 4) (m 4)) (truncf .bf16 (prob (s 4) (m 4)) Facts₀.bitsLt_bf16_f32)
        (alpha (s 5) (m 5)) (truncf .bf16 (prob (s 5) (m 5)) Facts₀.bitsLt_bf16_f32)
        (alpha (s 6) (m 6)) (truncf .bf16 (prob (s 6) (m 6)) Facts₀.bitsLt_bf16_f32)
        (m 7) a
      = aNew dot Facts₀.bitsLt_bf16_f32 s m v a := by
  unfold k0_pay192
  rw [pay188_eq, pay189_eq]
  dsimp only
  rw [shapeCast_self]
  rfl

/-- The accumulator after the last block. -/
theorem acc_eq : kernelRun0_A.sl.HS2_1_1 (F := Ideal) c i arg1 harg1 arg2 harg2 arg3 harg3 arg4 harg4 arg5 harg5 arg6 harg6 arg7 harg7 x0 x1 x2
    = wholePiece (aNew dot Facts₀.bitsLt_bf16_f32 (sLast c i arg1 harg1 arg2 harg2 arg3 harg3 x0 x1 x2) (rowsOf (X5 c i arg1 harg1 arg2 harg2 arg3 harg3 arg4 harg4 arg5 harg5 arg6 harg6 arg7 harg7 x0 x1 x2))
        (vLast i arg2 harg2 x1) (X7 c i arg1 harg1 arg2 harg2 arg3 harg3 arg4 harg4 arg5 harg5 arg6 harg6 arg7 harg7 x0 x1 x2)) :: L7 c i arg1 harg1 arg2 harg2 arg3 harg3 arg4 harg4 arg5 harg5 arg6 harg6 arg7 harg7 x0 x1 x2 := by
  rw [HS2_1_1_eq, r_1_eq, r_16_eq, v276_eq, v302_eq, r_18_eq, r_19_eq, r_21_eq, r_23_eq, r_24_eq, r_25_eq, r_27_eq, r_31_eq, r_32_eq, r_33_eq, r_35_eq, r_37_eq, r_38_eq, r_39_eq]
  exact congrArg (fun w => wholePiece w :: L7 c i arg1 harg1 arg2 harg2 arg3 harg3 arg4 harg4 arg5 harg5 arg6 harg6 arg7 harg7 x0 x1 x2) (pay192_eq _ _ _ _)

/-- The sums after the last block. -/
def Y6 : AQ.Idx → EReal := arg6.view.read (Elt Ideal) (arg6.view.writes (Elt Ideal) arg6.view.junk (kernelRun0_A.sl.HS1_8 (F := Ideal) c i arg1 harg1 arg2 harg2 arg3 harg3 arg4 harg4 arg5 harg5 arg6 harg6 arg7 harg7 x0 x1 x2))
/-- The accumulator after the last block. -/
def Y7 : AQ.Idx → EReal := arg7.view.read (Elt Ideal) (arg7.view.writes (Elt Ideal) arg7.view.junk (kernelRun0_A.sl.HS2_1_1 (F := Ideal) c i arg1 harg1 arg2 harg2 arg3 harg3 arg4 harg4 arg5 harg5 arg6 harg6 arg7 harg7 x0 x1 x2))

/-- The last block is one step of the running softmax over its masked logits. -/
theorem last_stepped : ∃ Y5, Stepped Facts₀.bitsLt_bf16_f32 (sLast c i arg1 harg1 arg2 harg2 arg3 harg3 x0 x1 x2) (vLast i arg2 harg2 x1)
    (X5 c i arg1 harg1 arg2 harg2 arg3 harg3 arg4 harg4 arg5 harg5 arg6 harg6 arg7 harg7 x0 x1 x2) (X6 c i arg1 harg1 arg2 harg2 arg3 harg3 arg4 harg4 arg5 harg5 arg6 harg6 arg7 harg7 x0 x1 x2) (X7 c i arg1 harg1 arg2 harg2 arg3 harg3 arg4 harg4 arg5 harg5 arg6 harg6 arg7 harg7 x0 x1 x2) Y5 (Y6 c i arg1 harg1 arg2 harg2 arg3 harg3 arg4 harg4 arg5 harg5 arg6 harg6 arg7 harg7 x0 x1 x2) (Y7 c i arg1 harg1 arg2 harg2 arg3 harg3 arg4 harg4 arg5 harg5 arg6 harg6 arg7 harg7 x0 x1 x2) := by
  refine ⟨arg5.view.read (Elt Ideal) (arg5.view.writes (Elt Ideal) arg5.view.junk
    (rows8 (fun h => mNew (sLast c i arg1 harg1 arg2 harg2 arg3 harg3 x0 x1 x2 h) (rowsOf (X5 c i arg1 harg1 arg2 harg2 arg3 harg3 arg4 harg4 arg5 harg5 arg6 harg6 arg7 harg7 x0 x1 x2) h)) [])), ?_, ?_, ?_⟩
  · intro h r l
    exact read_rows8 ..
  · intro h r l
    unfold Y6
    rw [sums_eq]
    exact read_rows8 ..
  · unfold Y7
    rw [acc_eq]
    exact read_wholePiece ..

theorem v311_eq : kernelRun0_A.sl.v311 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 0 :=
  readAt_rows arg7.view _ 0

theorem v312_eq : kernelRun0_A.sl.v312 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 0 :=
  readAt_rows arg6.view _ 0

theorem v321_eq : kernelRun0_A.sl.v321 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 1 :=
  readAt_rows arg7.view _ 1

theorem v322_eq : kernelRun0_A.sl.v322 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 1 :=
  readAt_rows arg6.view _ 1

theorem v331_eq : kernelRun0_A.sl.v331 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 2 :=
  readAt_rows arg7.view _ 2

theorem v332_eq : kernelRun0_A.sl.v332 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 2 :=
  readAt_rows arg6.view _ 2

theorem v341_eq : kernelRun0_A.sl.v341 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 3 :=
  readAt_rows arg7.view _ 3

theorem v342_eq : kernelRun0_A.sl.v342 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 3 :=
  readAt_rows arg6.view _ 3

theorem v314_eq : kernelRun0_A.sl.v314 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 4 :=
  readAt_rows arg7.view _ 4

theorem v315_eq : kernelRun0_A.sl.v315 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 4 :=
  readAt_rows arg6.view _ 4

theorem v324_eq : kernelRun0_A.sl.v324 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 5 :=
  readAt_rows arg7.view _ 5

theorem v325_eq : kernelRun0_A.sl.v325 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 5 :=
  readAt_rows arg6.view _ 5

theorem v334_eq : kernelRun0_A.sl.v334 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 6 :=
  readAt_rows arg7.view _ 6

theorem v335_eq : kernelRun0_A.sl.v335 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 6 :=
  readAt_rows arg6.view _ 6

theorem v344_eq : kernelRun0_A.sl.v344 (F := Ideal) c i arg1 harg1 arg2 harg2 arg3 harg3 arg4 harg4 arg5 harg5 arg6 harg6 arg7 harg7 x0 x1 x2
    = rowsOf (Y7 c i arg1 harg1 arg2 harg2 arg3 harg3 arg4 harg4 arg5 harg5 arg6 harg6 arg7 harg7 x0 x1 x2) 7 :=
  readAt_rows arg7.view _ 7

theorem v345_eq : kernelRun0_A.sl.v345 (F := Ideal) c i arg1 harg1 arg2 harg2 arg3 harg3 arg4 harg4 arg5 harg5 arg6 harg6 arg7 harg7 x0 x1 x2
    = rowsOf (Y6 c i arg1 harg1 arg2 harg2 arg3 harg3 arg4 harg4 arg5 harg5 arg6 harg6 arg7 harg7 x0 x1 x2) 7 :=
  readAt_rows arg6.view _ 7

theorem pay195_eq (a l a' l' : FVec Ideal HQ .f32) : k0_pay195 k0_pay193 (k0_pay194 a l) a' l' = pairOut a l a' l' := by
  unfold k0_pay195 k0_pay193 k0_pay194
  simp only [shapeCast_self]
  rfl
theorem pay196_eq (a l a' l' : FVec Ideal HQ .f32) : k0_pay196 kernelRun0_A.sl.v308 a l a' l' = pairOut a l a' l' := by
  unfold k0_pay196 kernelRun0_A.sl.v308
  simp only [shapeCast_self]
  rfl
theorem pay197_eq (a l a' l' : FVec Ideal HQ .f32) : k0_pay197 kernelRun0_A.sl.v308 a l a' l' = pairOut a l a' l' := by
  unfold k0_pay197 kernelRun0_A.sl.v308
  simp only [shapeCast_self]
  rfl
theorem pay1_eq (a l a' l' : FVec Ideal HQ .f32) : k0_pay1 (k0_pay198 kernelRun0_A.sl.v308) a l a' l' = pairOut a l a' l' := by
  unfold k0_pay1 k0_pay198 kernelRun0_A.sl.v308
  simp only [shapeCast_self]
  rfl

theorem inbC (n : Fin 4) : ∀ a, (![0, n.val * 128] : Fin 2 → ℕ) a + HQ.size a ≤ S128x512.size a :=
  Fin.forall_fin_two.mpr ⟨by show 0 + 128 ≤ 128; omega, by show n.val * 128 + 128 ≤ 512; omega⟩

/-- The columns `n * 128 …` of the tile's output. -/
def colPiece (n : Fin 4) (f : Fin 4 → FVec Ideal HQ .f32) : View.Piece (Elt Ideal) S128x512 .f32 :=
  ⟨Rect.unit (s := S128x512) ![0, n.val * 128] HQ.size (inbC n), f n⟩

theorem read_colPiece (f₀ : VO0_3.ty.Contents (Elt Ideal)) (n : Fin 4) (f : Fin 4 → FVec Ideal HQ .f32)
    (L : List (View.Piece (Elt Ideal) S128x512 .f32)) (r d : Fin 128) (e : Fin 512) (he : e.val = n.val * 128 + d.val) :
    VO0_3.read (Elt Ideal) (VO0_3.writes (Elt Ideal) f₀ (colPiece n f :: L)) (ix2 r e) = f n (ix2 r d) :=
  View.read_writes_cons_unit_of_mem VO0_3 f₀ (inbC n) (f n) L (ix2 r e) (ix2 r d) rfl
    (Fin.forall_fin_two.mpr ⟨(Nat.zero_add _).symm, he⟩)

theorem read_colPiece_ne (f₀ : VO0_3.ty.Contents (Elt Ideal)) (n k : Fin 4) (f : Fin 4 → FVec Ideal HQ .f32)
    (L : List (View.Piece (Elt Ideal) S128x512 .f32)) (hk : n ≠ k) (r d : Fin 128) (e : Fin 512) (he : e.val = n.val * 128 + d.val) :
    VO0_3.read (Elt Ideal) (VO0_3.writes (Elt Ideal) f₀ (colPiece k f :: L)) (ix2 r e)
      = VO0_3.read (Elt Ideal) (VO0_3.writes (Elt Ideal) f₀ L) (ix2 r e) := by
  refine View.read_writes_cons_unit_of_not_mem VO0_3 f₀ (inbC k) (f k) L (ix2 r e) rfl (1 : Fin 2) ?_
  have h : n.val ≠ k.val := fun h => hk (Fin.ext h)
  show e.val < k.val * 128 ∨ k.val * 128 + 128 ≤ e.val
  omega

theorem read_cols (f₀ : VO0_3.ty.Contents (Elt Ideal)) (f : Fin 4 → FVec Ideal HQ .f32) (n : Fin 4) (r d : Fin 128) (e : Fin 512)
    (he : e.val = n.val * 128 + d.val) :
    VO0_3.read (Elt Ideal) (VO0_3.writes (Elt Ideal) f₀ [colPiece 3 f, colPiece 2 f, colPiece 1 f, colPiece 0 f]) (ix2 r e)
      = f n (ix2 r d) := by
  match n, he with
  | 3, he => exact read_colPiece f₀ 3 f _ r d e he
  | 2, he => rw [read_colPiece_ne f₀ 2 3 f _ (by decide) r d e he]; exact read_colPiece f₀ 2 f _ r d e he
  | 1, he =>
    rw [read_colPiece_ne f₀ 1 3 f _ (by decide) r d e he, read_colPiece_ne f₀ 1 2 f _ (by decide) r d e he]
    exact read_colPiece f₀ 1 f _ r d e he
  | 0, he =>
    rw [read_colPiece_ne f₀ 0 3 f _ (by decide) r d e he, read_colPiece_ne f₀ 0 2 f _ (by decide) r d e he,
      read_colPiece_ne f₀ 0 1 f _ (by decide) r d e he]
    exact read_colPiece f₀ 0 f _ r d e he

/-- The second head of a pair. -/
def other (n : Fin 4) : Fin 8 := ⟨n.val + 4, by omega⟩
/-- The first head of a pair. -/
def this (n : Fin 4) : Fin 8 := ⟨n.val, by omega⟩

/-- The four pairs' outputs. -/
def pairs (a l : AQ.Idx → EReal) (n : Fin 4) : FVec Ideal HQ .f32 :=
  pairOut (rowsOf a (this n)) (rowsOf l (this n)) (rowsOf a (other n)) (rowsOf l (other n))

theorem run_eq : (kernelRun0_A (F := Ideal) c i arg1 harg1 arg2 harg2 arg3 harg3 arg4 harg4 arg5 harg5 arg6 harg6 arg7 harg7 x0 x1 x2).1
    = [colPiece 3 (pairs (Y7 c i arg1 harg1 arg2 harg2 arg3 harg3 arg4 harg4 arg5 harg5 arg6 harg6 arg7 harg7 x0 x1 x2) (Y6 c i arg1 harg1 arg2 harg2 arg3 harg3 arg4 harg4 arg5 harg5 arg6 harg6 arg7 harg7 x0 x1 x2)), colPiece 2 (pairs (Y7 c i arg1 harg1 arg2 harg2 arg3 harg3 arg4 harg4 arg5 harg5 arg6 harg6 arg7 harg7 x0 x1 x2) (Y6 c i arg1 harg1 arg2 harg2 arg3 harg3 arg4 harg4 arg5 harg5 arg6 harg6 arg7 harg7 x0 x1 x2)),
       colPiece 1 (pairs (Y7 c i arg1 harg1 arg2 harg2 arg3 harg3 arg4 harg4 arg5 harg5 arg6 harg6 arg7 harg7 x0 x1 x2) (Y6 c i arg1 harg1 arg2 harg2 arg3 harg3 arg4 harg4 arg5 harg5 arg6 harg6 arg7 harg7 x0 x1 x2)), colPiece 0 (pairs (Y7 c i arg1 harg1 arg2 harg2 arg3 harg3 arg4 harg4 arg5 harg5 arg6 harg6 arg7 harg7 x0 x1 x2) (Y6 c i arg1 harg1 arg2 harg2 arg3 harg3 arg4 harg4 arg5 harg5 arg6 harg6 arg7 harg7 x0 x1 x2))] := by
  unfold kernelRun0_A kernelRun0_A.sl.r_40
  dsimp only
  rw [v311_eq, v312_eq, v321_eq, v322_eq, v331_eq, v332_eq, v341_eq, v342_eq, v314_eq, v315_eq, v324_eq, v325_eq, v334_eq, v335_eq, v344_eq, v345_eq, pay195_eq, pay196_eq, pay197_eq, pay1_eq]
  generalize Y7 c i arg1 harg1 arg2 harg2 arg3 harg3 arg4 harg4 arg5 harg5 arg6 harg6 arg7 harg7 x0 x1 x2 = a
  generalize Y6 c i arg1 harg1 arg2 harg2 arg3 harg3 arg4 harg4 arg5 harg5 arg6 harg6 arg7 harg7 x0 x1 x2 = l
  rfl

/-- The tile's output: each head's quotient of its weighted values by its weight, a pair of heads to 128 columns. -/
theorem out_eq (n : Fin 4) (r d : Fin 128) (e : Fin 512) (he : e.val = n.val * 128 + d.val) :
    out0_A_3 (F := Ideal) c i arg1 harg1 arg2 harg2 arg3 harg3 arg4 harg4 arg5 harg5 arg6 harg6 arg7 harg7 x0 x1 x2 (ix2 r e)
      = if d.val < 64 then Ideal.div (rowsOf (Y7 c i arg1 harg1 arg2 harg2 arg3 harg3 arg4 harg4 arg5 harg5 arg6 harg6 arg7 harg7 x0 x1 x2) (this n) (ix2 r d)) (rowsOf (Y6 c i arg1 harg1 arg2 harg2 arg3 harg3 arg4 harg4 arg5 harg5 arg6 harg6 arg7 harg7 x0 x1 x2) (this n) (ix2 r d))
        else Ideal.div (rowsOf (Y7 c i arg1 harg1 arg2 harg2 arg3 harg3 arg4 harg4 arg5 harg5 arg6 harg6 arg7 harg7 x0 x1 x2) (other n) (ix2 r d)) (rowsOf (Y6 c i arg1 harg1 arg2 harg2 arg3 harg3 arg4 harg4 arg5 harg5 arg6 harg6 arg7 harg7 x0 x1 x2) (other n) (ix2 r d)) := by
  unfold out0_A_3
  rw [run_eq, read_cols _ _ n r d e he]
  exact pairOut_apply _ _ _ _ r d

end

end Cert.Fox

end
-- ==== Proof.FoxWords.lean ====
/- The forgetting attention's index words at each of its 128 grid points: the number of whole blocks, the blocks' offsets,
   the mask. -/
module

public import proofs.«01_k».proof.Proof.FoxDiag
public import proofs.«01_k».proof.Proof.Words
import all proofs.«01_k».proof.Proof.Gen.Kernel2Ideal.Frame.RunA
public import Idealize.ShloMosaic.Lib.LoopRemainder
public import Idealize.ShloMosaic.Lib.WholeRead

@[expose] public section

noncomputable section

namespace Cert.Fox

open Idealize.ShloMosaic Cert.Tile Cert.Kernel2Ideal Cert.Kernel2Ideal.Gen
open Cert.Mla (floorWord floorWord_eq block_le)
open scoped BigOperators

attribute [local instance] Cert.Kernel2Ideal.Gen.facts

/-- The number of whole blocks of keys before a tile's diagonal block. -/
def nFull (i : grid0.Coords) : ℕ := (i 0).val / 4

theorem i_lt (i : grid0.Coords) : (i 0).val < 128 := (i 0).isLt

theorem nFull_lt (i : grid0.Coords) : nFull i < 32 := by
  have := i_lt i
  unfold nFull
  omega

/-- The block the diagonal crosses starts at or before the tile's first row, which lies inside it. -/
theorem nFull_bounds (i : grid0.Coords) : 512 * nFull i ≤ 128 * (i 0).val ∧ 128 * (i 0).val + 127 < 512 * nFull i + 512 := by
  have := i_lt i
  unfold nFull
  omega

theorem v19_eq (i : grid0.Coords) : kernelRun0_A.sl.v19 i = BitVec.ofNat 32 (nFull i) := floorWord_eq (i 0)

theorem v0_eq (i : grid0.Coords) : kernelRun0_A.sl.v0 i = BitVec.ofNat 32 (128 * (i 0).val) := by
  have h : ∀ n : Fin 128, Scalar.muli (BitVec.ofNat 32 n.val) 128#32 = BitVec.ofNat 32 (128 * n.val) := by decide
  exact h (i 0)

theorem trips_eq (i : grid0.Coords) : (k0_t1_loop i).trips = nFull i := by
  have h : ∀ n : Fin 128, Scf.trips (0#32) (Scalar.addi 0#32 (Scalar.muli (Scalar.divsi (Scalar.subi
      (floorWord (Scalar.muli (BitVec.ofNat 32 n.val) 128#32)) 0#32) 1#32) 1#32)) 1#32 = n.val / 4 := by decide
  exact h (i 0)

theorem trips2_eq (i : grid0.Coords) : Scf.trips (k0_t2_loop i).lb (k0_t2_loop i).ub (k0_t2_loop i).st = 0 :=
  Scf.rem_trips _ _

theorem trip_lt (i : grid0.Coords) (k : Fin (k0_t1_loop i).trips) : k.val < 32 :=
  lt_of_lt_of_le k.isLt (by rw [trips_eq]; exact (nFull_lt i).le)

theorem blockWord : ∀ n : Fin 32, (Scalar.indexCast (Scalar.muli (Scf.iv 0#32 1#32 n) 512#32)).toNat = 512 * n.val := by decide

theorem tripWord : ∀ n : Fin 32, (Scalar.indexCast (Scf.iv 0#32 1#32 n)).toNat = n.val := by decide

theorem lastWord : ∀ n : Fin 128, (Scalar.indexCast (Scalar.muli (floorWord (Scalar.muli (BitVec.ofNat 32 n.val) 128#32)) 512#32)).toNat
    = 512 * (n.val / 4) := by decide

theorem lastTripWord : ∀ n : Fin 128, (Scalar.indexCast (floorWord (Scalar.muli (BitVec.ofNat 32 n.val) 128#32))).toNat = n.val / 4 := by
  decide

theorem off1_eq (i : grid0.Coords) (k : Fin (k0_t1_loop i).trips) : k0_off1 i k = ![512 * k.val, 0] :=
  congrArg (fun x => (![x, 0] : Fin 2 → ℕ)) (blockWord ⟨k.val, trip_lt i k⟩)

theorem off2_eq (i : grid0.Coords) (k : Fin (k0_t1_loop i).trips) : k0_off2 i k = ![512 * k.val, 128] :=
  congrArg (fun x => (![x, 128] : Fin 2 → ℕ)) (blockWord ⟨k.val, trip_lt i k⟩)

theorem off21_eq (i : grid0.Coords) : k0_off21 i = ![512 * nFull i, 0] :=
  congrArg (fun x => (![x, 0] : Fin 2 → ℕ)) (lastWord (i 0))

theorem off22_eq (i : grid0.Coords) : k0_off22 i = ![512 * nFull i, 128] :=
  congrArg (fun x => (![x, 128] : Fin 2 → ℕ)) (lastWord (i 0))

section
variable (arg3 : Memref sig .tc .vmem S32x8x512 .f32) (harg3 : arg3.IsWhole) (x2 : Vec Ideal S32x8x512 .f32)

/-- A load of one head's gate sums over block `o`. -/
theorem gates_at (off : Fin 3 → ℕ) (o : Fin 32) (h : Fin 8) (ho : off = ![o.val, h.val, 0])
    (hin : ∀ a, off a + S1x1x512.size a ≤ S32x8x512.size a) (j : Fin 512) :
    View.readAt (Elt Ideal) arg3.view (Rect.unit (s := S32x8x512) off S1x1x512.size hin).toLoadRect (harg3.unread x2) (ix3 0 0 j)
      = x2 (ix3 o h j) := by
  subst ho
  rw [harg3.readAt_unread]
  refine congrArg x2 (funext fun a => Fin.ext ?_)
  match a with
  | ⟨0, _⟩ => rfl
  | ⟨1, _⟩ => rfl
  | ⟨2, _⟩ => exact (Nat.zero_add _).trans (Nat.one_mul _)

theorem bAt_apply (i : grid0.Coords) (k : Fin (k0_t1_loop i).trips) (h : Fin 8) (j : Fin 512) :
    bAt i arg3 (harg3.unread x2) k h (ix3 0 0 j) = x2 (ix3 ⟨k.val, trip_lt i k⟩ h j) := by
  have e : ∀ h : ℕ, (![(Scalar.indexCast (Scf.iv 0#32 1#32 k.val)).toNat, h, 0] : Fin 3 → ℕ) = ![k.val, h, 0] :=
    fun h => congrArg (fun x => (![x, h, 0] : Fin 3 → ℕ)) (tripWord ⟨k.val, trip_lt i k⟩)
  match h with
  | 0 => exact gates_at arg3 harg3 x2 _ ⟨k.val, trip_lt i k⟩ 0 (e 0) _ j
  | 1 => exact gates_at arg3 harg3 x2 _ ⟨k.val, trip_lt i k⟩ 1 (e 1) _ j
  | 2 => exact gates_at arg3 harg3 x2 _ ⟨k.val, trip_lt i k⟩ 2 (e 2) _ j
  | 3 => exact gates_at arg3 harg3 x2 _ ⟨k.val, trip_lt i k⟩ 3 (e 3) _ j
  | 4 => exact gates_at arg3 harg3 x2 _ ⟨k.val, trip_lt i k⟩ 4 (e 4) _ j
  | 5 => exact gates_at arg3 harg3 x2 _ ⟨k.val, trip_lt i k⟩ 5 (e 5) _ j
  | 6 => exact gates_at arg3 harg3 x2 _ ⟨k.val, trip_lt i k⟩ 6 (e 6) _ j
  | 7 => exact gates_at arg3 harg3 x2 _ ⟨k.val, trip_lt i k⟩ 7 (e 7) _ j

theorem bLast_apply (i : grid0.Coords) (h : Fin 8) (j : Fin 512) :
    bLast i arg3 harg3 x2 h (ix3 0 0 j) = x2 (ix3 ⟨nFull i, nFull_lt i⟩ h j) := by
  have e : ∀ h : ℕ, (![(Scalar.indexCast (floorWord (Scalar.muli (BitVec.ofNat 32 (i 0).val) 128#32))).toNat, h, 0] : Fin 3 → ℕ)
      = ![nFull i, h, 0] := fun h => congrArg (fun x => (![x, h, 0] : Fin 3 → ℕ)) (lastTripWord (i 0))
  match h with
  | 0 => exact gates_at arg3 harg3 x2 _ ⟨nFull i, nFull_lt i⟩ 0 (e 0) _ j
  | 1 => exact gates_at arg3 harg3 x2 _ ⟨nFull i, nFull_lt i⟩ 1 (e 1) _ j
  | 2 => exact gates_at arg3 harg3 x2 _ ⟨nFull i, nFull_lt i⟩ 2 (e 2) _ j
  | 3 => exact gates_at arg3 harg3 x2 _ ⟨nFull i, nFull_lt i⟩ 3 (e 3) _ j
  | 4 => exact gates_at arg3 harg3 x2 _ ⟨nFull i, nFull_lt i⟩ 4 (e 4) _ j
  | 5 => exact gates_at arg3 harg3 x2 _ ⟨nFull i, nFull_lt i⟩ 5 (e 5) _ j
  | 6 => exact gates_at arg3 harg3 x2 _ ⟨nFull i, nFull_lt i⟩ 6 (e 6) _ j
  | 7 => exact gates_at arg3 harg3 x2 _ ⟨nFull i, nFull_lt i⟩ 7 (e 7) _ j

end

/-- The mask of the diagonal block compares the key's number with the query's. -/
theorem mask_apply (i : grid0.Coords) (r : Fin 128) (j : Fin 512) :
    maskAt i (ix2 r j) = if 512 * nFull i + j.val ≤ 128 * (i 0).val + r.val then 1#1 else 0#1 := by
  unfold maskAt
  rw [v0_eq, v19_eq]
  have hn := nFull_lt i
  have hi := i_lt i
  generalize nFull i = n at hn ⊢
  generalize (i 0).val = t at hi ⊢
  have e : k0_pay126 (BitVec.ofNat 32 (128 * t)) (BitVec.ofNat 32 n) (ix2 r j)
      = BitVec.ofBool ((Scalar.addi (Scalar.muli (BitVec.ofNat 32 n) 512#32) (BitVec.ofNat 32 j.val)).sle
          (Scalar.addi (BitVec.ofNat 32 (128 * t)) (BitVec.ofNat 32 r.val))) := by
    unfold k0_pay126
    pointwise []
    rfl
  rw [e]
  exact block_le hn hi r j

end Cert.Fox

end
-- ==== Proof.FoxLoop.lean ====
/- A tile's running softmax of the forgetting attention over all its keys: the whole blocks one by one, then the block the
   diagonal crosses. -/
module

public import proofs.«01_k».proof.Proof.FoxWords
public import proofs.«01_k».proof.Proof.Causal
import all proofs.«01_k».proof.Proof.Gen.Kernel2Ideal.Loops
import all proofs.«01_k».proof.Proof.Gen.Kernel2Ideal.Frame.RunA
public import Idealize.ShloMosaic.Lib.WholeRead

@[expose] public section

noncomputable section

namespace Cert.Fox

open Idealize.ShloMosaic Cert.Tile Cert.Softmax Cert.Mean Cert.Causal Cert.Kernel2Ideal Cert.Kernel2Ideal.Gen
open scoped BigOperators

attribute [local instance] Cert.Kernel2Ideal.Gen.facts

/-- The logit of row `R` against key `s`: their product and the key's gate sum. -/
def zz (qR : Fin 1024 → Fin 128 → ℝ) (kR : ℕ → Fin 128 → ℝ) (bR : Fin 8 → ℕ → ℝ) (R : Fin 1024) (s : ℕ) : ℝ :=
  ∑ e, qR R e * kR s e + bR ⟨R.val / 128, by omega⟩ s

/-- A key's lane among the block's columns. -/
def keyCol (e : Fin 128) : Fin 256 := ⟨e.val, by omega⟩
/-- A value's lane among the block's columns. -/
def valCol (d : Fin 128) : Fin 256 := ⟨128 + d.val, by omega⟩

theorem products_apply (q : FVec Ideal AQ .bf16) (k : FVec Ideal VK .bf16) (R : Fin 1024) (j : Fin 512) :
    products q k (ix2 R j) = ∑ e : Fin 128, q (ix2 R e) * k (ix2 j e) := by
  unfold products dotQK
  simp only [ix2_eq_valueIdx]
  refine (Ideal.matmul_transposedRhs_apply none _ _ _ R j).trans ?_
  rw [show (constant (F := Ideal) AK .f32 0x00000000#32) (ValueIdx.ix2 R j) = 0 from Ideal.ofBits_zero_f32, zero_add]

theorem headLogits_apply (q : FVec Ideal AQ .bf16) (k : FVec Ideal VK .bf16) (b : Fin 8 → FVec Ideal BH .f32) (h : Fin 8) (r : Fin 128)
    (j : Fin 512) : headLogits q k b h (ix2 r j) = ∑ e : Fin 128, q (ix2 (row h r) e) * k (ix2 j e) + b h (ix3 0 0 j) := by
  have e1 : extractStridedSlice HK ![h.val * 128, 0] (products q k) (sliceH h) (ix2 r j) = products q k (ix2 (row h r) j) := by
    rw [extractStridedSlice_apply]
    intro a
    match a with
    | ⟨0, _⟩ => rfl
    | ⟨1, _⟩ => exact (Nat.zero_add _).symm
  have e2 : ∀ b : FVec Ideal BH .f32, broadcastTo HK (shapeCast BR b castB) bcastB (ix2 r j) = b (ix3 0 0 j) := by
    intro b
    pointwise []
  rw [← products_apply, ← e1, ← e2 (b h)]
  rfl

/-- Finite queries, keys and gate sums give finite logits. -/
theorem headLogits_real {q : FVec Ideal AQ .bf16} {k : FVec Ideal VK .bf16} {b : Fin 8 → FVec Ideal BH .f32}
    {qR : Fin 1024 → Fin 128 → ℝ} {kR : ℕ → Fin 128 → ℝ} {bR : Fin 8 → ℕ → ℝ}
    {n : ℕ} (hq : ∀ R e, q (ix2 R e) = (qR R e : EReal)) (hk : ∀ (j : Fin 512) e, k (ix2 j e) = (kR (n + j.val) e : EReal))
    (hb : ∀ h (j : Fin 512), b h (ix3 0 0 j) = (bR h (n + j.val) : EReal)) (h : Fin 8) (r : Fin 128) (j : Fin 512) :
    headLogits q k b h (ix2 r j) = ((zz qR kR bR (row h r) (n + j.val) : ℝ) : EReal) := by
  have e1 : (⟨(row h r).val / 128, by omega⟩ : Fin 8) = h := Fin.ext (by show (h.val * 128 + r.val) / 128 = h.val; omega)
  rw [headLogits_apply, zz, e1, EReal.coe_add, coe_sum, hb]
  refine congrArg (· + _) (Finset.sum_congr rfl fun e _ => ?_)
  rw [hq, hk, EReal.coe_mul]

section
variable (c : Dev nD) (i : grid0.Coords) (arg1 : Memref sig .tc .vmem S8x128x128 .bf16)
  (harg1 : arg1.IsWhole) (arg2 : Memref sig .tc .vmem S16384x256 .bf16) (harg2 : arg2.IsWhole)
  (arg3 : Memref sig .tc .vmem S32x8x512 .f32) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (v0 : BitVec 32) (v2 : FVec Ideal S1024x128 .bf16) (v19 : BitVec 32) (c0_i32_15 : BitVec 32)
  (v32 : BitVec 32) (x1 : Vec Ideal S16384x256 .bf16) (x2 : Vec Ideal S32x8x512 .f32)
  (G5 : BufTy.Contents (Elt Ideal) arg5.view.ty) (G6 : BufTy.Contents (Elt Ideal) arg6.view.ty)
  (G7 : BufTy.Contents (Elt Ideal) arg7.view.ty)
  (qR : Fin 1024 → Fin 128 → ℝ) (kR : ℕ → Fin 128 → ℝ) (bR : Fin 8 → ℕ → ℝ) (vE : ℕ → Fin 128 → EReal)

/-- A load of 512 keys or values from key `o` on: `f` is where a lane lies among the columns, `w` what it holds. -/
theorem rows_at (off : Fin 2 → ℕ) (o p : ℕ) (ho : off = ![o, p]) (hin : ∀ a, off a + S512x128.size a ≤ S16384x256.size a)
    (f : Fin 128 → Fin 256) (hf : ∀ e, (f e).val = p + e.val) (w : ℕ → Fin 128 → EReal)
    (hk : ∀ (s : Fin 16384) e, x1 (ix2 s (f e)) = w s.val e) (j : Fin 512) (e : Fin 128) :
    View.readAt (Elt Ideal) arg2.view (Rect.unit (s := S16384x256) off S512x128.size hin).toLoadRect (harg2.unread x1) (ix2 j e)
      = w (o + j.val) e := by
  subst ho
  rw [harg2.readAt_unread]
  have h0 : o + 512 ≤ 16384 := hin 0
  have hj : o + j.val < 16384 := by omega
  refine Eq.trans (congrArg x1 ?_) (hk ⟨o + j.val, hj⟩ e)
  funext a
  apply Fin.ext
  match a with
  | ⟨0, _⟩ => show o + 1 * j.val = o + j.val; rw [one_mul]
  | ⟨1, _⟩ => show p + 1 * e.val = (f e).val; rw [hf, one_mul]

/-- After `n` whole blocks the three arrays hold the state of the first `512 n` keys. -/
theorem loop_inv (hq : ∀ R e, v2 (ix2 R e) = (qR R e : EReal)) (hk : ∀ (s : Fin 16384) e, x1 (ix2 s (keyCol e)) = (kR s.val e : EReal))
    (hv : ∀ (s : Fin 16384) d, x1 (ix2 s (valCol d)) = vE s.val d)
    (hb : ∀ (o : Fin 32) h (j : Fin 512), x2 (ix3 o h j) = (bR h (512 * o.val + j.val) : EReal))
    (h0 : Inv (fun _ => 0) (fun _ _ => 0) (arg5.view.read (Elt Ideal) G5) (arg6.view.read (Elt Ideal) G6) (arg7.view.read (Elt Ideal) G7))
    (n : ℕ) (hn : n ≤ nFull i) :
    Inv (wsum (i 0).val (zz qR kR bR) (512 * n)) (vsum (i 0).val (zz qR kR bR) vE (512 * n))
      (arg5.view.read (Elt Ideal) (arg5.view.writes (Elt Ideal) G5 (pb_k0_t1 (F := Ideal) Variants.none c none i arg1 harg1 arg2 harg2 arg3 harg3 arg4 harg4 arg5 harg5 arg6 harg6 arg7 harg7 v0 v2 v19 c0_i32_15 v32 (harg2.unread x1) (harg3.unread x2) G5 G6 G7 n).1))
      (arg6.view.read (Elt Ideal) (arg6.view.writes (Elt Ideal) G6 (pb_k0_t1 (F := Ideal) Variants.none c none i arg1 harg1 arg2 harg2 arg3 harg3 arg4 harg4 arg5 harg5 arg6 harg6 arg7 harg7 v0 v2 v19 c0_i32_15 v32 (harg2.unread x1) (harg3.unread x2) G5 G6 G7 n).2.1))
      (arg7.view.read (Elt Ideal) (arg7.view.writes (Elt Ideal) G7 (pb_k0_t1 (F := Ideal) Variants.none c none i arg1 harg1 arg2 harg2 arg3 harg3 arg4 harg4 arg5 harg5 arg6 harg6 arg7 harg7 v0 v2 v19 c0_i32_15 v32 (harg2.unread x1) (harg3.unread x2) G5 G6 G7 n).2.2)) := by
  induction n with
  | zero => exact h0
  | succ n ih =>
    have hlt : n < (k0_t1_loop i).trips := by rw [trips_eq]; exact hn
    have hk' : ∀ (j : Fin 512) (e : Fin 128), kAt i arg2 (harg2.unread x1) ⟨n, hlt⟩ (ix2 j e) = (kR (512 * n + j.val) e : EReal) :=
      rows_at arg2 harg2 x1 _ _ 0 (off1_eq i ⟨n, hlt⟩) _ keyCol (fun e => (Nat.zero_add _).symm) (fun s e => (kR s e : EReal)) hk
    have hv' : ∀ (j : Fin 512) (d : Fin 128), vAt i arg2 (harg2.unread x1) ⟨n, hlt⟩ (ix2 j d) = vE (512 * n + j.val) d :=
      rows_at arg2 harg2 x1 _ _ 128 (off2_eq i ⟨n, hlt⟩) _ valCol (fun e => rfl) vE hv
    have hb' : ∀ h (j : Fin 512), bAt i arg3 (harg3.unread x2) ⟨n, hlt⟩ h (ix3 0 0 j) = (bR h (512 * n + j.val) : EReal) :=
      fun h j => (bAt_apply arg3 harg3 x2 i ⟨n, hlt⟩ h j).trans (hb _ h j)
    have hb := nFull_bounds i
    have key := Causal.step (trip_stepped Variants.none c none i arg1 harg1 arg2 harg2 arg3 harg3 arg4 harg4 arg5 harg5 arg6 harg6 arg7 harg7
      v0 v2 v19 c0_i32_15 v32 (harg2.unread x1) (harg3.unread x2) ⟨n, hlt⟩ _ _ _) (by omega) (ih (by omega))
      (fun h r j => (headLogits_real hq hk' hb' h r j).trans (if_pos (by have := j.isLt; omega)).symm)
      hv'
    rw [pb_k0_t1_succ Variants.none c none i arg1 harg1 arg2 harg2 arg3 harg3 arg4 harg4 arg5 harg5 arg6 harg6 arg7 harg7
      v0 v2 v19 c0_i32_15 v32 (harg2.unread x1) (harg3.unread x2) G5 G6 G7 ⟨n, hlt⟩]
    simp only [View.writes_append]
    exact key

end

section
variable (c : Dev nD) (i : grid0.Coords) (arg1 : Memref sig .tc .vmem S8x128x128 .bf16)
  (harg1 : arg1.IsWhole) (arg2 : Memref sig .tc .vmem S16384x256 .bf16) (harg2 : arg2.IsWhole)
  (arg3 : Memref sig .tc .vmem S32x8x512 .f32) (harg3 : arg3.IsWhole) (arg4 : Memref sig .tc .vmem S128x512 .f32)
  (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32)
  (harg7 : arg7.IsWhole) (x0 : Vec Ideal S8x128x128 .bf16) (x1 : Vec Ideal S16384x256 .bf16) (x2 : Vec Ideal S32x8x512 .f32)
  (qR : Fin 1024 → Fin 128 → ℝ) (kR : ℕ → Fin 128 → ℝ) (bR : Fin 8 → ℕ → ℝ) (vE : ℕ → Fin 128 → EReal)

/-- The state before the last block is the loop's. -/
theorem X5_eq : X5 c i arg1 harg1 arg2 harg2 arg3 harg3 arg4 harg4 arg5 harg5 arg6 harg6 arg7 harg7 x0 x1 x2
    = arg5.view.read (Elt Ideal) (arg5.view.writes (Elt Ideal) (arg5.view.writes (Elt Ideal) arg5.view.junk (kernelRun0_A.sl.HS0_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (harg3.unread x2) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).1) := by
  rw [← trips_eq]
  unfold X5 L5 kernelRun0_A.sl.HS0_1_1
  rw [List.tail_cons, trips2_eq, View.writes_append, View.writes_append, View.writes_append]
  rfl

/-- The state before the last block is the loop's. -/
theorem X6_eq : X6 c i arg1 harg1 arg2 harg2 arg3 harg3 arg4 harg4 arg5 harg5 arg6 harg6 arg7 harg7 x0 x1 x2
    = arg6.view.read (Elt Ideal) (arg6.view.writes (Elt Ideal) (arg6.view.writes (Elt Ideal) arg6.view.junk (kernelRun0_A.sl.HS1_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (harg3.unread x2) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).2.1) := by
  rw [← trips_eq]
  unfold X6 L6 kernelRun0_A.sl.HS1_1_1
  rw [List.tail_cons, trips2_eq, View.writes_append, View.writes_append, View.writes_append]
  rfl

/-- The state before the last block is the loop's. -/
theorem X7_eq : X7 c i arg1 harg1 arg2 harg2 arg3 harg3 arg4 harg4 arg5 harg5 arg6 harg6 arg7 harg7 x0 x1 x2
    = arg7.view.read (Elt Ideal) (arg7.view.writes (Elt Ideal) (arg7.view.writes (Elt Ideal) arg7.view.junk (kernelRun0_A.sl.HS2_1 (F := Ideal)))
        (pb_k0_t1 (F := Ideal) Variants.none c none i arg1 harg1 arg2 harg2 arg3 harg3 arg4 harg4 arg5 harg5 arg6 harg6 arg7 harg7 (kernelRun0_A.sl.v0 i) (kernelRun0_A.sl.r (F := Ideal) c arg1 harg1 x0) (kernelRun0_A.sl.v19 i) (0#32) (kernelRun0_A.sl.v32 i) (harg2.unread x1) (harg3.unread x2) (arg5.view.writes (Elt Ideal) arg5.view.junk (kernelRun0_A.sl.HS0_1 (F := Ideal))) (arg6.view.writes (Elt Ideal) arg6.view.junk (kernelRun0_A.sl.HS1_1 (F := Ideal))) (arg7.view.writes (Elt Ideal) arg7.view.junk (kernelRun0_A.sl.HS2_1 (F := Ideal))) (nFull i)).2.2) := by
  rw [← trips_eq]
  unfold X7 L7 kernelRun0_A.sl.HS2_1_1
  rw [List.tail_cons, trips2_eq, View.writes_append, View.writes_append, View.writes_append]
  rfl

theorem mask_bot : (Named.named Cert.Kernel2Ideal.κ "mask" 0xF149F2CA#32 : Ideal .f32) = (⊥ : EReal) := rfl

/-- A masked logit: the logit up to the diagonal, nothing past it. -/
theorem maskedLogits_apply (q : FVec Ideal AQ .bf16) (k : FVec Ideal VK .bf16) (b : Fin 8 → FVec Ideal BH .f32) (h : Fin 8) (r : Fin 128)
    (j : Fin 512) : maskedLogits i q k b h (ix2 r j)
      = if 512 * nFull i + j.val ≤ 128 * (i 0).val + r.val then headLogits q k b h (ix2 r j) else ⊥ := by
  show Scalar.select (maskAt i (ix2 r j)) (headLogits q k b h (ix2 r j)) (Named.named Cert.Kernel2Ideal.κ "mask" 0xF149F2CA#32 : Ideal .f32) = _
  rw [mask_apply]
  split <;> rfl

/-- Before the first block the arrays hold the empty state. -/
theorem init_inv : Inv (fun _ => 0) (fun _ _ => 0)
    (arg5.view.read (Elt Ideal) (arg5.view.writes (Elt Ideal) arg5.view.junk (kernelRun0_A.sl.HS0_1 (F := Ideal))))
    (arg6.view.read (Elt Ideal) (arg6.view.writes (Elt Ideal) arg6.view.junk (kernelRun0_A.sl.HS1_1 (F := Ideal))))
    (arg7.view.read (Elt Ideal) (arg7.view.writes (Elt Ideal) arg7.view.junk (kernelRun0_A.sl.HS2_1 (F := Ideal)))) := by
  have e5 : arg5.view.read (Elt Ideal) (arg5.view.writes (Elt Ideal) arg5.view.junk (kernelRun0_A.sl.HS0_1 (F := Ideal))) = k0_pay121 (F := Ideal) :=
    read_wholePiece arg5.view _ (k0_pay121 (F := Ideal)) []
  have e6 : arg6.view.read (Elt Ideal) (arg6.view.writes (Elt Ideal) arg6.view.junk (kernelRun0_A.sl.HS1_1 (F := Ideal))) = k0_pay122 (F := Ideal) :=
    read_wholePiece arg6.view _ (k0_pay122 (F := Ideal)) []
  have e7 : arg7.view.read (Elt Ideal) (arg7.view.writes (Elt Ideal) arg7.view.junk (kernelRun0_A.sl.HS2_1 (F := Ideal))) = k0_pay123 (F := Ideal) :=
    read_wholePiece arg7.view _ (k0_pay123 (F := Ideal)) []
  rw [e5, e6, e7]
  intro R
  refine ⟨⊥, 0, fun l => ?_, fun l => ?_, ?_⟩
  · unfold k0_pay121
    simp only [shapeCast_self]
    exact mask_bot
  · unfold k0_pay122
    simp only [shapeCast_self]
    exact Ideal.ofBits_zero_f32
  · have e : (fun d : Fin 128 => (k0_pay123 (F := Ideal)) (ix2 R d)) = fun _ => (0 : EReal) := by
      funext d
      unfold k0_pay123
      simp only [shapeCast_self]
      exact Ideal.ofBits_zero_f32
    rw [e]
    exact St.init

/-- After the last block the two sums hold the state of every key up to the diagonal's block. -/
theorem tile_inv (hq : ∀ R e, qRows c arg1 harg1 x0 (ix2 R e) = (qR R e : EReal))
    (hk : ∀ (s : Fin 16384) e, x1 (ix2 s (keyCol e)) = (kR s.val e : EReal)) (hv : ∀ (s : Fin 16384) d, x1 (ix2 s (valCol d)) = vE s.val d)
    (hb : ∀ (o : Fin 32) h (j : Fin 512), x2 (ix3 o h j) = (bR h (512 * o.val + j.val) : EReal)) :
    ∃ Z5, Inv (wsum (i 0).val (zz qR kR bR) (512 * (nFull i + 1))) (vsum (i 0).val (zz qR kR bR) vE (512 * (nFull i + 1))) Z5
      (Y6 c i arg1 harg1 arg2 harg2 arg3 harg3 arg4 harg4 arg5 harg5 arg6 harg6 arg7 harg7 x0 x1 x2) (Y7 c i arg1 harg1 arg2 harg2 arg3 harg3 arg4 harg4 arg5 harg5 arg6 harg6 arg7 harg7 x0 x1 x2) := by
  have h1 := loop_inv c i arg1 harg1 arg2 harg2 arg3 harg3 arg4 harg4 arg5 harg5 arg6 harg6 arg7 harg7 (kernelRun0_A.sl.v0 i)
    (kernelRun0_A.sl.r (F := Ideal) c arg1 harg1 x0) (kernelRun0_A.sl.v19 i) (0#32) (kernelRun0_A.sl.v32 i) x1 x2 _ _ _ qR kR bR vE hq hk hv hb
    (init_inv arg5 arg6 arg7) (nFull i) le_rfl
  rw [← X5_eq, ← X6_eq, ← X7_eq] at h1
  obtain ⟨Z5, hS⟩ := last_stepped c i arg1 harg1 arg2 harg2 arg3 harg3 arg4 harg4 arg5 harg5 arg6 harg6 arg7 harg7 x0 x1 x2
  refine ⟨Z5, ?_⟩
  have hk' : ∀ (j : Fin 512) (e : Fin 128), kLast i arg2 harg2 x1 (ix2 j e) = (kR (512 * nFull i + j.val) e : EReal) :=
    rows_at arg2 harg2 x1 _ _ 0 (off21_eq i) _ keyCol (fun e => (Nat.zero_add _).symm) (fun s e => (kR s e : EReal)) hk
  have hv' : ∀ (j : Fin 512) (d : Fin 128), vLast i arg2 harg2 x1 (ix2 j d) = vE (512 * nFull i + j.val) d :=
    rows_at arg2 harg2 x1 _ _ 128 (off22_eq i) _ valCol (fun e => rfl) vE hv
  have hb' : ∀ h (j : Fin 512), bLast i arg3 harg3 x2 h (ix3 0 0 j) = (bR h (512 * nFull i + j.val) : EReal) :=
    fun h j => (bLast_apply arg3 harg3 x2 i h j).trans (hb _ h j)
  have hB := nFull_bounds i
  exact Causal.step hS (by omega) h1
    (fun h r j => (maskedLogits_apply i _ _ _ h r j).trans (by rw [headLogits_real hq hk' hb']))
    hv'

/-- A tile's quotient of sums: the weighted mean of the values over all keys. -/
theorem tile_mean (hq : ∀ R e, qRows c arg1 harg1 x0 (ix2 R e) = (qR R e : EReal))
    (hk : ∀ (s : Fin 16384) e, x1 (ix2 s (keyCol e)) = (kR s.val e : EReal)) (hv : ∀ (s : Fin 16384) d, x1 (ix2 s (valCol d)) = vE s.val d)
    (hb : ∀ (o : Fin 32) h (j : Fin 512), x2 (ix3 o h j) = (bR h (512 * o.val + j.val) : EReal))
    (X : Fin 8 → Fin 16384 → ℕ → ℝ) (h : Fin 8) (r d : Fin 128)
    (T : Fin 16384) (hT : T.val = 128 * (i 0).val + r.val) (hX : ∀ s, zz qR kR bR (row h r) s = X h T s) :
    Ideal.div (rowsOf (Y7 c i arg1 harg1 arg2 harg2 arg3 harg3 arg4 harg4 arg5 harg5 arg6 harg6 arg7 harg7 x0 x1 x2) h (ix2 r d)) (rowsOf (Y6 c i arg1 harg1 arg2 harg2 arg3 harg3 arg4 harg4 arg5 harg5 arg6 harg6 arg7 harg7 x0 x1 x2) h (ix2 r d)) = mean X vE h T d := by
  obtain ⟨Z5, hI⟩ := tile_inv c i arg1 harg1 arg2 harg2 arg3 harg3 arg4 harg4 arg5 harg5 arg6 harg6 arg7 harg7 x0 x1 x2 qR kR bR vE hq hk hv hb
  have hl := nFull_lt i
  have hB := nFull_bounds i
  exact quotient (i 0).val (zz qR kR bR) vE (by omega) (by omega) hI X h r d T hT hX

end

end Cert.Fox

end
-- ==== Proof.FoxMean.lean ====
/- The forgetting attention's result: each row's mean of the values under its weights, the heads' halves side by side. -/
module

public import proofs.«01_k».proof.Proof.Mean

@[expose] public section

noncomputable section

namespace Cert.Mean

open Idealize.ShloMosaic Cert.Softmax
open scoped BigOperators

/-- A row's logits may all be moved by the same amount: the weights' ratios stay. -/
theorem mean_shift (x : Fin 8 → Fin 16384 → ℕ → ℝ) (b : Fin 8 → Fin 16384 → ℝ) (v : ℕ → Fin 128 → EReal) (h : Fin 8) (t : Fin 16384)
    (d : Fin 128) : mean (fun h t s => x h t s - b h t) v h t d = mean x v h t d := by
  have hw : ∀ s, weight (fun h t s => x h t s - b h t) h t s = (2 : ℝ) ^ (-b h t) * weight x h t s := by
    intro s
    unfold weight
    split
    · rw [← Real.rpow_add (by norm_num : (0 : ℝ) < 2)]
      congr 1
      ring
    · exact (mul_zero _).symm
  have hp : (2 : ℝ) ^ (-b h t) ≠ 0 := (Real.rpow_pos_of_pos (by norm_num) _).ne'
  rw [← mean_eq_sum, ← mean_eq_sum]
  refine Finset.sum_congr rfl fun s _ => ?_
  have ht : total (fun h t s => x h t s - b h t) h t = (2 : ℝ) ^ (-b h t) * total x h t := by
    unfold total
    rw [Finset.mul_sum]
    exact Finset.sum_congr rfl fun s _ => hw s
  rw [hw, ht, mul_div_mul_left _ _ hp]

variable (qq : Fin 8 → Fin 16384 → Fin 128 → ℝ) (kk : ℕ → Fin 128 → ℝ) (bb : Fin 8 → ℕ → ℝ) (vv : ℕ → Fin 128 → EReal)

/-- The logit of head `h`'s row `t` against key `s`: their product and the key's gate sum. -/
def gated (h : Fin 8) (t : Fin 16384) (s : ℕ) : ℝ := ∑ e, qq h t e * kk s e + bb h s

/-- The head whose mean output lane `e` holds. -/
def headAt (e : Fin 512) : Fin 8 := ⟨e.val / 128 + 4 * (e.val % 128 / 64), by omega⟩

/-- The value's lane output lane `e` holds the mean of. -/
def laneAt (e : Fin 512) : Fin 128 := ⟨e.val % 128, by omega⟩

/-- The result at row `t` and lane `e`. -/
def forgetting (t : Fin 16384) (e : Fin 512) : EReal := mean (gated qq kk bb) vv (headAt e) t (laneAt e)

end Cert.Mean

end
-- ==== Proof.FoxOut.lean ====
/- The forgetting attention kernel's result: every element is its row's mean of a value's lane. -/
module

public import proofs.«01_k».proof.Proof.FoxLoop
public import proofs.«01_k».proof.Proof.FoxMean
import all proofs.«01_k».proof.Proof.Gen.Kernel2Ideal.Frame
import all proofs.«01_k».proof.Proof.Gen.Kernel2Ideal.Frame.RunA
public import Idealize.ShloMosaic.Lib.Pipeline.ValueKit

@[expose] public section

noncomputable section

namespace Cert.Fox

open Idealize.ShloMosaic Idealize.ShloMosaic.TcCoe Idealize.SL.Sem Cert.Tile Cert.Mean Cert.Causal Cert.Kernel2Ideal Cert.Kernel2Ideal.Gen
open scoped BigOperators

attribute [local instance] Cert.Kernel2Ideal.Gen.facts

/-- The queries as rows: row `h * 128 + r` is head `h`'s row `r`. -/
theorem qRows_apply (c : Dev nD) (arg1 : Memref sig .tc .vmem S8x128x128 .bf16) (harg1 : arg1.IsWhole) (x0 : Vec Ideal S8x128x128 .bf16)
    (h : Fin 8) (r : Fin 128) (e : Fin 128) : qRows c arg1 harg1 x0 (ix2 (row h r) e) = x0 (ix3 h r e) := by
  have hc : ∀ v : Vec Ideal S8x128x128 .bf16, k0_pay120 (F := Ideal) v (ix2 (row h r) e) = v (ix3 h r e) := by
    intro v
    pointwise [k0_pay120]
    refine congrArg v (funext fun a => Fin.ext ?_)
    match a with
    | ⟨0, _⟩ => show (h.val * 128 + r.val) / 128 = h.val; omega
    | ⟨1, _⟩ => show (h.val * 128 + r.val) % 128 = r.val; omega
    | ⟨2, _⟩ => rfl
  unfold qRows kernelRun0_A.sl.r
  rw [hc]
  refine (harg1.readAt_unread _ _ _).trans (congrArg x0 (funext fun a => Fin.ext ?_))
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

variable (m : (ℓ : Loc nD τ sig) → Buf (Elt Ideal) ℓ) (c : Dev nD)

/-- The arguments. -/
abbrev argQ : FVec Ideal S8x16384x128 .bf16 := m ((c : Thread nD τ).loc main_arg0)
abbrev argK : FVec Ideal S16384x1024 .bf16 := m ((c : Thread nD τ).loc main_arg1)
abbrev argB : FVec Ideal S32x8x512 .f32 := m ((c : Thread nD τ).loc main_arg2)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, 1] :=
  (by decide +kernel : ∀ t : Fin grid0.N, win0_1.index t = ![0, 1])
theorem index2 : ∀ t : Fin cfg0.N, win0_2.index t = ![0, 0, 0] :=
  (by decide +kernel : ∀ t : Fin grid0.N, win0_2.index t = ![0, 0, 0])
theorem index3 : ∀ t : Fin cfg0.N, win0_3.index t = ![t.val, 0] :=
  (by decide +kernel : ∀ t : Fin grid0.N, win0_3.index t = ![t.val, 0])
theorem coord0 : ∀ t : Fin cfg0.N, (grid0.coords t 0).val = t.val :=
  (by decide +kernel : ∀ t : Fin grid0.N, (grid0.coords t 0).val = t.val)

/-- The array's row that tile `t` holds at row `r`. -/
def at128 (t : Fin cfg0.N) (r : Fin 128) : Fin 16384 := ⟨t.val * 128 + r.val, by have h : t.val < 128 := t.isLt; omega⟩

theorem iblk0_apply (t : Fin cfg0.N) (h : Fin 8) (r : Fin 128) (e : Fin 128) :
    (iblk m c 0 t : Vec Ideal S8x128x128 .bf16) (ix3 h r e) = argQ m c (ix3 h (at128 t r) e) := by
  show ((cfg0.win 0).blk t).view.read (Elt Ideal) (V m c main_arg0) (ix3 h r e) = _
  rw [V_main_arg0]
  blk_simp
  refine congrArg (argQ m c) ?_
  blk_ext [index0, at128]

theorem iblk1_apply (t : Fin cfg0.N) (s : Fin 16384) (e : Fin 256) :
    (iblk m c 1 t : Vec Ideal S16384x256 .bf16) (ix2 s e) = argK m c (ix2 s ⟨256 + e.val, by omega⟩) := by
  show ((cfg0.win 1).blk t).view.read (Elt Ideal) (V m c main_arg1) (ix2 s e) = _
  rw [V_main_arg1]
  blk_simp
  refine congrArg (argK m c) ?_
  blk_ext [index1]

theorem iblk2_apply (t : Fin cfg0.N) (o : Fin 32) (h : Fin 8) (j : Fin 512) :
    (iblk m c 2 t : Vec Ideal S32x8x512 .f32) (ix3 o h j) = argB m c (ix3 o h j) := by
  show ((cfg0.win 2).blk t).view.read (Elt Ideal) (V m c main_arg2) (ix3 o h j) = _
  rw [V_main_arg2]
  blk_simp
  refine congrArg (argB m c) ?_
  blk_ext [index2]

section

variable (qq : Fin 8 → Fin 16384 → Fin 128 → ℝ) (kk : ℕ → Fin 128 → ℝ) (bb : Fin 8 → ℕ → ℝ) (vv : ℕ → Fin 128 → EReal)

/-- Tile `t`'s rows of queries. -/
def rowsQ (t : Fin cfg0.N) (R : Fin 1024) (e : Fin 128) : ℝ := qq ⟨R.val / 128, by omega⟩ (at128 t ⟨R.val % 128, by omega⟩) e

theorem row_div (h : Fin 8) (r : Fin 128) : (⟨(row h r).val / 128, by omega⟩ : Fin 8) = h :=
  Fin.ext (by show (h.val * 128 + r.val) / 128 = h.val; omega)

theorem rowsQ_row (t : Fin cfg0.N) (h : Fin 8) (r : Fin 128) : rowsQ qq t (row h r) = qq h (at128 t r) := by
  have e2 : (⟨(row h r).val % 128, by omega⟩ : Fin 128) = r := Fin.ext (row_mod h r)
  funext e
  unfold rowsQ
  rw [row_div, e2]

theorem at128_val (t : Fin cfg0.N) (r : Fin 128) : (at128 t r).val = 128 * (grid0.coords t 0).val + r.val := by
  rw [coord0]
  show t.val * 128 + r.val = _
  omega

/-- A tile's logits are the result's. -/
theorem zz_eq (t : Fin cfg0.N) (h : Fin 8) (r : Fin 128) (s : ℕ) : zz (rowsQ qq t) kk bb (row h r) s = gated qq kk bb h (at128 t r) s := by
  unfold zz gated
  rw [rowsQ_row, row_div]

/-- A tile's output. -/
theorem tile_out (hq : ∀ h t e, argQ m c (ix3 h t e) = (qq h t e : EReal))
    (hk : ∀ (s : Fin 16384) (e : Fin 128), argK m c (ix2 s ⟨256 + e.val, by omega⟩) = (kk s.val e : EReal))
    (hv : ∀ (s : Fin 16384) (e : Fin 128), argK m c (ix2 s ⟨384 + e.val, by omega⟩) = vv s.val e)
    (hb : ∀ (o : Fin 32) h (j : Fin 512), argB m c (ix3 o h j) = (bb h (512 * o.val + j.val) : EReal))
    (t : Fin cfg0.N) (r : Fin 128) (e : Fin 512) :
    outsAt0 m c t (ix2 r e) = forgetting qq kk bb vv (at128 t r) e := by
  have hq' : ∀ R e, qRows c (ms0_0 t) (hs0_0 t) (iblk m c 0 t) (ix2 R e) = ((rowsQ qq t R e : ℝ) : EReal) := by
    intro R e
    obtain ⟨h, r, rfl⟩ := exists_row R
    rw [qRows_apply, rowsQ_row]
    exact (iblk0_apply m c t h r e).trans (hq _ _ _)
  have hk' : ∀ (s : Fin 16384) e, (iblk m c 1 t : Vec Ideal S16384x256 .bf16) (ix2 s (keyCol e)) = (kk s.val e : EReal) :=
    fun s e => (iblk1_apply m c t s (keyCol e)).trans (hk s e)
  have hv' : ∀ (s : Fin 16384) d, (iblk m c 1 t : Vec Ideal S16384x256 .bf16) (ix2 s (valCol d)) = vv s.val d := by
    intro s d
    refine (iblk1_apply m c t s (valCol d)).trans (Eq.trans ?_ (hv s d))
    refine congrArg (fun x : Fin 1024 => argK m c (ix2 s x)) (Fin.ext ?_)
    show 256 + (128 + d.val) = 384 + d.val
    omega
  have hb' : ∀ (o : Fin 32) h (j : Fin 512), (iblk m c 2 t : Vec Ideal S32x8x512 .f32) (ix3 o h j) = (bb h (512 * o.val + j.val) : EReal) :=
    fun o h j => (iblk2_apply m c t o h j).trans (hb o h j)
  have hm := fun (h : Fin 8) (d : Fin 128) => tile_mean c (grid0.coords t) (ms0_0 t) (hs0_0 t) (ms0_1 t) (hs0_1 t) (ms0_2 t) (hs0_2 t)
    (ms0_3 t) (hs0_3 t) scM0_0 (Memref.isWhole_whole _) scM0_1 (Memref.isWhole_whole _) scM0_2 (Memref.isWhole_whole _) (iblk m c 0 t) (iblk m c 1 t)
    (iblk m c 2 t) (rowsQ qq t) kk bb vv hq' hk' hv' hb'
    (gated qq kk bb) h r d (at128 t r) (at128_val t r) (zz_eq qq kk bb t h r)
  unfold outsAt0
  rw [out_eq c (grid0.coords t) _ _ _ _ _ _ _ _ _ _ _ _ _ _ _ _ _ ⟨e.val / 128, by omega⟩ r (laneAt e) e
    (by show e.val = e.val / 128 * 128 + e.val % 128; omega), hm, hm]
  unfold forgetting
  have hl : (laneAt e).val = e.val % 128 := rfl
  have hh : (headAt e).val = e.val / 128 + 4 * (e.val % 128 / 64) := rfl
  split
  · refine congrArg (fun h => mean (gated qq kk bb) vv h (at128 t r) (laneAt e)) (Fin.ext ?_)
    show e.val / 128 = (headAt e).val
    omega
  · refine congrArg (fun h => mean (gated qq kk bb) vv h (at128 t r) (laneAt e)) (Fin.ext ?_)
    show e.val / 128 + 4 = (headAt e).val
    omega

/-- The result array after the run. -/
theorem array_eq (hq : ∀ h t e, argQ m c (ix3 h t e) = (qq h t e : EReal))
    (hk : ∀ (s : Fin 16384) (e : Fin 128), argK m c (ix2 s ⟨256 + e.val, by omega⟩) = (kk s.val e : EReal))
    (hv : ∀ (s : Fin 16384) (e : Fin 128), argK m c (ix2 s ⟨384 + e.val, by omega⟩) = vv s.val e)
    (hb : ∀ (o : Fin 32) h (j : Fin 512), argB m c (ix3 o h j) = (bb h (512 * o.val + j.val) : EReal)) :
    (dats m 0 c).arrAt 3 cfg0.N = fun i : S16384x512.Idx => forgetting qq kk bb vv (i 0) (i 1) := by
  refine (dats m 0 c).arrAt_eq_of_covers 3 _ (by decide +kernel) fun t hf y => ?_
  blk_simp
  rw [after0_3]
  have ey : y = ix2 (y 0) (y 1) := funext fun a => by match a with | ⟨0, _⟩ => rfl | ⟨1, _⟩ => rfl
  refine (congrArg (outsAt0 m c t) ey).trans ((tile_out m c qq kk bb vv hq hk hv hb t (y 0) (y 1)).trans ?_)
  refine congrArg₂ (forgetting qq kk bb vv) (Fin.ext ?_) (Fin.ext ?_)
  · blk_simp [index3, at128]
  · blk_simp [index3]

end

end Cert.Fox

end
-- ==== Proof.FoxRef.lean ====
/- The reference's forgetting attention, stage by stage. -/
module

public import proofs.«01_k».proof.Proof.FoxMean
public import proofs.«01_k».proof.Proof.Ref
public import proofs.«01_k».proof.Proof.Gen.Reference2Ideal.Run
public import proofs.«01_k».proof.Proof.Gen.Reference2Ideal
public import Idealize.ShloMosaic.Lib.Pointwise
public import Idealize.ShloMosaic.Lib.WordCmp

@[expose] public section

noncomputable section

namespace Cert.FoxRef

open Cert.Softmax Cert.Mean Idealize.ShloMosaic Idealize.ShloMosaic.TcCoe Idealize.SL.Sem Cert.Reference2Ideal Cert.Reference2Ideal.Gen
open Cert.MlaRef (neg_inf log_two)
open scoped BigOperators

attribute [local instance] Cert.Reference2Ideal.Gen.facts

/-- The queries by key group: each group's heads and its half of the lanes. -/
def queries (q : FVec Ideal S8x16384x128 .bf16) : FVec Ideal S2x4x16384x64 .f32 :=
  concatenate S2x4x16384x64 0
    [⟨S1x4x16384x64, broadcastInDim S1x4x16384x64 ![1, 2, 3] bcast_S4x16384x64_S1x4x16384x64_1_2_3
        (extractStridedSlice S4x16384x64 ![0, 0, 0] (extf .f32 q bitsLt_bf16_f32) slices_S8x16384x128_S4x16384x64_0_0_0)⟩,
     ⟨S1x4x16384x64, broadcastInDim S1x4x16384x64 ![1, 2, 3] bcast_S4x16384x64_S1x4x16384x64_1_2_3
        (extractStridedSlice S4x16384x64 ![4, 0, 64] (extf .f32 q bitsLt_bf16_f32) slices_S8x16384x128_S4x16384x64_4_0_64)⟩]
    concatenates_S1x4x16384x64_S1x4x16384x64_S2x4x16384x64_d0

/-- The keys by group. -/
def keys (kv : FVec Ideal S16384x1024 .bf16) : FVec Ideal S16384x2x64 .f32 :=
  shapeCast S16384x2x64 (extractStridedSlice S16384x128 ![0, 256] (extf .f32 kv bitsLt_bf16_f32) slices_S16384x1024_S16384x128_0_256)
    shapeCasts_S16384x128_S16384x2x64

/-- The values by group. -/
def values (kv : FVec Ideal S16384x1024 .bf16) : FVec Ideal S16384x2x64 .f32 :=
  shapeCast S16384x2x64 (extractStridedSlice S16384x128 ![0, 384] (extf .f32 kv bitsLt_bf16_f32) slices_S16384x1024_S16384x128_0_384)
    shapeCasts_S16384x128_S16384x2x64

/-- The sums of the gates' logarithms, by group and head. -/
def gates (nf : FVec Ideal S32x8x512 .f32) : FVec Ideal S2x4x16384 .f32 :=
  Host.negf (shapeCast S2x4x16384 (transpose S8x32x512 [1, 0, 2] nf transposes_S32x8x512_S8x32x512_1_0_2) shapeCasts_S8x32x512_S2x4x16384)

/-- The logits, in units of the natural exponential. -/
def scores (q : FVec Ideal S2x4x16384x64 .f32) (k : FVec Ideal S16384x2x64 .f32) (f : FVec Ideal S2x4x16384 .f32) :
    FVec Ideal S2x4x16384x16384 .f32 :=
  mulf (addf (Host.dotGeneral dot_S2x4x16384x64_S16384x2x64_S2x4x16384x16384_3_2_12_0_0_1 none q k)
      (subf (broadcastInDim S2x4x16384x16384 ![0, 1, 2, 3] bcast_S2x4x16384x1_S2x4x16384x16384_0_1_2_3
          (broadcastInDim S2x4x16384x1 ![0, 1, 2] bcast_S2x4x16384_S2x4x16384x1_0_1_2 f))
        (broadcastInDim S2x4x16384x16384 ![0, 1, 2, 3] bcast_S2x4x1x16384_S2x4x16384x16384_0_1_2_3
          (broadcastInDim S2x4x1x16384 ![0, 1, 3] bcast_S2x4x16384_S2x4x1x16384_0_1_3 f))))
    (broadcastInDim S2x4x16384x16384 ![] bcast_S_S2x4x16384x16384 (Host.log (constant S_ .f32 0x40000000#32)))

/-- Where a key is not past its row. -/
def seen : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The logits with the keys past the row cut. -/
def masked (x : FVec Ideal S2x4x16384x16384 .f32) : FVec Ideal S2x4x16384x16384 .f32 :=
  select (broadcastInDim S2x4x16384x16384 ![2, 3] bcast_S16384x16384_S2x4x16384x16384_2_3 seen) x
    (broadcastInDim S2x4x16384x16384 ![] bcast_S_S2x4x16384x16384 (id (constant S_ .f32 0xFF800000#32)))

/-- A row's largest logit. -/
def tops (x : FVec Ideal S2x4x16384x16384 .f32) : FVec Ideal S2x4x16384 .f32 :=
  maximumf (broadcastInDim S2x4x16384 ![] bcast_S_S2x4x16384 (constant S_ .f32 0xFF800000#32))
    (Host.reduce FloatOps.maximumf x (constant S_ .f32 0xFF800000#32) reducesTo_S2x4x16384x16384_S2x4x16384_d3 h_S_)

/-- One number per row, at each of its keys. -/
def along (z : FVec Ideal S2x4x16384 .f32) : FVec Ideal S2x4x16384x16384 .f32 :=
  broadcastInDim S2x4x16384x16384 ![0, 1, 2, 3] bcast_S2x4x16384x1_S2x4x16384x16384_0_1_2_3
    (broadcastInDim S2x4x16384x1 ![0, 1, 2] bcast_S2x4x16384_S2x4x16384x1_0_1_2 z)

/-- The exponentials of the logits less their row's largest. -/
def expd (x : FVec Ideal S2x4x16384x16384 .f32) : FVec Ideal S2x4x16384x16384 .f32 := Host.exp (subf x (along (tops x)))

/-- The exponentials over their row's sum. -/
def probs (x : FVec Ideal S2x4x16384x16384 .f32) : FVec Ideal S2x4x16384x16384 .f32 :=
  Host.divf (expd x) (along (Host.reduceAdd (expd x) (constant S_ .f32 0x00000000#32) reducesTo_S2x4x16384x16384_S2x4x16384_d3 h_S_))

/-- The values' means, the heads and groups side by side. -/
def outputs (v : FVec Ideal S16384x2x64 .f32) (p : FVec Ideal S2x4x16384x16384 .f32) : FVec Ideal S16384x512 .f32 :=
  shapeCast _ (transpose S16384x4x2x64 [3, 2, 0, 1] (Host.dotGeneral dot_S16384x2x64_S2x4x16384x16384_S2x64x4x16384_0_3_2_12_1_0 none v p)
    transposes_S2x64x4x16384_S16384x4x2x64_3_2_0_1) shapeCasts_S16384x4x2x64_S16384x512

theorem res_eq (m : (ℓ : Loc nD τ sig) → Buf (Elt Ideal) ℓ) (c : Dev nD) :
    Cert.Reference2Ideal.Value.res_main_v44 m c = outputs (values (m ((c.tc : Thread nD τ).loc main_arg1)))
      (probs (masked (scores (queries (m ((c.tc : Thread nD τ).loc main_arg0))) (keys (m ((c.tc : Thread nD τ).loc main_arg1)))
        (gates (m ((c.tc : Thread nD τ).loc main_arg2)))))) := by
  unfold Cert.Reference2Ideal.Value.res_main_v44
  rfl

/-- Group `k`'s head `g`. -/
def headOf (k : Fin 2) (g : Fin 4) : Fin 8 := ⟨4 * k.val + g.val, by omega⟩
/-- Group `k`'s lane `d`. -/
def laneOf (k : Fin 2) (d : Fin 64) : Fin 128 := ⟨64 * k.val + d.val, by omega⟩

theorem queries_apply (q : FVec Ideal S8x16384x128 .bf16) (k : Fin 2) (g : Fin 4) (t : Fin 16384) (d : Fin 64) :
    queries q (ix4 k g t d) = q (ix3 (headOf k g) t (laneOf k d)) := by
  match k with
  | 0 =>
    pointwise [queries]
    exact congrArg₂ (fun h e => q (ix3 h t e)) (Fin.ext (by show g.val = 4 * 0 + g.val; omega)) (Fin.ext (by show d.val = 64 * 0 + d.val; omega))
  | 1 =>
    pointwise [queries]
    exact congrArg₂ (fun h e => q (ix3 h t e)) (Fin.ext (by show 4 + g.val = 4 * 1 + g.val; omega)) (Fin.ext (by show 64 + d.val = 64 * 1 + d.val; omega))

theorem keys_apply (kv : FVec Ideal S16384x1024 .bf16) (s : Fin 16384) (k : Fin 2) (d : Fin 64) :
    keys kv (ix3 s k d) = kv (ix2 s ⟨256 + (laneOf k d).val, by omega⟩) := by
  pointwise [keys]
  refine congrArg (fun e : Fin 1024 => kv (ix2 s e)) (Fin.ext ?_)
  show 256 + (k.val * 64 + d.val) = 256 + (64 * k.val + d.val)
  omega

theorem values_apply (kv : FVec Ideal S16384x1024 .bf16) (s : Fin 16384) (k : Fin 2) (d : Fin 64) :
    values kv (ix3 s k d) = kv (ix2 s ⟨384 + (laneOf k d).val, by omega⟩) := by
  pointwise [values]
  refine congrArg (fun e : Fin 1024 => kv (ix2 s e)) (Fin.ext ?_)
  show 384 + (k.val * 64 + d.val) = 384 + (64 * k.val + d.val)
  omega

theorem gates_apply (nf : FVec Ideal S32x8x512 .f32) (k : Fin 2) (g : Fin 4) (t : Fin 16384) :
    gates nf (ix3 k g t) = -(nf (ix3 (⟨t.val / 512, by omega⟩ : Fin 32) (headOf k g) (⟨t.val % 512, by omega⟩ : Fin 512)) : EReal) := by
  pointwise [gates]
  refine congrArg (fun h : Fin 8 => -(nf (ix3 (⟨t.val / 512, by omega⟩ : Fin 32) h (⟨t.val % 512, by omega⟩ : Fin 512)) : EReal)) (Fin.ext ?_)
  show k.val * 4 + g.val = 4 * k.val + g.val
  omega

theorem scores_apply (q : FVec Ideal S2x4x16384x64 .f32) (k : FVec Ideal S16384x2x64 .f32) (f : FVec Ideal S2x4x16384 .f32)
    (a : Fin 2) (g : Fin 4) (t s : Fin 16384) :
    scores q k f (ix4 a g t s) = (∑ d : Fin 64, q (ix4 a g t d) * k (ix3 s a d) + (f (ix3 a g t) - f (ix3 a g s))) * ((Real.log 2 : ℝ) : EReal) := by
  pointwise [scores]
  rw [log_two]

theorem masked_apply (x : FVec Ideal S2x4x16384x16384 .f32) (a : Fin 2) (g : Fin 4) (t s : Fin 16384) :
    masked x (ix4 a g t s) = if s.val ≤ t.val then x (ix4 a g t s) else ⊥ := by
  have hs := s.isLt
  have ht := t.isLt
  have e : IntOp.cmpi .sle (BitVec.ofNat 32 s.val) (BitVec.ofNat 32 t.val) = BitVec.ofBool (decide (s.val ≤ t.val)) :=
    WordCmp.cmpi_sle_ofNat (by omega) (by omega)
  have eb : (id (constant (F := Ideal) S_ .f32 0xFF800000#32) ix0 : EReal) = ⊥ := neg_inf
  pointwise [masked, seen]
  rw [e, eb]
  by_cases h : s.val ≤ t.val
  · rw [if_pos h, decide_eq_true h]
    rfl
  · rw [if_neg h, decide_eq_false h]
    rfl

/-- A row's largest logit, from the reduction over the keys. -/
theorem row_top {p a b n : ℕ} (x : FVec Ideal ⟨4, ![p, a, b, n]⟩ .f32) (h' : (⟨4, ![p, a, b, n]⟩ : Shape).ReducesTo [3] ⟨3, ![p, a, b]⟩)
    (h : (⟨4, ![p, a, b, n]⟩ : Shape).Reduces [3] ⟨3, ![p, a, b]⟩) (hu : 0 < (⟨0, ![]⟩ : Shape).numel) (u : Fin p) (i : Fin a) (j : Fin b) :
    Host.reduce FloatOps.maximumf x (constant (⟨0, ![]⟩ : Shape) .f32 0xFF800000#32) h' hu (ix3 u i j)
      = Finset.univ.sup fun k : Fin n => x (ix4 u i j k) := by
  rw [Host.reduce_eq_fold_single FloatOps.maximumf x _ h' h hu]
  have hf : (x ∘ h.lift (ix3 u i j)) = fun k : Fin n => x (ix4 u i j k) :=
    funext fun k => congrArg x (funext fun c => Fin.ext (by
      match c with
      | ⟨0, _⟩ => rfl
      | ⟨1, _⟩ => rfl
      | ⟨2, _⟩ => rfl
      | ⟨3, _⟩ => rfl))
  refine (congrArg (fun f : Fin n → EReal => Finset.fold max (Ideal.ofBits .f32 0xFF800000#32) f Finset.univ) hf).trans ?_
  rw [neg_inf]
  rfl

theorem red_last {p a b n : ℕ} : (⟨4, ![p, a, b, n]⟩ : Shape).Reduces [3] ⟨3, ![p, a, b]⟩ :=
  ⟨rfl, Nat.succ_pos _, fun c => by
    match c with
    | ⟨0, _⟩ => rfl
    | ⟨1, _⟩ => rfl
    | ⟨2, _⟩ => rfl⟩

/-- The largest of negative infinity and a row's logits. -/
theorem row_max {p a b n : ℕ} (z : FVec Ideal ⟨3, ![p, a, b]⟩ .f32) (hz : ∀ u i j, z (ix3 u i j) = (⊥ : EReal))
    (x : FVec Ideal ⟨4, ![p, a, b, n]⟩ .f32)
    (h' : (⟨4, ![p, a, b, n]⟩ : Shape).ReducesTo [3] ⟨3, ![p, a, b]⟩) (hu : 0 < (⟨0, ![]⟩ : Shape).numel) (u : Fin p) (i : Fin a) (j : Fin b) :
    maximumf z (Host.reduce FloatOps.maximumf x (constant (⟨0, ![]⟩ : Shape) .f32 0xFF800000#32) h' hu) (ix3 u i j)
      = Finset.univ.sup fun k : Fin n => x (ix4 u i j k) := by
  have e := row_top x h' red_last hu u i j
  refine (congrArg₂ (max : EReal → EReal → EReal) (hz u i j) e).trans ?_
  exact max_eq_right bot_le

theorem tops_apply (x : FVec Ideal S2x4x16384x16384 .f32) (a : Fin 2) (g : Fin 4) (t : Fin 16384) :
    tops x (ix3 a g t) = Finset.univ.sup fun k : Fin 16384 => x (ix4 a g t k) := by
  exact row_max _ (fun _ _ _ => neg_inf) x reducesTo_S2x4x16384x16384_S2x4x16384_d3 h_S_ a g t

theorem expd_apply (x : FVec Ideal S2x4x16384x16384 .f32) (a : Fin 2) (g : Fin 4) (t s : Fin 16384) :
    expd x (ix4 a g t s) = Ideal.exp (x (ix4 a g t s) - Finset.univ.sup fun k : Fin 16384 => x (ix4 a g t k)) := by
  rw [← tops_apply]
  pointwise [expd, along]

theorem probs_apply (x : FVec Ideal S2x4x16384x16384 .f32) (a : Fin 2) (g : Fin 4) (t s : Fin 16384) :
    probs x (ix4 a g t s) = Ideal.div (expd x (ix4 a g t s)) (∑ k : Fin 16384, expd x (ix4 a g t k)) := by
  pointwise [probs, along]

theorem outputs_apply (v : FVec Ideal S16384x2x64 .f32) (p : FVec Ideal S2x4x16384x16384 .f32) (t : Fin 16384) (e : Fin 512) :
    outputs v p (ix2 t e) = ∑ s : Fin 16384, v (ix3 s (⟨e.val % 128 / 64, by omega⟩ : Fin 2) (⟨e.val % 64, by omega⟩ : Fin 64))
      * p (ix4 (⟨e.val % 128 / 64, by omega⟩ : Fin 2) (⟨e.val / 128, by omega⟩ : Fin 4) t s) := by
  have e1 : (⟨e.val % 128 / 64, by omega⟩ : Fin 2) = ⟨e.val / 64 % 2, by omega⟩ := Fin.ext (by show e.val % 128 / 64 = e.val / 64 % 2; omega)
  rw [e1]
  pointwise [outputs]

section

variable (qq : Fin 8 → Fin 16384 → Fin 128 → ℝ) (kk : ℕ → Fin 128 → ℝ) (bb : Fin 8 → ℕ → ℝ) (vv : ℕ → Fin 128 → EReal)

/-- Where the other group's half of a query is zero, the product over all the lanes is the product over the group's own. -/
theorem half_sum (f g : Fin 128 → ℝ) (k : Fin 2) (hf : ∀ e : Fin 128, e.val / 64 ≠ k.val → f e = 0) :
    ∑ d : Fin 64, f (laneOf k d) * g (laneOf k d) = ∑ e, f e * g e := by
  have hs : ∑ e : Fin 128, f e * g e = ∑ d : Fin 64, f (laneOf 0 d) * g (laneOf 0 d) + ∑ d : Fin 64, f (laneOf 1 d) * g (laneOf 1 d) := by
    refine (Fin.sum_univ_add (a := 64) (b := 64) fun e => f e * g e).trans ?_
    refine congrArg₂ (· + ·) (Finset.sum_congr rfl fun d _ => ?_) (Finset.sum_congr rfl fun d _ => ?_)
    · have e : Fin.castAdd 64 d = laneOf 0 d := Fin.ext (by show d.val = 64 * 0 + d.val; omega)
      rw [e]
    · have e : Fin.natAdd 64 d = laneOf 1 d := Fin.ext (by show 64 + d.val = 64 * 1 + d.val; omega)
      rw [e]
  have hz : ∀ k' : Fin 2, k' ≠ k → ∑ d : Fin 64, f (laneOf k' d) * g (laneOf k' d) = 0 := by
    intro k' hk
    refine Finset.sum_eq_zero fun d _ => ?_
    have hd : (laneOf k' d).val = 64 * k'.val + d.val := rfl
    rw [hf _ (by have := Fin.val_ne_of_ne hk; omega), zero_mul]
  rw [hs]
  match k with
  | 0 => rw [hz 1 (by decide), add_zero]
  | 1 => rw [hz 0 (by decide), zero_add]

variable (q : FVec Ideal S8x16384x128 .bf16) (kv : FVec Ideal S16384x1024 .bf16) (nf : FVec Ideal S32x8x512 .f32)

/-- The logits of real queries, keys and gate sums: the kernel's, less the row's own gate sum, in the natural exponential's units. -/
theorem scores_real (hq : ∀ h t e, q (ix3 h t e) = (qq h t e : EReal))
    (hz : ∀ (h : Fin 8) t (e : Fin 128), e.val / 64 ≠ h.val / 4 → qq h t e = 0)
    (hk : ∀ (s : Fin 16384) (e : Fin 128), kv (ix2 s ⟨256 + e.val, by omega⟩) = (kk s.val e : EReal))
    (hb : ∀ (o : Fin 32) h (j : Fin 512), nf (ix3 o h j) = (bb h (512 * o.val + j.val) : EReal))
    (a : Fin 2) (g : Fin 4) (t s : Fin 16384) :
    scores (queries q) (keys kv) (gates nf) (ix4 a g t s)
      = (((gated qq kk bb (headOf a g) t s.val - bb (headOf a g) t.val) * Real.log 2 : ℝ) : EReal) := by
  have hf : ∀ t : Fin 16384, gates nf (ix3 a g t) = ((-bb (headOf a g) t.val : ℝ) : EReal) := by
    intro t
    have ht : 512 * (t.val / 512) + t.val % 512 = t.val := by omega
    rw [gates_apply, hb, EReal.coe_neg]
    exact congrArg (fun n => -((bb (headOf a g) n : ℝ) : EReal)) ht
  have hp : ∑ d : Fin 64, queries q (ix4 a g t d) * keys kv (ix3 s a d) = ((∑ e, qq (headOf a g) t e * kk s.val e : ℝ) : EReal) := by
    rw [← half_sum (qq (headOf a g) t) (kk s.val) a (fun e he => hz _ _ _ (by
      have hh : (headOf a g).val = 4 * a.val + g.val := rfl
      omega)), coe_sum]
    refine Finset.sum_congr rfl fun d _ => ?_
    rw [queries_apply, keys_apply, hq, hk, EReal.coe_mul]
  rw [scores_apply, hp, hf, hf, ← EReal.coe_sub, ← EReal.coe_add, ← EReal.coe_mul]
  refine congrArg (fun r : ℝ => (r : EReal)) ?_
  unfold gated
  ring

/-- A row's mean of a value's lane under its probabilities. -/
theorem mean_real (hq : ∀ h t e, q (ix3 h t e) = (qq h t e : EReal))
    (hz : ∀ (h : Fin 8) t (e : Fin 128), e.val / 64 ≠ h.val / 4 → qq h t e = 0)
    (hk : ∀ (s : Fin 16384) (e : Fin 128), kv (ix2 s ⟨256 + e.val, by omega⟩) = (kk s.val e : EReal))
    (hv : ∀ (s : Fin 16384) (e : Fin 128), kv (ix2 s ⟨384 + e.val, by omega⟩) = vv s.val e)
    (hb : ∀ (o : Fin 32) h (j : Fin 512), nf (ix3 o h j) = (bb h (512 * o.val + j.val) : EReal))
    (a : Fin 2) (g : Fin 4) (t : Fin 16384) (d : Fin 64) :
    ∑ s : Fin 16384, values kv (ix3 s a d) * probs (masked (scores (queries q) (keys kv) (gates nf))) (ix4 a g t s)
      = mean (gated qq kk bb) vv (headOf a g) t (laneOf a d) := by
  rw [← mean_shift (gated qq kk bb) (fun h t => bb h t.val), ← mean_eq_sum]
  refine Finset.sum_congr rfl fun s _ => ?_
  rw [values_apply, hv, mul_comm]
  refine congrArg (· * vv s.val (laneOf a d)) ?_
  rw [probs_apply]
  simp only [expd_apply]
  refine softmax_weight (fun h t s => gated qq kk bb h t s - bb h t.val) (headOf a g) t
    (fun k : Fin 16384 => masked (scores (queries q) (keys kv) (gates nf)) (ix4 a g t k)) (fun k => ?_) s
  rw [masked_apply, scores_real qq kk bb q kv nf hq hz hk hb]

/-- The reference's result. -/
theorem outputs_eq (hq : ∀ h t e, q (ix3 h t e) = (qq h t e : EReal))
    (hz : ∀ (h : Fin 8) t (e : Fin 128), e.val / 64 ≠ h.val / 4 → qq h t e = 0)
    (hk : ∀ (s : Fin 16384) (e : Fin 128), kv (ix2 s ⟨256 + e.val, by omega⟩) = (kk s.val e : EReal))
    (hv : ∀ (s : Fin 16384) (e : Fin 128), kv (ix2 s ⟨384 + e.val, by omega⟩) = vv s.val e)
    (hb : ∀ (o : Fin 32) h (j : Fin 512), nf (ix3 o h j) = (bb h (512 * o.val + j.val) : EReal)) (t : Fin 16384) (e : Fin 512) :
    outputs (values kv) (probs (masked (scores (queries q) (keys kv) (gates nf)))) (ix2 t e) = forgetting qq kk bb vv t e := by
  rw [outputs_apply, mean_real qq kk bb vv q kv nf hq hz hk hv hb]
  refine congrArg₂ (fun h d => mean (gated qq kk bb) vv h t d) (Fin.ext ?_) (Fin.ext ?_)
  · show 4 * (e.val % 128 / 64) + e.val / 128 = e.val / 128 + 4 * (e.val % 128 / 64)
    omega
  · show 64 * (e.val % 128 / 64) + e.val % 64 = e.val % 128
    omega

end

end Cert.FoxRef

end
-- ==== Proof.Packed.lean ====
/- The forgetting attention's precondition: its arguments are real numbers and each query holds nothing in the other group's half. -/
module

public import proofs.«01_k».proof.Pre_packed
public import proofs.«01_k».proof.Proof.Finite

@[expose] public section

noncomputable section

namespace Cert.Packed

open Idealize.ShloMosaic Cert.Pre_packed
open Cert.Finite (real_of_abs)

/-- The precondition's side conditions. -/
theorem facts : Cert.Pre_packed.Facts :=
  ⟨by decide, by decide, by decide, by decide, by decide, by decide, by decide, by decide⟩

attribute [local instance] facts

theorem zero_of_eq (x : Ideal .f32) (h : FloatOps.cmpf (F := Ideal) .oeq x (Ideal.ofBits .f32 0x00000000#32) = 1#1) : (x : EReal) = 0 := by
  have ei : Ideal.ofBits .f32 0x00000000#32 = (0 : EReal) := by simp [Ideal.ofBits, Ideal.ieee]
  by_contra hn
  have e : FloatOps.cmpf (F := Ideal) .oeq x (Ideal.ofBits .f32 0x00000000#32) = BitVec.ofBool (decide ((x : EReal) = 0)) := by
    rw [ei]
    rfl
  rw [e, decide_eq_false hn] at h
  exact absurd h (by decide)

variable (q : FVec Ideal S8x16384x128 .bf16) (kv : FVec Ideal S16384x1024 .bf16) (nf : FVec Ideal S32x8x512 .f32)

theorem queries (h : (fn q kv nf).1 = fun _ => 1#1) (x : S8x16384x128.Idx) : ((EReal.toReal (q x) : ℝ) : EReal) = q x := by
  have e := congrFun h x
  exact real_of_abs (q x) e

theorem first_zero (h : (fn q kv nf).2.1 = fun _ => 1#1) (a : Fin 4) (t : Fin 16384) (d : Fin 64) :
    (q (ix3 (⟨a.val, by omega⟩ : Fin 8) t (⟨64 + d.val, by omega⟩ : Fin 128)) : EReal) = 0 := by
  have e := congrFun h (ix3 a t d)
  refine zero_of_eq _ ?_
  revert e
  unfold fn
  dsimp only
  pointwise []
  exact id

theorem second_zero (h : (fn q kv nf).2.2.1 = fun _ => 1#1) (a : Fin 4) (t : Fin 16384) (d : Fin 64) :
    (q (ix3 (⟨4 + a.val, by omega⟩ : Fin 8) t (⟨d.val, by omega⟩ : Fin 128)) : EReal) = 0 := by
  have e := congrFun h (ix3 a t d)
  refine zero_of_eq _ ?_
  revert e
  unfold fn
  dsimp only
  pointwise []
  exact id

/-- A query's lane outside its group's half is zero. -/
theorem other_zero (h₁ : (fn q kv nf).2.1 = fun _ => 1#1) (h₂ : (fn q kv nf).2.2.1 = fun _ => 1#1) (a : Fin 8) (t : Fin 16384) (e : Fin 128)
    (he : e.val / 64 ≠ a.val / 4) : (q (ix3 a t e) : EReal) = 0 := by
  by_cases ha : a.val < 4
  · refine Eq.trans ?_ (first_zero q kv nf h₁ ⟨a.val, ha⟩ t ⟨e.val - 64, by omega⟩)
    refine congrArg (fun x : Fin 128 => q (ix3 a t x)) (Fin.ext ?_)
    show e.val = 64 + (e.val - 64)
    omega
  · refine Eq.trans ?_ (second_zero q kv nf h₂ ⟨a.val - 4, by omega⟩ t ⟨e.val, by omega⟩)
    refine congrArg (fun x : Fin 8 => q (ix3 x t e)) (Fin.ext ?_)
    show a.val = 4 + (a.val - 4)
    omega

theorem keys (h : (fn q kv nf).2.2.2.1 = fun _ => 1#1) (s : Fin 16384) (e : Fin 128) :
    ((EReal.toReal (kv (ix2 s ⟨256 + e.val, by omega⟩)) : ℝ) : EReal) = kv (ix2 s ⟨256 + e.val, by omega⟩) := by
  have e := congrFun h (ix2 s e)
  refine real_of_abs _ ?_
  revert e
  unfold fn
  dsimp only
  pointwise []
  exact id

theorem gates (h : (fn q kv nf).2.2.2.2 = fun _ => 1#1) (x : S32x8x512.Idx) : ((EReal.toReal (nf x) : ℝ) : EReal) = nf x := by
  have e := congrFun h x
  exact real_of_abs (nf x) e

end Cert.Packed

end
-- ==== Proof.FoxEqual.lean ====
/- The forgetting attention's kernel and its reference reach the same result. -/
module

public import proofs.«01_k».proof.Defs
public import proofs.«01_k».proof.Proof.FoxOut
public import proofs.«01_k».proof.Proof.Gen.Kernel2Ideal.Value
public import proofs.«01_k».proof.Proof.FoxRef
public import proofs.«01_k».proof.Proof.Packed

@[expose] public section

noncomputable section

namespace Cert.FoxEqual

open Idealize.ShloMosaic Idealize.ShloMosaic.TcCoe Idealize.SL.Sem Cert.Mean

attribute [local instance] Cert.Kernel2Ideal.Gen.facts Cert.Reference2Ideal.Gen.facts Cert.Packed.facts

section

variable (m : (ℓ : Loc Cert.Kernel2Ideal.nD Cert.Kernel2Ideal.τ Cert.Kernel2Ideal.sig) → Buf (Elt Ideal) ℓ) (c : Dev Cert.Kernel2Ideal.nD)

/-- The queries as real numbers. -/
def realQ (h : Fin 8) (t : Fin 16384) (e : Fin 128) : ℝ := EReal.toReal (Cert.Fox.argQ m c (ix3 h t e))

/-- The keys as real numbers. -/
def realK (s : ℕ) (e : Fin 128) : ℝ :=
  if hs : s < 16384 then EReal.toReal (Cert.Fox.argK m c (ix2 (⟨s, hs⟩ : Fin 16384) (⟨256 + e.val, by omega⟩ : Fin 1024))) else 0

/-- The gates' sums as real numbers. -/
def realB (h : Fin 8) (s : ℕ) : ℝ :=
  if hs : s < 16384 then EReal.toReal (Cert.Fox.argB m c (ix3 (⟨s / 512, by omega⟩ : Fin 32) h (⟨s % 512, by omega⟩ : Fin 512))) else 0

/-- The values. -/
def valueV (s : ℕ) (e : Fin 128) : EReal :=
  if hs : s < 16384 then Cert.Fox.argK m c (ix2 (⟨s, hs⟩ : Fin 16384) (⟨384 + e.val, by omega⟩ : Fin 1024)) else 0

/-- The result of the arguments. -/
def value (i : Cert.Kernel2Ideal.S16384x512.Idx) : EReal := forgetting (realQ m c) (realK m c) (realB m c) (valueV m c) (i 0) (i 1)

theorem valueV_eq (s : Fin 16384) (e : Fin 128) : Cert.Fox.argK m c (ix2 s ⟨384 + e.val, by omega⟩) = valueV m c s.val e := by
  unfold valueV
  rw [dif_pos s.isLt]

variable (hpre : Cert.Pre_Kernel2Ideal_packed m)

include hpre

theorem realQ_eq (h : Fin 8) (t : Fin 16384) (e : Fin 128) : Cert.Fox.argQ m c (ix3 h t e) = (realQ m c h t e : EReal) :=
  (Cert.Packed.queries _ _ _ (hpre c).1 _).symm

theorem realQ_zero (h : Fin 8) (t : Fin 16384) (e : Fin 128) (he : e.val / 64 ≠ h.val / 4) : realQ m c h t e = 0 := by
  have e0 : (Cert.Fox.argQ m c (ix3 h t e) : EReal) = 0 := Cert.Packed.other_zero _ _ _ (hpre c).2.1 (hpre c).2.2.1 h t e he
  unfold realQ
  exact (congrArg EReal.toReal e0).trans EReal.toReal_zero

theorem realK_eq (s : Fin 16384) (e : Fin 128) : Cert.Fox.argK m c (ix2 s ⟨256 + e.val, by omega⟩) = (realK m c s.val e : EReal) := by
  unfold realK
  rw [dif_pos s.isLt]
  exact (Cert.Packed.keys _ _ _ (hpre c).2.2.2.1 s e).symm

theorem realB_eq (o : Fin 32) (h : Fin 8) (j : Fin 512) : Cert.Fox.argB m c (ix3 o h j) = (realB m c h (512 * o.val + j.val) : EReal) := by
  unfold realB
  rw [dif_pos (by omega)]
  have e1 : (⟨(512 * o.val + j.val) / 512, by omega⟩ : Fin 32) = o := Fin.ext (by show (512 * o.val + j.val) / 512 = o.val; omega)
  have e2 : (⟨(512 * o.val + j.val) % 512, by omega⟩ : Fin 512) = j := Fin.ext (by show (512 * o.val + j.val) % 512 = j.val; omega)
  rw [e1, e2]
  exact (Cert.Packed.gates _ _ _ (hpre c).2.2.2.2 _).symm

end

/-- The two programs' results are equal. -/
theorem algebraic : Cert.algebraic_Kernel2Ideal_Reference2Ideal_pre_packed := by
  intro m g m' g' hpre hargs
  refine ⟨fun c => value m c, ?_, ?_⟩
  · refine (θ_run _ _ _).mono (fun r h c => ⟨(h c).1.trans ?_, (h c).2⟩) (Cert.Kernel2Ideal.Value.run_blocks m g)
    exact Cert.Fox.array_eq m c (realQ m c) (realK m c) (realB m c) (valueV m c) (realQ_eq m c hpre) (realK_eq m c hpre) (valueV_eq m c)
      (realB_eq m c hpre)
  · refine (θ_run _ _ _).mono (fun r h c => ⟨(h c).1.trans ?_, (h c).2⟩) (Cert.Reference2Ideal.Value.run (F := Ideal) m' g')
    rw [Cert.FoxRef.res_eq, (hargs c).1, (hargs c).2.1, (hargs c).2.2]
    funext i
    have ei : i = ix2 (i 0) (i 1) := funext fun a => by match a with | ⟨0, _⟩ => rfl | ⟨1, _⟩ => rfl
    refine (congrArg _ ei).trans ?_
    exact Cert.FoxRef.outputs_eq (realQ m c) (realK m c) (realB m c) (valueV m c) _ _ _ (realQ_eq m c hpre) (realQ_zero m c hpre) (realK_eq m c hpre)
      (valueV_eq m c) (realB_eq m c hpre) (i 0) (i 1)

end Cert.FoxEqual

end
-- ==== Proof.Columns.lean ====
/- The input projection's kernel and its reference reach the same result. -/
module

public import proofs.«01_k».proof.Defs
public import proofs.«01_k».proof.Proof.Gen.Kernel3Ideal.Frame
import all proofs.«01_k».proof.Proof.Gen.Kernel3Ideal.Frame
import all proofs.«01_k».proof.Proof.Gen.Kernel3Ideal.Frame.RunA
import all proofs.«01_k».proof.Proof.Gen.Kernel3Ideal.Frame.RunB
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Lib.WritesUnit
public import Idealize.ShloMosaic.Lib.Pipeline.ValueKit

@[expose] public section

noncomputable section

namespace Cert.Columns

open Idealize.ShloMosaic Idealize.ShloMosaic.TcCoe Idealize.SL.Sem Cert.Kernel3Ideal Cert.Kernel3Ideal.Gen
open scoped BigOperators

attribute [local instance] Cert.Kernel3Ideal.Gen.facts Cert.Reference3Ideal.Gen.facts

section

variable {sig : RefSig} {κ : Kind} {sp : Space} {η : EltTy}

/-- A store of a whole block is what is read back. -/
theorem read_store (v : View sig κ sp S1024x1024 η) (f : v.ty.Contents (Elt Ideal)) (w : Vec Ideal S1024x1024 η) :
    v.read (Elt Ideal) (v.writes (Elt Ideal) f [⟨Rect.unit ![0, 0] ![1024, 1024] inb_S1024x1024_S1024x1024_0_0, w⟩]) = w := by
  funext y
  exact View.read_writes_cons_rows_of_mem v f (d := ![1024, 1024]) (o := 0) inb_S1024x1024_S1024x1024_0_0 w [] y y rfl
    (Nat.zero_add _).symm rfl

/-- A load of a whole block. -/
theorem load_block (v : View sig κ sp S1024x1024 η) (f : v.ty.Contents (Elt Ideal)) :
    v.readAt (Elt Ideal) (Rect.unit ![0, 0] ![1024, 1024] inb_S1024x1024_S1024x1024_0_0).toLoadRect f = v.read (Elt Ideal) f := by
  funext x
  refine congrArg (v.read (Elt Ideal) f) (funext fun a => Fin.ext ?_)
  match a with
  | ⟨0, _⟩ => show 0 + 1 * (x 0).val = (x 0).val; omega
  | ⟨1, _⟩ => show 0 + 1 * (x 1).val = (x 1).val; omega

end

/-- A block's rows times a block's columns. -/
theorem prod_apply (a b : Vec Ideal S1024x1024 .bf16) (r e : Fin 1024) :
    k0_pay2 (F := Ideal) a b (ix2 r e) = ∑ k : Fin 1024, a (ix2 r k) * b (ix2 k e) := by
  pointwise [k0_pay2]

/-- The cast keeps every element. -/
theorem cast_apply (a : Vec Ideal S1024x1024 .f32) (r e : Fin 1024) : k0_pay1 (F := Ideal) a (ix2 r e) = a (ix2 r e) := by
  pointwise [k0_pay1]

variable (c : Dev nD) (i : grid0.Coords) (arg2 : Memref sig .tc .vmem S1024x1024 .f32) (harg2 : arg2.IsWhole)
  (arg3 : Memref sig .tc .vmem S1024x1024 .bf16) (harg3 : arg3.IsWhole) (arg4 : Memref sig .tc .vmem S1024x1024 .f32) (harg4 : arg4.IsWhole)
  (arg5 : Memref sig .tc .vmem S1024x1024 .bf16) (harg5 : arg5.IsWhole)
  (x0 : Vec Ideal S1024x1024 .f32) (x1 xs0 : Vec Ideal S1024x1024 .bf16)

/-- At a row of blocks' first point the rows are kept … -/
theorem first_kept (hc0 : cond0_0 i) (r k : Fin 1024) :
    sout0_A_0 c i arg2 harg2 arg3 harg3 arg4 harg4 arg5 harg5 hc0 x0 x1 (ix2 r k) = x0 (ix2 r k) := by
  unfold sout0_A_0 kernelRun0_A
  dsimp only
  unfold kernelRun0_A.sl.HS0_1
  rw [read_store, load_block, harg2.read_unread, cast_apply]

/-- … and the output is their product with the block's columns. -/
theorem first_out (hc0 : cond0_0 i) (r e : Fin 1024) :
    out0_A_2 c i arg2 harg2 arg3 harg3 arg4 harg4 arg5 harg5 hc0 x0 x1 (ix2 r e) = ∑ k, x0 (ix2 r k) * x1 (ix2 k e) := by
  unfold out0_A_2 kernelRun0_A
  dsimp only
  rw [read_store, load_block, harg3.read_unread, prod_apply]
  refine Finset.sum_congr rfl fun k _ => ?_
  congr 1
  unfold kernelRun0_A.sl.v3 kernelRun0_A.sl.HS0_1
  refine (congrFun (load_block arg5.view _) _).trans ?_
  rw [read_store, load_block, harg2.read_unread, cast_apply]

/-- At a later point the output is the kept rows' product with the block's columns. -/
theorem later_out (hc0 : ¬cond0_0 i) (r e : Fin 1024) :
    out0_B_2 c i arg2 harg2 arg3 harg3 arg4 harg4 arg5 harg5 hc0 x0 x1 xs0 (ix2 r e) = ∑ k, xs0 (ix2 r k) * x1 (ix2 k e) := by
  unfold out0_B_2 kernelRun0_B
  dsimp only
  rw [read_store, load_block, load_block, harg3.read_unread, harg5.read_unread, prod_apply]

variable (m : (ℓ : Loc nD τ sig) → Buf (Elt Ideal) ℓ)

/-- The arguments. -/
abbrev argX : FVec Ideal S16384x1024 .f32 := m ((c : Thread nD τ).loc main_arg0)
abbrev argW : FVec Ideal S1024x7168 .bf16 := m ((c : Thread nD τ).loc main_arg1)

theorem index0 : ∀ t : Fin cfg0.N, win0_0.index t = ![t.val / 7, 0] :=
  (by decide +kernel : ∀ t : Fin grid0.N, win0_0.index t = ![t.val / 7, 0])
theorem index1 : ∀ t : Fin cfg0.N, win0_1.index t = ![0, t.val % 7] :=
  (by decide +kernel : ∀ t : Fin grid0.N, win0_1.index t = ![0, t.val % 7])
theorem index2 : ∀ t : Fin cfg0.N, win0_2.index t = ![t.val / 7, t.val % 7] :=
  (by decide +kernel : ∀ t : Fin grid0.N, win0_2.index t = ![t.val / 7, t.val % 7])

/-- The array's row that point `n` holds at row `r`, and its column at column `e`. -/
def rowAt (n : ℕ) (hn : n < cfg0.N) (r : Fin 1024) : Fin 16384 := ⟨n / 7 * 1024 + r.val, by have h : n < 112 := hn; omega⟩
def colAt (n : ℕ) (e : Fin 1024) : Fin 7168 := ⟨n % 7 * 1024 + e.val, by omega⟩

theorem iblk0_apply (t : Fin cfg0.N) (r k : Fin 1024) :
    (iblk m c 0 t : Vec Ideal S1024x1024 .f32) (ix2 r k) = argX c m (ix2 (rowAt t.val t.isLt r) k) := by
  show ((cfg0.win 0).blk t).view.read (Elt Ideal) (V m c main_arg0) (ix2 r k) = _
  rw [V_main_arg0]
  blk_simp
  refine congrArg (argX c m) ?_
  blk_ext [index0, rowAt]

theorem iblk1_apply (t : Fin cfg0.N) (k e : Fin 1024) :
    (iblk m c 1 t : Vec Ideal S1024x1024 .bf16) (ix2 k e) = argW c m (ix2 k (colAt t.val e)) := by
  show ((cfg0.win 1).blk t).view.read (Elt Ideal) (V m c main_arg1) (ix2 k e) = _
  rw [V_main_arg1]
  blk_simp
  refine congrArg (argW c m) ?_
  blk_ext [index1, colAt]

theorem kept_first (t : Fin cfg0.N) (h0 : t.val % 7 = 0) (r k : Fin 1024) :
    (outsAt0 m c t.val t.isLt).2 (ix2 r k) = argX c m (ix2 (rowAt t.val t.isLt r) k) := by
  rw [outsAt0_A m c t h0]
  dsimp only
  rw [first_kept]
  exact iblk0_apply c m t r k

theorem kept_later (t : Fin cfg0.N) (h0 : ¬t.val % 7 = 0) (r k : Fin 1024) :
    (outsAt0 m c t.val t.isLt).2 (ix2 r k)
      = (outsAt0 m c (t.val - 1) (Nat.lt_of_le_of_lt (Nat.sub_le _ _) t.isLt)).2 (ix2 r k) := by
  rw [outsAt0_B m c t h0]
  dsimp only
  unfold sout0_B_0
  rfl

/-- Every point keeps its rows. -/
theorem kept (r k : Fin 1024) : ∀ (n : ℕ) (hn : n < cfg0.N),
    (outsAt0 m c n hn).2 (ix2 r k) = argX c m (ix2 (rowAt n hn r) k) := by
  intro n
  induction n with
  | zero =>
    intro hn
    exact kept_first c m ⟨0, hn⟩ (Nat.zero_mod _) r k
  | succ n ih =>
    intro hn
    by_cases h0 : (n + 1) % 7 = 0
    · exact kept_first c m ⟨n + 1, hn⟩ h0 r k
    · refine (kept_later c m ⟨n + 1, hn⟩ h0 r k).trans ((ih (Nat.lt_of_succ_lt hn)).trans (congrArg (fun x => argX c m (ix2 x k)) (Fin.ext ?_)))
      show n / 7 * 1024 + r.val = (n + 1) / 7 * 1024 + r.val
      omega

/-- Every point's output is its rows' product with its columns. -/
theorem point_out (t : Fin cfg0.N) (r e : Fin 1024) :
    (outsAt0 m c t.val t.isLt).1 (ix2 r e)
      = ∑ k : Fin 1024, argX c m (ix2 (rowAt t.val t.isLt r) k) * argW c m (ix2 k (colAt t.val e)) := by
  by_cases h0 : t.val % 7 = 0
  · rw [outsAt0_A m c t h0]
    dsimp only
    rw [first_out]
    refine Finset.sum_congr rfl fun k _ => ?_
    rw [iblk0_apply, iblk1_apply]
  · rw [outsAt0_B m c t h0]
    dsimp only
    rw [later_out]
    refine Finset.sum_congr rfl fun k _ => ?_
    rw [kept, iblk1_apply]
    refine congrArg (fun x => argX c m (ix2 x k) * argW c m (ix2 k (colAt t.val e))) (Fin.ext ?_)
    show (t.val - 1) / 7 * 1024 + r.val = t.val / 7 * 1024 + r.val
    omega

/-- The arguments' product. -/
def value (i : S16384x7168.Idx) : EReal := ∑ k : Fin 1024, argX c m (ix2 (i 0) k) * argW c m (ix2 k (i 1))

/-- The result array after the run. -/
theorem array_eq : (dats m 0 c).arrAt 2 cfg0.N = value c m := by
  refine (dats m 0 c).arrAt_eq_of_covers 2 _ (by decide +kernel) fun t hf y => ?_
  blk_simp
  rw [after0_2]
  have ey : y = ix2 (y 0) (y 1) := funext fun a => by match a with | ⟨0, _⟩ => rfl | ⟨1, _⟩ => rfl
  refine (congrArg (outsAt0 m c t.val t.isLt).1 ey).trans ((point_out c m t (y 0) (y 1)).trans ?_)
  unfold value
  refine congrArg₂ (fun (a : Fin 16384) (b : Fin 7168) => ∑ k : Fin 1024, argX c m (ix2 a k) * argW c m (ix2 k b)) (Fin.ext ?_) (Fin.ext ?_)
  · blk_simp [index2, rowAt]
  · blk_simp [index2, colAt]

/-- The reference's product. -/
theorem ref_eq (hb : FTy.bf16.bits < FTy.f32.bits) (x : FVec Ideal S16384x1024 .f32) (w : FVec Ideal S1024x7168 .bf16) (t : Fin 16384) (e : Fin 7168) :
    Host.dotGeneral Cert.Reference3Ideal.dot_S16384x1024_S1024x7168_S16384x7168_1_0_0_1_n_n none x (extf .f32 w hb) (ix2 t e)
      = ∑ k : Fin 1024, x (ix2 t k) * w (ix2 k e) := by
  pointwise []

/-- The two programs' results are equal. -/
theorem algebraic : Cert.algebraic_Kernel3Ideal_Reference3Ideal := by
  intro m g m' g' _ hargs
  refine ⟨fun c => value c m, ?_, ?_⟩
  · exact (θ_run _ _ _).mono (fun r h c => ⟨(h c).1.trans (array_eq c m), (h c).2⟩) (Cert.Kernel3Ideal.Value.run_blocks m g)
  · refine (θ_run _ _ _).mono (fun r h c => ⟨(h c).1.trans ?_, (h c).2⟩) (Cert.Reference3Ideal.Value.run (F := Ideal) m' g')
    rw [(hargs c).1, (hargs c).2]
    funext i
    have ei : i = ix2 (i 0) (i 1) := funext fun a => by match a with | ⟨0, _⟩ => rfl | ⟨1, _⟩ => rfl
    refine (congrArg _ ei).trans ?_
    exact ref_eq _ _ _ (i 0) (i 1)

end Cert.Columns

end
-- ==== Proof.MergeRef.lean ====
/- The merge's arithmetic of one row, and the merge's reference as it. -/
module

public import proofs.«01_k».proof.Proof.Gen.Reference4Ideal
public import proofs.«01_k».proof.Proof.Gen.Reference4Ideal.Run
public import Idealize.ShloMosaic.Lib.Pointwise

@[expose] public section

noncomputable section

namespace Cert.Merge

open Idealize.ShloMosaic
open scoped BigOperators

/-- The logistic gate. -/
def gate (x : EReal) : EReal := Ideal.div 1 (1 + Ideal.exp (-x))

/-- One branch's gated output through a column of its projection, and the merge's gate. -/
def branch (o z w : Fin 512 → EReal) (g : EReal) : EReal := gate g * ∑ k, o k * (z k * gate (z k)) * w k

/-- The three branches merged. -/
def mixed (o : Fin 3 → Fin 512 → EReal) (z : Fin 1536 → EReal) (g : Fin 3072 → EReal) (w : Fin 3 → Fin 512 → Fin 1024 → EReal) (d : Fin 1024) : EReal :=
  ∑ n : Fin 3, branch (o n) (fun k => z ⟨n.val * 512 + k.val, by omega⟩) (fun k => w n k d) (g ⟨n.val * 1024 + d.val, by omega⟩)

/-- The residual sum of a row. -/
def resid (x u : Fin 1024 → EReal) (w : Fin 1024 → Fin 1024 → EReal) (d : Fin 1024) : EReal :=
  Ideal.ofBits .f32 0x3FB504F3#32 * x d + ∑ e, u e * w e d

/-- A row's mean. -/
def rowMean (h : Fin 1024 → EReal) : EReal := Ideal.div (∑ d, h d) (Ideal.ofBits .f32 0x44800000#32)

/-- A row's layer norm. -/
def rowNorm (h a b : Fin 1024 → EReal) (d : Fin 1024) : EReal :=
  (h d - rowMean h) * Ideal.rsqrt (rowMean (fun e => (h e - rowMean h) * (h e - rowMean h)) + Ideal.ofBits .f32 0x3727C5AC#32) * a d + b d

end Cert.Merge

namespace Cert.MergeRef

open Idealize.ShloMosaic Idealize.ShloMosaic.TcCoe Idealize.SL.Sem Cert.Reference4Ideal Cert.Reference4Ideal.Gen Cert.Merge
open scoped BigOperators

attribute [local instance] Cert.Reference4Ideal.Gen.facts

/-- The output gates' inputs. -/
def zin (y : FVec Ideal S16384x7168 .f32) : FVec Ideal S16384x3x512 .f32 :=
  shapeCast _ (extractStridedSlice S16384x1536 ![0, 1536] y slices_S16384x7168_S16384x1536_0_1536) shapeCasts_S16384x1536_S16384x3x512

/-- A branch's output times its gate. -/
def gatedOut (o z : FVec Ideal S16384x512 .f32) : FVec Ideal S16384x512 .f32 :=
  mulf o (mulf z (Host.divf (broadcastInDim S16384x512 ![] bcast_S_S16384x512 (constant S_ .f32 0x3F800000#32))
    (addf (broadcastInDim S16384x512 ![] bcast_S_S16384x512 (constant S_ .f32 0x3F800000#32)) (Host.exp (Host.negf z)))))

/-- A branch's output as one of three. -/
def lifted (u : FVec Ideal S16384x512 .f32) : FVec Ideal S16384x1x512 .f32 :=
  broadcastInDim S16384x1x512 ![0, 2] bcast_S16384x512_S16384x1x512_0_2 u

/-- The three branches' gated outputs. -/
def stacked (o0 o1 o2 : FVec Ideal S16384x512 .f32) (z : FVec Ideal S16384x3x512 .f32) : FVec Ideal S16384x3x512 .f32 :=
  concatenate S16384x3x512 1
    [⟨S16384x1x512, lifted (gatedOut o0 (shapeCast _ (extractStridedSlice S16384x1x512 ![0, 0, 0] z slices_S16384x3x512_S16384x1x512_0_0_0) shapeCasts_S16384x1x512_S16384x512))⟩,
     ⟨S16384x1x512, lifted (gatedOut o1 (shapeCast _ (extractStridedSlice S16384x1x512 ![0, 1, 0] z slices_S16384x3x512_S16384x1x512_0_1_0) shapeCasts_S16384x1x512_S16384x512))⟩,
     ⟨S16384x1x512, lifted (gatedOut o2 (shapeCast _ (extractStridedSlice S16384x1x512 ![0, 2, 0] z slices_S16384x3x512_S16384x1x512_0_2_0) shapeCasts_S16384x1x512_S16384x512))⟩]
    concatenates_S16384x1x512_S16384x1x512_S16384x1x512_S16384x3x512_d1

/-- The branches through their own projections. -/
def branches (w : FVec Ideal S3x512x1024 .bf16) (u : FVec Ideal S16384x3x512 .f32) : FVec Ideal S16384x3x1024 .f32 :=
  transpose S16384x3x1024 [2, 0, 1] (Host.dotGeneral dot_S3x512x1024_S16384x3x512_S3x1024x16384_1_2_2_0_0_1 none (extf .f32 w bitsLt_bf16_f32) u)
    transposes_S3x1024x16384_S16384x3x1024_2_0_1

/-- The merge's gates. -/
def gates (y : FVec Ideal S16384x7168 .f32) : FVec Ideal S16384x3x1024 .f32 :=
  Host.divf (broadcastInDim S16384x3x1024 ![] bcast_S_S16384x3x1024 (constant S_ .f32 0x3F800000#32))
    (addf (broadcastInDim S16384x3x1024 ![] bcast_S_S16384x3x1024 (constant S_ .f32 0x3F800000#32))
      (Host.exp (Host.negf (shapeCast _ (extractStridedSlice S16384x3072 ![0, 3072] y slices_S16384x7168_S16384x3072_0_3072) shapeCasts_S16384x3072_S16384x3x1024))))

/-- The residual sum. -/
def hidden (x : FVec Ideal S16384x1024 .f32) (g b : FVec Ideal S16384x3x1024 .f32) (w : FVec Ideal S1024x1024 .bf16) : FVec Ideal S16384x1024 .f32 :=
  addf (mulf (broadcastInDim S16384x1024 ![] bcast_S_S16384x1024 (constant S_ .f32 0x3FB504F3#32)) x)
    (Host.dotGeneral dot_S16384x1024_S1024x1024_S16384x1024_1_0_0_1_n_n none
      (Host.dotGeneral dot_S16384x3x1024_S16384x3x1024_S16384x1024_1_1_n_n_02_02 none g b) (extf .f32 w bitsLt_bf16_f32))

/-- The rows' means. -/
def means (h : FVec Ideal S16384x1024 .f32) : FVec Ideal S16384x1 .f32 :=
  Host.divf (broadcastInDim S16384x1 ![0] bcast_S16384_S16384x1_0 (Host.reduceAdd h (constant S_ .f32 0x00000000#32) reducesTo_S16384x1024_S16384_d1 h_S_))
    (broadcastInDim S16384x1 ![] bcast_S_S16384x1 (constant S_ .f32 0x44800000#32))

/-- The rows less their means. -/
def centred (h : FVec Ideal S16384x1024 .f32) : FVec Ideal S16384x1024 .f32 :=
  subf h (broadcastInDim S16384x1024 ![0, 1] bcast_S16384x1_S16384x1024_0_1 (means h))

/-- The layer norm. -/
def normed (h : FVec Ideal S16384x1024 .f32) (g b : FVec Ideal S1x1024 .f32) : FVec Ideal S16384x1024 .f32 :=
  addf (mulf (mulf (centred h) (broadcastInDim S16384x1024 ![0, 1] bcast_S16384x1_S16384x1024_0_1
      (Host.rsqrt (addf (means (mulf (centred h) (centred h))) (broadcastInDim S16384x1 ![] bcast_S_S16384x1 (constant S_ .f32 0x3727C5AC#32))))))
    (broadcastInDim S16384x1024 ![0, 1] bcast_S1x1024_S16384x1024_0_1 g)) (broadcastInDim S16384x1024 ![0, 1] bcast_S1x1024_S16384x1024_0_1 b)

theorem res_eq (m : (ℓ : Loc nD τ sig) → Buf (Elt Ideal) ℓ) (c : Dev nD) :
    Cert.Reference4Ideal.Value.res_main_v56 m c
      = normed (hidden (m ((c.tc : Thread nD τ).loc main_arg4)) (gates (m ((c.tc : Thread nD τ).loc main_arg3)))
          (branches (m ((c.tc : Thread nD τ).loc main_arg5)) (stacked (m ((c.tc : Thread nD τ).loc main_arg0)) (m ((c.tc : Thread nD τ).loc main_arg1))
            (m ((c.tc : Thread nD τ).loc main_arg2)) (zin (m ((c.tc : Thread nD τ).loc main_arg3)))))
          (m ((c.tc : Thread nD τ).loc main_arg6)))
        (m ((c.tc : Thread nD τ).loc main_arg7)) (m ((c.tc : Thread nD τ).loc main_arg8)) := by
  unfold Cert.Reference4Ideal.Value.res_main_v56
  rfl

theorem zin_apply (y : FVec Ideal S16384x7168 .f32) (t : Fin 16384) (n : Fin 3) (k : Fin 512) :
    zin y (ix3 t n k) = y (ix2 t ⟨1536 + (n.val * 512 + k.val), by omega⟩) := by
  pointwise [zin]

theorem gatedOut_apply (o z : FVec Ideal S16384x512 .f32) (t : Fin 16384) (k : Fin 512) :
    gatedOut o z (ix2 t k) = o (ix2 t k) * (z (ix2 t k) * gate (z (ix2 t k))) := by
  unfold gate
  pointwise [gatedOut]

theorem stacked_zero (o0 o1 o2 : FVec Ideal S16384x512 .f32) (z : FVec Ideal S16384x3x512 .f32) (t : Fin 16384) (k : Fin 512) :
    stacked o0 o1 o2 z (ix3 t 0 k) = o0 (ix2 t k) * (z (ix3 t 0 k) * gate (z (ix3 t 0 k))) := by
  pointwise [stacked, lifted]
  rw [gatedOut_apply]
  pointwise []

theorem stacked_one (o0 o1 o2 : FVec Ideal S16384x512 .f32) (z : FVec Ideal S16384x3x512 .f32) (t : Fin 16384) (k : Fin 512) :
    stacked o0 o1 o2 z (ix3 t 1 k) = o1 (ix2 t k) * (z (ix3 t 1 k) * gate (z (ix3 t 1 k))) := by
  pointwise [stacked, lifted]
  rw [gatedOut_apply]
  pointwise []

theorem stacked_two (o0 o1 o2 : FVec Ideal S16384x512 .f32) (z : FVec Ideal S16384x3x512 .f32) (t : Fin 16384) (k : Fin 512) :
    stacked o0 o1 o2 z (ix3 t 2 k) = o2 (ix2 t k) * (z (ix3 t 2 k) * gate (z (ix3 t 2 k))) := by
  pointwise [stacked, lifted]
  rw [gatedOut_apply]
  pointwise []

/-- The three branches' outputs of a row. -/
def three (o0 o1 o2 : FVec Ideal S16384x512 .f32) (t : Fin 16384) (n : Fin 3) (k : Fin 512) : EReal :=
  (![o0 (ix2 t k), o1 (ix2 t k), o2 (ix2 t k)] : Fin 3 → EReal) n

theorem stacked_apply (o0 o1 o2 : FVec Ideal S16384x512 .f32) (z : FVec Ideal S16384x3x512 .f32) (t : Fin 16384) (n : Fin 3) (k : Fin 512) :
    stacked o0 o1 o2 z (ix3 t n k) = three o0 o1 o2 t n k * (z (ix3 t n k) * gate (z (ix3 t n k))) := by
  match n with
  | ⟨0, _⟩ => exact stacked_zero o0 o1 o2 z t k
  | ⟨1, _⟩ => exact stacked_one o0 o1 o2 z t k
  | ⟨2, _⟩ => exact stacked_two o0 o1 o2 z t k

theorem branches_apply (w : FVec Ideal S3x512x1024 .bf16) (u : FVec Ideal S16384x3x512 .f32) (t : Fin 16384) (n : Fin 3) (d : Fin 1024) :
    branches w u (ix3 t n d) = ∑ k : Fin 512, w (ix3 n k d) * u (ix3 t n k) := by
  pointwise [branches]

theorem gates_apply (y : FVec Ideal S16384x7168 .f32) (t : Fin 16384) (n : Fin 3) (d : Fin 1024) :
    gates y (ix3 t n d) = gate (y (ix2 t ⟨3072 + (n.val * 1024 + d.val), by omega⟩)) := by
  unfold gate
  pointwise [gates]

theorem hidden_apply (x : FVec Ideal S16384x1024 .f32) (g b : FVec Ideal S16384x3x1024 .f32) (w : FVec Ideal S1024x1024 .bf16) (t : Fin 16384) (d : Fin 1024) :
    hidden x g b w (ix2 t d)
      = resid (fun e => x (ix2 t e)) (fun e => ∑ n : Fin 3, g (ix3 t n e) * b (ix3 t n e)) (fun e d => w (ix2 e d)) d := by
  unfold resid
  pointwise [hidden]

theorem normed_apply (h : FVec Ideal S16384x1024 .f32) (a b : FVec Ideal S1x1024 .f32) (t : Fin 16384) (d : Fin 1024) :
    normed h a b (ix2 t d) = rowNorm (fun e => h (ix2 t e)) (fun e => a (ix2 0 e)) (fun e => b (ix2 0 e)) d := by
  unfold rowNorm rowMean
  pointwise [normed, centred, means]

/-- The merge of the arguments at a row and a column. -/
def value (o0 o1 o2 : FVec Ideal S16384x512 .f32) (y : FVec Ideal S16384x7168 .f32) (x : FVec Ideal S16384x1024 .f32) (wb : FVec Ideal S3x512x1024 .bf16)
    (wo : FVec Ideal S1024x1024 .bf16) (a b : FVec Ideal S1x1024 .f32) (t : Fin 16384) (d : Fin 1024) : EReal :=
  rowNorm (resid (fun e => x (ix2 t e))
      (mixed (three o0 o1 o2 t) (fun j => y (ix2 t ⟨1536 + j.val, by omega⟩)) (fun j => y (ix2 t ⟨3072 + j.val, by omega⟩)) (fun n k d => wb (ix3 n k d)))
      (fun e d => wo (ix2 e d)))
    (fun e => a (ix2 0 e)) (fun e => b (ix2 0 e)) d

/-- The reference's result. -/
theorem ref_eq (o0 o1 o2 : FVec Ideal S16384x512 .f32) (y : FVec Ideal S16384x7168 .f32) (x : FVec Ideal S16384x1024 .f32) (wb : FVec Ideal S3x512x1024 .bf16)
    (wo : FVec Ideal S1024x1024 .bf16) (a b : FVec Ideal S1x1024 .f32) (t : Fin 16384) (d : Fin 1024) :
    normed (hidden x (gates y) (branches wb (stacked o0 o1 o2 (zin y))) wo) a b (ix2 t d) = value o0 o1 o2 y x wb wo a b t d := by
  rw [normed_apply]
  unfold value
  refine congrArg (fun h => rowNorm h (fun e => a (ix2 0 e)) (fun e => b (ix2 0 e)) d) (funext fun e => ?_)
  rw [hidden_apply]
  refine congrArg (fun u => resid (fun e => x (ix2 t e)) u (fun e d => wo (ix2 e d)) e) (funext fun j => ?_)
  unfold mixed
  refine Finset.sum_congr rfl fun n _ => ?_
  rw [gates_apply, branches_apply]
  unfold branch
  refine congrArg (fun u => gate (y (ix2 t ⟨3072 + (n.val * 1024 + j.val), by omega⟩)) * u) (Finset.sum_congr rfl fun k _ => ?_)
  rw [stacked_apply, zin_apply]
  exact mul_comm _ _

end Cert.MergeRef

end
-- ==== Proof.MergeOut.lean ====
/- The merge's kernel and its reference reach the same result. -/
module

public import proofs.«01_k».proof.Defs
public import proofs.«01_k».proof.Proof.MergeRef
public import proofs.«01_k».proof.Proof.Gen.Kernel4Ideal.Value
import all proofs.«01_k».proof.Proof.Gen.Kernel4Ideal.Frame
import all proofs.«01_k».proof.Proof.Gen.Kernel4Ideal.Frame.RunA
public import Idealize.ShloMosaic.Lib.WritesUnit
public import Idealize.ShloMosaic.Lib.WholeRead
public import Idealize.ShloMosaic.Lib.Pipeline.ValueKit

@[expose] public section

noncomputable section

namespace Cert.Merge

open Idealize.ShloMosaic Idealize.ShloMosaic.TcCoe Idealize.SL.Sem Cert.Kernel4Ideal Cert.Kernel4Ideal.Gen
open scoped BigOperators

attribute [local instance] Cert.Kernel4Ideal.Gen.facts Cert.Reference4Ideal.Gen.facts

/-- The kernel's residual sum. -/
def hidK (v24 : FVec Ideal S256x1024 .f32) (v30 : FVec Ideal S256x512 .bf16) (v31 : Vec Ideal S1x512x1024 .bf16) (v34 : Vec Ideal S256x1024 .f32)
    (v39 : Vec Ideal S1024x1024 .bf16) (v41 : Vec Ideal S256x1024 .f32) : FVec Ideal S256x1024 .f32 :=
  addf (mulf (broadcast S256x1024 (Scalar.ofBits .f32 0x3FB504F3#32)) v41)
    (matmul (φ₂ := .bf16) dot_S256x1024_S1024x1024_S256x1024_1_0_0_1_n_n none
      (truncf .bf16 (addf v24 (mulf (logistic v34) (matmul dot_S256x512_S512x1024_S256x1024_1_0_0_1_n_n none v30
        (shapeCast S512x1024 v31 shapeCasts_S1x512x1024_S512x1024 : FVec Ideal S512x1024 .bf16) (constant S256x1024 .f32 0x00000000#32)))) bitsLt_bf16_f32)
      v39 (constant S256x1024 .f32 0x00000000#32))

/-- The rows' means. -/
def meanK (h : FVec Ideal S256x1024 .f32) : FVec Ideal S256x1 .f32 :=
  divf (shapeCast S256x1 (multiReduction .add [1] S256 h 0x00000000#32 reduces_S256x1024_S256 (.inl rfl) rfl) shapeCasts_S256_S256x1)
    (broadcast S256x1 (Scalar.ofBits .f32 0x44800000#32))

/-- The rows less their means. -/
def centK (h : FVec Ideal S256x1024 .f32) : FVec Ideal S256x1024 .f32 := subf h (broadcastTo S256x1024 (meanK h) broadcasts_S256x1_S256x1024)

/-- The kernel's layer norm. -/
def normK (h : FVec Ideal S256x1024 .f32) (a b : Vec Ideal S1x1024 .f32) : FVec Ideal S256x1024 .f32 :=
  addf (mulf (mulf (centK h) (broadcastTo S256x1024
      (rsqrt (addf (meanK (mulf (centK h) (centK h))) (broadcast S256x1 (Scalar.ofBits .f32 0x3727C5AC#32)))) broadcasts_S256x1_S256x1024))
    (broadcastTo S256x1024 a broadcasts_S1x1024_S256x1024)) (broadcastTo S256x1024 b broadcasts_S1x1024_S256x1024)

theorem pay1_eq (v24 : FVec Ideal S256x1024 .f32) (v30 : FVec Ideal S256x512 .bf16) (v31 : Vec Ideal S1x512x1024 .bf16) (v34 : Vec Ideal S256x1024 .f32)
    (v39 : Vec Ideal S1024x1024 .bf16) (v41 : Vec Ideal S256x1024 .f32) (v61 v64 : Vec Ideal S1x1024 .f32) :
    k0_pay1 v24 v30 v31 v34 v39 v41 v61 v64 = normK (hidK v24 v30 v31 v34 v39 v41) v61 v64 := by
  unfold k0_pay1
  rfl

theorem normK_apply (h : FVec Ideal S256x1024 .f32) (a b : Vec Ideal S1x1024 .f32) (r : Fin 256) (d : Fin 1024) :
    normK h a b (ix2 r d) = rowNorm (fun e => h (ix2 r e)) (fun e => a (ix2 0 e)) (fun e => b (ix2 0 e)) d := by
  unfold rowNorm rowMean
  pointwise [normK, centK, meanK]

theorem hidK_apply (v24 : FVec Ideal S256x1024 .f32) (v30 : FVec Ideal S256x512 .bf16) (v31 : Vec Ideal S1x512x1024 .bf16) (v34 : Vec Ideal S256x1024 .f32)
    (v39 : Vec Ideal S1024x1024 .bf16) (v41 : Vec Ideal S256x1024 .f32) (r : Fin 256) (d : Fin 1024) :
    hidK v24 v30 v31 v34 v39 v41 (ix2 r d)
      = resid (fun e => v41 (ix2 r e)) (fun e => v24 (ix2 r e) + gate (v34 (ix2 r e)) * ∑ k : Fin 512, v30 (ix2 r k) * v31 (ix3 0 k e))
          (fun e d => v39 (ix2 e d)) d := by
  unfold resid gate
  pointwise [hidK]
  rfl

theorem pay2_apply (v0 v1 : Vec Ideal S256x512 .f32) (v6 : Vec Ideal S1x512x1024 .bf16) (v9 : Vec Ideal S256x1024 .f32) (v12 v13 : Vec Ideal S256x512 .f32)
    (v18 : Vec Ideal S1x512x1024 .bf16) (v21 : Vec Ideal S256x1024 .f32) (r : Fin 256) (d : Fin 1024) :
    k0_pay2 v0 v1 v6 v9 v12 v13 v18 v21 (ix2 r d)
      = branch (fun k => v1 (ix2 r k)) (fun k => v0 (ix2 r k)) (fun k => v6 (ix3 0 k d)) (v9 (ix2 r d))
        + branch (fun k => v13 (ix2 r k)) (fun k => v12 (ix2 r k)) (fun k => v18 (ix3 0 k d)) (v21 (ix2 r d)) := by
  unfold branch gate
  pointwise [k0_pay2]
  rfl

theorem pay3_apply (v25 v26 : Vec Ideal S256x512 .f32) (r : Fin 256) (k : Fin 512) :
    k0_pay3 v25 v26 (ix2 r k) = v26 (ix2 r k) * (v25 (ix2 r k) * gate (v25 (ix2 r k))) := by
  unfold gate
  pointwise [k0_pay3]
  rfl

section

variable (r : Fin 256) (o : Fin 3 → Fin 512 → EReal) (z : Fin 1536 → EReal) (g : Fin 3072 → EReal) (x : Fin 1024 → EReal)
  (w : Fin 3 → Fin 512 → Fin 1024 → EReal) (wo : Fin 1024 → Fin 1024 → EReal) (a b : Fin 1024 → EReal)

/-- The stored value of a row, from the loads. -/
theorem pay_row (v0 v1 : Vec Ideal S256x512 .f32) (v6 : Vec Ideal S1x512x1024 .bf16) (v9 : Vec Ideal S256x1024 .f32) (v12 v13 : Vec Ideal S256x512 .f32)
    (v18 : Vec Ideal S1x512x1024 .bf16) (v21 : Vec Ideal S256x1024 .f32) (v25 v26 : Vec Ideal S256x512 .f32) (v31 : Vec Ideal S1x512x1024 .bf16)
    (v34 : Vec Ideal S256x1024 .f32) (v39 : Vec Ideal S1024x1024 .bf16) (v41 : Vec Ideal S256x1024 .f32) (v61 v64 : Vec Ideal S1x1024 .f32)
    (h1 : ∀ k, v1 (ix2 r k) = o 0 k) (h13 : ∀ k, v13 (ix2 r k) = o 1 k) (h26 : ∀ k, v26 (ix2 r k) = o 2 k)
    (h0 : ∀ k : Fin 512, v0 (ix2 r k) = z ⟨0 * 512 + k.val, by omega⟩) (h12 : ∀ k : Fin 512, v12 (ix2 r k) = z ⟨1 * 512 + k.val, by omega⟩)
    (h25 : ∀ k : Fin 512, v25 (ix2 r k) = z ⟨2 * 512 + k.val, by omega⟩)
    (h9 : ∀ k : Fin 1024, v9 (ix2 r k) = g ⟨0 * 1024 + k.val, by omega⟩) (h21 : ∀ k : Fin 1024, v21 (ix2 r k) = g ⟨1 * 1024 + k.val, by omega⟩)
    (h34 : ∀ k : Fin 1024, v34 (ix2 r k) = g ⟨2 * 1024 + k.val, by omega⟩)
    (h6 : ∀ k d, v6 (ix3 0 k d) = w 0 k d) (h18 : ∀ k d, v18 (ix3 0 k d) = w 1 k d) (h31 : ∀ k d, v31 (ix3 0 k d) = w 2 k d)
    (h39 : ∀ e d, v39 (ix2 e d) = wo e d) (h41 : ∀ e, v41 (ix2 r e) = x e) (h61 : ∀ e, v61 (ix2 0 e) = a e) (h64 : ∀ e, v64 (ix2 0 e) = b e) (d : Fin 1024) :
    k0_pay1 (k0_pay2 v0 v1 v6 v9 v12 v13 v18 v21) (k0_pay3 v25 v26) v31 v34 v39 v41 v61 v64 (ix2 r d)
      = rowNorm (resid x (mixed o z g w) wo) a b d := by
  have ea : (fun e => v61 (ix2 0 e)) = a := funext h61
  have eb : (fun e => v64 (ix2 0 e)) = b := funext h64
  have ex : (fun e => v41 (ix2 r e)) = x := funext h41
  have ewo : (fun e d => v39 (ix2 e d)) = wo := funext fun e => funext (h39 e)
  rw [pay1_eq, normK_apply, ea, eb]
  refine congrArg (fun h => rowNorm h a b d) (funext fun e => ?_)
  rw [hidK_apply, ex, ewo]
  refine congrArg (fun u => resid x u wo e) (funext fun j => ?_)
  rw [pay2_apply]
  unfold mixed
  rw [Fin.sum_univ_three]
  simp only [h0, h1, h6, h9, h12, h13, h18, h21]
  refine congrArg₂ (· + ·) rfl ?_
  unfold branch
  rw [h34]
  refine congrArg₂ (· * ·) rfl (Finset.sum_congr rfl fun k _ => ?_)
  rw [pay3_apply, h25, h26, h31]
  rfl

variable {κ : Kind} {sp : Space} {η : EltTy}

/-- A load of a whole block. -/
theorem load_whole {s : Shape} (M : Memref sig .tc .vmem s η) (hM : M.IsWhole) (X : Vec Ideal s η) (off : Fin s.rank → ℕ) (hoff : ∀ a, off a = 0)
    (inb : ∀ a, off a + s.size a ≤ s.size a) (y : s.Idx) :
    M.view.readAt (Elt Ideal) (Rect.unit off s.size inb).toLoadRect (hM.unread X) y = X y := by
  refine (hM.readAt_unread _ _ _).trans (congrArg X (funext fun a => Fin.ext ?_))
  show off a + 1 * (y a).val = (y a).val
  rw [hoff, Nat.zero_add, Nat.one_mul]

theorem off2 : ∀ a : Fin 2, (![0, 0] : Fin 2 → ℕ) a = 0 := by decide

/-- A load of 512 columns of the output gates' inputs. -/
theorem load_z (M : Memref sig .tc .vmem S256x1536 .f32) (hM : M.IsWhole) (X : Vec Ideal S256x1536 .f32) (c n : ℕ) (hc : n * 512 = c) (hn : n < 3)
    (inb : ∀ a, (![0, c] : Fin 2 → ℕ) a + (![256, 512] : Fin 2 → ℕ) a ≤ S256x1536.size a) (k : Fin 512) :
    M.view.readAt (Elt Ideal) (Rect.unit (s := S256x1536) ![0, c] ![256, 512] inb).toLoadRect (hM.unread X) (ix2 r k)
      = X (ix2 r ⟨n * 512 + k.val, by omega⟩) := by
  refine (hM.readAt_unread _ _ _).trans (congrArg X (funext fun a => Fin.ext ?_))
  match a with
  | ⟨0, _⟩ => show 0 + 1 * r.val = r.val; omega
  | ⟨1, _⟩ => show c + 1 * k.val = n * 512 + k.val; omega

/-- A load of 1024 columns of the merge gates' inputs. -/
theorem load_g (M : Memref sig .tc .vmem S256x3072 .f32) (hM : M.IsWhole) (X : Vec Ideal S256x3072 .f32) (c n : ℕ) (hc : n * 1024 = c) (hn : n < 3)
    (inb : ∀ a, (![0, c] : Fin 2 → ℕ) a + (![256, 1024] : Fin 2 → ℕ) a ≤ S256x3072.size a) (k : Fin 1024) :
    M.view.readAt (Elt Ideal) (Rect.unit (s := S256x3072) ![0, c] ![256, 1024] inb).toLoadRect (hM.unread X) (ix2 r k)
      = X (ix2 r ⟨n * 1024 + k.val, by omega⟩) := by
  refine (hM.readAt_unread _ _ _).trans (congrArg X (funext fun a => Fin.ext ?_))
  match a with
  | ⟨0, _⟩ => show 0 + 1 * r.val = r.val; omega
  | ⟨1, _⟩ => show c + 1 * k.val = n * 1024 + k.val; omega

/-- A load of one branch's projection. -/
theorem load_w (M : Memref sig .tc .vmem S3x512x1024 .bf16) (hM : M.IsWhole) (X : Vec Ideal S3x512x1024 .bf16) (n : Fin 3)
    (inb : ∀ a, (![n.val, 0, 0] : Fin 3 → ℕ) a + (![1, 512, 1024] : Fin 3 → ℕ) a ≤ S3x512x1024.size a) (k : Fin 512) (d : Fin 1024) :
    M.view.readAt (Elt Ideal) (Rect.unit (s := S3x512x1024) ![n.val, 0, 0] ![1, 512, 1024] inb).toLoadRect (hM.unread X) (ix3 0 k d)
      = X (ix3 n k d) := by
  refine (hM.readAt_unread _ _ _).trans (congrArg X (funext fun a => Fin.ext ?_))
  match a with
  | ⟨0, _⟩ => show n.val + 1 * 0 = n.val; omega
  | ⟨1, _⟩ => show 0 + 1 * k.val = k.val; omega
  | ⟨2, _⟩ => show 0 + 1 * d.val = d.val; omega

/-- A point's output at a row, from the point's blocks. -/
theorem out_row (c : Dev nD) (i : grid0.Coords) (arg1 : Memref sig .tc .vmem S256x512 .f32) (harg1 : arg1.IsWhole) (arg2 : Memref sig .tc .vmem S256x512 .f32)
    (harg2 : arg2.IsWhole) (arg3 : Memref sig .tc .vmem S256x512 .f32) (harg3 : arg3.IsWhole) (arg4 : Memref sig .tc .vmem S256x1536 .f32)
    (harg4 : arg4.IsWhole) (arg5 : Memref sig .tc .vmem S256x3072 .f32) (harg5 : arg5.IsWhole) (arg6 : Memref sig .tc .vmem S256x1024 .f32)
    (harg6 : arg6.IsWhole) (arg7 : Memref sig .tc .vmem S3x512x1024 .bf16) (harg7 : arg7.IsWhole) (arg8 : Memref sig .tc .vmem S1024x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S256x1024 .f32) (harg11 : arg11.IsWhole)
    (x0 x1 x2 : Vec Ideal S256x512 .f32) (x3 : Vec Ideal S256x1536 .f32) (x4 : Vec Ideal S256x3072 .f32) (x5 : Vec Ideal S256x1024 .f32)
    (x6 : Vec Ideal S3x512x1024 .bf16) (x7 : Vec Ideal S1024x1024 .bf16) (x8 x9 : Vec Ideal S1x1024 .f32)
    (h0 : ∀ k, x0 (ix2 r k) = o 0 k) (h1 : ∀ k, x1 (ix2 r k) = o 1 k) (h2 : ∀ k, x2 (ix2 r k) = o 2 k) (hz : ∀ j, x3 (ix2 r j) = z j)
    (hg : ∀ j, x4 (ix2 r j) = g j) (hx : ∀ e, x5 (ix2 r e) = x e) (hw : ∀ n k d, x6 (ix3 n k d) = w n k d) (hwo : ∀ e d, x7 (ix2 e d) = wo e d)
    (ha : ∀ e, x8 (ix2 0 e) = a e) (hb : ∀ e, x9 (ix2 0 e) = b e) (d : Fin 1024) :
    out0_A_10 c i arg1 harg1 arg2 harg2 arg3 harg3 arg4 harg4 arg5 harg5 arg6 harg6 arg7 harg7 arg8 harg8 arg9 harg9 arg10 harg10 arg11 harg11
        x0 x1 x2 x3 x4 x5 x6 x7 x8 x9 (ix2 r d)
      = rowNorm (resid x (mixed o z g w) wo) a b d := by
  unfold out0_A_10 kernelRun0_A
  dsimp only
  refine (View.read_writes_cons_rows_of_mem _ _ (d := ![256, 1024]) (o := 0) inb_S256x1024_S256x1024_0_0 _ [] (ix2 r d) (ix2 r d) rfl
    (Nat.zero_add _).symm rfl).trans ?_
  unfold kernelRun0_A.sl.r kernelRun0_A.sl.r_1 kernelRun0_A.sl.r_2
  exact pay_row r o z g x w wo a b _ _ _ _ _ _ _ _ _ _ _ _ _ _ _ _
    (fun k => (load_whole arg1 harg1 x0 _ off2 _ _).trans (h0 k)) (fun k => (load_whole arg2 harg2 x1 _ off2 _ _).trans (h1 k))
    (fun k => (load_whole arg3 harg3 x2 _ off2 _ _).trans (h2 k))
    (fun k => (load_z r arg4 harg4 x3 0 0 rfl (by decide) _ k).trans (hz _)) (fun k => (load_z r arg4 harg4 x3 512 1 rfl (by decide) _ k).trans (hz _))
    (fun k => (load_z r arg4 harg4 x3 1024 2 rfl (by decide) _ k).trans (hz _))
    (fun k => (load_g r arg5 harg5 x4 0 0 rfl (by decide) _ k).trans (hg _)) (fun k => (load_g r arg5 harg5 x4 1024 1 rfl (by decide) _ k).trans (hg _))
    (fun k => (load_g r arg5 harg5 x4 2048 2 rfl (by decide) _ k).trans (hg _))
    (fun k d => (load_w arg7 harg7 x6 0 _ k d).trans (hw 0 k d)) (fun k d => (load_w arg7 harg7 x6 1 _ k d).trans (hw 1 k d))
    (fun k d => (load_w arg7 harg7 x6 2 _ k d).trans (hw 2 k d))
    (fun e d => (load_whole arg8 harg8 x7 _ off2 _ _).trans (hwo e d)) (fun e => (load_whole arg6 harg6 x5 _ off2 _ _).trans (hx e))
    (fun e => (load_whole arg9 harg9 x8 _ off2 _ _).trans (ha e)) (fun e => (load_whole arg10 harg10 x9 _ off2 _ _).trans (hb e)) d

end

variable (m : (ℓ : Loc nD τ sig) → Buf (Elt Ideal) ℓ) (c : Dev nD)

/-- The arguments. -/
abbrev arg0 : FVec Ideal S16384x512 .f32 := m ((c : Thread nD τ).loc main_arg0)
abbrev arg1 : FVec Ideal S16384x512 .f32 := m ((c : Thread nD τ).loc main_arg1)
abbrev arg2 : FVec Ideal S16384x512 .f32 := m ((c : Thread nD τ).loc main_arg2)
abbrev argY : FVec Ideal S16384x7168 .f32 := m ((c : Thread nD τ).loc main_arg3)
abbrev argX : FVec Ideal S16384x1024 .f32 := m ((c : Thread nD τ).loc main_arg4)
abbrev argB : FVec Ideal S3x512x1024 .bf16 := m ((c : Thread nD τ).loc main_arg5)
abbrev argO : FVec Ideal S1024x1024 .bf16 := m ((c : Thread nD τ).loc main_arg6)
abbrev argG : FVec Ideal S1x1024 .f32 := m ((c : Thread nD τ).loc main_arg7)
abbrev argH : FVec Ideal S1x1024 .f32 := m ((c : Thread nD τ).loc main_arg8)

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 1] := (by decide +kernel : ∀ t : Fin grid0.N, win0_3.index t = ![t.val, 1])
theorem index4 : ∀ t : Fin cfg0.N, win0_4.index t = ![t.val, 1] := (by decide +kernel : ∀ t : Fin grid0.N, win0_4.index t = ![t.val, 1])
theorem index5 : ∀ t : Fin cfg0.N, win0_5.index t = ![t.val, 0] := (by decide +kernel : ∀ t : Fin grid0.N, win0_5.index t = ![t.val, 0])
theorem index6 : ∀ t : Fin cfg0.N, win0_6.index t = ![0, 0, 0] := (by decide +kernel : ∀ t : Fin grid0.N, win0_6.index t = ![0, 0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![t.val, 0] := (by decide +kernel : ∀ t : Fin grid0.N, win0_10.index t = ![t.val, 0])

/-- The array's row that point `t` holds at row `r`. -/
def at256 (t : Fin cfg0.N) (r : Fin 256) : Fin 16384 := ⟨t.val * 256 + r.val, by have h : t.val < 64 := t.isLt; omega⟩

theorem iblk0_apply (t : Fin cfg0.N) (r : Fin 256) (k : Fin 512) :
    (iblk m c 0 t : Vec Ideal S256x512 .f32) (ix2 r k) = arg0 m c (ix2 (at256 t r) k) := by
  show ((cfg0.win 0).blk t).view.read (Elt Ideal) (V m c main_arg0) (ix2 r k) = _
  rw [V_main_arg0]
  blk_simp
  refine congrArg (arg0 m c) ?_
  blk_ext [index0, at256]

theorem iblk1_apply (t : Fin cfg0.N) (r : Fin 256) (k : Fin 512) :
    (iblk m c 1 t : Vec Ideal S256x512 .f32) (ix2 r k) = arg1 m c (ix2 (at256 t r) k) := by
  show ((cfg0.win 1).blk t).view.read (Elt Ideal) (V m c main_arg1) (ix2 r k) = _
  rw [V_main_arg1]
  blk_simp
  refine congrArg (arg1 m c) ?_
  blk_ext [index1, at256]

theorem iblk2_apply (t : Fin cfg0.N) (r : Fin 256) (k : Fin 512) :
    (iblk m c 2 t : Vec Ideal S256x512 .f32) (ix2 r k) = arg2 m c (ix2 (at256 t r) k) := by
  show ((cfg0.win 2).blk t).view.read (Elt Ideal) (V m c main_arg2) (ix2 r k) = _
  rw [V_main_arg2]
  blk_simp
  refine congrArg (arg2 m c) ?_
  blk_ext [index2, at256]

theorem X3_apply (t : Fin cfg0.N) (r : Fin 256) (j : Fin 1536) :
    (X0_3 m c t : Vec Ideal S256x1536 .f32) (ix2 r j) = argY m c (ix2 (at256 t r) ⟨1536 + j.val, by omega⟩) := by
  unfold X0_3 Pipeline.Window.fill
  rw [dif_pos (moved0_3 t _)]
  show ((cfg0.win 3).blk t).view.read (Elt Ideal) (V m c main_arg3) _ = _
  rw [V_main_arg3]
  blk_simp
  refine congrArg (argY m c) ?_
  blk_ext [index3, at256]

theorem X4_apply (t : Fin cfg0.N) (r : Fin 256) (j : Fin 3072) :
    (X0_4 m c t : Vec Ideal S256x3072 .f32) (ix2 r j) = argY m c (ix2 (at256 t r) ⟨3072 + j.val, by omega⟩) := by
  unfold X0_4 Pipeline.Window.fill
  rw [dif_pos (moved0_4 t _)]
  show ((cfg0.win 4).blk t).view.read (Elt Ideal) (V m c main_arg3) _ = _
  rw [V_main_arg3]
  blk_simp
  refine congrArg (argY m c) ?_
  blk_ext [index4, at256]

theorem iblk5_apply (t : Fin cfg0.N) (r : Fin 256) (e : Fin 1024) :
    (iblk m c 5 t : Vec Ideal S256x1024 .f32) (ix2 r e) = argX m c (ix2 (at256 t r) e) := by
  show ((cfg0.win 5).blk t).view.read (Elt Ideal) (V m c main_arg4) (ix2 r e) = _
  rw [V_main_arg4]
  blk_simp
  refine congrArg (argX m c) ?_
  blk_ext [index5, at256]

theorem iblk6_apply (t : Fin cfg0.N) (n : Fin 3) (k : Fin 512) (d : Fin 1024) :
    (iblk m c 6 t : Vec Ideal S3x512x1024 .bf16) (ix3 n k d) = argB m c (ix3 n k d) := by
  show ((cfg0.win 6).blk t).view.read (Elt Ideal) (V m c main_arg5) (ix3 n k d) = _
  rw [V_main_arg5]
  blk_simp
  refine congrArg (argB m c) ?_
  blk_ext [index6]

theorem iblk7_apply (t : Fin cfg0.N) (e d : Fin 1024) : (iblk m c 7 t : Vec Ideal S1024x1024 .bf16) (ix2 e d) = argO m c (ix2 e d) := by
  show ((cfg0.win 7).blk t).view.read (Elt Ideal) (V m c main_arg6) (ix2 e d) = _
  rw [V_main_arg6]
  blk_simp
  refine congrArg (argO m c) ?_
  blk_ext [index7]

theorem iblk8_apply (t : Fin cfg0.N) (e : Fin 1024) : (iblk m c 8 t : Vec Ideal S1x1024 .f32) (ix2 0 e) = argG m c (ix2 0 e) := by
  show ((cfg0.win 8).blk t).view.read (Elt Ideal) (V m c main_arg7) (ix2 0 e) = _
  rw [V_main_arg7]
  blk_simp
  refine congrArg (argG m c) ?_
  blk_ext [index8]

theorem iblk9_apply (t : Fin cfg0.N) (e : Fin 1024) : (iblk m c 9 t : Vec Ideal S1x1024 .f32) (ix2 0 e) = argH m c (ix2 0 e) := by
  show ((cfg0.win 9).blk t).view.read (Elt Ideal) (V m c main_arg8) (ix2 0 e) = _
  rw [V_main_arg8]
  blk_simp
  refine congrArg (argH m c) ?_
  blk_ext [index9]

/-- The merge of the arguments. -/
def value (t : Fin 16384) (d : Fin 1024) : EReal :=
  Cert.MergeRef.value (arg0 m c) (arg1 m c) (arg2 m c) (argY m c) (argX m c) (argB m c) (argO m c) (argG m c) (argH m c) t d

/-- A point's output. -/
theorem point_out (t : Fin cfg0.N) (r : Fin 256) (d : Fin 1024) : outsAt0 m c t (ix2 r d) = value m c (at256 t r) d := by
  unfold outsAt0 value Cert.MergeRef.value
  rw [out_row (r := r) (o := Cert.MergeRef.three (arg0 m c) (arg1 m c) (arg2 m c) (at256 t r))
    (z := fun j => argY m c (ix2 (at256 t r) ⟨1536 + j.val, by omega⟩)) (g := fun j => argY m c (ix2 (at256 t r) ⟨3072 + j.val, by omega⟩))
    (x := fun e => argX m c (ix2 (at256 t r) e)) (w := fun n k d => argB m c (ix3 n k d)) (wo := fun e d => argO m c (ix2 e d))
    (a := fun e => argG m c (ix2 0 e)) (b := fun e => argH m c (ix2 0 e))
    (h0 := fun k => iblk0_apply m c t r k) (h1 := fun k => iblk1_apply m c t r k) (h2 := fun k => iblk2_apply m c t r k)
    (hz := fun j => X3_apply m c t r j) (hg := fun j => X4_apply m c t r j) (hx := fun e => iblk5_apply m c t r e)
    (hw := fun n k d => iblk6_apply m c t n k d) (hwo := fun e d => iblk7_apply m c t e d) (ha := fun e => iblk8_apply m c t e)
    (hb := fun e => iblk9_apply m c t e)]

/-- The result array after the run. -/
theorem array_eq : (dats m 0 c).arrAt 10 cfg0.N = fun i : S16384x1024.Idx => value m c (i 0) (i 1) := by
  refine (dats m 0 c).arrAt_eq_of_covers 10 _ (by decide +kernel) fun t hf y => ?_
  blk_simp
  rw [after0_10]
  have ey : y = ix2 (y 0) (y 1) := funext fun a => by match a with | ⟨0, _⟩ => rfl | ⟨1, _⟩ => rfl
  refine (congrArg (outsAt0 m c t) ey).trans ((point_out m c t (y 0) (y 1)).trans ?_)
  refine congrArg₂ (value m c) (Fin.ext ?_) (Fin.ext ?_)
  · blk_simp [index10, at256]
  · blk_simp [index10]

/-- The two programs' results are equal. -/
theorem algebraic : Cert.algebraic_Kernel4Ideal_Reference4Ideal := by
  intro m g m' g' _ hargs
  refine ⟨fun c => fun i : S16384x1024.Idx => value m c (i 0) (i 1), ?_, ?_⟩
  · exact (θ_run _ _ _).mono (fun r h c => ⟨(h c).1.trans (array_eq m c), (h c).2⟩) (Cert.Kernel4Ideal.Value.run_blocks m g)
  · refine (θ_run _ _ _).mono (fun r h c => ⟨(h c).1.trans ?_, (h c).2⟩) (Cert.Reference4Ideal.Value.run (F := Ideal) m' g')
    obtain ⟨e0, e1, e2, e3, e4, e5, e6, e7, e8⟩ := hargs c
    rw [Cert.MergeRef.res_eq, e0, e1, e2, e3, e4, e5, e6, e7, e8]
    funext i
    have ei : i = ix2 (i 0) (i 1) := funext fun a => by match a with | ⟨0, _⟩ => rfl | ⟨1, _⟩ => rfl
    refine (congrArg _ ei).trans ?_
    exact Cert.MergeRef.ref_eq _ _ _ _ _ _ _ _ _ (i 0) (i 1)

end Cert.Merge

end
-- ==== Proof.StateRef.lean ====
/- The state rows' arithmetic of one row, and the state rows' reference as it. -/
module

public import proofs.«01_k».proof.Proof.Gen.Reference5Ideal
public import proofs.«01_k».proof.Proof.Gen.Reference5Ideal.Run
public import Idealize.ShloMosaic.Lib.Pointwise

@[expose] public section

noncomputable section

namespace Cert.StateRef

open Idealize.ShloMosaic Idealize.ShloMosaic.TcCoe Idealize.SL.Sem Cert.Reference5Ideal Cert.Reference5Ideal.Gen
open scoped BigOperators

attribute [local instance] Cert.Reference5Ideal.Gen.facts

/-- The rotary angles: the row's position times the pair's frequency. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0))))
    (broadcastInDim S16384x16 ![0, 1] bcast_S1x16_S16384x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- The rotary key's two halves, before the rotation. -/
def half0 (y : FVec Ideal S16384x7168 .f32) : FVec Ideal S16384x16 .f32 :=
  extractStridedSlice S16384x16 ![0, 0] (extractStridedSlice S16384x32 ![0, 6592] y slices_S16384x7168_S16384x32_0_6592) slices_S16384x32_S16384x16_0_0

def half1 (y : FVec Ideal S16384x7168 .f32) : FVec Ideal S16384x16 .f32 :=
  extractStridedSlice S16384x16 ![0, 16] (extractStridedSlice S16384x32 ![0, 6592] y slices_S16384x7168_S16384x32_0_6592) slices_S16384x32_S16384x16_0_16

/-- The rotary key. -/
def roped (y : FVec Ideal S16384x7168 .f32) : FVec Ideal S16384x32 .f32 :=
  concatenate S16384x32 1 [⟨S16384x16, subf (mulf (half0 y) (Host.cos angles)) (mulf (half1 y) (Host.sin angles))⟩,
    ⟨S16384x16, addf (mulf (half0 y) (Host.sin angles)) (mulf (half1 y) (Host.cos angles))⟩] concatenates_S16384x16_S16384x16_S16384x32_d1

/-- The forget gates' inputs with their bias, negated. -/
def forgetIn (y : FVec Ideal S16384x7168 .f32) (b : FVec Ideal S8 .f32) : FVec Ideal S16384x8 .f32 :=
  Host.negf (addf (extractStridedSlice S16384x8 ![0, 6624] y slices_S16384x7168_S16384x8_0_6624)
    (broadcastInDim S16384x8 ![0, 1] bcast_S1x8_S16384x8_0_1 (broadcastInDim S1x8 ![1] bcast_S8_S1x8_1 b)))

/-- The forget gates' logs. -/
def logs (v : FVec Ideal S16384x8 .f32) : FVec Ideal S16384x8 .f32 :=
  Host.negf (select
    (cmpf .une (subf v (broadcastInDim S16384x8 ![] bcast_S_S16384x8 (constant S_ .f32 0x00000000#32)))
      (subf v (broadcastInDim S16384x8 ![] bcast_S_S16384x8 (constant S_ .f32 0x00000000#32))))
    (addf v (broadcastInDim S16384x8 ![] bcast_S_S16384x8 (constant S_ .f32 0x00000000#32)))
    (addf (maximumf v (broadcastInDim S16384x8 ![] bcast_S_S16384x8 (constant S_ .f32 0x00000000#32)))
      (Host.log1p (Host.exp (Host.negf (Host.absf (subf v (broadcastInDim S16384x8 ![] bcast_S_S16384x8 (constant S_ .f32 0x00000000#32)))))))))

/-- The normalised latent of the keys and values. -/
def latent (u : FVec Ideal S16384x128 .f32) (g : FVec Ideal S1x128 .f32) : FVec Ideal S16384x128 .f32 :=
  mulf (mulf u (broadcastInDim S16384x128 ![0, 1] bcast_S16384x1_S16384x128_0_1
      (Host.rsqrt (addf (Host.divf (broadcastInDim S16384x1 ![0] bcast_S16384_S16384x1_0
          (Host.reduceAdd (mulf u u) (constant S_ .f32 0x00000000#32) reducesTo_S16384x128_S16384_d1 h_S_))
        (broadcastInDim S16384x1 ![] bcast_S_S16384x1 (constant S_ .f32 0x43000000#32)))
        (broadcastInDim S16384x1 ![] bcast_S_S16384x1 (constant S_ .f32 0x358637BD#32))))))
    (broadcastInDim S16384x128 ![0, 1] bcast_S1x128_S16384x128_0_1 g)

/-- The state rows. -/
def state (y : FVec Ideal S16384x7168 .f32) (b : FVec Ideal S8 .f32) (g : FVec Ideal S1x128 .f32) : FVec Ideal S16384x640 .f32 :=
  concatenate S16384x640 1 [⟨S16384x128, extractStridedSlice S16384x128 ![0, 6400] y slices_S16384x7168_S16384x128_0_6400⟩,
    ⟨S16384x64, extractStridedSlice S16384x64 ![0, 6528] y slices_S16384x7168_S16384x64_0_6528⟩, ⟨S16384x32, roped y⟩, ⟨S16384x8, logs (forgetIn y b)⟩,
    ⟨S16384x24, extractStridedSlice S16384x24 ![0, 6632] y slices_S16384x7168_S16384x24_0_6632⟩,
    ⟨S16384x256, extractStridedSlice S16384x256 ![0, 6656] y slices_S16384x7168_S16384x256_0_6656⟩,
    ⟨S16384x128, latent (extractStridedSlice S16384x128 ![0, 6912] y slices_S16384x7168_S16384x128_0_6912) g⟩]
    concatenates_S16384x128_S16384x64_S16384x32_S16384x8_S16384x24_S16384x256_S16384x128_S16384x640_d1

theorem res_eq (m : (ℓ : Loc nD τ sig) → Buf (Elt Ideal) ℓ) (c : Dev nD) :
    Cert.Reference5Ideal.Value.res_main_v47 m c
      = state (m ((c.tc : Thread nD τ).loc main_arg0)) (m ((c.tc : Thread nD τ).loc main_arg1)) (m ((c.tc : Thread nD τ).loc main_arg3)) := by
  unfold Cert.Reference5Ideal.Value.res_main_v47
  rfl

variable (y : FVec Ideal S16384x7168 .f32) (b : FVec Ideal S8 .f32) (g : FVec Ideal S1x128 .f32) (t : Fin 16384)

/-- The log of the logistic. -/
def logSig (v : EReal) : EReal := -(max (-v) 0 + Ideal.log1p (Ideal.exp (-FloatOps.absf (F := Ideal) (φ := .f32) (-v))))

/-- A row of 128 lanes over its root mean square. -/
def rms (u a : Fin 128 → EReal) (k : Fin 128) : EReal :=
  u k * Ideal.rsqrt (Ideal.div (∑ x, u x * u x) (Ideal.ofBits .f32 0x43000000#32) + Ideal.ofBits .f32 0x358637BD#32) * a k

theorem state_kv (k : Fin 128) : state y b g (ix2 t ⟨k.val, by omega⟩) = y (ix2 t ⟨6400 + k.val, by omega⟩) := by
  pointwise [state]

theorem state_kidx (k : Fin 64) : state y b g (ix2 t ⟨128 + k.val, by omega⟩) = y (ix2 t ⟨6528 + k.val, by omega⟩) := by
  pointwise [state]

theorem roped_lo (k : Fin 16) : roped y (ix2 t ⟨k.val, by omega⟩)
    = y (ix2 t ⟨6592 + k.val, by omega⟩) * Ideal.cos (angles (ix2 t k)) - y (ix2 t ⟨6608 + k.val, by omega⟩) * Ideal.sin (angles (ix2 t k)) := by
  pointwise [roped, half0, half1]
  exact congrArg₂ (· - ·) rfl (congrArg (fun e => y (ix2 t e) * Ideal.sin (angles (ix2 t k))) (Fin.ext (by dsimp only; omega)))

theorem roped_hi (k : Fin 16) : roped y (ix2 t ⟨16 + k.val, by omega⟩)
    = y (ix2 t ⟨6592 + k.val, by omega⟩) * Ideal.sin (angles (ix2 t k)) + y (ix2 t ⟨6608 + k.val, by omega⟩) * Ideal.cos (angles (ix2 t k)) := by
  pointwise [roped, half0, half1]
  exact congrArg₂ (· + ·) rfl (congrArg (fun e => y (ix2 t e) * Ideal.cos (angles (ix2 t k))) (Fin.ext (by dsimp only; omega)))

theorem state_rope (k : Fin 32) : state y b g (ix2 t ⟨192 + k.val, by omega⟩) = roped y (ix2 t k) := by
  pointwise [state]
  rw [dif_neg (by omega), dif_neg (by omega), dif_pos (by omega)]
  exact congrArg (fun e => roped y (ix2 t e)) (Fin.ext (by dsimp only; omega))

theorem logs_apply (v : FVec Ideal S16384x8 .f32) (k : Fin 8) :
    logs v (ix2 t k) = -(max (v (ix2 t k)) 0 + Ideal.log1p (Ideal.exp (-FloatOps.absf (F := Ideal) (φ := .f32) (v (ix2 t k))))) := by
  pointwise [logs]
  rw [if_neg (not_not.2 rfl)]

theorem state_log (k : Fin 8) : state y b g (ix2 t ⟨224 + k.val, by omega⟩) = logSig (y (ix2 t ⟨6624 + k.val, by omega⟩) + b (ix1 k)) := by
  have e : forgetIn y b (ix2 t k) = -(y (ix2 t ⟨6624 + k.val, by omega⟩) + b (ix1 k)) := by
    pointwise [forgetIn]
  unfold logSig
  rw [← e, ← logs_apply]
  pointwise [state]
  rw [dif_neg (by omega), dif_neg (by omega), dif_neg (by omega), dif_pos (by omega)]
  exact congrArg (fun e => logs (forgetIn y b) (ix2 t e)) (Fin.ext (by dsimp only; omega))

theorem state_rest (k : Fin 24) : state y b g (ix2 t ⟨232 + k.val, by omega⟩) = y (ix2 t ⟨6632 + k.val, by omega⟩) := by
  pointwise [state]
  rw [dif_neg (by omega), dif_neg (by omega), dif_neg (by omega), dif_neg (by omega), dif_pos (by omega)]
  exact congrArg (fun e => y (ix2 t e)) (Fin.ext (by dsimp only; omega))

theorem state_fox (k : Fin 256) : state y b g (ix2 t ⟨256 + k.val, by omega⟩) = y (ix2 t ⟨6656 + k.val, by omega⟩) := by
  pointwise [state]
  rw [dif_neg (by omega), dif_neg (by omega), dif_neg (by omega), dif_neg (by omega), dif_neg (by omega), dif_pos (by omega)]
  exact congrArg (fun e => y (ix2 t e)) (Fin.ext (by dsimp only; omega))

theorem latent_apply (u : FVec Ideal S16384x128 .f32) (k : Fin 128) : latent u g (ix2 t k) = rms (fun x => u (ix2 t x)) (fun x => g (ix2 0 x)) k := by
  unfold rms
  pointwise [latent]

theorem state_latent (k : Fin 128) : state y b g (ix2 t ⟨512 + k.val, by omega⟩)
    = rms (fun x => y (ix2 t ⟨6912 + x.val, by omega⟩)) (fun x => g (ix2 0 x)) k := by
  have e : (fun x : Fin 128 => y (ix2 t ⟨6912 + x.val, by omega⟩))
      = fun x => extractStridedSlice S16384x128 ![0, 6912] y slices_S16384x7168_S16384x128_0_6912 (ix2 t x) := by
    funext x
    pointwise []
  rw [e, ← latent_apply]
  pointwise [state]
  rw [dif_neg (by omega), dif_neg (by omega), dif_neg (by omega), dif_neg (by omega), dif_neg (by omega), dif_neg (by omega)]
  exact congrArg (fun e => latent _ g (ix2 t e)) (Fin.ext (by dsimp only; omega))

theorem neg_max (v : EReal) : -max (-v) 0 = min v 0 := by
  have z : -(0 : EReal) = 0 := by simp
  rcases le_total v 0 with h | h
  · have q : (0 : EReal) ≤ -v := by rw [← z]; exact EReal.neg_le_neg_iff.2 h
    rw [min_eq_left h, max_eq_left q, neg_neg]
  · have q : -v ≤ 0 := by rw [← z]; exact EReal.neg_le_neg_iff.2 h
    rw [min_eq_right h, max_eq_right q, z]

theorem exp_nonneg (x : EReal) : 0 ≤ Ideal.exp x := by
  induction x with
  | bot => exact le_refl _
  | top => exact le_top
  | coe r => exact EReal.coe_nonneg.2 (Real.exp_pos r).le

theorem log1p_ne_bot {x : EReal} (h : 0 ≤ x) : Ideal.log1p x ≠ ⊥ := by
  unfold Ideal.log1p
  induction x with
  | bot => exact absurd h (by simp)
  | top =>
    have e : (1 : EReal) + ⊤ = ⊤ := EReal.coe_add_top 1
    rw [e]
    exact bot_ne_top.symm
  | coe r =>
    have hr : (0 : ℝ) ≤ r := EReal.coe_nonneg.1 h
    have e : (1 : EReal) + (r : EReal) = ((1 + r : ℝ) : EReal) := by norm_cast
    rw [e]
    show (if 1 + r ≤ 0 then (⊥ : EReal) else (Real.log (1 + r) : EReal)) ≠ ⊥
    rw [if_neg (by linarith)]
    exact EReal.coe_ne_bot _

/-- The same, with the sign taken in. -/
theorem logSig_eq (v : EReal) : logSig v = min v 0 - Ideal.log1p (Ideal.exp (-FloatOps.absf (F := Ideal) (φ := .f32) v)) := by
  have ea : FloatOps.absf (F := Ideal) (φ := .f32) (-v) = FloatOps.absf (F := Ideal) (φ := .f32) v := by
    show max (-v) (-(-v)) = max v (-v)
    rw [neg_neg, max_comm]
  have hx : max (-v) 0 ≠ ⊥ := fun h => absurd ((le_max_right (-v) 0).trans_eq h) (by simp)
  have hl := log1p_ne_bot (exp_nonneg (-FloatOps.absf (F := Ideal) (φ := .f32) v))
  unfold logSig
  rw [ea, EReal.neg_add (.inl hx) (.inr hl), neg_max]

end Cert.StateRef

end
-- ==== Proof.StateOut.lean ====
/- The state rows that the kernel leaves. -/
module

public import proofs.«01_k».proof.Defs
public import proofs.«01_k».proof.Proof.StateRef
public import proofs.«01_k».proof.Proof.Gen.Kernel5Ideal.Value
import all proofs.«01_k».proof.Proof.Gen.Kernel5Ideal.Frame
import all proofs.«01_k».proof.Proof.Gen.Kernel5Ideal.Frame.RunA
public import Idealize.ShloMosaic.Lib.WritesUnit
public import Idealize.ShloMosaic.Lib.WholeRead
public import Idealize.ShloMosaic.Lib.Pipeline.ValueKit
public import Idealize.ShloMosaic.Lib.StableHlo.RunRead
public import Idealize.ShloMosaic.Lib.Routing.OpsSet

@[expose] public section

noncomputable section

namespace Cert.Post

open Idealize.ShloMosaic Idealize.ShloMosaic.TcCoe Idealize.SL.Sem Cert.Kernel5Ideal Cert.Kernel5Ideal.Gen Cert.StateRef
open scoped BigOperators

attribute [local instance] Cert.Kernel5Ideal.Gen.facts Cert.Reference5Ideal.Gen.facts

theorem off_lt {n N o : ℕ} (hN : o + n ≤ N) (k : Fin n) : o + k.val < N := by omega

theorem fin_off {n N o : ℕ} (hN : o + n ≤ N) (k : Fin N) (h : o ≤ k.val) (h' : k.val < o + n) :
    ∃ k' : Fin n, k = ⟨o + k'.val, off_lt hN k'⟩ := ⟨⟨k.val - o, by omega⟩, Fin.ext (by dsimp only; omega)⟩

section

variable (r : Fin 256) (T : Fin 16384) (y : FVec Ideal S16384x7168 .f32) (b : FVec Ideal S8 .f32) (g : FVec Ideal S1x128 .f32)
  (x : Vec Ideal S256x1024 .f32) (hx : ∀ (j : Fin 1024) (n : Fin 7168), n.val = 6144 + j.val → x (ix2 r j) = y (ix2 T n))

theorem slt80 (k : Fin 128) : IntOp.cmpi .slt (BitVec.ofNat 32 k.val) 80#32 = if k.val < 80 then 1#1 else 0#1 := by
  revert k
  decide

theorem log_lane (k : Fin 128) : IntOp.andi (IntOp.cmpi .sge (BitVec.ofNat 32 k.val) 96#32) (IntOp.cmpi .slt (BitVec.ofNat 32 k.val) 104#32)
    = if 96 ≤ k.val ∧ k.val < 104 then 1#1 else 0#1 := by
  revert k
  decide

include hx

theorem pay61_at (k : Fin 128) : k0_pay61 x (ix2 r k) = y (ix2 T ⟨6400 + k.val, by omega⟩) := by
  rw [← hx ⟨256 + k.val, by omega⟩ _ (by dsimp only; omega)]
  pointwise [k0_pay61]

theorem pay62_at (k : Fin 128) : k0_pay62 x (ix2 r k) = y (ix2 T ⟨6528 + k.val, by omega⟩) := by
  rw [← hx ⟨384 + k.val, by omega⟩ _ (by dsimp only; omega)]
  pointwise [k0_pay62]

theorem pay63_at (k : Fin 128) : k0_pay63 x (ix2 r k) = y (ix2 T ⟨6656 + k.val, by omega⟩) := by
  rw [← hx ⟨512 + k.val, by omega⟩ _ (by dsimp only; omega)]
  pointwise [k0_pay63]

theorem pay64_at (k : Fin 128) : k0_pay64 x (ix2 r k) = y (ix2 T ⟨6784 + k.val, by omega⟩) := by
  rw [← hx ⟨640 + k.val, by omega⟩ _ (by dsimp only; omega)]
  pointwise [k0_pay64]

theorem pay65_at (a : Vec Ideal S1x128 .f32) (ha : ∀ l, a (ix2 0 l) = g (ix2 0 l)) (k : Fin 128) :
    k0_pay65 x a (ix2 r k) = rms (fun l => y (ix2 T ⟨6912 + l.val, by omega⟩)) (fun l => g (ix2 0 l)) k := by
  have e : (fun l : Fin 128 => y (ix2 T ⟨6912 + l.val, by omega⟩)) = fun l : Fin 128 => x (ix2 r ⟨768 + l.val, by omega⟩) :=
    funext fun l => (hx _ _ (by dsimp only; omega)).symm
  have ea : (fun l : Fin 128 => g (ix2 0 l)) = fun l => a (ix2 0 l) := funext fun l => (ha l).symm
  rw [e, ea]
  unfold rms
  pointwise [k0_pay65]

/-- The rotated lane. -/
theorem pay66_at (co si : Vec Ideal S256x128 .f32) (k : Fin 128) :
    k0_pay66 x co si (ix2 r k)
      = y (ix2 T ⟨6528 + k.val, by omega⟩) * co (ix2 r k)
        + (if k.val < 80 then y (ix2 T ⟨6528 + (k.val + 16) % 128, by omega⟩) else y (ix2 T ⟨6528 + (k.val + 112) % 128, by omega⟩)) * si (ix2 r k) := by
  pointwise [k0_pay66]
  rw [pay62_at r T y x hx, pay62_at r T y x hx, pay62_at r T y x hx, slt80]
  by_cases h : k.val < 80
  · rw [if_pos h, if_pos h]
    rfl
  · rw [if_neg h, if_neg h]
    rfl

theorem pay67_log (v : FVec Ideal S256x128 .f32) (w : Vec Ideal S1x128 .f32) (k : Fin 8)
    (hw : w (ix2 0 ⟨96 + k.val, by omega⟩) = b (ix1 k)) :
    k0_pay67 (k0_pay62 x) (iota .tc S256x128 32 [1] iota_S256x128_d1_w32) v w (ix2 r ⟨96 + k.val, by omega⟩)
      = logSig (y (ix2 T ⟨6624 + k.val, by omega⟩) + b (ix1 k)) := by
  have e : y (ix2 T ⟨6624 + k.val, by omega⟩) = k0_pay62 x (ix2 r ⟨96 + k.val, by omega⟩) := by
    rw [pay62_at r T y x hx]
    exact congrArg (fun n => y (ix2 T n)) (Fin.ext (by dsimp only; omega))
  rw [logSig_eq, e, ← hw]
  pointwise [k0_pay67]
  rw [log_lane ⟨96 + k.val, by omega⟩, if_pos (by dsimp only; omega)]
  show min _ _ - Ideal.log1p (Ideal.exp (0 - _)) = _
  rw [zero_sub]

omit hx

theorem pay67_rest (u v : FVec Ideal S256x128 .f32) (w : Vec Ideal S1x128 .f32) (k : Fin 128) (hk : ¬(96 ≤ k.val ∧ k.val < 104)) :
    k0_pay67 u (iota .tc S256x128 32 [1] iota_S256x128_d1_w32) v w (ix2 r k) = v (ix2 r k) := by
  pointwise [k0_pay67]
  rw [log_lane, if_neg hk]
  rfl

end

/-- A table of the rotation: lanes 64 to 95 carry the two halves' factors. -/
def table (a : FVec Ideal S16384x64 .f32) (u v : FVec Ideal S16384x16 .f32) (d : FVec Ideal S16384x32 .f32) : FVec Ideal S16384x128 .f32 :=
  concatenate S16384x128 1 [⟨S16384x64, a⟩, ⟨S16384x16, u⟩, ⟨S16384x16, v⟩, ⟨S16384x32, d⟩]
    concatenates_S16384x64_S16384x16_S16384x16_S16384x32_S16384x128_d1

/-- Where the bias goes. -/
def place (a u : IVec S1 32) : IVec S2 32 := concatenate S2 0 [⟨S1, a⟩, ⟨S1, u⟩] concatenates_S1_S1_S2_d0

theorem table_congr {a a' : FVec Ideal S16384x64 .f32} {u u' v v' : FVec Ideal S16384x16 .f32} {d d' : FVec Ideal S16384x32 .f32}
    (ha : a = a') (hu : u = u') (hv : v = v') (hd : d = d') : table a u v d = table a' u' v' d' := by
  rw [ha, hu, hv, hd]

variable (m : (ℓ : Loc nD τ sig) → Buf (Elt Ideal) ℓ) (c : Dev nD)

/-- The cosines' table. -/
def cosTable : FVec Ideal S16384x128 .f32 :=
  table (broadcastInDim S16384x64 ![] bcast_S_S16384x64 (constant S_ .f32 0x3F800000#32)) (Host.cos angles) (Host.cos angles)
    (broadcastInDim S16384x32 ![] bcast_S_S16384x32 (constant S_ .f32 0x3F800000#32))

/-- The sines' table. -/
def sinTable : FVec Ideal S16384x128 .f32 :=
  table (broadcastInDim S16384x64 ![] bcast_S_S16384x64 (constant S_ .f32 0x00000000#32)) (Host.negf (Host.sin angles)) (Host.sin angles)
    (broadcastInDim S16384x32 ![] bcast_S_S16384x32 (constant S_ .f32 0x00000000#32))

/-- The row that holds the bias. -/
def biasRow (b : FVec Ideal S8 .f32) : FVec Ideal S1x128 .f32 :=
  Host.scatter scatter_S1x128_S2_S8_0_0_01_0 (fun _ u => u) (broadcastInDim S1x128 ![] bcast_S_S1x128 (constant (F := Ideal) S_ .f32 0x00000000#32))
    (place (broadcastInDim S1 ![] bcast_S_S1 (constantI S_ 32 0#32)) (broadcastInDim S1 ![] bcast_S_S1 (constantI S_ 32 96#32))) b

theorem cosine_eq : V m c main_v28 = cosTable := by
  unfold V hostOps0
  after_reads_simp
  refine table_congr ?_ ?_ ?_ ?_ <;> dsimp only [Matrix.cons_val] <;> after_reads_simp <;> rfl

theorem sine_eq : V m c main_v32 = sinTable := by
  unfold V hostOps0
  after_reads_simp
  refine table_congr ?_ ?_ ?_ ?_ <;> dsimp only [Matrix.cons_val] <;> after_reads_simp <;> rfl

theorem bias_eq : V m c main_v4 = biasRow (m ((c : Thread nD τ).loc main_arg1)) := by
  unfold V hostOps0
  after_reads_simp
  refine congrArg (fun i => Host.scatter scatter_S1x128_S2_S8_0_0_01_0 (fun _ u => u)
    (broadcastInDim S1x128 ![] bcast_S_S1x128 (constant (F := Ideal) S_ .f32 0x00000000#32)) i (m ((c : Thread nD τ).loc main_arg1))) ?_
  refine congrArg₂ place ?_ ?_
  · after_reads_simp
  · after_reads_simp

theorem place_lands (k : Fin 8) : scatter_S1x128_S2_S8_0_0_01_0.resultIdx? (ix1 k)
    (place (broadcastInDim S1 ![] bcast_S_S1 (constantI S_ 32 0#32)) (broadcastInDim S1 ![] bcast_S_S1 (constantI S_ 32 96#32)))
      = some (ix2 0 ⟨96 + k.val, by omega⟩) := by
  revert k
  decide +kernel

theorem biasRow_apply (b : FVec Ideal S8 .f32) (k : Fin 8) : biasRow b (ix2 0 ⟨96 + k.val, by omega⟩) = b (ix1 k) := by
  unfold biasRow
  refine Routing.scatter_set_hit _ _ _ _ _ _ (fun q hq => ?_) (ix1 k) (place_lands k)
  obtain ⟨k', rfl⟩ : ∃ k' : Fin 8, q = ix1 k' := ⟨q 0, funext fun a => by match a with | ⟨0, _⟩ => rfl⟩
  have h := congrArg (fun i : S1x128.Idx => (i 1).val) (Option.some.inj ((place_lands k').symm.trans hq))
  have h' : 96 + k'.val = 96 + k.val := h
  exact congrArg (fun e => b (ix1 e)) (Fin.ext (by omega))

theorem cosTable_out (t : Fin 16384) (l : Fin 128) (hl : l.val < 64 ∨ 96 ≤ l.val) : cosTable (ix2 t l) = 1 := by
  pointwise [cosTable, table]
  rcases hl with h | h
  · rw [dif_pos h]
  · rw [dif_neg (by omega), dif_neg (by omega), dif_neg (by omega)]

theorem sinTable_out (t : Fin 16384) (l : Fin 128) (hl : l.val < 64 ∨ 96 ≤ l.val) : sinTable (ix2 t l) = 0 := by
  pointwise [sinTable, table]
  rcases hl with h | h
  · rw [dif_pos h]
  · rw [dif_neg (by omega), dif_neg (by omega), dif_neg (by omega)]

theorem cosTable_lo (t : Fin 16384) (k : Fin 16) : cosTable (ix2 t ⟨64 + k.val, by omega⟩) = Ideal.cos (angles (ix2 t k)) := by
  pointwise [cosTable, table]

theorem cosTable_hi (t : Fin 16384) (k : Fin 16) : cosTable (ix2 t ⟨80 + k.val, by omega⟩) = Ideal.cos (angles (ix2 t k)) := by
  pointwise [cosTable, table]
  rw [dif_neg (by omega), dif_neg (by omega), dif_pos (by omega)]
  exact congrArg (fun e => Ideal.cos (angles (ix2 t e))) (Fin.ext (by dsimp only; omega))

theorem sinTable_lo (t : Fin 16384) (k : Fin 16) : sinTable (ix2 t ⟨64 + k.val, by omega⟩) = -Ideal.sin (angles (ix2 t k)) := by
  pointwise [sinTable, table]

theorem sinTable_hi (t : Fin 16384) (k : Fin 16) : sinTable (ix2 t ⟨80 + k.val, by omega⟩) = Ideal.sin (angles (ix2 t k)) := by
  pointwise [sinTable, table]
  rw [dif_neg (by omega), dif_neg (by omega), dif_pos (by omega)]
  exact congrArg (fun e => Ideal.sin (angles (ix2 t e))) (Fin.ext (by dsimp only; omega))

section

variable (r : Fin 256) (T : Fin 16384) (y : FVec Ideal S16384x7168 .f32) (b : FVec Ideal S8 .f32) (g : FVec Ideal S1x128 .f32)
  (x : Vec Ideal S256x1024 .f32) (hx : ∀ (j : Fin 1024) (n : Fin 7168), n.val = 6144 + j.val → x (ix2 r j) = y (ix2 T n))
  (co si : Vec Ideal S256x128 .f32) (hco : ∀ l, co (ix2 r l) = cosTable (ix2 T l)) (hsi : ∀ l, si (ix2 r l) = sinTable (ix2 T l))
  (w : Vec Ideal S1x128 .f32) (hw : ∀ l, w (ix2 0 l) = biasRow b (ix2 0 l))

include hx hco hsi

theorem rope_out (k : Fin 128) (hk : k.val < 64 ∨ 96 ≤ k.val) : k0_pay66 x co si (ix2 r k) = y (ix2 T ⟨6528 + k.val, by omega⟩) := by
  rw [pay66_at r T y x hx, hco, hsi, cosTable_out T k hk, sinTable_out T k hk, mul_one, mul_zero, add_zero]

theorem rope_in (k : Fin 32) : k0_pay66 x co si (ix2 r ⟨64 + k.val, by omega⟩) = roped y (ix2 T k) := by
  rw [pay66_at r T y x hx, hco, hsi]
  rcases Nat.lt_or_ge k.val 16 with h | h
  · obtain ⟨k', rfl⟩ : ∃ k' : Fin 16, k = ⟨k'.val, k'.isLt.trans (by decide)⟩ := ⟨⟨k.val, h⟩, rfl⟩
    rw [roped_lo, cosTable_lo, sinTable_lo, if_pos (by dsimp only; omega), mul_neg, ← sub_eq_add_neg]
    refine congrArg₂ (· - ·) (congrArg (fun n => y (ix2 T n) * Ideal.cos (angles (ix2 T k'))) (Fin.ext (by dsimp only; omega)))
      (congrArg (fun n => y (ix2 T n) * Ideal.sin (angles (ix2 T k'))) (Fin.ext (by dsimp only; omega)))
  · obtain ⟨k', rfl⟩ : ∃ k' : Fin 16, k = ⟨16 + k'.val, off_lt (by decide) k'⟩ := fin_off (by decide) k (by omega) (by omega)
    have e : (⟨64 + (⟨16 + k'.val, by omega⟩ : Fin 32).val, by dsimp only; omega⟩ : Fin 128) = ⟨80 + k'.val, by omega⟩ := Fin.ext (by dsimp only; omega)
    rw [roped_hi, e, cosTable_hi, sinTable_hi, if_neg (by dsimp only; omega), add_comm]
    refine congrArg₂ (· + ·) (congrArg (fun n => y (ix2 T n) * Ideal.sin (angles (ix2 T k'))) (Fin.ext (by dsimp only; omega)))
      (congrArg (fun n => y (ix2 T n) * Ideal.cos (angles (ix2 T k'))) (Fin.ext (by dsimp only; omega)))

include hw

/-- The second group of lanes. -/
theorem lanes1 (k : Fin 128) : k0_pay67 (k0_pay62 x) (iota .tc S256x128 32 [1] iota_S256x128_d1_w32) (k0_pay66 x co si) w (ix2 r k)
    = state y b g (ix2 T ⟨128 + k.val, by omega⟩) := by
  by_cases h1 : k.val < 64
  · rw [pay67_rest _ _ _ _ _ (by omega), rope_out r T y x hx co si hco hsi k (.inl h1)]
    exact (state_kidx y b g T ⟨k.val, h1⟩).symm
  by_cases h2 : k.val < 96
  · obtain ⟨k', rfl⟩ : ∃ k' : Fin 32, k = ⟨64 + k'.val, off_lt (by decide) k'⟩ := fin_off (by decide) k (by omega) (by omega)
    rw [pay67_rest _ _ _ _ _ (by dsimp only; omega), rope_in r T y x hx co si hco hsi k', ← state_rope y b g T k']
    exact congrArg (fun n => state y b g (ix2 T n)) (Fin.ext (by dsimp only; omega))
  by_cases h3 : k.val < 104
  · obtain ⟨k', rfl⟩ : ∃ k' : Fin 8, k = ⟨96 + k'.val, off_lt (by decide) k'⟩ := fin_off (by decide) k (by omega) (by omega)
    rw [pay67_log r T y b x hx _ w k' ((hw _).trans (biasRow_apply b k')), ← state_log y b g T k']
    exact congrArg (fun n => state y b g (ix2 T n)) (Fin.ext (by dsimp only; omega))
  · obtain ⟨k', rfl⟩ : ∃ k' : Fin 24, k = ⟨104 + k'.val, off_lt (by decide) k'⟩ := fin_off (by decide) k (by omega) (by omega)
    rw [pay67_rest _ _ _ _ _ (by dsimp only; omega), rope_out r T y x hx co si hco hsi _ (.inr (by dsimp only; omega))]
    have e := state_rest y b g T k'
    refine (congrArg (fun n => y (ix2 T n)) (Fin.ext (by dsimp only; omega))).trans (e.symm.trans ?_)
    exact congrArg (fun n => state y b g (ix2 T n)) (Fin.ext (by dsimp only; omega))

end

section

variable (r : Fin 256)

/-- A load of a whole block. -/
theorem load_whole {s : Shape} {η : EltTy} (M : Memref sig .tc .vmem s η) (hM : M.IsWhole) (X : Vec Ideal s η) (off : Fin s.rank → ℕ) (hoff : ∀ a, off a = 0)
    (inb : ∀ a, off a + s.size a ≤ s.size a) (y : s.Idx) :
    M.view.readAt (Elt Ideal) (Rect.unit off s.size inb).toLoadRect (hM.unread X) y = X y := by
  refine (hM.readAt_unread _ _ _).trans (congrArg X (funext fun a => Fin.ext ?_))
  show off a + 1 * (y a).val = (y a).val
  rw [hoff, Nat.zero_add, Nat.one_mul]

theorem off2 : ∀ a : Fin 2, (![0, 0] : Fin 2 → ℕ) a = 0 := by decide

variable {κ : Kind} {sp : Space} (v : View sig κ sp S256x640 .f32) (f : v.ty.Contents (Elt Ideal)) {o : ℕ}
  (inb : ∀ a, (![0, o] : Fin 2 → ℕ) a + (![256, 128] : Fin 2 → ℕ) a ≤ S256x640.size a)

/-- A column of the newest group of 128. -/
theorem group_hit (u : (Rect.unit (s := S256x640) ![0, o] ![256, 128] inb).shape.Idx → EReal) (L : List (View.Piece (Elt Ideal) S256x640 .f32)) (k : Fin 128) (j : Fin 640)
    (hj : j.val = o + k.val) :
    v.read (Elt Ideal) (v.writes (Elt Ideal) f ((⟨Rect.unit (s := S256x640) ![0, o] ![256, 128] inb, u⟩ : View.Piece (Elt Ideal) S256x640 .f32) :: L)) (ix2 r j)
      = u (ix2 r k) :=
  View.read_writes_cons_unit_of_mem v f inb u L (ix2 r j) (ix2 r k) rfl
    (Fin.forall_fin_two.mpr ⟨(Nat.zero_add _).symm, hj⟩)

/-- A column outside the newest group. -/
theorem group_miss (u : (Rect.unit (s := S256x640) ![0, o] ![256, 128] inb).shape.Idx → EReal) (L : List (View.Piece (Elt Ideal) S256x640 .f32)) (j : Fin 640)
    (hj : j.val < o ∨ o + 128 ≤ j.val) :
    v.read (Elt Ideal) (v.writes (Elt Ideal) f ((⟨Rect.unit (s := S256x640) ![0, o] ![256, 128] inb, u⟩ : View.Piece (Elt Ideal) S256x640 .f32) :: L)) (ix2 r j)
      = v.read (Elt Ideal) (v.writes (Elt Ideal) f L) (ix2 r j) :=
  View.read_writes_cons_unit_of_not_mem v f inb u L (ix2 r j) rfl (1 : Fin 2) hj

variable (T : Fin 16384) (y : FVec Ideal S16384x7168 .f32) (b : FVec Ideal S8 .f32) (g : FVec Ideal S1x128 .f32)

/-- A point's state rows, from the point's blocks. -/
theorem out_row (c : Dev nD) (i : grid0.Coords) (arg1 : Memref sig .tc .vmem S256x1536 .f32) (harg1 : arg1.IsWhole) (arg2 : Memref sig .tc .vmem S256x1024 .f32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x128 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S1x256 .f32) (harg8 : arg8.IsWhole)
    (arg9 : Memref sig .tc .vmem S1x128 .f32) (harg9 : arg9.IsWhole) (arg10 : Memref sig .tc .vmem S512x1024 .bf16) (harg10 : arg10.IsWhole)
    (arg11 : Memref sig .tc .vmem S512x1024 .bf16) (harg11 : arg11.IsWhole) (arg12 : Memref sig .tc .vmem S256x768 .bf16) (harg12 : arg12.IsWhole)
    (arg13 : Memref sig .tc .vmem S512x1024 .bf16) (harg13 : arg13.IsWhole) (arg14 : Memref sig .tc .vmem S256x1024 .bf16) (harg14 : arg14.IsWhole)
    (arg15 : Memref sig .tc .vmem S8x128 .f32) (harg15 : arg15.IsWhole) (arg16 : Memref sig .tc .vmem S8x256x128 .bf16) (harg16 : arg16.IsWhole)
    (arg17 : Memref sig .tc .vmem S8x256x128 .bf16) (harg17 : arg17.IsWhole) (arg18 : Memref sig .tc .vmem S8x256x128 .bf16) (harg18 : arg18.IsWhole)
    (arg19 : Memref sig .tc .vmem S8x256x256 .bf16) (harg19 : arg19.IsWhole) (arg20 : Memref sig .tc .vmem S256x640 .f32) (harg20 : arg20.IsWhole)
    (arg21 : Memref sig .tc .vmem S256x1024 .bf16) (harg21 : arg21.IsWhole)
    (x0 : Vec Ideal S256x1536 .f32) (x1 : Vec Ideal S256x1024 .f32) (x2 : Vec Ideal S256x128 .f32) (x3 : Vec Ideal S256x128 .f32)
    (x4 : Vec Ideal S256x128 .f32) (x5 : Vec Ideal S256x128 .f32) (x6 : Vec Ideal S1x128 .f32) (x7 : Vec Ideal S1x256 .f32)
    (x8 : Vec Ideal S1x128 .f32) (x9 : Vec Ideal S512x1024 .bf16) (x10 : Vec Ideal S512x1024 .bf16) (x11 : Vec Ideal S256x768 .bf16)
    (x12 : Vec Ideal S512x1024 .bf16) (x13 : Vec Ideal S256x1024 .bf16) (x14 : Vec Ideal S8x128 .f32)
    (hx : ∀ (j : Fin 1024) (n : Fin 7168), n.val = 6144 + j.val → x1 (ix2 r j) = y (ix2 T n))
    (hco : ∀ l, x4 (ix2 r l) = cosTable (ix2 T l)) (hsi : ∀ l, x5 (ix2 r l) = sinTable (ix2 T l)) (hw : ∀ l, x6 (ix2 0 l) = biasRow b (ix2 0 l))
    (ha : ∀ l, x8 (ix2 0 l) = g (ix2 0 l)) (j : Fin 640) :
    out0_A_19 c i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 x0 x1 x2 x3 x4 x5 x6 x7
        x8 x9 x10 x11 x12 x13 x14 (ix2 r j)
      = state y b g (ix2 T j) := by
  unfold out0_A_19 kernelRun0_A
  dsimp only
  unfold kernelRun0_A.sl.r_16 kernelRun0_A.sl.r_17 kernelRun0_A.sl.r_18 kernelRun0_A.sl.r_19 kernelRun0_A.sl.r_20 kernelRun0_A.sl.r_21 kernelRun0_A.sl.v301
  by_cases h0 : j.val < 128
  · refine (group_miss r _ _ _ _ _ j (.inl (by omega))).trans ((group_miss r _ _ _ _ _ j (.inl (by omega))).trans
      ((group_miss r _ _ _ _ _ j (.inl (by omega))).trans ((group_miss r _ _ _ _ _ j (.inl (by omega))).trans
        ((group_hit r _ _ _ _ _ ⟨j.val, h0⟩ j (Nat.zero_add _).symm).trans ?_))))
    exact (pay61_at r T y _ (fun j n e => (load_whole arg2 harg2 x1 _ off2 _ _).trans (hx j n e)) _).trans (state_kv y b g T ⟨j.val, h0⟩).symm
  by_cases h1 : j.val < 256
  · obtain ⟨k, rfl⟩ : ∃ k : Fin 128, j = ⟨128 + k.val, off_lt (by decide) k⟩ := fin_off (by decide) j (by omega) (by omega)
    refine (group_miss r _ _ _ _ _ _ (.inl (by dsimp only; omega))).trans ((group_miss r _ _ _ _ _ _ (.inl (by dsimp only; omega))).trans
      ((group_miss r _ _ _ _ _ _ (.inl (by dsimp only; omega))).trans ((group_hit r _ _ _ _ _ k _ rfl).trans ?_)))
    exact lanes1 r T y b g _ (fun j n e => (load_whole arg2 harg2 x1 _ off2 _ _).trans (hx j n e)) _ _
      (fun l => (load_whole arg5 harg5 x4 _ off2 _ _).trans (hco l)) (fun l => (load_whole arg6 harg6 x5 _ off2 _ _).trans (hsi l)) _
      (fun l => (load_whole arg7 harg7 x6 _ off2 _ _).trans (hw l)) k
  by_cases h2 : j.val < 384
  · obtain ⟨k, rfl⟩ : ∃ k : Fin 128, j = ⟨256 + k.val, off_lt (by decide) k⟩ := fin_off (by decide) j (by omega) (by omega)
    refine (group_miss r _ _ _ _ _ _ (.inl (by dsimp only; omega))).trans ((group_miss r _ _ _ _ _ _ (.inl (by dsimp only; omega))).trans
      ((group_hit r _ _ _ _ _ k _ rfl).trans ?_))
    exact (pay63_at r T y _ (fun j n e => (load_whole arg2 harg2 x1 _ off2 _ _).trans (hx j n e)) _).trans
      (state_fox y b g T ⟨k.val, by omega⟩).symm
  by_cases h3 : j.val < 512
  · obtain ⟨k, rfl⟩ : ∃ k : Fin 128, j = ⟨384 + k.val, off_lt (by decide) k⟩ := fin_off (by decide) j (by omega) (by omega)
    refine (group_miss r _ _ _ _ _ _ (.inl (by dsimp only; omega))).trans ((group_hit r _ _ _ _ _ k _ rfl).trans ?_)
    refine (pay64_at r T y _ (fun j n e => (load_whole arg2 harg2 x1 _ off2 _ _).trans (hx j n e)) _).trans
      ((congrArg (fun n => y (ix2 T n)) (Fin.ext (by dsimp only; omega))).trans ((state_fox y b g T ⟨128 + k.val, by omega⟩).symm.trans ?_))
    exact congrArg (fun n => state y b g (ix2 T n)) (Fin.ext (by dsimp only; omega))
  · obtain ⟨k, rfl⟩ : ∃ k : Fin 128, j = ⟨512 + k.val, off_lt (by decide) k⟩ := fin_off (by decide) j (by omega) (by omega)
    refine (group_hit r _ _ _ _ _ k _ rfl).trans ?_
    exact (pay65_at r T y g _ (fun j n e => (load_whole arg2 harg2 x1 _ off2 _ _).trans (hx j n e)) _
      (fun l => (load_whole arg9 harg9 x8 _ off2 _ _).trans (ha l)) k).trans (state_latent y b g T k).symm

end

/-- The arguments. -/
abbrev argY : FVec Ideal S16384x7168 .f32 := m ((c : Thread nD τ).loc main_arg0)
abbrev argB : FVec Ideal S8 .f32 := m ((c : Thread nD τ).loc main_arg1)
abbrev argG : FVec Ideal S1x128 .f32 := m ((c : Thread nD τ).loc main_arg3)

theorem index1 : ∀ t : Fin cfg0.N, win0_1.index t = ![t.val, 6] := (by decide +kernel : ∀ t : Fin grid0.N, win0_1.index t = ![t.val, 6])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index8 : ∀ t : Fin cfg0.N, win0_8.index t = ![0, 0] := (by decide +kernel : ∀ t : Fin grid0.N, win0_8.index t = ![0, 0])
theorem index19 : ∀ t : Fin cfg0.N, win0_19.index t = ![t.val, 0] := (by decide +kernel : ∀ t : Fin grid0.N, win0_19.index t = ![t.val, 0])

/-- The array's row that point `t` holds at row `r`. -/
def at256 (t : Fin cfg0.N) (r : Fin 256) : Fin 16384 := ⟨t.val * 256 + r.val, by have h : t.val < 64 := t.isLt; omega⟩

theorem iblk1_apply (t : Fin cfg0.N) (r : Fin 256) (j : Fin 1024) (n : Fin 7168) (hn : n.val = 6144 + j.val) :
    (iblk m c 1 t : Vec Ideal S256x1024 .f32) (ix2 r j) = argY m c (ix2 (at256 t r) n) := by
  show ((cfg0.win 1).blk t).view.read (Elt Ideal) (V m c main_arg0) (ix2 r j) = _
  rw [V_main_arg0]
  blk_simp
  refine congrArg (argY m c) ?_
  obtain rfl : n = ⟨6144 + j.val, off_lt (by decide) j⟩ := Fin.ext hn
  blk_ext [index1, at256]

theorem iblk4_apply (t : Fin cfg0.N) (r : Fin 256) (l : Fin 128) :
    (iblk m c 4 t : Vec Ideal S256x128 .f32) (ix2 r l) = cosTable (ix2 (at256 t r) l) := by
  show ((cfg0.win 4).blk t).view.read (Elt Ideal) (V m c main_v28) (ix2 r l) = _
  rw [cosine_eq]
  blk_simp
  refine congrArg cosTable ?_
  blk_ext [index4, at256]

theorem iblk5_apply (t : Fin cfg0.N) (r : Fin 256) (l : Fin 128) :
    (iblk m c 5 t : Vec Ideal S256x128 .f32) (ix2 r l) = sinTable (ix2 (at256 t r) l) := by
  show ((cfg0.win 5).blk t).view.read (Elt Ideal) (V m c main_v32) (ix2 r l) = _
  rw [sine_eq]
  blk_simp
  refine congrArg sinTable ?_
  blk_ext [index5, at256]

theorem iblk6_apply (t : Fin cfg0.N) (l : Fin 128) :
    (iblk m c 6 t : Vec Ideal S1x128 .f32) (ix2 0 l) = biasRow (argB m c) (ix2 0 l) := by
  show ((cfg0.win 6).blk t).view.read (Elt Ideal) (V m c main_v4) (ix2 0 l) = _
  rw [bias_eq]
  generalize biasRow (argB m c) = W
  blk_simp
  refine congrArg W ?_
  blk_ext [index6]

theorem iblk8_apply (t : Fin cfg0.N) (l : Fin 128) : (iblk m c 8 t : Vec Ideal S1x128 .f32) (ix2 0 l) = argG m c (ix2 0 l) := by
  show ((cfg0.win 8).blk t).view.read (Elt Ideal) (V m c main_arg3) (ix2 0 l) = _
  rw [V_main_arg3]
  blk_simp
  refine congrArg (argG m c) ?_
  blk_ext [index8]

/-- A point's state rows. -/
theorem point_out (t : Fin cfg0.N) (r : Fin 256) (j : Fin 640) :
    (outsAt0 m c t).2.2.2.2.1 (ix2 r j) = state (argY m c) (argB m c) (argG m c) (ix2 (at256 t r) j) := by
  unfold outsAt0
  dsimp only
  rw [out_row (r := r) (T := at256 t r) (y := argY m c) (b := argB m c) (g := argG m c)
    (hx := fun j n e => iblk1_apply m c t r j n e) (hco := fun l => iblk4_apply m c t r l) (hsi := fun l => iblk5_apply m c t r l)
    (hw := fun l => iblk6_apply m c t l) (ha := fun l => iblk8_apply m c t l)]

/-- The state rows' array after the run. -/
theorem array_eq : (dats m 0 c).arrAt 19 cfg0.N = state (argY m c) (argB m c) (argG m c) := by
  refine (dats m 0 c).arrAt_eq_of_covers 19 _ (by decide +kernel) fun t hf y => ?_
  blk_simp
  rw [after0_19]
  have ey : y = ix2 (y 0) (y 1) := funext fun a => by match a with | ⟨0, _⟩ => rfl | ⟨1, _⟩ => rfl
  refine (congrArg (outsAt0 m c t).2.2.2.2.1 ey).trans ((point_out m c t (y 0) (y 1)).trans ?_)
  refine congrArg (state (argY m c) (argB m c) (argG m c)) ?_
  blk_ext [index19, at256]

end Cert.Post

end
-- ==== Proof.KeysRef.lean ====
/- The attention's keys and values: the reference's array, read column by column. -/
module

public import proofs.«01_k».proof.Proof.StateRef

@[expose] public section

noncomputable section

namespace Cert.StateRef

open Idealize.ShloMosaic Idealize.ShloMosaic.TcCoe Idealize.SL.Sem Cert.Reference5Ideal Cert.Reference5Ideal.Gen
open scoped BigOperators

attribute [local instance] Cert.Reference5Ideal.Gen.facts

/-- The keys and values that the attention calls read: the state rows, then their second 128 columns turned by 64, the value twice, the key, ones and zeros. -/
def keys (y : FVec Ideal S16384x7168 .f32) (b : FVec Ideal S8 .f32) (g : FVec Ideal S1x128 .f32) : FVec Ideal S16384x1024 .bf16 :=
  truncf .bf16 (concatenate S16384x1024 1 [⟨S16384x640, state y b g⟩, ⟨S16384x32, roped y⟩, ⟨S16384x8, logs (forgetIn y b)⟩,
    ⟨S16384x24, extractStridedSlice S16384x24 ![0, 6632] y slices_S16384x7168_S16384x24_0_6632⟩,
    ⟨S16384x64, extractStridedSlice S16384x64 ![0, 6528] y slices_S16384x7168_S16384x64_0_6528⟩,
    ⟨S16384x64, extractStridedSlice S16384x64 ![0, 64] (extractStridedSlice S16384x128 ![0, 6400] y slices_S16384x7168_S16384x128_0_6400) slices_S16384x128_S16384x64_0_64⟩,
    ⟨S16384x64, extractStridedSlice S16384x64 ![0, 64] (extractStridedSlice S16384x128 ![0, 6400] y slices_S16384x7168_S16384x128_0_6400) slices_S16384x128_S16384x64_0_64⟩,
    ⟨S16384x64, extractStridedSlice S16384x64 ![0, 0] (extractStridedSlice S16384x128 ![0, 6400] y slices_S16384x7168_S16384x128_0_6400) slices_S16384x128_S16384x64_0_0⟩,
    ⟨S16384x3, broadcastInDim S16384x3 ![] bcast_S_S16384x3 (constant S_ .f32 0x3F800000#32)⟩,
    ⟨S16384x61, broadcastInDim S16384x61 ![] bcast_S_S16384x61 (constant S_ .f32 0x00000000#32)⟩]
    concatenates_S16384x640_S16384x32_S16384x8_S16384x24_S16384x64_S16384x64_S16384x64_S16384x64_S16384x3_S16384x61_S16384x1024_d1) bitsLt_bf16_f32

theorem keys_res (m : (ℓ : Loc nD τ sig) → Buf (Elt Ideal) ℓ) (c : Dev nD) :
    Cert.Reference5Ideal.Value.res_main_v53 m c
      = keys (m ((c.tc : Thread nD τ).loc main_arg0)) (m ((c.tc : Thread nD τ).loc main_arg1)) (m ((c.tc : Thread nD τ).loc main_arg3)) := by
  unfold Cert.Reference5Ideal.Value.res_main_v53
  rfl

variable (y : FVec Ideal S16384x7168 .f32) (b : FVec Ideal S8 .f32) (g : FVec Ideal S1x128 .f32) (t : Fin 16384)

theorem keys_state (j : Fin 640) : keys y b g (ix2 t ⟨j.val, by omega⟩) = state y b g (ix2 t j) := by
  pointwise [keys]

theorem keys_rope (k : Fin 32) : keys y b g (ix2 t ⟨640 + k.val, by omega⟩) = roped y (ix2 t k) := by
  pointwise [keys]

theorem keys_log (k : Fin 8) : keys y b g (ix2 t ⟨672 + k.val, by omega⟩) = logs (forgetIn y b) (ix2 t k) := by
  pointwise [keys]
  rw [dif_neg (by omega), dif_neg (by omega), dif_pos (by omega)]
  exact congrArg (fun e => logs (forgetIn y b) (ix2 t e)) (Fin.ext (by dsimp only; omega))

theorem keys_rest (k : Fin 24) : keys y b g (ix2 t ⟨680 + k.val, by omega⟩) = y (ix2 t ⟨6632 + k.val, by omega⟩) := by
  pointwise [keys]
  rw [dif_neg (by omega), dif_neg (by omega), dif_neg (by omega), dif_pos (by omega)]
  exact congrArg (fun e => y (ix2 t e)) (Fin.ext (by dsimp only; omega))

theorem keys_kidx (k : Fin 64) : keys y b g (ix2 t ⟨704 + k.val, by omega⟩) = y (ix2 t ⟨6528 + k.val, by omega⟩) := by
  pointwise [keys]
  rw [dif_neg (by omega), dif_neg (by omega), dif_neg (by omega), dif_neg (by omega), dif_pos (by omega)]
  exact congrArg (fun e => y (ix2 t e)) (Fin.ext (by dsimp only; omega))

theorem keys_v0 (k : Fin 64) : keys y b g (ix2 t ⟨768 + k.val, by omega⟩) = y (ix2 t ⟨6464 + k.val, by omega⟩) := by
  pointwise [keys]
  rw [dif_neg (by omega), dif_neg (by omega), dif_neg (by omega), dif_neg (by omega), dif_neg (by omega), dif_pos (by omega)]
  exact congrArg (fun e => y (ix2 t e)) (Fin.ext (by dsimp only; omega))

theorem keys_v1 (k : Fin 64) : keys y b g (ix2 t ⟨832 + k.val, by omega⟩) = y (ix2 t ⟨6464 + k.val, by omega⟩) := by
  pointwise [keys]
  rw [dif_neg (by omega), dif_neg (by omega), dif_neg (by omega), dif_neg (by omega), dif_neg (by omega), dif_neg (by omega), dif_pos (by omega)]
  exact congrArg (fun e => y (ix2 t e)) (Fin.ext (by dsimp only; omega))

theorem keys_k (k : Fin 64) : keys y b g (ix2 t ⟨896 + k.val, by omega⟩) = y (ix2 t ⟨6400 + k.val, by omega⟩) := by
  pointwise [keys]
  rw [dif_neg (by omega), dif_neg (by omega), dif_neg (by omega), dif_neg (by omega), dif_neg (by omega), dif_neg (by omega), dif_neg (by omega), dif_pos (by omega)]
  exact congrArg (fun e => y (ix2 t e)) (Fin.ext (by dsimp only; omega))

theorem keys_ones (k : Fin 3) : keys y b g (ix2 t ⟨960 + k.val, by omega⟩) = 1 := by
  pointwise [keys]
  rw [dif_neg (by omega), dif_neg (by omega), dif_neg (by omega), dif_neg (by omega), dif_neg (by omega), dif_neg (by omega), dif_neg (by omega), dif_neg (by omega), dif_pos (by omega)]

theorem keys_zeros (k : Fin 61) : keys y b g (ix2 t ⟨963 + k.val, by omega⟩) = 0 := by
  pointwise [keys]
  rw [dif_neg (by omega), dif_neg (by omega), dif_neg (by omega), dif_neg (by omega), dif_neg (by omega), dif_neg (by omega), dif_neg (by omega), dif_neg (by omega), dif_neg (by omega)]

theorem state_log' (k : Fin 8) : state y b g (ix2 t ⟨224 + k.val, by omega⟩) = logs (forgetIn y b) (ix2 t k) := by
  pointwise [state]
  rw [dif_neg (by omega), dif_neg (by omega), dif_neg (by omega), dif_pos (by omega)]
  exact congrArg (fun e => logs (forgetIn y b) (ix2 t e)) (Fin.ext (by dsimp only; omega))

/-- The columns 640 to 767 are the state rows' second group of 128, turned by 64. -/
theorem keys_turned (k : Fin 128) : keys y b g (ix2 t ⟨640 + k.val, by omega⟩) = state y b g (ix2 t ⟨128 + (k.val + 64) % 128, by omega⟩) := by
  by_cases h0 : k.val < 32
  · refine (keys_rope y b g t ⟨k.val, h0⟩).trans ((state_rope y b g t ⟨k.val, h0⟩).symm.trans ?_)
    exact congrArg (fun e => state y b g (ix2 t e)) (Fin.ext (by dsimp only; omega))
  by_cases h1 : k.val < 40
  · refine (congrArg (fun e => keys y b g (ix2 t e)) (Fin.ext (by dsimp only; omega))).trans
      ((keys_log y b g t ⟨k.val - 32, by omega⟩).trans ((state_log' y b g t ⟨k.val - 32, by omega⟩).symm.trans ?_))
    exact congrArg (fun e => state y b g (ix2 t e)) (Fin.ext (by dsimp only; omega))
  by_cases h2 : k.val < 64
  · refine (congrArg (fun e => keys y b g (ix2 t e)) (Fin.ext (by dsimp only; omega))).trans
      ((keys_rest y b g t ⟨k.val - 40, by omega⟩).trans ((state_rest y b g t ⟨k.val - 40, by omega⟩).symm.trans ?_))
    exact congrArg (fun e => state y b g (ix2 t e)) (Fin.ext (by dsimp only; omega))
  · refine (congrArg (fun e => keys y b g (ix2 t e)) (Fin.ext (by dsimp only; omega))).trans
      ((keys_kidx y b g t ⟨k.val - 64, by omega⟩).trans ((state_kidx y b g t ⟨k.val - 64, by omega⟩).symm.trans ?_))
    exact congrArg (fun e => state y b g (ix2 t e)) (Fin.ext (by dsimp only; omega))

/-- The values, twice. -/
theorem keys_twice (k : Fin 128) : keys y b g (ix2 t ⟨768 + k.val, by omega⟩) = y (ix2 t ⟨6464 + k.val % 64, by omega⟩) := by
  by_cases h : k.val < 64
  · refine (keys_v0 y b g t ⟨k.val, h⟩).trans (congrArg (fun e => y (ix2 t e)) (Fin.ext (by dsimp only; omega)))
  · refine (congrArg (fun e => keys y b g (ix2 t e)) (Fin.ext (by dsimp only; omega))).trans
      ((keys_v1 y b g t ⟨k.val - 64, by omega⟩).trans (congrArg (fun e => y (ix2 t e)) (Fin.ext (by dsimp only; omega))))

/-- The keys, then three ones and zeros. -/
theorem keys_last (k : Fin 128) : keys y b g (ix2 t ⟨896 + k.val, by omega⟩)
    = if k.val < 64 then y (ix2 t ⟨6400 + k.val, by omega⟩) else if k.val < 67 then 1 else 0 := by
  by_cases h0 : k.val < 64
  · rw [if_pos h0]
    exact keys_k y b g t ⟨k.val, h0⟩
  rw [if_neg h0]
  by_cases h1 : k.val < 67
  · rw [if_pos h1]
    exact (congrArg (fun e => keys y b g (ix2 t e)) (Fin.ext (by dsimp only; omega))).trans (keys_ones y b g t ⟨k.val - 64, by omega⟩)
  · rw [if_neg h1]
    exact (congrArg (fun e => keys y b g (ix2 t e)) (Fin.ext (by dsimp only; omega))).trans (keys_zeros y b g t ⟨k.val - 67, by omega⟩)

end Cert.StateRef

end
-- ==== Proof.KeysOut.lean ====
/- The attention's keys and values that the kernel leaves. -/
module

public import proofs.«01_k».proof.Proof.StateOut
public import proofs.«01_k».proof.Proof.KeysRef
import all proofs.«01_k».proof.Proof.Gen.Kernel5Ideal.Frame
import all proofs.«01_k».proof.Proof.Gen.Kernel5Ideal.Frame.RunA

@[expose] public section

noncomputable section

namespace Cert.Post

open Idealize.ShloMosaic Idealize.ShloMosaic.TcCoe Idealize.SL.Sem Cert.Kernel5Ideal Cert.Kernel5Ideal.Gen Cert.StateRef
open scoped BigOperators

attribute [local instance] Cert.Kernel5Ideal.Gen.facts Cert.Reference5Ideal.Gen.facts

section

variable (r : Fin 256) (x : FVec Ideal S256x128 .f32) (k : Fin 128)

theorem slt64 (k : Fin 128) : IntOp.cmpi .slt (BitVec.ofNat 32 k.val) 64#32 = if k.val < 64 then 1#1 else 0#1 := by
  revert k
  decide

theorem slt67 (k : Fin 128) : IntOp.cmpi .slt (BitVec.ofNat 32 k.val) 67#32 = if k.val < 67 then 1#1 else 0#1 := by
  revert k
  decide

theorem pay1_at : k0_pay1 x (ix2 r k) = x (ix2 r k) := by pointwise [k0_pay1]

theorem pay2_at : k0_pay2 x (ix2 r k) = x (ix2 r k) := by pointwise [k0_pay2]

theorem pay69_at : k0_pay69 x (ix2 r k) = x (ix2 r k) := by pointwise [k0_pay69]

theorem pay71_at : k0_pay71 x (ix2 r k) = x (ix2 r k) := by pointwise [k0_pay71]

theorem pay70_at (u : FVec Ideal S256x128 .f32) (i : IVec S256x128 32) (v : FVec Ideal S256x128 .f32) (w : Vec Ideal S1x128 .f32) :
    k0_pay70 u i v w (ix2 r k) = k0_pay67 u i v w (ix2 r k) := by
  unfold k0_pay70
  generalize k0_pay67 u i v w = z
  pointwise []

/-- The lane turned by 64. -/
theorem pay3_at : k0_pay3 x (ix2 r k) = x (ix2 r ⟨(k.val + 64) % 128, by omega⟩) := by
  pointwise [k0_pay3]
  exact congrArg (fun e => x (ix2 r e)) (Fin.ext (by dsimp only; omega))

/-- The upper half, in both halves. -/
theorem pay4_at : k0_pay4 (k0_pay68 x (iota .tc S256x128 32 [1] iota_S256x128_d1_w32)) (ix2 r k) = x (ix2 r ⟨64 + k.val % 64, by omega⟩) := by
  pointwise [k0_pay4, k0_pay68]
  rw [slt64]
  by_cases h : k.val < 64
  · rw [if_pos h]
    exact congrArg (fun e => x (ix2 r e)) (Fin.ext (by dsimp only; omega))
  · rw [if_neg h]
    exact congrArg (fun e => x (ix2 r e)) (Fin.ext (by dsimp only; omega))

/-- The lower half, then three ones and zeros. -/
theorem pay5_at : k0_pay5 x (iota .tc S256x128 32 [1] iota_S256x128_d1_w32) (ix2 r k)
    = if k.val < 64 then x (ix2 r k) else if k.val < 67 then 1 else 0 := by
  pointwise [k0_pay5]
  rw [slt64, slt67]
  by_cases h : k.val < 64
  · rw [if_pos h, if_pos h]
    rfl
  · rw [if_neg h, if_neg h]
    by_cases h' : k.val < 67
    · rw [if_pos h', if_pos h']
      rfl
    · rw [if_neg h', if_neg h']
      rfl

end

section

variable (r : Fin 256) {κ : Kind} {sp : Space} (v : View sig κ sp S256x1024 .bf16) (f : v.ty.Contents (Elt Ideal)) {o : ℕ}
  (inb : ∀ a, (![0, o] : Fin 2 → ℕ) a + (![256, 128] : Fin 2 → ℕ) a ≤ S256x1024.size a)

/-- A column of the newest group of 128. -/
theorem keys_hit (u : (Rect.unit (s := S256x1024) ![0, o] ![256, 128] inb).shape.Idx → EReal) (L : List (View.Piece (Elt Ideal) S256x1024 .bf16)) (k : Fin 128) (j : Fin 1024)
    (hj : j.val = o + k.val) :
    v.read (Elt Ideal) (v.writes (Elt Ideal) f ((⟨Rect.unit (s := S256x1024) ![0, o] ![256, 128] inb, u⟩ : View.Piece (Elt Ideal) S256x1024 .bf16) :: L)) (ix2 r j)
      = u (ix2 r k) :=
  View.read_writes_cons_unit_of_mem v f inb u L (ix2 r j) (ix2 r k) rfl
    (Fin.forall_fin_two.mpr ⟨(Nat.zero_add _).symm, hj⟩)

/-- A column outside the newest group. -/
theorem keys_miss (u : (Rect.unit (s := S256x1024) ![0, o] ![256, 128] inb).shape.Idx → EReal) (L : List (View.Piece (Elt Ideal) S256x1024 .bf16)) (j : Fin 1024)
    (hj : j.val < o ∨ o + 128 ≤ j.val) :
    v.read (Elt Ideal) (v.writes (Elt Ideal) f ((⟨Rect.unit (s := S256x1024) ![0, o] ![256, 128] inb, u⟩ : View.Piece (Elt Ideal) S256x1024 .bf16) :: L)) (ix2 r j)
      = v.read (Elt Ideal) (v.writes (Elt Ideal) f L) (ix2 r j) :=
  View.read_writes_cons_unit_of_not_mem v f inb u L (ix2 r j) rfl (1 : Fin 2) hj

end

variable (m : (ℓ : Loc nD τ sig) → Buf (Elt Ideal) ℓ) (c : Dev nD)

theorem index20 : ∀ t : Fin cfg0.N, win0_20.index t = ![t.val, 0] := (by decide +kernel : ∀ t : Fin grid0.N, win0_20.index t = ![t.val, 0])

/-- A point's keys and values. -/
theorem point_keys (t : Fin cfg0.N) (r : Fin 256) (j : Fin 1024) :
    (outsAt0 m c t).2.2.2.2.2 (ix2 r j) = keys (argY m c) (argB m c) (argG m c) (ix2 (at256 t r) j) := by
  have hx : ∀ (M : Memref sig .tc .vmem S256x1024 .f32) (hM : M.IsWhole) (inb) (j : Fin 1024) (n : Fin 7168), n.val = 6144 + j.val →
      M.view.readAt (Elt Ideal) (Rect.unit (s := S256x1024) ![0, 0] ![256, 1024] inb).toLoadRect (hM.unread (iblk m c 1 t)) (ix2 r j) = argY m c (ix2 (at256 t r) n) :=
    fun M hM inb j n e => (load_whole M hM (iblk m c 1 t : Vec Ideal S256x1024 .f32) _ off2 _ _).trans (iblk1_apply m c t r j n e)
  have hrow := fun (M : Memref sig .tc .vmem S256x1024 .f32) (hM : M.IsWhole) (inb) k =>
    lanes1 r (at256 t r) (argY m c) (argB m c) (argG m c) _ (hx M hM inb) _ _
      (fun l => (load_whole (ms0_4 t) (hs0_4 t) (iblk m c 4 t : Vec Ideal S256x128 .f32) _ off2 inb_S256x128_S256x128_0_0 _).trans (iblk4_apply m c t r l))
      (fun l => (load_whole (ms0_5 t) (hs0_5 t) (iblk m c 5 t : Vec Ideal S256x128 .f32) _ off2 inb_S256x128_S256x128_0_0 _).trans (iblk5_apply m c t r l)) _
      (fun l => (load_whole (ms0_6 t) (hs0_6 t) (iblk m c 6 t : Vec Ideal S1x128 .f32) _ off2 inb_S1x128_S1x128_0_0 _).trans (iblk6_apply m c t l)) k
  unfold outsAt0
  dsimp only
  unfold out0_A_20 kernelRun0_A
  dsimp only
  unfold kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.v301
  by_cases h0 : j.val < 128
  · refine (keys_miss r _ _ _ _ _ j (.inl (by omega))).trans ((keys_miss r _ _ _ _ _ j (.inl (by omega))).trans
      ((keys_miss r _ _ _ _ _ j (.inl (by omega))).trans ((keys_miss r _ _ _ _ _ j (.inl (by omega))).trans
        ((keys_miss r _ _ _ _ _ j (.inl (by omega))).trans ((keys_miss r _ _ _ _ _ j (.inl (by omega))).trans
          ((keys_miss r _ _ _ _ _ j (.inl (by omega))).trans ((keys_hit r _ _ _ _ _ ⟨j.val, h0⟩ j (Nat.zero_add _).symm).trans ?_)))))))
    refine (pay69_at r _ _).trans ((pay61_at r (at256 t r) (argY m c) _ (hx (ms0_1 t) (hs0_1 t) inb_S256x1024_S256x1024_0_0) _).trans
      ((state_kv (argY m c) (argB m c) (argG m c) (at256 t r) ⟨j.val, h0⟩).symm.trans (keys_state _ _ _ _ ⟨j.val, by omega⟩).symm))
  by_cases h1 : j.val < 256
  · obtain ⟨k, rfl⟩ : ∃ k : Fin 128, j = ⟨128 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_miss r _ _ _ _ _ _ (.inl (by dsimp only; omega))).trans ((keys_miss r _ _ _ _ _ _ (.inl (by dsimp only; omega))).trans
          ((keys_hit r _ _ _ _ _ k _ rfl).trans ?_))))))
    exact (pay70_at r k _ _ _ _).trans ((hrow (ms0_1 t) (hs0_1 t) inb_S256x1024_S256x1024_0_0 k).trans (keys_state _ _ _ _ ⟨128 + k.val, by omega⟩).symm)
  by_cases h2 : j.val < 384
  · obtain ⟨k, rfl⟩ : ∃ k : Fin 128, j = ⟨256 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_miss r _ _ _ _ _ _ (.inl (by dsimp only; omega))).trans ((keys_hit r _ _ _ _ _ k _ rfl).trans ?_)))))
    exact (pay71_at r _ _).trans ((pay63_at r (at256 t r) (argY m c) _ (hx (ms0_1 t) (hs0_1 t) inb_S256x1024_S256x1024_0_0) _).trans
      ((state_fox (argY m c) (argB m c) (argG m c) (at256 t r) ⟨k.val, by omega⟩).symm.trans (keys_state _ _ _ _ ⟨256 + k.val, by omega⟩).symm))
  by_cases h3 : j.val < 512
  · obtain ⟨k, rfl⟩ : ∃ k : Fin 128, j = ⟨384 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_hit r _ _ _ _ _ k _ rfl).trans ?_))))
    refine (pay1_at r _ _).trans ((pay64_at r (at256 t r) (argY m c) _ (hx (ms0_1 t) (hs0_1 t) inb_S256x1024_S256x1024_0_0) _).trans
      ((congrArg (fun n => argY m c (ix2 (at256 t r) n)) (Fin.ext (by dsimp only; omega))).trans
        ((state_fox (argY m c) (argB m c) (argG m c) (at256 t r) ⟨128 + k.val, by omega⟩).symm.trans ((keys_state _ _ _ _ _).symm.trans ?_))))
    exact congrArg (fun n => keys (argY m c) (argB m c) (argG m c) (ix2 (at256 t r) n)) (Fin.ext (by dsimp only; omega))
  by_cases h4 : j.val < 640
  · obtain ⟨k, rfl⟩ : ∃ k : Fin 128, j = ⟨512 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_hit r _ _ _ _ _ k _ rfl).trans ?_)))
    exact (pay2_at r _ _).trans ((pay65_at r (at256 t r) (argY m c) (argG m c) _ (hx (ms0_1 t) (hs0_1 t) inb_S256x1024_S256x1024_0_0) _
      (fun l => (load_whole (ms0_8 t) (hs0_8 t) (iblk m c 8 t : Vec Ideal S1x128 .f32) _ off2 inb_S1x128_S1x128_0_0 _).trans (iblk8_apply m c t l)) k).trans
      ((state_latent (argY m c) (argB m c) (argG m c) (at256 t r) k).symm.trans (keys_state _ _ _ _ ⟨512 + k.val, by omega⟩).symm))
  by_cases h5 : j.val < 768
  · obtain ⟨k, rfl⟩ : ∃ k : Fin 128, j = ⟨640 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_hit r _ _ _ _ _ k _ rfl).trans ?_))
    exact (pay3_at r _ _).trans ((hrow (ms0_1 t) (hs0_1 t) inb_S256x1024_S256x1024_0_0 _).trans (keys_turned _ _ _ _ k).symm)
  by_cases h6 : j.val < 896
  · obtain ⟨k, rfl⟩ : ∃ k : Fin 128, j = ⟨768 + k.val, off_lt (by decide) k⟩ := fin_off (by decide) j (by omega) (by omega)
    refine (keys_miss r _ _ _ _ _ _ (.inl (by dsimp only; omega))).trans ((keys_hit r _ _ _ _ _ k _ rfl).trans ?_)
    refine (pay4_at r _ _).trans ((pay61_at r (at256 t r) (argY m c) _ (hx (ms0_1 t) (hs0_1 t) inb_S256x1024_S256x1024_0_0) _).trans
      (Eq.trans ?_ (keys_twice _ _ _ _ k).symm))
    exact congrArg (fun n => argY m c (ix2 (at256 t r) n)) (Fin.ext (by dsimp only; omega))
  · obtain ⟨k, rfl⟩ : ∃ k : Fin 128, j = ⟨896 + k.val, off_lt (by decide) k⟩ := fin_off (by decide) j (by omega) (by omega)
    refine (keys_hit r _ _ _ _ _ k _ rfl).trans ((pay5_at r _ _).trans (Eq.trans ?_ (keys_last _ _ _ _ k).symm))
    by_cases h : k.val < 64
    · rw [if_pos h, if_pos h]
      exact pay61_at r (at256 t r) (argY m c) _ (hx (ms0_1 t) (hs0_1 t) inb_S256x1024_S256x1024_0_0) _
    · rw [if_neg h, if_neg h]

/-- The keys' and values' array after the run. -/
theorem keys_array : (dats m 0 c).arrAt 20 cfg0.N = keys (argY m c) (argB m c) (argG m c) := by
  refine (dats m 0 c).arrAt_eq_of_covers 20 _ (by decide +kernel) fun t hf y => ?_
  blk_simp
  rw [after0_20]
  have ey : y = ix2 (y 0) (y 1) := funext fun a => by match a with | ⟨0, _⟩ => rfl | ⟨1, _⟩ => rfl
  refine (congrArg (outsAt0 m c t).2.2.2.2.2 ey).trans ((point_keys m c t (y 0) (y 1)).trans ?_)
  refine congrArg (keys (argY m c) (argB m c) (argG m c)) ?_
  blk_ext [index20, at256]

end Cert.Post

end
-- ==== Proof.QueryRef.lean ====
/- The queries' arithmetic of one row and head, and the queries' reference as it. -/
module

public import proofs.«01_k».proof.Proof.StateRef

@[expose] public section

noncomputable section

namespace Cert.StateRef

open Idealize.ShloMosaic Idealize.ShloMosaic.TcCoe Idealize.SL.Sem Cert.Reference5Ideal Cert.Reference5Ideal.Gen
open scoped BigOperators

attribute [local instance] Cert.Reference5Ideal.Gen.facts

/-- The cosines of the rotation, one for each of a head's 16 pairs, repeated for the eight heads. -/
def cosHeads : FVec Ideal S16384x128 .f32 :=
  shapeCast S16384x128 (broadcastInDim S1x16384x8x16 ![0, 1, 2, 3] bcast_S1x16384x1x16_S1x16384x8x16_0_1_2_3
    (shapeCast S1x16384x1x16 (Host.cos angles) shapeCasts_S16384x16_S1x16384x1x16)) shapeCasts_S1x16384x8x16_S16384x128

/-- The sines, likewise. -/
def sinHeads : FVec Ideal S16384x128 .f32 :=
  shapeCast S16384x128 (broadcastInDim S1x16384x8x16 ![0, 1, 2, 3] bcast_S1x16384x1x16_S1x16384x8x16_0_1_2_3
    (shapeCast S1x16384x1x16 (Host.sin angles) shapeCasts_S16384x16_S1x16384x1x16)) shapeCasts_S1x16384x8x16_S16384x128

/-- Columns into heads. -/
def split (z : FVec Ideal S16384x1024 .f32) : FVec Ideal S8x16384x128 .f32 :=
  transpose S8x16384x128 [1, 0, 2] (shapeCast S16384x8x128 z shapeCasts_S16384x1024_S16384x8x128) transposes_S16384x8x128_S8x16384x128_1_0_2

/-- The latent queries, normalised. -/
def latentQ (u : FVec Ideal S16384x256 .f32) (g : FVec Ideal S1x256 .f32) : FVec Ideal S16384x256 .f32 :=
  mulf (mulf u (broadcastInDim S16384x256 ![0, 1] bcast_S16384x1_S16384x256_0_1
      (Host.rsqrt (addf (Host.divf (broadcastInDim S16384x1 ![0] bcast_S16384_S16384x1_0
          (Host.reduceAdd (mulf u u) (constant S_ .f32 0x00000000#32) reducesTo_S16384x256_S16384_d1 h_S_))
        (broadcastInDim S16384x1 ![] bcast_S_S16384x1 (constant S_ .f32 0x43800000#32)))
        (broadcastInDim S16384x1 ![] bcast_S_S16384x1 (constant S_ .f32 0x358637BD#32))))))
    (broadcastInDim S16384x256 ![0, 1] bcast_S1x256_S16384x256_0_1 g)

/-- The latent queries' products. -/
def wideQ (y : FVec Ideal S16384x7168 .f32) (g : FVec Ideal S1x256 .f32) (w : FVec Ideal S256x768 .bf16) : FVec Ideal S16384x768 .f32 :=
  Host.dotGeneral dot_S16384x256_S256x768_S16384x768_1_0_0_1_n_n none
    (latentQ (extractStridedSlice S16384x256 ![0, 6144] y slices_S16384x7168_S16384x256_0_6144) g) (extf .f32 w bitsLt_bf16_f32)

/-- The rotary half of the queries, rotated and scaled. -/
def turnedQ (q : FVec Ideal S16384x768 .f32) : FVec Ideal S16384x256 .f32 :=
  mulf (concatenate S16384x256 1
      [⟨S16384x128, subf (mulf (extractStridedSlice S16384x128 ![0, 512] q slices_S16384x768_S16384x128_0_512) cosHeads)
          (mulf (extractStridedSlice S16384x128 ![0, 640] q slices_S16384x768_S16384x128_0_640) sinHeads)⟩,
        ⟨S16384x128, addf (mulf (extractStridedSlice S16384x128 ![0, 512] q slices_S16384x768_S16384x128_0_512) sinHeads)
          (mulf (extractStridedSlice S16384x128 ![0, 640] q slices_S16384x768_S16384x128_0_640) cosHeads)⟩]
      concatenates_S16384x128_S16384x128_S16384x256_d1)
    (broadcastInDim S16384x256 ![] bcast_S_S16384x256 (constant S_ .f32 0x3E16C740#32))

/-- The four arrays of queries. -/
def queryA (y : FVec Ideal S16384x7168 .f32) (w : FVec Ideal S512x1024 .bf16) (b : FVec Ideal S8x128 .f32) : FVec Ideal S8x16384x128 .bf16 :=
  truncf .bf16 (addf (split (Host.dotGeneral dot_S16384x512_S512x1024_S16384x1024_1_0_0_1_n_n none
      (mulf (extractStridedSlice S16384x512 ![0, 0] y slices_S16384x7168_S16384x512_0_0) (broadcastInDim S16384x512 ![] bcast_S_S16384x512 (constant S_ .f32 0x3FB8AA3B#32)))
      (extf .f32 w bitsLt_bf16_f32)))
    (broadcastInDim S8x16384x128 ![0, 1, 2] bcast_S8x1x128_S8x16384x128_0_1_2 (broadcastInDim S8x1x128 ![0, 2] bcast_S8x128_S8x1x128_0_2 b))) bitsLt_bf16_f32

def queryI (y : FVec Ideal S16384x7168 .f32) (w : FVec Ideal S512x1024 .bf16) : FVec Ideal S8x16384x128 .bf16 :=
  truncf .bf16 (split (Host.dotGeneral dot_S16384x512_S512x1024_S16384x1024_1_0_0_1_n_n none
      (extractStridedSlice S16384x512 ![0, 512] y slices_S16384x7168_S16384x512_0_512)
      (extf .f32 w bitsLt_bf16_f32))) bitsLt_bf16_f32

def queryB (y : FVec Ideal S16384x7168 .f32) (w : FVec Ideal S512x1024 .bf16) : FVec Ideal S8x16384x128 .bf16 :=
  truncf .bf16 (split (Host.dotGeneral dot_S16384x512_S512x1024_S16384x1024_1_0_0_1_n_n none
      (mulf (extractStridedSlice S16384x512 ![0, 1024] y slices_S16384x7168_S16384x512_0_1024) (broadcastInDim S16384x512 ![] bcast_S_S16384x512 (constant S_ .f32 0x3FB8AA3B#32)))
      (extf .f32 w bitsLt_bf16_f32))) bitsLt_bf16_f32

def queryC (y : FVec Ideal S16384x7168 .f32) (g : FVec Ideal S1x256 .f32) (w : FVec Ideal S256x768 .bf16) (wu : FVec Ideal S512x1024 .bf16) (wp : FVec Ideal S256x1024 .bf16) :
    FVec Ideal S8x16384x256 .bf16 :=
  truncf .bf16 (concatenate S8x16384x256 2
    [⟨S8x16384x128, split (mulf (Host.dotGeneral dot_S16384x512_S512x1024_S16384x1024_1_0_0_1_n_n none
        (extractStridedSlice S16384x512 ![0, 0] (wideQ y g w) slices_S16384x768_S16384x512_0_0) (extf .f32 wu bitsLt_bf16_f32))
        (broadcastInDim S16384x1024 ![] bcast_S_S16384x1024 (constant S_ .f32 0x3E16C740#32)))⟩,
      ⟨S8x16384x128, split (Host.dotGeneral dot_S16384x256_S256x1024_S16384x1024_1_0_0_1_n_n none (turnedQ (wideQ y g w)) (extf .f32 wp bitsLt_bf16_f32))⟩]
    concatenates_S8x16384x128_S8x16384x128_S8x16384x256_d2) bitsLt_bf16_f32

theorem queryC_res (m : (ℓ : Loc nD τ sig) → Buf (Elt Ideal) ℓ) (c : Dev nD) :
    Value.res_main_v123 m c = queryC (m ((c : Thread nD τ).loc main_arg0)) (m ((c : Thread nD τ).loc main_arg2)) (m ((c : Thread nD τ).loc main_arg6))
      (m ((c : Thread nD τ).loc main_arg7)) (m ((c : Thread nD τ).loc main_arg8)) := by
  unfold Value.res_main_v123
  rfl

/-- A head's column among all the heads' columns. -/
def col (h : Fin 8) (k : Fin 128) : Fin 1024 := ⟨h.val * 128 + k.val, by omega⟩

variable (y : FVec Ideal S16384x7168 .f32) (t : Fin 16384) (h : Fin 8) (k : Fin 128)

theorem split_apply (z : FVec Ideal S16384x1024 .f32) : split z (ix3 h t k) = z (ix2 t (col h k)) := by
  pointwise [split]
  exact congrArg z (by
    refine funext fun a => Fin.ext ?_
    match a with
    | ⟨0, _⟩ => dsimp [col]
    | ⟨1, _⟩ => dsimp [col])

/-- The normalised latent queries of one row. -/
def rmsQ (u a : Fin 256 → EReal) (k : Fin 256) : EReal :=
  u k * Ideal.rsqrt (Ideal.div (∑ x, u x * u x) (Ideal.ofBits .f32 0x43800000#32) + Ideal.ofBits .f32 0x358637BD#32) * a k

theorem latentQ_apply (u : FVec Ideal S16384x256 .f32) (g : FVec Ideal S1x256 .f32) (j : Fin 256) :
    latentQ u g (ix2 t j) = rmsQ (fun l => u (ix2 t l)) (fun l => g (ix2 0 l)) j := by
  unfold rmsQ
  pointwise [latentQ]

/-- The latent queries' products of one row. -/
def wide (u a : Fin 256 → EReal) (w : FVec Ideal S256x768 .bf16) (n : Fin 768) : EReal := ∑ x : Fin 256, rmsQ u a x * w (ix2 x n)

theorem wideQ_apply (g : FVec Ideal S1x256 .f32) (w : FVec Ideal S256x768 .bf16) (n : Fin 768) :
    wideQ y g w (ix2 t n) = wide (fun l => y (ix2 t ⟨6144 + l.val, by omega⟩)) (fun l => g (ix2 0 l)) w n := by
  unfold wide
  pointwise [wideQ]
  refine Finset.sum_congr rfl fun x _ => ?_
  rw [latentQ_apply]
  pointwise []

/-- The rotary half of one row. -/
def turned (q : Fin 768 → EReal) (co si : Fin 128 → EReal) (j : Fin 256) : EReal :=
  (if e : j.val < 128 then q ⟨512 + j.val, by omega⟩ * co ⟨j.val, e⟩ - q ⟨640 + j.val, by omega⟩ * si ⟨j.val, e⟩
    else q ⟨512 + (j.val - 128), by omega⟩ * si ⟨j.val - 128, by omega⟩ + q ⟨640 + (j.val - 128), by omega⟩ * co ⟨j.val - 128, by omega⟩)
    * Ideal.ofBits .f32 0x3E16C740#32

theorem turnedQ_apply (q : FVec Ideal S16384x768 .f32) (j : Fin 256) :
    turnedQ q (ix2 t j) = turned (fun n => q (ix2 t n)) (fun l => cosHeads (ix2 t l)) (fun l => sinHeads (ix2 t l)) j := by
  unfold turned
  pointwise [turnedQ]

theorem queryA_apply (w : FVec Ideal S512x1024 .bf16) (b : FVec Ideal S8x128 .f32) :
    queryA y w b (ix3 h t k)
      = (∑ x : Fin 512, y (ix2 t ⟨x.val, by omega⟩) * Ideal.ofBits .f32 0x3FB8AA3B#32 * w (ix2 x (col h k))) + b (ix2 h k) := by
  pointwise [queryA]
  rw [split_apply]
  pointwise []

theorem queryI_apply (w : FVec Ideal S512x1024 .bf16) :
    queryI y w (ix3 h t k) = ∑ x : Fin 512, y (ix2 t ⟨512 + x.val, by omega⟩) * w (ix2 x (col h k)) := by
  pointwise [queryI]
  rw [split_apply]
  pointwise []

theorem queryB_apply (w : FVec Ideal S512x1024 .bf16) :
    queryB y w (ix3 h t k) = ∑ x : Fin 512, y (ix2 t ⟨1024 + x.val, by omega⟩) * Ideal.ofBits .f32 0x3FB8AA3B#32 * w (ix2 x (col h k)) := by
  pointwise [queryB]
  rw [split_apply]
  pointwise []

variable (g : FVec Ideal S1x256 .f32) (w : FVec Ideal S256x768 .bf16) (wu : FVec Ideal S512x1024 .bf16) (wp : FVec Ideal S256x1024 .bf16)

theorem queryC_lo : queryC y g w wu wp (ix3 h t ⟨k.val, by omega⟩)
    = (∑ x : Fin 512, wide (fun l => y (ix2 t ⟨6144 + l.val, by omega⟩)) (fun l => g (ix2 0 l)) w ⟨x.val, by omega⟩ * wu (ix2 x (col h k)))
        * Ideal.ofBits .f32 0x3E16C740#32 := by
  pointwise [queryC]
  rw [split_apply]
  pointwise []
  exact congrArg (· * Ideal.ofBits .f32 0x3E16C740#32) (Finset.sum_congr rfl fun x _ => congrArg (· * wu (ix2 x (col h k))) (wideQ_apply y t g w _))

theorem queryC_hi : queryC y g w wu wp (ix3 h t ⟨128 + k.val, by omega⟩)
    = ∑ x : Fin 256, turned (wide (fun l => y (ix2 t ⟨6144 + l.val, by omega⟩)) (fun l => g (ix2 0 l)) w)
        (fun l => cosHeads (ix2 t l)) (fun l => sinHeads (ix2 t l)) x * wp (ix2 x (col h k)) := by
  pointwise [queryC]
  rw [split_apply]
  pointwise []
  refine Finset.sum_congr rfl fun x _ => congrArg (· * wp (ix2 x (col h k))) ((turnedQ_apply t _ x).trans ?_)
  exact congrArg (fun q => turned q (fun l => cosHeads (ix2 t l)) (fun l => sinHeads (ix2 t l)) x) (funext fun n => wideQ_apply y t g w n)

end Cert.StateRef

end
-- ==== Proof.QueryOut.lean ====
/- The queries that the kernel leaves. -/
module

public import proofs.«01_k».proof.Proof.StateOut
public import proofs.«01_k».proof.Proof.QueryRef
import all proofs.«01_k».proof.Proof.Gen.Kernel5Ideal.Frame
import all proofs.«01_k».proof.Proof.Gen.Kernel5Ideal.Frame.Runs
import all proofs.«01_k».proof.Proof.Gen.Kernel5Ideal.Frame.RunA

@[expose] public section

noncomputable section

namespace Cert.Post

open Idealize.ShloMosaic Idealize.ShloMosaic.TcCoe Idealize.SL.Sem Cert.Kernel5Ideal Cert.Kernel5Ideal.Gen Cert.StateRef
open scoped BigOperators

attribute [local instance] Cert.Kernel5Ideal.Gen.facts Cert.Reference5Ideal.Gen.facts

theorem fin8 {P : Fin 8 → Prop} (h0 : P 0) (h1 : P 1) (h2 : P 2) (h3 : P 3) (h4 : P 4) (h5 : P 5) (h6 : P 6) (h7 : P 7) : ∀ h, P h
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

section

variable (r : Fin 256) (n : Fin 1024) (k : Fin 128) (x : Vec Ideal S256x1536 .f32) (w : Vec Ideal S512x1024 .bf16) (u : Vec Ideal S1x128 .f32)
  (z : FVec Ideal S256x1024 .f32)

/-- The wide products, before they are cut into heads. -/
theorem pay6_at : k0_pay6 x w (ix2 r n) = ∑ j : Fin 512, x (ix2 r ⟨j.val, by omega⟩) * Ideal.ofBits .f32 0x3FB8AA3B#32 * w (ix2 j n) := by
  pointwise [k0_pay6]

theorem pay17_at : k0_pay17 x w (ix2 r n) = ∑ j : Fin 512, x (ix2 r ⟨512 + j.val, by omega⟩) * w (ix2 j n) := by
  pointwise [k0_pay17]

theorem pay27_at : k0_pay27 x w (ix2 r n) = ∑ j : Fin 512, x (ix2 r ⟨1024 + j.val, by omega⟩) * Ideal.ofBits .f32 0x3FB8AA3B#32 * w (ix2 j n) := by
  pointwise [k0_pay27]

variable (a : Vec Ideal S256x1024 .f32) (g : Vec Ideal S1x256 .f32) (wq : Vec Ideal S256x768 .bf16) (co si : Vec Ideal S256x128 .f32) (p : Vec Ideal S256x1024 .bf16)

theorem pay40_at (n : Fin 768) : k0_pay40 (k0_pay37 a) (k0_pay38 a) (k0_pay39 (F := Ideal)) g wq (ix2 r n)
    = wide (fun l => a (ix2 r ⟨l.val, by omega⟩)) (fun l => g (ix2 0 l)) wq n := by
  unfold wide rmsQ
  pointwise [k0_pay40, k0_pay39, k0_pay38, k0_pay37]

theorem pay41_at (v : FVec Ideal S256x256 .f32) (d e : FVec Ideal S256x1 .f32) : k0_pay41 v d e g wq co si p (ix2 r n)
    = ∑ j : Fin 256, turned (fun i => k0_pay40 v d e g wq (ix2 r i)) (fun l => co (ix2 r l)) (fun l => si (ix2 r l)) j * p (ix2 j n) := by
  unfold turned
  pointwise [k0_pay41]

theorem pay42_at (v : FVec Ideal S256x256 .f32) (d e : FVec Ideal S256x1 .f32) : k0_pay42 v d e g wq w (ix2 r n)
    = (∑ j : Fin 512, k0_pay40 v d e g wq (ix2 r ⟨j.val, by omega⟩) * w (ix2 j n)) * Ideal.ofBits .f32 0x3E16C740#32 := by
  pointwise [k0_pay42]

/- A head of a wide product. -/

theorem headA0 (hn : n.val = 0 + k.val) : k0_pay7 x w u (ix3 0 r k) = k0_pay6 x w (ix2 r n) + u (ix2 0 k) := by
  pointwise [k0_pay7]
  exact congrArg (fun e => k0_pay6 x w (ix2 r e) + u (ix2 0 k)) (Fin.ext (by dsimp only; omega))

theorem headA1 (hn : n.val = 128 + k.val) : k0_pay8 x w u (ix3 0 r k) = k0_pay6 x w (ix2 r n) + u (ix2 0 k) := by
  pointwise [k0_pay8]
  exact congrArg (fun e => k0_pay6 x w (ix2 r e) + u (ix2 0 k)) (Fin.ext (by dsimp only; omega))

theorem headA2 (hn : n.val = 256 + k.val) : k0_pay9 x w u (ix3 0 r k) = k0_pay6 x w (ix2 r n) + u (ix2 0 k) := by
  pointwise [k0_pay9]
  exact congrArg (fun e => k0_pay6 x w (ix2 r e) + u (ix2 0 k)) (Fin.ext (by dsimp only; omega))

theorem headA3 (hn : n.val = 384 + k.val) : k0_pay11 (k0_pay10 x w) u (ix3 0 r k) = k0_pay6 x w (ix2 r n) + u (ix2 0 k) := by
  pointwise [k0_pay11, k0_pay10]
  exact congrArg (fun e => k0_pay6 x w (ix2 r e) + u (ix2 0 k)) (Fin.ext (by dsimp only; omega))

theorem headA4 (hn : n.val = 512 + k.val) : k0_pay12 z u (ix3 0 r k) = z (ix2 r n) + u (ix2 0 k) := by
  pointwise [k0_pay12]
  exact congrArg (fun e => z (ix2 r e) + u (ix2 0 k)) (Fin.ext (by dsimp only; omega))

theorem headA5 (hn : n.val = 640 + k.val) : k0_pay13 z u (ix3 0 r k) = z (ix2 r n) + u (ix2 0 k) := by
  pointwise [k0_pay13]
  exact congrArg (fun e => z (ix2 r e) + u (ix2 0 k)) (Fin.ext (by dsimp only; omega))

theorem headA6 (hn : n.val = 768 + k.val) : k0_pay14 z u (ix3 0 r k) = z (ix2 r n) + u (ix2 0 k) := by
  pointwise [k0_pay14]
  exact congrArg (fun e => z (ix2 r e) + u (ix2 0 k)) (Fin.ext (by dsimp only; omega))

theorem headA7 (hn : n.val = 896 + k.val) : k0_pay16 (k0_pay15 z u) (ix3 0 r k) = z (ix2 r n) + u (ix2 0 k) := by
  pointwise [k0_pay16, k0_pay15]
  exact congrArg (fun e => z (ix2 r e) + u (ix2 0 k)) (Fin.ext (by dsimp only; omega))

theorem headI0 (hn : n.val = 0 + k.val) : k0_pay18 x w (ix3 0 r k) = k0_pay17 x w (ix2 r n) := by
  pointwise [k0_pay18]
  exact congrArg (fun e => k0_pay17 x w (ix2 r e)) (Fin.ext (by dsimp only; omega))

theorem headI1 (hn : n.val = 128 + k.val) : k0_pay19 x w (ix3 0 r k) = k0_pay17 x w (ix2 r n) := by
  pointwise [k0_pay19]
  exact congrArg (fun e => k0_pay17 x w (ix2 r e)) (Fin.ext (by dsimp only; omega))

theorem headI2 (hn : n.val = 256 + k.val) : k0_pay20 x w (ix3 0 r k) = k0_pay17 x w (ix2 r n) := by
  pointwise [k0_pay20]
  exact congrArg (fun e => k0_pay17 x w (ix2 r e)) (Fin.ext (by dsimp only; omega))

theorem headI3 (hn : n.val = 384 + k.val) : k0_pay21 x w (ix3 0 r k) = k0_pay17 x w (ix2 r n) := by
  pointwise [k0_pay21]
  exact congrArg (fun e => k0_pay17 x w (ix2 r e)) (Fin.ext (by dsimp only; omega))

theorem headI4 (hn : n.val = 512 + k.val) : k0_pay22 x w (ix3 0 r k) = k0_pay17 x w (ix2 r n) := by
  pointwise [k0_pay22]
  exact congrArg (fun e => k0_pay17 x w (ix2 r e)) (Fin.ext (by dsimp only; omega))

theorem headI5 (hn : n.val = 640 + k.val) : k0_pay24 (k0_pay23 x w) (ix3 0 r k) = k0_pay17 x w (ix2 r n) := by
  pointwise [k0_pay24, k0_pay23]
  exact congrArg (fun e => k0_pay17 x w (ix2 r e)) (Fin.ext (by dsimp only; omega))

theorem headI6 (hn : n.val = 768 + k.val) : k0_pay25 z (ix3 0 r k) = z (ix2 r n) := by
  pointwise [k0_pay25]
  exact congrArg (fun e => z (ix2 r e)) (Fin.ext (by dsimp only; omega))

theorem headI7 (hn : n.val = 896 + k.val) : k0_pay26 z (ix3 0 r k) = z (ix2 r n) := by
  pointwise [k0_pay26]
  exact congrArg (fun e => z (ix2 r e)) (Fin.ext (by dsimp only; omega))

theorem headB0 (hn : n.val = 0 + k.val) : k0_pay28 x w (ix3 0 r k) = k0_pay27 x w (ix2 r n) := by
  pointwise [k0_pay28]
  exact congrArg (fun e => k0_pay27 x w (ix2 r e)) (Fin.ext (by dsimp only; omega))

theorem headB1 (hn : n.val = 128 + k.val) : k0_pay29 x w (ix3 0 r k) = k0_pay27 x w (ix2 r n) := by
  pointwise [k0_pay29]
  exact congrArg (fun e => k0_pay27 x w (ix2 r e)) (Fin.ext (by dsimp only; omega))

theorem headB2 (hn : n.val = 256 + k.val) : k0_pay31 (k0_pay30 x w) (ix3 0 r k) = k0_pay27 x w (ix2 r n) := by
  pointwise [k0_pay31, k0_pay30]
  exact congrArg (fun e => k0_pay27 x w (ix2 r e)) (Fin.ext (by dsimp only; omega))

theorem headB3 (hn : n.val = 384 + k.val) : k0_pay32 z (ix3 0 r k) = z (ix2 r n) := by
  pointwise [k0_pay32]
  exact congrArg (fun e => z (ix2 r e)) (Fin.ext (by dsimp only; omega))

theorem headB4 (hn : n.val = 512 + k.val) : k0_pay33 z (ix3 0 r k) = z (ix2 r n) := by
  pointwise [k0_pay33]
  exact congrArg (fun e => z (ix2 r e)) (Fin.ext (by dsimp only; omega))

theorem headB5 (hn : n.val = 640 + k.val) : k0_pay34 z (ix3 0 r k) = z (ix2 r n) := by
  pointwise [k0_pay34]
  exact congrArg (fun e => z (ix2 r e)) (Fin.ext (by dsimp only; omega))

theorem headB6 (hn : n.val = 768 + k.val) : k0_pay35 z (ix3 0 r k) = z (ix2 r n) := by
  pointwise [k0_pay35]
  exact congrArg (fun e => z (ix2 r e)) (Fin.ext (by dsimp only; omega))

theorem headB7 (hn : n.val = 896 + k.val) : k0_pay36 z (ix3 0 r k) = z (ix2 r n) := by
  pointwise [k0_pay36]
  exact congrArg (fun e => z (ix2 r e)) (Fin.ext (by dsimp only; omega))

theorem headL0 (v : FVec Ideal S256x256 .f32) (d e : FVec Ideal S256x1 .f32) (hn : n.val = 0 + k.val) : k0_pay43 v d e g wq w (ix3 0 r k) = k0_pay42 v d e g wq w (ix2 r n) := by
  pointwise [k0_pay43]
  exact congrArg (fun i => k0_pay42 v d e g wq w (ix2 r i)) (Fin.ext (by dsimp only; omega))

theorem headL1 (hn : n.val = 128 + k.val) : k0_pay45 z (ix3 0 r k) = z (ix2 r n) := by
  pointwise [k0_pay45]
  exact congrArg (fun e => z (ix2 r e)) (Fin.ext (by dsimp only; omega))

theorem headL2 (hn : n.val = 256 + k.val) : k0_pay47 z (ix3 0 r k) = z (ix2 r n) := by
  pointwise [k0_pay47]
  exact congrArg (fun e => z (ix2 r e)) (Fin.ext (by dsimp only; omega))

theorem headL3 (hn : n.val = 384 + k.val) : k0_pay49 z (ix3 0 r k) = z (ix2 r n) := by
  pointwise [k0_pay49]
  exact congrArg (fun e => z (ix2 r e)) (Fin.ext (by dsimp only; omega))

theorem headL4 (hn : n.val = 512 + k.val) : k0_pay52 z (ix3 0 r k) = z (ix2 r n) := by
  pointwise [k0_pay52]
  exact congrArg (fun e => z (ix2 r e)) (Fin.ext (by dsimp only; omega))

theorem headL5 (hn : n.val = 640 + k.val) : k0_pay54 z (ix3 0 r k) = z (ix2 r n) := by
  pointwise [k0_pay54]
  exact congrArg (fun e => z (ix2 r e)) (Fin.ext (by dsimp only; omega))

theorem headL6 (hn : n.val = 768 + k.val) : k0_pay56 z (ix3 0 r k) = z (ix2 r n) := by
  pointwise [k0_pay56]
  exact congrArg (fun e => z (ix2 r e)) (Fin.ext (by dsimp only; omega))

theorem headL7 (hn : n.val = 896 + k.val) : k0_pay59 (k0_pay58 z) (ix3 0 r k) = z (ix2 r n) := by
  pointwise [k0_pay59, k0_pay58]
  exact congrArg (fun e => z (ix2 r e)) (Fin.ext (by dsimp only; omega))

theorem headR0 (hn : n.val = 0 + k.val) : k0_pay44 z (ix3 0 r k) = z (ix2 r n) := by
  pointwise [k0_pay44]
  exact congrArg (fun e => z (ix2 r e)) (Fin.ext (by dsimp only; omega))

theorem headR1 (hn : n.val = 128 + k.val) : k0_pay46 z (ix3 0 r k) = z (ix2 r n) := by
  pointwise [k0_pay46]
  exact congrArg (fun e => z (ix2 r e)) (Fin.ext (by dsimp only; omega))

theorem headR2 (hn : n.val = 256 + k.val) : k0_pay48 z (ix3 0 r k) = z (ix2 r n) := by
  pointwise [k0_pay48]
  exact congrArg (fun e => z (ix2 r e)) (Fin.ext (by dsimp only; omega))

theorem headR3 (hn : n.val = 384 + k.val) : k0_pay51 (k0_pay50 z) (ix3 0 r k) = z (ix2 r n) := by
  pointwise [k0_pay51, k0_pay50]
  exact congrArg (fun e => z (ix2 r e)) (Fin.ext (by dsimp only; omega))

theorem headR4 (hn : n.val = 512 + k.val) : k0_pay53 z (ix3 0 r k) = z (ix2 r n) := by
  pointwise [k0_pay53]
  exact congrArg (fun e => z (ix2 r e)) (Fin.ext (by dsimp only; omega))

theorem headR5 (hn : n.val = 640 + k.val) : k0_pay55 z (ix3 0 r k) = z (ix2 r n) := by
  pointwise [k0_pay55]
  exact congrArg (fun e => z (ix2 r e)) (Fin.ext (by dsimp only; omega))

theorem headR6 (hn : n.val = 768 + k.val) : k0_pay57 z (ix3 0 r k) = z (ix2 r n) := by
  pointwise [k0_pay57]
  exact congrArg (fun e => z (ix2 r e)) (Fin.ext (by dsimp only; omega))

theorem headR7 (hn : n.val = 896 + k.val) : k0_pay60 z (ix3 0 r k) = z (ix2 r n) := by
  pointwise [k0_pay60]
  exact congrArg (fun e => z (ix2 r e)) (Fin.ext (by dsimp only; omega))

end

section

variable {r : Fin 256} {κ : Kind} {sp : Space}

/-- A load of one row of the heads' biases. -/
theorem load_row (M : Memref sig .tc .vmem S8x128 .f32) (hM : M.IsWhole) (X : Vec Ideal S8x128 .f32) (h : Fin 8)
    (inb : ∀ a, (![h.val, 0] : Fin 2 → ℕ) a + (![1, 128] : Fin 2 → ℕ) a ≤ S8x128.size a) (k : Fin 128) :
    M.view.readAt (Elt Ideal) (Rect.unit (s := S8x128) ![h.val, 0] ![1, 128] inb).toLoadRect (hM.unread X) (ix2 0 k) = X (ix2 h k) := by
  refine (hM.readAt_unread _ _ _).trans (congrArg X (funext fun a => Fin.ext ?_))
  match a with
  | ⟨0, _⟩ => show h.val + 1 * 0 = h.val; omega
  | ⟨1, _⟩ => show 0 + 1 * k.val = k.val; omega

section

variable {v : View sig κ sp S8x256x128 .bf16} {f : v.ty.Contents (Elt Ideal)} {o : ℕ}
  {inb : ∀ a, (![o, 0, 0] : Fin 3 → ℕ) a + (![1, 256, 128] : Fin 3 → ℕ) a ≤ S8x256x128.size a}

/-- The newest head. -/
theorem head_hit {u : (Rect.unit (s := S8x256x128) ![o, 0, 0] ![1, 256, 128] inb).shape.Idx → EReal} {L : List (View.Piece (Elt Ideal) S8x256x128 .bf16)} {k : Fin 128} {h : Fin 8}
    (hh : h.val = o) :
    v.read (Elt Ideal) (v.writes (Elt Ideal) f ((⟨Rect.unit (s := S8x256x128) ![o, 0, 0] ![1, 256, 128] inb, u⟩ : View.Piece (Elt Ideal) S8x256x128 .bf16) :: L)) (ix3 h r k)
      = u (ix3 0 r k) :=
  View.read_writes_cons_unit_of_mem v f inb u L (ix3 h r k) (ix3 0 r k) rfl fun a => by
    match a with
    | ⟨0, _⟩ => exact hh
    | ⟨1, _⟩ => exact (Nat.zero_add _).symm
    | ⟨2, _⟩ => exact (Nat.zero_add _).symm

/-- Another head. -/
theorem head_miss {u : (Rect.unit (s := S8x256x128) ![o, 0, 0] ![1, 256, 128] inb).shape.Idx → EReal} {L : List (View.Piece (Elt Ideal) S8x256x128 .bf16)} {k : Fin 128} {h : Fin 8}
    (hh : h.val < o ∨ o + 1 ≤ h.val) :
    v.read (Elt Ideal) (v.writes (Elt Ideal) f ((⟨Rect.unit (s := S8x256x128) ![o, 0, 0] ![1, 256, 128] inb, u⟩ : View.Piece (Elt Ideal) S8x256x128 .bf16) :: L)) (ix3 h r k)
      = v.read (Elt Ideal) (v.writes (Elt Ideal) f L) (ix3 h r k) :=
  View.read_writes_cons_unit_of_not_mem v f inb u L (ix3 h r k) rfl (0 : Fin 3) hh

end

section

variable {v : View sig κ sp S8x256x256 .bf16} {f : v.ty.Contents (Elt Ideal)} {o q : ℕ}
  {inb : ∀ a, (![o, 0, q] : Fin 3 → ℕ) a + (![1, 256, 128] : Fin 3 → ℕ) a ≤ S8x256x256.size a}

/-- The newest half head. -/
theorem half_hit {u : (Rect.unit (s := S8x256x256) ![o, 0, q] ![1, 256, 128] inb).shape.Idx → EReal} {L : List (View.Piece (Elt Ideal) S8x256x256 .bf16)} {k : Fin 128} {h : Fin 8}
    {j : Fin 256} (hh : h.val = o) (hj : j.val = q + k.val) :
    v.read (Elt Ideal) (v.writes (Elt Ideal) f ((⟨Rect.unit (s := S8x256x256) ![o, 0, q] ![1, 256, 128] inb, u⟩ : View.Piece (Elt Ideal) S8x256x256 .bf16) :: L)) (ix3 h r j)
      = u (ix3 0 r k) :=
  View.read_writes_cons_unit_of_mem v f inb u L (ix3 h r j) (ix3 0 r k) rfl fun a => by
    match a with
    | ⟨0, _⟩ => exact hh
    | ⟨1, _⟩ => exact (Nat.zero_add _).symm
    | ⟨2, _⟩ => exact hj

/-- Another head. -/
theorem half_miss {u : (Rect.unit (s := S8x256x256) ![o, 0, q] ![1, 256, 128] inb).shape.Idx → EReal} {L : List (View.Piece (Elt Ideal) S8x256x256 .bf16)} {h : Fin 8} {j : Fin 256}
    (hh : h.val < o ∨ o + 1 ≤ h.val) :
    v.read (Elt Ideal) (v.writes (Elt Ideal) f ((⟨Rect.unit (s := S8x256x256) ![o, 0, q] ![1, 256, 128] inb, u⟩ : View.Piece (Elt Ideal) S8x256x256 .bf16) :: L)) (ix3 h r j)
      = v.read (Elt Ideal) (v.writes (Elt Ideal) f L) (ix3 h r j) :=
  View.read_writes_cons_unit_of_not_mem v f inb u L (ix3 h r j) rfl (0 : Fin 3) hh

/-- The other half of a head. -/
theorem half_other {u : (Rect.unit (s := S8x256x256) ![o, 0, q] ![1, 256, 128] inb).shape.Idx → EReal} {L : List (View.Piece (Elt Ideal) S8x256x256 .bf16)} {h : Fin 8} {j : Fin 256}
    (hj : j.val < q ∨ q + 128 ≤ j.val) :
    v.read (Elt Ideal) (v.writes (Elt Ideal) f ((⟨Rect.unit (s := S8x256x256) ![o, 0, q] ![1, 256, 128] inb, u⟩ : View.Piece (Elt Ideal) S8x256x256 .bf16) :: L)) (ix3 h r j)
      = v.read (Elt Ideal) (v.writes (Elt Ideal) f L) (ix3 h r j) :=
  View.read_writes_cons_unit_of_not_mem v f inb u L (ix3 h r j) rfl (2 : Fin 3) hj

end

end

section

variable (r : Fin 256) (T : Fin 16384) (h : Fin 8) (k : Fin 128) (y : FVec Ideal S16384x7168 .f32) (W : FVec Ideal S512x1024 .bf16)
  (x : Vec Ideal S256x1536 .f32) (hx : ∀ (j : Fin 1536) (n : Fin 7168), n.val = j.val → x (ix2 r j) = y (ix2 T n))
  (w : Vec Ideal S512x1024 .bf16) (hw : ∀ j n, w (ix2 j n) = W (ix2 j n))

include hx hw

theorem closeA (b : FVec Ideal S8x128 .f32) (u : Vec Ideal S1x128 .f32) (hu : u (ix2 0 k) = b (ix2 h k)) :
    k0_pay6 x w (ix2 r (col h k)) + u (ix2 0 k) = queryA y W b (ix3 h T k) := by
  rw [pay6_at, hu, queryA_apply]
  exact congrArg (· + b (ix2 h k)) (Finset.sum_congr rfl fun j _ => by rw [hx _ ⟨j.val, by omega⟩ rfl, hw])

theorem closeI : k0_pay17 x w (ix2 r (col h k)) = queryI y W (ix3 h T k) := by
  rw [pay17_at, queryI_apply]
  exact Finset.sum_congr rfl fun j _ => by rw [hx _ ⟨512 + j.val, by omega⟩ rfl, hw]

theorem closeB : k0_pay27 x w (ix2 r (col h k)) = queryB y W (ix3 h T k) := by
  rw [pay27_at, queryB_apply]
  exact Finset.sum_congr rfl fun j _ => by rw [hx _ ⟨1024 + j.val, by omega⟩ rfl, hw]

end

section

variable (r : Fin 256) (T : Fin 16384) (h : Fin 8) (k : Fin 128) (y : FVec Ideal S16384x7168 .f32) (G : FVec Ideal S1x256 .f32)
  (WQ : FVec Ideal S256x768 .bf16) (WU : FVec Ideal S512x1024 .bf16) (WP : FVec Ideal S256x1024 .bf16)
  (x : Vec Ideal S256x1024 .f32) (hx : ∀ (j : Fin 1024) (n : Fin 7168), n.val = 6144 + j.val → x (ix2 r j) = y (ix2 T n))
  (g : Vec Ideal S1x256 .f32) (hg : ∀ l, g (ix2 0 l) = G (ix2 0 l)) (wq : Vec Ideal S256x768 .bf16) (hq : ∀ j n, wq (ix2 j n) = WQ (ix2 j n))

include hx hg hq

theorem wide_eq (n : Fin 768) : k0_pay40 (k0_pay37 x) (k0_pay38 x) (k0_pay39 (F := Ideal)) g wq (ix2 r n)
    = wide (fun l => y (ix2 T ⟨6144 + l.val, by omega⟩)) (fun l => G (ix2 0 l)) WQ n := by
  have e : (fun l : Fin 256 => x (ix2 r ⟨l.val, by omega⟩)) = fun l => y (ix2 T ⟨6144 + l.val, by omega⟩) := funext fun l => hx _ _ rfl
  have eg : (fun l : Fin 256 => g (ix2 0 l)) = fun l => G (ix2 0 l) := funext hg
  rw [pay40_at, e, eg]
  unfold wide
  exact Finset.sum_congr rfl fun j _ => by rw [hq]

theorem closeL (wu : Vec Ideal S512x1024 .bf16) (hu : ∀ j n, wu (ix2 j n) = WU (ix2 j n)) :
    k0_pay42 (k0_pay37 x) (k0_pay38 x) (k0_pay39 (F := Ideal)) g wq wu (ix2 r (col h k)) = queryC y G WQ WU WP (ix3 h T ⟨k.val, by omega⟩) := by
  rw [pay42_at, queryC_lo]
  exact congrArg (· * Ideal.ofBits .f32 0x3E16C740#32) (Finset.sum_congr rfl fun j _ => by rw [wide_eq r T y G WQ x hx g hg wq hq, hu])

theorem closeR (co si : Vec Ideal S256x128 .f32) (hco : ∀ l, co (ix2 r l) = cosHeads (ix2 T l)) (hsi : ∀ l, si (ix2 r l) = sinHeads (ix2 T l))
    (p : Vec Ideal S256x1024 .bf16) (hp : ∀ j n, p (ix2 j n) = WP (ix2 j n)) :
    k0_pay41 (k0_pay37 x) (k0_pay38 x) (k0_pay39 (F := Ideal)) g wq co si p (ix2 r (col h k)) = queryC y G WQ WU WP (ix3 h T ⟨128 + k.val, by omega⟩) := by
  have e : (fun i => k0_pay40 (k0_pay37 x) (k0_pay38 x) (k0_pay39 (F := Ideal)) g wq (ix2 r i))
      = wide (fun l => y (ix2 T ⟨6144 + l.val, by omega⟩)) (fun l => G (ix2 0 l)) WQ := funext fun n => wide_eq r T y G WQ x hx g hg wq hq n
  have ec : (fun l => co (ix2 r l)) = fun l => cosHeads (ix2 T l) := funext hco
  have es : (fun l => si (ix2 r l)) = fun l => sinHeads (ix2 T l) := funext hsi
  rw [pay41_at, queryC_hi, e, ec, es]
  exact Finset.sum_congr rfl fun j _ => by rw [hp]

end

variable (m : (ℓ : Loc nD τ sig) → Buf (Elt Ideal) ℓ) (c : Dev nD)

abbrev argGQ : FVec Ideal S1x256 .f32 := m ((c : Thread nD τ).loc main_arg2)
abbrev argSA : FVec Ideal S512x1024 .bf16 := m ((c : Thread nD τ).loc main_arg4)
abbrev argSB : FVec Ideal S512x1024 .bf16 := m ((c : Thread nD τ).loc main_arg5)
abbrev argWQ : FVec Ideal S256x768 .bf16 := m ((c : Thread nD τ).loc main_arg6)
abbrev argWU : FVec Ideal S512x1024 .bf16 := m ((c : Thread nD τ).loc main_arg7)
abbrev argWP : FVec Ideal S256x1024 .bf16 := m ((c : Thread nD τ).loc main_arg8)
abbrev argQB : FVec Ideal S8x128 .f32 := m ((c : Thread nD τ).loc main_arg9)

theorem cosHeads_eq : V m c main_v22 = cosHeads := by
  unfold V hostOps0
  after_reads_simp
  rfl

theorem sinHeads_eq : V m c main_v25 = sinHeads := by
  unfold V hostOps0
  after_reads_simp
  rfl

theorem index0 : ∀ t : Fin cfg0.N, win0_0.index t = ![t.val, 0] := (by decide +kernel : ∀ t : Fin grid0.N, win0_0.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index7 : ∀ t : Fin cfg0.N, win0_7.index t = ![0, 0] := (by decide +kernel : ∀ t : Fin grid0.N, win0_7.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, t.val, 0] := (by decide +kernel : ∀ t : Fin grid0.N, win0_15.index t = ![0, t.val, 0])
theorem index16 : ∀ t : Fin cfg0.N, win0_16.index t = ![0, t.val, 0] := (by decide +kernel : ∀ t : Fin grid0.N, win0_16.index t = ![0, t.val, 0])
theorem index17 : ∀ t : Fin cfg0.N, win0_17.index t = ![0, t.val, 0] := (by decide +kernel : ∀ t : Fin grid0.N, win0_17.index t = ![0, t.val, 0])
theorem index18 : ∀ t : Fin cfg0.N, win0_18.index t = ![0, t.val, 0] := (by decide +kernel : ∀ t : Fin grid0.N, win0_18.index t = ![0, t.val, 0])

theorem X0_apply (t : Fin cfg0.N) (r : Fin 256) (j : Fin 1536) (n : Fin 7168) (hn : n.val = j.val) :
    (X0_0 m c t : Vec Ideal S256x1536 .f32) (ix2 r j) = argY m c (ix2 (at256 t r) n) := by
  unfold X0_0 Pipeline.Window.fill
  rw [dif_pos (moved0_0 t _)]
  show ((cfg0.win 0).blk t).view.read (Elt Ideal) (V m c main_arg0) _ = _
  rw [V_main_arg0]
  blk_simp
  refine congrArg (argY m c) ?_
  obtain rfl : n = ⟨j.val, j.isLt.trans (by decide)⟩ := Fin.ext hn
  blk_ext [index0, at256]

theorem iblk2_apply (t : Fin cfg0.N) (r : Fin 256) (l : Fin 128) :
    (iblk m c 2 t : Vec Ideal S256x128 .f32) (ix2 r l) = cosHeads (ix2 (at256 t r) l) := by
  show ((cfg0.win 2).blk t).view.read (Elt Ideal) (V m c main_v22) (ix2 r l) = _
  rw [cosHeads_eq]
  generalize cosHeads = W
  blk_simp
  refine congrArg W ?_
  blk_ext [index2, at256]

theorem iblk3_apply (t : Fin cfg0.N) (r : Fin 256) (l : Fin 128) :
    (iblk m c 3 t : Vec Ideal S256x128 .f32) (ix2 r l) = sinHeads (ix2 (at256 t r) l) := by
  show ((cfg0.win 3).blk t).view.read (Elt Ideal) (V m c main_v25) (ix2 r l) = _
  rw [sinHeads_eq]
  generalize sinHeads = W
  blk_simp
  refine congrArg W ?_
  blk_ext [index3, at256]

theorem iblk7_apply (t : Fin cfg0.N) (l : Fin 256) :
    (iblk m c 7 t : Vec Ideal S1x256 .f32) (ix2 0 l) = argGQ m c (ix2 0 l) := by
  show ((cfg0.win 7).blk t).view.read (Elt Ideal) (V m c main_arg2) _ = _
  rw [V_main_arg2]
  blk_simp
  refine congrArg (argGQ m c) ?_
  blk_ext [index7]

theorem iblk9_apply (t : Fin cfg0.N) (j : Fin 512) (l : Fin 1024) :
    (iblk m c 9 t : Vec Ideal S512x1024 .bf16) (ix2 j l) = argSA m c (ix2 j l) := by
  show ((cfg0.win 9).blk t).view.read (Elt Ideal) (V m c main_arg4) _ = _
  rw [V_main_arg4]
  blk_simp
  refine congrArg (argSA m c) ?_
  blk_ext [index9]

theorem iblk10_apply (t : Fin cfg0.N) (j : Fin 512) (l : Fin 1024) :
    (iblk m c 10 t : Vec Ideal S512x1024 .bf16) (ix2 j l) = argSB m c (ix2 j l) := by
  show ((cfg0.win 10).blk t).view.read (Elt Ideal) (V m c main_arg5) _ = _
  rw [V_main_arg5]
  blk_simp
  refine congrArg (argSB m c) ?_
  blk_ext [index10]

theorem iblk11_apply (t : Fin cfg0.N) (j : Fin 256) (l : Fin 768) :
    (iblk m c 11 t : Vec Ideal S256x768 .bf16) (ix2 j l) = argWQ m c (ix2 j l) := by
  show ((cfg0.win 11).blk t).view.read (Elt Ideal) (V m c main_arg6) _ = _
  rw [V_main_arg6]
  blk_simp
  refine congrArg (argWQ m c) ?_
  blk_ext [index11]

theorem iblk12_apply (t : Fin cfg0.N) (j : Fin 512) (l : Fin 1024) :
    (iblk m c 12 t : Vec Ideal S512x1024 .bf16) (ix2 j l) = argWU m c (ix2 j l) := by
  show ((cfg0.win 12).blk t).view.read (Elt Ideal) (V m c main_arg7) _ = _
  rw [V_main_arg7]
  blk_simp
  refine congrArg (argWU m c) ?_
  blk_ext [index12]

theorem iblk13_apply (t : Fin cfg0.N) (j : Fin 256) (l : Fin 1024) :
    (iblk m c 13 t : Vec Ideal S256x1024 .bf16) (ix2 j l) = argWP m c (ix2 j l) := by
  show ((cfg0.win 13).blk t).view.read (Elt Ideal) (V m c main_arg8) _ = _
  rw [V_main_arg8]
  blk_simp
  refine congrArg (argWP m c) ?_
  blk_ext [index13]

theorem iblk14_apply (t : Fin cfg0.N) (j : Fin 8) (l : Fin 128) :
    (iblk m c 14 t : Vec Ideal S8x128 .f32) (ix2 j l) = argQB m c (ix2 j l) := by
  show ((cfg0.win 14).blk t).view.read (Elt Ideal) (V m c main_arg9) _ = _
  rw [V_main_arg9]
  blk_simp
  refine congrArg (argQB m c) ?_
  blk_ext [index14]

/-- A point's queries, A. -/
theorem pointA (t : Fin cfg0.N) (h : Fin 8) (r : Fin 256) (k : Fin 128) :
    (outsAt0 m c t).1 (ix3 h r k) = queryA (argY m c) (argSA m c) (argQB m c) (ix3 h (at256 t r) k) := by
  unfold outsAt0
  dsimp only
  unfold out0_A_15 kernelRun0_A
  dsimp only
  have hx0 : ∀ inb (j : Fin 1536) (n : Fin 7168) (e : n.val = j.val),
      (ms0_0 t).view.readAt (Elt Ideal) (Rect.unit (s := S256x1536) ![0, 0] S256x1536.size inb).toLoadRect ((hs0_0 t).unread (X0_0 m c t)) (ix2 r j) = argY m c (ix2 (at256 t r) n) :=
    fun _ j n e => (load_whole (ms0_0 t) (hs0_0 t) (X0_0 m c t : Vec Ideal S256x1536 .f32) _ off2 _ _).trans (X0_apply m c t r j n e)
  have hsa : ∀ inb (j : Fin 512) (n : Fin 1024),
      (ms0_9 t).view.readAt (Elt Ideal) (Rect.unit (s := S512x1024) ![0, 0] S512x1024.size inb).toLoadRect ((hs0_9 t).unread (iblk m c 9 t)) (ix2 j n) = argSA m c (ix2 j n) :=
    fun _ j n => (load_whole (ms0_9 t) (hs0_9 t) (iblk m c 9 t : Vec Ideal S512x1024 .bf16) _ off2 _ _).trans (iblk9_apply m c t j n)
  unfold kernelRun0_A.sl.r_1 kernelRun0_A.sl.r_2 kernelRun0_A.sl.r_3 kernelRun0_A.sl.r_4
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headA0 r (col 0 k) k _ _ _ rfl).trans (closeA r (at256 t r) 0 k (argY m c) (argSA m c) _ (hx0 _) _ (hsa _) (argQB m c) _
      ((load_row (ms0_14 t) (hs0_14 t) (iblk m c 14 t : Vec Ideal S8x128 .f32) 0 _ k).trans (iblk14_apply m c t 0 k)))
  · refine (head_miss (by decide)).trans ((head_miss (by decide)).trans ((head_miss (by decide)).trans ((head_miss (by decide)).trans ((head_miss (by decide)).trans ((head_miss (by decide)).trans ((head_hit (by rfl)).trans ?_))))))
    exact (headA1 r (col 1 k) k _ _ _ rfl).trans (closeA r (at256 t r) 1 k (argY m c) (argSA m c) _ (hx0 _) _ (hsa _) (argQB m c) _
      ((load_row (ms0_14 t) (hs0_14 t) (iblk m c 14 t : Vec Ideal S8x128 .f32) 1 _ k).trans (iblk14_apply m c t 1 k)))
  · refine (head_miss (by decide)).trans ((head_miss (by decide)).trans ((head_miss (by decide)).trans ((head_miss (by decide)).trans ((head_miss (by decide)).trans ((head_hit (by rfl)).trans ?_)))))
    exact (headA2 r (col 2 k) k _ _ _ rfl).trans (closeA r (at256 t r) 2 k (argY m c) (argSA m c) _ (hx0 _) _ (hsa _) (argQB m c) _
      ((load_row (ms0_14 t) (hs0_14 t) (iblk m c 14 t : Vec Ideal S8x128 .f32) 2 _ k).trans (iblk14_apply m c t 2 k)))
  · refine (head_miss (by decide)).trans ((head_miss (by decide)).trans ((head_miss (by decide)).trans ((head_miss (by decide)).trans ((head_hit (by rfl)).trans ?_))))
    exact (headA3 r (col 3 k) k _ _ _ rfl).trans (closeA r (at256 t r) 3 k (argY m c) (argSA m c) _ (hx0 _) _ (hsa _) (argQB m c) _
      ((load_row (ms0_14 t) (hs0_14 t) (iblk m c 14 t : Vec Ideal S8x128 .f32) 3 _ k).trans (iblk14_apply m c t 3 k)))
  · refine (head_miss (by decide)).trans ((head_miss (by decide)).trans ((head_miss (by decide)).trans ((head_hit (by rfl)).trans ?_)))
    exact (headA4 r (col 4 k) k _ _ rfl).trans (closeA r (at256 t r) 4 k (argY m c) (argSA m c) _ (hx0 _) _ (hsa _) (argQB m c) _
      ((load_row (ms0_14 t) (hs0_14 t) (iblk m c 14 t : Vec Ideal S8x128 .f32) 4 _ k).trans (iblk14_apply m c t 4 k)))
  · refine (head_miss (by decide)).trans ((head_miss (by decide)).trans ((head_hit (by rfl)).trans ?_))
    exact (headA5 r (col 5 k) k _ _ rfl).trans (closeA r (at256 t r) 5 k (argY m c) (argSA m c) _ (hx0 _) _ (hsa _) (argQB m c) _
      ((load_row (ms0_14 t) (hs0_14 t) (iblk m c 14 t : Vec Ideal S8x128 .f32) 5 _ k).trans (iblk14_apply m c t 5 k)))
  · refine (head_miss (by decide)).trans ((head_hit (by rfl)).trans ?_)
    exact (headA6 r (col 6 k) k _ _ rfl).trans (closeA r (at256 t r) 6 k (argY m c) (argSA m c) _ (hx0 _) _ (hsa _) (argQB m c) _
      ((load_row (ms0_14 t) (hs0_14 t) (iblk m c 14 t : Vec Ideal S8x128 .f32) 6 _ k).trans (iblk14_apply m c t 6 k)))
  · refine (head_hit (by rfl)).trans ?_
    exact (headA7 r (col 7 k) k _ _ rfl).trans (closeA r (at256 t r) 7 k (argY m c) (argSA m c) _ (hx0 _) _ (hsa _) (argQB m c) _
      ((load_row (ms0_14 t) (hs0_14 t) (iblk m c 14 t : Vec Ideal S8x128 .f32) 7 _ k).trans (iblk14_apply m c t 7 k)))

/-- A point's queries, I. -/
theorem pointI (t : Fin cfg0.N) (h : Fin 8) (r : Fin 256) (k : Fin 128) :
    (outsAt0 m c t).2.1 (ix3 h r k) = queryI (argY m c) (argSA m c) (ix3 h (at256 t r) k) := by
  unfold outsAt0
  dsimp only
  unfold out0_A_16 kernelRun0_A
  dsimp only
  have hx0 : ∀ inb (j : Fin 1536) (n : Fin 7168) (e : n.val = j.val),
      (ms0_0 t).view.readAt (Elt Ideal) (Rect.unit (s := S256x1536) ![0, 0] S256x1536.size inb).toLoadRect ((hs0_0 t).unread (X0_0 m c t)) (ix2 r j) = argY m c (ix2 (at256 t r) n) :=
    fun _ j n e => (load_whole (ms0_0 t) (hs0_0 t) (X0_0 m c t : Vec Ideal S256x1536 .f32) _ off2 _ _).trans (X0_apply m c t r j n e)
  have hsa : ∀ inb (j : Fin 512) (n : Fin 1024),
      (ms0_9 t).view.readAt (Elt Ideal) (Rect.unit (s := S512x1024) ![0, 0] S512x1024.size inb).toLoadRect ((hs0_9 t).unread (iblk m c 9 t)) (ix2 j n) = argSA m c (ix2 j n) :=
    fun _ j n => (load_whole (ms0_9 t) (hs0_9 t) (iblk m c 9 t : Vec Ideal S512x1024 .bf16) _ off2 _ _).trans (iblk9_apply m c t j n)
  unfold kernelRun0_A.sl.r_5 kernelRun0_A.sl.r_6
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headI0 r (col 0 k) k _ _ rfl).trans (closeI r (at256 t r) 0 k (argY m c) (argSA m c) _ (hx0 _) _ (hsa _))
  · refine (head_miss (by decide)).trans ((head_miss (by decide)).trans ((head_miss (by decide)).trans ((head_miss (by decide)).trans ((head_miss (by decide)).trans ((head_miss (by decide)).trans ((head_hit (by rfl)).trans ?_))))))
    exact (headI1 r (col 1 k) k _ _ rfl).trans (closeI r (at256 t r) 1 k (argY m c) (argSA m c) _ (hx0 _) _ (hsa _))
  · refine (head_miss (by decide)).trans ((head_miss (by decide)).trans ((head_miss (by decide)).trans ((head_miss (by decide)).trans ((head_miss (by decide)).trans ((head_hit (by rfl)).trans ?_)))))
    exact (headI2 r (col 2 k) k _ _ rfl).trans (closeI r (at256 t r) 2 k (argY m c) (argSA m c) _ (hx0 _) _ (hsa _))
  · refine (head_miss (by decide)).trans ((head_miss (by decide)).trans ((head_miss (by decide)).trans ((head_miss (by decide)).trans ((head_hit (by rfl)).trans ?_))))
    exact (headI3 r (col 3 k) k _ _ rfl).trans (closeI r (at256 t r) 3 k (argY m c) (argSA m c) _ (hx0 _) _ (hsa _))
  · refine (head_miss (by decide)).trans ((head_miss (by decide)).trans ((head_miss (by decide)).trans ((head_hit (by rfl)).trans ?_)))
    exact (headI4 r (col 4 k) k _ _ rfl).trans (closeI r (at256 t r) 4 k (argY m c) (argSA m c) _ (hx0 _) _ (hsa _))
  · refine (head_miss (by decide)).trans ((head_miss (by decide)).trans ((head_hit (by rfl)).trans ?_))
    exact (headI5 r (col 5 k) k _ _ rfl).trans (closeI r (at256 t r) 5 k (argY m c) (argSA m c) _ (hx0 _) _ (hsa _))
  · refine (head_miss (by decide)).trans ((head_hit (by rfl)).trans ?_)
    exact (headI6 r (col 6 k) k _ rfl).trans (closeI r (at256 t r) 6 k (argY m c) (argSA m c) _ (hx0 _) _ (hsa _))
  · refine (head_hit (by rfl)).trans ?_
    exact (headI7 r (col 7 k) k _ rfl).trans (closeI r (at256 t r) 7 k (argY m c) (argSA m c) _ (hx0 _) _ (hsa _))

/-- A point's queries, B. -/
theorem pointB (t : Fin cfg0.N) (h : Fin 8) (r : Fin 256) (k : Fin 128) :
    (outsAt0 m c t).2.2.1 (ix3 h r k) = queryB (argY m c) (argSB m c) (ix3 h (at256 t r) k) := by
  unfold outsAt0
  dsimp only
  unfold out0_A_17 kernelRun0_A
  dsimp only
  have hx0 : ∀ inb (j : Fin 1536) (n : Fin 7168) (e : n.val = j.val),
      (ms0_0 t).view.readAt (Elt Ideal) (Rect.unit (s := S256x1536) ![0, 0] S256x1536.size inb).toLoadRect ((hs0_0 t).unread (X0_0 m c t)) (ix2 r j) = argY m c (ix2 (at256 t r) n) :=
    fun _ j n e => (load_whole (ms0_0 t) (hs0_0 t) (X0_0 m c t : Vec Ideal S256x1536 .f32) _ off2 _ _).trans (X0_apply m c t r j n e)
  have hsb : ∀ inb (j : Fin 512) (n : Fin 1024),
      (ms0_10 t).view.readAt (Elt Ideal) (Rect.unit (s := S512x1024) ![0, 0] S512x1024.size inb).toLoadRect ((hs0_10 t).unread (iblk m c 10 t)) (ix2 j n) = argSB m c (ix2 j n) :=
    fun _ j n => (load_whole (ms0_10 t) (hs0_10 t) (iblk m c 10 t : Vec Ideal S512x1024 .bf16) _ off2 _ _).trans (iblk10_apply m c t j n)
  unfold kernelRun0_A.sl.r_7 kernelRun0_A.sl.r_8
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headB0 r (col 0 k) k _ _ rfl).trans (closeB r (at256 t r) 0 k (argY m c) (argSB m c) _ (hx0 _) _ (hsb _))
  · refine (head_miss (by decide)).trans ((head_miss (by decide)).trans ((head_miss (by decide)).trans ((head_miss (by decide)).trans ((head_miss (by decide)).trans ((head_miss (by decide)).trans ((head_hit (by rfl)).trans ?_))))))
    exact (headB1 r (col 1 k) k _ _ rfl).trans (closeB r (at256 t r) 1 k (argY m c) (argSB m c) _ (hx0 _) _ (hsb _))
  · refine (head_miss (by decide)).trans ((head_miss (by decide)).trans ((head_miss (by decide)).trans ((head_miss (by decide)).trans ((head_miss (by decide)).trans ((head_hit (by rfl)).trans ?_)))))
    exact (headB2 r (col 2 k) k _ _ rfl).trans (closeB r (at256 t r) 2 k (argY m c) (argSB m c) _ (hx0 _) _ (hsb _))
  · refine (head_miss (by decide)).trans ((head_miss (by decide)).trans ((head_miss (by decide)).trans ((head_miss (by decide)).trans ((head_hit (by rfl)).trans ?_))))
    exact (headB3 r (col 3 k) k _ rfl).trans (closeB r (at256 t r) 3 k (argY m c) (argSB m c) _ (hx0 _) _ (hsb _))
  · refine (head_miss (by decide)).trans ((head_miss (by decide)).trans ((head_miss (by decide)).trans ((head_hit (by rfl)).trans ?_)))
    exact (headB4 r (col 4 k) k _ rfl).trans (closeB r (at256 t r) 4 k (argY m c) (argSB m c) _ (hx0 _) _ (hsb _))
  · refine (head_miss (by decide)).trans ((head_miss (by decide)).trans ((head_hit (by rfl)).trans ?_))
    exact (headB5 r (col 5 k) k _ rfl).trans (closeB r (at256 t r) 5 k (argY m c) (argSB m c) _ (hx0 _) _ (hsb _))
  · refine (head_miss (by decide)).trans ((head_hit (by rfl)).trans ?_)
    exact (headB6 r (col 6 k) k _ rfl).trans (closeB r (at256 t r) 6 k (argY m c) (argSB m c) _ (hx0 _) _ (hsb _))
  · refine (head_hit (by rfl)).trans ?_
    exact (headB7 r (col 7 k) k _ rfl).trans (closeB r (at256 t r) 7 k (argY m c) (argSB m c) _ (hx0 _) _ (hsb _))

/-- A point's latent attention queries, the latent half. -/
theorem pointL (t : Fin cfg0.N) (h : Fin 8) (r : Fin 256) (k : Fin 128) :
    (outsAt0 m c t).2.2.2.1 (ix3 h r ⟨k.val, by omega⟩) = queryC (argY m c) (argGQ m c) (argWQ m c) (argWU m c) (argWP m c) (ix3 h (at256 t r) ⟨k.val, by omega⟩) := by
  unfold outsAt0
  dsimp only
  unfold out0_A_18 kernelRun0_A
  dsimp only
  have hx1 : ∀ inb (j : Fin 1024) (n : Fin 7168) (e : n.val = 6144 + j.val),
      (ms0_1 t).view.readAt (Elt Ideal) (Rect.unit (s := S256x1024) ![0, 0] S256x1024.size inb).toLoadRect ((hs0_1 t).unread (iblk m c 1 t)) (ix2 r j) = argY m c (ix2 (at256 t r) n) :=
    fun _ j n e => (load_whole (ms0_1 t) (hs0_1 t) (iblk m c 1 t : Vec Ideal S256x1024 .f32) _ off2 _ _).trans (iblk1_apply m c t r j n e)
  have hgq : ∀ inb (l : Fin 256),
      (ms0_7 t).view.readAt (Elt Ideal) (Rect.unit (s := S1x256) ![0, 0] S1x256.size inb).toLoadRect ((hs0_7 t).unread (iblk m c 7 t)) (ix2 0 l) = argGQ m c (ix2 0 l) :=
    fun _ l => (load_whole (ms0_7 t) (hs0_7 t) (iblk m c 7 t : Vec Ideal S1x256 .f32) _ off2 _ _).trans (iblk7_apply m c t l)
  have hwq : ∀ inb (j : Fin 256) (n : Fin 768),
      (ms0_11 t).view.readAt (Elt Ideal) (Rect.unit (s := S256x768) ![0, 0] S256x768.size inb).toLoadRect ((hs0_11 t).unread (iblk m c 11 t)) (ix2 j n) = argWQ m c (ix2 j n) :=
    fun _ j n => (load_whole (ms0_11 t) (hs0_11 t) (iblk m c 11 t : Vec Ideal S256x768 .bf16) _ off2 _ _).trans (iblk11_apply m c t j n)
  have hwu : ∀ inb (j : Fin 512) (n : Fin 1024),
      (ms0_12 t).view.readAt (Elt Ideal) (Rect.unit (s := S512x1024) ![0, 0] S512x1024.size inb).toLoadRect ((hs0_12 t).unread (iblk m c 12 t)) (ix2 j n) = argWU m c (ix2 j n) :=
    fun _ j n => (load_whole (ms0_12 t) (hs0_12 t) (iblk m c 12 t : Vec Ideal S512x1024 .bf16) _ off2 _ _).trans (iblk12_apply m c t j n)
  unfold kernelRun0_A.sl.r_15 kernelRun0_A.sl.r_14 kernelRun0_A.sl.r_13 kernelRun0_A.sl.r_12 kernelRun0_A.sl.r_11 kernelRun0_A.sl.r_10
  revert h
  refine fin8 ?_ ?_ ?_ ?_ ?_ ?_ ?_ ?_
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))))))
    exact (headL0 r (col 0 k) k _ _ _ _ _ _ rfl).trans (closeL r (at256 t r) 0 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))))
    exact (headL1 r (col 1 k) k _ rfl).trans (closeL r (at256 t r) 1 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))
    exact (headL2 r (col 2 k) k _ rfl).trans (closeL r (at256 t r) 2 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))
    exact (headL3 r (col 3 k) k _ rfl).trans (closeL r (at256 t r) 3 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))
    exact (headL4 r (col 4 k) k _ rfl).trans (closeL r (at256 t r) 4 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_other (.inl k.isLt)).trans ((half_hit (k := k) (by rfl) (Nat.zero_add _).symm).trans ?_)))))
    exact (headL5 r (col 5 k) k _ rfl).trans (closeL r (at256 t r) 5 k (argY m c) (argGQ m c) (argWQ m c) (argWU m c) (argWP m c) _ (hx1 _) _ (hgq _) _ (hwq _) _ (hwu _))
  · refine (half_miss (by decide)).trans ((half_miss (by decide)).trans ((half_other (.inl k.isLt)).trans ((half_hit (k := k) (by rfl) (Nat.zero_add _).symm).trans ?_)))
    exact (headL6 r (col 6 k) k _ rfl).trans (closeL r (at256 t r) 6 k (argY m c) (argGQ m c) (argWQ m c) (argWU m c) (argWP m c) _ (hx1 _) _ (hgq _) _ (hwq _) _ (hwu _))
  · refine (half_other (.inl k.isLt)).trans ((half_hit (k := k) (by rfl) (Nat.zero_add _).symm).trans ?_)
    exact (headL7 r (col 7 k) k _ rfl).trans (closeL r (at256 t r) 7 k (argY m c) (argGQ m c) (argWQ m c) (argWU m c) (argWP m c) _ (hx1 _) _ (hgq _) _ (hwq _) _ (hwu _))

/-- A point's latent attention queries, the rotary half. -/
theorem pointR (t : Fin cfg0.N) (h : Fin 8) (r : Fin 256) (k : Fin 128) :
    (outsAt0 m c t).2.2.2.1 (ix3 h r ⟨128 + k.val, by omega⟩) = queryC (argY m c) (argGQ m c) (argWQ m c) (argWU m c) (argWP m c) (ix3 h (at256 t r) ⟨128 + k.val, by omega⟩) := by
  unfold outsAt0
  dsimp only
  unfold out0_A_18 kernelRun0_A
  dsimp only
  have hx1 : ∀ inb (j : Fin 1024) (n : Fin 7168) (e : n.val = 6144 + j.val),
      (ms0_1 t).view.readAt (Elt Ideal) (Rect.unit (s := S256x1024) ![0, 0] S256x1024.size inb).toLoadRect ((hs0_1 t).unread (iblk m c 1 t)) (ix2 r j) = argY m c (ix2 (at256 t r) n) :=
    fun _ j n e => (load_whole (ms0_1 t) (hs0_1 t) (iblk m c 1 t : Vec Ideal S256x1024 .f32) _ off2 _ _).trans (iblk1_apply m c t r j n e)
  have hgq : ∀ inb (l : Fin 256),
      (ms0_7 t).view.readAt (Elt Ideal) (Rect.unit (s := S1x256) ![0, 0] S1x256.size inb).toLoadRect ((hs0_7 t).unread (iblk m c 7 t)) (ix2 0 l) = argGQ m c (ix2 0 l) :=
    fun _ l => (load_whole (ms0_7 t) (hs0_7 t) (iblk m c 7 t : Vec Ideal S1x256 .f32) _ off2 _ _).trans (iblk7_apply m c t l)
  have hwq : ∀ inb (j : Fin 256) (n : Fin 768),
      (ms0_11 t).view.readAt (Elt Ideal) (Rect.unit (s := S256x768) ![0, 0] S256x768.size inb).toLoadRect ((hs0_11 t).unread (iblk m c 11 t)) (ix2 j n) = argWQ m c (ix2 j n) :=
    fun _ j n => (load_whole (ms0_11 t) (hs0_11 t) (iblk m c 11 t : Vec Ideal S256x768 .bf16) _ off2 _ _).trans (iblk11_apply m c t j n)
  have hco : ∀ inb (l : Fin 128),
      (ms0_2 t).view.readAt (Elt Ideal) (Rect.unit (s := S256x128) ![0, 0] S256x128.size inb).toLoadRect ((hs0_2 t).unread (iblk m c 2 t)) (ix2 r l) = cosHeads (ix2 (at256 t r) l) :=
    fun _ l => (load_whole (ms0_2 t) (hs0_2 t) (iblk m c 2 t : Vec Ideal S256x128 .f32) _ off2 _ _).trans (iblk2_apply m c t r l)
  have hsi : ∀ inb (l : Fin 128),
      (ms0_3 t).view.readAt (Elt Ideal) (Rect.unit (s := S256x128) ![0, 0] S256x128.size inb).toLoadRect ((hs0_3 t).unread (iblk m c 3 t)) (ix2 r l) = sinHeads (ix2 (at256 t r) l) :=
    fun _ l => (load_whole (ms0_3 t) (hs0_3 t) (iblk m c 3 t : Vec Ideal S256x128 .f32) _ off2 _ _).trans (iblk3_apply m c t r l)
  have hwp : ∀ inb (j : Fin 256) (n : Fin 1024),
      (ms0_13 t).view.readAt (Elt Ideal) (Rect.unit (s := S256x1024) ![0, 0] S256x1024.size inb).toLoadRect ((hs0_13 t).unread (iblk m c 13 t)) (ix2 j n) = argWP m c (ix2 j n) :=
    fun _ j n => (load_whole (ms0_13 t) (hs0_13 t) (iblk m c 13 t : Vec Ideal S256x1024 .bf16) _ off2 _ _).trans (iblk13_apply m c t j n)
  unfold kernelRun0_A.sl.r_15 kernelRun0_A.sl.r_14 kernelRun0_A.sl.r_13 kernelRun0_A.sl.r_12 kernelRun0_A.sl.r_11 kernelRun0_A.sl.r_10
  revert h
  refine fin8 ?_ ?_ ?_ ?_ ?_ ?_ ?_ ?_
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))))))
    exact (headR0 r (col 0 k) k _ rfl).trans (closeR r (at256 t r) 0 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))))
    exact (headR1 r (col 1 k) k _ rfl).trans (closeR r (at256 t r) 1 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))
    exact (headR2 r (col 2 k) k _ rfl).trans (closeR r (at256 t r) 2 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))
    exact (headR3 r (col 3 k) k _ rfl).trans (closeR r (at256 t r) 3 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_hit (k := k) (by rfl) (by rfl)).trans ?_))))))
    exact (headR4 r (col 4 k) k _ rfl).trans (closeR r (at256 t r) 4 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_hit (k := k) (by rfl) (by rfl)).trans ?_))))
    exact (headR5 r (col 5 k) k _ rfl).trans (closeR r (at256 t r) 5 k (argY m c) (argGQ m c) (argWQ m c) (argWU m c) (argWP m c) _ (hx1 _) _ (hgq _) _ (hwq _)
      _ _ (hco _) (hsi _) _ (hwp _))
  · refine (half_miss (by decide)).trans ((half_miss (by decide)).trans ((half_hit (k := k) (by rfl) (by rfl)).trans ?_))
    exact (headR6 r (col 6 k) k _ rfl).trans (closeR r (at256 t r) 6 k (argY m c) (argGQ m c) (argWQ m c) (argWU m c) (argWP m c) _ (hx1 _) _ (hgq _) _ (hwq _)
      _ _ (hco _) (hsi _) _ (hwp _))
  · refine (half_hit (k := k) (by rfl) (by rfl)).trans ?_
    exact (headR7 r (col 7 k) k _ rfl).trans (closeR r (at256 t r) 7 k (argY m c) (argGQ m c) (argWQ m c) (argWU m c) (argWP m c) _ (hx1 _) _ (hgq _) _ (hwq _)
      _ _ (hco _) (hsi _) _ (hwp _))

theorem pointC (t : Fin cfg0.N) (h : Fin 8) (r : Fin 256) (j : Fin 256) :
    (outsAt0 m c t).2.2.2.1 (ix3 h r j) = queryC (argY m c) (argGQ m c) (argWQ m c) (argWU m c) (argWP m c) (ix3 h (at256 t r) j) := by
  by_cases e : j.val < 128
  · exact pointL m c t h r ⟨j.val, e⟩
  · obtain ⟨k, rfl⟩ : ∃ k : Fin 128, j = ⟨128 + k.val, off_lt (by decide) k⟩ := fin_off (by decide) j (by omega) (by omega)
    exact pointR m c t h r k

theorem arrayA : (dats m 0 c).arrAt 15 cfg0.N = queryA (argY m c) (argSA m c) (argQB m c) := by
  refine (dats m 0 c).arrAt_eq_of_covers 15 _ (by decide +kernel) fun t hf y => ?_
  blk_simp
  rw [after0_15]
  have ey : y = ix3 (y 0) (y 1) (y 2) := funext fun a => by match a with | ⟨0, _⟩ => rfl | ⟨1, _⟩ => rfl | ⟨2, _⟩ => rfl
  refine (congrArg (outsAt0 m c t).1 ey).trans ((pointA m c t (y 0) (y 1) (y 2)).trans ?_)
  refine congrArg (queryA (argY m c) (argSA m c) (argQB m c)) ?_
  blk_ext [index15, at256]

theorem arrayI : (dats m 0 c).arrAt 16 cfg0.N = queryI (argY m c) (argSA m c) := by
  refine (dats m 0 c).arrAt_eq_of_covers 16 _ (by decide +kernel) fun t hf y => ?_
  blk_simp
  rw [after0_16]
  have ey : y = ix3 (y 0) (y 1) (y 2) := funext fun a => by match a with | ⟨0, _⟩ => rfl | ⟨1, _⟩ => rfl | ⟨2, _⟩ => rfl
  refine (congrArg (outsAt0 m c t).2.1 ey).trans ((pointI m c t (y 0) (y 1) (y 2)).trans ?_)
  refine congrArg (queryI (argY m c) (argSA m c)) ?_
  blk_ext [index16, at256]

theorem arrayB : (dats m 0 c).arrAt 17 cfg0.N = queryB (argY m c) (argSB m c) := by
  refine (dats m 0 c).arrAt_eq_of_covers 17 _ (by decide +kernel) fun t hf y => ?_
  blk_simp
  rw [after0_17]
  have ey : y = ix3 (y 0) (y 1) (y 2) := funext fun a => by match a with | ⟨0, _⟩ => rfl | ⟨1, _⟩ => rfl | ⟨2, _⟩ => rfl
  refine (congrArg (outsAt0 m c t).2.2.1 ey).trans ((pointB m c t (y 0) (y 1) (y 2)).trans ?_)
  refine congrArg (queryB (argY m c) (argSB m c)) ?_
  blk_ext [index17, at256]

theorem arrayC : (dats m 0 c).arrAt 18 cfg0.N = queryC (argY m c) (argGQ m c) (argWQ m c) (argWU m c) (argWP m c) := by
  refine (dats m 0 c).arrAt_eq_of_covers 18 _ (by decide +kernel) fun t hf y => ?_
  blk_simp
  rw [after0_18]
  have ey : y = ix3 (y 0) (y 1) (y 2) := funext fun a => by match a with | ⟨0, _⟩ => rfl | ⟨1, _⟩ => rfl | ⟨2, _⟩ => rfl
  refine (congrArg (outsAt0 m c t).2.2.2.1 ey).trans ((pointC m c t (y 0) (y 1) (y 2)).trans ?_)
  refine congrArg (queryC (argY m c) (argGQ m c) (argWQ m c) (argWU m c) (argWP m c)) ?_
  blk_ext [index18, at256]

end Cert.Post

end
-- ==== Proof.PostEqual.lean ====
/- The projections' kernel and its reference reach the same six results. -/
module

public import proofs.«01_k».proof.Proof.KeysOut
public import proofs.«01_k».proof.Proof.QueryOut

@[expose] public section

noncomputable section

namespace Cert.Post

open Idealize.ShloMosaic Idealize.ShloMosaic.TcCoe Idealize.SL.Sem Cert.Kernel5Ideal Cert.Kernel5Ideal.Gen Cert.StateRef

attribute [local instance] Cert.Kernel5Ideal.Gen.facts Cert.Reference5Ideal.Gen.facts

/-- The two programs' results are equal. -/
theorem algebraic : Cert.algebraic_Kernel5Ideal_Reference5Ideal := by
  intro m g m' g' _ hargs
  refine ⟨fun c => queryA (argY m c) (argSA m c) (argQB m c), fun c => queryI (argY m c) (argSA m c), fun c => queryB (argY m c) (argSB m c),
    fun c => queryC (argY m c) (argGQ m c) (argWQ m c) (argWU m c) (argWP m c), fun c => state (argY m c) (argB m c) (argG m c),
    fun c => keys (argY m c) (argB m c) (argG m c), ?_, ?_⟩
  · exact (θ_run _ _ _).mono (fun r h c => ⟨(h c).1.trans (arrayA m c), (h c).2.1.trans (arrayI m c), (h c).2.2.1.trans (arrayB m c), (h c).2.2.2.1.trans (arrayC m c),
      (h c).2.2.2.2.1.trans (array_eq m c), (h c).2.2.2.2.2.1.trans (keys_array m c), (h c).2.2.2.2.2.2⟩) (Cert.Kernel5Ideal.Value.run_blocks m g)
  · refine (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference5Ideal.Value.run (F := Ideal) m' g') <;>
      obtain ⟨e0, e1, e2, e3, e4, e5, e6, e7, e8, e9⟩ := hargs c
    · rw [e0, e4, e9]
      rfl
    · rw [e0, e4]
      rfl
    · rw [e0, e5]
      rfl
    · rw [queryC_res, e0, e2, e6, e7, e8]
    · rw [res_eq, e0, e1, e3]
    · rw [keys_res, e0, e1, e3]

end Cert.Post

end
-- ==== Proof.SampleStateRef.lean ====
/- The sample's state rows' reference as the state rows' arithmetic of one row. -/
module

public import proofs.«01_k».proof.Proof.Gen.Reference6Ideal
public import proofs.«01_k».proof.Proof.Gen.Reference6Ideal.Run
public import proofs.«01_k».proof.Proof.StateRef

@[expose] public section

noncomputable section

namespace Cert.SampleStateRef

open Idealize.ShloMosaic Idealize.ShloMosaic.TcCoe Idealize.SL.Sem Cert.Reference6Ideal Cert.Reference6Ideal.Gen
open Cert.StateRef (logSig rms)
open scoped BigOperators

attribute [local instance] Cert.Reference6Ideal.Gen.facts

/-- The rotary angles: the one position times the pair's frequency. -/
def angles : FVec Ideal S1x16 .f32 :=
  mulf (broadcastInDim S1x16 ![0, 1] bcast_S1x1_S1x16_0_1 (broadcastInDim S1x1 ![0] bcast_S1_S1x1_0
      (sitofp .f32 (addi (broadcastInDim S1 ![] bcast_S_S1 (constantI S_ 32 16384#32)) (iotaInDim S1 32 0)))))
    (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32)))))

/-- A row of factors, for every row. -/
def spread (u : FVec Ideal S1x16 .f32) : FVec Ideal S128x16 .f32 := broadcastInDim S128x16 ![0, 1] bcast_S1x16_S128x16_0_1 u

/-- The rotary key's two halves, before the rotation. -/
def half0 (y : FVec Ideal S128x7168 .f32) : FVec Ideal S128x16 .f32 :=
  extractStridedSlice S128x16 ![0, 0] (extractStridedSlice S128x32 ![0, 6592] y slices_S128x7168_S128x32_0_6592) slices_S128x32_S128x16_0_0

def half1 (y : FVec Ideal S128x7168 .f32) : FVec Ideal S128x16 .f32 :=
  extractStridedSlice S128x16 ![0, 16] (extractStridedSlice S128x32 ![0, 6592] y slices_S128x7168_S128x32_0_6592) slices_S128x32_S128x16_0_16

/-- The rotary key. -/
def roped (y : FVec Ideal S128x7168 .f32) : FVec Ideal S128x32 .f32 :=
  concatenate S128x32 1 [⟨S128x16, subf (mulf (half0 y) (spread (Host.cos angles))) (mulf (half1 y) (spread (Host.sin angles)))⟩,
    ⟨S128x16, addf (mulf (half0 y) (spread (Host.sin angles))) (mulf (half1 y) (spread (Host.cos angles)))⟩] concatenates_S128x16_S128x16_S128x32_d1

/-- The forget gates' inputs with their bias, negated. -/
def forgetIn (y : FVec Ideal S128x7168 .f32) (b : FVec Ideal S8 .f32) : FVec Ideal S128x8 .f32 :=
  Host.negf (addf (extractStridedSlice S128x8 ![0, 6624] y slices_S128x7168_S128x8_0_6624)
    (broadcastInDim S128x8 ![0, 1] bcast_S1x8_S128x8_0_1 (broadcastInDim S1x8 ![1] bcast_S8_S1x8_1 b)))

/-- The forget gates' logs. -/
def logs (v : FVec Ideal S128x8 .f32) : FVec Ideal S128x8 .f32 :=
  Host.negf (select
    (cmpf .une (subf v (broadcastInDim S128x8 ![] bcast_S_S128x8 (constant S_ .f32 0x00000000#32)))
      (subf v (broadcastInDim S128x8 ![] bcast_S_S128x8 (constant S_ .f32 0x00000000#32))))
    (addf v (broadcastInDim S128x8 ![] bcast_S_S128x8 (constant S_ .f32 0x00000000#32)))
    (addf (maximumf v (broadcastInDim S128x8 ![] bcast_S_S128x8 (constant S_ .f32 0x00000000#32)))
      (Host.log1p (Host.exp (Host.negf (Host.absf (subf v (broadcastInDim S128x8 ![] bcast_S_S128x8 (constant S_ .f32 0x00000000#32)))))))))

/-- The normalised latent of the keys and values. -/
def latent (u : FVec Ideal S128x128 .f32) (g : FVec Ideal S1x128 .f32) : FVec Ideal S128x128 .f32 :=
  mulf (mulf u (broadcastInDim S128x128 ![0, 1] bcast_S128x1_S128x128_0_1
      (Host.rsqrt (addf (Host.divf (broadcastInDim S128x1 ![0] bcast_S128_S128x1_0
          (Host.reduceAdd (mulf u u) (constant S_ .f32 0x00000000#32) reducesTo_S128x128_S128_d1 h_S_))
        (broadcastInDim S128x1 ![] bcast_S_S128x1 (constant S_ .f32 0x43000000#32)))
        (broadcastInDim S128x1 ![] bcast_S_S128x1 (constant S_ .f32 0x358637BD#32))))))
    (broadcastInDim S128x128 ![0, 1] bcast_S1x128_S128x128_0_1 g)

/-- The state rows. -/
def state (y : FVec Ideal S128x7168 .f32) (b : FVec Ideal S8 .f32) (g : FVec Ideal S1x128 .f32) : FVec Ideal S128x640 .f32 :=
  concatenate S128x640 1 [⟨S128x128, extractStridedSlice S128x128 ![0, 6400] y slices_S128x7168_S128x128_0_6400⟩,
    ⟨S128x64, extractStridedSlice S128x64 ![0, 6528] y slices_S128x7168_S128x64_0_6528⟩, ⟨S128x32, roped y⟩, ⟨S128x8, logs (forgetIn y b)⟩,
    ⟨S128x24, extractStridedSlice S128x24 ![0, 6632] y slices_S128x7168_S128x24_0_6632⟩,
    ⟨S128x256, extractStridedSlice S128x256 ![0, 6656] y slices_S128x7168_S128x256_0_6656⟩,
    ⟨S128x128, latent (extractStridedSlice S128x128 ![0, 6912] y slices_S128x7168_S128x128_0_6912) g⟩]
    concatenates_S128x128_S128x64_S128x32_S128x8_S128x24_S128x256_S128x128_S128x640_d1

theorem res_eq (m : (ℓ : Loc nD τ sig) → Buf (Elt Ideal) ℓ) (c : Dev nD) :
    Cert.Reference6Ideal.Value.res_main_v52 m c
      = state (m ((c.tc : Thread nD τ).loc main_arg0)) (m ((c.tc : Thread nD τ).loc main_arg1)) (m ((c.tc : Thread nD τ).loc main_arg3)) := by
  unfold Cert.Reference6Ideal.Value.res_main_v52
  rfl

variable (y : FVec Ideal S128x7168 .f32) (b : FVec Ideal S8 .f32) (g : FVec Ideal S1x128 .f32) (t : Fin 128)

theorem state_kv (k : Fin 128) : state y b g (ix2 t ⟨k.val, by omega⟩) = y (ix2 t ⟨6400 + k.val, by omega⟩) := by
  pointwise [state]

theorem state_kidx (k : Fin 64) : state y b g (ix2 t ⟨128 + k.val, by omega⟩) = y (ix2 t ⟨6528 + k.val, by omega⟩) := by
  pointwise [state]

theorem roped_lo (k : Fin 16) : roped y (ix2 t ⟨k.val, by omega⟩)
    = y (ix2 t ⟨6592 + k.val, by omega⟩) * Ideal.cos (angles (ix2 0 k)) - y (ix2 t ⟨6608 + k.val, by omega⟩) * Ideal.sin (angles (ix2 0 k)) := by
  pointwise [roped, half0, half1, spread]
  exact congrArg₂ (· - ·) rfl (congrArg (fun e => y (ix2 t e) * Ideal.sin (angles (ix2 0 k))) (Fin.ext (by dsimp only; omega)))

theorem roped_hi (k : Fin 16) : roped y (ix2 t ⟨16 + k.val, by omega⟩)
    = y (ix2 t ⟨6592 + k.val, by omega⟩) * Ideal.sin (angles (ix2 0 k)) + y (ix2 t ⟨6608 + k.val, by omega⟩) * Ideal.cos (angles (ix2 0 k)) := by
  pointwise [roped, half0, half1, spread]
  exact congrArg₂ (· + ·) rfl (congrArg (fun e => y (ix2 t e) * Ideal.cos (angles (ix2 0 k))) (Fin.ext (by dsimp only; omega)))

theorem state_rope (k : Fin 32) : state y b g (ix2 t ⟨192 + k.val, by omega⟩) = roped y (ix2 t k) := by
  pointwise [state]
  rw [dif_neg (by omega), dif_neg (by omega), dif_pos (by omega)]
  exact congrArg (fun e => roped y (ix2 t e)) (Fin.ext (by dsimp only; omega))

theorem logs_apply (v : FVec Ideal S128x8 .f32) (k : Fin 8) :
    logs v (ix2 t k) = -(max (v (ix2 t k)) 0 + Ideal.log1p (Ideal.exp (-FloatOps.absf (F := Ideal) (φ := .f32) (v (ix2 t k))))) := by
  pointwise [logs]
  rw [if_neg (not_not.2 rfl)]

theorem state_log (k : Fin 8) : state y b g (ix2 t ⟨224 + k.val, by omega⟩) = logSig (y (ix2 t ⟨6624 + k.val, by omega⟩) + b (ix1 k)) := by
  have e : forgetIn y b (ix2 t k) = -(y (ix2 t ⟨6624 + k.val, by omega⟩) + b (ix1 k)) := by
    pointwise [forgetIn]
  unfold logSig
  rw [← e, ← logs_apply]
  pointwise [state]
  rw [dif_neg (by omega), dif_neg (by omega), dif_neg (by omega), dif_pos (by omega)]
  exact congrArg (fun e => logs (forgetIn y b) (ix2 t e)) (Fin.ext (by dsimp only; omega))

theorem state_rest (k : Fin 24) : state y b g (ix2 t ⟨232 + k.val, by omega⟩) = y (ix2 t ⟨6632 + k.val, by omega⟩) := by
  pointwise [state]
  rw [dif_neg (by omega), dif_neg (by omega), dif_neg (by omega), dif_neg (by omega), dif_pos (by omega)]
  exact congrArg (fun e => y (ix2 t e)) (Fin.ext (by dsimp only; omega))

theorem state_fox (k : Fin 256) : state y b g (ix2 t ⟨256 + k.val, by omega⟩) = y (ix2 t ⟨6656 + k.val, by omega⟩) := by
  pointwise [state]
  rw [dif_neg (by omega), dif_neg (by omega), dif_neg (by omega), dif_neg (by omega), dif_neg (by omega), dif_pos (by omega)]
  exact congrArg (fun e => y (ix2 t e)) (Fin.ext (by dsimp only; omega))

theorem latent_apply (u : FVec Ideal S128x128 .f32) (k : Fin 128) : latent u g (ix2 t k) = rms (fun x => u (ix2 t x)) (fun x => g (ix2 0 x)) k := by
  unfold rms
  pointwise [latent]

theorem state_latent (k : Fin 128) : state y b g (ix2 t ⟨512 + k.val, by omega⟩)
    = rms (fun x => y (ix2 t ⟨6912 + x.val, by omega⟩)) (fun x => g (ix2 0 x)) k := by
  have e : (fun x : Fin 128 => y (ix2 t ⟨6912 + x.val, by omega⟩))
      = fun x => extractStridedSlice S128x128 ![0, 6912] y slices_S128x7168_S128x128_0_6912 (ix2 t x) := by
    funext x
    pointwise []
  rw [e, ← latent_apply]
  pointwise [state]
  rw [dif_neg (by omega), dif_neg (by omega), dif_neg (by omega), dif_neg (by omega), dif_neg (by omega), dif_neg (by omega)]
  exact congrArg (fun e => latent _ g (ix2 t e)) (Fin.ext (by dsimp only; omega))

end Cert.SampleStateRef

end
-- ==== Proof.SampleStateOut.lean ====
/- The sample's state rows that the kernel leaves. -/
module

public import proofs.«01_k».proof.Defs
public import proofs.«01_k».proof.Proof.SampleStateRef
public import proofs.«01_k».proof.Proof.Gen.Kernel6Ideal.Value
import all proofs.«01_k».proof.Proof.Gen.Kernel6Ideal.Frame
import all proofs.«01_k».proof.Proof.Gen.Kernel6Ideal.Frame.RunA
public import Idealize.ShloMosaic.Lib.WritesUnit
public import Idealize.ShloMosaic.Lib.WholeRead
public import Idealize.ShloMosaic.Lib.Pipeline.ValueKit
public import Idealize.ShloMosaic.Lib.StableHlo.RunRead
public import Idealize.ShloMosaic.Lib.Routing.OpsSet

@[expose] public section

noncomputable section

namespace Cert.SamplePost

open Idealize.ShloMosaic Idealize.ShloMosaic.TcCoe Idealize.SL.Sem Cert.Kernel6Ideal Cert.Kernel6Ideal.Gen Cert.SampleStateRef
open Cert.StateRef (logSig rms logSig_eq)
open scoped BigOperators

attribute [local instance] Cert.Kernel6Ideal.Gen.facts Cert.Reference6Ideal.Gen.facts

theorem off_lt {n N o : ℕ} (hN : o + n ≤ N) (k : Fin n) : o + k.val < N := by omega

theorem fin_off {n N o : ℕ} (hN : o + n ≤ N) (k : Fin N) (h : o ≤ k.val) (h' : k.val < o + n) :
    ∃ k' : Fin n, k = ⟨o + k'.val, off_lt hN k'⟩ := ⟨⟨k.val - o, by omega⟩, Fin.ext (by dsimp only; omega)⟩

section

variable (r : Fin 128) (T : Fin 128) (y : FVec Ideal S128x7168 .f32) (b : FVec Ideal S8 .f32) (g : FVec Ideal S1x128 .f32)
  (x : Vec Ideal S128x1024 .f32) (hx : ∀ (j : Fin 1024) (n : Fin 7168), n.val = 6144 + j.val → x (ix2 r j) = y (ix2 T n))

theorem slt80 (k : Fin 128) : IntOp.cmpi .slt (BitVec.ofNat 32 k.val) 80#32 = if k.val < 80 then 1#1 else 0#1 := by
  revert k
  decide

theorem log_lane (k : Fin 128) : IntOp.andi (IntOp.cmpi .sge (BitVec.ofNat 32 k.val) 96#32) (IntOp.cmpi .slt (BitVec.ofNat 32 k.val) 104#32)
    = if 96 ≤ k.val ∧ k.val < 104 then 1#1 else 0#1 := by
  revert k
  decide

include hx

theorem pay61_at (k : Fin 128) : k0_pay61 x (ix2 r k) = y (ix2 T ⟨6400 + k.val, by omega⟩) := by
  rw [← hx ⟨256 + k.val, by omega⟩ _ (by dsimp only; omega)]
  pointwise [k0_pay61]

theorem pay62_at (k : Fin 128) : k0_pay62 x (ix2 r k) = y (ix2 T ⟨6528 + k.val, by omega⟩) := by
  rw [← hx ⟨384 + k.val, by omega⟩ _ (by dsimp only; omega)]
  pointwise [k0_pay62]

theorem pay63_at (k : Fin 128) : k0_pay63 x (ix2 r k) = y (ix2 T ⟨6656 + k.val, by omega⟩) := by
  rw [← hx ⟨512 + k.val, by omega⟩ _ (by dsimp only; omega)]
  pointwise [k0_pay63]

theorem pay64_at (k : Fin 128) : k0_pay64 x (ix2 r k) = y (ix2 T ⟨6784 + k.val, by omega⟩) := by
  rw [← hx ⟨640 + k.val, by omega⟩ _ (by dsimp only; omega)]
  pointwise [k0_pay64]

theorem pay65_at (a : Vec Ideal S1x128 .f32) (ha : ∀ l, a (ix2 0 l) = g (ix2 0 l)) (k : Fin 128) :
    k0_pay65 x a (ix2 r k) = rms (fun l => y (ix2 T ⟨6912 + l.val, by omega⟩)) (fun l => g (ix2 0 l)) k := by
  have e : (fun l : Fin 128 => y (ix2 T ⟨6912 + l.val, by omega⟩)) = fun l : Fin 128 => x (ix2 r ⟨768 + l.val, by omega⟩) :=
    funext fun l => (hx _ _ (by dsimp only; omega)).symm
  have ea : (fun l : Fin 128 => g (ix2 0 l)) = fun l => a (ix2 0 l) := funext fun l => (ha l).symm
  rw [e, ea]
  unfold rms
  pointwise [k0_pay65]

/-- The rotated lane. -/
theorem pay66_at (co si : Vec Ideal S128x128 .f32) (k : Fin 128) :
    k0_pay66 x co si (ix2 r k)
      = y (ix2 T ⟨6528 + k.val, by omega⟩) * co (ix2 r k)
        + (if k.val < 80 then y (ix2 T ⟨6528 + (k.val + 16) % 128, by omega⟩) else y (ix2 T ⟨6528 + (k.val + 112) % 128, by omega⟩)) * si (ix2 r k) := by
  pointwise [k0_pay66]
  rw [pay62_at r T y x hx, pay62_at r T y x hx, pay62_at r T y x hx, slt80]
  by_cases h : k.val < 80
  · rw [if_pos h, if_pos h]
    rfl
  · rw [if_neg h, if_neg h]
    rfl

theorem pay67_log (v : FVec Ideal S128x128 .f32) (w : Vec Ideal S1x128 .f32) (k : Fin 8)
    (hw : w (ix2 0 ⟨96 + k.val, by omega⟩) = b (ix1 k)) :
    k0_pay67 (k0_pay62 x) (iota .tc S128x128 32 [1] iota_S128x128_d1_w32) v w (ix2 r ⟨96 + k.val, by omega⟩)
      = logSig (y (ix2 T ⟨6624 + k.val, by omega⟩) + b (ix1 k)) := by
  have e : y (ix2 T ⟨6624 + k.val, by omega⟩) = k0_pay62 x (ix2 r ⟨96 + k.val, by omega⟩) := by
    rw [pay62_at r T y x hx]
    exact congrArg (fun n => y (ix2 T n)) (Fin.ext (by dsimp only; omega))
  rw [logSig_eq, e, ← hw]
  pointwise [k0_pay67]
  rw [log_lane ⟨96 + k.val, by omega⟩, if_pos (by dsimp only; omega)]
  show min _ _ - Ideal.log1p (Ideal.exp (0 - _)) = _
  rw [zero_sub]

omit hx

theorem pay67_rest (u v : FVec Ideal S128x128 .f32) (w : Vec Ideal S1x128 .f32) (k : Fin 128) (hk : ¬(96 ≤ k.val ∧ k.val < 104)) :
    k0_pay67 u (iota .tc S128x128 32 [1] iota_S128x128_d1_w32) v w (ix2 r k) = v (ix2 r k) := by
  pointwise [k0_pay67]
  rw [log_lane, if_neg hk]
  rfl

end

/-- A table of the rotation: lanes 64 to 95 carry the two halves' factors. -/
def table (a : FVec Ideal S128x64 .f32) (u v : FVec Ideal S128x16 .f32) (d : FVec Ideal S128x32 .f32) : FVec Ideal S128x128 .f32 :=
  concatenate S128x128 1 [⟨S128x64, a⟩, ⟨S128x16, u⟩, ⟨S128x16, v⟩, ⟨S128x32, d⟩]
    concatenates_S128x64_S128x16_S128x16_S128x32_S128x128_d1

/-- Where the bias goes. -/
def place (a u : IVec S1 32) : IVec S2 32 := concatenate S2 0 [⟨S1, a⟩, ⟨S1, u⟩] concatenates_S1_S1_S2_d0

theorem table_congr {a a' : FVec Ideal S128x64 .f32} {u u' v v' : FVec Ideal S128x16 .f32} {d d' : FVec Ideal S128x32 .f32}
    (ha : a = a') (hu : u = u') (hv : v = v') (hd : d = d') : table a u v d = table a' u' v' d' := by
  rw [ha, hu, hv, hd]

variable (m : (ℓ : Loc nD τ sig) → Buf (Elt Ideal) ℓ) (c : Dev nD)

/-- The angles, for every row. -/
def turns : FVec Ideal S128x16 .f32 :=
  mulf (broadcastInDim S128x16 ![0, 1] bcast_S128x1_S128x16_0_1 (broadcastInDim S128x1 ![0] bcast_S128_S128x1_0
      (sitofp .f32 (broadcastInDim S128 ![] bcast_S_S128 (constantI S_ 32 16384#32)))))
    (broadcastInDim S128x16 ![0, 1] bcast_S1x16_S128x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem turns_apply (t : Fin 128) (k : Fin 16) : turns (ix2 t k) = angles (ix2 0 k) := by
  pointwise [turns, angles]
  rfl

/-- The cosines' table. -/
def cosTable : FVec Ideal S128x128 .f32 :=
  table (broadcastInDim S128x64 ![] bcast_S_S128x64 (constant S_ .f32 0x3F800000#32)) (Host.cos turns) (Host.cos turns)
    (broadcastInDim S128x32 ![] bcast_S_S128x32 (constant S_ .f32 0x3F800000#32))

/-- The sines' table. -/
def sinTable : FVec Ideal S128x128 .f32 :=
  table (broadcastInDim S128x64 ![] bcast_S_S128x64 (constant S_ .f32 0x00000000#32)) (Host.negf (Host.sin turns)) (Host.sin turns)
    (broadcastInDim S128x32 ![] bcast_S_S128x32 (constant S_ .f32 0x00000000#32))

/-- The row that holds the bias. -/
def biasRow (b : FVec Ideal S8 .f32) : FVec Ideal S1x128 .f32 :=
  Host.scatter scatter_S1x128_S2_S8_0_0_01_0 (fun _ u => u) (broadcastInDim S1x128 ![] bcast_S_S1x128 (constant (F := Ideal) S_ .f32 0x00000000#32))
    (place (broadcastInDim S1 ![] bcast_S_S1 (constantI S_ 32 0#32)) (broadcastInDim S1 ![] bcast_S_S1 (constantI S_ 32 96#32))) b

theorem cosine_eq : V m c main_v28 = cosTable := by
  unfold V hostOps0
  after_reads_simp
  refine table_congr ?_ ?_ ?_ ?_ <;> dsimp only [Matrix.cons_val] <;> after_reads_simp <;> rfl

theorem sine_eq : V m c main_v32 = sinTable := by
  unfold V hostOps0
  after_reads_simp
  refine table_congr ?_ ?_ ?_ ?_ <;> dsimp only [Matrix.cons_val] <;> after_reads_simp <;> rfl

theorem bias_eq : V m c main_v4 = biasRow (m ((c : Thread nD τ).loc main_arg1)) := by
  unfold V hostOps0
  after_reads_simp
  refine congrArg (fun i => Host.scatter scatter_S1x128_S2_S8_0_0_01_0 (fun _ u => u)
    (broadcastInDim S1x128 ![] bcast_S_S1x128 (constant (F := Ideal) S_ .f32 0x00000000#32)) i (m ((c : Thread nD τ).loc main_arg1))) ?_
  refine congrArg₂ place ?_ ?_
  · after_reads_simp
  · after_reads_simp

theorem place_lands (k : Fin 8) : scatter_S1x128_S2_S8_0_0_01_0.resultIdx? (ix1 k)
    (place (broadcastInDim S1 ![] bcast_S_S1 (constantI S_ 32 0#32)) (broadcastInDim S1 ![] bcast_S_S1 (constantI S_ 32 96#32)))
      = some (ix2 0 ⟨96 + k.val, by omega⟩) := by
  revert k
  decide +kernel

theorem biasRow_apply (b : FVec Ideal S8 .f32) (k : Fin 8) : biasRow b (ix2 0 ⟨96 + k.val, by omega⟩) = b (ix1 k) := by
  unfold biasRow
  refine Routing.scatter_set_hit _ _ _ _ _ _ (fun q hq => ?_) (ix1 k) (place_lands k)
  obtain ⟨k', rfl⟩ : ∃ k' : Fin 8, q = ix1 k' := ⟨q 0, funext fun a => by match a with | ⟨0, _⟩ => rfl⟩
  have h := congrArg (fun i : S1x128.Idx => (i 1).val) (Option.some.inj ((place_lands k').symm.trans hq))
  have h' : 96 + k'.val = 96 + k.val := h
  exact congrArg (fun e => b (ix1 e)) (Fin.ext (by omega))

theorem cosTable_out (t : Fin 128) (l : Fin 128) (hl : l.val < 64 ∨ 96 ≤ l.val) : cosTable (ix2 t l) = 1 := by
  pointwise [cosTable, table]
  rcases hl with h | h
  · rw [dif_pos h]
  · rw [dif_neg (by omega), dif_neg (by omega), dif_neg (by omega)]

theorem sinTable_out (t : Fin 128) (l : Fin 128) (hl : l.val < 64 ∨ 96 ≤ l.val) : sinTable (ix2 t l) = 0 := by
  pointwise [sinTable, table]
  rcases hl with h | h
  · rw [dif_pos h]
  · rw [dif_neg (by omega), dif_neg (by omega), dif_neg (by omega)]

theorem cosTable_lo (t : Fin 128) (k : Fin 16) : cosTable (ix2 t ⟨64 + k.val, by omega⟩) = Ideal.cos (angles (ix2 0 k)) := by
  rw [← turns_apply t k]
  pointwise [cosTable, table]

theorem cosTable_hi (t : Fin 128) (k : Fin 16) : cosTable (ix2 t ⟨80 + k.val, by omega⟩) = Ideal.cos (angles (ix2 0 k)) := by
  rw [← turns_apply t k]
  pointwise [cosTable, table]
  rw [dif_neg (by omega), dif_neg (by omega), dif_pos (by omega)]
  exact congrArg (fun e => Ideal.cos (turns (ix2 t e))) (Fin.ext (by dsimp only; omega))

theorem sinTable_lo (t : Fin 128) (k : Fin 16) : sinTable (ix2 t ⟨64 + k.val, by omega⟩) = -Ideal.sin (angles (ix2 0 k)) := by
  rw [← turns_apply t k]
  pointwise [sinTable, table]

theorem sinTable_hi (t : Fin 128) (k : Fin 16) : sinTable (ix2 t ⟨80 + k.val, by omega⟩) = Ideal.sin (angles (ix2 0 k)) := by
  rw [← turns_apply t k]
  pointwise [sinTable, table]
  rw [dif_neg (by omega), dif_neg (by omega), dif_pos (by omega)]
  exact congrArg (fun e => Ideal.sin (turns (ix2 t e))) (Fin.ext (by dsimp only; omega))

section

variable (r : Fin 128) (T : Fin 128) (y : FVec Ideal S128x7168 .f32) (b : FVec Ideal S8 .f32) (g : FVec Ideal S1x128 .f32)
  (x : Vec Ideal S128x1024 .f32) (hx : ∀ (j : Fin 1024) (n : Fin 7168), n.val = 6144 + j.val → x (ix2 r j) = y (ix2 T n))
  (co si : Vec Ideal S128x128 .f32) (hco : ∀ l, co (ix2 r l) = cosTable (ix2 T l)) (hsi : ∀ l, si (ix2 r l) = sinTable (ix2 T l))
  (w : Vec Ideal S1x128 .f32) (hw : ∀ l, w (ix2 0 l) = biasRow b (ix2 0 l))

include hx hco hsi

theorem rope_out (k : Fin 128) (hk : k.val < 64 ∨ 96 ≤ k.val) : k0_pay66 x co si (ix2 r k) = y (ix2 T ⟨6528 + k.val, by omega⟩) := by
  rw [pay66_at r T y x hx, hco, hsi, cosTable_out T k hk, sinTable_out T k hk, mul_one, mul_zero, add_zero]

theorem rope_in (k : Fin 32) : k0_pay66 x co si (ix2 r ⟨64 + k.val, by omega⟩) = roped y (ix2 T k) := by
  rw [pay66_at r T y x hx, hco, hsi]
  rcases Nat.lt_or_ge k.val 16 with h | h
  · obtain ⟨k', rfl⟩ : ∃ k' : Fin 16, k = ⟨k'.val, k'.isLt.trans (by decide)⟩ := ⟨⟨k.val, h⟩, rfl⟩
    rw [roped_lo, cosTable_lo, sinTable_lo, if_pos (by dsimp only; omega), mul_neg, ← sub_eq_add_neg]
    refine congrArg₂ (· - ·) (congrArg (fun n => y (ix2 T n) * Ideal.cos (angles (ix2 0 k'))) (Fin.ext (by dsimp only; omega)))
      (congrArg (fun n => y (ix2 T n) * Ideal.sin (angles (ix2 0 k'))) (Fin.ext (by dsimp only; omega)))
  · obtain ⟨k', rfl⟩ : ∃ k' : Fin 16, k = ⟨16 + k'.val, off_lt (by decide) k'⟩ := fin_off (by decide) k (by omega) (by omega)
    have e : (⟨64 + (⟨16 + k'.val, by omega⟩ : Fin 32).val, by dsimp only; omega⟩ : Fin 128) = ⟨80 + k'.val, by omega⟩ := Fin.ext (by dsimp only; omega)
    rw [roped_hi, e, cosTable_hi, sinTable_hi, if_neg (by dsimp only; omega), add_comm]
    refine congrArg₂ (· + ·) (congrArg (fun n => y (ix2 T n) * Ideal.sin (angles (ix2 0 k'))) (Fin.ext (by dsimp only; omega)))
      (congrArg (fun n => y (ix2 T n) * Ideal.cos (angles (ix2 0 k'))) (Fin.ext (by dsimp only; omega)))

include hw

/-- The second group of lanes. -/
theorem lanes1 (k : Fin 128) : k0_pay67 (k0_pay62 x) (iota .tc S128x128 32 [1] iota_S128x128_d1_w32) (k0_pay66 x co si) w (ix2 r k)
    = state y b g (ix2 T ⟨128 + k.val, by omega⟩) := by
  by_cases h1 : k.val < 64
  · rw [pay67_rest _ _ _ _ _ (by omega), rope_out r T y x hx co si hco hsi k (.inl h1)]
    exact (state_kidx y b g T ⟨k.val, h1⟩).symm
  by_cases h2 : k.val < 96
  · obtain ⟨k', rfl⟩ : ∃ k' : Fin 32, k = ⟨64 + k'.val, off_lt (by decide) k'⟩ := fin_off (by decide) k (by omega) (by omega)
    rw [pay67_rest _ _ _ _ _ (by dsimp only; omega), rope_in r T y x hx co si hco hsi k', ← state_rope y b g T k']
    exact congrArg (fun n => state y b g (ix2 T n)) (Fin.ext (by dsimp only; omega))
  by_cases h3 : k.val < 104
  · obtain ⟨k', rfl⟩ : ∃ k' : Fin 8, k = ⟨96 + k'.val, off_lt (by decide) k'⟩ := fin_off (by decide) k (by omega) (by omega)
    rw [pay67_log r T y b x hx _ w k' ((hw _).trans (biasRow_apply b k')), ← state_log y b g T k']
    exact congrArg (fun n => state y b g (ix2 T n)) (Fin.ext (by dsimp only; omega))
  · obtain ⟨k', rfl⟩ : ∃ k' : Fin 24, k = ⟨104 + k'.val, off_lt (by decide) k'⟩ := fin_off (by decide) k (by omega) (by omega)
    rw [pay67_rest _ _ _ _ _ (by dsimp only; omega), rope_out r T y x hx co si hco hsi _ (.inr (by dsimp only; omega))]
    have e := state_rest y b g T k'
    refine (congrArg (fun n => y (ix2 T n)) (Fin.ext (by dsimp only; omega))).trans (e.symm.trans ?_)
    exact congrArg (fun n => state y b g (ix2 T n)) (Fin.ext (by dsimp only; omega))

end

section

variable (r : Fin 128)

/-- A load of a whole block. -/
theorem load_whole {s : Shape} {η : EltTy} (M : Memref sig .tc .vmem s η) (hM : M.IsWhole) (X : Vec Ideal s η) (off : Fin s.rank → ℕ) (hoff : ∀ a, off a = 0)
    (inb : ∀ a, off a + s.size a ≤ s.size a) (y : s.Idx) :
    M.view.readAt (Elt Ideal) (Rect.unit off s.size inb).toLoadRect (hM.unread X) y = X y := by
  refine (hM.readAt_unread _ _ _).trans (congrArg X (funext fun a => Fin.ext ?_))
  show off a + 1 * (y a).val = (y a).val
  rw [hoff, Nat.zero_add, Nat.one_mul]

theorem off2 : ∀ a : Fin 2, (![0, 0] : Fin 2 → ℕ) a = 0 := by decide

variable {κ : Kind} {sp : Space} (v : View sig κ sp S128x640 .f32) (f : v.ty.Contents (Elt Ideal)) {o : ℕ}
  (inb : ∀ a, (![0, o] : Fin 2 → ℕ) a + (![128, 128] : Fin 2 → ℕ) a ≤ S128x640.size a)

/-- A column of the newest group of 128. -/
theorem group_hit (u : (Rect.unit (s := S128x640) ![0, o] ![128, 128] inb).shape.Idx → EReal) (L : List (View.Piece (Elt Ideal) S128x640 .f32)) (k : Fin 128) (j : Fin 640)
    (hj : j.val = o + k.val) :
    v.read (Elt Ideal) (v.writes (Elt Ideal) f ((⟨Rect.unit (s := S128x640) ![0, o] ![128, 128] inb, u⟩ : View.Piece (Elt Ideal) S128x640 .f32) :: L)) (ix2 r j)
      = u (ix2 r k) :=
  View.read_writes_cons_unit_of_mem v f inb u L (ix2 r j) (ix2 r k) rfl
    (Fin.forall_fin_two.mpr ⟨(Nat.zero_add _).symm, hj⟩)

/-- A column outside the newest group. -/
theorem group_miss (u : (Rect.unit (s := S128x640) ![0, o] ![128, 128] inb).shape.Idx → EReal) (L : List (View.Piece (Elt Ideal) S128x640 .f32)) (j : Fin 640)
    (hj : j.val < o ∨ o + 128 ≤ j.val) :
    v.read (Elt Ideal) (v.writes (Elt Ideal) f ((⟨Rect.unit (s := S128x640) ![0, o] ![128, 128] inb, u⟩ : View.Piece (Elt Ideal) S128x640 .f32) :: L)) (ix2 r j)
      = v.read (Elt Ideal) (v.writes (Elt Ideal) f L) (ix2 r j) :=
  View.read_writes_cons_unit_of_not_mem v f inb u L (ix2 r j) rfl (1 : Fin 2) hj

variable (T : Fin 128) (y : FVec Ideal S128x7168 .f32) (b : FVec Ideal S8 .f32) (g : FVec Ideal S1x128 .f32)

/-- A point's state rows, from the point's blocks. -/
theorem out_row (c : Dev nD) (i : grid0.Coords) (arg1 : Memref sig .tc .vmem S128x1536 .f32) (harg1 : arg1.IsWhole) (arg2 : Memref sig .tc .vmem S128x1024 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x256 .f32) (harg8 : arg8.IsWhole)
    (arg9 : Memref sig .tc .vmem S1x128 .f32) (harg9 : arg9.IsWhole) (arg10 : Memref sig .tc .vmem S512x1024 .bf16) (harg10 : arg10.IsWhole)
    (arg11 : Memref sig .tc .vmem S512x1024 .bf16) (harg11 : arg11.IsWhole) (arg12 : Memref sig .tc .vmem S256x768 .bf16) (harg12 : arg12.IsWhole)
    (arg13 : Memref sig .tc .vmem S512x1024 .bf16) (harg13 : arg13.IsWhole) (arg14 : Memref sig .tc .vmem S256x1024 .bf16) (harg14 : arg14.IsWhole)
    (arg15 : Memref sig .tc .vmem S8x128 .f32) (harg15 : arg15.IsWhole) (arg16 : Memref sig .tc .vmem S8x128x128 .bf16) (harg16 : arg16.IsWhole)
    (arg17 : Memref sig .tc .vmem S8x128x128 .bf16) (harg17 : arg17.IsWhole) (arg18 : Memref sig .tc .vmem S8x128x128 .bf16) (harg18 : arg18.IsWhole)
    (arg19 : Memref sig .tc .vmem S8x128x256 .bf16) (harg19 : arg19.IsWhole) (arg20 : Memref sig .tc .vmem S128x640 .f32) (harg20 : arg20.IsWhole)
    (arg21 : Memref sig .tc .vmem S128x1024 .bf16) (harg21 : arg21.IsWhole)
    (x0 : Vec Ideal S128x1536 .f32) (x1 : Vec Ideal S128x1024 .f32) (x2 : Vec Ideal S128x128 .f32) (x3 : Vec Ideal S128x128 .f32)
    (x4 : Vec Ideal S128x128 .f32) (x5 : Vec Ideal S128x128 .f32) (x6 : Vec Ideal S1x128 .f32) (x7 : Vec Ideal S1x256 .f32)
    (x8 : Vec Ideal S1x128 .f32) (x9 : Vec Ideal S512x1024 .bf16) (x10 : Vec Ideal S512x1024 .bf16) (x11 : Vec Ideal S256x768 .bf16)
    (x12 : Vec Ideal S512x1024 .bf16) (x13 : Vec Ideal S256x1024 .bf16) (x14 : Vec Ideal S8x128 .f32)
    (hx : ∀ (j : Fin 1024) (n : Fin 7168), n.val = 6144 + j.val → x1 (ix2 r j) = y (ix2 T n))
    (hco : ∀ l, x4 (ix2 r l) = cosTable (ix2 T l)) (hsi : ∀ l, x5 (ix2 r l) = sinTable (ix2 T l)) (hw : ∀ l, x6 (ix2 0 l) = biasRow b (ix2 0 l))
    (ha : ∀ l, x8 (ix2 0 l) = g (ix2 0 l)) (j : Fin 640) :
    out0_A_19 c i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 x0 x1 x2 x3 x4 x5 x6 x7
        x8 x9 x10 x11 x12 x13 x14 (ix2 r j)
      = state y b g (ix2 T j) := by
  unfold out0_A_19 kernelRun0_A
  dsimp only
  unfold kernelRun0_A.sl.r_16 kernelRun0_A.sl.r_17 kernelRun0_A.sl.r_18 kernelRun0_A.sl.r_19 kernelRun0_A.sl.r_20 kernelRun0_A.sl.r_21 kernelRun0_A.sl.v301
  by_cases h0 : j.val < 128
  · refine (group_miss r _ _ _ _ _ j (.inl (by omega))).trans ((group_miss r _ _ _ _ _ j (.inl (by omega))).trans
      ((group_miss r _ _ _ _ _ j (.inl (by omega))).trans ((group_miss r _ _ _ _ _ j (.inl (by omega))).trans
        ((group_hit r _ _ _ _ _ ⟨j.val, h0⟩ j (Nat.zero_add _).symm).trans ?_))))
    exact (pay61_at r T y _ (fun j n e => (load_whole arg2 harg2 x1 _ off2 _ _).trans (hx j n e)) _).trans (state_kv y b g T ⟨j.val, h0⟩).symm
  by_cases h1 : j.val < 256
  · obtain ⟨k, rfl⟩ : ∃ k : Fin 128, j = ⟨128 + k.val, off_lt (by decide) k⟩ := fin_off (by decide) j (by omega) (by omega)
    refine (group_miss r _ _ _ _ _ _ (.inl (by dsimp only; omega))).trans ((group_miss r _ _ _ _ _ _ (.inl (by dsimp only; omega))).trans
      ((group_miss r _ _ _ _ _ _ (.inl (by dsimp only; omega))).trans ((group_hit r _ _ _ _ _ k _ rfl).trans ?_)))
    exact lanes1 r T y b g _ (fun j n e => (load_whole arg2 harg2 x1 _ off2 _ _).trans (hx j n e)) _ _
      (fun l => (load_whole arg5 harg5 x4 _ off2 _ _).trans (hco l)) (fun l => (load_whole arg6 harg6 x5 _ off2 _ _).trans (hsi l)) _
      (fun l => (load_whole arg7 harg7 x6 _ off2 _ _).trans (hw l)) k
  by_cases h2 : j.val < 384
  · obtain ⟨k, rfl⟩ : ∃ k : Fin 128, j = ⟨256 + k.val, off_lt (by decide) k⟩ := fin_off (by decide) j (by omega) (by omega)
    refine (group_miss r _ _ _ _ _ _ (.inl (by dsimp only; omega))).trans ((group_miss r _ _ _ _ _ _ (.inl (by dsimp only; omega))).trans
      ((group_hit r _ _ _ _ _ k _ rfl).trans ?_))
    exact (pay63_at r T y _ (fun j n e => (load_whole arg2 harg2 x1 _ off2 _ _).trans (hx j n e)) _).trans
      (state_fox y b g T ⟨k.val, by omega⟩).symm
  by_cases h3 : j.val < 512
  · obtain ⟨k, rfl⟩ : ∃ k : Fin 128, j = ⟨384 + k.val, off_lt (by decide) k⟩ := fin_off (by decide) j (by omega) (by omega)
    refine (group_miss r _ _ _ _ _ _ (.inl (by dsimp only; omega))).trans ((group_hit r _ _ _ _ _ k _ rfl).trans ?_)
    refine (pay64_at r T y _ (fun j n e => (load_whole arg2 harg2 x1 _ off2 _ _).trans (hx j n e)) _).trans
      ((congrArg (fun n => y (ix2 T n)) (Fin.ext (by dsimp only; omega))).trans ((state_fox y b g T ⟨128 + k.val, by omega⟩).symm.trans ?_))
    exact congrArg (fun n => state y b g (ix2 T n)) (Fin.ext (by dsimp only; omega))
  · obtain ⟨k, rfl⟩ : ∃ k : Fin 128, j = ⟨512 + k.val, off_lt (by decide) k⟩ := fin_off (by decide) j (by omega) (by omega)
    refine (group_hit r _ _ _ _ _ k _ rfl).trans ?_
    exact (pay65_at r T y g _ (fun j n e => (load_whole arg2 harg2 x1 _ off2 _ _).trans (hx j n e)) _
      (fun l => (load_whole arg9 harg9 x8 _ off2 _ _).trans (ha l)) k).trans (state_latent y b g T k).symm

end

/-- The arguments. -/
abbrev argY : FVec Ideal S128x7168 .f32 := m ((c : Thread nD τ).loc main_arg0)
abbrev argB : FVec Ideal S8 .f32 := m ((c : Thread nD τ).loc main_arg1)
abbrev argG : FVec Ideal S1x128 .f32 := m ((c : Thread nD τ).loc main_arg3)

theorem index1 : ∀ t : Fin cfg0.N, win0_1.index t = ![0, 6] := (by decide +kernel : ∀ t : Fin grid0.N, win0_1.index t = ![0, 6])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index8 : ∀ t : Fin cfg0.N, win0_8.index t = ![0, 0] := (by decide +kernel : ∀ t : Fin grid0.N, win0_8.index t = ![0, 0])
theorem index19 : ∀ t : Fin cfg0.N, win0_19.index t = ![0, 0] := (by decide +kernel : ∀ t : Fin grid0.N, win0_19.index t = ![0, 0])

theorem iblk1_apply (t : Fin cfg0.N) (r : Fin 128) (j : Fin 1024) (n : Fin 7168) (hn : n.val = 6144 + j.val) :
    (iblk m c 1 t : Vec Ideal S128x1024 .f32) (ix2 r j) = argY m c (ix2 r n) := by
  show ((cfg0.win 1).blk t).view.read (Elt Ideal) (V m c main_arg0) (ix2 r j) = _
  rw [V_main_arg0]
  blk_simp
  refine congrArg (argY m c) ?_
  obtain rfl : n = ⟨6144 + j.val, off_lt (by decide) j⟩ := Fin.ext hn
  blk_ext [index1]

theorem iblk4_apply (t : Fin cfg0.N) (r : Fin 128) (l : Fin 128) :
    (iblk m c 4 t : Vec Ideal S128x128 .f32) (ix2 r l) = cosTable (ix2 r l) := by
  show ((cfg0.win 4).blk t).view.read (Elt Ideal) (V m c main_v28) (ix2 r l) = _
  rw [cosine_eq]
  blk_simp
  refine congrArg cosTable ?_
  blk_ext [index4]

theorem iblk5_apply (t : Fin cfg0.N) (r : Fin 128) (l : Fin 128) :
    (iblk m c 5 t : Vec Ideal S128x128 .f32) (ix2 r l) = sinTable (ix2 r l) := by
  show ((cfg0.win 5).blk t).view.read (Elt Ideal) (V m c main_v32) (ix2 r l) = _
  rw [sine_eq]
  blk_simp
  refine congrArg sinTable ?_
  blk_ext [index5]

theorem iblk6_apply (t : Fin cfg0.N) (l : Fin 128) :
    (iblk m c 6 t : Vec Ideal S1x128 .f32) (ix2 0 l) = biasRow (argB m c) (ix2 0 l) := by
  show ((cfg0.win 6).blk t).view.read (Elt Ideal) (V m c main_v4) (ix2 0 l) = _
  rw [bias_eq]
  generalize biasRow (argB m c) = W
  blk_simp
  refine congrArg W ?_
  blk_ext [index6]

theorem iblk8_apply (t : Fin cfg0.N) (l : Fin 128) : (iblk m c 8 t : Vec Ideal S1x128 .f32) (ix2 0 l) = argG m c (ix2 0 l) := by
  show ((cfg0.win 8).blk t).view.read (Elt Ideal) (V m c main_arg3) (ix2 0 l) = _
  rw [V_main_arg3]
  blk_simp
  refine congrArg (argG m c) ?_
  blk_ext [index8]

/-- A point's state rows. -/
theorem point_out (t : Fin cfg0.N) (r : Fin 128) (j : Fin 640) :
    (outsAt0 m c t).2.2.2.2.1 (ix2 r j) = state (argY m c) (argB m c) (argG m c) (ix2 r j) := by
  unfold outsAt0
  dsimp only
  rw [out_row (r := r) (T := r) (y := argY m c) (b := argB m c) (g := argG m c)
    (hx := fun j n e => iblk1_apply m c t r j n e) (hco := fun l => iblk4_apply m c t r l) (hsi := fun l => iblk5_apply m c t r l)
    (hw := fun l => iblk6_apply m c t l) (ha := fun l => iblk8_apply m c t l)]

/-- The state rows' array after the run. -/
theorem array_eq : (dats m 0 c).arrAt 19 cfg0.N = state (argY m c) (argB m c) (argG m c) := by
  refine (dats m 0 c).arrAt_eq_of_covers 19 _ (by decide +kernel) fun t hf y => ?_
  blk_simp
  rw [after0_19]
  have ey : y = ix2 (y 0) (y 1) := funext fun a => by match a with | ⟨0, _⟩ => rfl | ⟨1, _⟩ => rfl
  refine (congrArg (outsAt0 m c t).2.2.2.2.1 ey).trans ((point_out m c t (y 0) (y 1)).trans ?_)
  refine congrArg (state (argY m c) (argB m c) (argG m c)) ?_
  blk_ext [index19]

end Cert.SamplePost

end
-- ==== Proof.SampleKeysRef.lean ====
/- The sample's attention's keys and values: the reference's array, read column by column. -/
module

public import proofs.«01_k».proof.Proof.SampleStateRef

@[expose] public section

noncomputable section

namespace Cert.SampleStateRef

open Idealize.ShloMosaic Idealize.ShloMosaic.TcCoe Idealize.SL.Sem Cert.Reference6Ideal Cert.Reference6Ideal.Gen
open scoped BigOperators

attribute [local instance] Cert.Reference6Ideal.Gen.facts

/-- The keys and values that the attention calls read: the state rows, then their second 128 columns turned by 64, the value twice, the key, ones and zeros. -/
def keys (y : FVec Ideal S128x7168 .f32) (b : FVec Ideal S8 .f32) (g : FVec Ideal S1x128 .f32) : FVec Ideal S128x1024 .bf16 :=
  truncf .bf16 (concatenate S128x1024 1 [⟨S128x640, state y b g⟩, ⟨S128x32, roped y⟩, ⟨S128x8, logs (forgetIn y b)⟩,
    ⟨S128x24, extractStridedSlice S128x24 ![0, 6632] y slices_S128x7168_S128x24_0_6632⟩,
    ⟨S128x64, extractStridedSlice S128x64 ![0, 6528] y slices_S128x7168_S128x64_0_6528⟩,
    ⟨S128x64, extractStridedSlice S128x64 ![0, 64] (extractStridedSlice S128x128 ![0, 6400] y slices_S128x7168_S128x128_0_6400) slices_S128x128_S128x64_0_64⟩,
    ⟨S128x64, extractStridedSlice S128x64 ![0, 64] (extractStridedSlice S128x128 ![0, 6400] y slices_S128x7168_S128x128_0_6400) slices_S128x128_S128x64_0_64⟩,
    ⟨S128x64, extractStridedSlice S128x64 ![0, 0] (extractStridedSlice S128x128 ![0, 6400] y slices_S128x7168_S128x128_0_6400) slices_S128x128_S128x64_0_0⟩,
    ⟨S128x3, broadcastInDim S128x3 ![] bcast_S_S128x3 (constant S_ .f32 0x3F800000#32)⟩,
    ⟨S128x61, broadcastInDim S128x61 ![] bcast_S_S128x61 (constant S_ .f32 0x00000000#32)⟩]
    concatenates_S128x640_S128x32_S128x8_S128x24_S128x64_S128x64_S128x64_S128x64_S128x3_S128x61_S128x1024_d1) bitsLt_bf16_f32

theorem keys_res (m : (ℓ : Loc nD τ sig) → Buf (Elt Ideal) ℓ) (c : Dev nD) :
    Cert.Reference6Ideal.Value.res_main_v58 m c
      = keys (m ((c.tc : Thread nD τ).loc main_arg0)) (m ((c.tc : Thread nD τ).loc main_arg1)) (m ((c.tc : Thread nD τ).loc main_arg3)) := by
  unfold Cert.Reference6Ideal.Value.res_main_v58
  rfl

variable (y : FVec Ideal S128x7168 .f32) (b : FVec Ideal S8 .f32) (g : FVec Ideal S1x128 .f32) (t : Fin 128)

theorem keys_state (j : Fin 640) : keys y b g (ix2 t ⟨j.val, by omega⟩) = state y b g (ix2 t j) := by
  pointwise [keys]

theorem keys_rope (k : Fin 32) : keys y b g (ix2 t ⟨640 + k.val, by omega⟩) = roped y (ix2 t k) := by
  pointwise [keys]

theorem keys_log (k : Fin 8) : keys y b g (ix2 t ⟨672 + k.val, by omega⟩) = logs (forgetIn y b) (ix2 t k) := by
  pointwise [keys]
  rw [dif_neg (by omega), dif_neg (by omega), dif_pos (by omega)]
  exact congrArg (fun e => logs (forgetIn y b) (ix2 t e)) (Fin.ext (by dsimp only; omega))

theorem keys_rest (k : Fin 24) : keys y b g (ix2 t ⟨680 + k.val, by omega⟩) = y (ix2 t ⟨6632 + k.val, by omega⟩) := by
  pointwise [keys]
  rw [dif_neg (by omega), dif_neg (by omega), dif_neg (by omega), dif_pos (by omega)]
  exact congrArg (fun e => y (ix2 t e)) (Fin.ext (by dsimp only; omega))

theorem keys_kidx (k : Fin 64) : keys y b g (ix2 t ⟨704 + k.val, by omega⟩) = y (ix2 t ⟨6528 + k.val, by omega⟩) := by
  pointwise [keys]
  rw [dif_neg (by omega), dif_neg (by omega), dif_neg (by omega), dif_neg (by omega), dif_pos (by omega)]
  exact congrArg (fun e => y (ix2 t e)) (Fin.ext (by dsimp only; omega))

theorem keys_v0 (k : Fin 64) : keys y b g (ix2 t ⟨768 + k.val, by omega⟩) = y (ix2 t ⟨6464 + k.val, by omega⟩) := by
  pointwise [keys]
  rw [dif_neg (by omega), dif_neg (by omega), dif_neg (by omega), dif_neg (by omega), dif_neg (by omega), dif_pos (by omega)]
  exact congrArg (fun e => y (ix2 t e)) (Fin.ext (by dsimp only; omega))

theorem keys_v1 (k : Fin 64) : keys y b g (ix2 t ⟨832 + k.val, by omega⟩) = y (ix2 t ⟨6464 + k.val, by omega⟩) := by
  pointwise [keys]
  rw [dif_neg (by omega), dif_neg (by omega), dif_neg (by omega), dif_neg (by omega), dif_neg (by omega), dif_neg (by omega), dif_pos (by omega)]
  exact congrArg (fun e => y (ix2 t e)) (Fin.ext (by dsimp only; omega))

theorem keys_k (k : Fin 64) : keys y b g (ix2 t ⟨896 + k.val, by omega⟩) = y (ix2 t ⟨6400 + k.val, by omega⟩) := by
  pointwise [keys]
  rw [dif_neg (by omega), dif_neg (by omega), dif_neg (by omega), dif_neg (by omega), dif_neg (by omega), dif_neg (by omega), dif_neg (by omega), dif_pos (by omega)]
  exact congrArg (fun e => y (ix2 t e)) (Fin.ext (by dsimp only; omega))

theorem keys_ones (k : Fin 3) : keys y b g (ix2 t ⟨960 + k.val, by omega⟩) = 1 := by
  pointwise [keys]
  rw [dif_neg (by omega), dif_neg (by omega), dif_neg (by omega), dif_neg (by omega), dif_neg (by omega), dif_neg (by omega), dif_neg (by omega), dif_neg (by omega), dif_pos (by omega)]

theorem keys_zeros (k : Fin 61) : keys y b g (ix2 t ⟨963 + k.val, by omega⟩) = 0 := by
  pointwise [keys]
  rw [dif_neg (by omega), dif_neg (by omega), dif_neg (by omega), dif_neg (by omega), dif_neg (by omega), dif_neg (by omega), dif_neg (by omega), dif_neg (by omega), dif_neg (by omega)]

theorem state_log' (k : Fin 8) : state y b g (ix2 t ⟨224 + k.val, by omega⟩) = logs (forgetIn y b) (ix2 t k) := by
  pointwise [state]
  rw [dif_neg (by omega), dif_neg (by omega), dif_neg (by omega), dif_pos (by omega)]
  exact congrArg (fun e => logs (forgetIn y b) (ix2 t e)) (Fin.ext (by dsimp only; omega))

/-- The columns 640 to 767 are the state rows' second group of 128, turned by 64. -/
theorem keys_turned (k : Fin 128) : keys y b g (ix2 t ⟨640 + k.val, by omega⟩) = state y b g (ix2 t ⟨128 + (k.val + 64) % 128, by omega⟩) := by
  by_cases h0 : k.val < 32
  · refine (keys_rope y b g t ⟨k.val, h0⟩).trans ((state_rope y b g t ⟨k.val, h0⟩).symm.trans ?_)
    exact congrArg (fun e => state y b g (ix2 t e)) (Fin.ext (by dsimp only; omega))
  by_cases h1 : k.val < 40
  · refine (congrArg (fun e => keys y b g (ix2 t e)) (Fin.ext (by dsimp only; omega))).trans
      ((keys_log y b g t ⟨k.val - 32, by omega⟩).trans ((state_log' y b g t ⟨k.val - 32, by omega⟩).symm.trans ?_))
    exact congrArg (fun e => state y b g (ix2 t e)) (Fin.ext (by dsimp only; omega))
  by_cases h2 : k.val < 64
  · refine (congrArg (fun e => keys y b g (ix2 t e)) (Fin.ext (by dsimp only; omega))).trans
      ((keys_rest y b g t ⟨k.val - 40, by omega⟩).trans ((state_rest y b g t ⟨k.val - 40, by omega⟩).symm.trans ?_))
    exact congrArg (fun e => state y b g (ix2 t e)) (Fin.ext (by dsimp only; omega))
  · refine (congrArg (fun e => keys y b g (ix2 t e)) (Fin.ext (by dsimp only; omega))).trans
      ((keys_kidx y b g t ⟨k.val - 64, by omega⟩).trans ((state_kidx y b g t ⟨k.val - 64, by omega⟩).symm.trans ?_))
    exact congrArg (fun e => state y b g (ix2 t e)) (Fin.ext (by dsimp only; omega))

/-- The values, twice. -/
theorem keys_twice (k : Fin 128) : keys y b g (ix2 t ⟨768 + k.val, by omega⟩) = y (ix2 t ⟨6464 + k.val % 64, by omega⟩) := by
  by_cases h : k.val < 64
  · refine (keys_v0 y b g t ⟨k.val, h⟩).trans (congrArg (fun e => y (ix2 t e)) (Fin.ext (by dsimp only; omega)))
  · refine (congrArg (fun e => keys y b g (ix2 t e)) (Fin.ext (by dsimp only; omega))).trans
      ((keys_v1 y b g t ⟨k.val - 64, by omega⟩).trans (congrArg (fun e => y (ix2 t e)) (Fin.ext (by dsimp only; omega))))

/-- The keys, then three ones and zeros. -/
theorem keys_last (k : Fin 128) : keys y b g (ix2 t ⟨896 + k.val, by omega⟩)
    = if k.val < 64 then y (ix2 t ⟨6400 + k.val, by omega⟩) else if k.val < 67 then 1 else 0 := by
  by_cases h0 : k.val < 64
  · rw [if_pos h0]
    exact keys_k y b g t ⟨k.val, h0⟩
  rw [if_neg h0]
  by_cases h1 : k.val < 67
  · rw [if_pos h1]
    exact (congrArg (fun e => keys y b g (ix2 t e)) (Fin.ext (by dsimp only; omega))).trans (keys_ones y b g t ⟨k.val - 64, by omega⟩)
  · rw [if_neg h1]
    exact (congrArg (fun e => keys y b g (ix2 t e)) (Fin.ext (by dsimp only; omega))).trans (keys_zeros y b g t ⟨k.val - 67, by omega⟩)

end Cert.SampleStateRef

end
-- ==== Proof.SampleKeysOut.lean ====
/- The sample's keys and values that the kernel leaves. -/
module

public import proofs.«01_k».proof.Proof.SampleStateOut
public import proofs.«01_k».proof.Proof.SampleKeysRef
import all proofs.«01_k».proof.Proof.Gen.Kernel6Ideal.Frame
import all proofs.«01_k».proof.Proof.Gen.Kernel6Ideal.Frame.RunA

@[expose] public section

noncomputable section

namespace Cert.SamplePost

open Idealize.ShloMosaic Idealize.ShloMosaic.TcCoe Idealize.SL.Sem Cert.Kernel6Ideal Cert.Kernel6Ideal.Gen Cert.SampleStateRef
open scoped BigOperators

attribute [local instance] Cert.Kernel6Ideal.Gen.facts Cert.Reference6Ideal.Gen.facts

section

variable (r : Fin 128) (x : FVec Ideal S128x128 .f32) (k : Fin 128)

theorem slt64 (k : Fin 128) : IntOp.cmpi .slt (BitVec.ofNat 32 k.val) 64#32 = if k.val < 64 then 1#1 else 0#1 := by
  revert k
  decide

theorem slt67 (k : Fin 128) : IntOp.cmpi .slt (BitVec.ofNat 32 k.val) 67#32 = if k.val < 67 then 1#1 else 0#1 := by
  revert k
  decide

theorem pay1_at : k0_pay1 x (ix2 r k) = x (ix2 r k) := by pointwise [k0_pay1]

theorem pay2_at : k0_pay2 x (ix2 r k) = x (ix2 r k) := by pointwise [k0_pay2]

theorem pay69_at : k0_pay69 x (ix2 r k) = x (ix2 r k) := by pointwise [k0_pay69]

theorem pay71_at : k0_pay71 x (ix2 r k) = x (ix2 r k) := by pointwise [k0_pay71]

theorem pay70_at (u : FVec Ideal S128x128 .f32) (i : IVec S128x128 32) (v : FVec Ideal S128x128 .f32) (w : Vec Ideal S1x128 .f32) :
    k0_pay70 u i v w (ix2 r k) = k0_pay67 u i v w (ix2 r k) := by
  unfold k0_pay70
  generalize k0_pay67 u i v w = z
  pointwise []

/-- The lane turned by 64. -/
theorem pay3_at : k0_pay3 x (ix2 r k) = x (ix2 r ⟨(k.val + 64) % 128, by omega⟩) := by
  pointwise [k0_pay3]
  exact congrArg (fun e => x (ix2 r e)) (Fin.ext (by dsimp only; omega))

/-- The upper half, in both halves. -/
theorem pay4_at : k0_pay4 (k0_pay68 x (iota .tc S128x128 32 [1] iota_S128x128_d1_w32)) (ix2 r k) = x (ix2 r ⟨64 + k.val % 64, by omega⟩) := by
  pointwise [k0_pay4, k0_pay68]
  rw [slt64]
  by_cases h : k.val < 64
  · rw [if_pos h]
    exact congrArg (fun e => x (ix2 r e)) (Fin.ext (by dsimp only; omega))
  · rw [if_neg h]
    exact congrArg (fun e => x (ix2 r e)) (Fin.ext (by dsimp only; omega))

/-- The lower half, then three ones and zeros. -/
theorem pay5_at : k0_pay5 x (iota .tc S128x128 32 [1] iota_S128x128_d1_w32) (ix2 r k)
    = if k.val < 64 then x (ix2 r k) else if k.val < 67 then 1 else 0 := by
  pointwise [k0_pay5]
  rw [slt64, slt67]
  by_cases h : k.val < 64
  · rw [if_pos h, if_pos h]
    rfl
  · rw [if_neg h, if_neg h]
    by_cases h' : k.val < 67
    · rw [if_pos h', if_pos h']
      rfl
    · rw [if_neg h', if_neg h']
      rfl

end

section

variable (r : Fin 128) {κ : Kind} {sp : Space} (v : View sig κ sp S128x1024 .bf16) (f : v.ty.Contents (Elt Ideal)) {o : ℕ}
  (inb : ∀ a, (![0, o] : Fin 2 → ℕ) a + (![128, 128] : Fin 2 → ℕ) a ≤ S128x1024.size a)

/-- A column of the newest group of 128. -/
theorem keys_hit (u : (Rect.unit (s := S128x1024) ![0, o] ![128, 128] inb).shape.Idx → EReal) (L : List (View.Piece (Elt Ideal) S128x1024 .bf16)) (k : Fin 128) (j : Fin 1024)
    (hj : j.val = o + k.val) :
    v.read (Elt Ideal) (v.writes (Elt Ideal) f ((⟨Rect.unit (s := S128x1024) ![0, o] ![128, 128] inb, u⟩ : View.Piece (Elt Ideal) S128x1024 .bf16) :: L)) (ix2 r j)
      = u (ix2 r k) :=
  View.read_writes_cons_unit_of_mem v f inb u L (ix2 r j) (ix2 r k) rfl
    (Fin.forall_fin_two.mpr ⟨(Nat.zero_add _).symm, hj⟩)

/-- A column outside the newest group. -/
theorem keys_miss (u : (Rect.unit (s := S128x1024) ![0, o] ![128, 128] inb).shape.Idx → EReal) (L : List (View.Piece (Elt Ideal) S128x1024 .bf16)) (j : Fin 1024)
    (hj : j.val < o ∨ o + 128 ≤ j.val) :
    v.read (Elt Ideal) (v.writes (Elt Ideal) f ((⟨Rect.unit (s := S128x1024) ![0, o] ![128, 128] inb, u⟩ : View.Piece (Elt Ideal) S128x1024 .bf16) :: L)) (ix2 r j)
      = v.read (Elt Ideal) (v.writes (Elt Ideal) f L) (ix2 r j) :=
  View.read_writes_cons_unit_of_not_mem v f inb u L (ix2 r j) rfl (1 : Fin 2) hj

end

variable (m : (ℓ : Loc nD τ sig) → Buf (Elt Ideal) ℓ) (c : Dev nD)

theorem index20 : ∀ t : Fin cfg0.N, win0_20.index t = ![0, 0] := (by decide +kernel : ∀ t : Fin grid0.N, win0_20.index t = ![0, 0])

/-- A point's keys and values. -/
theorem point_keys (t : Fin cfg0.N) (r : Fin 128) (j : Fin 1024) :
    (outsAt0 m c t).2.2.2.2.2 (ix2 r j) = keys (argY m c) (argB m c) (argG m c) (ix2 r j) := by
  have hx : ∀ (M : Memref sig .tc .vmem S128x1024 .f32) (hM : M.IsWhole) (inb) (j : Fin 1024) (n : Fin 7168), n.val = 6144 + j.val →
      M.view.readAt (Elt Ideal) (Rect.unit (s := S128x1024) ![0, 0] ![128, 1024] inb).toLoadRect (hM.unread (iblk m c 1 t)) (ix2 r j) = argY m c (ix2 r n) :=
    fun M hM inb j n e => (load_whole M hM (iblk m c 1 t : Vec Ideal S128x1024 .f32) _ off2 _ _).trans (iblk1_apply m c t r j n e)
  have hrow := fun (M : Memref sig .tc .vmem S128x1024 .f32) (hM : M.IsWhole) (inb) k =>
    lanes1 r r (argY m c) (argB m c) (argG m c) _ (hx M hM inb) _ _
      (fun l => (load_whole (ms0_4 t) (hs0_4 t) (iblk m c 4 t : Vec Ideal S128x128 .f32) _ off2 inb_S128x128_S128x128_0_0 _).trans (iblk4_apply m c t r l))
      (fun l => (load_whole (ms0_5 t) (hs0_5 t) (iblk m c 5 t : Vec Ideal S128x128 .f32) _ off2 inb_S128x128_S128x128_0_0 _).trans (iblk5_apply m c t r l)) _
      (fun l => (load_whole (ms0_6 t) (hs0_6 t) (iblk m c 6 t : Vec Ideal S1x128 .f32) _ off2 inb_S1x128_S1x128_0_0 _).trans (iblk6_apply m c t l)) k
  unfold outsAt0
  dsimp only
  unfold out0_A_20 kernelRun0_A
  dsimp only
  unfold kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.v301
  by_cases h0 : j.val < 128
  · refine (keys_miss r _ _ _ _ _ j (.inl (by omega))).trans ((keys_miss r _ _ _ _ _ j (.inl (by omega))).trans
      ((keys_miss r _ _ _ _ _ j (.inl (by omega))).trans ((keys_miss r _ _ _ _ _ j (.inl (by omega))).trans
        ((keys_miss r _ _ _ _ _ j (.inl (by omega))).trans ((keys_miss r _ _ _ _ _ j (.inl (by omega))).trans
          ((keys_miss r _ _ _ _ _ j (.inl (by omega))).trans ((keys_hit r _ _ _ _ _ ⟨j.val, h0⟩ j (Nat.zero_add _).symm).trans ?_)))))))
    refine (pay69_at r _ _).trans ((pay61_at r r (argY m c) _ (hx (ms0_1 t) (hs0_1 t) inb_S128x1024_S128x1024_0_0) _).trans
      ((state_kv (argY m c) (argB m c) (argG m c) r ⟨j.val, h0⟩).symm.trans (keys_state _ _ _ _ ⟨j.val, by omega⟩).symm))
  by_cases h1 : j.val < 256
  · obtain ⟨k, rfl⟩ : ∃ k : Fin 128, j = ⟨128 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_miss r _ _ _ _ _ _ (.inl (by dsimp only; omega))).trans ((keys_miss r _ _ _ _ _ _ (.inl (by dsimp only; omega))).trans
          ((keys_hit r _ _ _ _ _ k _ rfl).trans ?_))))))
    exact (pay70_at r k _ _ _ _).trans ((hrow (ms0_1 t) (hs0_1 t) inb_S128x1024_S128x1024_0_0 k).trans (keys_state _ _ _ _ ⟨128 + k.val, by omega⟩).symm)
  by_cases h2 : j.val < 384
  · obtain ⟨k, rfl⟩ : ∃ k : Fin 128, j = ⟨256 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_miss r _ _ _ _ _ _ (.inl (by dsimp only; omega))).trans ((keys_hit r _ _ _ _ _ k _ rfl).trans ?_)))))
    exact (pay71_at r _ _).trans ((pay63_at r r (argY m c) _ (hx (ms0_1 t) (hs0_1 t) inb_S128x1024_S128x1024_0_0) _).trans
      ((state_fox (argY m c) (argB m c) (argG m c) r ⟨k.val, by omega⟩).symm.trans (keys_state _ _ _ _ ⟨256 + k.val, by omega⟩).symm))
  by_cases h3 : j.val < 512
  · obtain ⟨k, rfl⟩ : ∃ k : Fin 128, j = ⟨384 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_miss r _ _ _ _ _ _ (.inl (by dsimp only; omega))).trans
        ((keys_hit r _ _ _ _ _ k _ rfl).trans ?_))))
    refine (pay1_at r _ _).trans ((pay64_at r r (argY m c) _ (hx (ms0_1 t) (hs0_1 t) inb_S128x1024_S128x1024_0_0) _).trans
      ((congrArg (fun n => argY m c (ix2 r n)) (Fin.ext (by dsimp only; omega))).trans
        ((state_fox (argY m c) (argB m c) (argG m c) r ⟨128 + k.val, by omega⟩).symm.trans ((keys_state _ _ _ _ _).symm.trans ?_))))
    exact congrArg (fun n => keys (argY m c) (argB m c) (argG m c) (ix2 r n)) (Fin.ext (by dsimp only; omega))
  by_cases h4 : j.val < 640
  · obtain ⟨k, rfl⟩ : ∃ k : Fin 128, j = ⟨512 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_miss r _ _ _ _ _ _ (.inl (by dsimp only; omega))).trans ((keys_hit r _ _ _ _ _ k _ rfl).trans ?_)))
    exact (pay2_at r _ _).trans ((pay65_at r r (argY m c) (argG m c) _ (hx (ms0_1 t) (hs0_1 t) inb_S128x1024_S128x1024_0_0) _
      (fun l => (load_whole (ms0_8 t) (hs0_8 t) (iblk m c 8 t : Vec Ideal S1x128 .f32) _ off2 inb_S1x128_S1x128_0_0 _).trans (iblk8_apply m c t l)) k).trans
      ((state_latent (argY m c) (argB m c) (argG m c) r k).symm.trans (keys_state _ _ _ _ ⟨512 + k.val, by omega⟩).symm))
  by_cases h5 : j.val < 768
  · obtain ⟨k, rfl⟩ : ∃ k : Fin 128, j = ⟨640 + k.val, off_lt (by decide) k⟩ := fin_off (by decide) j (by omega) (by omega)
    refine (keys_miss r _ _ _ _ _ _ (.inl (by dsimp only; omega))).trans ((keys_miss r _ _ _ _ _ _ (.inl (by dsimp only; omega))).trans
      ((keys_hit r _ _ _ _ _ k _ rfl).trans ?_))
    exact (pay3_at r _ _).trans ((hrow (ms0_1 t) (hs0_1 t) inb_S128x1024_S128x1024_0_0 _).trans (keys_turned _ _ _ _ k).symm)
  by_cases h6 : j.val < 896
  · obtain ⟨k, rfl⟩ : ∃ k : Fin 128, j = ⟨768 + k.val, off_lt (by decide) k⟩ := fin_off (by decide) j (by omega) (by omega)
    refine (keys_miss r _ _ _ _ _ _ (.inl (by dsimp only; omega))).trans ((keys_hit r _ _ _ _ _ k _ rfl).trans ?_)
    refine (pay4_at r _ _).trans ((pay61_at r r (argY m c) _ (hx (ms0_1 t) (hs0_1 t) inb_S128x1024_S128x1024_0_0) _).trans
      (Eq.trans ?_ (keys_twice _ _ _ _ k).symm))
    exact congrArg (fun n => argY m c (ix2 r n)) (Fin.ext (by dsimp only; omega))
  · obtain ⟨k, rfl⟩ : ∃ k : Fin 128, j = ⟨896 + k.val, off_lt (by decide) k⟩ := fin_off (by decide) j (by omega) (by omega)
    refine (keys_hit r _ _ _ _ _ k _ rfl).trans ((pay5_at r _ _).trans (Eq.trans ?_ (keys_last _ _ _ _ k).symm))
    by_cases h : k.val < 64
    · rw [if_pos h, if_pos h]
      exact pay61_at r r (argY m c) _ (hx (ms0_1 t) (hs0_1 t) inb_S128x1024_S128x1024_0_0) _
    · rw [if_neg h, if_neg h]

/-- The keys' and values' array after the run. -/
theorem keys_array : (dats m 0 c).arrAt 20 cfg0.N = keys (argY m c) (argB m c) (argG m c) := by
  refine (dats m 0 c).arrAt_eq_of_covers 20 _ (by decide +kernel) fun t hf y => ?_
  blk_simp
  rw [after0_20]
  have ey : y = ix2 (y 0) (y 1) := funext fun a => by match a with | ⟨0, _⟩ => rfl | ⟨1, _⟩ => rfl
  refine (congrArg (outsAt0 m c t).2.2.2.2.2 ey).trans ((point_keys m c t (y 0) (y 1)).trans ?_)
  refine congrArg (keys (argY m c) (argB m c) (argG m c)) ?_
  blk_ext [index20]

end Cert.SamplePost

end
-- ==== Proof.SampleQueryRef.lean ====
/- The sample's queries' reference as the queries' arithmetic of one row and head. -/
module

public import proofs.«01_k».proof.Proof.SampleStateRef
public import proofs.«01_k».proof.Proof.QueryRef

@[expose] public section

noncomputable section

namespace Cert.SampleStateRef

open Idealize.ShloMosaic Idealize.ShloMosaic.TcCoe Idealize.SL.Sem Cert.Reference6Ideal Cert.Reference6Ideal.Gen
open Cert.StateRef (col rmsQ wide turned)
open scoped BigOperators

attribute [local instance] Cert.Reference6Ideal.Gen.facts

/-- The cosines of the rotation, one for each of a head's 16 pairs, repeated for the eight heads. -/
def cosHeads : FVec Ideal S128x128 .f32 :=
  broadcastInDim S128x128 ![0, 1] bcast_S1x128_S128x128_0_1 (shapeCast S1x128 (broadcastInDim S1x1x8x16 ![0, 1, 2, 3] bcast_S1x1x1x16_S1x1x8x16_0_1_2_3
    (shapeCast S1x1x1x16 (Host.cos angles) shapeCasts_S1x16_S1x1x1x16)) shapeCasts_S1x1x8x16_S1x128)

/-- The sines, likewise. -/
def sinHeads : FVec Ideal S128x128 .f32 :=
  broadcastInDim S128x128 ![0, 1] bcast_S1x128_S128x128_0_1 (shapeCast S1x128 (broadcastInDim S1x1x8x16 ![0, 1, 2, 3] bcast_S1x1x1x16_S1x1x8x16_0_1_2_3
    (shapeCast S1x1x1x16 (Host.sin angles) shapeCasts_S1x16_S1x1x1x16)) shapeCasts_S1x1x8x16_S1x128)

/-- Columns into heads. -/
def split (z : FVec Ideal S128x1024 .f32) : FVec Ideal S8x128x128 .f32 :=
  transpose S8x128x128 [1, 0, 2] (shapeCast S128x8x128 z shapeCasts_S128x1024_S128x8x128) transposes_S128x8x128_S8x128x128_1_0_2

/-- The latent queries, normalised. -/
def latentQ (u : FVec Ideal S128x256 .f32) (g : FVec Ideal S1x256 .f32) : FVec Ideal S128x256 .f32 :=
  mulf (mulf u (broadcastInDim S128x256 ![0, 1] bcast_S128x1_S128x256_0_1
      (Host.rsqrt (addf (Host.divf (broadcastInDim S128x1 ![0] bcast_S128_S128x1_0
          (Host.reduceAdd (mulf u u) (constant S_ .f32 0x00000000#32) reducesTo_S128x256_S128_d1 h_S_))
        (broadcastInDim S128x1 ![] bcast_S_S128x1 (constant S_ .f32 0x43800000#32)))
        (broadcastInDim S128x1 ![] bcast_S_S128x1 (constant S_ .f32 0x358637BD#32))))))
    (broadcastInDim S128x256 ![0, 1] bcast_S1x256_S128x256_0_1 g)

/-- The latent queries' products. -/
def wideQ (y : FVec Ideal S128x7168 .f32) (g : FVec Ideal S1x256 .f32) (w : FVec Ideal S256x768 .bf16) : FVec Ideal S128x768 .f32 :=
  Host.dotGeneral dot_S128x256_S256x768_S128x768_1_0_0_1_n_n none
    (latentQ (extractStridedSlice S128x256 ![0, 6144] y slices_S128x7168_S128x256_0_6144) g) (extf .f32 w bitsLt_bf16_f32)

/-- The rotary half of the queries, rotated and scaled. -/
def turnedQ (q : FVec Ideal S128x768 .f32) : FVec Ideal S128x256 .f32 :=
  mulf (concatenate S128x256 1
      [⟨S128x128, subf (mulf (extractStridedSlice S128x128 ![0, 512] q slices_S128x768_S128x128_0_512) cosHeads)
          (mulf (extractStridedSlice S128x128 ![0, 640] q slices_S128x768_S128x128_0_640) sinHeads)⟩,
        ⟨S128x128, addf (mulf (extractStridedSlice S128x128 ![0, 512] q slices_S128x768_S128x128_0_512) sinHeads)
          (mulf (extractStridedSlice S128x128 ![0, 640] q slices_S128x768_S128x128_0_640) cosHeads)⟩]
      concatenates_S128x128_S128x128_S128x256_d1)
    (broadcastInDim S128x256 ![] bcast_S_S128x256 (constant S_ .f32 0x3E16C740#32))

/-- The four arrays of queries. -/
def queryA (y : FVec Ideal S128x7168 .f32) (w : FVec Ideal S512x1024 .bf16) (b : FVec Ideal S8x128 .f32) : FVec Ideal S8x128x128 .bf16 :=
  truncf .bf16 (addf (split (Host.dotGeneral dot_S128x512_S512x1024_S128x1024_1_0_0_1_n_n none
      (mulf (extractStridedSlice S128x512 ![0, 0] y slices_S128x7168_S128x512_0_0) (broadcastInDim S128x512 ![] bcast_S_S128x512 (constant S_ .f32 0x3FB8AA3B#32)))
      (extf .f32 w bitsLt_bf16_f32)))
    (broadcastInDim S8x128x128 ![0, 1, 2] bcast_S8x1x128_S8x128x128_0_1_2 (broadcastInDim S8x1x128 ![0, 2] bcast_S8x128_S8x1x128_0_2 b))) bitsLt_bf16_f32

def queryI (y : FVec Ideal S128x7168 .f32) (w : FVec Ideal S512x1024 .bf16) : FVec Ideal S8x128x128 .bf16 :=
  truncf .bf16 (split (Host.dotGeneral dot_S128x512_S512x1024_S128x1024_1_0_0_1_n_n none
      (extractStridedSlice S128x512 ![0, 512] y slices_S128x7168_S128x512_0_512)
      (extf .f32 w bitsLt_bf16_f32))) bitsLt_bf16_f32

def queryB (y : FVec Ideal S128x7168 .f32) (w : FVec Ideal S512x1024 .bf16) : FVec Ideal S8x128x128 .bf16 :=
  truncf .bf16 (split (Host.dotGeneral dot_S128x512_S512x1024_S128x1024_1_0_0_1_n_n none
      (mulf (extractStridedSlice S128x512 ![0, 1024] y slices_S128x7168_S128x512_0_1024) (broadcastInDim S128x512 ![] bcast_S_S128x512 (constant S_ .f32 0x3FB8AA3B#32)))
      (extf .f32 w bitsLt_bf16_f32))) bitsLt_bf16_f32

def queryC (y : FVec Ideal S128x7168 .f32) (g : FVec Ideal S1x256 .f32) (w : FVec Ideal S256x768 .bf16) (wu : FVec Ideal S512x1024 .bf16) (wp : FVec Ideal S256x1024 .bf16) :
    FVec Ideal S8x128x256 .bf16 :=
  truncf .bf16 (concatenate S8x128x256 2
    [⟨S8x128x128, split (mulf (Host.dotGeneral dot_S128x512_S512x1024_S128x1024_1_0_0_1_n_n none
        (extractStridedSlice S128x512 ![0, 0] (wideQ y g w) slices_S128x768_S128x512_0_0) (extf .f32 wu bitsLt_bf16_f32))
        (broadcastInDim S128x1024 ![] bcast_S_S128x1024 (constant S_ .f32 0x3E16C740#32)))⟩,
      ⟨S8x128x128, split (Host.dotGeneral dot_S128x256_S256x1024_S128x1024_1_0_0_1_n_n none (turnedQ (wideQ y g w)) (extf .f32 wp bitsLt_bf16_f32))⟩]
    concatenates_S8x128x128_S8x128x128_S8x128x256_d2) bitsLt_bf16_f32

theorem queryC_res (m : (ℓ : Loc nD τ sig) → Buf (Elt Ideal) ℓ) (c : Dev nD) :
    Value.res_main_v132 m c = queryC (m ((c : Thread nD τ).loc main_arg0)) (m ((c : Thread nD τ).loc main_arg2)) (m ((c : Thread nD τ).loc main_arg6))
      (m ((c : Thread nD τ).loc main_arg7)) (m ((c : Thread nD τ).loc main_arg8)) := by
  unfold Value.res_main_v132
  rfl

variable (y : FVec Ideal S128x7168 .f32) (t : Fin 128) (h : Fin 8) (k : Fin 128)

theorem split_apply (z : FVec Ideal S128x1024 .f32) : split z (ix3 h t k) = z (ix2 t (col h k)) := by
  pointwise [split]
  exact congrArg z (by
    refine funext fun a => Fin.ext ?_
    match a with
    | ⟨0, _⟩ => dsimp [col]
    | ⟨1, _⟩ => dsimp [col])

theorem latentQ_apply (u : FVec Ideal S128x256 .f32) (g : FVec Ideal S1x256 .f32) (j : Fin 256) :
    latentQ u g (ix2 t j) = rmsQ (fun l => u (ix2 t l)) (fun l => g (ix2 0 l)) j := by
  unfold rmsQ
  pointwise [latentQ]

theorem wideQ_apply (g : FVec Ideal S1x256 .f32) (w : FVec Ideal S256x768 .bf16) (n : Fin 768) :
    wideQ y g w (ix2 t n) = wide (fun l => y (ix2 t ⟨6144 + l.val, by omega⟩)) (fun l => g (ix2 0 l)) w n := by
  unfold wide
  pointwise [wideQ]
  refine Finset.sum_congr rfl fun x _ => ?_
  rw [latentQ_apply]
  pointwise []

theorem turnedQ_apply (q : FVec Ideal S128x768 .f32) (j : Fin 256) :
    turnedQ q (ix2 t j) = turned (fun n => q (ix2 t n)) (fun l => cosHeads (ix2 t l)) (fun l => sinHeads (ix2 t l)) j := by
  unfold turned
  pointwise [turnedQ]

theorem queryA_apply (w : FVec Ideal S512x1024 .bf16) (b : FVec Ideal S8x128 .f32) :
    queryA y w b (ix3 h t k)
      = (∑ x : Fin 512, y (ix2 t ⟨x.val, by omega⟩) * Ideal.ofBits .f32 0x3FB8AA3B#32 * w (ix2 x (col h k))) + b (ix2 h k) := by
  pointwise [queryA]
  rw [split_apply]
  pointwise []

theorem queryI_apply (w : FVec Ideal S512x1024 .bf16) :
    queryI y w (ix3 h t k) = ∑ x : Fin 512, y (ix2 t ⟨512 + x.val, by omega⟩) * w (ix2 x (col h k)) := by
  pointwise [queryI]
  rw [split_apply]
  pointwise []

theorem queryB_apply (w : FVec Ideal S512x1024 .bf16) :
    queryB y w (ix3 h t k) = ∑ x : Fin 512, y (ix2 t ⟨1024 + x.val, by omega⟩) * Ideal.ofBits .f32 0x3FB8AA3B#32 * w (ix2 x (col h k)) := by
  pointwise [queryB]
  rw [split_apply]
  pointwise []

variable (g : FVec Ideal S1x256 .f32) (w : FVec Ideal S256x768 .bf16) (wu : FVec Ideal S512x1024 .bf16) (wp : FVec Ideal S256x1024 .bf16)

theorem queryC_lo : queryC y g w wu wp (ix3 h t ⟨k.val, by omega⟩)
    = (∑ x : Fin 512, wide (fun l => y (ix2 t ⟨6144 + l.val, by omega⟩)) (fun l => g (ix2 0 l)) w ⟨x.val, by omega⟩ * wu (ix2 x (col h k)))
        * Ideal.ofBits .f32 0x3E16C740#32 := by
  pointwise [queryC]
  rw [split_apply]
  pointwise []
  exact congrArg (· * Ideal.ofBits .f32 0x3E16C740#32) (Finset.sum_congr rfl fun x _ => congrArg (· * wu (ix2 x (col h k))) (wideQ_apply y t g w _))

theorem queryC_hi : queryC y g w wu wp (ix3 h t ⟨128 + k.val, by omega⟩)
    = ∑ x : Fin 256, turned (wide (fun l => y (ix2 t ⟨6144 + l.val, by omega⟩)) (fun l => g (ix2 0 l)) w)
        (fun l => cosHeads (ix2 t l)) (fun l => sinHeads (ix2 t l)) x * wp (ix2 x (col h k)) := by
  pointwise [queryC]
  rw [split_apply]
  pointwise []
  refine Finset.sum_congr rfl fun x _ => congrArg (· * wp (ix2 x (col h k))) ((turnedQ_apply t _ x).trans ?_)
  exact congrArg (fun q => turned q (fun l => cosHeads (ix2 t l)) (fun l => sinHeads (ix2 t l)) x) (funext fun n => wideQ_apply y t g w n)

end Cert.SampleStateRef

end
-- ==== Proof.SampleQueryOut.lean ====
/- The sample's queries that the kernel leaves. -/
module

public import proofs.«01_k».proof.Proof.SampleStateOut
public import proofs.«01_k».proof.Proof.SampleQueryRef
import all proofs.«01_k».proof.Proof.Gen.Kernel6Ideal.Frame
import all proofs.«01_k».proof.Proof.Gen.Kernel6Ideal.Frame.Runs
import all proofs.«01_k».proof.Proof.Gen.Kernel6Ideal.Frame.RunA

@[expose] public section

noncomputable section

namespace Cert.SamplePost

open Idealize.ShloMosaic Idealize.ShloMosaic.TcCoe Idealize.SL.Sem Cert.Kernel6Ideal Cert.Kernel6Ideal.Gen Cert.SampleStateRef
open Cert.StateRef (col rmsQ wide turned)
open scoped BigOperators

attribute [local instance] Cert.Kernel6Ideal.Gen.facts Cert.Reference6Ideal.Gen.facts

theorem fin8 {P : Fin 8 → Prop} (h0 : P 0) (h1 : P 1) (h2 : P 2) (h3 : P 3) (h4 : P 4) (h5 : P 5) (h6 : P 6) (h7 : P 7) : ∀ h, P h
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

section

variable (r : Fin 128) (n : Fin 1024) (k : Fin 128) (x : Vec Ideal S128x1536 .f32) (w : Vec Ideal S512x1024 .bf16) (u : Vec Ideal S1x128 .f32)
  (z : FVec Ideal S128x1024 .f32)

/-- The wide products, before they are cut into heads. -/
theorem pay6_at : k0_pay6 x w (ix2 r n) = ∑ j : Fin 512, x (ix2 r ⟨j.val, by omega⟩) * Ideal.ofBits .f32 0x3FB8AA3B#32 * w (ix2 j n) := by
  pointwise [k0_pay6]

theorem pay17_at : k0_pay17 x w (ix2 r n) = ∑ j : Fin 512, x (ix2 r ⟨512 + j.val, by omega⟩) * w (ix2 j n) := by
  pointwise [k0_pay17]

theorem pay27_at : k0_pay27 x w (ix2 r n) = ∑ j : Fin 512, x (ix2 r ⟨1024 + j.val, by omega⟩) * Ideal.ofBits .f32 0x3FB8AA3B#32 * w (ix2 j n) := by
  pointwise [k0_pay27]

variable (a : Vec Ideal S128x1024 .f32) (g : Vec Ideal S1x256 .f32) (wq : Vec Ideal S256x768 .bf16) (co si : Vec Ideal S128x128 .f32) (p : Vec Ideal S256x1024 .bf16)

theorem pay40_at (n : Fin 768) : k0_pay40 (k0_pay37 a) (k0_pay38 a) (k0_pay39 (F := Ideal)) g wq (ix2 r n)
    = wide (fun l => a (ix2 r ⟨l.val, by omega⟩)) (fun l => g (ix2 0 l)) wq n := by
  unfold wide rmsQ
  pointwise [k0_pay40, k0_pay39, k0_pay38, k0_pay37]

theorem pay41_at (v : FVec Ideal S128x256 .f32) (d e : FVec Ideal S128x1 .f32) : k0_pay41 v d e g wq co si p (ix2 r n)
    = ∑ j : Fin 256, turned (fun i => k0_pay40 v d e g wq (ix2 r i)) (fun l => co (ix2 r l)) (fun l => si (ix2 r l)) j * p (ix2 j n) := by
  unfold turned
  pointwise [k0_pay41]

theorem pay42_at (v : FVec Ideal S128x256 .f32) (d e : FVec Ideal S128x1 .f32) : k0_pay42 v d e g wq w (ix2 r n)
    = (∑ j : Fin 512, k0_pay40 v d e g wq (ix2 r ⟨j.val, by omega⟩) * w (ix2 j n)) * Ideal.ofBits .f32 0x3E16C740#32 := by
  pointwise [k0_pay42]

/- A head of a wide product. -/

theorem headA0 (hn : n.val = 0 + k.val) : k0_pay7 x w u (ix3 0 r k) = k0_pay6 x w (ix2 r n) + u (ix2 0 k) := by
  pointwise [k0_pay7]
  exact congrArg (fun e => k0_pay6 x w (ix2 r e) + u (ix2 0 k)) (Fin.ext (by dsimp only; omega))

theorem headA1 (hn : n.val = 128 + k.val) : k0_pay8 x w u (ix3 0 r k) = k0_pay6 x w (ix2 r n) + u (ix2 0 k) := by
  pointwise [k0_pay8]
  exact congrArg (fun e => k0_pay6 x w (ix2 r e) + u (ix2 0 k)) (Fin.ext (by dsimp only; omega))

theorem headA2 (hn : n.val = 256 + k.val) : k0_pay9 x w u (ix3 0 r k) = k0_pay6 x w (ix2 r n) + u (ix2 0 k) := by
  pointwise [k0_pay9]
  exact congrArg (fun e => k0_pay6 x w (ix2 r e) + u (ix2 0 k)) (Fin.ext (by dsimp only; omega))

theorem headA3 (hn : n.val = 384 + k.val) : k0_pay11 (k0_pay10 x w) u (ix3 0 r k) = k0_pay6 x w (ix2 r n) + u (ix2 0 k) := by
  pointwise [k0_pay11, k0_pay10]
  exact congrArg (fun e => k0_pay6 x w (ix2 r e) + u (ix2 0 k)) (Fin.ext (by dsimp only; omega))

theorem headA4 (hn : n.val = 512 + k.val) : k0_pay12 z u (ix3 0 r k) = z (ix2 r n) + u (ix2 0 k) := by
  pointwise [k0_pay12]
  exact congrArg (fun e => z (ix2 r e) + u (ix2 0 k)) (Fin.ext (by dsimp only; omega))

theorem headA5 (hn : n.val = 640 + k.val) : k0_pay13 z u (ix3 0 r k) = z (ix2 r n) + u (ix2 0 k) := by
  pointwise [k0_pay13]
  exact congrArg (fun e => z (ix2 r e) + u (ix2 0 k)) (Fin.ext (by dsimp only; omega))

theorem headA6 (hn : n.val = 768 + k.val) : k0_pay14 z u (ix3 0 r k) = z (ix2 r n) + u (ix2 0 k) := by
  pointwise [k0_pay14]
  exact congrArg (fun e => z (ix2 r e) + u (ix2 0 k)) (Fin.ext (by dsimp only; omega))

theorem headA7 (hn : n.val = 896 + k.val) : k0_pay16 (k0_pay15 z u) (ix3 0 r k) = z (ix2 r n) + u (ix2 0 k) := by
  pointwise [k0_pay16, k0_pay15]
  exact congrArg (fun e => z (ix2 r e) + u (ix2 0 k)) (Fin.ext (by dsimp only; omega))

theorem headI0 (hn : n.val = 0 + k.val) : k0_pay18 x w (ix3 0 r k) = k0_pay17 x w (ix2 r n) := by
  pointwise [k0_pay18]
  exact congrArg (fun e => k0_pay17 x w (ix2 r e)) (Fin.ext (by dsimp only; omega))

theorem headI1 (hn : n.val = 128 + k.val) : k0_pay19 x w (ix3 0 r k) = k0_pay17 x w (ix2 r n) := by
  pointwise [k0_pay19]
  exact congrArg (fun e => k0_pay17 x w (ix2 r e)) (Fin.ext (by dsimp only; omega))

theorem headI2 (hn : n.val = 256 + k.val) : k0_pay20 x w (ix3 0 r k) = k0_pay17 x w (ix2 r n) := by
  pointwise [k0_pay20]
  exact congrArg (fun e => k0_pay17 x w (ix2 r e)) (Fin.ext (by dsimp only; omega))

theorem headI3 (hn : n.val = 384 + k.val) : k0_pay21 x w (ix3 0 r k) = k0_pay17 x w (ix2 r n) := by
  pointwise [k0_pay21]
  exact congrArg (fun e => k0_pay17 x w (ix2 r e)) (Fin.ext (by dsimp only; omega))

theorem headI4 (hn : n.val = 512 + k.val) : k0_pay22 x w (ix3 0 r k) = k0_pay17 x w (ix2 r n) := by
  pointwise [k0_pay22]
  exact congrArg (fun e => k0_pay17 x w (ix2 r e)) (Fin.ext (by dsimp only; omega))

theorem headI5 (hn : n.val = 640 + k.val) : k0_pay24 (k0_pay23 x w) (ix3 0 r k) = k0_pay17 x w (ix2 r n) := by
  pointwise [k0_pay24, k0_pay23]
  exact congrArg (fun e => k0_pay17 x w (ix2 r e)) (Fin.ext (by dsimp only; omega))

theorem headI6 (hn : n.val = 768 + k.val) : k0_pay25 z (ix3 0 r k) = z (ix2 r n) := by
  pointwise [k0_pay25]
  exact congrArg (fun e => z (ix2 r e)) (Fin.ext (by dsimp only; omega))

theorem headI7 (hn : n.val = 896 + k.val) : k0_pay26 z (ix3 0 r k) = z (ix2 r n) := by
  pointwise [k0_pay26]
  exact congrArg (fun e => z (ix2 r e)) (Fin.ext (by dsimp only; omega))

theorem headB0 (hn : n.val = 0 + k.val) : k0_pay28 x w (ix3 0 r k) = k0_pay27 x w (ix2 r n) := by
  pointwise [k0_pay28]
  exact congrArg (fun e => k0_pay27 x w (ix2 r e)) (Fin.ext (by dsimp only; omega))

theorem headB1 (hn : n.val = 128 + k.val) : k0_pay29 x w (ix3 0 r k) = k0_pay27 x w (ix2 r n) := by
  pointwise [k0_pay29]
  exact congrArg (fun e => k0_pay27 x w (ix2 r e)) (Fin.ext (by dsimp only; omega))

theorem headB2 (hn : n.val = 256 + k.val) : k0_pay31 (k0_pay30 x w) (ix3 0 r k) = k0_pay27 x w (ix2 r n) := by
  pointwise [k0_pay31, k0_pay30]
  exact congrArg (fun e => k0_pay27 x w (ix2 r e)) (Fin.ext (by dsimp only; omega))

theorem headB3 (hn : n.val = 384 + k.val) : k0_pay32 z (ix3 0 r k) = z (ix2 r n) := by
  pointwise [k0_pay32]
  exact congrArg (fun e => z (ix2 r e)) (Fin.ext (by dsimp only; omega))

theorem headB4 (hn : n.val = 512 + k.val) : k0_pay33 z (ix3 0 r k) = z (ix2 r n) := by
  pointwise [k0_pay33]
  exact congrArg (fun e => z (ix2 r e)) (Fin.ext (by dsimp only; omega))

theorem headB5 (hn : n.val = 640 + k.val) : k0_pay34 z (ix3 0 r k) = z (ix2 r n) := by
  pointwise [k0_pay34]
  exact congrArg (fun e => z (ix2 r e)) (Fin.ext (by dsimp only; omega))

theorem headB6 (hn : n.val = 768 + k.val) : k0_pay35 z (ix3 0 r k) = z (ix2 r n) := by
  pointwise [k0_pay35]
  exact congrArg (fun e => z (ix2 r e)) (Fin.ext (by dsimp only; omega))

theorem headB7 (hn : n.val = 896 + k.val) : k0_pay36 z (ix3 0 r k) = z (ix2 r n) := by
  pointwise [k0_pay36]
  exact congrArg (fun e => z (ix2 r e)) (Fin.ext (by dsimp only; omega))

theorem headL0 (v : FVec Ideal S128x256 .f32) (d e : FVec Ideal S128x1 .f32) (hn : n.val = 0 + k.val) : k0_pay43 v d e g wq w (ix3 0 r k) = k0_pay42 v d e g wq w (ix2 r n) := by
  pointwise [k0_pay43]
  exact congrArg (fun i => k0_pay42 v d e g wq w (ix2 r i)) (Fin.ext (by dsimp only; omega))

theorem headL1 (hn : n.val = 128 + k.val) : k0_pay45 z (ix3 0 r k) = z (ix2 r n) := by
  pointwise [k0_pay45]
  exact congrArg (fun e => z (ix2 r e)) (Fin.ext (by dsimp only; omega))

theorem headL2 (hn : n.val = 256 + k.val) : k0_pay47 z (ix3 0 r k) = z (ix2 r n) := by
  pointwise [k0_pay47]
  exact congrArg (fun e => z (ix2 r e)) (Fin.ext (by dsimp only; omega))

theorem headL3 (hn : n.val = 384 + k.val) : k0_pay49 z (ix3 0 r k) = z (ix2 r n) := by
  pointwise [k0_pay49]
  exact congrArg (fun e => z (ix2 r e)) (Fin.ext (by dsimp only; omega))

theorem headL4 (hn : n.val = 512 + k.val) : k0_pay52 z (ix3 0 r k) = z (ix2 r n) := by
  pointwise [k0_pay52]
  exact congrArg (fun e => z (ix2 r e)) (Fin.ext (by dsimp only; omega))

theorem headL5 (hn : n.val = 640 + k.val) : k0_pay54 z (ix3 0 r k) = z (ix2 r n) := by
  pointwise [k0_pay54]
  exact congrArg (fun e => z (ix2 r e)) (Fin.ext (by dsimp only; omega))

theorem headL6 (hn : n.val = 768 + k.val) : k0_pay56 z (ix3 0 r k) = z (ix2 r n) := by
  pointwise [k0_pay56]
  exact congrArg (fun e => z (ix2 r e)) (Fin.ext (by dsimp only; omega))

theorem headL7 (hn : n.val = 896 + k.val) : k0_pay59 (k0_pay58 z) (ix3 0 r k) = z (ix2 r n) := by
  pointwise [k0_pay59, k0_pay58]
  exact congrArg (fun e => z (ix2 r e)) (Fin.ext (by dsimp only; omega))

theorem headR0 (hn : n.val = 0 + k.val) : k0_pay44 z (ix3 0 r k) = z (ix2 r n) := by
  pointwise [k0_pay44]
  exact congrArg (fun e => z (ix2 r e)) (Fin.ext (by dsimp only; omega))

theorem headR1 (hn : n.val = 128 + k.val) : k0_pay46 z (ix3 0 r k) = z (ix2 r n) := by
  pointwise [k0_pay46]
  exact congrArg (fun e => z (ix2 r e)) (Fin.ext (by dsimp only; omega))

theorem headR2 (hn : n.val = 256 + k.val) : k0_pay48 z (ix3 0 r k) = z (ix2 r n) := by
  pointwise [k0_pay48]
  exact congrArg (fun e => z (ix2 r e)) (Fin.ext (by dsimp only; omega))

theorem headR3 (hn : n.val = 384 + k.val) : k0_pay51 (k0_pay50 z) (ix3 0 r k) = z (ix2 r n) := by
  pointwise [k0_pay51, k0_pay50]
  exact congrArg (fun e => z (ix2 r e)) (Fin.ext (by dsimp only; omega))

theorem headR4 (hn : n.val = 512 + k.val) : k0_pay53 z (ix3 0 r k) = z (ix2 r n) := by
  pointwise [k0_pay53]
  exact congrArg (fun e => z (ix2 r e)) (Fin.ext (by dsimp only; omega))

theorem headR5 (hn : n.val = 640 + k.val) : k0_pay55 z (ix3 0 r k) = z (ix2 r n) := by
  pointwise [k0_pay55]
  exact congrArg (fun e => z (ix2 r e)) (Fin.ext (by dsimp only; omega))

theorem headR6 (hn : n.val = 768 + k.val) : k0_pay57 z (ix3 0 r k) = z (ix2 r n) := by
  pointwise [k0_pay57]
  exact congrArg (fun e => z (ix2 r e)) (Fin.ext (by dsimp only; omega))

theorem headR7 (hn : n.val = 896 + k.val) : k0_pay60 z (ix3 0 r k) = z (ix2 r n) := by
  pointwise [k0_pay60]
  exact congrArg (fun e => z (ix2 r e)) (Fin.ext (by dsimp only; omega))

end

section

variable {r : Fin 128} {κ : Kind} {sp : Space}

/-- A load of one row of the heads' biases. -/
theorem load_row (M : Memref sig .tc .vmem S8x128 .f32) (hM : M.IsWhole) (X : Vec Ideal S8x128 .f32) (h : Fin 8)
    (inb : ∀ a, (![h.val, 0] : Fin 2 → ℕ) a + (![1, 128] : Fin 2 → ℕ) a ≤ S8x128.size a) (k : Fin 128) :
    M.view.readAt (Elt Ideal) (Rect.unit (s := S8x128) ![h.val, 0] ![1, 128] inb).toLoadRect (hM.unread X) (ix2 0 k) = X (ix2 h k) := by
  refine (hM.readAt_unread _ _ _).trans (congrArg X (funext fun a => Fin.ext ?_))
  match a with
  | ⟨0, _⟩ => show h.val + 1 * 0 = h.val; omega
  | ⟨1, _⟩ => show 0 + 1 * k.val = k.val; omega

section

variable {v : View sig κ sp S8x128x128 .bf16} {f : v.ty.Contents (Elt Ideal)} {o : ℕ}
  {inb : ∀ a, (![o, 0, 0] : Fin 3 → ℕ) a + (![1, 128, 128] : Fin 3 → ℕ) a ≤ S8x128x128.size a}

/-- The newest head. -/
theorem head_hit {u : (Rect.unit (s := S8x128x128) ![o, 0, 0] ![1, 128, 128] inb).shape.Idx → EReal} {L : List (View.Piece (Elt Ideal) S8x128x128 .bf16)} {k : Fin 128} {h : Fin 8}
    (hh : h.val = o) :
    v.read (Elt Ideal) (v.writes (Elt Ideal) f ((⟨Rect.unit (s := S8x128x128) ![o, 0, 0] ![1, 128, 128] inb, u⟩ : View.Piece (Elt Ideal) S8x128x128 .bf16) :: L)) (ix3 h r k)
      = u (ix3 0 r k) :=
  View.read_writes_cons_unit_of_mem v f inb u L (ix3 h r k) (ix3 0 r k) rfl fun a => by
    match a with
    | ⟨0, _⟩ => exact hh
    | ⟨1, _⟩ => exact (Nat.zero_add _).symm
    | ⟨2, _⟩ => exact (Nat.zero_add _).symm

/-- Another head. -/
theorem head_miss {u : (Rect.unit (s := S8x128x128) ![o, 0, 0] ![1, 128, 128] inb).shape.Idx → EReal} {L : List (View.Piece (Elt Ideal) S8x128x128 .bf16)} {k : Fin 128} {h : Fin 8}
    (hh : h.val < o ∨ o + 1 ≤ h.val) :
    v.read (Elt Ideal) (v.writes (Elt Ideal) f ((⟨Rect.unit (s := S8x128x128) ![o, 0, 0] ![1, 128, 128] inb, u⟩ : View.Piece (Elt Ideal) S8x128x128 .bf16) :: L)) (ix3 h r k)
      = v.read (Elt Ideal) (v.writes (Elt Ideal) f L) (ix3 h r k) :=
  View.read_writes_cons_unit_of_not_mem v f inb u L (ix3 h r k) rfl (0 : Fin 3) hh

end

section

variable {v : View sig κ sp S8x128x256 .bf16} {f : v.ty.Contents (Elt Ideal)} {o q : ℕ}
  {inb : ∀ a, (![o, 0, q] : Fin 3 → ℕ) a + (![1, 128, 128] : Fin 3 → ℕ) a ≤ S8x128x256.size a}

/-- The newest half head. -/
theorem half_hit {u : (Rect.unit (s := S8x128x256) ![o, 0, q] ![1, 128, 128] inb).shape.Idx → EReal} {L : List (View.Piece (Elt Ideal) S8x128x256 .bf16)} {k : Fin 128} {h : Fin 8}
    {j : Fin 256} (hh : h.val = o) (hj : j.val = q + k.val) :
    v.read (Elt Ideal) (v.writes (Elt Ideal) f ((⟨Rect.unit (s := S8x128x256) ![o, 0, q] ![1, 128, 128] inb, u⟩ : View.Piece (Elt Ideal) S8x128x256 .bf16) :: L)) (ix3 h r j)
      = u (ix3 0 r k) :=
  View.read_writes_cons_unit_of_mem v f inb u L (ix3 h r j) (ix3 0 r k) rfl fun a => by
    match a with
    | ⟨0, _⟩ => exact hh
    | ⟨1, _⟩ => exact (Nat.zero_add _).symm
    | ⟨2, _⟩ => exact hj

/-- Another head. -/
theorem half_miss {u : (Rect.unit (s := S8x128x256) ![o, 0, q] ![1, 128, 128] inb).shape.Idx → EReal} {L : List (View.Piece (Elt Ideal) S8x128x256 .bf16)} {h : Fin 8} {j : Fin 256}
    (hh : h.val < o ∨ o + 1 ≤ h.val) :
    v.read (Elt Ideal) (v.writes (Elt Ideal) f ((⟨Rect.unit (s := S8x128x256) ![o, 0, q] ![1, 128, 128] inb, u⟩ : View.Piece (Elt Ideal) S8x128x256 .bf16) :: L)) (ix3 h r j)
      = v.read (Elt Ideal) (v.writes (Elt Ideal) f L) (ix3 h r j) :=
  View.read_writes_cons_unit_of_not_mem v f inb u L (ix3 h r j) rfl (0 : Fin 3) hh

/-- The other half of a head. -/
theorem half_other {u : (Rect.unit (s := S8x128x256) ![o, 0, q] ![1, 128, 128] inb).shape.Idx → EReal} {L : List (View.Piece (Elt Ideal) S8x128x256 .bf16)} {h : Fin 8} {j : Fin 256}
    (hj : j.val < q ∨ q + 128 ≤ j.val) :
    v.read (Elt Ideal) (v.writes (Elt Ideal) f ((⟨Rect.unit (s := S8x128x256) ![o, 0, q] ![1, 128, 128] inb, u⟩ : View.Piece (Elt Ideal) S8x128x256 .bf16) :: L)) (ix3 h r j)
      = v.read (Elt Ideal) (v.writes (Elt Ideal) f L) (ix3 h r j) :=
  View.read_writes_cons_unit_of_not_mem v f inb u L (ix3 h r j) rfl (2 : Fin 3) hj

end

end

section

variable (r : Fin 128) (T : Fin 128) (h : Fin 8) (k : Fin 128) (y : FVec Ideal S128x7168 .f32) (W : FVec Ideal S512x1024 .bf16)
  (x : Vec Ideal S128x1536 .f32) (hx : ∀ (j : Fin 1536) (n : Fin 7168), n.val = j.val → x (ix2 r j) = y (ix2 T n))
  (w : Vec Ideal S512x1024 .bf16) (hw : ∀ j n, w (ix2 j n) = W (ix2 j n))

include hx hw

theorem closeA (b : FVec Ideal S8x128 .f32) (u : Vec Ideal S1x128 .f32) (hu : u (ix2 0 k) = b (ix2 h k)) :
    k0_pay6 x w (ix2 r (col h k)) + u (ix2 0 k) = queryA y W b (ix3 h T k) := by
  rw [pay6_at, hu, queryA_apply]
  exact congrArg (· + b (ix2 h k)) (Finset.sum_congr rfl fun j _ => by rw [hx _ ⟨j.val, by omega⟩ rfl, hw])

theorem closeI : k0_pay17 x w (ix2 r (col h k)) = queryI y W (ix3 h T k) := by
  rw [pay17_at, queryI_apply]
  exact Finset.sum_congr rfl fun j _ => by rw [hx _ ⟨512 + j.val, by omega⟩ rfl, hw]

theorem closeB : k0_pay27 x w (ix2 r (col h k)) = queryB y W (ix3 h T k) := by
  rw [pay27_at, queryB_apply]
  exact Finset.sum_congr rfl fun j _ => by rw [hx _ ⟨1024 + j.val, by omega⟩ rfl, hw]

end

section

variable (r : Fin 128) (T : Fin 128) (h : Fin 8) (k : Fin 128) (y : FVec Ideal S128x7168 .f32) (G : FVec Ideal S1x256 .f32)
  (WQ : FVec Ideal S256x768 .bf16) (WU : FVec Ideal S512x1024 .bf16) (WP : FVec Ideal S256x1024 .bf16)
  (x : Vec Ideal S128x1024 .f32) (hx : ∀ (j : Fin 1024) (n : Fin 7168), n.val = 6144 + j.val → x (ix2 r j) = y (ix2 T n))
  (g : Vec Ideal S1x256 .f32) (hg : ∀ l, g (ix2 0 l) = G (ix2 0 l)) (wq : Vec Ideal S256x768 .bf16) (hq : ∀ j n, wq (ix2 j n) = WQ (ix2 j n))

include hx hg hq

theorem wide_eq (n : Fin 768) : k0_pay40 (k0_pay37 x) (k0_pay38 x) (k0_pay39 (F := Ideal)) g wq (ix2 r n)
    = wide (fun l => y (ix2 T ⟨6144 + l.val, by omega⟩)) (fun l => G (ix2 0 l)) WQ n := by
  have e : (fun l : Fin 256 => x (ix2 r ⟨l.val, by omega⟩)) = fun l => y (ix2 T ⟨6144 + l.val, by omega⟩) := funext fun l => hx _ _ rfl
  have eg : (fun l : Fin 256 => g (ix2 0 l)) = fun l => G (ix2 0 l) := funext hg
  rw [pay40_at, e, eg]
  unfold wide
  exact Finset.sum_congr rfl fun j _ => by rw [hq]

theorem closeL (wu : Vec Ideal S512x1024 .bf16) (hu : ∀ j n, wu (ix2 j n) = WU (ix2 j n)) :
    k0_pay42 (k0_pay37 x) (k0_pay38 x) (k0_pay39 (F := Ideal)) g wq wu (ix2 r (col h k)) = queryC y G WQ WU WP (ix3 h T ⟨k.val, by omega⟩) := by
  rw [pay42_at, queryC_lo]
  exact congrArg (· * Ideal.ofBits .f32 0x3E16C740#32) (Finset.sum_congr rfl fun j _ => by rw [wide_eq r T y G WQ x hx g hg wq hq, hu])

theorem closeR (co si : Vec Ideal S128x128 .f32) (hco : ∀ l, co (ix2 r l) = cosHeads (ix2 T l)) (hsi : ∀ l, si (ix2 r l) = sinHeads (ix2 T l))
    (p : Vec Ideal S256x1024 .bf16) (hp : ∀ j n, p (ix2 j n) = WP (ix2 j n)) :
    k0_pay41 (k0_pay37 x) (k0_pay38 x) (k0_pay39 (F := Ideal)) g wq co si p (ix2 r (col h k)) = queryC y G WQ WU WP (ix3 h T ⟨128 + k.val, by omega⟩) := by
  have e : (fun i => k0_pay40 (k0_pay37 x) (k0_pay38 x) (k0_pay39 (F := Ideal)) g wq (ix2 r i))
      = wide (fun l => y (ix2 T ⟨6144 + l.val, by omega⟩)) (fun l => G (ix2 0 l)) WQ := funext fun n => wide_eq r T y G WQ x hx g hg wq hq n
  have ec : (fun l => co (ix2 r l)) = fun l => cosHeads (ix2 T l) := funext hco
  have es : (fun l => si (ix2 r l)) = fun l => sinHeads (ix2 T l) := funext hsi
  rw [pay41_at, queryC_hi, e, ec, es]
  exact Finset.sum_congr rfl fun j _ => by rw [hp]

end

variable (m : (ℓ : Loc nD τ sig) → Buf (Elt Ideal) ℓ) (c : Dev nD)

abbrev argGQ : FVec Ideal S1x256 .f32 := m ((c : Thread nD τ).loc main_arg2)
abbrev argSA : FVec Ideal S512x1024 .bf16 := m ((c : Thread nD τ).loc main_arg4)
abbrev argSB : FVec Ideal S512x1024 .bf16 := m ((c : Thread nD τ).loc main_arg5)
abbrev argWQ : FVec Ideal S256x768 .bf16 := m ((c : Thread nD τ).loc main_arg6)
abbrev argWU : FVec Ideal S512x1024 .bf16 := m ((c : Thread nD τ).loc main_arg7)
abbrev argWP : FVec Ideal S256x1024 .bf16 := m ((c : Thread nD τ).loc main_arg8)
abbrev argQB : FVec Ideal S8x128 .f32 := m ((c : Thread nD τ).loc main_arg9)

/-- The cosines as the call is given them. -/
def cosTile : FVec Ideal S128x128 .f32 :=
  shapeCast S128x128 (broadcastInDim S1x128x8x16 ![0, 1, 2, 3] bcast_S1x128x1x16_S1x128x8x16_0_1_2_3
    (shapeCast S1x128x1x16 (Host.cos turns) shapeCasts_S128x16_S1x128x1x16)) shapeCasts_S1x128x8x16_S128x128

theorem cosTile_eq : cosTile = cosHeads := by
  refine funext fun i => ?_
  obtain ⟨t, l, rfl⟩ : ∃ (t : Fin 128) (l : Fin 128), i = ix2 t l := ⟨i 0, i 1, funext fun a => by match a with | ⟨0, _⟩ => rfl | ⟨1, _⟩ => rfl⟩
  pointwise [cosTile, cosHeads]
  rw [turns_apply]

theorem cosHeads_eq : V m c main_v22 = cosHeads := by
  rw [← cosTile_eq]
  unfold V hostOps0
  after_reads_simp
  rfl

/-- The sines as the call is given them. -/
def sinTile : FVec Ideal S128x128 .f32 :=
  shapeCast S128x128 (broadcastInDim S1x128x8x16 ![0, 1, 2, 3] bcast_S1x128x1x16_S1x128x8x16_0_1_2_3
    (shapeCast S1x128x1x16 (Host.sin turns) shapeCasts_S128x16_S1x128x1x16)) shapeCasts_S1x128x8x16_S128x128

theorem sinTile_eq : sinTile = sinHeads := by
  refine funext fun i => ?_
  obtain ⟨t, l, rfl⟩ : ∃ (t : Fin 128) (l : Fin 128), i = ix2 t l := ⟨i 0, i 1, funext fun a => by match a with | ⟨0, _⟩ => rfl | ⟨1, _⟩ => rfl⟩
  pointwise [sinTile, sinHeads]
  rw [turns_apply]

theorem sinHeads_eq : V m c main_v25 = sinHeads := by
  rw [← sinTile_eq]
  unfold V hostOps0
  after_reads_simp
  rfl

theorem index0 : ∀ t : Fin cfg0.N, win0_0.index t = ![0, 0] := (by decide +kernel : ∀ t : Fin grid0.N, win0_0.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index7 : ∀ t : Fin cfg0.N, win0_7.index t = ![0, 0] := (by decide +kernel : ∀ t : Fin grid0.N, win0_7.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, 0, 0] := (by decide +kernel : ∀ t : Fin grid0.N, win0_15.index t = ![0, 0, 0])
theorem index16 : ∀ t : Fin cfg0.N, win0_16.index t = ![0, 0, 0] := (by decide +kernel : ∀ t : Fin grid0.N, win0_16.index t = ![0, 0, 0])
theorem index17 : ∀ t : Fin cfg0.N, win0_17.index t = ![0, 0, 0] := (by decide +kernel : ∀ t : Fin grid0.N, win0_17.index t = ![0, 0, 0])
theorem index18 : ∀ t : Fin cfg0.N, win0_18.index t = ![0, 0, 0] := (by decide +kernel : ∀ t : Fin grid0.N, win0_18.index t = ![0, 0, 0])

theorem X0_apply (t : Fin cfg0.N) (r : Fin 128) (j : Fin 1536) (n : Fin 7168) (hn : n.val = j.val) :
    (X0_0 m c t : Vec Ideal S128x1536 .f32) (ix2 r j) = argY m c (ix2 r n) := by
  unfold X0_0 Pipeline.Window.fill
  rw [dif_pos (moved0_0 t _)]
  show ((cfg0.win 0).blk t).view.read (Elt Ideal) (V m c main_arg0) _ = _
  rw [V_main_arg0]
  blk_simp
  refine congrArg (argY m c) ?_
  obtain rfl : n = ⟨j.val, j.isLt.trans (by decide)⟩ := Fin.ext hn
  blk_ext [index0]

theorem iblk2_apply (t : Fin cfg0.N) (r : Fin 128) (l : Fin 128) :
    (iblk m c 2 t : Vec Ideal S128x128 .f32) (ix2 r l) = cosHeads (ix2 r l) := by
  show ((cfg0.win 2).blk t).view.read (Elt Ideal) (V m c main_v22) (ix2 r l) = _
  rw [cosHeads_eq]
  generalize cosHeads = W
  blk_simp
  refine congrArg W ?_
  blk_ext [index2]

theorem iblk3_apply (t : Fin cfg0.N) (r : Fin 128) (l : Fin 128) :
    (iblk m c 3 t : Vec Ideal S128x128 .f32) (ix2 r l) = sinHeads (ix2 r l) := by
  show ((cfg0.win 3).blk t).view.read (Elt Ideal) (V m c main_v25) (ix2 r l) = _
  rw [sinHeads_eq]
  generalize sinHeads = W
  blk_simp
  refine congrArg W ?_
  blk_ext [index3]

theorem iblk7_apply (t : Fin cfg0.N) (l : Fin 256) :
    (iblk m c 7 t : Vec Ideal S1x256 .f32) (ix2 0 l) = argGQ m c (ix2 0 l) := by
  show ((cfg0.win 7).blk t).view.read (Elt Ideal) (V m c main_arg2) _ = _
  rw [V_main_arg2]
  blk_simp
  refine congrArg (argGQ m c) ?_
  blk_ext [index7]

theorem iblk9_apply (t : Fin cfg0.N) (j : Fin 512) (l : Fin 1024) :
    (iblk m c 9 t : Vec Ideal S512x1024 .bf16) (ix2 j l) = argSA m c (ix2 j l) := by
  show ((cfg0.win 9).blk t).view.read (Elt Ideal) (V m c main_arg4) _ = _
  rw [V_main_arg4]
  blk_simp
  refine congrArg (argSA m c) ?_
  blk_ext [index9]

theorem iblk10_apply (t : Fin cfg0.N) (j : Fin 512) (l : Fin 1024) :
    (iblk m c 10 t : Vec Ideal S512x1024 .bf16) (ix2 j l) = argSB m c (ix2 j l) := by
  show ((cfg0.win 10).blk t).view.read (Elt Ideal) (V m c main_arg5) _ = _
  rw [V_main_arg5]
  blk_simp
  refine congrArg (argSB m c) ?_
  blk_ext [index10]

theorem iblk11_apply (t : Fin cfg0.N) (j : Fin 256) (l : Fin 768) :
    (iblk m c 11 t : Vec Ideal S256x768 .bf16) (ix2 j l) = argWQ m c (ix2 j l) := by
  show ((cfg0.win 11).blk t).view.read (Elt Ideal) (V m c main_arg6) _ = _
  rw [V_main_arg6]
  blk_simp
  refine congrArg (argWQ m c) ?_
  blk_ext [index11]

theorem iblk12_apply (t : Fin cfg0.N) (j : Fin 512) (l : Fin 1024) :
    (iblk m c 12 t : Vec Ideal S512x1024 .bf16) (ix2 j l) = argWU m c (ix2 j l) := by
  show ((cfg0.win 12).blk t).view.read (Elt Ideal) (V m c main_arg7) _ = _
  rw [V_main_arg7]
  blk_simp
  refine congrArg (argWU m c) ?_
  blk_ext [index12]

theorem iblk13_apply (t : Fin cfg0.N) (j : Fin 256) (l : Fin 1024) :
    (iblk m c 13 t : Vec Ideal S256x1024 .bf16) (ix2 j l) = argWP m c (ix2 j l) := by
  show ((cfg0.win 13).blk t).view.read (Elt Ideal) (V m c main_arg8) _ = _
  rw [V_main_arg8]
  blk_simp
  refine congrArg (argWP m c) ?_
  blk_ext [index13]

theorem iblk14_apply (t : Fin cfg0.N) (j : Fin 8) (l : Fin 128) :
    (iblk m c 14 t : Vec Ideal S8x128 .f32) (ix2 j l) = argQB m c (ix2 j l) := by
  show ((cfg0.win 14).blk t).view.read (Elt Ideal) (V m c main_arg9) _ = _
  rw [V_main_arg9]
  blk_simp
  refine congrArg (argQB m c) ?_
  blk_ext [index14]

/-- A point's queries, A. -/
theorem pointA (t : Fin cfg0.N) (h : Fin 8) (r : Fin 128) (k : Fin 128) :
    (outsAt0 m c t).1 (ix3 h r k) = queryA (argY m c) (argSA m c) (argQB m c) (ix3 h r k) := by
  unfold outsAt0
  dsimp only
  unfold out0_A_15 kernelRun0_A
  dsimp only
  have hx0 : ∀ inb (j : Fin 1536) (n : Fin 7168) (e : n.val = j.val),
      (ms0_0 t).view.readAt (Elt Ideal) (Rect.unit (s := S128x1536) ![0, 0] S128x1536.size inb).toLoadRect ((hs0_0 t).unread (X0_0 m c t)) (ix2 r j) = argY m c (ix2 r n) :=
    fun _ j n e => (load_whole (ms0_0 t) (hs0_0 t) (X0_0 m c t : Vec Ideal S128x1536 .f32) _ off2 _ _).trans (X0_apply m c t r j n e)
  have hsa : ∀ inb (j : Fin 512) (n : Fin 1024),
      (ms0_9 t).view.readAt (Elt Ideal) (Rect.unit (s := S512x1024) ![0, 0] S512x1024.size inb).toLoadRect ((hs0_9 t).unread (iblk m c 9 t)) (ix2 j n) = argSA m c (ix2 j n) :=
    fun _ j n => (load_whole (ms0_9 t) (hs0_9 t) (iblk m c 9 t : Vec Ideal S512x1024 .bf16) _ off2 _ _).trans (iblk9_apply m c t j n)
  unfold kernelRun0_A.sl.r_1 kernelRun0_A.sl.r_2 kernelRun0_A.sl.r_3 kernelRun0_A.sl.r_4
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headA0 r (col 0 k) k _ _ _ rfl).trans (closeA r r 0 k (argY m c) (argSA m c) _ (hx0 _) _ (hsa _) (argQB m c) _
      ((load_row (ms0_14 t) (hs0_14 t) (iblk m c 14 t : Vec Ideal S8x128 .f32) 0 _ k).trans (iblk14_apply m c t 0 k)))
  · refine (head_miss (by decide)).trans ((head_miss (by decide)).trans ((head_miss (by decide)).trans ((head_miss (by decide)).trans ((head_miss (by decide)).trans ((head_miss (by decide)).trans ((head_hit (by rfl)).trans ?_))))))
    exact (headA1 r (col 1 k) k _ _ _ rfl).trans (closeA r r 1 k (argY m c) (argSA m c) _ (hx0 _) _ (hsa _) (argQB m c) _
      ((load_row (ms0_14 t) (hs0_14 t) (iblk m c 14 t : Vec Ideal S8x128 .f32) 1 _ k).trans (iblk14_apply m c t 1 k)))
  · refine (head_miss (by decide)).trans ((head_miss (by decide)).trans ((head_miss (by decide)).trans ((head_miss (by decide)).trans ((head_miss (by decide)).trans ((head_hit (by rfl)).trans ?_)))))
    exact (headA2 r (col 2 k) k _ _ _ rfl).trans (closeA r r 2 k (argY m c) (argSA m c) _ (hx0 _) _ (hsa _) (argQB m c) _
      ((load_row (ms0_14 t) (hs0_14 t) (iblk m c 14 t : Vec Ideal S8x128 .f32) 2 _ k).trans (iblk14_apply m c t 2 k)))
  · refine (head_miss (by decide)).trans ((head_miss (by decide)).trans ((head_miss (by decide)).trans ((head_miss (by decide)).trans ((head_hit (by rfl)).trans ?_))))
    exact (headA3 r (col 3 k) k _ _ _ rfl).trans (closeA r r 3 k (argY m c) (argSA m c) _ (hx0 _) _ (hsa _) (argQB m c) _
      ((load_row (ms0_14 t) (hs0_14 t) (iblk m c 14 t : Vec Ideal S8x128 .f32) 3 _ k).trans (iblk14_apply m c t 3 k)))
  · refine (head_miss (by decide)).trans ((head_miss (by decide)).trans ((head_miss (by decide)).trans ((head_hit (by rfl)).trans ?_)))
    exact (headA4 r (col 4 k) k _ _ rfl).trans (closeA r r 4 k (argY m c) (argSA m c) _ (hx0 _) _ (hsa _) (argQB m c) _
      ((load_row (ms0_14 t) (hs0_14 t) (iblk m c 14 t : Vec Ideal S8x128 .f32) 4 _ k).trans (iblk14_apply m c t 4 k)))
  · refine (head_miss (by decide)).trans ((head_miss (by decide)).trans ((head_hit (by rfl)).trans ?_))
    exact (headA5 r (col 5 k) k _ _ rfl).trans (closeA r r 5 k (argY m c) (argSA m c) _ (hx0 _) _ (hsa _) (argQB m c) _
      ((load_row (ms0_14 t) (hs0_14 t) (iblk m c 14 t : Vec Ideal S8x128 .f32) 5 _ k).trans (iblk14_apply m c t 5 k)))
  · refine (head_miss (by decide)).trans ((head_hit (by rfl)).trans ?_)
    exact (headA6 r (col 6 k) k _ _ rfl).trans (closeA r r 6 k (argY m c) (argSA m c) _ (hx0 _) _ (hsa _) (argQB m c) _
      ((load_row (ms0_14 t) (hs0_14 t) (iblk m c 14 t : Vec Ideal S8x128 .f32) 6 _ k).trans (iblk14_apply m c t 6 k)))
  · refine (head_hit (by rfl)).trans ?_
    exact (headA7 r (col 7 k) k _ _ rfl).trans (closeA r r 7 k (argY m c) (argSA m c) _ (hx0 _) _ (hsa _) (argQB m c) _
      ((load_row (ms0_14 t) (hs0_14 t) (iblk m c 14 t : Vec Ideal S8x128 .f32) 7 _ k).trans (iblk14_apply m c t 7 k)))

/-- A point's queries, I. -/
theorem pointI (t : Fin cfg0.N) (h : Fin 8) (r : Fin 128) (k : Fin 128) :
    (outsAt0 m c t).2.1 (ix3 h r k) = queryI (argY m c) (argSA m c) (ix3 h r k) := by
  unfold outsAt0
  dsimp only
  unfold out0_A_16 kernelRun0_A
  dsimp only
  have hx0 : ∀ inb (j : Fin 1536) (n : Fin 7168) (e : n.val = j.val),
      (ms0_0 t).view.readAt (Elt Ideal) (Rect.unit (s := S128x1536) ![0, 0] S128x1536.size inb).toLoadRect ((hs0_0 t).unread (X0_0 m c t)) (ix2 r j) = argY m c (ix2 r n) :=
    fun _ j n e => (load_whole (ms0_0 t) (hs0_0 t) (X0_0 m c t : Vec Ideal S128x1536 .f32) _ off2 _ _).trans (X0_apply m c t r j n e)
  have hsa : ∀ inb (j : Fin 512) (n : Fin 1024),
      (ms0_9 t).view.readAt (Elt Ideal) (Rect.unit (s := S512x1024) ![0, 0] S512x1024.size inb).toLoadRect ((hs0_9 t).unread (iblk m c 9 t)) (ix2 j n) = argSA m c (ix2 j n) :=
    fun _ j n => (load_whole (ms0_9 t) (hs0_9 t) (iblk m c 9 t : Vec Ideal S512x1024 .bf16) _ off2 _ _).trans (iblk9_apply m c t j n)
  unfold kernelRun0_A.sl.r_5 kernelRun0_A.sl.r_6
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headI0 r (col 0 k) k _ _ rfl).trans (closeI r r 0 k (argY m c) (argSA m c) _ (hx0 _) _ (hsa _))
  · refine (head_miss (by decide)).trans ((head_miss (by decide)).trans ((head_miss (by decide)).trans ((head_miss (by decide)).trans ((head_miss (by decide)).trans ((head_miss (by decide)).trans ((head_hit (by rfl)).trans ?_))))))
    exact (headI1 r (col 1 k) k _ _ rfl).trans (closeI r r 1 k (argY m c) (argSA m c) _ (hx0 _) _ (hsa _))
  · refine (head_miss (by decide)).trans ((head_miss (by decide)).trans ((head_miss (by decide)).trans ((head_miss (by decide)).trans ((head_miss (by decide)).trans ((head_hit (by rfl)).trans ?_)))))
    exact (headI2 r (col 2 k) k _ _ rfl).trans (closeI r r 2 k (argY m c) (argSA m c) _ (hx0 _) _ (hsa _))
  · refine (head_miss (by decide)).trans ((head_miss (by decide)).trans ((head_miss (by decide)).trans ((head_miss (by decide)).trans ((head_hit (by rfl)).trans ?_))))
    exact (headI3 r (col 3 k) k _ _ rfl).trans (closeI r r 3 k (argY m c) (argSA m c) _ (hx0 _) _ (hsa _))
  · refine (head_miss (by decide)).trans ((head_miss (by decide)).trans ((head_miss (by decide)).trans ((head_hit (by rfl)).trans ?_)))
    exact (headI4 r (col 4 k) k _ _ rfl).trans (closeI r r 4 k (argY m c) (argSA m c) _ (hx0 _) _ (hsa _))
  · refine (head_miss (by decide)).trans ((head_miss (by decide)).trans ((head_hit (by rfl)).trans ?_))
    exact (headI5 r (col 5 k) k _ _ rfl).trans (closeI r r 5 k (argY m c) (argSA m c) _ (hx0 _) _ (hsa _))
  · refine (head_miss (by decide)).trans ((head_hit (by rfl)).trans ?_)
    exact (headI6 r (col 6 k) k _ rfl).trans (closeI r r 6 k (argY m c) (argSA m c) _ (hx0 _) _ (hsa _))
  · refine (head_hit (by rfl)).trans ?_
    exact (headI7 r (col 7 k) k _ rfl).trans (closeI r r 7 k (argY m c) (argSA m c) _ (hx0 _) _ (hsa _))

/-- A point's queries, B. -/
theorem pointB (t : Fin cfg0.N) (h : Fin 8) (r : Fin 128) (k : Fin 128) :
    (outsAt0 m c t).2.2.1 (ix3 h r k) = queryB (argY m c) (argSB m c) (ix3 h r k) := by
  unfold outsAt0
  dsimp only
  unfold out0_A_17 kernelRun0_A
  dsimp only
  have hx0 : ∀ inb (j : Fin 1536) (n : Fin 7168) (e : n.val = j.val),
      (ms0_0 t).view.readAt (Elt Ideal) (Rect.unit (s := S128x1536) ![0, 0] S128x1536.size inb).toLoadRect ((hs0_0 t).unread (X0_0 m c t)) (ix2 r j) = argY m c (ix2 r n) :=
    fun _ j n e => (load_whole (ms0_0 t) (hs0_0 t) (X0_0 m c t : Vec Ideal S128x1536 .f32) _ off2 _ _).trans (X0_apply m c t r j n e)
  have hsb : ∀ inb (j : Fin 512) (n : Fin 1024),
      (ms0_10 t).view.readAt (Elt Ideal) (Rect.unit (s := S512x1024) ![0, 0] S512x1024.size inb).toLoadRect ((hs0_10 t).unread (iblk m c 10 t)) (ix2 j n) = argSB m c (ix2 j n) :=
    fun _ j n => (load_whole (ms0_10 t) (hs0_10 t) (iblk m c 10 t : Vec Ideal S512x1024 .bf16) _ off2 _ _).trans (iblk10_apply m c t j n)
  unfold kernelRun0_A.sl.r_7 kernelRun0_A.sl.r_8
  revert h
  refine fin8 ?_ ?_ ?_ ?_ ?_ ?_ ?_ ?_
  · refine (head_miss (by decide)).trans ((head_miss (by decide)).trans ((head_miss (by decide)).trans ((head_miss (by decide)).trans ((head_miss (by decide)).trans ((head_miss (by decide)).trans ((head_miss (by decide)).trans ((head_hit (by rfl)).trans ?_)))))))
    exact (headB0 r (col 0 k) k _ _ rfl).trans (closeB r r 0 k (argY m c) (argSB m c) _ (hx0 _) _ (hsb _))
  · refine (head_miss (by decide)).trans ((head_miss (by decide)).trans ((head_miss (by decide)).trans ((head_miss (by decide)).trans ((head_miss (by decide)).trans ((head_miss (by decide)).trans ((head_hit (by rfl)).trans ?_))))))
    exact (headB1 r (col 1 k) k _ _ rfl).trans (closeB r r 1 k (argY m c) (argSB m c) _ (hx0 _) _ (hsb _))
  · refine (head_miss (by decide)).trans ((head_miss (by decide)).trans ((head_miss (by decide)).trans ((head_miss (by decide)).trans ((head_miss (by decide)).trans ((head_hit (by rfl)).trans ?_)))))
    exact (headB2 r (col 2 k) k _ _ rfl).trans (closeB r r 2 k (argY m c) (argSB m c) _ (hx0 _) _ (hsb _))
  · refine (head_miss (by decide)).trans ((head_miss (by decide)).trans ((head_miss (by decide)).trans ((head_miss (by decide)).trans ((head_hit (by rfl)).trans ?_))))
    exact (headB3 r (col 3 k) k _ rfl).trans (closeB r r 3 k (argY m c) (argSB m c) _ (hx0 _) _ (hsb _))
  · refine (head_miss (by decide)).trans ((head_miss (by decide)).trans ((head_miss (by decide)).trans ((head_hit (by rfl)).trans ?_)))
    exact (headB4 r (col 4 k) k _ rfl).trans (closeB r r 4 k (argY m c) (argSB m c) _ (hx0 _) _ (hsb _))
  · refine (head_miss (by decide)).trans ((head_miss (by decide)).trans ((head_hit (by rfl)).trans ?_))
    exact (headB5 r (col 5 k) k _ rfl).trans (closeB r r 5 k (argY m c) (argSB m c) _ (hx0 _) _ (hsb _))
  · refine (head_miss (by decide)).trans ((head_hit (by rfl)).trans ?_)
    exact (headB6 r (col 6 k) k _ rfl).trans (closeB r r 6 k (argY m c) (argSB m c) _ (hx0 _) _ (hsb _))
  · refine (head_hit (by rfl)).trans ?_
    exact (headB7 r (col 7 k) k _ rfl).trans (closeB r r 7 k (argY m c) (argSB m c) _ (hx0 _) _ (hsb _))

/-- A point's latent attention queries, the latent half. -/
theorem pointL (t : Fin cfg0.N) (h : Fin 8) (r : Fin 128) (k : Fin 128) :
    (outsAt0 m c t).2.2.2.1 (ix3 h r ⟨k.val, by omega⟩) = queryC (argY m c) (argGQ m c) (argWQ m c) (argWU m c) (argWP m c) (ix3 h r ⟨k.val, by omega⟩) := by
  unfold outsAt0
  dsimp only
  unfold out0_A_18 kernelRun0_A
  dsimp only
  have hx1 : ∀ inb (j : Fin 1024) (n : Fin 7168) (e : n.val = 6144 + j.val),
      (ms0_1 t).view.readAt (Elt Ideal) (Rect.unit (s := S128x1024) ![0, 0] S128x1024.size inb).toLoadRect ((hs0_1 t).unread (iblk m c 1 t)) (ix2 r j) = argY m c (ix2 r n) :=
    fun _ j n e => (load_whole (ms0_1 t) (hs0_1 t) (iblk m c 1 t : Vec Ideal S128x1024 .f32) _ off2 _ _).trans (iblk1_apply m c t r j n e)
  have hgq : ∀ inb (l : Fin 256),
      (ms0_7 t).view.readAt (Elt Ideal) (Rect.unit (s := S1x256) ![0, 0] S1x256.size inb).toLoadRect ((hs0_7 t).unread (iblk m c 7 t)) (ix2 0 l) = argGQ m c (ix2 0 l) :=
    fun _ l => (load_whole (ms0_7 t) (hs0_7 t) (iblk m c 7 t : Vec Ideal S1x256 .f32) _ off2 _ _).trans (iblk7_apply m c t l)
  have hwq : ∀ inb (j : Fin 256) (n : Fin 768),
      (ms0_11 t).view.readAt (Elt Ideal) (Rect.unit (s := S256x768) ![0, 0] S256x768.size inb).toLoadRect ((hs0_11 t).unread (iblk m c 11 t)) (ix2 j n) = argWQ m c (ix2 j n) :=
    fun _ j n => (load_whole (ms0_11 t) (hs0_11 t) (iblk m c 11 t : Vec Ideal S256x768 .bf16) _ off2 _ _).trans (iblk11_apply m c t j n)
  have hwu : ∀ inb (j : Fin 512) (n : Fin 1024),
      (ms0_12 t).view.readAt (Elt Ideal) (Rect.unit (s := S512x1024) ![0, 0] S512x1024.size inb).toLoadRect ((hs0_12 t).unread (iblk m c 12 t)) (ix2 j n) = argWU m c (ix2 j n) :=
    fun _ j n => (load_whole (ms0_12 t) (hs0_12 t) (iblk m c 12 t : Vec Ideal S512x1024 .bf16) _ off2 _ _).trans (iblk12_apply m c t j n)
  unfold kernelRun0_A.sl.r_15 kernelRun0_A.sl.r_14 kernelRun0_A.sl.r_13 kernelRun0_A.sl.r_12 kernelRun0_A.sl.r_11 kernelRun0_A.sl.r_10
  revert h
  refine fin8 ?_ ?_ ?_ ?_ ?_ ?_ ?_ ?_
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))))))
    exact (headL0 r (col 0 k) k _ _ _ _ _ _ rfl).trans (closeL r r 0 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))))
    exact (headL1 r (col 1 k) k _ rfl).trans (closeL r r 1 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))))
    exact (headL2 r (col 2 k) k _ rfl).trans (closeL r r 2 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))))
    exact (headL3 r (col 3 k) k _ rfl).trans (closeL r r 3 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_miss (by decide)).trans ((half_miss (by decide)).trans ((half_other (.inl k.isLt)).trans ((half_hit (k := k) (by rfl) (Nat.zero_add _).symm).trans ?_)))))))
    exact (headL4 r (col 4 k) k _ rfl).trans (closeL r r 4 k (argY m c) (argGQ m c) (argWQ m c) (argWU m c) (argWP m c) _ (hx1 _) _ (hgq _) _ (hwq _) _ (hwu _))
  · refine (half_miss (by decide)).trans ((half_miss (by decide)).trans ((half_miss (by decide)).trans ((half_miss (by decide)).trans ((half_other (.inl k.isLt)).trans ((half_hit (k := k) (by rfl) (Nat.zero_add _).symm).trans ?_)))))
    exact (headL5 r (col 5 k) k _ rfl).trans (closeL r r 5 k (argY m c) (argGQ m c) (argWQ m c) (argWU m c) (argWP m c) _ (hx1 _) _ (hgq _) _ (hwq _) _ (hwu _))
  · refine (half_miss (by decide)).trans ((half_miss (by decide)).trans ((half_other (.inl k.isLt)).trans ((half_hit (k := k) (by rfl) (Nat.zero_add _).symm).trans ?_)))
    exact (headL6 r (col 6 k) k _ rfl).trans (closeL r r 6 k (argY m c) (argGQ m c) (argWQ m c) (argWU m c) (argWP m c) _ (hx1 _) _ (hgq _) _ (hwq _) _ (hwu _))
  · refine (half_other (.inl k.isLt)).trans ((half_hit (k := k) (by rfl) (Nat.zero_add _).symm).trans ?_)
    exact (headL7 r (col 7 k) k _ rfl).trans (closeL r r 7 k (argY m c) (argGQ m c) (argWQ m c) (argWU m c) (argWP m c) _ (hx1 _) _ (hgq _) _ (hwq _) _ (hwu _))

/-- A point's latent attention queries, the rotary half. -/
theorem pointR (t : Fin cfg0.N) (h : Fin 8) (r : Fin 128) (k : Fin 128) :
    (outsAt0 m c t).2.2.2.1 (ix3 h r ⟨128 + k.val, by omega⟩) = queryC (argY m c) (argGQ m c) (argWQ m c) (argWU m c) (argWP m c) (ix3 h r ⟨128 + k.val, by omega⟩) := by
  unfold outsAt0
  dsimp only
  unfold out0_A_18 kernelRun0_A
  dsimp only
  have hx1 : ∀ inb (j : Fin 1024) (n : Fin 7168) (e : n.val = 6144 + j.val),
      (ms0_1 t).view.readAt (Elt Ideal) (Rect.unit (s := S128x1024) ![0, 0] S128x1024.size inb).toLoadRect ((hs0_1 t).unread (iblk m c 1 t)) (ix2 r j) = argY m c (ix2 r n) :=
    fun _ j n e => (load_whole (ms0_1 t) (hs0_1 t) (iblk m c 1 t : Vec Ideal S128x1024 .f32) _ off2 _ _).trans (iblk1_apply m c t r j n e)
  have hgq : ∀ inb (l : Fin 256),
      (ms0_7 t).view.readAt (Elt Ideal) (Rect.unit (s := S1x256) ![0, 0] S1x256.size inb).toLoadRect ((hs0_7 t).unread (iblk m c 7 t)) (ix2 0 l) = argGQ m c (ix2 0 l) :=
    fun _ l => (load_whole (ms0_7 t) (hs0_7 t) (iblk m c 7 t : Vec Ideal S1x256 .f32) _ off2 _ _).trans (iblk7_apply m c t l)
  have hwq : ∀ inb (j : Fin 256) (n : Fin 768),
      (ms0_11 t).view.readAt (Elt Ideal) (Rect.unit (s := S256x768) ![0, 0] S256x768.size inb).toLoadRect ((hs0_11 t).unread (iblk m c 11 t)) (ix2 j n) = argWQ m c (ix2 j n) :=
    fun _ j n => (load_whole (ms0_11 t) (hs0_11 t) (iblk m c 11 t : Vec Ideal S256x768 .bf16) _ off2 _ _).trans (iblk11_apply m c t j n)
  have hco : ∀ inb (l : Fin 128),
      (ms0_2 t).view.readAt (Elt Ideal) (Rect.unit (s := S128x128) ![0, 0] S128x128.size inb).toLoadRect ((hs0_2 t).unread (iblk m c 2 t)) (ix2 r l) = cosHeads (ix2 r l) :=
    fun _ l => (load_whole (ms0_2 t) (hs0_2 t) (iblk m c 2 t : Vec Ideal S128x128 .f32) _ off2 _ _).trans (iblk2_apply m c t r l)
  have hsi : ∀ inb (l : Fin 128),
      (ms0_3 t).view.readAt (Elt Ideal) (Rect.unit (s := S128x128) ![0, 0] S128x128.size inb).toLoadRect ((hs0_3 t).unread (iblk m c 3 t)) (ix2 r l) = sinHeads (ix2 r l) :=
    fun _ l => (load_whole (ms0_3 t) (hs0_3 t) (iblk m c 3 t : Vec Ideal S128x128 .f32) _ off2 _ _).trans (iblk3_apply m c t r l)
  have hwp : ∀ inb (j : Fin 256) (n : Fin 1024),
      (ms0_13 t).view.readAt (Elt Ideal) (Rect.unit (s := S256x1024) ![0, 0] S256x1024.size inb).toLoadRect ((hs0_13 t).unread (iblk m c 13 t)) (ix2 j n) = argWP m c (ix2 j n) :=
    fun _ j n => (load_whole (ms0_13 t) (hs0_13 t) (iblk m c 13 t : Vec Ideal S256x1024 .bf16) _ off2 _ _).trans (iblk13_apply m c t j n)
  unfold kernelRun0_A.sl.r_15 kernelRun0_A.sl.r_14 kernelRun0_A.sl.r_13 kernelRun0_A.sl.r_12 kernelRun0_A.sl.r_11 kernelRun0_A.sl.r_10
  revert h
  refine fin8 ?_ ?_ ?_ ?_ ?_ ?_ ?_ ?_
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))))))
    exact (headR0 r (col 0 k) k _ rfl).trans (closeR r r 0 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))))
    exact (headR1 r (col 1 k) k _ rfl).trans (closeR r r 1 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))))
    exact (headR2 r (col 2 k) k _ rfl).trans (closeR r r 2 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_miss (by decide)).trans ((half_miss (by decide)).trans ((half_hit (k := k) (by rfl) (by rfl)).trans ?_))))))))
    exact (headR3 r (col 3 k) k _ rfl).trans (closeR r r 3 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_miss (by decide)).trans ((half_miss (by decide)).trans ((half_hit (k := k) (by rfl) (by rfl)).trans ?_))))))
    exact (headR4 r (col 4 k) k _ rfl).trans (closeR r r 4 k (argY m c) (argGQ m c) (argWQ m c) (argWU m c) (argWP m c) _ (hx1 _) _ (hgq _) _ (hwq _)
      _ _ (hco _) (hsi _) _ (hwp _))
  · refine (half_miss (by decide)).trans ((half_miss (by decide)).trans ((half_miss (by decide)).trans ((half_miss (by decide)).trans ((half_hit (k := k) (by rfl) (by rfl)).trans ?_))))
    exact (headR5 r (col 5 k) k _ rfl).trans (closeR r r 5 k (argY m c) (argGQ m c) (argWQ m c) (argWU m c) (argWP m c) _ (hx1 _) _ (hgq _) _ (hwq _)
      _ _ (hco _) (hsi _) _ (hwp _))
  · refine (half_miss (by decide)).trans ((half_miss (by decide)).trans ((half_hit (k := k) (by rfl) (by rfl)).trans ?_))
    exact (headR6 r (col 6 k) k _ rfl).trans (closeR r r 6 k (argY m c) (argGQ m c) (argWQ m c) (argWU m c) (argWP m c) _ (hx1 _) _ (hgq _) _ (hwq _)
      _ _ (hco _) (hsi _) _ (hwp _))
  · refine (half_hit (k := k) (by rfl) (by rfl)).trans ?_
    exact (headR7 r (col 7 k) k _ rfl).trans (closeR r r 7 k (argY m c) (argGQ m c) (argWQ m c) (argWU m c) (argWP m c) _ (hx1 _) _ (hgq _) _ (hwq _)
      _ _ (hco _) (hsi _) _ (hwp _))

theorem pointC (t : Fin cfg0.N) (h : Fin 8) (r : Fin 128) (j : Fin 256) :
    (outsAt0 m c t).2.2.2.1 (ix3 h r j) = queryC (argY m c) (argGQ m c) (argWQ m c) (argWU m c) (argWP m c) (ix3 h r j) := by
  by_cases e : j.val < 128
  · exact pointL m c t h r ⟨j.val, e⟩
  · obtain ⟨k, rfl⟩ : ∃ k : Fin 128, j = ⟨128 + k.val, off_lt (by decide) k⟩ := fin_off (by decide) j (by omega) (by omega)
    exact pointR m c t h r k

theorem arrayA : (dats m 0 c).arrAt 15 cfg0.N = queryA (argY m c) (argSA m c) (argQB m c) := by
  refine (dats m 0 c).arrAt_eq_of_covers 15 _ (by decide +kernel) fun t hf y => ?_
  blk_simp
  rw [after0_15]
  have ey : y = ix3 (y 0) (y 1) (y 2) := funext fun a => by match a with | ⟨0, _⟩ => rfl | ⟨1, _⟩ => rfl | ⟨2, _⟩ => rfl
  refine (congrArg (outsAt0 m c t).1 ey).trans ((pointA m c t (y 0) (y 1) (y 2)).trans ?_)
  refine congrArg (queryA (argY m c) (argSA m c) (argQB m c)) ?_
  blk_ext [index15]

theorem arrayI : (dats m 0 c).arrAt 16 cfg0.N = queryI (argY m c) (argSA m c) := by
  refine (dats m 0 c).arrAt_eq_of_covers 16 _ (by decide +kernel) fun t hf y => ?_
  blk_simp
  rw [after0_16]
  have ey : y = ix3 (y 0) (y 1) (y 2) := funext fun a => by match a with | ⟨0, _⟩ => rfl | ⟨1, _⟩ => rfl | ⟨2, _⟩ => rfl
  refine (congrArg (outsAt0 m c t).2.1 ey).trans ((pointI m c t (y 0) (y 1) (y 2)).trans ?_)
  refine congrArg (queryI (argY m c) (argSA m c)) ?_
  blk_ext [index16]

theorem arrayB : (dats m 0 c).arrAt 17 cfg0.N = queryB (argY m c) (argSB m c) := by
  refine (dats m 0 c).arrAt_eq_of_covers 17 _ (by decide +kernel) fun t hf y => ?_
  blk_simp
  rw [after0_17]
  have ey : y = ix3 (y 0) (y 1) (y 2) := funext fun a => by match a with | ⟨0, _⟩ => rfl | ⟨1, _⟩ => rfl | ⟨2, _⟩ => rfl
  refine (congrArg (outsAt0 m c t).2.2.1 ey).trans ((pointB m c t (y 0) (y 1) (y 2)).trans ?_)
  refine congrArg (queryB (argY m c) (argSB m c)) ?_
  blk_ext [index17]

theorem arrayC : (dats m 0 c).arrAt 18 cfg0.N = queryC (argY m c) (argGQ m c) (argWQ m c) (argWU m c) (argWP m c) := by
  refine (dats m 0 c).arrAt_eq_of_covers 18 _ (by decide +kernel) fun t hf y => ?_
  blk_simp
  rw [after0_18]
  have ey : y = ix3 (y 0) (y 1) (y 2) := funext fun a => by match a with | ⟨0, _⟩ => rfl | ⟨1, _⟩ => rfl | ⟨2, _⟩ => rfl
  refine (congrArg (outsAt0 m c t).2.2.2.1 ey).trans ((pointC m c t (y 0) (y 1) (y 2)).trans ?_)
  refine congrArg (queryC (argY m c) (argGQ m c) (argWQ m c) (argWU m c) (argWP m c)) ?_
  blk_ext [index18]

end Cert.SamplePost

end
-- ==== Proof.SamplePostEqual.lean ====
/- The sample's projections' kernel and its reference reach the same six results. -/
module

public import proofs.«01_k».proof.Proof.SampleKeysOut
public import proofs.«01_k».proof.Proof.SampleQueryOut

@[expose] public section

noncomputable section

namespace Cert.SamplePost

open Idealize.ShloMosaic Idealize.ShloMosaic.TcCoe Idealize.SL.Sem Cert.Kernel6Ideal Cert.Kernel6Ideal.Gen Cert.SampleStateRef

attribute [local instance] Cert.Kernel6Ideal.Gen.facts Cert.Reference6Ideal.Gen.facts

/-- The two programs' results are equal. -/
theorem algebraic : Cert.algebraic_Kernel6Ideal_Reference6Ideal := by
  intro m g m' g' _ hargs
  refine ⟨fun c => queryA (argY m c) (argSA m c) (argQB m c), fun c => queryI (argY m c) (argSA m c), fun c => queryB (argY m c) (argSB m c),
    fun c => queryC (argY m c) (argGQ m c) (argWQ m c) (argWU m c) (argWP m c), fun c => state (argY m c) (argB m c) (argG m c),
    fun c => keys (argY m c) (argB m c) (argG m c), ?_, ?_⟩
  · exact (θ_run _ _ _).mono (fun r h c => ⟨(h c).1.trans (arrayA m c), (h c).2.1.trans (arrayI m c), (h c).2.2.1.trans (arrayB m c), (h c).2.2.2.1.trans (arrayC m c),
      (h c).2.2.2.2.1.trans (array_eq m c), (h c).2.2.2.2.2.1.trans (keys_array m c), (h c).2.2.2.2.2.2⟩) (Cert.Kernel6Ideal.Value.run_blocks m g)
  · refine (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference6Ideal.Value.run (F := Ideal) m' g') <;>
      obtain ⟨e0, e1, e2, e3, e4, e5, e6, e7, e8, e9⟩ := hargs c
    · rw [e0, e4, e9]
      rfl
    · rw [e0, e4]
      rfl
    · rw [e0, e5]
      rfl
    · rw [queryC_res, e0, e2, e6, e7, e8]
    · rw [res_eq, e0, e1, e3]
    · rw [keys_res, e0, e1, e3]

end Cert.SamplePost

end
-- ==== Proof.SampleColumns.lean ====
/- The sample's input projection and its reference reach the same result. -/
module

public import proofs.«01_k».proof.Defs
public import proofs.«01_k».proof.Proof.Gen.Kernel7Ideal.Frame
import all proofs.«01_k».proof.Proof.Gen.Kernel7Ideal.Frame
import all proofs.«01_k».proof.Proof.Gen.Kernel7Ideal.Frame.RunA
import all proofs.«01_k».proof.Proof.Gen.Kernel7Ideal.Frame.RunB
public import proofs.«01_k».proof.Proof.Gen.Kernel7Ideal.Value
public import proofs.«01_k».proof.Proof.Gen.Reference7Ideal
public import proofs.«01_k».proof.Proof.Gen.Reference7Ideal.Run
public import Idealize.ShloMosaic.Lib.Pointwise
public import Idealize.ShloMosaic.Lib.WritesUnit
public import Idealize.ShloMosaic.Lib.Pipeline.ValueKit

@[expose] public section

noncomputable section

namespace Cert.SampleColumns

open Idealize.ShloMosaic Idealize.ShloMosaic.TcCoe Idealize.SL.Sem Cert.Kernel7Ideal Cert.Kernel7Ideal.Gen
open scoped BigOperators

attribute [local instance] Cert.Kernel7Ideal.Gen.facts Cert.Reference7Ideal.Gen.facts

section

variable {sig : RefSig} {κ : Kind} {sp : Space} {η : EltTy}

/-- A store of a whole block is what is read back. -/
theorem read_store (v : View sig κ sp S128x1024 η) (f : v.ty.Contents (Elt Ideal)) (w : Vec Ideal S128x1024 η) :
    v.read (Elt Ideal) (v.writes (Elt Ideal) f [⟨Rect.unit ![0, 0] ![128, 1024] inb_S128x1024_S128x1024_0_0, w⟩]) = w := by
  funext y
  exact View.read_writes_cons_rows_of_mem v f (d := ![128, 1024]) (o := 0) inb_S128x1024_S128x1024_0_0 w [] y y rfl
    (Nat.zero_add _).symm rfl

/-- A load of a whole block. -/
theorem load_block {s : Shape} (off : Fin s.rank → ℕ) (hoff : ∀ a, off a = 0) (inb : ∀ a, off a + s.size a ≤ s.size a) (v : View sig κ sp s η)
    (f : v.ty.Contents (Elt Ideal)) : v.readAt (Elt Ideal) (Rect.unit off s.size inb).toLoadRect f = v.read (Elt Ideal) f := by
  funext x
  refine congrArg (v.read (Elt Ideal) f) (funext fun a => Fin.ext ?_)
  show off a + 1 * (x a).val = (x a).val
  rw [hoff, Nat.zero_add, Nat.one_mul]

theorem off2 : ∀ a : Fin 2, (![0, 0] : Fin 2 → ℕ) a = 0 := by decide

theorem load_rows (v : View sig κ sp S128x1024 η) (f : v.ty.Contents (Elt Ideal)) :
    v.readAt (Elt Ideal) (Rect.unit ![0, 0] ![128, 1024] inb_S128x1024_S128x1024_0_0).toLoadRect f = v.read (Elt Ideal) f :=
  load_block (s := S128x1024) _ off2 _ v f

theorem load_columns (v : View sig κ sp S1024x1024 η) (f : v.ty.Contents (Elt Ideal)) :
    v.readAt (Elt Ideal) (Rect.unit ![0, 0] ![1024, 1024] inb_S1024x1024_S1024x1024_0_0).toLoadRect f = v.read (Elt Ideal) f :=
  load_block (s := S1024x1024) _ off2 _ v f

end

/-- A block's rows times a block's columns. -/
theorem prod_apply (a : Vec Ideal S128x1024 .bf16) (b : Vec Ideal S1024x1024 .bf16) (r : Fin 128) (e : Fin 1024) :
    k0_pay2 (F := Ideal) a b (ix2 r e) = ∑ k : Fin 1024, a (ix2 r k) * b (ix2 k e) := by
  pointwise [k0_pay2]

/-- The cast keeps every element. -/
theorem cast_apply (a : Vec Ideal S128x1024 .f32) (r : Fin 128) (e : Fin 1024) : k0_pay1 (F := Ideal) a (ix2 r e) = a (ix2 r e) := by
  pointwise [k0_pay1]

variable (c : Dev nD) (i : grid0.Coords) (arg2 : Memref sig .tc .vmem S128x1024 .f32) (harg2 : arg2.IsWhole)
  (arg3 : Memref sig .tc .vmem S1024x1024 .bf16) (harg3 : arg3.IsWhole) (arg4 : Memref sig .tc .vmem S128x1024 .f32) (harg4 : arg4.IsWhole)
  (arg5 : Memref sig .tc .vmem S128x1024 .bf16) (harg5 : arg5.IsWhole)
  (x0 : Vec Ideal S128x1024 .f32) (x1 : Vec Ideal S1024x1024 .bf16) (xs0 : Vec Ideal S128x1024 .bf16)

/-- At a row of blocks' first point the rows are kept … -/
theorem first_kept (hc0 : cond0_0 i) (r : Fin 128) (k : Fin 1024) :
    sout0_A_0 c i arg2 harg2 arg3 harg3 arg4 harg4 arg5 harg5 hc0 x0 x1 (ix2 r k) = x0 (ix2 r k) := by
  unfold sout0_A_0 kernelRun0_A
  dsimp only
  unfold kernelRun0_A.sl.HS0_1
  rw [read_store, load_rows, harg2.read_unread, cast_apply]

/-- … and the output is their product with the block's columns. -/
theorem first_out (hc0 : cond0_0 i) (r : Fin 128) (e : Fin 1024) :
    out0_A_2 c i arg2 harg2 arg3 harg3 arg4 harg4 arg5 harg5 hc0 x0 x1 (ix2 r e) = ∑ k, x0 (ix2 r k) * x1 (ix2 k e) := by
  unfold out0_A_2 kernelRun0_A
  dsimp only
  rw [read_store, load_columns, harg3.read_unread, prod_apply]
  refine Finset.sum_congr rfl fun k _ => ?_
  congr 1
  unfold kernelRun0_A.sl.v3 kernelRun0_A.sl.HS0_1
  refine (congrFun (load_rows arg5.view _) _).trans ?_
  rw [read_store, load_rows, harg2.read_unread, cast_apply]

/-- At a later point the output is the kept rows' product with the block's columns. -/
theorem later_out (hc0 : ¬cond0_0 i) (r : Fin 128) (e : Fin 1024) :
    out0_B_2 c i arg2 harg2 arg3 harg3 arg4 harg4 arg5 harg5 hc0 x0 x1 xs0 (ix2 r e) = ∑ k, xs0 (ix2 r k) * x1 (ix2 k e) := by
  unfold out0_B_2 kernelRun0_B
  dsimp only
  rw [read_store, load_rows, load_columns, harg3.read_unread, harg5.read_unread, prod_apply]

variable (m : (ℓ : Loc nD τ sig) → Buf (Elt Ideal) ℓ)

/-- The arguments. -/
abbrev argX : FVec Ideal S128x1024 .f32 := m ((c : Thread nD τ).loc main_arg0)
abbrev argW : FVec Ideal S1024x7168 .bf16 := m ((c : Thread nD τ).loc main_arg1)

theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])

/-- The array's column that point `n` holds at column `e`. -/
def colAt (n : ℕ) (hn : n < cfg0.N) (e : Fin 1024) : Fin 7168 := ⟨n * 1024 + e.val, by have h : n < 7 := hn; omega⟩

theorem iblk0_apply (t : Fin cfg0.N) (r : Fin 128) (k : Fin 1024) :
    (iblk m c 0 t : Vec Ideal S128x1024 .f32) (ix2 r k) = argX c m (ix2 r k) := by
  show ((cfg0.win 0).blk t).view.read (Elt Ideal) (V m c main_arg0) (ix2 r k) = _
  rw [V_main_arg0]
  blk_simp
  refine congrArg (argX c m) ?_
  blk_ext [index0]

theorem iblk1_apply (t : Fin cfg0.N) (k e : Fin 1024) :
    (iblk m c 1 t : Vec Ideal S1024x1024 .bf16) (ix2 k e) = argW c m (ix2 k (colAt t.val t.isLt e)) := by
  show ((cfg0.win 1).blk t).view.read (Elt Ideal) (V m c main_arg1) (ix2 k e) = _
  rw [V_main_arg1]
  blk_simp
  refine congrArg (argW c m) ?_
  blk_ext [index1, colAt]

theorem kept_first (t : Fin cfg0.N) (h0 : t.val % 7 = 0) (r : Fin 128) (k : Fin 1024) :
    (outsAt0 m c t.val t.isLt).2 (ix2 r k) = argX c m (ix2 r k) := by
  rw [outsAt0_A m c t h0]
  dsimp only
  rw [first_kept]
  exact iblk0_apply c m t r k

theorem kept_later (t : Fin cfg0.N) (h0 : ¬t.val % 7 = 0) (r : Fin 128) (k : Fin 1024) :
    (outsAt0 m c t.val t.isLt).2 (ix2 r k)
      = (outsAt0 m c (t.val - 1) (Nat.lt_of_le_of_lt (Nat.sub_le _ _) t.isLt)).2 (ix2 r k) := by
  rw [outsAt0_B m c t h0]
  dsimp only
  unfold sout0_B_0
  rfl

/-- Every point keeps the rows. -/
theorem kept (r : Fin 128) (k : Fin 1024) : ∀ (n : ℕ) (hn : n < cfg0.N), (outsAt0 m c n hn).2 (ix2 r k) = argX c m (ix2 r k) := by
  intro n
  induction n with
  | zero =>
    intro hn
    exact kept_first c m ⟨0, hn⟩ (Nat.zero_mod _) r k
  | succ n ih =>
    intro hn
    by_cases h0 : (n + 1) % 7 = 0
    · exact kept_first c m ⟨n + 1, hn⟩ h0 r k
    · exact (kept_later c m ⟨n + 1, hn⟩ h0 r k).trans (ih (Nat.lt_of_succ_lt hn))

/-- Every point's output is its rows' product with its columns. -/
theorem point_out (t : Fin cfg0.N) (r : Fin 128) (e : Fin 1024) :
    (outsAt0 m c t.val t.isLt).1 (ix2 r e)
      = ∑ k : Fin 1024, argX c m (ix2 r k) * argW c m (ix2 k (colAt t.val t.isLt e)) := by
  by_cases h0 : t.val % 7 = 0
  · rw [outsAt0_A m c t h0]
    dsimp only
    rw [first_out]
    refine Finset.sum_congr rfl fun k _ => ?_
    rw [iblk0_apply, iblk1_apply]
  · rw [outsAt0_B m c t h0]
    dsimp only
    rw [later_out]
    refine Finset.sum_congr rfl fun k _ => ?_
    rw [kept, iblk1_apply]

/-- The arguments' product. -/
def value (i : S128x7168.Idx) : EReal := ∑ k : Fin 1024, argX c m (ix2 (i 0) k) * argW c m (ix2 k (i 1))

/-- The result array after the run. -/
theorem array_eq : (dats m 0 c).arrAt 2 cfg0.N = value c m := by
  refine (dats m 0 c).arrAt_eq_of_covers 2 _ (by decide +kernel) fun t hf y => ?_
  blk_simp
  rw [after0_2]
  have ey : y = ix2 (y 0) (y 1) := funext fun a => by match a with | ⟨0, _⟩ => rfl | ⟨1, _⟩ => rfl
  refine (congrArg (outsAt0 m c t.val t.isLt).1 ey).trans ((point_out c m t (y 0) (y 1)).trans ?_)
  unfold value
  refine congrArg₂ (fun (a : Fin 128) (b : Fin 7168) => ∑ k : Fin 1024, argX c m (ix2 a k) * argW c m (ix2 k b)) (Fin.ext ?_) (Fin.ext ?_)
  · blk_simp [index2]
  · blk_simp [index2, colAt]

/-- The reference's product. -/
theorem ref_eq (hb : FTy.bf16.bits < FTy.f32.bits) (x : FVec Ideal S128x1024 .f32) (w : FVec Ideal S1024x7168 .bf16) (t : Fin 128) (e : Fin 7168) :
    Host.dotGeneral Cert.Reference7Ideal.dot_S128x1024_S1024x7168_S128x7168_1_0_0_1_n_n none x (extf .f32 w hb) (ix2 t e)
      = ∑ k : Fin 1024, x (ix2 t k) * w (ix2 k e) := by
  pointwise []

/-- The two programs' results are equal. -/
theorem algebraic : Cert.algebraic_Kernel7Ideal_Reference7Ideal := by
  intro m g m' g' _ hargs
  refine ⟨fun c => value c m, ?_, ?_⟩
  · exact (θ_run _ _ _).mono (fun r h c => ⟨(h c).1.trans (array_eq c m), (h c).2⟩) (Cert.Kernel7Ideal.Value.run_blocks m g)
  · refine (θ_run _ _ _).mono (fun r h c => ⟨(h c).1.trans ?_, (h c).2⟩) (Cert.Reference7Ideal.Value.run (F := Ideal) m' g')
    rw [(hargs c).1, (hargs c).2]
    funext i
    have ei : i = ix2 (i 0) (i 1) := funext fun a => by match a with | ⟨0, _⟩ => rfl | ⟨1, _⟩ => rfl
    refine (congrArg _ ei).trans ?_
    exact ref_eq _ _ _ (i 0) (i 1)

end Cert.SampleColumns

end
-- ==== Proof.SampleMergeRef.lean ====
/- The sample merge's reference as the merge's arithmetic of one row. -/
module

public import proofs.«01_k».proof.Proof.Gen.Reference8Ideal
public import proofs.«01_k».proof.Proof.Gen.Reference8Ideal.Run
public import proofs.«01_k».proof.Proof.MergeRef

@[expose] public section

noncomputable section

namespace Cert.SampleMergeRef

open Idealize.ShloMosaic Idealize.ShloMosaic.TcCoe Idealize.SL.Sem Cert.Reference8Ideal Cert.Reference8Ideal.Gen Cert.Merge
open scoped BigOperators

attribute [local instance] Cert.Reference8Ideal.Gen.facts

/-- The output gates' inputs. -/
def zin (y : FVec Ideal S128x7168 .f32) : FVec Ideal S128x3x512 .f32 :=
  shapeCast _ (extractStridedSlice S128x1536 ![0, 1536] y slices_S128x7168_S128x1536_0_1536) shapeCasts_S128x1536_S128x3x512

/-- A branch's output times its gate. -/
def gatedOut (o z : FVec Ideal S128x512 .f32) : FVec Ideal S128x512 .f32 :=
  mulf o (mulf z (Host.divf (broadcastInDim S128x512 ![] bcast_S_S128x512 (constant S_ .f32 0x3F800000#32))
    (addf (broadcastInDim S128x512 ![] bcast_S_S128x512 (constant S_ .f32 0x3F800000#32)) (Host.exp (Host.negf z)))))

/-- A branch's output as one of three. -/
def lifted (u : FVec Ideal S128x512 .f32) : FVec Ideal S128x1x512 .f32 :=
  broadcastInDim S128x1x512 ![0, 2] bcast_S128x512_S128x1x512_0_2 u

/-- The three branches' gated outputs. -/
def stacked (o0 o1 o2 : FVec Ideal S128x512 .f32) (z : FVec Ideal S128x3x512 .f32) : FVec Ideal S128x3x512 .f32 :=
  concatenate S128x3x512 1
    [⟨S128x1x512, lifted (gatedOut o0 (shapeCast _ (extractStridedSlice S128x1x512 ![0, 0, 0] z slices_S128x3x512_S128x1x512_0_0_0) shapeCasts_S128x1x512_S128x512))⟩,
     ⟨S128x1x512, lifted (gatedOut o1 (shapeCast _ (extractStridedSlice S128x1x512 ![0, 1, 0] z slices_S128x3x512_S128x1x512_0_1_0) shapeCasts_S128x1x512_S128x512))⟩,
     ⟨S128x1x512, lifted (gatedOut o2 (shapeCast _ (extractStridedSlice S128x1x512 ![0, 2, 0] z slices_S128x3x512_S128x1x512_0_2_0) shapeCasts_S128x1x512_S128x512))⟩]
    concatenates_S128x1x512_S128x1x512_S128x1x512_S128x3x512_d1

/-- The branches through their own projections. -/
def branches (w : FVec Ideal S3x512x1024 .bf16) (u : FVec Ideal S128x3x512 .f32) : FVec Ideal S128x3x1024 .f32 :=
  transpose S128x3x1024 [2, 0, 1] (Host.dotGeneral dot_S3x512x1024_S128x3x512_S3x1024x128_1_2_2_0_0_1 none (extf .f32 w bitsLt_bf16_f32) u)
    transposes_S3x1024x128_S128x3x1024_2_0_1

/-- The merge's gates. -/
def gates (y : FVec Ideal S128x7168 .f32) : FVec Ideal S128x3x1024 .f32 :=
  Host.divf (broadcastInDim S128x3x1024 ![] bcast_S_S128x3x1024 (constant S_ .f32 0x3F800000#32))
    (addf (broadcastInDim S128x3x1024 ![] bcast_S_S128x3x1024 (constant S_ .f32 0x3F800000#32))
      (Host.exp (Host.negf (shapeCast _ (extractStridedSlice S128x3072 ![0, 3072] y slices_S128x7168_S128x3072_0_3072) shapeCasts_S128x3072_S128x3x1024))))

/-- The residual sum. -/
def hidden (x : FVec Ideal S128x1024 .f32) (g b : FVec Ideal S128x3x1024 .f32) (w : FVec Ideal S1024x1024 .bf16) : FVec Ideal S128x1024 .f32 :=
  addf (mulf (broadcastInDim S128x1024 ![] bcast_S_S128x1024 (constant S_ .f32 0x3FB504F3#32)) x)
    (Host.dotGeneral dot_S128x1024_S1024x1024_S128x1024_1_0_0_1_n_n none
      (Host.dotGeneral dot_S128x3x1024_S128x3x1024_S128x1024_1_1_n_n_02_02 none g b) (extf .f32 w bitsLt_bf16_f32))

/-- The rows' means. -/
def means (h : FVec Ideal S128x1024 .f32) : FVec Ideal S128x1 .f32 :=
  Host.divf (broadcastInDim S128x1 ![0] bcast_S128_S128x1_0 (Host.reduceAdd h (constant S_ .f32 0x00000000#32) reducesTo_S128x1024_S128_d1 h_S_))
    (broadcastInDim S128x1 ![] bcast_S_S128x1 (constant S_ .f32 0x44800000#32))

/-- The rows less their means. -/
def centred (h : FVec Ideal S128x1024 .f32) : FVec Ideal S128x1024 .f32 :=
  subf h (broadcastInDim S128x1024 ![0, 1] bcast_S128x1_S128x1024_0_1 (means h))

/-- The layer norm. -/
def normed (h : FVec Ideal S128x1024 .f32) (g b : FVec Ideal S1x1024 .f32) : FVec Ideal S128x1024 .f32 :=
  addf (mulf (mulf (centred h) (broadcastInDim S128x1024 ![0, 1] bcast_S128x1_S128x1024_0_1
      (Host.rsqrt (addf (means (mulf (centred h) (centred h))) (broadcastInDim S128x1 ![] bcast_S_S128x1 (constant S_ .f32 0x3727C5AC#32))))))
    (broadcastInDim S128x1024 ![0, 1] bcast_S1x1024_S128x1024_0_1 g)) (broadcastInDim S128x1024 ![0, 1] bcast_S1x1024_S128x1024_0_1 b)

theorem res_eq (m : (ℓ : Loc nD τ sig) → Buf (Elt Ideal) ℓ) (c : Dev nD) :
    Cert.Reference8Ideal.Value.res_main_v56 m c
      = normed (hidden (m ((c.tc : Thread nD τ).loc main_arg4)) (gates (m ((c.tc : Thread nD τ).loc main_arg3)))
          (branches (m ((c.tc : Thread nD τ).loc main_arg5)) (stacked (m ((c.tc : Thread nD τ).loc main_arg0)) (m ((c.tc : Thread nD τ).loc main_arg1))
            (m ((c.tc : Thread nD τ).loc main_arg2)) (zin (m ((c.tc : Thread nD τ).loc main_arg3)))))
          (m ((c.tc : Thread nD τ).loc main_arg6)))
        (m ((c.tc : Thread nD τ).loc main_arg7)) (m ((c.tc : Thread nD τ).loc main_arg8)) := by
  unfold Cert.Reference8Ideal.Value.res_main_v56
  rfl

theorem zin_apply (y : FVec Ideal S128x7168 .f32) (t : Fin 128) (n : Fin 3) (k : Fin 512) :
    zin y (ix3 t n k) = y (ix2 t ⟨1536 + (n.val * 512 + k.val), by omega⟩) := by
  pointwise [zin]

theorem gatedOut_apply (o z : FVec Ideal S128x512 .f32) (t : Fin 128) (k : Fin 512) :
    gatedOut o z (ix2 t k) = o (ix2 t k) * (z (ix2 t k) * gate (z (ix2 t k))) := by
  unfold gate
  pointwise [gatedOut]

theorem stacked_zero (o0 o1 o2 : FVec Ideal S128x512 .f32) (z : FVec Ideal S128x3x512 .f32) (t : Fin 128) (k : Fin 512) :
    stacked o0 o1 o2 z (ix3 t 0 k) = o0 (ix2 t k) * (z (ix3 t 0 k) * gate (z (ix3 t 0 k))) := by
  pointwise [stacked, lifted]
  rw [gatedOut_apply]
  pointwise []

theorem stacked_one (o0 o1 o2 : FVec Ideal S128x512 .f32) (z : FVec Ideal S128x3x512 .f32) (t : Fin 128) (k : Fin 512) :
    stacked o0 o1 o2 z (ix3 t 1 k) = o1 (ix2 t k) * (z (ix3 t 1 k) * gate (z (ix3 t 1 k))) := by
  pointwise [stacked, lifted]
  rw [gatedOut_apply]
  pointwise []

theorem stacked_two (o0 o1 o2 : FVec Ideal S128x512 .f32) (z : FVec Ideal S128x3x512 .f32) (t : Fin 128) (k : Fin 512) :
    stacked o0 o1 o2 z (ix3 t 2 k) = o2 (ix2 t k) * (z (ix3 t 2 k) * gate (z (ix3 t 2 k))) := by
  pointwise [stacked, lifted]
  rw [gatedOut_apply]
  pointwise []

/-- The three branches' outputs of a row. -/
def three (o0 o1 o2 : FVec Ideal S128x512 .f32) (t : Fin 128) (n : Fin 3) (k : Fin 512) : EReal :=
  (![o0 (ix2 t k), o1 (ix2 t k), o2 (ix2 t k)] : Fin 3 → EReal) n

theorem stacked_apply (o0 o1 o2 : FVec Ideal S128x512 .f32) (z : FVec Ideal S128x3x512 .f32) (t : Fin 128) (n : Fin 3) (k : Fin 512) :
    stacked o0 o1 o2 z (ix3 t n k) = three o0 o1 o2 t n k * (z (ix3 t n k) * gate (z (ix3 t n k))) := by
  match n with
  | ⟨0, _⟩ => exact stacked_zero o0 o1 o2 z t k
  | ⟨1, _⟩ => exact stacked_one o0 o1 o2 z t k
  | ⟨2, _⟩ => exact stacked_two o0 o1 o2 z t k

theorem branches_apply (w : FVec Ideal S3x512x1024 .bf16) (u : FVec Ideal S128x3x512 .f32) (t : Fin 128) (n : Fin 3) (d : Fin 1024) :
    branches w u (ix3 t n d) = ∑ k : Fin 512, w (ix3 n k d) * u (ix3 t n k) := by
  pointwise [branches]

theorem gates_apply (y : FVec Ideal S128x7168 .f32) (t : Fin 128) (n : Fin 3) (d : Fin 1024) :
    gates y (ix3 t n d) = gate (y (ix2 t ⟨3072 + (n.val * 1024 + d.val), by omega⟩)) := by
  unfold gate
  pointwise [gates]

theorem hidden_apply (x : FVec Ideal S128x1024 .f32) (g b : FVec Ideal S128x3x1024 .f32) (w : FVec Ideal S1024x1024 .bf16) (t : Fin 128) (d : Fin 1024) :
    hidden x g b w (ix2 t d)
      = resid (fun e => x (ix2 t e)) (fun e => ∑ n : Fin 3, g (ix3 t n e) * b (ix3 t n e)) (fun e d => w (ix2 e d)) d := by
  unfold resid
  pointwise [hidden]

theorem normed_apply (h : FVec Ideal S128x1024 .f32) (a b : FVec Ideal S1x1024 .f32) (t : Fin 128) (d : Fin 1024) :
    normed h a b (ix2 t d) = rowNorm (fun e => h (ix2 t e)) (fun e => a (ix2 0 e)) (fun e => b (ix2 0 e)) d := by
  unfold rowNorm rowMean
  pointwise [normed, centred, means]

/-- The merge of the arguments at a row and a column. -/
def value (o0 o1 o2 : FVec Ideal S128x512 .f32) (y : FVec Ideal S128x7168 .f32) (x : FVec Ideal S128x1024 .f32) (wb : FVec Ideal S3x512x1024 .bf16)
    (wo : FVec Ideal S1024x1024 .bf16) (a b : FVec Ideal S1x1024 .f32) (t : Fin 128) (d : Fin 1024) : EReal :=
  rowNorm (resid (fun e => x (ix2 t e))
      (mixed (three o0 o1 o2 t) (fun j => y (ix2 t ⟨1536 + j.val, by omega⟩)) (fun j => y (ix2 t ⟨3072 + j.val, by omega⟩)) (fun n k d => wb (ix3 n k d)))
      (fun e d => wo (ix2 e d)))
    (fun e => a (ix2 0 e)) (fun e => b (ix2 0 e)) d

/-- The reference's result. -/
theorem ref_eq (o0 o1 o2 : FVec Ideal S128x512 .f32) (y : FVec Ideal S128x7168 .f32) (x : FVec Ideal S128x1024 .f32) (wb : FVec Ideal S3x512x1024 .bf16)
    (wo : FVec Ideal S1024x1024 .bf16) (a b : FVec Ideal S1x1024 .f32) (t : Fin 128) (d : Fin 1024) :
    normed (hidden x (gates y) (branches wb (stacked o0 o1 o2 (zin y))) wo) a b (ix2 t d) = value o0 o1 o2 y x wb wo a b t d := by
  rw [normed_apply]
  unfold value
  refine congrArg (fun h => rowNorm h (fun e => a (ix2 0 e)) (fun e => b (ix2 0 e)) d) (funext fun e => ?_)
  rw [hidden_apply]
  refine congrArg (fun u => resid (fun e => x (ix2 t e)) u (fun e d => wo (ix2 e d)) e) (funext fun j => ?_)
  unfold mixed
  refine Finset.sum_congr rfl fun n _ => ?_
  rw [gates_apply, branches_apply]
  unfold branch
  refine congrArg (fun u => gate (y (ix2 t ⟨3072 + (n.val * 1024 + j.val), by omega⟩)) * u) (Finset.sum_congr rfl fun k _ => ?_)
  rw [stacked_apply, zin_apply]
  exact mul_comm _ _

end Cert.SampleMergeRef

end
-- ==== Proof.SampleMergeOut.lean ====
/- The sample merge's kernel and its reference reach the same result. -/
module

public import proofs.«01_k».proof.Defs
public import proofs.«01_k».proof.Proof.SampleMergeRef
public import proofs.«01_k».proof.Proof.Gen.Kernel8Ideal.Value
import all proofs.«01_k».proof.Proof.Gen.Kernel8Ideal.Frame
import all proofs.«01_k».proof.Proof.Gen.Kernel8Ideal.Frame.RunA
public import Idealize.ShloMosaic.Lib.WritesUnit
public import Idealize.ShloMosaic.Lib.WholeRead
public import Idealize.ShloMosaic.Lib.Pipeline.ValueKit

@[expose] public section

noncomputable section

namespace Cert.SampleMerge

open Idealize.ShloMosaic Idealize.ShloMosaic.TcCoe Idealize.SL.Sem Cert.Kernel8Ideal Cert.Kernel8Ideal.Gen Cert.Merge
open scoped BigOperators

attribute [local instance] Cert.Kernel8Ideal.Gen.facts Cert.Reference8Ideal.Gen.facts

/-- The kernel's residual sum. -/
def hidK (v24 : FVec Ideal S128x1024 .f32) (v30 : FVec Ideal S128x512 .bf16) (v31 : Vec Ideal S1x512x1024 .bf16) (v34 : Vec Ideal S128x1024 .f32)
    (v39 : Vec Ideal S1024x1024 .bf16) (v41 : Vec Ideal S128x1024 .f32) : FVec Ideal S128x1024 .f32 :=
  addf (mulf (broadcast S128x1024 (Scalar.ofBits .f32 0x3FB504F3#32)) v41)
    (matmul (φ₂ := .bf16) dot_S128x1024_S1024x1024_S128x1024_1_0_0_1_n_n none
      (truncf .bf16 (addf v24 (mulf (logistic v34) (matmul dot_S128x512_S512x1024_S128x1024_1_0_0_1_n_n none v30
        (shapeCast S512x1024 v31 shapeCasts_S1x512x1024_S512x1024 : FVec Ideal S512x1024 .bf16) (constant S128x1024 .f32 0x00000000#32)))) bitsLt_bf16_f32)
      v39 (constant S128x1024 .f32 0x00000000#32))

/-- The rows' means. -/
def meanK (h : FVec Ideal S128x1024 .f32) : FVec Ideal S128x1 .f32 :=
  divf (shapeCast S128x1 (multiReduction .add [1] S128 h 0x00000000#32 reduces_S128x1024_S128 (.inl rfl) rfl) shapeCasts_S128_S128x1)
    (broadcast S128x1 (Scalar.ofBits .f32 0x44800000#32))

/-- The rows less their means. -/
def centK (h : FVec Ideal S128x1024 .f32) : FVec Ideal S128x1024 .f32 := subf h (broadcastTo S128x1024 (meanK h) broadcasts_S128x1_S128x1024)

/-- The kernel's layer norm. -/
def normK (h : FVec Ideal S128x1024 .f32) (a b : Vec Ideal S1x1024 .f32) : FVec Ideal S128x1024 .f32 :=
  addf (mulf (mulf (centK h) (broadcastTo S128x1024
      (rsqrt (addf (meanK (mulf (centK h) (centK h))) (broadcast S128x1 (Scalar.ofBits .f32 0x3727C5AC#32)))) broadcasts_S128x1_S128x1024))
    (broadcastTo S128x1024 a broadcasts_S1x1024_S128x1024)) (broadcastTo S128x1024 b broadcasts_S1x1024_S128x1024)

theorem pay1_eq (v24 : FVec Ideal S128x1024 .f32) (v30 : FVec Ideal S128x512 .bf16) (v31 : Vec Ideal S1x512x1024 .bf16) (v34 : Vec Ideal S128x1024 .f32)
    (v39 : Vec Ideal S1024x1024 .bf16) (v41 : Vec Ideal S128x1024 .f32) (v61 v64 : Vec Ideal S1x1024 .f32) :
    k0_pay1 v24 v30 v31 v34 v39 v41 v61 v64 = normK (hidK v24 v30 v31 v34 v39 v41) v61 v64 := by
  unfold k0_pay1
  rfl

theorem normK_apply (h : FVec Ideal S128x1024 .f32) (a b : Vec Ideal S1x1024 .f32) (r : Fin 128) (d : Fin 1024) :
    normK h a b (ix2 r d) = rowNorm (fun e => h (ix2 r e)) (fun e => a (ix2 0 e)) (fun e => b (ix2 0 e)) d := by
  unfold rowNorm rowMean
  pointwise [normK, centK, meanK]

theorem hidK_apply (v24 : FVec Ideal S128x1024 .f32) (v30 : FVec Ideal S128x512 .bf16) (v31 : Vec Ideal S1x512x1024 .bf16) (v34 : Vec Ideal S128x1024 .f32)
    (v39 : Vec Ideal S1024x1024 .bf16) (v41 : Vec Ideal S128x1024 .f32) (r : Fin 128) (d : Fin 1024) :
    hidK v24 v30 v31 v34 v39 v41 (ix2 r d)
      = resid (fun e => v41 (ix2 r e)) (fun e => v24 (ix2 r e) + gate (v34 (ix2 r e)) * ∑ k : Fin 512, v30 (ix2 r k) * v31 (ix3 0 k e))
          (fun e d => v39 (ix2 e d)) d := by
  unfold resid gate
  pointwise [hidK]
  rfl

theorem pay2_apply (v0 v1 : Vec Ideal S128x512 .f32) (v6 : Vec Ideal S1x512x1024 .bf16) (v9 : Vec Ideal S128x1024 .f32) (v12 v13 : Vec Ideal S128x512 .f32)
    (v18 : Vec Ideal S1x512x1024 .bf16) (v21 : Vec Ideal S128x1024 .f32) (r : Fin 128) (d : Fin 1024) :
    k0_pay2 v0 v1 v6 v9 v12 v13 v18 v21 (ix2 r d)
      = branch (fun k => v1 (ix2 r k)) (fun k => v0 (ix2 r k)) (fun k => v6 (ix3 0 k d)) (v9 (ix2 r d))
        + branch (fun k => v13 (ix2 r k)) (fun k => v12 (ix2 r k)) (fun k => v18 (ix3 0 k d)) (v21 (ix2 r d)) := by
  unfold branch gate
  pointwise [k0_pay2]
  rfl

theorem pay3_apply (v25 v26 : Vec Ideal S128x512 .f32) (r : Fin 128) (k : Fin 512) :
    k0_pay3 v25 v26 (ix2 r k) = v26 (ix2 r k) * (v25 (ix2 r k) * gate (v25 (ix2 r k))) := by
  unfold gate
  pointwise [k0_pay3]
  rfl

section

variable (r : Fin 128) (o : Fin 3 → Fin 512 → EReal) (z : Fin 1536 → EReal) (g : Fin 3072 → EReal) (x : Fin 1024 → EReal)
  (w : Fin 3 → Fin 512 → Fin 1024 → EReal) (wo : Fin 1024 → Fin 1024 → EReal) (a b : Fin 1024 → EReal)

/-- The stored value of a row, from the loads. -/
theorem pay_row (v0 v1 : Vec Ideal S128x512 .f32) (v6 : Vec Ideal S1x512x1024 .bf16) (v9 : Vec Ideal S128x1024 .f32) (v12 v13 : Vec Ideal S128x512 .f32)
    (v18 : Vec Ideal S1x512x1024 .bf16) (v21 : Vec Ideal S128x1024 .f32) (v25 v26 : Vec Ideal S128x512 .f32) (v31 : Vec Ideal S1x512x1024 .bf16)
    (v34 : Vec Ideal S128x1024 .f32) (v39 : Vec Ideal S1024x1024 .bf16) (v41 : Vec Ideal S128x1024 .f32) (v61 v64 : Vec Ideal S1x1024 .f32)
    (h1 : ∀ k, v1 (ix2 r k) = o 0 k) (h13 : ∀ k, v13 (ix2 r k) = o 1 k) (h26 : ∀ k, v26 (ix2 r k) = o 2 k)
    (h0 : ∀ k : Fin 512, v0 (ix2 r k) = z ⟨0 * 512 + k.val, by omega⟩) (h12 : ∀ k : Fin 512, v12 (ix2 r k) = z ⟨1 * 512 + k.val, by omega⟩)
    (h25 : ∀ k : Fin 512, v25 (ix2 r k) = z ⟨2 * 512 + k.val, by omega⟩)
    (h9 : ∀ k : Fin 1024, v9 (ix2 r k) = g ⟨0 * 1024 + k.val, by omega⟩) (h21 : ∀ k : Fin 1024, v21 (ix2 r k) = g ⟨1 * 1024 + k.val, by omega⟩)
    (h34 : ∀ k : Fin 1024, v34 (ix2 r k) = g ⟨2 * 1024 + k.val, by omega⟩)
    (h6 : ∀ k d, v6 (ix3 0 k d) = w 0 k d) (h18 : ∀ k d, v18 (ix3 0 k d) = w 1 k d) (h31 : ∀ k d, v31 (ix3 0 k d) = w 2 k d)
    (h39 : ∀ e d, v39 (ix2 e d) = wo e d) (h41 : ∀ e, v41 (ix2 r e) = x e) (h61 : ∀ e, v61 (ix2 0 e) = a e) (h64 : ∀ e, v64 (ix2 0 e) = b e) (d : Fin 1024) :
    k0_pay1 (k0_pay2 v0 v1 v6 v9 v12 v13 v18 v21) (k0_pay3 v25 v26) v31 v34 v39 v41 v61 v64 (ix2 r d)
      = rowNorm (resid x (mixed o z g w) wo) a b d := by
  have ea : (fun e => v61 (ix2 0 e)) = a := funext h61
  have eb : (fun e => v64 (ix2 0 e)) = b := funext h64
  have ex : (fun e => v41 (ix2 r e)) = x := funext h41
  have ewo : (fun e d => v39 (ix2 e d)) = wo := funext fun e => funext (h39 e)
  rw [pay1_eq, normK_apply, ea, eb]
  refine congrArg (fun h => rowNorm h a b d) (funext fun e => ?_)
  rw [hidK_apply, ex, ewo]
  refine congrArg (fun u => resid x u wo e) (funext fun j => ?_)
  rw [pay2_apply]
  unfold mixed
  rw [Fin.sum_univ_three]
  simp only [h0, h1, h6, h9, h12, h13, h18, h21]
  refine congrArg₂ (· + ·) rfl ?_
  unfold branch
  rw [h34]
  refine congrArg₂ (· * ·) rfl (Finset.sum_congr rfl fun k _ => ?_)
  rw [pay3_apply, h25, h26, h31]
  rfl

variable {κ : Kind} {sp : Space} {η : EltTy}

/-- A load of a whole block. -/
theorem load_whole {s : Shape} (M : Memref sig .tc .vmem s η) (hM : M.IsWhole) (X : Vec Ideal s η) (off : Fin s.rank → ℕ) (hoff : ∀ a, off a = 0)
    (inb : ∀ a, off a + s.size a ≤ s.size a) (y : s.Idx) :
    M.view.readAt (Elt Ideal) (Rect.unit off s.size inb).toLoadRect (hM.unread X) y = X y := by
  refine (hM.readAt_unread _ _ _).trans (congrArg X (funext fun a => Fin.ext ?_))
  show off a + 1 * (y a).val = (y a).val
  rw [hoff, Nat.zero_add, Nat.one_mul]

theorem off2 : ∀ a : Fin 2, (![0, 0] : Fin 2 → ℕ) a = 0 := by decide

/-- A load of 512 columns of the output gates' inputs. -/
theorem load_z (M : Memref sig .tc .vmem S128x1536 .f32) (hM : M.IsWhole) (X : Vec Ideal S128x1536 .f32) (c n : ℕ) (hc : n * 512 = c) (hn : n < 3)
    (inb : ∀ a, (![0, c] : Fin 2 → ℕ) a + (![128, 512] : Fin 2 → ℕ) a ≤ S128x1536.size a) (k : Fin 512) :
    M.view.readAt (Elt Ideal) (Rect.unit (s := S128x1536) ![0, c] ![128, 512] inb).toLoadRect (hM.unread X) (ix2 r k)
      = X (ix2 r ⟨n * 512 + k.val, by omega⟩) := by
  refine (hM.readAt_unread _ _ _).trans (congrArg X (funext fun a => Fin.ext ?_))
  match a with
  | ⟨0, _⟩ => show 0 + 1 * r.val = r.val; omega
  | ⟨1, _⟩ => show c + 1 * k.val = n * 512 + k.val; omega

/-- A load of 1024 columns of the merge gates' inputs. -/
theorem load_g (M : Memref sig .tc .vmem S128x3072 .f32) (hM : M.IsWhole) (X : Vec Ideal S128x3072 .f32) (c n : ℕ) (hc : n * 1024 = c) (hn : n < 3)
    (inb : ∀ a, (![0, c] : Fin 2 → ℕ) a + (![128, 1024] : Fin 2 → ℕ) a ≤ S128x3072.size a) (k : Fin 1024) :
    M.view.readAt (Elt Ideal) (Rect.unit (s := S128x3072) ![0, c] ![128, 1024] inb).toLoadRect (hM.unread X) (ix2 r k)
      = X (ix2 r ⟨n * 1024 + k.val, by omega⟩) := by
  refine (hM.readAt_unread _ _ _).trans (congrArg X (funext fun a => Fin.ext ?_))
  match a with
  | ⟨0, _⟩ => show 0 + 1 * r.val = r.val; omega
  | ⟨1, _⟩ => show c + 1 * k.val = n * 1024 + k.val; omega

/-- A load of one branch's projection. -/
theorem load_w (M : Memref sig .tc .vmem S3x512x1024 .bf16) (hM : M.IsWhole) (X : Vec Ideal S3x512x1024 .bf16) (n : Fin 3)
    (inb : ∀ a, (![n.val, 0, 0] : Fin 3 → ℕ) a + (![1, 512, 1024] : Fin 3 → ℕ) a ≤ S3x512x1024.size a) (k : Fin 512) (d : Fin 1024) :
    M.view.readAt (Elt Ideal) (Rect.unit (s := S3x512x1024) ![n.val, 0, 0] ![1, 512, 1024] inb).toLoadRect (hM.unread X) (ix3 0 k d)
      = X (ix3 n k d) := by
  refine (hM.readAt_unread _ _ _).trans (congrArg X (funext fun a => Fin.ext ?_))
  match a with
  | ⟨0, _⟩ => show n.val + 1 * 0 = n.val; omega
  | ⟨1, _⟩ => show 0 + 1 * k.val = k.val; omega
  | ⟨2, _⟩ => show 0 + 1 * d.val = d.val; omega

/-- A point's output at a row, from the point's blocks. -/
theorem out_row (c : Dev nD) (i : grid0.Coords) (arg1 : Memref sig .tc .vmem S128x512 .f32) (harg1 : arg1.IsWhole) (arg2 : Memref sig .tc .vmem S128x512 .f32)
    (harg2 : arg2.IsWhole) (arg3 : Memref sig .tc .vmem S128x512 .f32) (harg3 : arg3.IsWhole) (arg4 : Memref sig .tc .vmem S128x1536 .f32)
    (harg4 : arg4.IsWhole) (arg5 : Memref sig .tc .vmem S128x3072 .f32) (harg5 : arg5.IsWhole) (arg6 : Memref sig .tc .vmem S128x1024 .f32)
    (harg6 : arg6.IsWhole) (arg7 : Memref sig .tc .vmem S3x512x1024 .bf16) (harg7 : arg7.IsWhole) (arg8 : Memref sig .tc .vmem S1024x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S128x1024 .f32) (harg11 : arg11.IsWhole)
    (x0 x1 x2 : Vec Ideal S128x512 .f32) (x3 : Vec Ideal S128x1536 .f32) (x4 : Vec Ideal S128x3072 .f32) (x5 : Vec Ideal S128x1024 .f32)
    (x6 : Vec Ideal S3x512x1024 .bf16) (x7 : Vec Ideal S1024x1024 .bf16) (x8 x9 : Vec Ideal S1x1024 .f32)
    (h0 : ∀ k, x0 (ix2 r k) = o 0 k) (h1 : ∀ k, x1 (ix2 r k) = o 1 k) (h2 : ∀ k, x2 (ix2 r k) = o 2 k) (hz : ∀ j, x3 (ix2 r j) = z j)
    (hg : ∀ j, x4 (ix2 r j) = g j) (hx : ∀ e, x5 (ix2 r e) = x e) (hw : ∀ n k d, x6 (ix3 n k d) = w n k d) (hwo : ∀ e d, x7 (ix2 e d) = wo e d)
    (ha : ∀ e, x8 (ix2 0 e) = a e) (hb : ∀ e, x9 (ix2 0 e) = b e) (d : Fin 1024) :
    out0_A_10 c i arg1 harg1 arg2 harg2 arg3 harg3 arg4 harg4 arg5 harg5 arg6 harg6 arg7 harg7 arg8 harg8 arg9 harg9 arg10 harg10 arg11 harg11
        x0 x1 x2 x3 x4 x5 x6 x7 x8 x9 (ix2 r d)
      = rowNorm (resid x (mixed o z g w) wo) a b d := by
  unfold out0_A_10 kernelRun0_A
  dsimp only
  refine (View.read_writes_cons_rows_of_mem _ _ (d := ![128, 1024]) (o := 0) inb_S128x1024_S128x1024_0_0 _ [] (ix2 r d) (ix2 r d) rfl
    (Nat.zero_add _).symm rfl).trans ?_
  unfold kernelRun0_A.sl.r kernelRun0_A.sl.r_1 kernelRun0_A.sl.r_2
  exact pay_row r o z g x w wo a b _ _ _ _ _ _ _ _ _ _ _ _ _ _ _ _
    (fun k => (load_whole arg1 harg1 x0 _ off2 _ _).trans (h0 k)) (fun k => (load_whole arg2 harg2 x1 _ off2 _ _).trans (h1 k))
    (fun k => (load_whole arg3 harg3 x2 _ off2 _ _).trans (h2 k))
    (fun k => (load_z r arg4 harg4 x3 0 0 rfl (by decide) _ k).trans (hz _)) (fun k => (load_z r arg4 harg4 x3 512 1 rfl (by decide) _ k).trans (hz _))
    (fun k => (load_z r arg4 harg4 x3 1024 2 rfl (by decide) _ k).trans (hz _))
    (fun k => (load_g r arg5 harg5 x4 0 0 rfl (by decide) _ k).trans (hg _)) (fun k => (load_g r arg5 harg5 x4 1024 1 rfl (by decide) _ k).trans (hg _))
    (fun k => (load_g r arg5 harg5 x4 2048 2 rfl (by decide) _ k).trans (hg _))
    (fun k d => (load_w arg7 harg7 x6 0 _ k d).trans (hw 0 k d)) (fun k d => (load_w arg7 harg7 x6 1 _ k d).trans (hw 1 k d))
    (fun k d => (load_w arg7 harg7 x6 2 _ k d).trans (hw 2 k d))
    (fun e d => (load_whole arg8 harg8 x7 _ off2 _ _).trans (hwo e d)) (fun e => (load_whole arg6 harg6 x5 _ off2 _ _).trans (hx e))
    (fun e => (load_whole arg9 harg9 x8 _ off2 _ _).trans (ha e)) (fun e => (load_whole arg10 harg10 x9 _ off2 _ _).trans (hb e)) d

end

variable (m : (ℓ : Loc nD τ sig) → Buf (Elt Ideal) ℓ) (c : Dev nD)

/-- The arguments. -/
abbrev arg0 : FVec Ideal S128x512 .f32 := m ((c : Thread nD τ).loc main_arg0)
abbrev arg1 : FVec Ideal S128x512 .f32 := m ((c : Thread nD τ).loc main_arg1)
abbrev arg2 : FVec Ideal S128x512 .f32 := m ((c : Thread nD τ).loc main_arg2)
abbrev argY : FVec Ideal S128x7168 .f32 := m ((c : Thread nD τ).loc main_arg3)
abbrev argX : FVec Ideal S128x1024 .f32 := m ((c : Thread nD τ).loc main_arg4)
abbrev argB : FVec Ideal S3x512x1024 .bf16 := m ((c : Thread nD τ).loc main_arg5)
abbrev argO : FVec Ideal S1024x1024 .bf16 := m ((c : Thread nD τ).loc main_arg6)
abbrev argG : FVec Ideal S1x1024 .f32 := m ((c : Thread nD τ).loc main_arg7)
abbrev argH : FVec Ideal S1x1024 .f32 := m ((c : Thread nD τ).loc main_arg8)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 1] := (by decide +kernel : ∀ t : Fin grid0.N, win0_3.index t = ![0, 1])
theorem index4 : ∀ t : Fin cfg0.N, win0_4.index t = ![0, 1] := (by decide +kernel : ∀ t : Fin grid0.N, win0_4.index t = ![0, 1])
theorem index5 : ∀ t : Fin cfg0.N, win0_5.index t = ![0, 0] := (by decide +kernel : ∀ t : Fin grid0.N, win0_5.index t = ![0, 0])
theorem index6 : ∀ t : Fin cfg0.N, win0_6.index t = ![0, 0, 0] := (by decide +kernel : ∀ t : Fin grid0.N, win0_6.index t = ![0, 0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])

theorem iblk0_apply (t : Fin cfg0.N) (r : Fin 128) (k : Fin 512) :
    (iblk m c 0 t : Vec Ideal S128x512 .f32) (ix2 r k) = arg0 m c (ix2 r k) := by
  show ((cfg0.win 0).blk t).view.read (Elt Ideal) (V m c main_arg0) (ix2 r k) = _
  rw [V_main_arg0]
  blk_simp
  refine congrArg (arg0 m c) ?_
  blk_ext [index0]

theorem iblk1_apply (t : Fin cfg0.N) (r : Fin 128) (k : Fin 512) :
    (iblk m c 1 t : Vec Ideal S128x512 .f32) (ix2 r k) = arg1 m c (ix2 r k) := by
  show ((cfg0.win 1).blk t).view.read (Elt Ideal) (V m c main_arg1) (ix2 r k) = _
  rw [V_main_arg1]
  blk_simp
  refine congrArg (arg1 m c) ?_
  blk_ext [index1]

theorem iblk2_apply (t : Fin cfg0.N) (r : Fin 128) (k : Fin 512) :
    (iblk m c 2 t : Vec Ideal S128x512 .f32) (ix2 r k) = arg2 m c (ix2 r k) := by
  show ((cfg0.win 2).blk t).view.read (Elt Ideal) (V m c main_arg2) (ix2 r k) = _
  rw [V_main_arg2]
  blk_simp
  refine congrArg (arg2 m c) ?_
  blk_ext [index2]

theorem X3_apply (t : Fin cfg0.N) (r : Fin 128) (j : Fin 1536) :
    (X0_3 m c t : Vec Ideal S128x1536 .f32) (ix2 r j) = argY m c (ix2 r ⟨1536 + j.val, by omega⟩) := by
  unfold X0_3 Pipeline.Window.fill
  rw [dif_pos (moved0_3 t _)]
  show ((cfg0.win 3).blk t).view.read (Elt Ideal) (V m c main_arg3) _ = _
  rw [V_main_arg3]
  blk_simp
  refine congrArg (argY m c) ?_
  blk_ext [index3]

theorem X4_apply (t : Fin cfg0.N) (r : Fin 128) (j : Fin 3072) :
    (X0_4 m c t : Vec Ideal S128x3072 .f32) (ix2 r j) = argY m c (ix2 r ⟨3072 + j.val, by omega⟩) := by
  unfold X0_4 Pipeline.Window.fill
  rw [dif_pos (moved0_4 t _)]
  show ((cfg0.win 4).blk t).view.read (Elt Ideal) (V m c main_arg3) _ = _
  rw [V_main_arg3]
  blk_simp
  refine congrArg (argY m c) ?_
  blk_ext [index4]

theorem iblk5_apply (t : Fin cfg0.N) (r : Fin 128) (e : Fin 1024) :
    (iblk m c 5 t : Vec Ideal S128x1024 .f32) (ix2 r e) = argX m c (ix2 r e) := by
  show ((cfg0.win 5).blk t).view.read (Elt Ideal) (V m c main_arg4) (ix2 r e) = _
  rw [V_main_arg4]
  blk_simp
  refine congrArg (argX m c) ?_
  blk_ext [index5]

theorem iblk6_apply (t : Fin cfg0.N) (n : Fin 3) (k : Fin 512) (d : Fin 1024) :
    (iblk m c 6 t : Vec Ideal S3x512x1024 .bf16) (ix3 n k d) = argB m c (ix3 n k d) := by
  show ((cfg0.win 6).blk t).view.read (Elt Ideal) (V m c main_arg5) (ix3 n k d) = _
  rw [V_main_arg5]
  blk_simp
  refine congrArg (argB m c) ?_
  blk_ext [index6]

theorem iblk7_apply (t : Fin cfg0.N) (e d : Fin 1024) : (iblk m c 7 t : Vec Ideal S1024x1024 .bf16) (ix2 e d) = argO m c (ix2 e d) := by
  show ((cfg0.win 7).blk t).view.read (Elt Ideal) (V m c main_arg6) (ix2 e d) = _
  rw [V_main_arg6]
  blk_simp
  refine congrArg (argO m c) ?_
  blk_ext [index7]

theorem iblk8_apply (t : Fin cfg0.N) (e : Fin 1024) : (iblk m c 8 t : Vec Ideal S1x1024 .f32) (ix2 0 e) = argG m c (ix2 0 e) := by
  show ((cfg0.win 8).blk t).view.read (Elt Ideal) (V m c main_arg7) (ix2 0 e) = _
  rw [V_main_arg7]
  blk_simp
  refine congrArg (argG m c) ?_
  blk_ext [index8]

theorem iblk9_apply (t : Fin cfg0.N) (e : Fin 1024) : (iblk m c 9 t : Vec Ideal S1x1024 .f32) (ix2 0 e) = argH m c (ix2 0 e) := by
  show ((cfg0.win 9).blk t).view.read (Elt Ideal) (V m c main_arg8) (ix2 0 e) = _
  rw [V_main_arg8]
  blk_simp
  refine congrArg (argH m c) ?_
  blk_ext [index9]

/-- The merge of the arguments. -/
def value (t : Fin 128) (d : Fin 1024) : EReal :=
  Cert.SampleMergeRef.value (arg0 m c) (arg1 m c) (arg2 m c) (argY m c) (argX m c) (argB m c) (argO m c) (argG m c) (argH m c) t d

/-- A point's output. -/
theorem point_out (t : Fin cfg0.N) (r : Fin 128) (d : Fin 1024) : outsAt0 m c t (ix2 r d) = value m c r d := by
  unfold outsAt0 value Cert.SampleMergeRef.value
  rw [out_row (r := r) (o := Cert.SampleMergeRef.three (arg0 m c) (arg1 m c) (arg2 m c) r)
    (z := fun j => argY m c (ix2 r ⟨1536 + j.val, by omega⟩)) (g := fun j => argY m c (ix2 r ⟨3072 + j.val, by omega⟩))
    (x := fun e => argX m c (ix2 r e)) (w := fun n k d => argB m c (ix3 n k d)) (wo := fun e d => argO m c (ix2 e d))
    (a := fun e => argG m c (ix2 0 e)) (b := fun e => argH m c (ix2 0 e))
    (h0 := fun k => iblk0_apply m c t r k) (h1 := fun k => iblk1_apply m c t r k) (h2 := fun k => iblk2_apply m c t r k)
    (hz := fun j => X3_apply m c t r j) (hg := fun j => X4_apply m c t r j) (hx := fun e => iblk5_apply m c t r e)
    (hw := fun n k d => iblk6_apply m c t n k d) (hwo := fun e d => iblk7_apply m c t e d) (ha := fun e => iblk8_apply m c t e)
    (hb := fun e => iblk9_apply m c t e)]

/-- The result array after the run. -/
theorem array_eq : (dats m 0 c).arrAt 10 cfg0.N = fun i : S128x1024.Idx => value m c (i 0) (i 1) := by
  refine (dats m 0 c).arrAt_eq_of_covers 10 _ (by decide +kernel) fun t hf y => ?_
  blk_simp
  rw [after0_10]
  have ey : y = ix2 (y 0) (y 1) := funext fun a => by match a with | ⟨0, _⟩ => rfl | ⟨1, _⟩ => rfl
  refine (congrArg (outsAt0 m c t) ey).trans ((point_out m c t (y 0) (y 1)).trans ?_)
  refine congrArg₂ (value m c) (Fin.ext ?_) (Fin.ext ?_)
  · blk_simp [index10]
  · blk_simp [index10]

/-- The two programs' results are equal. -/
theorem algebraic : Cert.algebraic_Kernel8Ideal_Reference8Ideal := by
  intro m g m' g' _ hargs
  refine ⟨fun c => fun i : S128x1024.Idx => value m c (i 0) (i 1), ?_, ?_⟩
  · exact (θ_run _ _ _).mono (fun r h c => ⟨(h c).1.trans (array_eq m c), (h c).2⟩) (Cert.Kernel8Ideal.Value.run_blocks m g)
  · refine (θ_run _ _ _).mono (fun r h c => ⟨(h c).1.trans ?_, (h c).2⟩) (Cert.Reference8Ideal.Value.run (F := Ideal) m' g')
    obtain ⟨e0, e1, e2, e3, e4, e5, e6, e7, e8⟩ := hargs c
    rw [Cert.SampleMergeRef.res_eq, e0, e1, e2, e3, e4, e5, e6, e7, e8]
    funext i
    have ei : i = ix2 (i 0) (i 1) := funext fun a => by match a with | ⟨0, _⟩ => rfl | ⟨1, _⟩ => rfl
    refine (congrArg _ ei).trans ?_
    exact Cert.SampleMergeRef.ref_eq _ _ _ _ _ _ _ _ _ (i 0) (i 1)

end Cert.SampleMerge

end
-- ==== Proof.SampleHeads.lean ====
/- The sample's value projection and its reference reach the same result. -/
module

public import proofs.«01_k».proof.Defs
public import proofs.«01_k».proof.Proof.Host
public import proofs.«01_k».proof.Proof.Gen.Kernel9Ideal.Frame
import all proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.StableHlo.RunRead
public import Idealize.ShloMosaic.Lib.Pointwise
public import Idealize.ShloMosaic.Lib.Pipeline.ValueKit

@[expose] public section

noncomputable section

namespace Cert.SampleHeads

open Idealize.ShloMosaic Idealize.ShloMosaic.TcCoe Idealize.SL.Sem Cert.Kernel9Ideal Cert.Kernel9Ideal.Gen
open Cert.Mla (eyeAt eye_word headOf colOf)
open scoped BigOperators

attribute [local instance] Cert.Kernel9Ideal.Gen.facts Cert.Reference9Ideal.Gen.facts

/-- The block weights over four axes: head, latent lane, head, column. -/
def spread (w : FVec Ideal S128x8x64 .f32) : FVec Ideal S8x128x8x64 .f32 :=
  mulf
    (broadcastInDim S8x128x8x64 ![0, 1, 2, 3] bcast_S8x128x1x64_S8x128x8x64_0_1_2_3
      (broadcastInDim S8x128x1x64 ![0, 1, 3] bcast_S8x128x64_S8x128x1x64_0_1_3
        (transpose S8x128x64 [1, 0, 2] w transposes_S128x8x64_S8x128x64_1_0_2)))
    (broadcastInDim S8x128x8x64 ![0, 1, 2, 3] bcast_S8x1x8x1_S8x128x8x64_0_1_2_3
      (broadcastInDim S8x1x8x1 ![0, 2] bcast_S8x8_S8x1x8x1_0_2
        (uitofp (F := Ideal) FTy.f32
          (cmpi CmpIPredicate.eq
            (addi (iotaInDim S8x8 32 0) (broadcastInDim S8x8 ![] bcast_S_S8x8 (constantI S_ 32 0#32)))
            (iotaInDim S8x8 32 1)))))

theorem spread_apply (w : FVec Ideal S128x8x64 .f32) (h : Fin 8) (d : Fin 128) (g : Fin 8) (v : Fin 64) :
    spread w (ix4 h d g v) = w (ix3 d h v) * eyeAt h g := by
  rw [← eye_word]
  pointwise [spread]
  have e : IntOp.addi (BitVec.ofNat 32 h.val) 0#32 = BitVec.ofNat 32 h.val := BitVec.add_zero _
  rw [e]
  rfl

/-- The block weights as the call takes them. -/
def padded (w : FVec Ideal S128x8x64 .f32) : FVec Ideal S8x128x512 .bf16 :=
  truncf .bf16 (shapeCast S8x128x512 (spread w) shapeCasts_S8x128x8x64_S8x128x512) bitsLt_bf16_f32

theorem padded_apply (w : FVec Ideal S128x8x64 .f32) (h : Fin 8) (d : Fin 128) (e : Fin 512) :
    padded w (ix3 h d e) = w (ix3 d h (colOf e)) * eyeAt h (headOf e) := by
  rw [← spread_apply]
  pointwise [padded]
  rfl

/-- The latent results, head first, as the call takes them. -/
def headFirst (o : FVec Ideal S128x8x128 .f32) : FVec Ideal S8x128x128 .f32 :=
  transpose S8x128x128 [1, 0, 2] o transposes_S128x8x128_S8x128x128_1_0_2

theorem headFirst_apply (o : FVec Ideal S128x8x128 .f32) (h : Fin 8) (t d : Fin 128) : headFirst o (ix3 h t d) = o (ix3 t h d) := by
  pointwise [headFirst]

variable (m : (ℓ : Loc nD τ sig) → Buf (Elt Ideal) ℓ) (c : Dev nD)

/-- The arguments. -/
abbrev argO : FVec Ideal S128x8x128 .f32 := m ((c : Thread nD τ).loc main_arg0)
abbrev argW : FVec Ideal S128x8x64 .f32 := m ((c : Thread nD τ).loc main_arg1)

theorem v13_eq : V m c main_v13 = padded (argW m c) := by
  unfold V hostOps0
  after_reads_simp
  rfl

theorem v14_eq : V m c main_v14 = headFirst (argO m c) := by
  unfold V hostOps0
  after_reads_simp
  rfl

theorem index0 : ∀ t : Fin cfg0.N, win0_0.index t = ![0, 0, 0] :=
  (by decide +kernel : ∀ t : Fin grid0.N, win0_0.index t = ![0, 0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0] :=
  (by decide +kernel : ∀ t : Fin grid0.N, win0_2.index t = ![0, 0])

theorem iblk0_apply (t : Fin cfg0.N) (h : Fin 8) (r d : Fin 128) :
    (iblk m c 0 t : Vec Ideal S8x128x128 .f32) (ix3 h r d) = argO m c (ix3 r h d) := by
  rw [← headFirst_apply (argO m c)]
  show ((cfg0.win 0).blk t).view.read (Elt Ideal) (V m c main_v14) (ix3 h r d) = _
  rw [v14_eq]
  blk_simp
  refine congrArg (headFirst (argO m c)) ?_
  blk_ext [index0]

theorem iblk1_apply (t : Fin cfg0.N) (h : Fin 8) (d : Fin 128) (e : Fin 512) :
    (iblk m c 1 t : Vec Ideal S8x128x512 .bf16) (ix3 h d e) = argW m c (ix3 d h (colOf e)) * eyeAt h (headOf e) := by
  rw [← padded_apply]
  show ((cfg0.win 1).blk t).view.read (Elt Ideal) (V m c main_v13) (ix3 h d e) = _
  rw [v13_eq]
  blk_simp
  refine congrArg (padded (argW m c)) ?_
  blk_ext [index1]

/-- One head's rows times its block weights. -/
def headProd (a : Vec Ideal S1x128x128 .f32) (b : Vec Ideal S1x128x512 .bf16) (r : Fin 128) (e : Fin 512) : EReal :=
  ∑ d : Fin 128, a (ix3 0 r d) * b (ix3 0 d e)

theorem pay2_apply (a0 : Vec Ideal S1x128x128 .f32) (b0 : Vec Ideal S1x128x512 .bf16) (a1 : Vec Ideal S1x128x128 .f32) (b1 : Vec Ideal S1x128x512 .bf16)
    (a2 : Vec Ideal S1x128x128 .f32) (b2 : Vec Ideal S1x128x512 .bf16) (a3 : Vec Ideal S1x128x128 .f32) (b3 : Vec Ideal S1x128x512 .bf16)
    (r : Fin 128) (e : Fin 512) : k0_pay2 a0 b0 a1 b1 a2 b2 a3 b3 (ix2 r e)
      = headProd a0 b0 r e + headProd a1 b1 r e + headProd a2 b2 r e + headProd a3 b3 r e := by
  unfold headProd
  pointwise [k0_pay2]

theorem pay1_apply (s : FVec Ideal S128x512 .f32) (a0 : Vec Ideal S1x128x128 .f32) (b0 : Vec Ideal S1x128x512 .bf16) (a1 : Vec Ideal S1x128x128 .f32) (b1 : Vec Ideal S1x128x512 .bf16)
    (a2 : Vec Ideal S1x128x128 .f32) (b2 : Vec Ideal S1x128x512 .bf16) (a3 : Vec Ideal S1x128x128 .f32) (b3 : Vec Ideal S1x128x512 .bf16)
    (r : Fin 128) (e : Fin 512) : k0_pay1 s a0 b0 a1 b1 a2 b2 a3 b3 (ix2 r e)
      = s (ix2 r e) + headProd a0 b0 r e + headProd a1 b1 r e + headProd a2 b2 r e + headProd a3 b3 r e := by
  unfold headProd
  pointwise [k0_pay1]

/-- A head's rows and block weights are read from the two blocks at that head. -/
theorem headProd_ld (x0 : Vec Ideal S8x128x128 .f32) (x1 : Vec Ideal S8x128x512 .bf16) (k : ℕ) (hk : k < 8)
    (ia : ∀ a, ![k, 0, 0] a + S1x128x128.size a ≤ S8x128x128.size a) (ib : ∀ a, ![k, 0, 0] a + S1x128x512.size a ≤ S8x128x512.size a)
    (r : Fin 128) (e : Fin 512) :
    headProd (View.ld x0 (Rect.unit (s := S8x128x128) ![k, 0, 0] S1x128x128.size ia)) (View.ld x1 (Rect.unit (s := S8x128x512) ![k, 0, 0] S1x128x512.size ib)) r e
      = ∑ d : Fin 128, x0 (ix3 ⟨k, hk⟩ r d) * x1 (ix3 ⟨k, hk⟩ d e) := by
  unfold headProd
  refine Finset.sum_congr rfl fun d _ => congrArg₂ (· * ·) (congrArg x0 (funext fun a => Fin.ext ?_)) (congrArg x1 (funext fun a => Fin.ext ?_))
  · match a with
    | ⟨0, _⟩ => rfl
    | ⟨1, _⟩ => exact (Nat.zero_add _).trans (Nat.one_mul _)
    | ⟨2, _⟩ => exact (Nat.zero_add _).trans (Nat.one_mul _)
  · match a with
    | ⟨0, _⟩ => rfl
    | ⟨1, _⟩ => exact (Nat.zero_add _).trans (Nat.one_mul _)
    | ⟨2, _⟩ => exact (Nat.zero_add _).trans (Nat.one_mul _)

/-- The body's result. -/
theorem out_apply (x0 : Vec Ideal S8x128x128 .f32) (x1 : Vec Ideal S8x128x512 .bf16) (r : Fin 128) (e : Fin 512) :
    out0_2 x0 x1 (ix2 r e) = ∑ h : Fin 8, ∑ d : Fin 128, x0 (ix3 h r d) * x1 (ix3 h d e) := by
  have hz : (![0, 0] : Fin S128x512.rank → Nat) = fun _ => 0 := funext fun a => by match a with | ⟨0, _⟩ => rfl | ⟨1, _⟩ => rfl
  unfold out0_2
  rw [View.canon_unit_zero hz, pay1_apply, pay2_apply, headProd_ld x0 x1 0 (by decide), headProd_ld x0 x1 1 (by decide), headProd_ld x0 x1 2 (by decide),
    headProd_ld x0 x1 3 (by decide), headProd_ld x0 x1 4 (by decide), headProd_ld x0 x1 5 (by decide), headProd_ld x0 x1 6 (by decide), headProd_ld x0 x1 7 (by decide)]
  exact (Fin.sum_univ_eight fun h : Fin 8 => ∑ d : Fin 128, x0 (ix3 h r d) * x1 (ix3 h d e)).symm

/-- The result at a row and an output lane: the lane's head's latent result through its column of the value matrix. -/
def value (o : FVec Ideal S128x8x128 .f32) (w : FVec Ideal S128x8x64 .f32) (r : Fin 128) (e : Fin 512) : EReal :=
  ∑ d : Fin 128, o (ix3 r (headOf e) d) * w (ix3 d (headOf e) (colOf e))

theorem point_out (t : Fin cfg0.N) (r : Fin 128) (e : Fin 512) :
    out0_2 (iblk m c 0 t) (iblk m c 1 t) (ix2 r e) = value (argO m c) (argW m c) r e := by
  refine (out_apply _ _ r e).trans ?_
  unfold value
  rw [Finset.sum_eq_single (headOf e)]
  · refine Finset.sum_congr rfl fun d _ => ?_
    rw [iblk0_apply, iblk1_apply, eyeAt, if_pos rfl, mul_one]
  · intro h _ hne
    refine Finset.sum_eq_zero fun d _ => ?_
    rw [iblk1_apply, eyeAt, if_neg hne, mul_zero, mul_zero]
  · exact fun h => absurd (Finset.mem_univ _) h

/-- The result array after the run. -/
theorem array_eq : (dats m 0 c).arrAt 2 cfg0.N = fun i : S128x512.Idx => value (argO m c) (argW m c) (i 0) (i 1) := by
  refine (dats m 0 c).arrAt_eq_of_covers 2 _ (by decide +kernel) fun t hf y => ?_
  blk_simp
  rw [after0_2]
  have ey : y = ix2 (y 0) (y 1) := funext fun a => by match a with | ⟨0, _⟩ => rfl | ⟨1, _⟩ => rfl
  refine (congrArg (out0_2 (iblk m c 0 t) (iblk m c 1 t)) ey).trans ((point_out m c t (y 0) (y 1)).trans ?_)
  refine congrArg₂ (value (argO m c) (argW m c)) (Fin.ext ?_) (Fin.ext ?_)
  · blk_simp [index2]
  · blk_simp [index2]

/-- The reference's result. -/
theorem ref_eq (ht : Cert.Reference9Ideal.S8x64x128.Transposes [2, 0, 1] Cert.Reference9Ideal.S128x8x64)
    (hc : Cert.Reference9Ideal.S128x8x64.ShapeCasts Cert.Reference9Ideal.S128x512) (o : FVec Ideal S128x8x128 .f32) (w : FVec Ideal S128x8x64 .f32) (r : Fin 128) (e : Fin 512) :
    (shapeCast Cert.Reference9Ideal.S128x512 (transpose Cert.Reference9Ideal.S128x8x64 [2, 0, 1]
      (Host.dotGeneral Cert.Reference9Ideal.dot_S128x8x64_S128x8x128_S8x64x128_0_2_2_0_1_1 none w o)
      ht) hc : FVec Ideal Cert.Reference9Ideal.S128x512 .f32) (ix2 r e)
      = value o w r e := by
  have h : ∀ (a b : Fin 128 → EReal), ∑ d, a d * b d = ∑ d, b d * a d := fun a b => Finset.sum_congr rfl fun d _ => mul_comm _ _
  unfold value headOf colOf
  rw [h]
  pointwise []

/-- The two programs' results are equal. -/
theorem algebraic : Cert.algebraic_Kernel9Ideal_Reference9Ideal := by
  intro m g m' g' _ hargs
  refine ⟨fun c => fun i : S128x512.Idx => value (argO m c) (argW m c) (i 0) (i 1), ?_, ?_⟩
  · exact (θ_run _ _ _).mono (fun r h c => ⟨(h c).1.trans (array_eq m c), (h c).2⟩) (Cert.Kernel9Ideal.Value.run_blocks m g)
  · refine (θ_run _ _ _).mono (fun r h c => ⟨(h c).1.trans ?_, (h c).2⟩) (Cert.Reference9Ideal.Value.run (F := Ideal) m' g')
    rw [(hargs c).1, (hargs c).2]
    funext i
    have ei : i = ix2 (i 0) (i 1) := funext fun a => by match a with | ⟨0, _⟩ => rfl | ⟨1, _⟩ => rfl
    refine (congrArg _ ei).trans ?_
    exact ref_eq _ _ _ _ (i 0) (i 1)

end Cert.SampleHeads

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel5
public import proofs.«01_k».proof.Proof.Gen.Kernel4.Skeleton
public import proofs.«01_k».proof.Proof.Gen.Kernel5.Skeleton
public import proofs.«01_k».proof.Proof.Gen.Kernel4.Launch
public import proofs.«01_k».proof.Proof.Gen.Kernel5.Launch
public import proofs.«01_k».proof.Proof.Gen.Kernel4.Points
public import proofs.«01_k».proof.Proof.Gen.Kernel5.Points
public import proofs.«01_k».proof.Proof.Gen.Kernel4.Frame
public import proofs.«01_k».proof.Proof.Gen.Kernel5.Frame
public import proofs.«01_k».proof.Proof.Gen.Kernel4Ideal
public import proofs.«01_k».proof.Proof.Gen.Kernel5Ideal
public import proofs.«01_k».proof.Proof.Gen.Kernel4Ideal.Skeleton
public import proofs.«01_k».proof.Proof.Gen.Kernel5Ideal.Skeleton
public import proofs.«01_k».proof.Proof.Gen.Kernel4Ideal.Launch
public import proofs.«01_k».proof.Proof.Gen.Kernel5Ideal.Launch
public import proofs.«01_k».proof.Proof.Gen.Kernel4Ideal.Points
public import proofs.«01_k».proof.Proof.Gen.Kernel5Ideal.Points
public import proofs.«01_k».proof.Proof.Gen.Kernel4Ideal.Frame
public import proofs.«01_k».proof.Proof.Gen.Kernel5Ideal.Frame
public import proofs.«01_k».proof.Proof.Gen.Reference4Ideal
public import proofs.«01_k».proof.Proof.Gen.Reference5Ideal
public import proofs.«01_k».proof.Proof.Gen.Kernel4Ideal.Value
public import proofs.«01_k».proof.Proof.Gen.Kernel5Ideal.Value
public import proofs.«01_k».proof.Proof.Gen.Reference4Ideal.Run
public import proofs.«01_k».proof.Proof.Gen.Reference5Ideal.Run
public import proofs.«01_k».proof.Proof.Gen.Pre_packed
public import proofs.«01_k».proof.Proof.Gen.Pre_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Equal
public import proofs.«01_k».proof.Proof.FoxEqual
public import proofs.«01_k».proof.Proof.Columns
public import proofs.«01_k».proof.Proof.MergeOut
public import proofs.«01_k».proof.Proof.PostEqual
public import proofs.«01_k».proof.Proof.SamplePostEqual
public import proofs.«01_k».proof.Proof.SampleColumns
public import proofs.«01_k».proof.Proof.SampleMergeOut
public import proofs.«01_k».proof.Proof.SampleHeads
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Finite.facts, Cert.Packed.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run (F := Ideal) m ρ),
    fun m ρ _ => (θ_run Cert.Reference2Ideal.defs _ _).mono
      (fun r h => ⟨fun c => (h c).2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2.2.2.2.2.2, sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2.2.2.2.2.2, sem_eq_zero_of_no_sems (by decide) r.2⟩) (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩) (Cert.Reference9Ideal.Value.run (F := Ideal) m ρ),
    IdealRules.named_const.statement Cert.KernelIdeal.κ "mask" .f32 0xF149F2CA#32 ⊥ rfl,
    Cert.Equal.algebraic,
    IdealRules.named_const.statement Cert.Kernel2Ideal.κ "mask" .f32 0xF149F2CA#32 ⊥ rfl,
    Cert.FoxEqual.algebraic,
    trivial,
    Cert.Columns.algebraic,
    trivial,
    Cert.Merge.algebraic,
    trivial,
    Cert.Post.algebraic,
    trivial,
    Cert.SamplePost.algebraic,
    trivial,
    Cert.SampleColumns.algebraic,
    trivial,
    Cert.SampleMerge.algebraic,
    trivial,
    Cert.SampleHeads.algebraic⟩

end Cert.Proof

end
